-- ==== Defs.lean ====
def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_Gate2K (m : (ℓ : Loc Cert.Gate2K.nD Cert.Gate2K.τ Cert.Gate2K.sig) → Buf (Elt Bits) ℓ) : Prop :=
  True

def Pre_Gate2KIdeal (m : (ℓ : Loc Cert.Gate2KIdeal.nD Cert.Gate2KIdeal.τ Cert.Gate2KIdeal.sig) → Buf (Elt Ideal) ℓ) : Prop :=
  True

def Pre_Gate2RIdeal (m : (ℓ : Loc Cert.Gate2RIdeal.nD Cert.Gate2RIdeal.τ Cert.Gate2RIdeal.sig) → Buf (Elt Ideal) ℓ) : Prop :=
  True

def Pre_Norm4K (m : (ℓ : Loc Cert.Norm4K.nD Cert.Norm4K.τ Cert.Norm4K.sig) → Buf (Elt Bits) ℓ) : Prop :=
  True

def Pre_Norm4KIdeal (m : (ℓ : Loc Cert.Norm4KIdeal.nD Cert.Norm4KIdeal.τ Cert.Norm4KIdeal.sig) → Buf (Elt Ideal) ℓ) : Prop :=
  True

def Pre_Norm4KIdeal_norm4_finite [hPre_norm4_finite : Cert.Pre_norm4_finite.Facts] (m : (ℓ : Loc Cert.Norm4KIdeal.nD Cert.Norm4KIdeal.τ Cert.Norm4KIdeal.sig) → Buf (Elt Ideal) ℓ) : Prop :=
  ∀ c : Dev Cert.Norm4KIdeal.nD,
    (Cert.Pre_norm4_finite.fn (F := Ideal) (m ((c.tc : Thread Cert.Norm4KIdeal.nD Cert.Norm4KIdeal.τ).loc Cert.Norm4KIdeal.main_arg0)) (m ((c.tc : Thread Cert.Norm4KIdeal.nD Cert.Norm4KIdeal.τ).loc Cert.Norm4KIdeal.main_arg1)) (m ((c.tc : Thread Cert.Norm4KIdeal.nD Cert.Norm4KIdeal.τ).loc Cert.Norm4KIdeal.main_arg2)) (m ((c.tc : Thread Cert.Norm4KIdeal.nD Cert.Norm4KIdeal.τ).loc Cert.Norm4KIdeal.main_arg3)) (m ((c.tc : Thread Cert.Norm4KIdeal.nD Cert.Norm4KIdeal.τ).loc Cert.Norm4KIdeal.main_arg4)) (m ((c.tc : Thread Cert.Norm4KIdeal.nD Cert.Norm4KIdeal.τ).loc Cert.Norm4KIdeal.main_arg5)) (m ((c.tc : Thread Cert.Norm4KIdeal.nD Cert.Norm4KIdeal.τ).loc Cert.Norm4KIdeal.main_arg6))) = (fun _ => 1#1)

def Pre_Norm4RIdeal (m : (ℓ : Loc Cert.Norm4RIdeal.nD Cert.Norm4RIdeal.τ Cert.Norm4RIdeal.sig) → Buf (Elt Ideal) ℓ) : Prop :=
  True

def Pre_Norm4RIdeal_norm4_finite [hPre_norm4_finite : Cert.Pre_norm4_finite.Facts] (m : (ℓ : Loc Cert.Norm4RIdeal.nD Cert.Norm4RIdeal.τ Cert.Norm4RIdeal.sig) → Buf (Elt Ideal) ℓ) : Prop :=
  ∀ c : Dev Cert.Norm4RIdeal.nD,
    (Cert.Pre_norm4_finite.fn (F := Ideal) (m ((c.tc : Thread Cert.Norm4RIdeal.nD Cert.Norm4RIdeal.τ).loc Cert.Norm4RIdeal.main_arg0)) (m ((c.tc : Thread Cert.Norm4RIdeal.nD Cert.Norm4RIdeal.τ).loc Cert.Norm4RIdeal.main_arg1)) (m ((c.tc : Thread Cert.Norm4RIdeal.nD Cert.Norm4RIdeal.τ).loc Cert.Norm4RIdeal.main_arg2)) (m ((c.tc : Thread Cert.Norm4RIdeal.nD Cert.Norm4RIdeal.τ).loc Cert.Norm4RIdeal.main_arg3)) (m ((c.tc : Thread Cert.Norm4RIdeal.nD Cert.Norm4RIdeal.τ).loc Cert.Norm4RIdeal.main_arg4)) (m ((c.tc : Thread Cert.Norm4RIdeal.nD Cert.Norm4RIdeal.τ).loc Cert.Norm4RIdeal.main_arg5)) (m ((c.tc : Thread Cert.Norm4RIdeal.nD Cert.Norm4RIdeal.τ).loc Cert.Norm4RIdeal.main_arg6))) = (fun _ => 1#1)

def Pre_Norm2K (m : (ℓ : Loc Cert.Norm2K.nD Cert.Norm2K.τ Cert.Norm2K.sig) → Buf (Elt Bits) ℓ) : Prop :=
  True

def Pre_Norm2KIdeal (m : (ℓ : Loc Cert.Norm2KIdeal.nD Cert.Norm2KIdeal.τ Cert.Norm2KIdeal.sig) → Buf (Elt Ideal) ℓ) : Prop :=
  True

def Pre_Norm2KIdeal_norm2_finite [hPre_norm2_finite : Cert.Pre_norm2_finite.Facts] (m : (ℓ : Loc Cert.Norm2KIdeal.nD Cert.Norm2KIdeal.τ Cert.Norm2KIdeal.sig) → Buf (Elt Ideal) ℓ) : Prop :=
  ∀ c : Dev Cert.Norm2KIdeal.nD,
    (Cert.Pre_norm2_finite.fn (F := Ideal) (m ((c.tc : Thread Cert.Norm2KIdeal.nD Cert.Norm2KIdeal.τ).loc Cert.Norm2KIdeal.main_arg0)) (m ((c.tc : Thread Cert.Norm2KIdeal.nD Cert.Norm2KIdeal.τ).loc Cert.Norm2KIdeal.main_arg1)) (m ((c.tc : Thread Cert.Norm2KIdeal.nD Cert.Norm2KIdeal.τ).loc Cert.Norm2KIdeal.main_arg2)) (m ((c.tc : Thread Cert.Norm2KIdeal.nD Cert.Norm2KIdeal.τ).loc Cert.Norm2KIdeal.main_arg3)) (m ((c.tc : Thread Cert.Norm2KIdeal.nD Cert.Norm2KIdeal.τ).loc Cert.Norm2KIdeal.main_arg4)) (m ((c.tc : Thread Cert.Norm2KIdeal.nD Cert.Norm2KIdeal.τ).loc Cert.Norm2KIdeal.main_arg5)) (m ((c.tc : Thread Cert.Norm2KIdeal.nD Cert.Norm2KIdeal.τ).loc Cert.Norm2KIdeal.main_arg6))) = (fun _ => 1#1)

def Pre_Norm2RIdeal (m : (ℓ : Loc Cert.Norm2RIdeal.nD Cert.Norm2RIdeal.τ Cert.Norm2RIdeal.sig) → Buf (Elt Ideal) ℓ) : Prop :=
  True

def Pre_Norm2RIdeal_norm2_finite [hPre_norm2_finite : Cert.Pre_norm2_finite.Facts] (m : (ℓ : Loc Cert.Norm2RIdeal.nD Cert.Norm2RIdeal.τ Cert.Norm2RIdeal.sig) → Buf (Elt Ideal) ℓ) : Prop :=
  ∀ c : Dev Cert.Norm2RIdeal.nD,
    (Cert.Pre_norm2_finite.fn (F := Ideal) (m ((c.tc : Thread Cert.Norm2RIdeal.nD Cert.Norm2RIdeal.τ).loc Cert.Norm2RIdeal.main_arg0)) (m ((c.tc : Thread Cert.Norm2RIdeal.nD Cert.Norm2RIdeal.τ).loc Cert.Norm2RIdeal.main_arg1)) (m ((c.tc : Thread Cert.Norm2RIdeal.nD Cert.Norm2RIdeal.τ).loc Cert.Norm2RIdeal.main_arg2)) (m ((c.tc : Thread Cert.Norm2RIdeal.nD Cert.Norm2RIdeal.τ).loc Cert.Norm2RIdeal.main_arg3)) (m ((c.tc : Thread Cert.Norm2RIdeal.nD Cert.Norm2RIdeal.τ).loc Cert.Norm2RIdeal.main_arg4)) (m ((c.tc : Thread Cert.Norm2RIdeal.nD Cert.Norm2RIdeal.τ).loc Cert.Norm2RIdeal.main_arg5)) (m ((c.tc : Thread Cert.Norm2RIdeal.nD Cert.Norm2RIdeal.τ).loc Cert.Norm2RIdeal.main_arg6))) = (fun _ => 1#1)

def Pre_NormNaK (m : (ℓ : Loc Cert.NormNaK.nD Cert.NormNaK.τ Cert.NormNaK.sig) → Buf (Elt Bits) ℓ) : Prop :=
  True

def Pre_NormNaKIdeal (m : (ℓ : Loc Cert.NormNaKIdeal.nD Cert.NormNaKIdeal.τ Cert.NormNaKIdeal.sig) → Buf (Elt Ideal) ℓ) : Prop :=
  True

def Pre_NormNaKIdeal_normna_finite [hPre_normna_finite : Cert.Pre_normna_finite.Facts] (m : (ℓ : Loc Cert.NormNaKIdeal.nD Cert.NormNaKIdeal.τ Cert.NormNaKIdeal.sig) → Buf (Elt Ideal) ℓ) : Prop :=
  ∀ c : Dev Cert.NormNaKIdeal.nD,
    (Cert.Pre_normna_finite.fn (F := Ideal) (m ((c.tc : Thread Cert.NormNaKIdeal.nD Cert.NormNaKIdeal.τ).loc Cert.NormNaKIdeal.main_arg0)) (m ((c.tc : Thread Cert.NormNaKIdeal.nD Cert.NormNaKIdeal.τ).loc Cert.NormNaKIdeal.main_arg1)) (m ((c.tc : Thread Cert.NormNaKIdeal.nD Cert.NormNaKIdeal.τ).loc Cert.NormNaKIdeal.main_arg2)) (m ((c.tc : Thread Cert.NormNaKIdeal.nD Cert.NormNaKIdeal.τ).loc Cert.NormNaKIdeal.main_arg3)) (m ((c.tc : Thread Cert.NormNaKIdeal.nD Cert.NormNaKIdeal.τ).loc Cert.NormNaKIdeal.main_arg4)) (m ((c.tc : Thread Cert.NormNaKIdeal.nD Cert.NormNaKIdeal.τ).loc Cert.NormNaKIdeal.main_arg5)) (m ((c.tc : Thread Cert.NormNaKIdeal.nD Cert.NormNaKIdeal.τ).loc Cert.NormNaKIdeal.main_arg6)) (m ((c.tc : Thread Cert.NormNaKIdeal.nD Cert.NormNaKIdeal.τ).loc Cert.NormNaKIdeal.main_arg7)) (m ((c.tc : Thread Cert.NormNaKIdeal.nD Cert.NormNaKIdeal.τ).loc Cert.NormNaKIdeal.main_arg8)) (m ((c.tc : Thread Cert.NormNaKIdeal.nD Cert.NormNaKIdeal.τ).loc Cert.NormNaKIdeal.main_arg9))) = (fun _ => 1#1)

def Pre_NormNaRIdeal (m : (ℓ : Loc Cert.NormNaRIdeal.nD Cert.NormNaRIdeal.τ Cert.NormNaRIdeal.sig) → Buf (Elt Ideal) ℓ) : Prop :=
  True

def Pre_NormNaRIdeal_normna_finite [hPre_normna_finite : Cert.Pre_normna_finite.Facts] (m : (ℓ : Loc Cert.NormNaRIdeal.nD Cert.NormNaRIdeal.τ Cert.NormNaRIdeal.sig) → Buf (Elt Ideal) ℓ) : Prop :=
  ∀ c : Dev Cert.NormNaRIdeal.nD,
    (Cert.Pre_normna_finite.fn (F := Ideal) (m ((c.tc : Thread Cert.NormNaRIdeal.nD Cert.NormNaRIdeal.τ).loc Cert.NormNaRIdeal.main_arg0)) (m ((c.tc : Thread Cert.NormNaRIdeal.nD Cert.NormNaRIdeal.τ).loc Cert.NormNaRIdeal.main_arg1)) (m ((c.tc : Thread Cert.NormNaRIdeal.nD Cert.NormNaRIdeal.τ).loc Cert.NormNaRIdeal.main_arg2)) (m ((c.tc : Thread Cert.NormNaRIdeal.nD Cert.NormNaRIdeal.τ).loc Cert.NormNaRIdeal.main_arg3)) (m ((c.tc : Thread Cert.NormNaRIdeal.nD Cert.NormNaRIdeal.τ).loc Cert.NormNaRIdeal.main_arg4)) (m ((c.tc : Thread Cert.NormNaRIdeal.nD Cert.NormNaRIdeal.τ).loc Cert.NormNaRIdeal.main_arg5)) (m ((c.tc : Thread Cert.NormNaRIdeal.nD Cert.NormNaRIdeal.τ).loc Cert.NormNaRIdeal.main_arg6)) (m ((c.tc : Thread Cert.NormNaRIdeal.nD Cert.NormNaRIdeal.τ).loc Cert.NormNaRIdeal.main_arg7)) (m ((c.tc : Thread Cert.NormNaRIdeal.nD Cert.NormNaRIdeal.τ).loc Cert.NormNaRIdeal.main_arg8)) (m ((c.tc : Thread Cert.NormNaRIdeal.nD Cert.NormNaRIdeal.τ).loc Cert.NormNaRIdeal.main_arg9))) = (fun _ => 1#1)

def Pre_NormP0K (m : (ℓ : Loc Cert.NormP0K.nD Cert.NormP0K.τ Cert.NormP0K.sig) → Buf (Elt Bits) ℓ) : Prop :=
  True

def Pre_NormP0KIdeal (m : (ℓ : Loc Cert.NormP0KIdeal.nD Cert.NormP0KIdeal.τ Cert.NormP0KIdeal.sig) → Buf (Elt Ideal) ℓ) : Prop :=
  True

def Pre_NormP0KIdeal_normp0_finite [hPre_normp0_finite : Cert.Pre_normp0_finite.Facts] (m : (ℓ : Loc Cert.NormP0KIdeal.nD Cert.NormP0KIdeal.τ Cert.NormP0KIdeal.sig) → Buf (Elt Ideal) ℓ) : Prop :=
  ∀ c : Dev Cert.NormP0KIdeal.nD,
    (Cert.Pre_normp0_finite.fn (F := Ideal) (m ((c.tc : Thread Cert.NormP0KIdeal.nD Cert.NormP0KIdeal.τ).loc Cert.NormP0KIdeal.main_arg0)) (m ((c.tc : Thread Cert.NormP0KIdeal.nD Cert.NormP0KIdeal.τ).loc Cert.NormP0KIdeal.main_arg1)) (m ((c.tc : Thread Cert.NormP0KIdeal.nD Cert.NormP0KIdeal.τ).loc Cert.NormP0KIdeal.main_arg2)) (m ((c.tc : Thread Cert.NormP0KIdeal.nD Cert.NormP0KIdeal.τ).loc Cert.NormP0KIdeal.main_arg3)) (m ((c.tc : Thread Cert.NormP0KIdeal.nD Cert.NormP0KIdeal.τ).loc Cert.NormP0KIdeal.main_arg4)) (m ((c.tc : Thread Cert.NormP0KIdeal.nD Cert.NormP0KIdeal.τ).loc Cert.NormP0KIdeal.main_arg5)) (m ((c.tc : Thread Cert.NormP0KIdeal.nD Cert.NormP0KIdeal.τ).loc Cert.NormP0KIdeal.main_arg6)) (m ((c.tc : Thread Cert.NormP0KIdeal.nD Cert.NormP0KIdeal.τ).loc Cert.NormP0KIdeal.main_arg7)) (m ((c.tc : Thread Cert.NormP0KIdeal.nD Cert.NormP0KIdeal.τ).loc Cert.NormP0KIdeal.main_arg8)) (m ((c.tc : Thread Cert.NormP0KIdeal.nD Cert.NormP0KIdeal.τ).loc Cert.NormP0KIdeal.main_arg9))) = (fun _ => 1#1)

def Pre_NormP0RIdeal (m : (ℓ : Loc Cert.NormP0RIdeal.nD Cert.NormP0RIdeal.τ Cert.NormP0RIdeal.sig) → Buf (Elt Ideal) ℓ) : Prop :=
  True

def Pre_NormP0RIdeal_normp0_finite [hPre_normp0_finite : Cert.Pre_normp0_finite.Facts] (m : (ℓ : Loc Cert.NormP0RIdeal.nD Cert.NormP0RIdeal.τ Cert.NormP0RIdeal.sig) → Buf (Elt Ideal) ℓ) : Prop :=
  ∀ c : Dev Cert.NormP0RIdeal.nD,
    (Cert.Pre_normp0_finite.fn (F := Ideal) (m ((c.tc : Thread Cert.NormP0RIdeal.nD Cert.NormP0RIdeal.τ).loc Cert.NormP0RIdeal.main_arg0)) (m ((c.tc : Thread Cert.NormP0RIdeal.nD Cert.NormP0RIdeal.τ).loc Cert.NormP0RIdeal.main_arg1)) (m ((c.tc : Thread Cert.NormP0RIdeal.nD Cert.NormP0RIdeal.τ).loc Cert.NormP0RIdeal.main_arg2)) (m ((c.tc : Thread Cert.NormP0RIdeal.nD Cert.NormP0RIdeal.τ).loc Cert.NormP0RIdeal.main_arg3)) (m ((c.tc : Thread Cert.NormP0RIdeal.nD Cert.NormP0RIdeal.τ).loc Cert.NormP0RIdeal.main_arg4)) (m ((c.tc : Thread Cert.NormP0RIdeal.nD Cert.NormP0RIdeal.τ).loc Cert.NormP0RIdeal.main_arg5)) (m ((c.tc : Thread Cert.NormP0RIdeal.nD Cert.NormP0RIdeal.τ).loc Cert.NormP0RIdeal.main_arg6)) (m ((c.tc : Thread Cert.NormP0RIdeal.nD Cert.NormP0RIdeal.τ).loc Cert.NormP0RIdeal.main_arg7)) (m ((c.tc : Thread Cert.NormP0RIdeal.nD Cert.NormP0RIdeal.τ).loc Cert.NormP0RIdeal.main_arg8)) (m ((c.tc : Thread Cert.NormP0RIdeal.nD Cert.NormP0RIdeal.τ).loc Cert.NormP0RIdeal.main_arg9))) = (fun _ => 1#1)

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKIdeal_conv_finite [hPre_conv_finite : Cert.Pre_conv_finite.Facts] (m : (ℓ : Loc Cert.ConvKIdeal.nD Cert.ConvKIdeal.τ Cert.ConvKIdeal.sig) → Buf (Elt Ideal) ℓ) : Prop :=
  ∀ c : Dev Cert.ConvKIdeal.nD,
    (Cert.Pre_conv_finite.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3))) = (fun _ => 1#1)

def Pre_ConvRIdeal (m : (ℓ : Loc Cert.ConvRIdeal.nD Cert.ConvRIdeal.τ Cert.ConvRIdeal.sig) → Buf (Elt Ideal) ℓ) : Prop :=
  True

def Pre_ConvRIdeal_conv_finite [hPre_conv_finite : Cert.Pre_conv_finite.Facts] (m : (ℓ : Loc Cert.ConvRIdeal.nD Cert.ConvRIdeal.τ Cert.ConvRIdeal.sig) → Buf (Elt Ideal) ℓ) : Prop :=
  ∀ c : Dev Cert.ConvRIdeal.nD,
    (Cert.Pre_conv_finite.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3))) = (fun _ => 1#1)

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5))) = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5))) = (fun _ => 1#1)

def Pre_PoolK (m : (ℓ : Loc Cert.PoolK.nD Cert.PoolK.τ Cert.PoolK.sig) → Buf (Elt Bits) ℓ) : Prop :=
  True

def Pre_PoolKIdeal (m : (ℓ : Loc Cert.PoolKIdeal.nD Cert.PoolKIdeal.τ Cert.PoolKIdeal.sig) → Buf (Elt Ideal) ℓ) : Prop :=
  True

def Pre_PoolKIdeal_pool_finite [hPre_pool_finite : Cert.Pre_pool_finite.Facts] (m : (ℓ : Loc Cert.PoolKIdeal.nD Cert.PoolKIdeal.τ Cert.PoolKIdeal.sig) → Buf (Elt Ideal) ℓ) : Prop :=
  ∀ c : Dev Cert.PoolKIdeal.nD,
    (Cert.Pre_pool_finite.fn (F := Ideal) (m ((c.tc : Thread Cert.PoolKIdeal.nD Cert.PoolKIdeal.τ).loc Cert.PoolKIdeal.main_arg0)) (m ((c.tc : Thread Cert.PoolKIdeal.nD Cert.PoolKIdeal.τ).loc Cert.PoolKIdeal.main_arg1)) (m ((c.tc : Thread Cert.PoolKIdeal.nD Cert.PoolKIdeal.τ).loc Cert.PoolKIdeal.main_arg2)) (m ((c.tc : Thread Cert.PoolKIdeal.nD Cert.PoolKIdeal.τ).loc Cert.PoolKIdeal.main_arg3))) = (fun _ => 1#1)

def Pre_PoolRIdeal (m : (ℓ : Loc Cert.PoolRIdeal.nD Cert.PoolRIdeal.τ Cert.PoolRIdeal.sig) → Buf (Elt Ideal) ℓ) : Prop :=
  True

def Pre_PoolRIdeal_pool_finite [hPre_pool_finite : Cert.Pre_pool_finite.Facts] (m : (ℓ : Loc Cert.PoolRIdeal.nD Cert.PoolRIdeal.τ Cert.PoolRIdeal.sig) → Buf (Elt Ideal) ℓ) : Prop :=
  ∀ c : Dev Cert.PoolRIdeal.nD,
    (Cert.Pre_pool_finite.fn (F := Ideal) (m ((c.tc : Thread Cert.PoolRIdeal.nD Cert.PoolRIdeal.τ).loc Cert.PoolRIdeal.main_arg0)) (m ((c.tc : Thread Cert.PoolRIdeal.nD Cert.PoolRIdeal.τ).loc Cert.PoolRIdeal.main_arg1)) (m ((c.tc : Thread Cert.PoolRIdeal.nD Cert.PoolRIdeal.τ).loc Cert.PoolRIdeal.main_arg2)) (m ((c.tc : Thread Cert.PoolRIdeal.nD Cert.PoolRIdeal.τ).loc Cert.PoolRIdeal.main_arg3))) = (fun _ => 1#1)

def Pre_PoolP0K (m : (ℓ : Loc Cert.PoolP0K.nD Cert.PoolP0K.τ Cert.PoolP0K.sig) → Buf (Elt Bits) ℓ) : Prop :=
  True

def Pre_PoolP0KIdeal (m : (ℓ : Loc Cert.PoolP0KIdeal.nD Cert.PoolP0KIdeal.τ Cert.PoolP0KIdeal.sig) → Buf (Elt Ideal) ℓ) : Prop :=
  True

def Pre_PoolP0KIdeal_poolp0_finite [hPre_poolp0_finite : Cert.Pre_poolp0_finite.Facts] (m : (ℓ : Loc Cert.PoolP0KIdeal.nD Cert.PoolP0KIdeal.τ Cert.PoolP0KIdeal.sig) → Buf (Elt Ideal) ℓ) : Prop :=
  ∀ c : Dev Cert.PoolP0KIdeal.nD,
    (Cert.Pre_poolp0_finite.fn (F := Ideal) (m ((c.tc : Thread Cert.PoolP0KIdeal.nD Cert.PoolP0KIdeal.τ).loc Cert.PoolP0KIdeal.main_arg0)) (m ((c.tc : Thread Cert.PoolP0KIdeal.nD Cert.PoolP0KIdeal.τ).loc Cert.PoolP0KIdeal.main_arg1)) (m ((c.tc : Thread Cert.PoolP0KIdeal.nD Cert.PoolP0KIdeal.τ).loc Cert.PoolP0KIdeal.main_arg2)) (m ((c.tc : Thread Cert.PoolP0KIdeal.nD Cert.PoolP0KIdeal.τ).loc Cert.PoolP0KIdeal.main_arg3))) = (fun _ => 1#1)

def Pre_PoolP0RIdeal (m : (ℓ : Loc Cert.PoolP0RIdeal.nD Cert.PoolP0RIdeal.τ Cert.PoolP0RIdeal.sig) → Buf (Elt Ideal) ℓ) : Prop :=
  True

def Pre_PoolP0RIdeal_poolp0_finite [hPre_poolp0_finite : Cert.Pre_poolp0_finite.Facts] (m : (ℓ : Loc Cert.PoolP0RIdeal.nD Cert.PoolP0RIdeal.τ Cert.PoolP0RIdeal.sig) → Buf (Elt Ideal) ℓ) : Prop :=
  ∀ c : Dev Cert.PoolP0RIdeal.nD,
    (Cert.Pre_poolp0_finite.fn (F := Ideal) (m ((c.tc : Thread Cert.PoolP0RIdeal.nD Cert.PoolP0RIdeal.τ).loc Cert.PoolP0RIdeal.main_arg0)) (m ((c.tc : Thread Cert.PoolP0RIdeal.nD Cert.PoolP0RIdeal.τ).loc Cert.PoolP0RIdeal.main_arg1)) (m ((c.tc : Thread Cert.PoolP0RIdeal.nD Cert.PoolP0RIdeal.τ).loc Cert.PoolP0RIdeal.main_arg2)) (m ((c.tc : Thread Cert.PoolP0RIdeal.nD Cert.PoolP0RIdeal.τ).loc Cert.PoolP0RIdeal.main_arg3))) = (fun _ => 1#1)

def Pre_ConvFK (m : (ℓ : Loc Cert.ConvFK.nD Cert.ConvFK.τ Cert.ConvFK.sig) → Buf (Elt Bits) ℓ) : Prop :=
  True

def Pre_ConvFKIdeal (m : (ℓ : Loc Cert.ConvFKIdeal.nD Cert.ConvFKIdeal.τ Cert.ConvFKIdeal.sig) → Buf (Elt Ideal) ℓ) : Prop :=
  True

def Pre_ConvFRIdeal (m : (ℓ : Loc Cert.ConvFRIdeal.nD Cert.ConvFRIdeal.τ Cert.ConvFRIdeal.sig) → Buf (Elt Ideal) ℓ) : Prop :=
  True

def Pre_ResidK (m : (ℓ : Loc Cert.ResidK.nD Cert.ResidK.τ Cert.ResidK.sig) → Buf (Elt Bits) ℓ) : Prop :=
  True

def Pre_ResidKIdeal (m : (ℓ : Loc Cert.ResidKIdeal.nD Cert.ResidKIdeal.τ Cert.ResidKIdeal.sig) → Buf (Elt Ideal) ℓ) : Prop :=
  True

def Pre_ResidRIdeal (m : (ℓ : Loc Cert.ResidRIdeal.nD Cert.ResidRIdeal.τ Cert.ResidRIdeal.sig) → Buf (Elt Ideal) ℓ) : Prop :=
  True

def Pre_Resid2K (m : (ℓ : Loc Cert.Resid2K.nD Cert.Resid2K.τ Cert.Resid2K.sig) → Buf (Elt Bits) ℓ) : Prop :=
  True

def Pre_Resid2KIdeal (m : (ℓ : Loc Cert.Resid2KIdeal.nD Cert.Resid2KIdeal.τ Cert.Resid2KIdeal.sig) → Buf (Elt Ideal) ℓ) : Prop :=
  True

def Pre_Resid2RIdeal (m : (ℓ : Loc Cert.Resid2RIdeal.nD Cert.Resid2RIdeal.τ Cert.Resid2RIdeal.sig) → Buf (Elt Ideal) ℓ) : Prop :=
  True

def Pre_NormFK (m : (ℓ : Loc Cert.NormFK.nD Cert.NormFK.τ Cert.NormFK.sig) → Buf (Elt Bits) ℓ) : Prop :=
  True

def Pre_NormFKIdeal (m : (ℓ : Loc Cert.NormFKIdeal.nD Cert.NormFKIdeal.τ Cert.NormFKIdeal.sig) → Buf (Elt Ideal) ℓ) : Prop :=
  True

def Pre_NormFRIdeal (m : (ℓ : Loc Cert.NormFRIdeal.nD Cert.NormFRIdeal.τ Cert.NormFRIdeal.sig) → Buf (Elt Ideal) ℓ) : Prop :=
  True

def Pre_NormFNaK (m : (ℓ : Loc Cert.NormFNaK.nD Cert.NormFNaK.τ Cert.NormFNaK.sig) → Buf (Elt Bits) ℓ) : Prop :=
  True

def Pre_NormFNaKIdeal (m : (ℓ : Loc Cert.NormFNaKIdeal.nD Cert.NormFNaKIdeal.τ Cert.NormFNaKIdeal.sig) → Buf (Elt Ideal) ℓ) : Prop :=
  True

def Pre_NormFNaRIdeal (m : (ℓ : Loc Cert.NormFNaRIdeal.nD Cert.NormFNaRIdeal.τ Cert.NormFNaRIdeal.sig) → Buf (Elt Ideal) ℓ) : Prop :=
  True

def Pre_NormFP0K (m : (ℓ : Loc Cert.NormFP0K.nD Cert.NormFP0K.τ Cert.NormFP0K.sig) → Buf (Elt Bits) ℓ) : Prop :=
  True

def Pre_NormFP0KIdeal (m : (ℓ : Loc Cert.NormFP0KIdeal.nD Cert.NormFP0KIdeal.τ Cert.NormFP0KIdeal.sig) → Buf (Elt Ideal) ℓ) : Prop :=
  True

def Pre_NormFP0RIdeal (m : (ℓ : Loc Cert.NormFP0RIdeal.nD Cert.NormFP0RIdeal.τ Cert.NormFP0RIdeal.sig) → Buf (Elt Ideal) ℓ) : Prop :=
  True

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2)
      ∧ r.2.mem ((c.tc : Thread Cert.GateK.nD Cert.GateK.τ).loc Cert.GateK.main_arg3) = m ((c.tc : Thread Cert.GateK.nD Cert.GateK.τ).loc Cert.GateK.main_arg3))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3))
      ∧ r.2.sem = fun _ => 0)

def quiescent_Gate2K [hGate2K : Cert.Gate2K.Facts] : Prop :=
  ∀ (m : (ℓ : Loc Cert.Gate2K.nD Cert.Gate2K.τ Cert.Gate2K.sig) → Buf (Elt Bits) ℓ) (g : Dev Cert.Gate2K.nD → PrngReg), Pre_Gate2K m →
    θ_run (Cert.Gate2K.defs (F := Bits)) (onTc (τ := Cert.Gate2K.τ) (Cert.Gate2K.main (F := Bits))) ⟨m, fun _ => 0, g⟩ (fun r => (∀ c : Dev Cert.Gate2K.nD,
      r.2.mem ((c.tc : Thread Cert.Gate2K.nD Cert.Gate2K.τ).loc Cert.Gate2K.main_arg0) = m ((c.tc : Thread Cert.Gate2K.nD Cert.Gate2K.τ).loc Cert.Gate2K.main_arg0)
      ∧ r.2.mem ((c.tc : Thread Cert.Gate2K.nD Cert.Gate2K.τ).loc Cert.Gate2K.main_arg1) = m ((c.tc : Thread Cert.Gate2K.nD Cert.Gate2K.τ).loc Cert.Gate2K.main_arg1)
      ∧ r.2.mem ((c.tc : Thread Cert.Gate2K.nD Cert.Gate2K.τ).loc Cert.Gate2K.main_arg2) = m ((c.tc : Thread Cert.Gate2K.nD Cert.Gate2K.τ).loc Cert.Gate2K.main_arg2)
      ∧ r.2.mem ((c.tc : Thread Cert.Gate2K.nD Cert.Gate2K.τ).loc Cert.Gate2K.main_arg3) = m ((c.tc : Thread Cert.Gate2K.nD Cert.Gate2K.τ).loc Cert.Gate2K.main_arg3)
      ∧ r.2.mem ((c.tc : Thread Cert.Gate2K.nD Cert.Gate2K.τ).loc Cert.Gate2K.main_arg4) = m ((c.tc : Thread Cert.Gate2K.nD Cert.Gate2K.τ).loc Cert.Gate2K.main_arg4))
      ∧ r.2.sem = fun _ => 0)

def quiescent_Gate2KIdeal [hGate2KIdeal : Cert.Gate2KIdeal.Facts] : Prop :=
  ∀ (m : (ℓ : Loc Cert.Gate2KIdeal.nD Cert.Gate2KIdeal.τ Cert.Gate2KIdeal.sig) → Buf (Elt Ideal) ℓ) (g : Dev Cert.Gate2KIdeal.nD → PrngReg), Pre_Gate2KIdeal m →
    θ_run (Cert.Gate2KIdeal.defs (F := Ideal)) (onTc (τ := Cert.Gate2KIdeal.τ) (Cert.Gate2KIdeal.main (F := Ideal))) ⟨m, fun _ => 0, g⟩ (fun r => (∀ c : Dev Cert.Gate2KIdeal.nD,
      r.2.mem ((c.tc : Thread Cert.Gate2KIdeal.nD Cert.Gate2KIdeal.τ).loc Cert.Gate2KIdeal.main_arg0) = m ((c.tc : Thread Cert.Gate2KIdeal.nD Cert.Gate2KIdeal.τ).loc Cert.Gate2KIdeal.main_arg0)
      ∧ r.2.mem ((c.tc : Thread Cert.Gate2KIdeal.nD Cert.Gate2KIdeal.τ).loc Cert.Gate2KIdeal.main_arg1) = m ((c.tc : Thread Cert.Gate2KIdeal.nD Cert.Gate2KIdeal.τ).loc Cert.Gate2KIdeal.main_arg1)
      ∧ r.2.mem ((c.tc : Thread Cert.Gate2KIdeal.nD Cert.Gate2KIdeal.τ).loc Cert.Gate2KIdeal.main_arg2) = m ((c.tc : Thread Cert.Gate2KIdeal.nD Cert.Gate2KIdeal.τ).loc Cert.Gate2KIdeal.main_arg2)
      ∧ r.2.mem ((c.tc : Thread Cert.Gate2KIdeal.nD Cert.Gate2KIdeal.τ).loc Cert.Gate2KIdeal.main_arg3) = m ((c.tc : Thread Cert.Gate2KIdeal.nD Cert.Gate2KIdeal.τ).loc Cert.Gate2KIdeal.main_arg3)
      ∧ r.2.mem ((c.tc : Thread Cert.Gate2KIdeal.nD Cert.Gate2KIdeal.τ).loc Cert.Gate2KIdeal.main_arg4) = m ((c.tc : Thread Cert.Gate2KIdeal.nD Cert.Gate2KIdeal.τ).loc Cert.Gate2KIdeal.main_arg4))
      ∧ r.2.sem = fun _ => 0)

def quiescent_Gate2RIdeal [hGate2RIdeal : Cert.Gate2RIdeal.Facts] : Prop :=
  ∀ (m : (ℓ : Loc Cert.Gate2RIdeal.nD Cert.Gate2RIdeal.τ Cert.Gate2RIdeal.sig) → Buf (Elt Ideal) ℓ) (g : Dev Cert.Gate2RIdeal.nD → PrngReg), Pre_Gate2RIdeal m →
    θ_run (Cert.Gate2RIdeal.defs (F := Ideal)) (onTc (τ := Cert.Gate2RIdeal.τ) (Cert.Gate2RIdeal.main (F := Ideal))) ⟨m, fun _ => 0, g⟩ (fun r => (∀ c : Dev Cert.Gate2RIdeal.nD,
      r.2.mem ((c.tc : Thread Cert.Gate2RIdeal.nD Cert.Gate2RIdeal.τ).loc Cert.Gate2RIdeal.main_arg0) = m ((c.tc : Thread Cert.Gate2RIdeal.nD Cert.Gate2RIdeal.τ).loc Cert.Gate2RIdeal.main_arg0)
      ∧ r.2.mem ((c.tc : Thread Cert.Gate2RIdeal.nD Cert.Gate2RIdeal.τ).loc Cert.Gate2RIdeal.main_arg1) = m ((c.tc : Thread Cert.Gate2RIdeal.nD Cert.Gate2RIdeal.τ).loc Cert.Gate2RIdeal.main_arg1)
      ∧ r.2.mem ((c.tc : Thread Cert.Gate2RIdeal.nD Cert.Gate2RIdeal.τ).loc Cert.Gate2RIdeal.main_arg2) = m ((c.tc : Thread Cert.Gate2RIdeal.nD Cert.Gate2RIdeal.τ).loc Cert.Gate2RIdeal.main_arg2)
      ∧ r.2.mem ((c.tc : Thread Cert.Gate2RIdeal.nD Cert.Gate2RIdeal.τ).loc Cert.Gate2RIdeal.main_arg3) = m ((c.tc : Thread Cert.Gate2RIdeal.nD Cert.Gate2RIdeal.τ).loc Cert.Gate2RIdeal.main_arg3)
      ∧ r.2.mem ((c.tc : Thread Cert.Gate2RIdeal.nD Cert.Gate2RIdeal.τ).loc Cert.Gate2RIdeal.main_arg4) = m ((c.tc : Thread Cert.Gate2RIdeal.nD Cert.Gate2RIdeal.τ).loc Cert.Gate2RIdeal.main_arg4))
      ∧ r.2.sem = fun _ => 0)

def quiescent_Norm4K [hNorm4K : Cert.Norm4K.Facts] : Prop :=
  ∀ (m : (ℓ : Loc Cert.Norm4K.nD Cert.Norm4K.τ Cert.Norm4K.sig) → Buf (Elt Bits) ℓ) (g : Dev Cert.Norm4K.nD → PrngReg), Pre_Norm4K m →
    θ_run (Cert.Norm4K.defs (F := Bits)) (onTc (τ := Cert.Norm4K.τ) (Cert.Norm4K.main (F := Bits))) ⟨m, fun _ => 0, g⟩ (fun r => (∀ c : Dev Cert.Norm4K.nD,
      r.2.mem ((c.tc : Thread Cert.Norm4K.nD Cert.Norm4K.τ).loc Cert.Norm4K.main_arg0) = m ((c.tc : Thread Cert.Norm4K.nD Cert.Norm4K.τ).loc Cert.Norm4K.main_arg0)
      ∧ r.2.mem ((c.tc : Thread Cert.Norm4K.nD Cert.Norm4K.τ).loc Cert.Norm4K.main_arg1) = m ((c.tc : Thread Cert.Norm4K.nD Cert.Norm4K.τ).loc Cert.Norm4K.main_arg1)
      ∧ r.2.mem ((c.tc : Thread Cert.Norm4K.nD Cert.Norm4K.τ).loc Cert.Norm4K.main_arg2) = m ((c.tc : Thread Cert.Norm4K.nD Cert.Norm4K.τ).loc Cert.Norm4K.main_arg2)
      ∧ r.2.mem ((c.tc : Thread Cert.Norm4K.nD Cert.Norm4K.τ).loc Cert.Norm4K.main_arg3) = m ((c.tc : Thread Cert.Norm4K.nD Cert.Norm4K.τ).loc Cert.Norm4K.main_arg3)
      ∧ r.2.mem ((c.tc : Thread Cert.Norm4K.nD Cert.Norm4K.τ).loc Cert.Norm4K.main_arg4) = m ((c.tc : Thread Cert.Norm4K.nD Cert.Norm4K.τ).loc Cert.Norm4K.main_arg4)
      ∧ r.2.mem ((c.tc : Thread Cert.Norm4K.nD Cert.Norm4K.τ).loc Cert.Norm4K.main_arg5) = m ((c.tc : Thread Cert.Norm4K.nD Cert.Norm4K.τ).loc Cert.Norm4K.main_arg5)
      ∧ r.2.mem ((c.tc : Thread Cert.Norm4K.nD Cert.Norm4K.τ).loc Cert.Norm4K.main_arg6) = m ((c.tc : Thread Cert.Norm4K.nD Cert.Norm4K.τ).loc Cert.Norm4K.main_arg6))
      ∧ r.2.sem = fun _ => 0)

def quiescent_Norm4KIdeal [hNorm4KIdeal : Cert.Norm4KIdeal.Facts] : Prop :=
  ∀ (m : (ℓ : Loc Cert.Norm4KIdeal.nD Cert.Norm4KIdeal.τ Cert.Norm4KIdeal.sig) → Buf (Elt Ideal) ℓ) (g : Dev Cert.Norm4KIdeal.nD → PrngReg), Pre_Norm4KIdeal m →
    θ_run (Cert.Norm4KIdeal.defs (F := Ideal)) (onTc (τ := Cert.Norm4KIdeal.τ) (Cert.Norm4KIdeal.main (F := Ideal))) ⟨m, fun _ => 0, g⟩ (fun r => (∀ c : Dev Cert.Norm4KIdeal.nD,
      r.2.mem ((c.tc : Thread Cert.Norm4KIdeal.nD Cert.Norm4KIdeal.τ).loc Cert.Norm4KIdeal.main_arg0) = m ((c.tc : Thread Cert.Norm4KIdeal.nD Cert.Norm4KIdeal.τ).loc Cert.Norm4KIdeal.main_arg0)
      ∧ r.2.mem ((c.tc : Thread Cert.Norm4KIdeal.nD Cert.Norm4KIdeal.τ).loc Cert.Norm4KIdeal.main_arg1) = m ((c.tc : Thread Cert.Norm4KIdeal.nD Cert.Norm4KIdeal.τ).loc Cert.Norm4KIdeal.main_arg1)
      ∧ r.2.mem ((c.tc : Thread Cert.Norm4KIdeal.nD Cert.Norm4KIdeal.τ).loc Cert.Norm4KIdeal.main_arg2) = m ((c.tc : Thread Cert.Norm4KIdeal.nD Cert.Norm4KIdeal.τ).loc Cert.Norm4KIdeal.main_arg2)
      ∧ r.2.mem ((c.tc : Thread Cert.Norm4KIdeal.nD Cert.Norm4KIdeal.τ).loc Cert.Norm4KIdeal.main_arg3) = m ((c.tc : Thread Cert.Norm4KIdeal.nD Cert.Norm4KIdeal.τ).loc Cert.Norm4KIdeal.main_arg3)
      ∧ r.2.mem ((c.tc : Thread Cert.Norm4KIdeal.nD Cert.Norm4KIdeal.τ).loc Cert.Norm4KIdeal.main_arg4) = m ((c.tc : Thread Cert.Norm4KIdeal.nD Cert.Norm4KIdeal.τ).loc Cert.Norm4KIdeal.main_arg4)
      ∧ r.2.mem ((c.tc : Thread Cert.Norm4KIdeal.nD Cert.Norm4KIdeal.τ).loc Cert.Norm4KIdeal.main_arg5) = m ((c.tc : Thread Cert.Norm4KIdeal.nD Cert.Norm4KIdeal.τ).loc Cert.Norm4KIdeal.main_arg5)
      ∧ r.2.mem ((c.tc : Thread Cert.Norm4KIdeal.nD Cert.Norm4KIdeal.τ).loc Cert.Norm4KIdeal.main_arg6) = m ((c.tc : Thread Cert.Norm4KIdeal.nD Cert.Norm4KIdeal.τ).loc Cert.Norm4KIdeal.main_arg6))
      ∧ r.2.sem = fun _ => 0)

def quiescent_Norm4KIdeal_pre_norm4_finite [hNorm4KIdeal : Cert.Norm4KIdeal.Facts] [hPre_norm4_finite : Cert.Pre_norm4_finite.Facts] : Prop :=
  ∀ (m : (ℓ : Loc Cert.Norm4KIdeal.nD Cert.Norm4KIdeal.τ Cert.Norm4KIdeal.sig) → Buf (Elt Ideal) ℓ) (g : Dev Cert.Norm4KIdeal.nD → PrngReg), Pre_Norm4KIdeal_norm4_finite m →
    θ_run (Cert.Norm4KIdeal.defs (F := Ideal)) (onTc (τ := Cert.Norm4KIdeal.τ) (Cert.Norm4KIdeal.main (F := Ideal))) ⟨m, fun _ => 0, g⟩ (fun r => (∀ c : Dev Cert.Norm4KIdeal.nD,
      r.2.mem ((c.tc : Thread Cert.Norm4KIdeal.nD Cert.Norm4KIdeal.τ).loc Cert.Norm4KIdeal.main_arg0) = m ((c.tc : Thread Cert.Norm4KIdeal.nD Cert.Norm4KIdeal.τ).loc Cert.Norm4KIdeal.main_arg0)
      ∧ r.2.mem ((c.tc : Thread Cert.Norm4KIdeal.nD Cert.Norm4KIdeal.τ).loc Cert.Norm4KIdeal.main_arg1) = m ((c.tc : Thread Cert.Norm4KIdeal.nD Cert.Norm4KIdeal.τ).loc Cert.Norm4KIdeal.main_arg1)
      ∧ r.2.mem ((c.tc : Thread Cert.Norm4KIdeal.nD Cert.Norm4KIdeal.τ).loc Cert.Norm4KIdeal.main_arg2) = m ((c.tc : Thread Cert.Norm4KIdeal.nD Cert.Norm4KIdeal.τ).loc Cert.Norm4KIdeal.main_arg2)
      ∧ r.2.mem ((c.tc : Thread Cert.Norm4KIdeal.nD Cert.Norm4KIdeal.τ).loc Cert.Norm4KIdeal.main_arg3) = m ((c.tc : Thread Cert.Norm4KIdeal.nD Cert.Norm4KIdeal.τ).loc Cert.Norm4KIdeal.main_arg3)
      ∧ r.2.mem ((c.tc : Thread Cert.Norm4KIdeal.nD Cert.Norm4KIdeal.τ).loc Cert.Norm4KIdeal.main_arg4) = m ((c.tc : Thread Cert.Norm4KIdeal.nD Cert.Norm4KIdeal.τ).loc Cert.Norm4KIdeal.main_arg4)
      ∧ r.2.mem ((c.tc : Thread Cert.Norm4KIdeal.nD Cert.Norm4KIdeal.τ).loc Cert.Norm4KIdeal.main_arg5) = m ((c.tc : Thread Cert.Norm4KIdeal.nD Cert.Norm4KIdeal.τ).loc Cert.Norm4KIdeal.main_arg5)
      ∧ r.2.mem ((c.tc : Thread Cert.Norm4KIdeal.nD Cert.Norm4KIdeal.τ).loc Cert.Norm4KIdeal.main_arg6) = m ((c.tc : Thread Cert.Norm4KIdeal.nD Cert.Norm4KIdeal.τ).loc Cert.Norm4KIdeal.main_arg6))
      ∧ r.2.sem = fun _ => 0)

def quiescent_Norm4RIdeal [hNorm4RIdeal : Cert.Norm4RIdeal.Facts] : Prop :=
  ∀ (m : (ℓ : Loc Cert.Norm4RIdeal.nD Cert.Norm4RIdeal.τ Cert.Norm4RIdeal.sig) → Buf (Elt Ideal) ℓ) (g : Dev Cert.Norm4RIdeal.nD → PrngReg), Pre_Norm4RIdeal m →
    θ_run (Cert.Norm4RIdeal.defs (F := Ideal)) (onTc (τ := Cert.Norm4RIdeal.τ) (Cert.Norm4RIdeal.main (F := Ideal))) ⟨m, fun _ => 0, g⟩ (fun r => (∀ c : Dev Cert.Norm4RIdeal.nD,
      r.2.mem ((c.tc : Thread Cert.Norm4RIdeal.nD Cert.Norm4RIdeal.τ).loc Cert.Norm4RIdeal.main_arg0) = m ((c.tc : Thread Cert.Norm4RIdeal.nD Cert.Norm4RIdeal.τ).loc Cert.Norm4RIdeal.main_arg0)
      ∧ r.2.mem ((c.tc : Thread Cert.Norm4RIdeal.nD Cert.Norm4RIdeal.τ).loc Cert.Norm4RIdeal.main_arg1) = m ((c.tc : Thread Cert.Norm4RIdeal.nD Cert.Norm4RIdeal.τ).loc Cert.Norm4RIdeal.main_arg1)
      ∧ r.2.mem ((c.tc : Thread Cert.Norm4RIdeal.nD Cert.Norm4RIdeal.τ).loc Cert.Norm4RIdeal.main_arg2) = m ((c.tc : Thread Cert.Norm4RIdeal.nD Cert.Norm4RIdeal.τ).loc Cert.Norm4RIdeal.main_arg2)
      ∧ r.2.mem ((c.tc : Thread Cert.Norm4RIdeal.nD Cert.Norm4RIdeal.τ).loc Cert.Norm4RIdeal.main_arg3) = m ((c.tc : Thread Cert.Norm4RIdeal.nD Cert.Norm4RIdeal.τ).loc Cert.Norm4RIdeal.main_arg3)
      ∧ r.2.mem ((c.tc : Thread Cert.Norm4RIdeal.nD Cert.Norm4RIdeal.τ).loc Cert.Norm4RIdeal.main_arg4) = m ((c.tc : Thread Cert.Norm4RIdeal.nD Cert.Norm4RIdeal.τ).loc Cert.Norm4RIdeal.main_arg4)
      ∧ r.2.mem ((c.tc : Thread Cert.Norm4RIdeal.nD Cert.Norm4RIdeal.τ).loc Cert.Norm4RIdeal.main_arg5) = m ((c.tc : Thread Cert.Norm4RIdeal.nD Cert.Norm4RIdeal.τ).loc Cert.Norm4RIdeal.main_arg5)
      ∧ r.2.mem ((c.tc : Thread Cert.Norm4RIdeal.nD Cert.Norm4RIdeal.τ).loc Cert.Norm4RIdeal.main_arg6) = m ((c.tc : Thread Cert.Norm4RIdeal.nD Cert.Norm4RIdeal.τ).loc Cert.Norm4RIdeal.main_arg6))
      ∧ r.2.sem = fun _ => 0)

def quiescent_Norm4RIdeal_pre_norm4_finite [hNorm4RIdeal : Cert.Norm4RIdeal.Facts] [hPre_norm4_finite : Cert.Pre_norm4_finite.Facts] : Prop :=
  ∀ (m : (ℓ : Loc Cert.Norm4RIdeal.nD Cert.Norm4RIdeal.τ Cert.Norm4RIdeal.sig) → Buf (Elt Ideal) ℓ) (g : Dev Cert.Norm4RIdeal.nD → PrngReg), Pre_Norm4RIdeal_norm4_finite m →
    θ_run (Cert.Norm4RIdeal.defs (F := Ideal)) (onTc (τ := Cert.Norm4RIdeal.τ) (Cert.Norm4RIdeal.main (F := Ideal))) ⟨m, fun _ => 0, g⟩ (fun r => (∀ c : Dev Cert.Norm4RIdeal.nD,
      r.2.mem ((c.tc : Thread Cert.Norm4RIdeal.nD Cert.Norm4RIdeal.τ).loc Cert.Norm4RIdeal.main_arg0) = m ((c.tc : Thread Cert.Norm4RIdeal.nD Cert.Norm4RIdeal.τ).loc Cert.Norm4RIdeal.main_arg0)
      ∧ r.2.mem ((c.tc : Thread Cert.Norm4RIdeal.nD Cert.Norm4RIdeal.τ).loc Cert.Norm4RIdeal.main_arg1) = m ((c.tc : Thread Cert.Norm4RIdeal.nD Cert.Norm4RIdeal.τ).loc Cert.Norm4RIdeal.main_arg1)
      ∧ r.2.mem ((c.tc : Thread Cert.Norm4RIdeal.nD Cert.Norm4RIdeal.τ).loc Cert.Norm4RIdeal.main_arg2) = m ((c.tc : Thread Cert.Norm4RIdeal.nD Cert.Norm4RIdeal.τ).loc Cert.Norm4RIdeal.main_arg2)
      ∧ r.2.mem ((c.tc : Thread Cert.Norm4RIdeal.nD Cert.Norm4RIdeal.τ).loc Cert.Norm4RIdeal.main_arg3) = m ((c.tc : Thread Cert.Norm4RIdeal.nD Cert.Norm4RIdeal.τ).loc Cert.Norm4RIdeal.main_arg3)
      ∧ r.2.mem ((c.tc : Thread Cert.Norm4RIdeal.nD Cert.Norm4RIdeal.τ).loc Cert.Norm4RIdeal.main_arg4) = m ((c.tc : Thread Cert.Norm4RIdeal.nD Cert.Norm4RIdeal.τ).loc Cert.Norm4RIdeal.main_arg4)
      ∧ r.2.mem ((c.tc : Thread Cert.Norm4RIdeal.nD Cert.Norm4RIdeal.τ).loc Cert.Norm4RIdeal.main_arg5) = m ((c.tc : Thread Cert.Norm4RIdeal.nD Cert.Norm4RIdeal.τ).loc Cert.Norm4RIdeal.main_arg5)
      ∧ r.2.mem ((c.tc : Thread Cert.Norm4RIdeal.nD Cert.Norm4RIdeal.τ).loc Cert.Norm4RIdeal.main_arg6) = m ((c.tc : Thread Cert.Norm4RIdeal.nD Cert.Norm4RIdeal.τ).loc Cert.Norm4RIdeal.main_arg6))
      ∧ r.2.sem = fun _ => 0)

def quiescent_Norm2K [hNorm2K : Cert.Norm2K.Facts] : Prop :=
  ∀ (m : (ℓ : Loc Cert.Norm2K.nD Cert.Norm2K.τ Cert.Norm2K.sig) → Buf (Elt Bits) ℓ) (g : Dev Cert.Norm2K.nD → PrngReg), Pre_Norm2K m →
    θ_run (Cert.Norm2K.defs (F := Bits)) (onTc (τ := Cert.Norm2K.τ) (Cert.Norm2K.main (F := Bits))) ⟨m, fun _ => 0, g⟩ (fun r => (∀ c : Dev Cert.Norm2K.nD,
      r.2.mem ((c.tc : Thread Cert.Norm2K.nD Cert.Norm2K.τ).loc Cert.Norm2K.main_arg0) = m ((c.tc : Thread Cert.Norm2K.nD Cert.Norm2K.τ).loc Cert.Norm2K.main_arg0)
      ∧ r.2.mem ((c.tc : Thread Cert.Norm2K.nD Cert.Norm2K.τ).loc Cert.Norm2K.main_arg1) = m ((c.tc : Thread Cert.Norm2K.nD Cert.Norm2K.τ).loc Cert.Norm2K.main_arg1)
      ∧ r.2.mem ((c.tc : Thread Cert.Norm2K.nD Cert.Norm2K.τ).loc Cert.Norm2K.main_arg2) = m ((c.tc : Thread Cert.Norm2K.nD Cert.Norm2K.τ).loc Cert.Norm2K.main_arg2)
      ∧ r.2.mem ((c.tc : Thread Cert.Norm2K.nD Cert.Norm2K.τ).loc Cert.Norm2K.main_arg3) = m ((c.tc : Thread Cert.Norm2K.nD Cert.Norm2K.τ).loc Cert.Norm2K.main_arg3)
      ∧ r.2.mem ((c.tc : Thread Cert.Norm2K.nD Cert.Norm2K.τ).loc Cert.Norm2K.main_arg4) = m ((c.tc : Thread Cert.Norm2K.nD Cert.Norm2K.τ).loc Cert.Norm2K.main_arg4)
      ∧ r.2.mem ((c.tc : Thread Cert.Norm2K.nD Cert.Norm2K.τ).loc Cert.Norm2K.main_arg5) = m ((c.tc : Thread Cert.Norm2K.nD Cert.Norm2K.τ).loc Cert.Norm2K.main_arg5)
      ∧ r.2.mem ((c.tc : Thread Cert.Norm2K.nD Cert.Norm2K.τ).loc Cert.Norm2K.main_arg6) = m ((c.tc : Thread Cert.Norm2K.nD Cert.Norm2K.τ).loc Cert.Norm2K.main_arg6))
      ∧ r.2.sem = fun _ => 0)

def quiescent_Norm2KIdeal [hNorm2KIdeal : Cert.Norm2KIdeal.Facts] : Prop :=
  ∀ (m : (ℓ : Loc Cert.Norm2KIdeal.nD Cert.Norm2KIdeal.τ Cert.Norm2KIdeal.sig) → Buf (Elt Ideal) ℓ) (g : Dev Cert.Norm2KIdeal.nD → PrngReg), Pre_Norm2KIdeal m →
    θ_run (Cert.Norm2KIdeal.defs (F := Ideal)) (onTc (τ := Cert.Norm2KIdeal.τ) (Cert.Norm2KIdeal.main (F := Ideal))) ⟨m, fun _ => 0, g⟩ (fun r => (∀ c : Dev Cert.Norm2KIdeal.nD,
      r.2.mem ((c.tc : Thread Cert.Norm2KIdeal.nD Cert.Norm2KIdeal.τ).loc Cert.Norm2KIdeal.main_arg0) = m ((c.tc : Thread Cert.Norm2KIdeal.nD Cert.Norm2KIdeal.τ).loc Cert.Norm2KIdeal.main_arg0)
      ∧ r.2.mem ((c.tc : Thread Cert.Norm2KIdeal.nD Cert.Norm2KIdeal.τ).loc Cert.Norm2KIdeal.main_arg1) = m ((c.tc : Thread Cert.Norm2KIdeal.nD Cert.Norm2KIdeal.τ).loc Cert.Norm2KIdeal.main_arg1)
      ∧ r.2.mem ((c.tc : Thread Cert.Norm2KIdeal.nD Cert.Norm2KIdeal.τ).loc Cert.Norm2KIdeal.main_arg2) = m ((c.tc : Thread Cert.Norm2KIdeal.nD Cert.Norm2KIdeal.τ).loc Cert.Norm2KIdeal.main_arg2)
      ∧ r.2.mem ((c.tc : Thread Cert.Norm2KIdeal.nD Cert.Norm2KIdeal.τ).loc Cert.Norm2KIdeal.main_arg3) = m ((c.tc : Thread Cert.Norm2KIdeal.nD Cert.Norm2KIdeal.τ).loc Cert.Norm2KIdeal.main_arg3)
      ∧ r.2.mem ((c.tc : Thread Cert.Norm2KIdeal.nD Cert.Norm2KIdeal.τ).loc Cert.Norm2KIdeal.main_arg4) = m ((c.tc : Thread Cert.Norm2KIdeal.nD Cert.Norm2KIdeal.τ).loc Cert.Norm2KIdeal.main_arg4)
      ∧ r.2.mem ((c.tc : Thread Cert.Norm2KIdeal.nD Cert.Norm2KIdeal.τ).loc Cert.Norm2KIdeal.main_arg5) = m ((c.tc : Thread Cert.Norm2KIdeal.nD Cert.Norm2KIdeal.τ).loc Cert.Norm2KIdeal.main_arg5)
      ∧ r.2.mem ((c.tc : Thread Cert.Norm2KIdeal.nD Cert.Norm2KIdeal.τ).loc Cert.Norm2KIdeal.main_arg6) = m ((c.tc : Thread Cert.Norm2KIdeal.nD Cert.Norm2KIdeal.τ).loc Cert.Norm2KIdeal.main_arg6))
      ∧ r.2.sem = fun _ => 0)

def quiescent_Norm2KIdeal_pre_norm2_finite [hNorm2KIdeal : Cert.Norm2KIdeal.Facts] [hPre_norm2_finite : Cert.Pre_norm2_finite.Facts] : Prop :=
  ∀ (m : (ℓ : Loc Cert.Norm2KIdeal.nD Cert.Norm2KIdeal.τ Cert.Norm2KIdeal.sig) → Buf (Elt Ideal) ℓ) (g : Dev Cert.Norm2KIdeal.nD → PrngReg), Pre_Norm2KIdeal_norm2_finite m →
    θ_run (Cert.Norm2KIdeal.defs (F := Ideal)) (onTc (τ := Cert.Norm2KIdeal.τ) (Cert.Norm2KIdeal.main (F := Ideal))) ⟨m, fun _ => 0, g⟩ (fun r => (∀ c : Dev Cert.Norm2KIdeal.nD,
      r.2.mem ((c.tc : Thread Cert.Norm2KIdeal.nD Cert.Norm2KIdeal.τ).loc Cert.Norm2KIdeal.main_arg0) = m ((c.tc : Thread Cert.Norm2KIdeal.nD Cert.Norm2KIdeal.τ).loc Cert.Norm2KIdeal.main_arg0)
      ∧ r.2.mem ((c.tc : Thread Cert.Norm2KIdeal.nD Cert.Norm2KIdeal.τ).loc Cert.Norm2KIdeal.main_arg1) = m ((c.tc : Thread Cert.Norm2KIdeal.nD Cert.Norm2KIdeal.τ).loc Cert.Norm2KIdeal.main_arg1)
      ∧ r.2.mem ((c.tc : Thread Cert.Norm2KIdeal.nD Cert.Norm2KIdeal.τ).loc Cert.Norm2KIdeal.main_arg2) = m ((c.tc : Thread Cert.Norm2KIdeal.nD Cert.Norm2KIdeal.τ).loc Cert.Norm2KIdeal.main_arg2)
      ∧ r.2.mem ((c.tc : Thread Cert.Norm2KIdeal.nD Cert.Norm2KIdeal.τ).loc Cert.Norm2KIdeal.main_arg3) = m ((c.tc : Thread Cert.Norm2KIdeal.nD Cert.Norm2KIdeal.τ).loc Cert.Norm2KIdeal.main_arg3)
      ∧ r.2.mem ((c.tc : Thread Cert.Norm2KIdeal.nD Cert.Norm2KIdeal.τ).loc Cert.Norm2KIdeal.main_arg4) = m ((c.tc : Thread Cert.Norm2KIdeal.nD Cert.Norm2KIdeal.τ).loc Cert.Norm2KIdeal.main_arg4)
      ∧ r.2.mem ((c.tc : Thread Cert.Norm2KIdeal.nD Cert.Norm2KIdeal.τ).loc Cert.Norm2KIdeal.main_arg5) = m ((c.tc : Thread Cert.Norm2KIdeal.nD Cert.Norm2KIdeal.τ).loc Cert.Norm2KIdeal.main_arg5)
      ∧ r.2.mem ((c.tc : Thread Cert.Norm2KIdeal.nD Cert.Norm2KIdeal.τ).loc Cert.Norm2KIdeal.main_arg6) = m ((c.tc : Thread Cert.Norm2KIdeal.nD Cert.Norm2KIdeal.τ).loc Cert.Norm2KIdeal.main_arg6))
      ∧ r.2.sem = fun _ => 0)

def quiescent_Norm2RIdeal [hNorm2RIdeal : Cert.Norm2RIdeal.Facts] : Prop :=
  ∀ (m : (ℓ : Loc Cert.Norm2RIdeal.nD Cert.Norm2RIdeal.τ Cert.Norm2RIdeal.sig) → Buf (Elt Ideal) ℓ) (g : Dev Cert.Norm2RIdeal.nD → PrngReg), Pre_Norm2RIdeal m →
    θ_run (Cert.Norm2RIdeal.defs (F := Ideal)) (onTc (τ := Cert.Norm2RIdeal.τ) (Cert.Norm2RIdeal.main (F := Ideal))) ⟨m, fun _ => 0, g⟩ (fun r => (∀ c : Dev Cert.Norm2RIdeal.nD,
      r.2.mem ((c.tc : Thread Cert.Norm2RIdeal.nD Cert.Norm2RIdeal.τ).loc Cert.Norm2RIdeal.main_arg0) = m ((c.tc : Thread Cert.Norm2RIdeal.nD Cert.Norm2RIdeal.τ).loc Cert.Norm2RIdeal.main_arg0)
      ∧ r.2.mem ((c.tc : Thread Cert.Norm2RIdeal.nD Cert.Norm2RIdeal.τ).loc Cert.Norm2RIdeal.main_arg1) = m ((c.tc : Thread Cert.Norm2RIdeal.nD Cert.Norm2RIdeal.τ).loc Cert.Norm2RIdeal.main_arg1)
      ∧ r.2.mem ((c.tc : Thread Cert.Norm2RIdeal.nD Cert.Norm2RIdeal.τ).loc Cert.Norm2RIdeal.main_arg2) = m ((c.tc : Thread Cert.Norm2RIdeal.nD Cert.Norm2RIdeal.τ).loc Cert.Norm2RIdeal.main_arg2)
      ∧ r.2.mem ((c.tc : Thread Cert.Norm2RIdeal.nD Cert.Norm2RIdeal.τ).loc Cert.Norm2RIdeal.main_arg3) = m ((c.tc : Thread Cert.Norm2RIdeal.nD Cert.Norm2RIdeal.τ).loc Cert.Norm2RIdeal.main_arg3)
      ∧ r.2.mem ((c.tc : Thread Cert.Norm2RIdeal.nD Cert.Norm2RIdeal.τ).loc Cert.Norm2RIdeal.main_arg4) = m ((c.tc : Thread Cert.Norm2RIdeal.nD Cert.Norm2RIdeal.τ).loc Cert.Norm2RIdeal.main_arg4)
      ∧ r.2.mem ((c.tc : Thread Cert.Norm2RIdeal.nD Cert.Norm2RIdeal.τ).loc Cert.Norm2RIdeal.main_arg5) = m ((c.tc : Thread Cert.Norm2RIdeal.nD Cert.Norm2RIdeal.τ).loc Cert.Norm2RIdeal.main_arg5)
      ∧ r.2.mem ((c.tc : Thread Cert.Norm2RIdeal.nD Cert.Norm2RIdeal.τ).loc Cert.Norm2RIdeal.main_arg6) = m ((c.tc : Thread Cert.Norm2RIdeal.nD Cert.Norm2RIdeal.τ).loc Cert.Norm2RIdeal.main_arg6))
      ∧ r.2.sem = fun _ => 0)

def quiescent_Norm2RIdeal_pre_norm2_finite [hNorm2RIdeal : Cert.Norm2RIdeal.Facts] [hPre_norm2_finite : Cert.Pre_norm2_finite.Facts] : Prop :=
  ∀ (m : (ℓ : Loc Cert.Norm2RIdeal.nD Cert.Norm2RIdeal.τ Cert.Norm2RIdeal.sig) → Buf (Elt Ideal) ℓ) (g : Dev Cert.Norm2RIdeal.nD → PrngReg), Pre_Norm2RIdeal_norm2_finite m →
    θ_run (Cert.Norm2RIdeal.defs (F := Ideal)) (onTc (τ := Cert.Norm2RIdeal.τ) (Cert.Norm2RIdeal.main (F := Ideal))) ⟨m, fun _ => 0, g⟩ (fun r => (∀ c : Dev Cert.Norm2RIdeal.nD,
      r.2.mem ((c.tc : Thread Cert.Norm2RIdeal.nD Cert.Norm2RIdeal.τ).loc Cert.Norm2RIdeal.main_arg0) = m ((c.tc : Thread Cert.Norm2RIdeal.nD Cert.Norm2RIdeal.τ).loc Cert.Norm2RIdeal.main_arg0)
      ∧ r.2.mem ((c.tc : Thread Cert.Norm2RIdeal.nD Cert.Norm2RIdeal.τ).loc Cert.Norm2RIdeal.main_arg1) = m ((c.tc : Thread Cert.Norm2RIdeal.nD Cert.Norm2RIdeal.τ).loc Cert.Norm2RIdeal.main_arg1)
      ∧ r.2.mem ((c.tc : Thread Cert.Norm2RIdeal.nD Cert.Norm2RIdeal.τ).loc Cert.Norm2RIdeal.main_arg2) = m ((c.tc : Thread Cert.Norm2RIdeal.nD Cert.Norm2RIdeal.τ).loc Cert.Norm2RIdeal.main_arg2)
      ∧ r.2.mem ((c.tc : Thread Cert.Norm2RIdeal.nD Cert.Norm2RIdeal.τ).loc Cert.Norm2RIdeal.main_arg3) = m ((c.tc : Thread Cert.Norm2RIdeal.nD Cert.Norm2RIdeal.τ).loc Cert.Norm2RIdeal.main_arg3)
      ∧ r.2.mem ((c.tc : Thread Cert.Norm2RIdeal.nD Cert.Norm2RIdeal.τ).loc Cert.Norm2RIdeal.main_arg4) = m ((c.tc : Thread Cert.Norm2RIdeal.nD Cert.Norm2RIdeal.τ).loc Cert.Norm2RIdeal.main_arg4)
      ∧ r.2.mem ((c.tc : Thread Cert.Norm2RIdeal.nD Cert.Norm2RIdeal.τ).loc Cert.Norm2RIdeal.main_arg5) = m ((c.tc : Thread Cert.Norm2RIdeal.nD Cert.Norm2RIdeal.τ).loc Cert.Norm2RIdeal.main_arg5)
      ∧ r.2.mem ((c.tc : Thread Cert.Norm2RIdeal.nD Cert.Norm2RIdeal.τ).loc Cert.Norm2RIdeal.main_arg6) = m ((c.tc : Thread Cert.Norm2RIdeal.nD Cert.Norm2RIdeal.τ).loc Cert.Norm2RIdeal.main_arg6))
      ∧ r.2.sem = fun _ => 0)

def quiescent_NormNaK [hNormNaK : Cert.NormNaK.Facts] : Prop :=
  ∀ (m : (ℓ : Loc Cert.NormNaK.nD Cert.NormNaK.τ Cert.NormNaK.sig) → Buf (Elt Bits) ℓ) (g : Dev Cert.NormNaK.nD → PrngReg), Pre_NormNaK m →
    θ_run (Cert.NormNaK.defs (F := Bits)) (onTc (τ := Cert.NormNaK.τ) (Cert.NormNaK.main (F := Bits))) ⟨m, fun _ => 0, g⟩ (fun r => (∀ c : Dev Cert.NormNaK.nD,
      r.2.mem ((c.tc : Thread Cert.NormNaK.nD Cert.NormNaK.τ).loc Cert.NormNaK.main_arg0) = m ((c.tc : Thread Cert.NormNaK.nD Cert.NormNaK.τ).loc Cert.NormNaK.main_arg0)
      ∧ r.2.mem ((c.tc : Thread Cert.NormNaK.nD Cert.NormNaK.τ).loc Cert.NormNaK.main_arg1) = m ((c.tc : Thread Cert.NormNaK.nD Cert.NormNaK.τ).loc Cert.NormNaK.main_arg1)
      ∧ r.2.mem ((c.tc : Thread Cert.NormNaK.nD Cert.NormNaK.τ).loc Cert.NormNaK.main_arg2) = m ((c.tc : Thread Cert.NormNaK.nD Cert.NormNaK.τ).loc Cert.NormNaK.main_arg2)
      ∧ r.2.mem ((c.tc : Thread Cert.NormNaK.nD Cert.NormNaK.τ).loc Cert.NormNaK.main_arg3) = m ((c.tc : Thread Cert.NormNaK.nD Cert.NormNaK.τ).loc Cert.NormNaK.main_arg3)
      ∧ r.2.mem ((c.tc : Thread Cert.NormNaK.nD Cert.NormNaK.τ).loc Cert.NormNaK.main_arg4) = m ((c.tc : Thread Cert.NormNaK.nD Cert.NormNaK.τ).loc Cert.NormNaK.main_arg4)
      ∧ r.2.mem ((c.tc : Thread Cert.NormNaK.nD Cert.NormNaK.τ).loc Cert.NormNaK.main_arg5) = m ((c.tc : Thread Cert.NormNaK.nD Cert.NormNaK.τ).loc Cert.NormNaK.main_arg5)
      ∧ r.2.mem ((c.tc : Thread Cert.NormNaK.nD Cert.NormNaK.τ).loc Cert.NormNaK.main_arg6) = m ((c.tc : Thread Cert.NormNaK.nD Cert.NormNaK.τ).loc Cert.NormNaK.main_arg6)
      ∧ r.2.mem ((c.tc : Thread Cert.NormNaK.nD Cert.NormNaK.τ).loc Cert.NormNaK.main_arg7) = m ((c.tc : Thread Cert.NormNaK.nD Cert.NormNaK.τ).loc Cert.NormNaK.main_arg7)
      ∧ r.2.mem ((c.tc : Thread Cert.NormNaK.nD Cert.NormNaK.τ).loc Cert.NormNaK.main_arg8) = m ((c.tc : Thread Cert.NormNaK.nD Cert.NormNaK.τ).loc Cert.NormNaK.main_arg8)
      ∧ r.2.mem ((c.tc : Thread Cert.NormNaK.nD Cert.NormNaK.τ).loc Cert.NormNaK.main_arg9) = m ((c.tc : Thread Cert.NormNaK.nD Cert.NormNaK.τ).loc Cert.NormNaK.main_arg9))
      ∧ r.2.sem = fun _ => 0)

def quiescent_NormNaKIdeal [hNormNaKIdeal : Cert.NormNaKIdeal.Facts] : Prop :=
  ∀ (m : (ℓ : Loc Cert.NormNaKIdeal.nD Cert.NormNaKIdeal.τ Cert.NormNaKIdeal.sig) → Buf (Elt Ideal) ℓ) (g : Dev Cert.NormNaKIdeal.nD → PrngReg), Pre_NormNaKIdeal m →
    θ_run (Cert.NormNaKIdeal.defs (F := Ideal)) (onTc (τ := Cert.NormNaKIdeal.τ) (Cert.NormNaKIdeal.main (F := Ideal))) ⟨m, fun _ => 0, g⟩ (fun r => (∀ c : Dev Cert.NormNaKIdeal.nD,
      r.2.mem ((c.tc : Thread Cert.NormNaKIdeal.nD Cert.NormNaKIdeal.τ).loc Cert.NormNaKIdeal.main_arg0) = m ((c.tc : Thread Cert.NormNaKIdeal.nD Cert.NormNaKIdeal.τ).loc Cert.NormNaKIdeal.main_arg0)
      ∧ r.2.mem ((c.tc : Thread Cert.NormNaKIdeal.nD Cert.NormNaKIdeal.τ).loc Cert.NormNaKIdeal.main_arg1) = m ((c.tc : Thread Cert.NormNaKIdeal.nD Cert.NormNaKIdeal.τ).loc Cert.NormNaKIdeal.main_arg1)
      ∧ r.2.mem ((c.tc : Thread Cert.NormNaKIdeal.nD Cert.NormNaKIdeal.τ).loc Cert.NormNaKIdeal.main_arg2) = m ((c.tc : Thread Cert.NormNaKIdeal.nD Cert.NormNaKIdeal.τ).loc Cert.NormNaKIdeal.main_arg2)
      ∧ r.2.mem ((c.tc : Thread Cert.NormNaKIdeal.nD Cert.NormNaKIdeal.τ).loc Cert.NormNaKIdeal.main_arg3) = m ((c.tc : Thread Cert.NormNaKIdeal.nD Cert.NormNaKIdeal.τ).loc Cert.NormNaKIdeal.main_arg3)
      ∧ r.2.mem ((c.tc : Thread Cert.NormNaKIdeal.nD Cert.NormNaKIdeal.τ).loc Cert.NormNaKIdeal.main_arg4) = m ((c.tc : Thread Cert.NormNaKIdeal.nD Cert.NormNaKIdeal.τ).loc Cert.NormNaKIdeal.main_arg4)
      ∧ r.2.mem ((c.tc : Thread Cert.NormNaKIdeal.nD Cert.NormNaKIdeal.τ).loc Cert.NormNaKIdeal.main_arg5) = m ((c.tc : Thread Cert.NormNaKIdeal.nD Cert.NormNaKIdeal.τ).loc Cert.NormNaKIdeal.main_arg5)
      ∧ r.2.mem ((c.tc : Thread Cert.NormNaKIdeal.nD Cert.NormNaKIdeal.τ).loc Cert.NormNaKIdeal.main_arg6) = m ((c.tc : Thread Cert.NormNaKIdeal.nD Cert.NormNaKIdeal.τ).loc Cert.NormNaKIdeal.main_arg6)
      ∧ r.2.mem ((c.tc : Thread Cert.NormNaKIdeal.nD Cert.NormNaKIdeal.τ).loc Cert.NormNaKIdeal.main_arg7) = m ((c.tc : Thread Cert.NormNaKIdeal.nD Cert.NormNaKIdeal.τ).loc Cert.NormNaKIdeal.main_arg7)
      ∧ r.2.mem ((c.tc : Thread Cert.NormNaKIdeal.nD Cert.NormNaKIdeal.τ).loc Cert.NormNaKIdeal.main_arg8) = m ((c.tc : Thread Cert.NormNaKIdeal.nD Cert.NormNaKIdeal.τ).loc Cert.NormNaKIdeal.main_arg8)
      ∧ r.2.mem ((c.tc : Thread Cert.NormNaKIdeal.nD Cert.NormNaKIdeal.τ).loc Cert.NormNaKIdeal.main_arg9) = m ((c.tc : Thread Cert.NormNaKIdeal.nD Cert.NormNaKIdeal.τ).loc Cert.NormNaKIdeal.main_arg9))
      ∧ r.2.sem = fun _ => 0)

def quiescent_NormNaKIdeal_pre_normna_finite [hNormNaKIdeal : Cert.NormNaKIdeal.Facts] [hPre_normna_finite : Cert.Pre_normna_finite.Facts] : Prop :=
  ∀ (m : (ℓ : Loc Cert.NormNaKIdeal.nD Cert.NormNaKIdeal.τ Cert.NormNaKIdeal.sig) → Buf (Elt Ideal) ℓ) (g : Dev Cert.NormNaKIdeal.nD → PrngReg), Pre_NormNaKIdeal_normna_finite m →
    θ_run (Cert.NormNaKIdeal.defs (F := Ideal)) (onTc (τ := Cert.NormNaKIdeal.τ) (Cert.NormNaKIdeal.main (F := Ideal))) ⟨m, fun _ => 0, g⟩ (fun r => (∀ c : Dev Cert.NormNaKIdeal.nD,
      r.2.mem ((c.tc : Thread Cert.NormNaKIdeal.nD Cert.NormNaKIdeal.τ).loc Cert.NormNaKIdeal.main_arg0) = m ((c.tc : Thread Cert.NormNaKIdeal.nD Cert.NormNaKIdeal.τ).loc Cert.NormNaKIdeal.main_arg0)
      ∧ r.2.mem ((c.tc : Thread Cert.NormNaKIdeal.nD Cert.NormNaKIdeal.τ).loc Cert.NormNaKIdeal.main_arg1) = m ((c.tc : Thread Cert.NormNaKIdeal.nD Cert.NormNaKIdeal.τ).loc Cert.NormNaKIdeal.main_arg1)
      ∧ r.2.mem ((c.tc : Thread Cert.NormNaKIdeal.nD Cert.NormNaKIdeal.τ).loc Cert.NormNaKIdeal.main_arg2) = m ((c.tc : Thread Cert.NormNaKIdeal.nD Cert.NormNaKIdeal.τ).loc Cert.NormNaKIdeal.main_arg2)
      ∧ r.2.mem ((c.tc : Thread Cert.NormNaKIdeal.nD Cert.NormNaKIdeal.τ).loc Cert.NormNaKIdeal.main_arg3) = m ((c.tc : Thread Cert.NormNaKIdeal.nD Cert.NormNaKIdeal.τ).loc Cert.NormNaKIdeal.main_arg3)
      ∧ r.2.mem ((c.tc : Thread Cert.NormNaKIdeal.nD Cert.NormNaKIdeal.τ).loc Cert.NormNaKIdeal.main_arg4) = m ((c.tc : Thread Cert.NormNaKIdeal.nD Cert.NormNaKIdeal.τ).loc Cert.NormNaKIdeal.main_arg4)
      ∧ r.2.mem ((c.tc : Thread Cert.NormNaKIdeal.nD Cert.NormNaKIdeal.τ).loc Cert.NormNaKIdeal.main_arg5) = m ((c.tc : Thread Cert.NormNaKIdeal.nD Cert.NormNaKIdeal.τ).loc Cert.NormNaKIdeal.main_arg5)
      ∧ r.2.mem ((c.tc : Thread Cert.NormNaKIdeal.nD Cert.NormNaKIdeal.τ).loc Cert.NormNaKIdeal.main_arg6) = m ((c.tc : Thread Cert.NormNaKIdeal.nD Cert.NormNaKIdeal.τ).loc Cert.NormNaKIdeal.main_arg6)
      ∧ r.2.mem ((c.tc : Thread Cert.NormNaKIdeal.nD Cert.NormNaKIdeal.τ).loc Cert.NormNaKIdeal.main_arg7) = m ((c.tc : Thread Cert.NormNaKIdeal.nD Cert.NormNaKIdeal.τ).loc Cert.NormNaKIdeal.main_arg7)
      ∧ r.2.mem ((c.tc : Thread Cert.NormNaKIdeal.nD Cert.NormNaKIdeal.τ).loc Cert.NormNaKIdeal.main_arg8) = m ((c.tc : Thread Cert.NormNaKIdeal.nD Cert.NormNaKIdeal.τ).loc Cert.NormNaKIdeal.main_arg8)
      ∧ r.2.mem ((c.tc : Thread Cert.NormNaKIdeal.nD Cert.NormNaKIdeal.τ).loc Cert.NormNaKIdeal.main_arg9) = m ((c.tc : Thread Cert.NormNaKIdeal.nD Cert.NormNaKIdeal.τ).loc Cert.NormNaKIdeal.main_arg9))
      ∧ r.2.sem = fun _ => 0)

def quiescent_NormNaRIdeal [hNormNaRIdeal : Cert.NormNaRIdeal.Facts] : Prop :=
  ∀ (m : (ℓ : Loc Cert.NormNaRIdeal.nD Cert.NormNaRIdeal.τ Cert.NormNaRIdeal.sig) → Buf (Elt Ideal) ℓ) (g : Dev Cert.NormNaRIdeal.nD → PrngReg), Pre_NormNaRIdeal m →
    θ_run (Cert.NormNaRIdeal.defs (F := Ideal)) (onTc (τ := Cert.NormNaRIdeal.τ) (Cert.NormNaRIdeal.main (F := Ideal))) ⟨m, fun _ => 0, g⟩ (fun r => (∀ c : Dev Cert.NormNaRIdeal.nD,
      r.2.mem ((c.tc : Thread Cert.NormNaRIdeal.nD Cert.NormNaRIdeal.τ).loc Cert.NormNaRIdeal.main_arg0) = m ((c.tc : Thread Cert.NormNaRIdeal.nD Cert.NormNaRIdeal.τ).loc Cert.NormNaRIdeal.main_arg0)
      ∧ r.2.mem ((c.tc : Thread Cert.NormNaRIdeal.nD Cert.NormNaRIdeal.τ).loc Cert.NormNaRIdeal.main_arg1) = m ((c.tc : Thread Cert.NormNaRIdeal.nD Cert.NormNaRIdeal.τ).loc Cert.NormNaRIdeal.main_arg1)
      ∧ r.2.mem ((c.tc : Thread Cert.NormNaRIdeal.nD Cert.NormNaRIdeal.τ).loc Cert.NormNaRIdeal.main_arg2) = m ((c.tc : Thread Cert.NormNaRIdeal.nD Cert.NormNaRIdeal.τ).loc Cert.NormNaRIdeal.main_arg2)
      ∧ r.2.mem ((c.tc : Thread Cert.NormNaRIdeal.nD Cert.NormNaRIdeal.τ).loc Cert.NormNaRIdeal.main_arg3) = m ((c.tc : Thread Cert.NormNaRIdeal.nD Cert.NormNaRIdeal.τ).loc Cert.NormNaRIdeal.main_arg3)
      ∧ r.2.mem ((c.tc : Thread Cert.NormNaRIdeal.nD Cert.NormNaRIdeal.τ).loc Cert.NormNaRIdeal.main_arg4) = m ((c.tc : Thread Cert.NormNaRIdeal.nD Cert.NormNaRIdeal.τ).loc Cert.NormNaRIdeal.main_arg4)
      ∧ r.2.mem ((c.tc : Thread Cert.NormNaRIdeal.nD Cert.NormNaRIdeal.τ).loc Cert.NormNaRIdeal.main_arg5) = m ((c.tc : Thread Cert.NormNaRIdeal.nD Cert.NormNaRIdeal.τ).loc Cert.NormNaRIdeal.main_arg5)
      ∧ r.2.mem ((c.tc : Thread Cert.NormNaRIdeal.nD Cert.NormNaRIdeal.τ).loc Cert.NormNaRIdeal.main_arg6) = m ((c.tc : Thread Cert.NormNaRIdeal.nD Cert.NormNaRIdeal.τ).loc Cert.NormNaRIdeal.main_arg6)
      ∧ r.2.mem ((c.tc : Thread Cert.NormNaRIdeal.nD Cert.NormNaRIdeal.τ).loc Cert.NormNaRIdeal.main_arg7) = m ((c.tc : Thread Cert.NormNaRIdeal.nD Cert.NormNaRIdeal.τ).loc Cert.NormNaRIdeal.main_arg7)
      ∧ r.2.mem ((c.tc : Thread Cert.NormNaRIdeal.nD Cert.NormNaRIdeal.τ).loc Cert.NormNaRIdeal.main_arg8) = m ((c.tc : Thread Cert.NormNaRIdeal.nD Cert.NormNaRIdeal.τ).loc Cert.NormNaRIdeal.main_arg8)
      ∧ r.2.mem ((c.tc : Thread Cert.NormNaRIdeal.nD Cert.NormNaRIdeal.τ).loc Cert.NormNaRIdeal.main_arg9) = m ((c.tc : Thread Cert.NormNaRIdeal.nD Cert.NormNaRIdeal.τ).loc Cert.NormNaRIdeal.main_arg9))
      ∧ r.2.sem = fun _ => 0)

def quiescent_NormNaRIdeal_pre_normna_finite [hNormNaRIdeal : Cert.NormNaRIdeal.Facts] [hPre_normna_finite : Cert.Pre_normna_finite.Facts] : Prop :=
  ∀ (m : (ℓ : Loc Cert.NormNaRIdeal.nD Cert.NormNaRIdeal.τ Cert.NormNaRIdeal.sig) → Buf (Elt Ideal) ℓ) (g : Dev Cert.NormNaRIdeal.nD → PrngReg), Pre_NormNaRIdeal_normna_finite m →
    θ_run (Cert.NormNaRIdeal.defs (F := Ideal)) (onTc (τ := Cert.NormNaRIdeal.τ) (Cert.NormNaRIdeal.main (F := Ideal))) ⟨m, fun _ => 0, g⟩ (fun r => (∀ c : Dev Cert.NormNaRIdeal.nD,
      r.2.mem ((c.tc : Thread Cert.NormNaRIdeal.nD Cert.NormNaRIdeal.τ).loc Cert.NormNaRIdeal.main_arg0) = m ((c.tc : Thread Cert.NormNaRIdeal.nD Cert.NormNaRIdeal.τ).loc Cert.NormNaRIdeal.main_arg0)
      ∧ r.2.mem ((c.tc : Thread Cert.NormNaRIdeal.nD Cert.NormNaRIdeal.τ).loc Cert.NormNaRIdeal.main_arg1) = m ((c.tc : Thread Cert.NormNaRIdeal.nD Cert.NormNaRIdeal.τ).loc Cert.NormNaRIdeal.main_arg1)
      ∧ r.2.mem ((c.tc : Thread Cert.NormNaRIdeal.nD Cert.NormNaRIdeal.τ).loc Cert.NormNaRIdeal.main_arg2) = m ((c.tc : Thread Cert.NormNaRIdeal.nD Cert.NormNaRIdeal.τ).loc Cert.NormNaRIdeal.main_arg2)
      ∧ r.2.mem ((c.tc : Thread Cert.NormNaRIdeal.nD Cert.NormNaRIdeal.τ).loc Cert.NormNaRIdeal.main_arg3) = m ((c.tc : Thread Cert.NormNaRIdeal.nD Cert.NormNaRIdeal.τ).loc Cert.NormNaRIdeal.main_arg3)
      ∧ r.2.mem ((c.tc : Thread Cert.NormNaRIdeal.nD Cert.NormNaRIdeal.τ).loc Cert.NormNaRIdeal.main_arg4) = m ((c.tc : Thread Cert.NormNaRIdeal.nD Cert.NormNaRIdeal.τ).loc Cert.NormNaRIdeal.main_arg4)
      ∧ r.2.mem ((c.tc : Thread Cert.NormNaRIdeal.nD Cert.NormNaRIdeal.τ).loc Cert.NormNaRIdeal.main_arg5) = m ((c.tc : Thread Cert.NormNaRIdeal.nD Cert.NormNaRIdeal.τ).loc Cert.NormNaRIdeal.main_arg5)
      ∧ r.2.mem ((c.tc : Thread Cert.NormNaRIdeal.nD Cert.NormNaRIdeal.τ).loc Cert.NormNaRIdeal.main_arg6) = m ((c.tc : Thread Cert.NormNaRIdeal.nD Cert.NormNaRIdeal.τ).loc Cert.NormNaRIdeal.main_arg6)
      ∧ r.2.mem ((c.tc : Thread Cert.NormNaRIdeal.nD Cert.NormNaRIdeal.τ).loc Cert.NormNaRIdeal.main_arg7) = m ((c.tc : Thread Cert.NormNaRIdeal.nD Cert.NormNaRIdeal.τ).loc Cert.NormNaRIdeal.main_arg7)
      ∧ r.2.mem ((c.tc : Thread Cert.NormNaRIdeal.nD Cert.NormNaRIdeal.τ).loc Cert.NormNaRIdeal.main_arg8) = m ((c.tc : Thread Cert.NormNaRIdeal.nD Cert.NormNaRIdeal.τ).loc Cert.NormNaRIdeal.main_arg8)
      ∧ r.2.mem ((c.tc : Thread Cert.NormNaRIdeal.nD Cert.NormNaRIdeal.τ).loc Cert.NormNaRIdeal.main_arg9) = m ((c.tc : Thread Cert.NormNaRIdeal.nD Cert.NormNaRIdeal.τ).loc Cert.NormNaRIdeal.main_arg9))
      ∧ r.2.sem = fun _ => 0)

def quiescent_NormP0K [hNormP0K : Cert.NormP0K.Facts] : Prop :=
  ∀ (m : (ℓ : Loc Cert.NormP0K.nD Cert.NormP0K.τ Cert.NormP0K.sig) → Buf (Elt Bits) ℓ) (g : Dev Cert.NormP0K.nD → PrngReg), Pre_NormP0K m →
    θ_run (Cert.NormP0K.defs (F := Bits)) (onTc (τ := Cert.NormP0K.τ) (Cert.NormP0K.main (F := Bits))) ⟨m, fun _ => 0, g⟩ (fun r => (∀ c : Dev Cert.NormP0K.nD,
      r.2.mem ((c.tc : Thread Cert.NormP0K.nD Cert.NormP0K.τ).loc Cert.NormP0K.main_arg0) = m ((c.tc : Thread Cert.NormP0K.nD Cert.NormP0K.τ).loc Cert.NormP0K.main_arg0)
      ∧ r.2.mem ((c.tc : Thread Cert.NormP0K.nD Cert.NormP0K.τ).loc Cert.NormP0K.main_arg1) = m ((c.tc : Thread Cert.NormP0K.nD Cert.NormP0K.τ).loc Cert.NormP0K.main_arg1)
      ∧ r.2.mem ((c.tc : Thread Cert.NormP0K.nD Cert.NormP0K.τ).loc Cert.NormP0K.main_arg2) = m ((c.tc : Thread Cert.NormP0K.nD Cert.NormP0K.τ).loc Cert.NormP0K.main_arg2)
      ∧ r.2.mem ((c.tc : Thread Cert.NormP0K.nD Cert.NormP0K.τ).loc Cert.NormP0K.main_arg3) = m ((c.tc : Thread Cert.NormP0K.nD Cert.NormP0K.τ).loc Cert.NormP0K.main_arg3)
      ∧ r.2.mem ((c.tc : Thread Cert.NormP0K.nD Cert.NormP0K.τ).loc Cert.NormP0K.main_arg4) = m ((c.tc : Thread Cert.NormP0K.nD Cert.NormP0K.τ).loc Cert.NormP0K.main_arg4)
      ∧ r.2.mem ((c.tc : Thread Cert.NormP0K.nD Cert.NormP0K.τ).loc Cert.NormP0K.main_arg5) = m ((c.tc : Thread Cert.NormP0K.nD Cert.NormP0K.τ).loc Cert.NormP0K.main_arg5)
      ∧ r.2.mem ((c.tc : Thread Cert.NormP0K.nD Cert.NormP0K.τ).loc Cert.NormP0K.main_arg6) = m ((c.tc : Thread Cert.NormP0K.nD Cert.NormP0K.τ).loc Cert.NormP0K.main_arg6)
      ∧ r.2.mem ((c.tc : Thread Cert.NormP0K.nD Cert.NormP0K.τ).loc Cert.NormP0K.main_arg7) = m ((c.tc : Thread Cert.NormP0K.nD Cert.NormP0K.τ).loc Cert.NormP0K.main_arg7)
      ∧ r.2.mem ((c.tc : Thread Cert.NormP0K.nD Cert.NormP0K.τ).loc Cert.NormP0K.main_arg8) = m ((c.tc : Thread Cert.NormP0K.nD Cert.NormP0K.τ).loc Cert.NormP0K.main_arg8)
      ∧ r.2.mem ((c.tc : Thread Cert.NormP0K.nD Cert.NormP0K.τ).loc Cert.NormP0K.main_arg9) = m ((c.tc : Thread Cert.NormP0K.nD Cert.NormP0K.τ).loc Cert.NormP0K.main_arg9))
      ∧ r.2.sem = fun _ => 0)

def quiescent_NormP0KIdeal [hNormP0KIdeal : Cert.NormP0KIdeal.Facts] : Prop :=
  ∀ (m : (ℓ : Loc Cert.NormP0KIdeal.nD Cert.NormP0KIdeal.τ Cert.NormP0KIdeal.sig) → Buf (Elt Ideal) ℓ) (g : Dev Cert.NormP0KIdeal.nD → PrngReg), Pre_NormP0KIdeal m →
    θ_run (Cert.NormP0KIdeal.defs (F := Ideal)) (onTc (τ := Cert.NormP0KIdeal.τ) (Cert.NormP0KIdeal.main (F := Ideal))) ⟨m, fun _ => 0, g⟩ (fun r => (∀ c : Dev Cert.NormP0KIdeal.nD,
      r.2.mem ((c.tc : Thread Cert.NormP0KIdeal.nD Cert.NormP0KIdeal.τ).loc Cert.NormP0KIdeal.main_arg0) = m ((c.tc : Thread Cert.NormP0KIdeal.nD Cert.NormP0KIdeal.τ).loc Cert.NormP0KIdeal.main_arg0)
      ∧ r.2.mem ((c.tc : Thread Cert.NormP0KIdeal.nD Cert.NormP0KIdeal.τ).loc Cert.NormP0KIdeal.main_arg1) = m ((c.tc : Thread Cert.NormP0KIdeal.nD Cert.NormP0KIdeal.τ).loc Cert.NormP0KIdeal.main_arg1)
      ∧ r.2.mem ((c.tc : Thread Cert.NormP0KIdeal.nD Cert.NormP0KIdeal.τ).loc Cert.NormP0KIdeal.main_arg2) = m ((c.tc : Thread Cert.NormP0KIdeal.nD Cert.NormP0KIdeal.τ).loc Cert.NormP0KIdeal.main_arg2)
      ∧ r.2.mem ((c.tc : Thread Cert.NormP0KIdeal.nD Cert.NormP0KIdeal.τ).loc Cert.NormP0KIdeal.main_arg3) = m ((c.tc : Thread Cert.NormP0KIdeal.nD Cert.NormP0KIdeal.τ).loc Cert.NormP0KIdeal.main_arg3)
      ∧ r.2.mem ((c.tc : Thread Cert.NormP0KIdeal.nD Cert.NormP0KIdeal.τ).loc Cert.NormP0KIdeal.main_arg4) = m ((c.tc : Thread Cert.NormP0KIdeal.nD Cert.NormP0KIdeal.τ).loc Cert.NormP0KIdeal.main_arg4)
      ∧ r.2.mem ((c.tc : Thread Cert.NormP0KIdeal.nD Cert.NormP0KIdeal.τ).loc Cert.NormP0KIdeal.main_arg5) = m ((c.tc : Thread Cert.NormP0KIdeal.nD Cert.NormP0KIdeal.τ).loc Cert.NormP0KIdeal.main_arg5)
      ∧ r.2.mem ((c.tc : Thread Cert.NormP0KIdeal.nD Cert.NormP0KIdeal.τ).loc Cert.NormP0KIdeal.main_arg6) = m ((c.tc : Thread Cert.NormP0KIdeal.nD Cert.NormP0KIdeal.τ).loc Cert.NormP0KIdeal.main_arg6)
      ∧ r.2.mem ((c.tc : Thread Cert.NormP0KIdeal.nD Cert.NormP0KIdeal.τ).loc Cert.NormP0KIdeal.main_arg7) = m ((c.tc : Thread Cert.NormP0KIdeal.nD Cert.NormP0KIdeal.τ).loc Cert.NormP0KIdeal.main_arg7)
      ∧ r.2.mem ((c.tc : Thread Cert.NormP0KIdeal.nD Cert.NormP0KIdeal.τ).loc Cert.NormP0KIdeal.main_arg8) = m ((c.tc : Thread Cert.NormP0KIdeal.nD Cert.NormP0KIdeal.τ).loc Cert.NormP0KIdeal.main_arg8)
      ∧ r.2.mem ((c.tc : Thread Cert.NormP0KIdeal.nD Cert.NormP0KIdeal.τ).loc Cert.NormP0KIdeal.main_arg9) = m ((c.tc : Thread Cert.NormP0KIdeal.nD Cert.NormP0KIdeal.τ).loc Cert.NormP0KIdeal.main_arg9))
      ∧ r.2.sem = fun _ => 0)

def quiescent_NormP0KIdeal_pre_normp0_finite [hNormP0KIdeal : Cert.NormP0KIdeal.Facts] [hPre_normp0_finite : Cert.Pre_normp0_finite.Facts] : Prop :=
  ∀ (m : (ℓ : Loc Cert.NormP0KIdeal.nD Cert.NormP0KIdeal.τ Cert.NormP0KIdeal.sig) → Buf (Elt Ideal) ℓ) (g : Dev Cert.NormP0KIdeal.nD → PrngReg), Pre_NormP0KIdeal_normp0_finite m →
    θ_run (Cert.NormP0KIdeal.defs (F := Ideal)) (onTc (τ := Cert.NormP0KIdeal.τ) (Cert.NormP0KIdeal.main (F := Ideal))) ⟨m, fun _ => 0, g⟩ (fun r => (∀ c : Dev Cert.NormP0KIdeal.nD,
      r.2.mem ((c.tc : Thread Cert.NormP0KIdeal.nD Cert.NormP0KIdeal.τ).loc Cert.NormP0KIdeal.main_arg0) = m ((c.tc : Thread Cert.NormP0KIdeal.nD Cert.NormP0KIdeal.τ).loc Cert.NormP0KIdeal.main_arg0)
      ∧ r.2.mem ((c.tc : Thread Cert.NormP0KIdeal.nD Cert.NormP0KIdeal.τ).loc Cert.NormP0KIdeal.main_arg1) = m ((c.tc : Thread Cert.NormP0KIdeal.nD Cert.NormP0KIdeal.τ).loc Cert.NormP0KIdeal.main_arg1)
      ∧ r.2.mem ((c.tc : Thread Cert.NormP0KIdeal.nD Cert.NormP0KIdeal.τ).loc Cert.NormP0KIdeal.main_arg2) = m ((c.tc : Thread Cert.NormP0KIdeal.nD Cert.NormP0KIdeal.τ).loc Cert.NormP0KIdeal.main_arg2)
      ∧ r.2.mem ((c.tc : Thread Cert.NormP0KIdeal.nD Cert.NormP0KIdeal.τ).loc Cert.NormP0KIdeal.main_arg3) = m ((c.tc : Thread Cert.NormP0KIdeal.nD Cert.NormP0KIdeal.τ).loc Cert.NormP0KIdeal.main_arg3)
      ∧ r.2.mem ((c.tc : Thread Cert.NormP0KIdeal.nD Cert.NormP0KIdeal.τ).loc Cert.NormP0KIdeal.main_arg4) = m ((c.tc : Thread Cert.NormP0KIdeal.nD Cert.NormP0KIdeal.τ).loc Cert.NormP0KIdeal.main_arg4)
      ∧ r.2.mem ((c.tc : Thread Cert.NormP0KIdeal.nD Cert.NormP0KIdeal.τ).loc Cert.NormP0KIdeal.main_arg5) = m ((c.tc : Thread Cert.NormP0KIdeal.nD Cert.NormP0KIdeal.τ).loc Cert.NormP0KIdeal.main_arg5)
      ∧ r.2.mem ((c.tc : Thread Cert.NormP0KIdeal.nD Cert.NormP0KIdeal.τ).loc Cert.NormP0KIdeal.main_arg6) = m ((c.tc : Thread Cert.NormP0KIdeal.nD Cert.NormP0KIdeal.τ).loc Cert.NormP0KIdeal.main_arg6)
      ∧ r.2.mem ((c.tc : Thread Cert.NormP0KIdeal.nD Cert.NormP0KIdeal.τ).loc Cert.NormP0KIdeal.main_arg7) = m ((c.tc : Thread Cert.NormP0KIdeal.nD Cert.NormP0KIdeal.τ).loc Cert.NormP0KIdeal.main_arg7)
      ∧ r.2.mem ((c.tc : Thread Cert.NormP0KIdeal.nD Cert.NormP0KIdeal.τ).loc Cert.NormP0KIdeal.main_arg8) = m ((c.tc : Thread Cert.NormP0KIdeal.nD Cert.NormP0KIdeal.τ).loc Cert.NormP0KIdeal.main_arg8)
      ∧ r.2.mem ((c.tc : Thread Cert.NormP0KIdeal.nD Cert.NormP0KIdeal.τ).loc Cert.NormP0KIdeal.main_arg9) = m ((c.tc : Thread Cert.NormP0KIdeal.nD Cert.NormP0KIdeal.τ).loc Cert.NormP0KIdeal.main_arg9))
      ∧ r.2.sem = fun _ => 0)

def quiescent_NormP0RIdeal [hNormP0RIdeal : Cert.NormP0RIdeal.Facts] : Prop :=
  ∀ (m : (ℓ : Loc Cert.NormP0RIdeal.nD Cert.NormP0RIdeal.τ Cert.NormP0RIdeal.sig) → Buf (Elt Ideal) ℓ) (g : Dev Cert.NormP0RIdeal.nD → PrngReg), Pre_NormP0RIdeal m →
    θ_run (Cert.NormP0RIdeal.defs (F := Ideal)) (onTc (τ := Cert.NormP0RIdeal.τ) (Cert.NormP0RIdeal.main (F := Ideal))) ⟨m, fun _ => 0, g⟩ (fun r => (∀ c : Dev Cert.NormP0RIdeal.nD,
      r.2.mem ((c.tc : Thread Cert.NormP0RIdeal.nD Cert.NormP0RIdeal.τ).loc Cert.NormP0RIdeal.main_arg0) = m ((c.tc : Thread Cert.NormP0RIdeal.nD Cert.NormP0RIdeal.τ).loc Cert.NormP0RIdeal.main_arg0)
      ∧ r.2.mem ((c.tc : Thread Cert.NormP0RIdeal.nD Cert.NormP0RIdeal.τ).loc Cert.NormP0RIdeal.main_arg1) = m ((c.tc : Thread Cert.NormP0RIdeal.nD Cert.NormP0RIdeal.τ).loc Cert.NormP0RIdeal.main_arg1)
      ∧ r.2.mem ((c.tc : Thread Cert.NormP0RIdeal.nD Cert.NormP0RIdeal.τ).loc Cert.NormP0RIdeal.main_arg2) = m ((c.tc : Thread Cert.NormP0RIdeal.nD Cert.NormP0RIdeal.τ).loc Cert.NormP0RIdeal.main_arg2)
      ∧ r.2.mem ((c.tc : Thread Cert.NormP0RIdeal.nD Cert.NormP0RIdeal.τ).loc Cert.NormP0RIdeal.main_arg3) = m ((c.tc : Thread Cert.NormP0RIdeal.nD Cert.NormP0RIdeal.τ).loc Cert.NormP0RIdeal.main_arg3)
      ∧ r.2.mem ((c.tc : Thread Cert.NormP0RIdeal.nD Cert.NormP0RIdeal.τ).loc Cert.NormP0RIdeal.main_arg4) = m ((c.tc : Thread Cert.NormP0RIdeal.nD Cert.NormP0RIdeal.τ).loc Cert.NormP0RIdeal.main_arg4)
      ∧ r.2.mem ((c.tc : Thread Cert.NormP0RIdeal.nD Cert.NormP0RIdeal.τ).loc Cert.NormP0RIdeal.main_arg5) = m ((c.tc : Thread Cert.NormP0RIdeal.nD Cert.NormP0RIdeal.τ).loc Cert.NormP0RIdeal.main_arg5)
      ∧ r.2.mem ((c.tc : Thread Cert.NormP0RIdeal.nD Cert.NormP0RIdeal.τ).loc Cert.NormP0RIdeal.main_arg6) = m ((c.tc : Thread Cert.NormP0RIdeal.nD Cert.NormP0RIdeal.τ).loc Cert.NormP0RIdeal.main_arg6)
      ∧ r.2.mem ((c.tc : Thread Cert.NormP0RIdeal.nD Cert.NormP0RIdeal.τ).loc Cert.NormP0RIdeal.main_arg7) = m ((c.tc : Thread Cert.NormP0RIdeal.nD Cert.NormP0RIdeal.τ).loc Cert.NormP0RIdeal.main_arg7)
      ∧ r.2.mem ((c.tc : Thread Cert.NormP0RIdeal.nD Cert.NormP0RIdeal.τ).loc Cert.NormP0RIdeal.main_arg8) = m ((c.tc : Thread Cert.NormP0RIdeal.nD Cert.NormP0RIdeal.τ).loc Cert.NormP0RIdeal.main_arg8)
      ∧ r.2.mem ((c.tc : Thread Cert.NormP0RIdeal.nD Cert.NormP0RIdeal.τ).loc Cert.NormP0RIdeal.main_arg9) = m ((c.tc : Thread Cert.NormP0RIdeal.nD Cert.NormP0RIdeal.τ).loc Cert.NormP0RIdeal.main_arg9))
      ∧ r.2.sem = fun _ => 0)

def quiescent_NormP0RIdeal_pre_normp0_finite [hNormP0RIdeal : Cert.NormP0RIdeal.Facts] [hPre_normp0_finite : Cert.Pre_normp0_finite.Facts] : Prop :=
  ∀ (m : (ℓ : Loc Cert.NormP0RIdeal.nD Cert.NormP0RIdeal.τ Cert.NormP0RIdeal.sig) → Buf (Elt Ideal) ℓ) (g : Dev Cert.NormP0RIdeal.nD → PrngReg), Pre_NormP0RIdeal_normp0_finite m →
    θ_run (Cert.NormP0RIdeal.defs (F := Ideal)) (onTc (τ := Cert.NormP0RIdeal.τ) (Cert.NormP0RIdeal.main (F := Ideal))) ⟨m, fun _ => 0, g⟩ (fun r => (∀ c : Dev Cert.NormP0RIdeal.nD,
      r.2.mem ((c.tc : Thread Cert.NormP0RIdeal.nD Cert.NormP0RIdeal.τ).loc Cert.NormP0RIdeal.main_arg0) = m ((c.tc : Thread Cert.NormP0RIdeal.nD Cert.NormP0RIdeal.τ).loc Cert.NormP0RIdeal.main_arg0)
      ∧ r.2.mem ((c.tc : Thread Cert.NormP0RIdeal.nD Cert.NormP0RIdeal.τ).loc Cert.NormP0RIdeal.main_arg1) = m ((c.tc : Thread Cert.NormP0RIdeal.nD Cert.NormP0RIdeal.τ).loc Cert.NormP0RIdeal.main_arg1)
      ∧ r.2.mem ((c.tc : Thread Cert.NormP0RIdeal.nD Cert.NormP0RIdeal.τ).loc Cert.NormP0RIdeal.main_arg2) = m ((c.tc : Thread Cert.NormP0RIdeal.nD Cert.NormP0RIdeal.τ).loc Cert.NormP0RIdeal.main_arg2)
      ∧ r.2.mem ((c.tc : Thread Cert.NormP0RIdeal.nD Cert.NormP0RIdeal.τ).loc Cert.NormP0RIdeal.main_arg3) = m ((c.tc : Thread Cert.NormP0RIdeal.nD Cert.NormP0RIdeal.τ).loc Cert.NormP0RIdeal.main_arg3)
      ∧ r.2.mem ((c.tc : Thread Cert.NormP0RIdeal.nD Cert.NormP0RIdeal.τ).loc Cert.NormP0RIdeal.main_arg4) = m ((c.tc : Thread Cert.NormP0RIdeal.nD Cert.NormP0RIdeal.τ).loc Cert.NormP0RIdeal.main_arg4)
      ∧ r.2.mem ((c.tc : Thread Cert.NormP0RIdeal.nD Cert.NormP0RIdeal.τ).loc Cert.NormP0RIdeal.main_arg5) = m ((c.tc : Thread Cert.NormP0RIdeal.nD Cert.NormP0RIdeal.τ).loc Cert.NormP0RIdeal.main_arg5)
      ∧ r.2.mem ((c.tc : Thread Cert.NormP0RIdeal.nD Cert.NormP0RIdeal.τ).loc Cert.NormP0RIdeal.main_arg6) = m ((c.tc : Thread Cert.NormP0RIdeal.nD Cert.NormP0RIdeal.τ).loc Cert.NormP0RIdeal.main_arg6)
      ∧ r.2.mem ((c.tc : Thread Cert.NormP0RIdeal.nD Cert.NormP0RIdeal.τ).loc Cert.NormP0RIdeal.main_arg7) = m ((c.tc : Thread Cert.NormP0RIdeal.nD Cert.NormP0RIdeal.τ).loc Cert.NormP0RIdeal.main_arg7)
      ∧ r.2.mem ((c.tc : Thread Cert.NormP0RIdeal.nD Cert.NormP0RIdeal.τ).loc Cert.NormP0RIdeal.main_arg8) = m ((c.tc : Thread Cert.NormP0RIdeal.nD Cert.NormP0RIdeal.τ).loc Cert.NormP0RIdeal.main_arg8)
      ∧ r.2.mem ((c.tc : Thread Cert.NormP0RIdeal.nD Cert.NormP0RIdeal.τ).loc Cert.NormP0RIdeal.main_arg9) = m ((c.tc : Thread Cert.NormP0RIdeal.nD Cert.NormP0RIdeal.τ).loc Cert.NormP0RIdeal.main_arg9))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvKIdeal_pre_conv_finite [hConvKIdeal : Cert.ConvKIdeal.Facts] [hPre_conv_finite : Cert.Pre_conv_finite.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal_conv_finite m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_ConvRIdeal_pre_conv_finite [hConvRIdeal : Cert.ConvRIdeal.Facts] [hPre_conv_finite : Cert.Pre_conv_finite.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal_conv_finite m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4)
      ∧ r.2.mem ((c.tc : Thread Cert.LossK.nD Cert.LossK.τ).loc Cert.LossK.main_arg5) = m ((c.tc : Thread Cert.LossK.nD Cert.LossK.τ).loc Cert.LossK.main_arg5))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5))
      ∧ r.2.sem = fun _ => 0)

def quiescent_PoolK [hPoolK : Cert.PoolK.Facts] : Prop :=
  ∀ (m : (ℓ : Loc Cert.PoolK.nD Cert.PoolK.τ Cert.PoolK.sig) → Buf (Elt Bits) ℓ) (g : Dev Cert.PoolK.nD → PrngReg), Pre_PoolK m →
    θ_run (Cert.PoolK.defs (F := Bits)) (onTc (τ := Cert.PoolK.τ) (Cert.PoolK.main (F := Bits))) ⟨m, fun _ => 0, g⟩ (fun r => (∀ c : Dev Cert.PoolK.nD,
      r.2.mem ((c.tc : Thread Cert.PoolK.nD Cert.PoolK.τ).loc Cert.PoolK.main_arg0) = m ((c.tc : Thread Cert.PoolK.nD Cert.PoolK.τ).loc Cert.PoolK.main_arg0)
      ∧ r.2.mem ((c.tc : Thread Cert.PoolK.nD Cert.PoolK.τ).loc Cert.PoolK.main_arg1) = m ((c.tc : Thread Cert.PoolK.nD Cert.PoolK.τ).loc Cert.PoolK.main_arg1)
      ∧ r.2.mem ((c.tc : Thread Cert.PoolK.nD Cert.PoolK.τ).loc Cert.PoolK.main_arg2) = m ((c.tc : Thread Cert.PoolK.nD Cert.PoolK.τ).loc Cert.PoolK.main_arg2)
      ∧ r.2.mem ((c.tc : Thread Cert.PoolK.nD Cert.PoolK.τ).loc Cert.PoolK.main_arg3) = m ((c.tc : Thread Cert.PoolK.nD Cert.PoolK.τ).loc Cert.PoolK.main_arg3))
      ∧ r.2.sem = fun _ => 0)

def quiescent_PoolKIdeal [hPoolKIdeal : Cert.PoolKIdeal.Facts] : Prop :=
  ∀ (m : (ℓ : Loc Cert.PoolKIdeal.nD Cert.PoolKIdeal.τ Cert.PoolKIdeal.sig) → Buf (Elt Ideal) ℓ) (g : Dev Cert.PoolKIdeal.nD → PrngReg), Pre_PoolKIdeal m →
    θ_run (Cert.PoolKIdeal.defs (F := Ideal)) (onTc (τ := Cert.PoolKIdeal.τ) (Cert.PoolKIdeal.main (F := Ideal))) ⟨m, fun _ => 0, g⟩ (fun r => (∀ c : Dev Cert.PoolKIdeal.nD,
      r.2.mem ((c.tc : Thread Cert.PoolKIdeal.nD Cert.PoolKIdeal.τ).loc Cert.PoolKIdeal.main_arg0) = m ((c.tc : Thread Cert.PoolKIdeal.nD Cert.PoolKIdeal.τ).loc Cert.PoolKIdeal.main_arg0)
      ∧ r.2.mem ((c.tc : Thread Cert.PoolKIdeal.nD Cert.PoolKIdeal.τ).loc Cert.PoolKIdeal.main_arg1) = m ((c.tc : Thread Cert.PoolKIdeal.nD Cert.PoolKIdeal.τ).loc Cert.PoolKIdeal.main_arg1)
      ∧ r.2.mem ((c.tc : Thread Cert.PoolKIdeal.nD Cert.PoolKIdeal.τ).loc Cert.PoolKIdeal.main_arg2) = m ((c.tc : Thread Cert.PoolKIdeal.nD Cert.PoolKIdeal.τ).loc Cert.PoolKIdeal.main_arg2)
      ∧ r.2.mem ((c.tc : Thread Cert.PoolKIdeal.nD Cert.PoolKIdeal.τ).loc Cert.PoolKIdeal.main_arg3) = m ((c.tc : Thread Cert.PoolKIdeal.nD Cert.PoolKIdeal.τ).loc Cert.PoolKIdeal.main_arg3))
      ∧ r.2.sem = fun _ => 0)

def quiescent_PoolKIdeal_pre_pool_finite [hPoolKIdeal : Cert.PoolKIdeal.Facts] [hPre_pool_finite : Cert.Pre_pool_finite.Facts] : Prop :=
  ∀ (m : (ℓ : Loc Cert.PoolKIdeal.nD Cert.PoolKIdeal.τ Cert.PoolKIdeal.sig) → Buf (Elt Ideal) ℓ) (g : Dev Cert.PoolKIdeal.nD → PrngReg), Pre_PoolKIdeal_pool_finite m →
    θ_run (Cert.PoolKIdeal.defs (F := Ideal)) (onTc (τ := Cert.PoolKIdeal.τ) (Cert.PoolKIdeal.main (F := Ideal))) ⟨m, fun _ => 0, g⟩ (fun r => (∀ c : Dev Cert.PoolKIdeal.nD,
      r.2.mem ((c.tc : Thread Cert.PoolKIdeal.nD Cert.PoolKIdeal.τ).loc Cert.PoolKIdeal.main_arg0) = m ((c.tc : Thread Cert.PoolKIdeal.nD Cert.PoolKIdeal.τ).loc Cert.PoolKIdeal.main_arg0)
      ∧ r.2.mem ((c.tc : Thread Cert.PoolKIdeal.nD Cert.PoolKIdeal.τ).loc Cert.PoolKIdeal.main_arg1) = m ((c.tc : Thread Cert.PoolKIdeal.nD Cert.PoolKIdeal.τ).loc Cert.PoolKIdeal.main_arg1)
      ∧ r.2.mem ((c.tc : Thread Cert.PoolKIdeal.nD Cert.PoolKIdeal.τ).loc Cert.PoolKIdeal.main_arg2) = m ((c.tc : Thread Cert.PoolKIdeal.nD Cert.PoolKIdeal.τ).loc Cert.PoolKIdeal.main_arg2)
      ∧ r.2.mem ((c.tc : Thread Cert.PoolKIdeal.nD Cert.PoolKIdeal.τ).loc Cert.PoolKIdeal.main_arg3) = m ((c.tc : Thread Cert.PoolKIdeal.nD Cert.PoolKIdeal.τ).loc Cert.PoolKIdeal.main_arg3))
      ∧ r.2.sem = fun _ => 0)

def quiescent_PoolRIdeal [hPoolRIdeal : Cert.PoolRIdeal.Facts] : Prop :=
  ∀ (m : (ℓ : Loc Cert.PoolRIdeal.nD Cert.PoolRIdeal.τ Cert.PoolRIdeal.sig) → Buf (Elt Ideal) ℓ) (g : Dev Cert.PoolRIdeal.nD → PrngReg), Pre_PoolRIdeal m →
    θ_run (Cert.PoolRIdeal.defs (F := Ideal)) (onTc (τ := Cert.PoolRIdeal.τ) (Cert.PoolRIdeal.main (F := Ideal))) ⟨m, fun _ => 0, g⟩ (fun r => (∀ c : Dev Cert.PoolRIdeal.nD,
      r.2.mem ((c.tc : Thread Cert.PoolRIdeal.nD Cert.PoolRIdeal.τ).loc Cert.PoolRIdeal.main_arg0) = m ((c.tc : Thread Cert.PoolRIdeal.nD Cert.PoolRIdeal.τ).loc Cert.PoolRIdeal.main_arg0)
      ∧ r.2.mem ((c.tc : Thread Cert.PoolRIdeal.nD Cert.PoolRIdeal.τ).loc Cert.PoolRIdeal.main_arg1) = m ((c.tc : Thread Cert.PoolRIdeal.nD Cert.PoolRIdeal.τ).loc Cert.PoolRIdeal.main_arg1)
      ∧ r.2.mem ((c.tc : Thread Cert.PoolRIdeal.nD Cert.PoolRIdeal.τ).loc Cert.PoolRIdeal.main_arg2) = m ((c.tc : Thread Cert.PoolRIdeal.nD Cert.PoolRIdeal.τ).loc Cert.PoolRIdeal.main_arg2)
      ∧ r.2.mem ((c.tc : Thread Cert.PoolRIdeal.nD Cert.PoolRIdeal.τ).loc Cert.PoolRIdeal.main_arg3) = m ((c.tc : Thread Cert.PoolRIdeal.nD Cert.PoolRIdeal.τ).loc Cert.PoolRIdeal.main_arg3))
      ∧ r.2.sem = fun _ => 0)

def quiescent_PoolRIdeal_pre_pool_finite [hPoolRIdeal : Cert.PoolRIdeal.Facts] [hPre_pool_finite : Cert.Pre_pool_finite.Facts] : Prop :=
  ∀ (m : (ℓ : Loc Cert.PoolRIdeal.nD Cert.PoolRIdeal.τ Cert.PoolRIdeal.sig) → Buf (Elt Ideal) ℓ) (g : Dev Cert.PoolRIdeal.nD → PrngReg), Pre_PoolRIdeal_pool_finite m →
    θ_run (Cert.PoolRIdeal.defs (F := Ideal)) (onTc (τ := Cert.PoolRIdeal.τ) (Cert.PoolRIdeal.main (F := Ideal))) ⟨m, fun _ => 0, g⟩ (fun r => (∀ c : Dev Cert.PoolRIdeal.nD,
      r.2.mem ((c.tc : Thread Cert.PoolRIdeal.nD Cert.PoolRIdeal.τ).loc Cert.PoolRIdeal.main_arg0) = m ((c.tc : Thread Cert.PoolRIdeal.nD Cert.PoolRIdeal.τ).loc Cert.PoolRIdeal.main_arg0)
      ∧ r.2.mem ((c.tc : Thread Cert.PoolRIdeal.nD Cert.PoolRIdeal.τ).loc Cert.PoolRIdeal.main_arg1) = m ((c.tc : Thread Cert.PoolRIdeal.nD Cert.PoolRIdeal.τ).loc Cert.PoolRIdeal.main_arg1)
      ∧ r.2.mem ((c.tc : Thread Cert.PoolRIdeal.nD Cert.PoolRIdeal.τ).loc Cert.PoolRIdeal.main_arg2) = m ((c.tc : Thread Cert.PoolRIdeal.nD Cert.PoolRIdeal.τ).loc Cert.PoolRIdeal.main_arg2)
      ∧ r.2.mem ((c.tc : Thread Cert.PoolRIdeal.nD Cert.PoolRIdeal.τ).loc Cert.PoolRIdeal.main_arg3) = m ((c.tc : Thread Cert.PoolRIdeal.nD Cert.PoolRIdeal.τ).loc Cert.PoolRIdeal.main_arg3))
      ∧ r.2.sem = fun _ => 0)

def quiescent_PoolP0K [hPoolP0K : Cert.PoolP0K.Facts] : Prop :=
  ∀ (m : (ℓ : Loc Cert.PoolP0K.nD Cert.PoolP0K.τ Cert.PoolP0K.sig) → Buf (Elt Bits) ℓ) (g : Dev Cert.PoolP0K.nD → PrngReg), Pre_PoolP0K m →
    θ_run (Cert.PoolP0K.defs (F := Bits)) (onTc (τ := Cert.PoolP0K.τ) (Cert.PoolP0K.main (F := Bits))) ⟨m, fun _ => 0, g⟩ (fun r => (∀ c : Dev Cert.PoolP0K.nD,
      r.2.mem ((c.tc : Thread Cert.PoolP0K.nD Cert.PoolP0K.τ).loc Cert.PoolP0K.main_arg0) = m ((c.tc : Thread Cert.PoolP0K.nD Cert.PoolP0K.τ).loc Cert.PoolP0K.main_arg0)
      ∧ r.2.mem ((c.tc : Thread Cert.PoolP0K.nD Cert.PoolP0K.τ).loc Cert.PoolP0K.main_arg1) = m ((c.tc : Thread Cert.PoolP0K.nD Cert.PoolP0K.τ).loc Cert.PoolP0K.main_arg1)
      ∧ r.2.mem ((c.tc : Thread Cert.PoolP0K.nD Cert.PoolP0K.τ).loc Cert.PoolP0K.main_arg2) = m ((c.tc : Thread Cert.PoolP0K.nD Cert.PoolP0K.τ).loc Cert.PoolP0K.main_arg2)
      ∧ r.2.mem ((c.tc : Thread Cert.PoolP0K.nD Cert.PoolP0K.τ).loc Cert.PoolP0K.main_arg3) = m ((c.tc : Thread Cert.PoolP0K.nD Cert.PoolP0K.τ).loc Cert.PoolP0K.main_arg3))
      ∧ r.2.sem = fun _ => 0)

def quiescent_PoolP0KIdeal [hPoolP0KIdeal : Cert.PoolP0KIdeal.Facts] : Prop :=
  ∀ (m : (ℓ : Loc Cert.PoolP0KIdeal.nD Cert.PoolP0KIdeal.τ Cert.PoolP0KIdeal.sig) → Buf (Elt Ideal) ℓ) (g : Dev Cert.PoolP0KIdeal.nD → PrngReg), Pre_PoolP0KIdeal m →
    θ_run (Cert.PoolP0KIdeal.defs (F := Ideal)) (onTc (τ := Cert.PoolP0KIdeal.τ) (Cert.PoolP0KIdeal.main (F := Ideal))) ⟨m, fun _ => 0, g⟩ (fun r => (∀ c : Dev Cert.PoolP0KIdeal.nD,
      r.2.mem ((c.tc : Thread Cert.PoolP0KIdeal.nD Cert.PoolP0KIdeal.τ).loc Cert.PoolP0KIdeal.main_arg0) = m ((c.tc : Thread Cert.PoolP0KIdeal.nD Cert.PoolP0KIdeal.τ).loc Cert.PoolP0KIdeal.main_arg0)
      ∧ r.2.mem ((c.tc : Thread Cert.PoolP0KIdeal.nD Cert.PoolP0KIdeal.τ).loc Cert.PoolP0KIdeal.main_arg1) = m ((c.tc : Thread Cert.PoolP0KIdeal.nD Cert.PoolP0KIdeal.τ).loc Cert.PoolP0KIdeal.main_arg1)
      ∧ r.2.mem ((c.tc : Thread Cert.PoolP0KIdeal.nD Cert.PoolP0KIdeal.τ).loc Cert.PoolP0KIdeal.main_arg2) = m ((c.tc : Thread Cert.PoolP0KIdeal.nD Cert.PoolP0KIdeal.τ).loc Cert.PoolP0KIdeal.main_arg2)
      ∧ r.2.mem ((c.tc : Thread Cert.PoolP0KIdeal.nD Cert.PoolP0KIdeal.τ).loc Cert.PoolP0KIdeal.main_arg3) = m ((c.tc : Thread Cert.PoolP0KIdeal.nD Cert.PoolP0KIdeal.τ).loc Cert.PoolP0KIdeal.main_arg3))
      ∧ r.2.sem = fun _ => 0)

def quiescent_PoolP0KIdeal_pre_poolp0_finite [hPoolP0KIdeal : Cert.PoolP0KIdeal.Facts] [hPre_poolp0_finite : Cert.Pre_poolp0_finite.Facts] : Prop :=
  ∀ (m : (ℓ : Loc Cert.PoolP0KIdeal.nD Cert.PoolP0KIdeal.τ Cert.PoolP0KIdeal.sig) → Buf (Elt Ideal) ℓ) (g : Dev Cert.PoolP0KIdeal.nD → PrngReg), Pre_PoolP0KIdeal_poolp0_finite m →
    θ_run (Cert.PoolP0KIdeal.defs (F := Ideal)) (onTc (τ := Cert.PoolP0KIdeal.τ) (Cert.PoolP0KIdeal.main (F := Ideal))) ⟨m, fun _ => 0, g⟩ (fun r => (∀ c : Dev Cert.PoolP0KIdeal.nD,
      r.2.mem ((c.tc : Thread Cert.PoolP0KIdeal.nD Cert.PoolP0KIdeal.τ).loc Cert.PoolP0KIdeal.main_arg0) = m ((c.tc : Thread Cert.PoolP0KIdeal.nD Cert.PoolP0KIdeal.τ).loc Cert.PoolP0KIdeal.main_arg0)
      ∧ r.2.mem ((c.tc : Thread Cert.PoolP0KIdeal.nD Cert.PoolP0KIdeal.τ).loc Cert.PoolP0KIdeal.main_arg1) = m ((c.tc : Thread Cert.PoolP0KIdeal.nD Cert.PoolP0KIdeal.τ).loc Cert.PoolP0KIdeal.main_arg1)
      ∧ r.2.mem ((c.tc : Thread Cert.PoolP0KIdeal.nD Cert.PoolP0KIdeal.τ).loc Cert.PoolP0KIdeal.main_arg2) = m ((c.tc : Thread Cert.PoolP0KIdeal.nD Cert.PoolP0KIdeal.τ).loc Cert.PoolP0KIdeal.main_arg2)
      ∧ r.2.mem ((c.tc : Thread Cert.PoolP0KIdeal.nD Cert.PoolP0KIdeal.τ).loc Cert.PoolP0KIdeal.main_arg3) = m ((c.tc : Thread Cert.PoolP0KIdeal.nD Cert.PoolP0KIdeal.τ).loc Cert.PoolP0KIdeal.main_arg3))
      ∧ r.2.sem = fun _ => 0)

def quiescent_PoolP0RIdeal [hPoolP0RIdeal : Cert.PoolP0RIdeal.Facts] : Prop :=
  ∀ (m : (ℓ : Loc Cert.PoolP0RIdeal.nD Cert.PoolP0RIdeal.τ Cert.PoolP0RIdeal.sig) → Buf (Elt Ideal) ℓ) (g : Dev Cert.PoolP0RIdeal.nD → PrngReg), Pre_PoolP0RIdeal m →
    θ_run (Cert.PoolP0RIdeal.defs (F := Ideal)) (onTc (τ := Cert.PoolP0RIdeal.τ) (Cert.PoolP0RIdeal.main (F := Ideal))) ⟨m, fun _ => 0, g⟩ (fun r => (∀ c : Dev Cert.PoolP0RIdeal.nD,
      r.2.mem ((c.tc : Thread Cert.PoolP0RIdeal.nD Cert.PoolP0RIdeal.τ).loc Cert.PoolP0RIdeal.main_arg0) = m ((c.tc : Thread Cert.PoolP0RIdeal.nD Cert.PoolP0RIdeal.τ).loc Cert.PoolP0RIdeal.main_arg0)
      ∧ r.2.mem ((c.tc : Thread Cert.PoolP0RIdeal.nD Cert.PoolP0RIdeal.τ).loc Cert.PoolP0RIdeal.main_arg1) = m ((c.tc : Thread Cert.PoolP0RIdeal.nD Cert.PoolP0RIdeal.τ).loc Cert.PoolP0RIdeal.main_arg1)
      ∧ r.2.mem ((c.tc : Thread Cert.PoolP0RIdeal.nD Cert.PoolP0RIdeal.τ).loc Cert.PoolP0RIdeal.main_arg2) = m ((c.tc : Thread Cert.PoolP0RIdeal.nD Cert.PoolP0RIdeal.τ).loc Cert.PoolP0RIdeal.main_arg2)
      ∧ r.2.mem ((c.tc : Thread Cert.PoolP0RIdeal.nD Cert.PoolP0RIdeal.τ).loc Cert.PoolP0RIdeal.main_arg3) = m ((c.tc : Thread Cert.PoolP0RIdeal.nD Cert.PoolP0RIdeal.τ).loc Cert.PoolP0RIdeal.main_arg3))
      ∧ r.2.sem = fun _ => 0)

def quiescent_PoolP0RIdeal_pre_poolp0_finite [hPoolP0RIdeal : Cert.PoolP0RIdeal.Facts] [hPre_poolp0_finite : Cert.Pre_poolp0_finite.Facts] : Prop :=
  ∀ (m : (ℓ : Loc Cert.PoolP0RIdeal.nD Cert.PoolP0RIdeal.τ Cert.PoolP0RIdeal.sig) → Buf (Elt Ideal) ℓ) (g : Dev Cert.PoolP0RIdeal.nD → PrngReg), Pre_PoolP0RIdeal_poolp0_finite m →
    θ_run (Cert.PoolP0RIdeal.defs (F := Ideal)) (onTc (τ := Cert.PoolP0RIdeal.τ) (Cert.PoolP0RIdeal.main (F := Ideal))) ⟨m, fun _ => 0, g⟩ (fun r => (∀ c : Dev Cert.PoolP0RIdeal.nD,
      r.2.mem ((c.tc : Thread Cert.PoolP0RIdeal.nD Cert.PoolP0RIdeal.τ).loc Cert.PoolP0RIdeal.main_arg0) = m ((c.tc : Thread Cert.PoolP0RIdeal.nD Cert.PoolP0RIdeal.τ).loc Cert.PoolP0RIdeal.main_arg0)
      ∧ r.2.mem ((c.tc : Thread Cert.PoolP0RIdeal.nD Cert.PoolP0RIdeal.τ).loc Cert.PoolP0RIdeal.main_arg1) = m ((c.tc : Thread Cert.PoolP0RIdeal.nD Cert.PoolP0RIdeal.τ).loc Cert.PoolP0RIdeal.main_arg1)
      ∧ r.2.mem ((c.tc : Thread Cert.PoolP0RIdeal.nD Cert.PoolP0RIdeal.τ).loc Cert.PoolP0RIdeal.main_arg2) = m ((c.tc : Thread Cert.PoolP0RIdeal.nD Cert.PoolP0RIdeal.τ).loc Cert.PoolP0RIdeal.main_arg2)
      ∧ r.2.mem ((c.tc : Thread Cert.PoolP0RIdeal.nD Cert.PoolP0RIdeal.τ).loc Cert.PoolP0RIdeal.main_arg3) = m ((c.tc : Thread Cert.PoolP0RIdeal.nD Cert.PoolP0RIdeal.τ).loc Cert.PoolP0RIdeal.main_arg3))
      ∧ r.2.sem = fun _ => 0)

def quiescent_ConvFK [hConvFK : Cert.ConvFK.Facts] : Prop :=
  ∀ (m : (ℓ : Loc Cert.ConvFK.nD Cert.ConvFK.τ Cert.ConvFK.sig) → Buf (Elt Bits) ℓ) (g : Dev Cert.ConvFK.nD → PrngReg), Pre_ConvFK m →
    θ_run (Cert.ConvFK.defs (F := Bits)) (onTc (τ := Cert.ConvFK.τ) (Cert.ConvFK.main (F := Bits))) ⟨m, fun _ => 0, g⟩ (fun r => (∀ c : Dev Cert.ConvFK.nD,
      r.2.mem ((c.tc : Thread Cert.ConvFK.nD Cert.ConvFK.τ).loc Cert.ConvFK.main_arg0) = m ((c.tc : Thread Cert.ConvFK.nD Cert.ConvFK.τ).loc Cert.ConvFK.main_arg0)
      ∧ r.2.mem ((c.tc : Thread Cert.ConvFK.nD Cert.ConvFK.τ).loc Cert.ConvFK.main_arg1) = m ((c.tc : Thread Cert.ConvFK.nD Cert.ConvFK.τ).loc Cert.ConvFK.main_arg1)
      ∧ r.2.mem ((c.tc : Thread Cert.ConvFK.nD Cert.ConvFK.τ).loc Cert.ConvFK.main_arg2) = m ((c.tc : Thread Cert.ConvFK.nD Cert.ConvFK.τ).loc Cert.ConvFK.main_arg2))
      ∧ r.2.sem = fun _ => 0)

def quiescent_ConvFKIdeal [hConvFKIdeal : Cert.ConvFKIdeal.Facts] : Prop :=
  ∀ (m : (ℓ : Loc Cert.ConvFKIdeal.nD Cert.ConvFKIdeal.τ Cert.ConvFKIdeal.sig) → Buf (Elt Ideal) ℓ) (g : Dev Cert.ConvFKIdeal.nD → PrngReg), Pre_ConvFKIdeal m →
    θ_run (Cert.ConvFKIdeal.defs (F := Ideal)) (onTc (τ := Cert.ConvFKIdeal.τ) (Cert.ConvFKIdeal.main (F := Ideal))) ⟨m, fun _ => 0, g⟩ (fun r => (∀ c : Dev Cert.ConvFKIdeal.nD,
      r.2.mem ((c.tc : Thread Cert.ConvFKIdeal.nD Cert.ConvFKIdeal.τ).loc Cert.ConvFKIdeal.main_arg0) = m ((c.tc : Thread Cert.ConvFKIdeal.nD Cert.ConvFKIdeal.τ).loc Cert.ConvFKIdeal.main_arg0)
      ∧ r.2.mem ((c.tc : Thread Cert.ConvFKIdeal.nD Cert.ConvFKIdeal.τ).loc Cert.ConvFKIdeal.main_arg1) = m ((c.tc : Thread Cert.ConvFKIdeal.nD Cert.ConvFKIdeal.τ).loc Cert.ConvFKIdeal.main_arg1)
      ∧ r.2.mem ((c.tc : Thread Cert.ConvFKIdeal.nD Cert.ConvFKIdeal.τ).loc Cert.ConvFKIdeal.main_arg2) = m ((c.tc : Thread Cert.ConvFKIdeal.nD Cert.ConvFKIdeal.τ).loc Cert.ConvFKIdeal.main_arg2))
      ∧ r.2.sem = fun _ => 0)

def quiescent_ConvFRIdeal [hConvFRIdeal : Cert.ConvFRIdeal.Facts] : Prop :=
  ∀ (m : (ℓ : Loc Cert.ConvFRIdeal.nD Cert.ConvFRIdeal.τ Cert.ConvFRIdeal.sig) → Buf (Elt Ideal) ℓ) (g : Dev Cert.ConvFRIdeal.nD → PrngReg), Pre_ConvFRIdeal m →
    θ_run (Cert.ConvFRIdeal.defs (F := Ideal)) (onTc (τ := Cert.ConvFRIdeal.τ) (Cert.ConvFRIdeal.main (F := Ideal))) ⟨m, fun _ => 0, g⟩ (fun r => (∀ c : Dev Cert.ConvFRIdeal.nD,
      r.2.mem ((c.tc : Thread Cert.ConvFRIdeal.nD Cert.ConvFRIdeal.τ).loc Cert.ConvFRIdeal.main_arg0) = m ((c.tc : Thread Cert.ConvFRIdeal.nD Cert.ConvFRIdeal.τ).loc Cert.ConvFRIdeal.main_arg0)
      ∧ r.2.mem ((c.tc : Thread Cert.ConvFRIdeal.nD Cert.ConvFRIdeal.τ).loc Cert.ConvFRIdeal.main_arg1) = m ((c.tc : Thread Cert.ConvFRIdeal.nD Cert.ConvFRIdeal.τ).loc Cert.ConvFRIdeal.main_arg1)
      ∧ r.2.mem ((c.tc : Thread Cert.ConvFRIdeal.nD Cert.ConvFRIdeal.τ).loc Cert.ConvFRIdeal.main_arg2) = m ((c.tc : Thread Cert.ConvFRIdeal.nD Cert.ConvFRIdeal.τ).loc Cert.ConvFRIdeal.main_arg2))
      ∧ r.2.sem = fun _ => 0)

def quiescent_ResidK [hResidK : Cert.ResidK.Facts] : Prop :=
  ∀ (m : (ℓ : Loc Cert.ResidK.nD Cert.ResidK.τ Cert.ResidK.sig) → Buf (Elt Bits) ℓ) (g : Dev Cert.ResidK.nD → PrngReg), Pre_ResidK m →
    θ_run (Cert.ResidK.defs (F := Bits)) (onTc (τ := Cert.ResidK.τ) (Cert.ResidK.main (F := Bits))) ⟨m, fun _ => 0, g⟩ (fun r => (∀ c : Dev Cert.ResidK.nD,
      r.2.mem ((c.tc : Thread Cert.ResidK.nD Cert.ResidK.τ).loc Cert.ResidK.main_arg0) = m ((c.tc : Thread Cert.ResidK.nD Cert.ResidK.τ).loc Cert.ResidK.main_arg0)
      ∧ r.2.mem ((c.tc : Thread Cert.ResidK.nD Cert.ResidK.τ).loc Cert.ResidK.main_arg1) = m ((c.tc : Thread Cert.ResidK.nD Cert.ResidK.τ).loc Cert.ResidK.main_arg1)
      ∧ r.2.mem ((c.tc : Thread Cert.ResidK.nD Cert.ResidK.τ).loc Cert.ResidK.main_arg2) = m ((c.tc : Thread Cert.ResidK.nD Cert.ResidK.τ).loc Cert.ResidK.main_arg2)
      ∧ r.2.mem ((c.tc : Thread Cert.ResidK.nD Cert.ResidK.τ).loc Cert.ResidK.main_arg3) = m ((c.tc : Thread Cert.ResidK.nD Cert.ResidK.τ).loc Cert.ResidK.main_arg3))
      ∧ r.2.sem = fun _ => 0)

def quiescent_ResidKIdeal [hResidKIdeal : Cert.ResidKIdeal.Facts] : Prop :=
  ∀ (m : (ℓ : Loc Cert.ResidKIdeal.nD Cert.ResidKIdeal.τ Cert.ResidKIdeal.sig) → Buf (Elt Ideal) ℓ) (g : Dev Cert.ResidKIdeal.nD → PrngReg), Pre_ResidKIdeal m →
    θ_run (Cert.ResidKIdeal.defs (F := Ideal)) (onTc (τ := Cert.ResidKIdeal.τ) (Cert.ResidKIdeal.main (F := Ideal))) ⟨m, fun _ => 0, g⟩ (fun r => (∀ c : Dev Cert.ResidKIdeal.nD,
      r.2.mem ((c.tc : Thread Cert.ResidKIdeal.nD Cert.ResidKIdeal.τ).loc Cert.ResidKIdeal.main_arg0) = m ((c.tc : Thread Cert.ResidKIdeal.nD Cert.ResidKIdeal.τ).loc Cert.ResidKIdeal.main_arg0)
      ∧ r.2.mem ((c.tc : Thread Cert.ResidKIdeal.nD Cert.ResidKIdeal.τ).loc Cert.ResidKIdeal.main_arg1) = m ((c.tc : Thread Cert.ResidKIdeal.nD Cert.ResidKIdeal.τ).loc Cert.ResidKIdeal.main_arg1)
      ∧ r.2.mem ((c.tc : Thread Cert.ResidKIdeal.nD Cert.ResidKIdeal.τ).loc Cert.ResidKIdeal.main_arg2) = m ((c.tc : Thread Cert.ResidKIdeal.nD Cert.ResidKIdeal.τ).loc Cert.ResidKIdeal.main_arg2)
      ∧ r.2.mem ((c.tc : Thread Cert.ResidKIdeal.nD Cert.ResidKIdeal.τ).loc Cert.ResidKIdeal.main_arg3) = m ((c.tc : Thread Cert.ResidKIdeal.nD Cert.ResidKIdeal.τ).loc Cert.ResidKIdeal.main_arg3))
      ∧ r.2.sem = fun _ => 0)

def quiescent_ResidRIdeal [hResidRIdeal : Cert.ResidRIdeal.Facts] : Prop :=
  ∀ (m : (ℓ : Loc Cert.ResidRIdeal.nD Cert.ResidRIdeal.τ Cert.ResidRIdeal.sig) → Buf (Elt Ideal) ℓ) (g : Dev Cert.ResidRIdeal.nD → PrngReg), Pre_ResidRIdeal m →
    θ_run (Cert.ResidRIdeal.defs (F := Ideal)) (onTc (τ := Cert.ResidRIdeal.τ) (Cert.ResidRIdeal.main (F := Ideal))) ⟨m, fun _ => 0, g⟩ (fun r => (∀ c : Dev Cert.ResidRIdeal.nD,
      r.2.mem ((c.tc : Thread Cert.ResidRIdeal.nD Cert.ResidRIdeal.τ).loc Cert.ResidRIdeal.main_arg0) = m ((c.tc : Thread Cert.ResidRIdeal.nD Cert.ResidRIdeal.τ).loc Cert.ResidRIdeal.main_arg0)
      ∧ r.2.mem ((c.tc : Thread Cert.ResidRIdeal.nD Cert.ResidRIdeal.τ).loc Cert.ResidRIdeal.main_arg1) = m ((c.tc : Thread Cert.ResidRIdeal.nD Cert.ResidRIdeal.τ).loc Cert.ResidRIdeal.main_arg1)
      ∧ r.2.mem ((c.tc : Thread Cert.ResidRIdeal.nD Cert.ResidRIdeal.τ).loc Cert.ResidRIdeal.main_arg2) = m ((c.tc : Thread Cert.ResidRIdeal.nD Cert.ResidRIdeal.τ).loc Cert.ResidRIdeal.main_arg2)
      ∧ r.2.mem ((c.tc : Thread Cert.ResidRIdeal.nD Cert.ResidRIdeal.τ).loc Cert.ResidRIdeal.main_arg3) = m ((c.tc : Thread Cert.ResidRIdeal.nD Cert.ResidRIdeal.τ).loc Cert.ResidRIdeal.main_arg3))
      ∧ r.2.sem = fun _ => 0)

def quiescent_Resid2K [hResid2K : Cert.Resid2K.Facts] : Prop :=
  ∀ (m : (ℓ : Loc Cert.Resid2K.nD Cert.Resid2K.τ Cert.Resid2K.sig) → Buf (Elt Bits) ℓ) (g : Dev Cert.Resid2K.nD → PrngReg), Pre_Resid2K m →
    θ_run (Cert.Resid2K.defs (F := Bits)) (onTc (τ := Cert.Resid2K.τ) (Cert.Resid2K.main (F := Bits))) ⟨m, fun _ => 0, g⟩ (fun r => (∀ c : Dev Cert.Resid2K.nD,
      r.2.mem ((c.tc : Thread Cert.Resid2K.nD Cert.Resid2K.τ).loc Cert.Resid2K.main_arg0) = m ((c.tc : Thread Cert.Resid2K.nD Cert.Resid2K.τ).loc Cert.Resid2K.main_arg0)
      ∧ r.2.mem ((c.tc : Thread Cert.Resid2K.nD Cert.Resid2K.τ).loc Cert.Resid2K.main_arg1) = m ((c.tc : Thread Cert.Resid2K.nD Cert.Resid2K.τ).loc Cert.Resid2K.main_arg1)
      ∧ r.2.mem ((c.tc : Thread Cert.Resid2K.nD Cert.Resid2K.τ).loc Cert.Resid2K.main_arg2) = m ((c.tc : Thread Cert.Resid2K.nD Cert.Resid2K.τ).loc Cert.Resid2K.main_arg2)
      ∧ r.2.mem ((c.tc : Thread Cert.Resid2K.nD Cert.Resid2K.τ).loc Cert.Resid2K.main_arg3) = m ((c.tc : Thread Cert.Resid2K.nD Cert.Resid2K.τ).loc Cert.Resid2K.main_arg3)
      ∧ r.2.mem ((c.tc : Thread Cert.Resid2K.nD Cert.Resid2K.τ).loc Cert.Resid2K.main_arg4) = m ((c.tc : Thread Cert.Resid2K.nD Cert.Resid2K.τ).loc Cert.Resid2K.main_arg4))
      ∧ r.2.sem = fun _ => 0)

def quiescent_Resid2KIdeal [hResid2KIdeal : Cert.Resid2KIdeal.Facts] : Prop :=
  ∀ (m : (ℓ : Loc Cert.Resid2KIdeal.nD Cert.Resid2KIdeal.τ Cert.Resid2KIdeal.sig) → Buf (Elt Ideal) ℓ) (g : Dev Cert.Resid2KIdeal.nD → PrngReg), Pre_Resid2KIdeal m →
    θ_run (Cert.Resid2KIdeal.defs (F := Ideal)) (onTc (τ := Cert.Resid2KIdeal.τ) (Cert.Resid2KIdeal.main (F := Ideal))) ⟨m, fun _ => 0, g⟩ (fun r => (∀ c : Dev Cert.Resid2KIdeal.nD,
      r.2.mem ((c.tc : Thread Cert.Resid2KIdeal.nD Cert.Resid2KIdeal.τ).loc Cert.Resid2KIdeal.main_arg0) = m ((c.tc : Thread Cert.Resid2KIdeal.nD Cert.Resid2KIdeal.τ).loc Cert.Resid2KIdeal.main_arg0)
      ∧ r.2.mem ((c.tc : Thread Cert.Resid2KIdeal.nD Cert.Resid2KIdeal.τ).loc Cert.Resid2KIdeal.main_arg1) = m ((c.tc : Thread Cert.Resid2KIdeal.nD Cert.Resid2KIdeal.τ).loc Cert.Resid2KIdeal.main_arg1)
      ∧ r.2.mem ((c.tc : Thread Cert.Resid2KIdeal.nD Cert.Resid2KIdeal.τ).loc Cert.Resid2KIdeal.main_arg2) = m ((c.tc : Thread Cert.Resid2KIdeal.nD Cert.Resid2KIdeal.τ).loc Cert.Resid2KIdeal.main_arg2)
      ∧ r.2.mem ((c.tc : Thread Cert.Resid2KIdeal.nD Cert.Resid2KIdeal.τ).loc Cert.Resid2KIdeal.main_arg3) = m ((c.tc : Thread Cert.Resid2KIdeal.nD Cert.Resid2KIdeal.τ).loc Cert.Resid2KIdeal.main_arg3)
      ∧ r.2.mem ((c.tc : Thread Cert.Resid2KIdeal.nD Cert.Resid2KIdeal.τ).loc Cert.Resid2KIdeal.main_arg4) = m ((c.tc : Thread Cert.Resid2KIdeal.nD Cert.Resid2KIdeal.τ).loc Cert.Resid2KIdeal.main_arg4))
      ∧ r.2.sem = fun _ => 0)

def quiescent_Resid2RIdeal [hResid2RIdeal : Cert.Resid2RIdeal.Facts] : Prop :=
  ∀ (m : (ℓ : Loc Cert.Resid2RIdeal.nD Cert.Resid2RIdeal.τ Cert.Resid2RIdeal.sig) → Buf (Elt Ideal) ℓ) (g : Dev Cert.Resid2RIdeal.nD → PrngReg), Pre_Resid2RIdeal m →
    θ_run (Cert.Resid2RIdeal.defs (F := Ideal)) (onTc (τ := Cert.Resid2RIdeal.τ) (Cert.Resid2RIdeal.main (F := Ideal))) ⟨m, fun _ => 0, g⟩ (fun r => (∀ c : Dev Cert.Resid2RIdeal.nD,
      r.2.mem ((c.tc : Thread Cert.Resid2RIdeal.nD Cert.Resid2RIdeal.τ).loc Cert.Resid2RIdeal.main_arg0) = m ((c.tc : Thread Cert.Resid2RIdeal.nD Cert.Resid2RIdeal.τ).loc Cert.Resid2RIdeal.main_arg0)
      ∧ r.2.mem ((c.tc : Thread Cert.Resid2RIdeal.nD Cert.Resid2RIdeal.τ).loc Cert.Resid2RIdeal.main_arg1) = m ((c.tc : Thread Cert.Resid2RIdeal.nD Cert.Resid2RIdeal.τ).loc Cert.Resid2RIdeal.main_arg1)
      ∧ r.2.mem ((c.tc : Thread Cert.Resid2RIdeal.nD Cert.Resid2RIdeal.τ).loc Cert.Resid2RIdeal.main_arg2) = m ((c.tc : Thread Cert.Resid2RIdeal.nD Cert.Resid2RIdeal.τ).loc Cert.Resid2RIdeal.main_arg2)
      ∧ r.2.mem ((c.tc : Thread Cert.Resid2RIdeal.nD Cert.Resid2RIdeal.τ).loc Cert.Resid2RIdeal.main_arg3) = m ((c.tc : Thread Cert.Resid2RIdeal.nD Cert.Resid2RIdeal.τ).loc Cert.Resid2RIdeal.main_arg3)
      ∧ r.2.mem ((c.tc : Thread Cert.Resid2RIdeal.nD Cert.Resid2RIdeal.τ).loc Cert.Resid2RIdeal.main_arg4) = m ((c.tc : Thread Cert.Resid2RIdeal.nD Cert.Resid2RIdeal.τ).loc Cert.Resid2RIdeal.main_arg4))
      ∧ r.2.sem = fun _ => 0)

def quiescent_NormFK [hNormFK : Cert.NormFK.Facts] : Prop :=
  ∀ (m : (ℓ : Loc Cert.NormFK.nD Cert.NormFK.τ Cert.NormFK.sig) → Buf (Elt Bits) ℓ) (g : Dev Cert.NormFK.nD → PrngReg), Pre_NormFK m →
    θ_run (Cert.NormFK.defs (F := Bits)) (onTc (τ := Cert.NormFK.τ) (Cert.NormFK.main (F := Bits))) ⟨m, fun _ => 0, g⟩ (fun r => (∀ c : Dev Cert.NormFK.nD,
      r.2.mem ((c.tc : Thread Cert.NormFK.nD Cert.NormFK.τ).loc Cert.NormFK.main_arg0) = m ((c.tc : Thread Cert.NormFK.nD Cert.NormFK.τ).loc Cert.NormFK.main_arg0)
      ∧ r.2.mem ((c.tc : Thread Cert.NormFK.nD Cert.NormFK.τ).loc Cert.NormFK.main_arg1) = m ((c.tc : Thread Cert.NormFK.nD Cert.NormFK.τ).loc Cert.NormFK.main_arg1)
      ∧ r.2.mem ((c.tc : Thread Cert.NormFK.nD Cert.NormFK.τ).loc Cert.NormFK.main_arg2) = m ((c.tc : Thread Cert.NormFK.nD Cert.NormFK.τ).loc Cert.NormFK.main_arg2)
      ∧ r.2.mem ((c.tc : Thread Cert.NormFK.nD Cert.NormFK.τ).loc Cert.NormFK.main_arg3) = m ((c.tc : Thread Cert.NormFK.nD Cert.NormFK.τ).loc Cert.NormFK.main_arg3)
      ∧ r.2.mem ((c.tc : Thread Cert.NormFK.nD Cert.NormFK.τ).loc Cert.NormFK.main_arg4) = m ((c.tc : Thread Cert.NormFK.nD Cert.NormFK.τ).loc Cert.NormFK.main_arg4))
      ∧ r.2.sem = fun _ => 0)

def quiescent_NormFKIdeal [hNormFKIdeal : Cert.NormFKIdeal.Facts] : Prop :=
  ∀ (m : (ℓ : Loc Cert.NormFKIdeal.nD Cert.NormFKIdeal.τ Cert.NormFKIdeal.sig) → Buf (Elt Ideal) ℓ) (g : Dev Cert.NormFKIdeal.nD → PrngReg), Pre_NormFKIdeal m →
    θ_run (Cert.NormFKIdeal.defs (F := Ideal)) (onTc (τ := Cert.NormFKIdeal.τ) (Cert.NormFKIdeal.main (F := Ideal))) ⟨m, fun _ => 0, g⟩ (fun r => (∀ c : Dev Cert.NormFKIdeal.nD,
      r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
      ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1)
      ∧ r.2.mem ((c.tc : Thread Cert.NormFKIdeal.nD Cert.NormFKIdeal.τ).loc Cert.NormFKIdeal.main_arg2) = m ((c.tc : Thread Cert.NormFKIdeal.nD Cert.NormFKIdeal.τ).loc Cert.NormFKIdeal.main_arg2)
      ∧ r.2.mem ((c.tc : Thread Cert.NormFKIdeal.nD Cert.NormFKIdeal.τ).loc Cert.NormFKIdeal.main_arg3) = m ((c.tc : Thread Cert.NormFKIdeal.nD Cert.NormFKIdeal.τ).loc Cert.NormFKIdeal.main_arg3)
      ∧ r.2.mem ((c.tc : Thread Cert.NormFKIdeal.nD Cert.NormFKIdeal.τ).loc Cert.NormFKIdeal.main_arg4) = m ((c.tc : Thread Cert.NormFKIdeal.nD Cert.NormFKIdeal.τ).loc Cert.NormFKIdeal.main_arg4))
      ∧ r.2.sem = fun _ => 0)

def quiescent_NormFRIdeal [hNormFRIdeal : Cert.NormFRIdeal.Facts] : Prop :=
  ∀ (m : (ℓ : Loc Cert.NormFRIdeal.nD Cert.NormFRIdeal.τ Cert.NormFRIdeal.sig) → Buf (Elt Ideal) ℓ) (g : Dev Cert.NormFRIdeal.nD → PrngReg), Pre_NormFRIdeal m →
    θ_run (Cert.NormFRIdeal.defs (F := Ideal)) (onTc (τ := Cert.NormFRIdeal.τ) (Cert.NormFRIdeal.main (F := Ideal))) ⟨m, fun _ => 0, g⟩ (fun r => (∀ c : Dev Cert.NormFRIdeal.nD,
      r.2.mem ((c.tc : Thread Cert.NormFRIdeal.nD Cert.NormFRIdeal.τ).loc Cert.NormFRIdeal.main_arg0) = m ((c.tc : Thread Cert.NormFRIdeal.nD Cert.NormFRIdeal.τ).loc Cert.NormFRIdeal.main_arg0)
      ∧ r.2.mem ((c.tc : Thread Cert.NormFRIdeal.nD Cert.NormFRIdeal.τ).loc Cert.NormFRIdeal.main_arg1) = m ((c.tc : Thread Cert.NormFRIdeal.nD Cert.NormFRIdeal.τ).loc Cert.NormFRIdeal.main_arg1)
      ∧ r.2.mem ((c.tc : Thread Cert.NormFRIdeal.nD Cert.NormFRIdeal.τ).loc Cert.NormFRIdeal.main_arg2) = m ((c.tc : Thread Cert.NormFRIdeal.nD Cert.NormFRIdeal.τ).loc Cert.NormFRIdeal.main_arg2)
      ∧ r.2.mem ((c.tc : Thread Cert.NormFRIdeal.nD Cert.NormFRIdeal.τ).loc Cert.NormFRIdeal.main_arg3) = m ((c.tc : Thread Cert.NormFRIdeal.nD Cert.NormFRIdeal.τ).loc Cert.NormFRIdeal.main_arg3)
      ∧ r.2.mem ((c.tc : Thread Cert.NormFRIdeal.nD Cert.NormFRIdeal.τ).loc Cert.NormFRIdeal.main_arg4) = m ((c.tc : Thread Cert.NormFRIdeal.nD Cert.NormFRIdeal.τ).loc Cert.NormFRIdeal.main_arg4))
      ∧ r.2.sem = fun _ => 0)

def quiescent_NormFNaK [hNormFNaK : Cert.NormFNaK.Facts] : Prop :=
  ∀ (m : (ℓ : Loc Cert.NormFNaK.nD Cert.NormFNaK.τ Cert.NormFNaK.sig) → Buf (Elt Bits) ℓ) (g : Dev Cert.NormFNaK.nD → PrngReg), Pre_NormFNaK m →
    θ_run (Cert.NormFNaK.defs (F := Bits)) (onTc (τ := Cert.NormFNaK.τ) (Cert.NormFNaK.main (F := Bits))) ⟨m, fun _ => 0, g⟩ (fun r => (∀ c : Dev Cert.NormFNaK.nD,
      r.2.mem ((c.tc : Thread Cert.NormFNaK.nD Cert.NormFNaK.τ).loc Cert.NormFNaK.main_arg0) = m ((c.tc : Thread Cert.NormFNaK.nD Cert.NormFNaK.τ).loc Cert.NormFNaK.main_arg0)
      ∧ r.2.mem ((c.tc : Thread Cert.NormFNaK.nD Cert.NormFNaK.τ).loc Cert.NormFNaK.main_arg1) = m ((c.tc : Thread Cert.NormFNaK.nD Cert.NormFNaK.τ).loc Cert.NormFNaK.main_arg1)
      ∧ r.2.mem ((c.tc : Thread Cert.NormFNaK.nD Cert.NormFNaK.τ).loc Cert.NormFNaK.main_arg2) = m ((c.tc : Thread Cert.NormFNaK.nD Cert.NormFNaK.τ).loc Cert.NormFNaK.main_arg2)
      ∧ r.2.mem ((c.tc : Thread Cert.NormFNaK.nD Cert.NormFNaK.τ).loc Cert.NormFNaK.main_arg3) = m ((c.tc : Thread Cert.NormFNaK.nD Cert.NormFNaK.τ).loc Cert.NormFNaK.main_arg3)
      ∧ r.2.mem ((c.tc : Thread Cert.NormFNaK.nD Cert.NormFNaK.τ).loc Cert.NormFNaK.main_arg4) = m ((c.tc : Thread Cert.NormFNaK.nD Cert.NormFNaK.τ).loc Cert.NormFNaK.main_arg4)
      ∧ r.2.mem ((c.tc : Thread Cert.NormFNaK.nD Cert.NormFNaK.τ).loc Cert.NormFNaK.main_arg5) = m ((c.tc : Thread Cert.NormFNaK.nD Cert.NormFNaK.τ).loc Cert.NormFNaK.main_arg5)
      ∧ r.2.mem ((c.tc : Thread Cert.NormFNaK.nD Cert.NormFNaK.τ).loc Cert.NormFNaK.main_arg6) = m ((c.tc : Thread Cert.NormFNaK.nD Cert.NormFNaK.τ).loc Cert.NormFNaK.main_arg6)
      ∧ r.2.mem ((c.tc : Thread Cert.NormFNaK.nD Cert.NormFNaK.τ).loc Cert.NormFNaK.main_arg7) = m ((c.tc : Thread Cert.NormFNaK.nD Cert.NormFNaK.τ).loc Cert.NormFNaK.main_arg7))
      ∧ r.2.sem = fun _ => 0)

def quiescent_NormFNaKIdeal [hNormFNaKIdeal : Cert.NormFNaKIdeal.Facts] : Prop :=
  ∀ (m : (ℓ : Loc Cert.NormFNaKIdeal.nD Cert.NormFNaKIdeal.τ Cert.NormFNaKIdeal.sig) → Buf (Elt Ideal) ℓ) (g : Dev Cert.NormFNaKIdeal.nD → PrngReg), Pre_NormFNaKIdeal m →
    θ_run (Cert.NormFNaKIdeal.defs (F := Ideal)) (onTc (τ := Cert.NormFNaKIdeal.τ) (Cert.NormFNaKIdeal.main (F := Ideal))) ⟨m, fun _ => 0, g⟩ (fun r => (∀ c : Dev Cert.NormFNaKIdeal.nD,
      r.2.mem ((c.tc : Thread Cert.NormFNaKIdeal.nD Cert.NormFNaKIdeal.τ).loc Cert.NormFNaKIdeal.main_arg0) = m ((c.tc : Thread Cert.NormFNaKIdeal.nD Cert.NormFNaKIdeal.τ).loc Cert.NormFNaKIdeal.main_arg0)
      ∧ r.2.mem ((c.tc : Thread Cert.NormFNaKIdeal.nD Cert.NormFNaKIdeal.τ).loc Cert.NormFNaKIdeal.main_arg1) = m ((c.tc : Thread Cert.NormFNaKIdeal.nD Cert.NormFNaKIdeal.τ).loc Cert.NormFNaKIdeal.main_arg1)
      ∧ r.2.mem ((c.tc : Thread Cert.NormFNaKIdeal.nD Cert.NormFNaKIdeal.τ).loc Cert.NormFNaKIdeal.main_arg2) = m ((c.tc : Thread Cert.NormFNaKIdeal.nD Cert.NormFNaKIdeal.τ).loc Cert.NormFNaKIdeal.main_arg2)
      ∧ r.2.mem ((c.tc : Thread Cert.NormFNaKIdeal.nD Cert.NormFNaKIdeal.τ).loc Cert.NormFNaKIdeal.main_arg3) = m ((c.tc : Thread Cert.NormFNaKIdeal.nD Cert.NormFNaKIdeal.τ).loc Cert.NormFNaKIdeal.main_arg3)
      ∧ r.2.mem ((c.tc : Thread Cert.NormFNaKIdeal.nD Cert.NormFNaKIdeal.τ).loc Cert.NormFNaKIdeal.main_arg4) = m ((c.tc : Thread Cert.NormFNaKIdeal.nD Cert.NormFNaKIdeal.τ).loc Cert.NormFNaKIdeal.main_arg4)
      ∧ r.2.mem ((c.tc : Thread Cert.NormFNaKIdeal.nD Cert.NormFNaKIdeal.τ).loc Cert.NormFNaKIdeal.main_arg5) = m ((c.tc : Thread Cert.NormFNaKIdeal.nD Cert.NormFNaKIdeal.τ).loc Cert.NormFNaKIdeal.main_arg5)
      ∧ r.2.mem ((c.tc : Thread Cert.NormFNaKIdeal.nD Cert.NormFNaKIdeal.τ).loc Cert.NormFNaKIdeal.main_arg6) = m ((c.tc : Thread Cert.NormFNaKIdeal.nD Cert.NormFNaKIdeal.τ).loc Cert.NormFNaKIdeal.main_arg6)
      ∧ r.2.mem ((c.tc : Thread Cert.NormFNaKIdeal.nD Cert.NormFNaKIdeal.τ).loc Cert.NormFNaKIdeal.main_arg7) = m ((c.tc : Thread Cert.NormFNaKIdeal.nD Cert.NormFNaKIdeal.τ).loc Cert.NormFNaKIdeal.main_arg7))
      ∧ r.2.sem = fun _ => 0)

def quiescent_NormFNaRIdeal [hNormFNaRIdeal : Cert.NormFNaRIdeal.Facts] : Prop :=
  ∀ (m : (ℓ : Loc Cert.NormFNaRIdeal.nD Cert.NormFNaRIdeal.τ Cert.NormFNaRIdeal.sig) → Buf (Elt Ideal) ℓ) (g : Dev Cert.NormFNaRIdeal.nD → PrngReg), Pre_NormFNaRIdeal m →
    θ_run (Cert.NormFNaRIdeal.defs (F := Ideal)) (onTc (τ := Cert.NormFNaRIdeal.τ) (Cert.NormFNaRIdeal.main (F := Ideal))) ⟨m, fun _ => 0, g⟩ (fun r => (∀ c : Dev Cert.NormFNaRIdeal.nD,
      r.2.mem ((c.tc : Thread Cert.NormFNaRIdeal.nD Cert.NormFNaRIdeal.τ).loc Cert.NormFNaRIdeal.main_arg0) = m ((c.tc : Thread Cert.NormFNaRIdeal.nD Cert.NormFNaRIdeal.τ).loc Cert.NormFNaRIdeal.main_arg0)
      ∧ r.2.mem ((c.tc : Thread Cert.NormFNaRIdeal.nD Cert.NormFNaRIdeal.τ).loc Cert.NormFNaRIdeal.main_arg1) = m ((c.tc : Thread Cert.NormFNaRIdeal.nD Cert.NormFNaRIdeal.τ).loc Cert.NormFNaRIdeal.main_arg1)
      ∧ r.2.mem ((c.tc : Thread Cert.NormFNaRIdeal.nD Cert.NormFNaRIdeal.τ).loc Cert.NormFNaRIdeal.main_arg2) = m ((c.tc : Thread Cert.NormFNaRIdeal.nD Cert.NormFNaRIdeal.τ).loc Cert.NormFNaRIdeal.main_arg2)
      ∧ r.2.mem ((c.tc : Thread Cert.NormFNaRIdeal.nD Cert.NormFNaRIdeal.τ).loc Cert.NormFNaRIdeal.main_arg3) = m ((c.tc : Thread Cert.NormFNaRIdeal.nD Cert.NormFNaRIdeal.τ).loc Cert.NormFNaRIdeal.main_arg3)
      ∧ r.2.mem ((c.tc : Thread Cert.NormFNaRIdeal.nD Cert.NormFNaRIdeal.τ).loc Cert.NormFNaRIdeal.main_arg4) = m ((c.tc : Thread Cert.NormFNaRIdeal.nD Cert.NormFNaRIdeal.τ).loc Cert.NormFNaRIdeal.main_arg4)
      ∧ r.2.mem ((c.tc : Thread Cert.NormFNaRIdeal.nD Cert.NormFNaRIdeal.τ).loc Cert.NormFNaRIdeal.main_arg5) = m ((c.tc : Thread Cert.NormFNaRIdeal.nD Cert.NormFNaRIdeal.τ).loc Cert.NormFNaRIdeal.main_arg5)
      ∧ r.2.mem ((c.tc : Thread Cert.NormFNaRIdeal.nD Cert.NormFNaRIdeal.τ).loc Cert.NormFNaRIdeal.main_arg6) = m ((c.tc : Thread Cert.NormFNaRIdeal.nD Cert.NormFNaRIdeal.τ).loc Cert.NormFNaRIdeal.main_arg6)
      ∧ r.2.mem ((c.tc : Thread Cert.NormFNaRIdeal.nD Cert.NormFNaRIdeal.τ).loc Cert.NormFNaRIdeal.main_arg7) = m ((c.tc : Thread Cert.NormFNaRIdeal.nD Cert.NormFNaRIdeal.τ).loc Cert.NormFNaRIdeal.main_arg7))
      ∧ r.2.sem = fun _ => 0)

def quiescent_NormFP0K [hNormFP0K : Cert.NormFP0K.Facts] : Prop :=
  ∀ (m : (ℓ : Loc Cert.NormFP0K.nD Cert.NormFP0K.τ Cert.NormFP0K.sig) → Buf (Elt Bits) ℓ) (g : Dev Cert.NormFP0K.nD → PrngReg), Pre_NormFP0K m →
    θ_run (Cert.NormFP0K.defs (F := Bits)) (onTc (τ := Cert.NormFP0K.τ) (Cert.NormFP0K.main (F := Bits))) ⟨m, fun _ => 0, g⟩ (fun r => (∀ c : Dev Cert.NormFP0K.nD,
      r.2.mem ((c.tc : Thread Cert.NormFP0K.nD Cert.NormFP0K.τ).loc Cert.NormFP0K.main_arg0) = m ((c.tc : Thread Cert.NormFP0K.nD Cert.NormFP0K.τ).loc Cert.NormFP0K.main_arg0)
      ∧ r.2.mem ((c.tc : Thread Cert.NormFP0K.nD Cert.NormFP0K.τ).loc Cert.NormFP0K.main_arg1) = m ((c.tc : Thread Cert.NormFP0K.nD Cert.NormFP0K.τ).loc Cert.NormFP0K.main_arg1)
      ∧ r.2.mem ((c.tc : Thread Cert.NormFP0K.nD Cert.NormFP0K.τ).loc Cert.NormFP0K.main_arg2) = m ((c.tc : Thread Cert.NormFP0K.nD Cert.NormFP0K.τ).loc Cert.NormFP0K.main_arg2)
      ∧ r.2.mem ((c.tc : Thread Cert.NormFP0K.nD Cert.NormFP0K.τ).loc Cert.NormFP0K.main_arg3) = m ((c.tc : Thread Cert.NormFP0K.nD Cert.NormFP0K.τ).loc Cert.NormFP0K.main_arg3)
      ∧ r.2.mem ((c.tc : Thread Cert.NormFP0K.nD Cert.NormFP0K.τ).loc Cert.NormFP0K.main_arg4) = m ((c.tc : Thread Cert.NormFP0K.nD Cert.NormFP0K.τ).loc Cert.NormFP0K.main_arg4)
      ∧ r.2.mem ((c.tc : Thread Cert.NormFP0K.nD Cert.NormFP0K.τ).loc Cert.NormFP0K.main_arg5) = m ((c.tc : Thread Cert.NormFP0K.nD Cert.NormFP0K.τ).loc Cert.NormFP0K.main_arg5)
      ∧ r.2.mem ((c.tc : Thread Cert.NormFP0K.nD Cert.NormFP0K.τ).loc Cert.NormFP0K.main_arg6) = m ((c.tc : Thread Cert.NormFP0K.nD Cert.NormFP0K.τ).loc Cert.NormFP0K.main_arg6)
      ∧ r.2.mem ((c.tc : Thread Cert.NormFP0K.nD Cert.NormFP0K.τ).loc Cert.NormFP0K.main_arg7) = m ((c.tc : Thread Cert.NormFP0K.nD Cert.NormFP0K.τ).loc Cert.NormFP0K.main_arg7))
      ∧ r.2.sem = fun _ => 0)

def quiescent_NormFP0KIdeal [hNormFP0KIdeal : Cert.NormFP0KIdeal.Facts] : Prop :=
  ∀ (m : (ℓ : Loc Cert.NormFP0KIdeal.nD Cert.NormFP0KIdeal.τ Cert.NormFP0KIdeal.sig) → Buf (Elt Ideal) ℓ) (g : Dev Cert.NormFP0KIdeal.nD → PrngReg), Pre_NormFP0KIdeal m →
    θ_run (Cert.NormFP0KIdeal.defs (F := Ideal)) (onTc (τ := Cert.NormFP0KIdeal.τ) (Cert.NormFP0KIdeal.main (F := Ideal))) ⟨m, fun _ => 0, g⟩ (fun r => (∀ c : Dev Cert.NormFP0KIdeal.nD,
      r.2.mem ((c.tc : Thread Cert.NormFP0KIdeal.nD Cert.NormFP0KIdeal.τ).loc Cert.NormFP0KIdeal.main_arg0) = m ((c.tc : Thread Cert.NormFP0KIdeal.nD Cert.NormFP0KIdeal.τ).loc Cert.NormFP0KIdeal.main_arg0)
      ∧ r.2.mem ((c.tc : Thread Cert.NormFP0KIdeal.nD Cert.NormFP0KIdeal.τ).loc Cert.NormFP0KIdeal.main_arg1) = m ((c.tc : Thread Cert.NormFP0KIdeal.nD Cert.NormFP0KIdeal.τ).loc Cert.NormFP0KIdeal.main_arg1)
      ∧ r.2.mem ((c.tc : Thread Cert.NormFP0KIdeal.nD Cert.NormFP0KIdeal.τ).loc Cert.NormFP0KIdeal.main_arg2) = m ((c.tc : Thread Cert.NormFP0KIdeal.nD Cert.NormFP0KIdeal.τ).loc Cert.NormFP0KIdeal.main_arg2)
      ∧ r.2.mem ((c.tc : Thread Cert.NormFP0KIdeal.nD Cert.NormFP0KIdeal.τ).loc Cert.NormFP0KIdeal.main_arg3) = m ((c.tc : Thread Cert.NormFP0KIdeal.nD Cert.NormFP0KIdeal.τ).loc Cert.NormFP0KIdeal.main_arg3)
      ∧ r.2.mem ((c.tc : Thread Cert.NormFP0KIdeal.nD Cert.NormFP0KIdeal.τ).loc Cert.NormFP0KIdeal.main_arg4) = m ((c.tc : Thread Cert.NormFP0KIdeal.nD Cert.NormFP0KIdeal.τ).loc Cert.NormFP0KIdeal.main_arg4)
      ∧ r.2.mem ((c.tc : Thread Cert.NormFP0KIdeal.nD Cert.NormFP0KIdeal.τ).loc Cert.NormFP0KIdeal.main_arg5) = m ((c.tc : Thread Cert.NormFP0KIdeal.nD Cert.NormFP0KIdeal.τ).loc Cert.NormFP0KIdeal.main_arg5)
      ∧ r.2.mem ((c.tc : Thread Cert.NormFP0KIdeal.nD Cert.NormFP0KIdeal.τ).loc Cert.NormFP0KIdeal.main_arg6) = m ((c.tc : Thread Cert.NormFP0KIdeal.nD Cert.NormFP0KIdeal.τ).loc Cert.NormFP0KIdeal.main_arg6)
      ∧ r.2.mem ((c.tc : Thread Cert.NormFP0KIdeal.nD Cert.NormFP0KIdeal.τ).loc Cert.NormFP0KIdeal.main_arg7) = m ((c.tc : Thread Cert.NormFP0KIdeal.nD Cert.NormFP0KIdeal.τ).loc Cert.NormFP0KIdeal.main_arg7))
      ∧ r.2.sem = fun _ => 0)

def quiescent_NormFP0RIdeal [hNormFP0RIdeal : Cert.NormFP0RIdeal.Facts] : Prop :=
  ∀ (m : (ℓ : Loc Cert.NormFP0RIdeal.nD Cert.NormFP0RIdeal.τ Cert.NormFP0RIdeal.sig) → Buf (Elt Ideal) ℓ) (g : Dev Cert.NormFP0RIdeal.nD → PrngReg), Pre_NormFP0RIdeal m →
    θ_run (Cert.NormFP0RIdeal.defs (F := Ideal)) (onTc (τ := Cert.NormFP0RIdeal.τ) (Cert.NormFP0RIdeal.main (F := Ideal))) ⟨m, fun _ => 0, g⟩ (fun r => (∀ c : Dev Cert.NormFP0RIdeal.nD,
      r.2.mem ((c.tc : Thread Cert.NormFP0RIdeal.nD Cert.NormFP0RIdeal.τ).loc Cert.NormFP0RIdeal.main_arg0) = m ((c.tc : Thread Cert.NormFP0RIdeal.nD Cert.NormFP0RIdeal.τ).loc Cert.NormFP0RIdeal.main_arg0)
      ∧ r.2.mem ((c.tc : Thread Cert.NormFP0RIdeal.nD Cert.NormFP0RIdeal.τ).loc Cert.NormFP0RIdeal.main_arg1) = m ((c.tc : Thread Cert.NormFP0RIdeal.nD Cert.NormFP0RIdeal.τ).loc Cert.NormFP0RIdeal.main_arg1)
      ∧ r.2.mem ((c.tc : Thread Cert.NormFP0RIdeal.nD Cert.NormFP0RIdeal.τ).loc Cert.NormFP0RIdeal.main_arg2) = m ((c.tc : Thread Cert.NormFP0RIdeal.nD Cert.NormFP0RIdeal.τ).loc Cert.NormFP0RIdeal.main_arg2)
      ∧ r.2.mem ((c.tc : Thread Cert.NormFP0RIdeal.nD Cert.NormFP0RIdeal.τ).loc Cert.NormFP0RIdeal.main_arg3) = m ((c.tc : Thread Cert.NormFP0RIdeal.nD Cert.NormFP0RIdeal.τ).loc Cert.NormFP0RIdeal.main_arg3)
      ∧ r.2.mem ((c.tc : Thread Cert.NormFP0RIdeal.nD Cert.NormFP0RIdeal.τ).loc Cert.NormFP0RIdeal.main_arg4) = m ((c.tc : Thread Cert.NormFP0RIdeal.nD Cert.NormFP0RIdeal.τ).loc Cert.NormFP0RIdeal.main_arg4)
      ∧ r.2.mem ((c.tc : Thread Cert.NormFP0RIdeal.nD Cert.NormFP0RIdeal.τ).loc Cert.NormFP0RIdeal.main_arg5) = m ((c.tc : Thread Cert.NormFP0RIdeal.nD Cert.NormFP0RIdeal.τ).loc Cert.NormFP0RIdeal.main_arg5)
      ∧ r.2.mem ((c.tc : Thread Cert.NormFP0RIdeal.nD Cert.NormFP0RIdeal.τ).loc Cert.NormFP0RIdeal.main_arg6) = m ((c.tc : Thread Cert.NormFP0RIdeal.nD Cert.NormFP0RIdeal.τ).loc Cert.NormFP0RIdeal.main_arg6)
      ∧ r.2.mem ((c.tc : Thread Cert.NormFP0RIdeal.nD Cert.NormFP0RIdeal.τ).loc Cert.NormFP0RIdeal.main_arg7) = m ((c.tc : Thread Cert.NormFP0RIdeal.nD Cert.NormFP0RIdeal.τ).loc Cert.NormFP0RIdeal.main_arg7))
      ∧ r.2.sem = fun _ => 0)

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)
      ∧ m' ((c.tc : Thread Cert.GateRIdeal.nD Cert.GateRIdeal.τ).loc Cert.GateRIdeal.main_arg3) = m ((c.tc : Thread Cert.GateKIdeal.nD Cert.GateKIdeal.τ).loc Cert.GateKIdeal.main_arg3)) →
    ∃ (v0 : (c : Dev Cert.GateKIdeal.nD) → Buf (Elt Ideal) ((c.tc : Thread Cert.GateKIdeal.nD Cert.GateKIdeal.τ).loc Cert.GateKIdeal.main_v4_0)) (v1 : (c : Dev Cert.GateKIdeal.nD) → Buf (Elt Ideal) ((c.tc : Thread Cert.GateKIdeal.nD Cert.GateKIdeal.τ).loc Cert.GateKIdeal.main_v4_1)) (v2 : (c : Dev Cert.GateKIdeal.nD) → Buf (Elt Ideal) ((c.tc : Thread Cert.GateKIdeal.nD Cert.GateKIdeal.τ).loc Cert.GateKIdeal.main_v4_2)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v4_0) = v0 c
          ∧ r.2.mem ((c.tc : Thread Cert.GateKIdeal.nD Cert.GateKIdeal.τ).loc Cert.GateKIdeal.main_v4_1) = v1 c
          ∧ r.2.mem ((c.tc : Thread Cert.GateKIdeal.nD Cert.GateKIdeal.τ).loc Cert.GateKIdeal.main_v4_2) = v2 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
          ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v11) = v0 c
          ∧ r.2.mem ((c.tc : Thread Cert.GateRIdeal.nD Cert.GateRIdeal.τ).loc Cert.GateRIdeal.main_v13) = v1 c
          ∧ r.2.mem ((c.tc : Thread Cert.GateRIdeal.nD Cert.GateRIdeal.τ).loc Cert.GateRIdeal.main_v14) = v2 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2)
          ∧ r.2.mem ((c.tc : Thread Cert.GateRIdeal.nD Cert.GateRIdeal.τ).loc Cert.GateRIdeal.main_arg3) = m' ((c.tc : Thread Cert.GateRIdeal.nD Cert.GateRIdeal.τ).loc Cert.GateRIdeal.main_arg3))

def preserves_Gate2K_Gate2KIdeal : Prop :=
  True

def algebraic_Gate2KIdeal_Gate2RIdeal [hGate2KIdeal : Cert.Gate2KIdeal.Facts] [hGate2RIdeal : Cert.Gate2RIdeal.Facts] : Prop :=
  ∀ (m : (ℓ : Loc Cert.Gate2KIdeal.nD Cert.Gate2KIdeal.τ Cert.Gate2KIdeal.sig) → Buf (Elt Ideal) ℓ) (g : Dev Cert.Gate2KIdeal.nD → PrngReg)
    (m' : (ℓ : Loc Cert.Gate2RIdeal.nD Cert.Gate2RIdeal.τ Cert.Gate2RIdeal.sig) → Buf (Elt Ideal) ℓ) (g' : Dev Cert.Gate2RIdeal.nD → PrngReg), Pre_Gate2KIdeal m →
    (∀ c : Dev Cert.Gate2KIdeal.nD,
      m' ((c.tc : Thread Cert.Gate2RIdeal.nD Cert.Gate2RIdeal.τ).loc Cert.Gate2RIdeal.main_arg0) = m ((c.tc : Thread Cert.Gate2KIdeal.nD Cert.Gate2KIdeal.τ).loc Cert.Gate2KIdeal.main_arg0)
      ∧ m' ((c.tc : Thread Cert.Gate2RIdeal.nD Cert.Gate2RIdeal.τ).loc Cert.Gate2RIdeal.main_arg1) = m ((c.tc : Thread Cert.Gate2KIdeal.nD Cert.Gate2KIdeal.τ).loc Cert.Gate2KIdeal.main_arg1)
      ∧ m' ((c.tc : Thread Cert.Gate2RIdeal.nD Cert.Gate2RIdeal.τ).loc Cert.Gate2RIdeal.main_arg2) = m ((c.tc : Thread Cert.Gate2KIdeal.nD Cert.Gate2KIdeal.τ).loc Cert.Gate2KIdeal.main_arg2)
      ∧ m' ((c.tc : Thread Cert.Gate2RIdeal.nD Cert.Gate2RIdeal.τ).loc Cert.Gate2RIdeal.main_arg3) = m ((c.tc : Thread Cert.Gate2KIdeal.nD Cert.Gate2KIdeal.τ).loc Cert.Gate2KIdeal.main_arg3)
      ∧ m' ((c.tc : Thread Cert.Gate2RIdeal.nD Cert.Gate2RIdeal.τ).loc Cert.Gate2RIdeal.main_arg4) = m ((c.tc : Thread Cert.Gate2KIdeal.nD Cert.Gate2KIdeal.τ).loc Cert.Gate2KIdeal.main_arg4)) →
    ∃ (v0 : (c : Dev Cert.Gate2KIdeal.nD) → Buf (Elt Ideal) ((c.tc : Thread Cert.Gate2KIdeal.nD Cert.Gate2KIdeal.τ).loc Cert.Gate2KIdeal.main_v7_0)) (v1 : (c : Dev Cert.Gate2KIdeal.nD) → Buf (Elt Ideal) ((c.tc : Thread Cert.Gate2KIdeal.nD Cert.Gate2KIdeal.τ).loc Cert.Gate2KIdeal.main_v7_1)) (v2 : (c : Dev Cert.Gate2KIdeal.nD) → Buf (Elt Ideal) ((c.tc : Thread Cert.Gate2KIdeal.nD Cert.Gate2KIdeal.τ).loc Cert.Gate2KIdeal.main_v7_2)),
      θ_run (Cert.Gate2KIdeal.defs (F := Ideal)) (onTc (τ := Cert.Gate2KIdeal.τ) (Cert.Gate2KIdeal.main (F := Ideal))) ⟨m, fun _ => 0, g⟩ (fun r => ∀ c : Dev Cert.Gate2KIdeal.nD,
          r.2.mem ((c.tc : Thread Cert.Gate2KIdeal.nD Cert.Gate2KIdeal.τ).loc Cert.Gate2KIdeal.main_v7_0) = v0 c
          ∧ r.2.mem ((c.tc : Thread Cert.Gate2KIdeal.nD Cert.Gate2KIdeal.τ).loc Cert.Gate2KIdeal.main_v7_1) = v1 c
          ∧ r.2.mem ((c.tc : Thread Cert.Gate2KIdeal.nD Cert.Gate2KIdeal.τ).loc Cert.Gate2KIdeal.main_v7_2) = v2 c
          ∧ r.2.mem ((c.tc : Thread Cert.Gate2KIdeal.nD Cert.Gate2KIdeal.τ).loc Cert.Gate2KIdeal.main_arg0) = m ((c.tc : Thread Cert.Gate2KIdeal.nD Cert.Gate2KIdeal.τ).loc Cert.Gate2KIdeal.main_arg0)
          ∧ r.2.mem ((c.tc : Thread Cert.Gate2KIdeal.nD Cert.Gate2KIdeal.τ).loc Cert.Gate2KIdeal.main_arg1) = m ((c.tc : Thread Cert.Gate2KIdeal.nD Cert.Gate2KIdeal.τ).loc Cert.Gate2KIdeal.main_arg1)
          ∧ r.2.mem ((c.tc : Thread Cert.Gate2KIdeal.nD Cert.Gate2KIdeal.τ).loc Cert.Gate2KIdeal.main_arg2) = m ((c.tc : Thread Cert.Gate2KIdeal.nD Cert.Gate2KIdeal.τ).loc Cert.Gate2KIdeal.main_arg2)
          ∧ r.2.mem ((c.tc : Thread Cert.Gate2KIdeal.nD Cert.Gate2KIdeal.τ).loc Cert.Gate2KIdeal.main_arg3) = m ((c.tc : Thread Cert.Gate2KIdeal.nD Cert.Gate2KIdeal.τ).loc Cert.Gate2KIdeal.main_arg3)
          ∧ r.2.mem ((c.tc : Thread Cert.Gate2KIdeal.nD Cert.Gate2KIdeal.τ).loc Cert.Gate2KIdeal.main_arg4) = m ((c.tc : Thread Cert.Gate2KIdeal.nD Cert.Gate2KIdeal.τ).loc Cert.Gate2KIdeal.main_arg4))
      ∧ θ_run (Cert.Gate2RIdeal.defs (F := Ideal)) (onTc (τ := Cert.Gate2RIdeal.τ) (Cert.Gate2RIdeal.main (F := Ideal))) ⟨m', fun _ => 0, g'⟩ (fun r => ∀ c : Dev Cert.Gate2RIdeal.nD,
          r.2.mem ((c.tc : Thread Cert.Gate2RIdeal.nD Cert.Gate2RIdeal.τ).loc Cert.Gate2RIdeal.main_v27) = v0 c
          ∧ r.2.mem ((c.tc : Thread Cert.Gate2RIdeal.nD Cert.Gate2RIdeal.τ).loc Cert.Gate2RIdeal.main_v31) = v1 c
          ∧ r.2.mem ((c.tc : Thread Cert.Gate2RIdeal.nD Cert.Gate2RIdeal.τ).loc Cert.Gate2RIdeal.main_v35) = v2 c
          ∧ r.2.mem ((c.tc : Thread Cert.Gate2RIdeal.nD Cert.Gate2RIdeal.τ).loc Cert.Gate2RIdeal.main_arg0) = m' ((c.tc : Thread Cert.Gate2RIdeal.nD Cert.Gate2RIdeal.τ).loc Cert.Gate2RIdeal.main_arg0)
          ∧ r.2.mem ((c.tc : Thread Cert.Gate2RIdeal.nD Cert.Gate2RIdeal.τ).loc Cert.Gate2RIdeal.main_arg1) = m' ((c.tc : Thread Cert.Gate2RIdeal.nD Cert.Gate2RIdeal.τ).loc Cert.Gate2RIdeal.main_arg1)
          ∧ r.2.mem ((c.tc : Thread Cert.Gate2RIdeal.nD Cert.Gate2RIdeal.τ).loc Cert.Gate2RIdeal.main_arg2) = m' ((c.tc : Thread Cert.Gate2RIdeal.nD Cert.Gate2RIdeal.τ).loc Cert.Gate2RIdeal.main_arg2)
          ∧ r.2.mem ((c.tc : Thread Cert.Gate2RIdeal.nD Cert.Gate2RIdeal.τ).loc Cert.Gate2RIdeal.main_arg3) = m' ((c.tc : Thread Cert.Gate2RIdeal.nD Cert.Gate2RIdeal.τ).loc Cert.Gate2RIdeal.main_arg3)
          ∧ r.2.mem ((c.tc : Thread Cert.Gate2RIdeal.nD Cert.Gate2RIdeal.τ).loc Cert.Gate2RIdeal.main_arg4) = m' ((c.tc : Thread Cert.Gate2RIdeal.nD Cert.Gate2RIdeal.τ).loc Cert.Gate2RIdeal.main_arg4))

def preserves_Norm4K_Norm4KIdeal : Prop :=
  True

def algebraic_Norm4KIdeal_Norm4RIdeal_pre_norm4_finite [hNorm4KIdeal : Cert.Norm4KIdeal.Facts] [hNorm4RIdeal : Cert.Norm4RIdeal.Facts] [hPre_norm4_finite : Cert.Pre_norm4_finite.Facts] : Prop :=
  ∀ (m : (ℓ : Loc Cert.Norm4KIdeal.nD Cert.Norm4KIdeal.τ Cert.Norm4KIdeal.sig) → Buf (Elt Ideal) ℓ) (g : Dev Cert.Norm4KIdeal.nD → PrngReg)
    (m' : (ℓ : Loc Cert.Norm4RIdeal.nD Cert.Norm4RIdeal.τ Cert.Norm4RIdeal.sig) → Buf (Elt Ideal) ℓ) (g' : Dev Cert.Norm4RIdeal.nD → PrngReg), Pre_Norm4KIdeal_norm4_finite m →
    (∀ c : Dev Cert.Norm4KIdeal.nD,
      m' ((c.tc : Thread Cert.Norm4RIdeal.nD Cert.Norm4RIdeal.τ).loc Cert.Norm4RIdeal.main_arg0) = m ((c.tc : Thread Cert.Norm4KIdeal.nD Cert.Norm4KIdeal.τ).loc Cert.Norm4KIdeal.main_arg0)
      ∧ m' ((c.tc : Thread Cert.Norm4RIdeal.nD Cert.Norm4RIdeal.τ).loc Cert.Norm4RIdeal.main_arg1) = m ((c.tc : Thread Cert.Norm4KIdeal.nD Cert.Norm4KIdeal.τ).loc Cert.Norm4KIdeal.main_arg1)
      ∧ m' ((c.tc : Thread Cert.Norm4RIdeal.nD Cert.Norm4RIdeal.τ).loc Cert.Norm4RIdeal.main_arg2) = m ((c.tc : Thread Cert.Norm4KIdeal.nD Cert.Norm4KIdeal.τ).loc Cert.Norm4KIdeal.main_arg2)
      ∧ m' ((c.tc : Thread Cert.Norm4RIdeal.nD Cert.Norm4RIdeal.τ).loc Cert.Norm4RIdeal.main_arg3) = m ((c.tc : Thread Cert.Norm4KIdeal.nD Cert.Norm4KIdeal.τ).loc Cert.Norm4KIdeal.main_arg3)
      ∧ m' ((c.tc : Thread Cert.Norm4RIdeal.nD Cert.Norm4RIdeal.τ).loc Cert.Norm4RIdeal.main_arg4) = m ((c.tc : Thread Cert.Norm4KIdeal.nD Cert.Norm4KIdeal.τ).loc Cert.Norm4KIdeal.main_arg4)
      ∧ m' ((c.tc : Thread Cert.Norm4RIdeal.nD Cert.Norm4RIdeal.τ).loc Cert.Norm4RIdeal.main_arg5) = m ((c.tc : Thread Cert.Norm4KIdeal.nD Cert.Norm4KIdeal.τ).loc Cert.Norm4KIdeal.main_arg5)
      ∧ m' ((c.tc : Thread Cert.Norm4RIdeal.nD Cert.Norm4RIdeal.τ).loc Cert.Norm4RIdeal.main_arg6) = m ((c.tc : Thread Cert.Norm4KIdeal.nD Cert.Norm4KIdeal.τ).loc Cert.Norm4KIdeal.main_arg6)) →
    ∃ (v0 : (c : Dev Cert.Norm4KIdeal.nD) → Buf (Elt Ideal) ((c.tc : Thread Cert.Norm4KIdeal.nD Cert.Norm4KIdeal.τ).loc Cert.Norm4KIdeal.main_v11_0)) (v1 : (c : Dev Cert.Norm4KIdeal.nD) → Buf (Elt Ideal) ((c.tc : Thread Cert.Norm4KIdeal.nD Cert.Norm4KIdeal.τ).loc Cert.Norm4KIdeal.main_v22)) (v2 : (c : Dev Cert.Norm4KIdeal.nD) → Buf (Elt Ideal) ((c.tc : Thread Cert.Norm4KIdeal.nD Cert.Norm4KIdeal.τ).loc Cert.Norm4KIdeal.main_v23)) (v3 : (c : Dev Cert.Norm4KIdeal.nD) → Buf (Elt Ideal) ((c.tc : Thread Cert.Norm4KIdeal.nD Cert.Norm4KIdeal.τ).loc Cert.Norm4KIdeal.main_v21)),
      θ_run (Cert.Norm4KIdeal.defs (F := Ideal)) (onTc (τ := Cert.Norm4KIdeal.τ) (Cert.Norm4KIdeal.main (F := Ideal))) ⟨m, fun _ => 0, g⟩ (fun r => ∀ c : Dev Cert.Norm4KIdeal.nD,
          r.2.mem ((c.tc : Thread Cert.Norm4KIdeal.nD Cert.Norm4KIdeal.τ).loc Cert.Norm4KIdeal.main_v11_0) = v0 c
          ∧ r.2.mem ((c.tc : Thread Cert.Norm4KIdeal.nD Cert.Norm4KIdeal.τ).loc Cert.Norm4KIdeal.main_v22) = v1 c
          ∧ r.2.mem ((c.tc : Thread Cert.Norm4KIdeal.nD Cert.Norm4KIdeal.τ).loc Cert.Norm4KIdeal.main_v23) = v2 c
          ∧ r.2.mem ((c.tc : Thread Cert.Norm4KIdeal.nD Cert.Norm4KIdeal.τ).loc Cert.Norm4KIdeal.main_v21) = v3 c
          ∧ r.2.mem ((c.tc : Thread Cert.Norm4KIdeal.nD Cert.Norm4KIdeal.τ).loc Cert.Norm4KIdeal.main_arg0) = m ((c.tc : Thread Cert.Norm4KIdeal.nD Cert.Norm4KIdeal.τ).loc Cert.Norm4KIdeal.main_arg0)
          ∧ r.2.mem ((c.tc : Thread Cert.Norm4KIdeal.nD Cert.Norm4KIdeal.τ).loc Cert.Norm4KIdeal.main_arg1) = m ((c.tc : Thread Cert.Norm4KIdeal.nD Cert.Norm4KIdeal.τ).loc Cert.Norm4KIdeal.main_arg1)
          ∧ r.2.mem ((c.tc : Thread Cert.Norm4KIdeal.nD Cert.Norm4KIdeal.τ).loc Cert.Norm4KIdeal.main_arg2) = m ((c.tc : Thread Cert.Norm4KIdeal.nD Cert.Norm4KIdeal.τ).loc Cert.Norm4KIdeal.main_arg2)
          ∧ r.2.mem ((c.tc : Thread Cert.Norm4KIdeal.nD Cert.Norm4KIdeal.τ).loc Cert.Norm4KIdeal.main_arg3) = m ((c.tc : Thread Cert.Norm4KIdeal.nD Cert.Norm4KIdeal.τ).loc Cert.Norm4KIdeal.main_arg3)
          ∧ r.2.mem ((c.tc : Thread Cert.Norm4KIdeal.nD Cert.Norm4KIdeal.τ).loc Cert.Norm4KIdeal.main_arg4) = m ((c.tc : Thread Cert.Norm4KIdeal.nD Cert.Norm4KIdeal.τ).loc Cert.Norm4KIdeal.main_arg4)
          ∧ r.2.mem ((c.tc : Thread Cert.Norm4KIdeal.nD Cert.Norm4KIdeal.τ).loc Cert.Norm4KIdeal.main_arg5) = m ((c.tc : Thread Cert.Norm4KIdeal.nD Cert.Norm4KIdeal.τ).loc Cert.Norm4KIdeal.main_arg5)
          ∧ r.2.mem ((c.tc : Thread Cert.Norm4KIdeal.nD Cert.Norm4KIdeal.τ).loc Cert.Norm4KIdeal.main_arg6) = m ((c.tc : Thread Cert.Norm4KIdeal.nD Cert.Norm4KIdeal.τ).loc Cert.Norm4KIdeal.main_arg6))
      ∧ θ_run (Cert.Norm4RIdeal.defs (F := Ideal)) (onTc (τ := Cert.Norm4RIdeal.τ) (Cert.Norm4RIdeal.main (F := Ideal))) ⟨m', fun _ => 0, g'⟩ (fun r => ∀ c : Dev Cert.Norm4RIdeal.nD,
          r.2.mem ((c.tc : Thread Cert.Norm4RIdeal.nD Cert.Norm4RIdeal.τ).loc Cert.Norm4RIdeal.main_v69) = v0 c
          ∧ r.2.mem ((c.tc : Thread Cert.Norm4RIdeal.nD Cert.Norm4RIdeal.τ).loc Cert.Norm4RIdeal.main_v42) = v1 c
          ∧ r.2.mem ((c.tc : Thread Cert.Norm4RIdeal.nD Cert.Norm4RIdeal.τ).loc Cert.Norm4RIdeal.main_v48) = v2 c
          ∧ r.2.mem ((c.tc : Thread Cert.Norm4RIdeal.nD Cert.Norm4RIdeal.τ).loc Cert.Norm4RIdeal.main_v54) = v3 c
          ∧ r.2.mem ((c.tc : Thread Cert.Norm4RIdeal.nD Cert.Norm4RIdeal.τ).loc Cert.Norm4RIdeal.main_arg0) = m' ((c.tc : Thread Cert.Norm4RIdeal.nD Cert.Norm4RIdeal.τ).loc Cert.Norm4RIdeal.main_arg0)
          ∧ r.2.mem ((c.tc : Thread Cert.Norm4RIdeal.nD Cert.Norm4RIdeal.τ).loc Cert.Norm4RIdeal.main_arg1) = m' ((c.tc : Thread Cert.Norm4RIdeal.nD Cert.Norm4RIdeal.τ).loc Cert.Norm4RIdeal.main_arg1)
          ∧ r.2.mem ((c.tc : Thread Cert.Norm4RIdeal.nD Cert.Norm4RIdeal.τ).loc Cert.Norm4RIdeal.main_arg2) = m' ((c.tc : Thread Cert.Norm4RIdeal.nD Cert.Norm4RIdeal.τ).loc Cert.Norm4RIdeal.main_arg2)
          ∧ r.2.mem ((c.tc : Thread Cert.Norm4RIdeal.nD Cert.Norm4RIdeal.τ).loc Cert.Norm4RIdeal.main_arg3) = m' ((c.tc : Thread Cert.Norm4RIdeal.nD Cert.Norm4RIdeal.τ).loc Cert.Norm4RIdeal.main_arg3)
          ∧ r.2.mem ((c.tc : Thread Cert.Norm4RIdeal.nD Cert.Norm4RIdeal.τ).loc Cert.Norm4RIdeal.main_arg4) = m' ((c.tc : Thread Cert.Norm4RIdeal.nD Cert.Norm4RIdeal.τ).loc Cert.Norm4RIdeal.main_arg4)
          ∧ r.2.mem ((c.tc : Thread Cert.Norm4RIdeal.nD Cert.Norm4RIdeal.τ).loc Cert.Norm4RIdeal.main_arg5) = m' ((c.tc : Thread Cert.Norm4RIdeal.nD Cert.Norm4RIdeal.τ).loc Cert.Norm4RIdeal.main_arg5)
          ∧ r.2.mem ((c.tc : Thread Cert.Norm4RIdeal.nD Cert.Norm4RIdeal.τ).loc Cert.Norm4RIdeal.main_arg6) = m' ((c.tc : Thread Cert.Norm4RIdeal.nD Cert.Norm4RIdeal.τ).loc Cert.Norm4RIdeal.main_arg6))

def preserves_Norm2K_Norm2KIdeal : Prop :=
  True

def algebraic_Norm2KIdeal_Norm2RIdeal_pre_norm2_finite [hNorm2KIdeal : Cert.Norm2KIdeal.Facts] [hNorm2RIdeal : Cert.Norm2RIdeal.Facts] [hPre_norm2_finite : Cert.Pre_norm2_finite.Facts] : Prop :=
  ∀ (m : (ℓ : Loc Cert.Norm2KIdeal.nD Cert.Norm2KIdeal.τ Cert.Norm2KIdeal.sig) → Buf (Elt Ideal) ℓ) (g : Dev Cert.Norm2KIdeal.nD → PrngReg)
    (m' : (ℓ : Loc Cert.Norm2RIdeal.nD Cert.Norm2RIdeal.τ Cert.Norm2RIdeal.sig) → Buf (Elt Ideal) ℓ) (g' : Dev Cert.Norm2RIdeal.nD → PrngReg), Pre_Norm2KIdeal_norm2_finite m →
    (∀ c : Dev Cert.Norm2KIdeal.nD,
      m' ((c.tc : Thread Cert.Norm2RIdeal.nD Cert.Norm2RIdeal.τ).loc Cert.Norm2RIdeal.main_arg0) = m ((c.tc : Thread Cert.Norm2KIdeal.nD Cert.Norm2KIdeal.τ).loc Cert.Norm2KIdeal.main_arg0)
      ∧ m' ((c.tc : Thread Cert.Norm2RIdeal.nD Cert.Norm2RIdeal.τ).loc Cert.Norm2RIdeal.main_arg1) = m ((c.tc : Thread Cert.Norm2KIdeal.nD Cert.Norm2KIdeal.τ).loc Cert.Norm2KIdeal.main_arg1)
      ∧ m' ((c.tc : Thread Cert.Norm2RIdeal.nD Cert.Norm2RIdeal.τ).loc Cert.Norm2RIdeal.main_arg2) = m ((c.tc : Thread Cert.Norm2KIdeal.nD Cert.Norm2KIdeal.τ).loc Cert.Norm2KIdeal.main_arg2)
      ∧ m' ((c.tc : Thread Cert.Norm2RIdeal.nD Cert.Norm2RIdeal.τ).loc Cert.Norm2RIdeal.main_arg3) = m ((c.tc : Thread Cert.Norm2KIdeal.nD Cert.Norm2KIdeal.τ).loc Cert.Norm2KIdeal.main_arg3)
      ∧ m' ((c.tc : Thread Cert.Norm2RIdeal.nD Cert.Norm2RIdeal.τ).loc Cert.Norm2RIdeal.main_arg4) = m ((c.tc : Thread Cert.Norm2KIdeal.nD Cert.Norm2KIdeal.τ).loc Cert.Norm2KIdeal.main_arg4)
      ∧ m' ((c.tc : Thread Cert.Norm2RIdeal.nD Cert.Norm2RIdeal.τ).loc Cert.Norm2RIdeal.main_arg5) = m ((c.tc : Thread Cert.Norm2KIdeal.nD Cert.Norm2KIdeal.τ).loc Cert.Norm2KIdeal.main_arg5)
      ∧ m' ((c.tc : Thread Cert.Norm2RIdeal.nD Cert.Norm2RIdeal.τ).loc Cert.Norm2RIdeal.main_arg6) = m ((c.tc : Thread Cert.Norm2KIdeal.nD Cert.Norm2KIdeal.τ).loc Cert.Norm2KIdeal.main_arg6)) →
    ∃ (v0 : (c : Dev Cert.Norm2KIdeal.nD) → Buf (Elt Ideal) ((c.tc : Thread Cert.Norm2KIdeal.nD Cert.Norm2KIdeal.τ).loc Cert.Norm2KIdeal.main_v11_0)) (v1 : (c : Dev Cert.Norm2KIdeal.nD) → Buf (Elt Ideal) ((c.tc : Thread Cert.Norm2KIdeal.nD Cert.Norm2KIdeal.τ).loc Cert.Norm2KIdeal.main_v22)) (v2 : (c : Dev Cert.Norm2KIdeal.nD) → Buf (Elt Ideal) ((c.tc : Thread Cert.Norm2KIdeal.nD Cert.Norm2KIdeal.τ).loc Cert.Norm2KIdeal.main_v23)) (v3 : (c : Dev Cert.Norm2KIdeal.nD) → Buf (Elt Ideal) ((c.tc : Thread Cert.Norm2KIdeal.nD Cert.Norm2KIdeal.τ).loc Cert.Norm2KIdeal.main_v21)),
      θ_run (Cert.Norm2KIdeal.defs (F := Ideal)) (onTc (τ := Cert.Norm2KIdeal.τ) (Cert.Norm2KIdeal.main (F := Ideal))) ⟨m, fun _ => 0, g⟩ (fun r => ∀ c : Dev Cert.Norm2KIdeal.nD,
          r.2.mem ((c.tc : Thread Cert.Norm2KIdeal.nD Cert.Norm2KIdeal.τ).loc Cert.Norm2KIdeal.main_v11_0) = v0 c
          ∧ r.2.mem ((c.tc : Thread Cert.Norm2KIdeal.nD Cert.Norm2KIdeal.τ).loc Cert.Norm2KIdeal.main_v22) = v1 c
          ∧ r.2.mem ((c.tc : Thread Cert.Norm2KIdeal.nD Cert.Norm2KIdeal.τ).loc Cert.Norm2KIdeal.main_v23) = v2 c
          ∧ r.2.mem ((c.tc : Thread Cert.Norm2KIdeal.nD Cert.Norm2KIdeal.τ).loc Cert.Norm2KIdeal.main_v21) = v3 c
          ∧ r.2.mem ((c.tc : Thread Cert.Norm2KIdeal.nD Cert.Norm2KIdeal.τ).loc Cert.Norm2KIdeal.main_arg0) = m ((c.tc : Thread Cert.Norm2KIdeal.nD Cert.Norm2KIdeal.τ).loc Cert.Norm2KIdeal.main_arg0)
          ∧ r.2.mem ((c.tc : Thread Cert.Norm2KIdeal.nD Cert.Norm2KIdeal.τ).loc Cert.Norm2KIdeal.main_arg1) = m ((c.tc : Thread Cert.Norm2KIdeal.nD Cert.Norm2KIdeal.τ).loc Cert.Norm2KIdeal.main_arg1)
          ∧ r.2.mem ((c.tc : Thread Cert.Norm2KIdeal.nD Cert.Norm2KIdeal.τ).loc Cert.Norm2KIdeal.main_arg2) = m ((c.tc : Thread Cert.Norm2KIdeal.nD Cert.Norm2KIdeal.τ).loc Cert.Norm2KIdeal.main_arg2)
          ∧ r.2.mem ((c.tc : Thread Cert.Norm2KIdeal.nD Cert.Norm2KIdeal.τ).loc Cert.Norm2KIdeal.main_arg3) = m ((c.tc : Thread Cert.Norm2KIdeal.nD Cert.Norm2KIdeal.τ).loc Cert.Norm2KIdeal.main_arg3)
          ∧ r.2.mem ((c.tc : Thread Cert.Norm2KIdeal.nD Cert.Norm2KIdeal.τ).loc Cert.Norm2KIdeal.main_arg4) = m ((c.tc : Thread Cert.Norm2KIdeal.nD Cert.Norm2KIdeal.τ).loc Cert.Norm2KIdeal.main_arg4)
          ∧ r.2.mem ((c.tc : Thread Cert.Norm2KIdeal.nD Cert.Norm2KIdeal.τ).loc Cert.Norm2KIdeal.main_arg5) = m ((c.tc : Thread Cert.Norm2KIdeal.nD Cert.Norm2KIdeal.τ).loc Cert.Norm2KIdeal.main_arg5)
          ∧ r.2.mem ((c.tc : Thread Cert.Norm2KIdeal.nD Cert.Norm2KIdeal.τ).loc Cert.Norm2KIdeal.main_arg6) = m ((c.tc : Thread Cert.Norm2KIdeal.nD Cert.Norm2KIdeal.τ).loc Cert.Norm2KIdeal.main_arg6))
      ∧ θ_run (Cert.Norm2RIdeal.defs (F := Ideal)) (onTc (τ := Cert.Norm2RIdeal.τ) (Cert.Norm2RIdeal.main (F := Ideal))) ⟨m', fun _ => 0, g'⟩ (fun r => ∀ c : Dev Cert.Norm2RIdeal.nD,
          r.2.mem ((c.tc : Thread Cert.Norm2RIdeal.nD Cert.Norm2RIdeal.τ).loc Cert.Norm2RIdeal.main_v63) = v0 c
          ∧ r.2.mem ((c.tc : Thread Cert.Norm2RIdeal.nD Cert.Norm2RIdeal.τ).loc Cert.Norm2RIdeal.main_v36) = v1 c
          ∧ r.2.mem ((c.tc : Thread Cert.Norm2RIdeal.nD Cert.Norm2RIdeal.τ).loc Cert.Norm2RIdeal.main_v42) = v2 c
          ∧ r.2.mem ((c.tc : Thread Cert.Norm2RIdeal.nD Cert.Norm2RIdeal.τ).loc Cert.Norm2RIdeal.main_v48) = v3 c
          ∧ r.2.mem ((c.tc : Thread Cert.Norm2RIdeal.nD Cert.Norm2RIdeal.τ).loc Cert.Norm2RIdeal.main_arg0) = m' ((c.tc : Thread Cert.Norm2RIdeal.nD Cert.Norm2RIdeal.τ).loc Cert.Norm2RIdeal.main_arg0)
          ∧ r.2.mem ((c.tc : Thread Cert.Norm2RIdeal.nD Cert.Norm2RIdeal.τ).loc Cert.Norm2RIdeal.main_arg1) = m' ((c.tc : Thread Cert.Norm2RIdeal.nD Cert.Norm2RIdeal.τ).loc Cert.Norm2RIdeal.main_arg1)
          ∧ r.2.mem ((c.tc : Thread Cert.Norm2RIdeal.nD Cert.Norm2RIdeal.τ).loc Cert.Norm2RIdeal.main_arg2) = m' ((c.tc : Thread Cert.Norm2RIdeal.nD Cert.Norm2RIdeal.τ).loc Cert.Norm2RIdeal.main_arg2)
          ∧ r.2.mem ((c.tc : Thread Cert.Norm2RIdeal.nD Cert.Norm2RIdeal.τ).loc Cert.Norm2RIdeal.main_arg3) = m' ((c.tc : Thread Cert.Norm2RIdeal.nD Cert.Norm2RIdeal.τ).loc Cert.Norm2RIdeal.main_arg3)
          ∧ r.2.mem ((c.tc : Thread Cert.Norm2RIdeal.nD Cert.Norm2RIdeal.τ).loc Cert.Norm2RIdeal.main_arg4) = m' ((c.tc : Thread Cert.Norm2RIdeal.nD Cert.Norm2RIdeal.τ).loc Cert.Norm2RIdeal.main_arg4)
          ∧ r.2.mem ((c.tc : Thread Cert.Norm2RIdeal.nD Cert.Norm2RIdeal.τ).loc Cert.Norm2RIdeal.main_arg5) = m' ((c.tc : Thread Cert.Norm2RIdeal.nD Cert.Norm2RIdeal.τ).loc Cert.Norm2RIdeal.main_arg5)
          ∧ r.2.mem ((c.tc : Thread Cert.Norm2RIdeal.nD Cert.Norm2RIdeal.τ).loc Cert.Norm2RIdeal.main_arg6) = m' ((c.tc : Thread Cert.Norm2RIdeal.nD Cert.Norm2RIdeal.τ).loc Cert.Norm2RIdeal.main_arg6))

def preserves_NormNaK_NormNaKIdeal : Prop :=
  True

def algebraic_NormNaKIdeal_NormNaRIdeal_pre_normna_finite [hNormNaKIdeal : Cert.NormNaKIdeal.Facts] [hNormNaRIdeal : Cert.NormNaRIdeal.Facts] [hPre_normna_finite : Cert.Pre_normna_finite.Facts] : Prop :=
  ∀ (m : (ℓ : Loc Cert.NormNaKIdeal.nD Cert.NormNaKIdeal.τ Cert.NormNaKIdeal.sig) → Buf (Elt Ideal) ℓ) (g : Dev Cert.NormNaKIdeal.nD → PrngReg)
    (m' : (ℓ : Loc Cert.NormNaRIdeal.nD Cert.NormNaRIdeal.τ Cert.NormNaRIdeal.sig) → Buf (Elt Ideal) ℓ) (g' : Dev Cert.NormNaRIdeal.nD → PrngReg), Pre_NormNaKIdeal_normna_finite m →
    (∀ c : Dev Cert.NormNaKIdeal.nD,
      m' ((c.tc : Thread Cert.NormNaRIdeal.nD Cert.NormNaRIdeal.τ).loc Cert.NormNaRIdeal.main_arg0) = m ((c.tc : Thread Cert.NormNaKIdeal.nD Cert.NormNaKIdeal.τ).loc Cert.NormNaKIdeal.main_arg0)
      ∧ m' ((c.tc : Thread Cert.NormNaRIdeal.nD Cert.NormNaRIdeal.τ).loc Cert.NormNaRIdeal.main_arg1) = m ((c.tc : Thread Cert.NormNaKIdeal.nD Cert.NormNaKIdeal.τ).loc Cert.NormNaKIdeal.main_arg1)
      ∧ m' ((c.tc : Thread Cert.NormNaRIdeal.nD Cert.NormNaRIdeal.τ).loc Cert.NormNaRIdeal.main_arg2) = m ((c.tc : Thread Cert.NormNaKIdeal.nD Cert.NormNaKIdeal.τ).loc Cert.NormNaKIdeal.main_arg2)
      ∧ m' ((c.tc : Thread Cert.NormNaRIdeal.nD Cert.NormNaRIdeal.τ).loc Cert.NormNaRIdeal.main_arg3) = m ((c.tc : Thread Cert.NormNaKIdeal.nD Cert.NormNaKIdeal.τ).loc Cert.NormNaKIdeal.main_arg3)
      ∧ m' ((c.tc : Thread Cert.NormNaRIdeal.nD Cert.NormNaRIdeal.τ).loc Cert.NormNaRIdeal.main_arg4) = m ((c.tc : Thread Cert.NormNaKIdeal.nD Cert.NormNaKIdeal.τ).loc Cert.NormNaKIdeal.main_arg4)
      ∧ m' ((c.tc : Thread Cert.NormNaRIdeal.nD Cert.NormNaRIdeal.τ).loc Cert.NormNaRIdeal.main_arg5) = m ((c.tc : Thread Cert.NormNaKIdeal.nD Cert.NormNaKIdeal.τ).loc Cert.NormNaKIdeal.main_arg5)
      ∧ m' ((c.tc : Thread Cert.NormNaRIdeal.nD Cert.NormNaRIdeal.τ).loc Cert.NormNaRIdeal.main_arg6) = m ((c.tc : Thread Cert.NormNaKIdeal.nD Cert.NormNaKIdeal.τ).loc Cert.NormNaKIdeal.main_arg6)
      ∧ m' ((c.tc : Thread Cert.NormNaRIdeal.nD Cert.NormNaRIdeal.τ).loc Cert.NormNaRIdeal.main_arg7) = m ((c.tc : Thread Cert.NormNaKIdeal.nD Cert.NormNaKIdeal.τ).loc Cert.NormNaKIdeal.main_arg7)
      ∧ m' ((c.tc : Thread Cert.NormNaRIdeal.nD Cert.NormNaRIdeal.τ).loc Cert.NormNaRIdeal.main_arg8) = m ((c.tc : Thread Cert.NormNaKIdeal.nD Cert.NormNaKIdeal.τ).loc Cert.NormNaKIdeal.main_arg8)
      ∧ m' ((c.tc : Thread Cert.NormNaRIdeal.nD Cert.NormNaRIdeal.τ).loc Cert.NormNaRIdeal.main_arg9) = m ((c.tc : Thread Cert.NormNaKIdeal.nD Cert.NormNaKIdeal.τ).loc Cert.NormNaKIdeal.main_arg9)) →
    ∃ (v0 : (c : Dev Cert.NormNaKIdeal.nD) → Buf (Elt Ideal) ((c.tc : Thread Cert.NormNaKIdeal.nD Cert.NormNaKIdeal.τ).loc Cert.NormNaKIdeal.main_v15_0)) (v1 : (c : Dev Cert.NormNaKIdeal.nD) → Buf (Elt Ideal) ((c.tc : Thread Cert.NormNaKIdeal.nD Cert.NormNaKIdeal.τ).loc Cert.NormNaKIdeal.main_v28)) (v2 : (c : Dev Cert.NormNaKIdeal.nD) → Buf (Elt Ideal) ((c.tc : Thread Cert.NormNaKIdeal.nD Cert.NormNaKIdeal.τ).loc Cert.NormNaKIdeal.main_v30)) (v3 : (c : Dev Cert.NormNaKIdeal.nD) → Buf (Elt Ideal) ((c.tc : Thread Cert.NormNaKIdeal.nD Cert.NormNaKIdeal.τ).loc Cert.NormNaKIdeal.main_v32)) (v4 : (c : Dev Cert.NormNaKIdeal.nD) → Buf (Elt Ideal) ((c.tc : Thread Cert.NormNaKIdeal.nD Cert.NormNaKIdeal.τ).loc Cert.NormNaKIdeal.main_v34)) (v5 : (c : Dev Cert.NormNaKIdeal.nD) → Buf (Elt Ideal) ((c.tc : Thread Cert.NormNaKIdeal.nD Cert.NormNaKIdeal.τ).loc Cert.NormNaKIdeal.main_v26)),
      θ_run (Cert.NormNaKIdeal.defs (F := Ideal)) (onTc (τ := Cert.NormNaKIdeal.τ) (Cert.NormNaKIdeal.main (F := Ideal))) ⟨m, fun _ => 0, g⟩ (fun r => ∀ c : Dev Cert.NormNaKIdeal.nD,
          r.2.mem ((c.tc : Thread Cert.NormNaKIdeal.nD Cert.NormNaKIdeal.τ).loc Cert.NormNaKIdeal.main_v15_0) = v0 c
          ∧ r.2.mem ((c.tc : Thread Cert.NormNaKIdeal.nD Cert.NormNaKIdeal.τ).loc Cert.NormNaKIdeal.main_v28) = v1 c
          ∧ r.2.mem ((c.tc : Thread Cert.NormNaKIdeal.nD Cert.NormNaKIdeal.τ).loc Cert.NormNaKIdeal.main_v30) = v2 c
          ∧ r.2.mem ((c.tc : Thread Cert.NormNaKIdeal.nD Cert.NormNaKIdeal.τ).loc Cert.NormNaKIdeal.main_v32) = v3 c
          ∧ r.2.mem ((c.tc : Thread Cert.NormNaKIdeal.nD Cert.NormNaKIdeal.τ).loc Cert.NormNaKIdeal.main_v34) = v4 c
          ∧ r.2.mem ((c.tc : Thread Cert.NormNaKIdeal.nD Cert.NormNaKIdeal.τ).loc Cert.NormNaKIdeal.main_v26) = v5 c
          ∧ r.2.mem ((c.tc : Thread Cert.NormNaKIdeal.nD Cert.NormNaKIdeal.τ).loc Cert.NormNaKIdeal.main_arg0) = m ((c.tc : Thread Cert.NormNaKIdeal.nD Cert.NormNaKIdeal.τ).loc Cert.NormNaKIdeal.main_arg0)
          ∧ r.2.mem ((c.tc : Thread Cert.NormNaKIdeal.nD Cert.NormNaKIdeal.τ).loc Cert.NormNaKIdeal.main_arg1) = m ((c.tc : Thread Cert.NormNaKIdeal.nD Cert.NormNaKIdeal.τ).loc Cert.NormNaKIdeal.main_arg1)
          ∧ r.2.mem ((c.tc : Thread Cert.NormNaKIdeal.nD Cert.NormNaKIdeal.τ).loc Cert.NormNaKIdeal.main_arg2) = m ((c.tc : Thread Cert.NormNaKIdeal.nD Cert.NormNaKIdeal.τ).loc Cert.NormNaKIdeal.main_arg2)
          ∧ r.2.mem ((c.tc : Thread Cert.NormNaKIdeal.nD Cert.NormNaKIdeal.τ).loc Cert.NormNaKIdeal.main_arg3) = m ((c.tc : Thread Cert.NormNaKIdeal.nD Cert.NormNaKIdeal.τ).loc Cert.NormNaKIdeal.main_arg3)
          ∧ r.2.mem ((c.tc : Thread Cert.NormNaKIdeal.nD Cert.NormNaKIdeal.τ).loc Cert.NormNaKIdeal.main_arg4) = m ((c.tc : Thread Cert.NormNaKIdeal.nD Cert.NormNaKIdeal.τ).loc Cert.NormNaKIdeal.main_arg4)
          ∧ r.2.mem ((c.tc : Thread Cert.NormNaKIdeal.nD Cert.NormNaKIdeal.τ).loc Cert.NormNaKIdeal.main_arg5) = m ((c.tc : Thread Cert.NormNaKIdeal.nD Cert.NormNaKIdeal.τ).loc Cert.NormNaKIdeal.main_arg5)
          ∧ r.2.mem ((c.tc : Thread Cert.NormNaKIdeal.nD Cert.NormNaKIdeal.τ).loc Cert.NormNaKIdeal.main_arg6) = m ((c.tc : Thread Cert.NormNaKIdeal.nD Cert.NormNaKIdeal.τ).loc Cert.NormNaKIdeal.main_arg6)
          ∧ r.2.mem ((c.tc : Thread Cert.NormNaKIdeal.nD Cert.NormNaKIdeal.τ).loc Cert.NormNaKIdeal.main_arg7) = m ((c.tc : Thread Cert.NormNaKIdeal.nD Cert.NormNaKIdeal.τ).loc Cert.NormNaKIdeal.main_arg7)
          ∧ r.2.mem ((c.tc : Thread Cert.NormNaKIdeal.nD Cert.NormNaKIdeal.τ).loc Cert.NormNaKIdeal.main_arg8) = m ((c.tc : Thread Cert.NormNaKIdeal.nD Cert.NormNaKIdeal.τ).loc Cert.NormNaKIdeal.main_arg8)
          ∧ r.2.mem ((c.tc : Thread Cert.NormNaKIdeal.nD Cert.NormNaKIdeal.τ).loc Cert.NormNaKIdeal.main_arg9) = m ((c.tc : Thread Cert.NormNaKIdeal.nD Cert.NormNaKIdeal.τ).loc Cert.NormNaKIdeal.main_arg9))
      ∧ θ_run (Cert.NormNaRIdeal.defs (F := Ideal)) (onTc (τ := Cert.NormNaRIdeal.τ) (Cert.NormNaRIdeal.main (F := Ideal))) ⟨m', fun _ => 0, g'⟩ (fun r => ∀ c : Dev Cert.NormNaRIdeal.nD,
          r.2.mem ((c.tc : Thread Cert.NormNaRIdeal.nD Cert.NormNaRIdeal.τ).loc Cert.NormNaRIdeal.main_v141) = v0 c
          ∧ r.2.mem ((c.tc : Thread Cert.NormNaRIdeal.nD Cert.NormNaRIdeal.τ).loc Cert.NormNaRIdeal.main_v112) = v1 c
          ∧ r.2.mem ((c.tc : Thread Cert.NormNaRIdeal.nD Cert.NormNaRIdeal.τ).loc Cert.NormNaRIdeal.main_v83) = v2 c
          ∧ r.2.mem ((c.tc : Thread Cert.NormNaRIdeal.nD Cert.NormNaRIdeal.τ).loc Cert.NormNaRIdeal.main_v118) = v3 c
          ∧ r.2.mem ((c.tc : Thread Cert.NormNaRIdeal.nD Cert.NormNaRIdeal.τ).loc Cert.NormNaRIdeal.main_v89) = v4 c
          ∧ r.2.mem ((c.tc : Thread Cert.NormNaRIdeal.nD Cert.NormNaRIdeal.τ).loc Cert.NormNaRIdeal.main_v125) = v5 c
          ∧ r.2.mem ((c.tc : Thread Cert.NormNaRIdeal.nD Cert.NormNaRIdeal.τ).loc Cert.NormNaRIdeal.main_arg0) = m' ((c.tc : Thread Cert.NormNaRIdeal.nD Cert.NormNaRIdeal.τ).loc Cert.NormNaRIdeal.main_arg0)
          ∧ r.2.mem ((c.tc : Thread Cert.NormNaRIdeal.nD Cert.NormNaRIdeal.τ).loc Cert.NormNaRIdeal.main_arg1) = m' ((c.tc : Thread Cert.NormNaRIdeal.nD Cert.NormNaRIdeal.τ).loc Cert.NormNaRIdeal.main_arg1)
          ∧ r.2.mem ((c.tc : Thread Cert.NormNaRIdeal.nD Cert.NormNaRIdeal.τ).loc Cert.NormNaRIdeal.main_arg2) = m' ((c.tc : Thread Cert.NormNaRIdeal.nD Cert.NormNaRIdeal.τ).loc Cert.NormNaRIdeal.main_arg2)
          ∧ r.2.mem ((c.tc : Thread Cert.NormNaRIdeal.nD Cert.NormNaRIdeal.τ).loc Cert.NormNaRIdeal.main_arg3) = m' ((c.tc : Thread Cert.NormNaRIdeal.nD Cert.NormNaRIdeal.τ).loc Cert.NormNaRIdeal.main_arg3)
          ∧ r.2.mem ((c.tc : Thread Cert.NormNaRIdeal.nD Cert.NormNaRIdeal.τ).loc Cert.NormNaRIdeal.main_arg4) = m' ((c.tc : Thread Cert.NormNaRIdeal.nD Cert.NormNaRIdeal.τ).loc Cert.NormNaRIdeal.main_arg4)
          ∧ r.2.mem ((c.tc : Thread Cert.NormNaRIdeal.nD Cert.NormNaRIdeal.τ).loc Cert.NormNaRIdeal.main_arg5) = m' ((c.tc : Thread Cert.NormNaRIdeal.nD Cert.NormNaRIdeal.τ).loc Cert.NormNaRIdeal.main_arg5)
          ∧ r.2.mem ((c.tc : Thread Cert.NormNaRIdeal.nD Cert.NormNaRIdeal.τ).loc Cert.NormNaRIdeal.main_arg6) = m' ((c.tc : Thread Cert.NormNaRIdeal.nD Cert.NormNaRIdeal.τ).loc Cert.NormNaRIdeal.main_arg6)
          ∧ r.2.mem ((c.tc : Thread Cert.NormNaRIdeal.nD Cert.NormNaRIdeal.τ).loc Cert.NormNaRIdeal.main_arg7) = m' ((c.tc : Thread Cert.NormNaRIdeal.nD Cert.NormNaRIdeal.τ).loc Cert.NormNaRIdeal.main_arg7)
          ∧ r.2.mem ((c.tc : Thread Cert.NormNaRIdeal.nD Cert.NormNaRIdeal.τ).loc Cert.NormNaRIdeal.main_arg8) = m' ((c.tc : Thread Cert.NormNaRIdeal.nD Cert.NormNaRIdeal.τ).loc Cert.NormNaRIdeal.main_arg8)
          ∧ r.2.mem ((c.tc : Thread Cert.NormNaRIdeal.nD Cert.NormNaRIdeal.τ).loc Cert.NormNaRIdeal.main_arg9) = m' ((c.tc : Thread Cert.NormNaRIdeal.nD Cert.NormNaRIdeal.τ).loc Cert.NormNaRIdeal.main_arg9))

def preserves_NormP0K_NormP0KIdeal : Prop :=
  True

def algebraic_NormP0KIdeal_NormP0RIdeal_pre_normp0_finite [hNormP0KIdeal : Cert.NormP0KIdeal.Facts] [hNormP0RIdeal : Cert.NormP0RIdeal.Facts] [hPre_normp0_finite : Cert.Pre_normp0_finite.Facts] : Prop :=
  ∀ (m : (ℓ : Loc Cert.NormP0KIdeal.nD Cert.NormP0KIdeal.τ Cert.NormP0KIdeal.sig) → Buf (Elt Ideal) ℓ) (g : Dev Cert.NormP0KIdeal.nD → PrngReg)
    (m' : (ℓ : Loc Cert.NormP0RIdeal.nD Cert.NormP0RIdeal.τ Cert.NormP0RIdeal.sig) → Buf (Elt Ideal) ℓ) (g' : Dev Cert.NormP0RIdeal.nD → PrngReg), Pre_NormP0KIdeal_normp0_finite m →
    (∀ c : Dev Cert.NormP0KIdeal.nD,
      m' ((c.tc : Thread Cert.NormP0RIdeal.nD Cert.NormP0RIdeal.τ).loc Cert.NormP0RIdeal.main_arg0) = m ((c.tc : Thread Cert.NormP0KIdeal.nD Cert.NormP0KIdeal.τ).loc Cert.NormP0KIdeal.main_arg0)
      ∧ m' ((c.tc : Thread Cert.NormP0RIdeal.nD Cert.NormP0RIdeal.τ).loc Cert.NormP0RIdeal.main_arg1) = m ((c.tc : Thread Cert.NormP0KIdeal.nD Cert.NormP0KIdeal.τ).loc Cert.NormP0KIdeal.main_arg1)
      ∧ m' ((c.tc : Thread Cert.NormP0RIdeal.nD Cert.NormP0RIdeal.τ).loc Cert.NormP0RIdeal.main_arg2) = m ((c.tc : Thread Cert.NormP0KIdeal.nD Cert.NormP0KIdeal.τ).loc Cert.NormP0KIdeal.main_arg2)
      ∧ m' ((c.tc : Thread Cert.NormP0RIdeal.nD Cert.NormP0RIdeal.τ).loc Cert.NormP0RIdeal.main_arg3) = m ((c.tc : Thread Cert.NormP0KIdeal.nD Cert.NormP0KIdeal.τ).loc Cert.NormP0KIdeal.main_arg3)
      ∧ m' ((c.tc : Thread Cert.NormP0RIdeal.nD Cert.NormP0RIdeal.τ).loc Cert.NormP0RIdeal.main_arg4) = m ((c.tc : Thread Cert.NormP0KIdeal.nD Cert.NormP0KIdeal.τ).loc Cert.NormP0KIdeal.main_arg4)
      ∧ m' ((c.tc : Thread Cert.NormP0RIdeal.nD Cert.NormP0RIdeal.τ).loc Cert.NormP0RIdeal.main_arg5) = m ((c.tc : Thread Cert.NormP0KIdeal.nD Cert.NormP0KIdeal.τ).loc Cert.NormP0KIdeal.main_arg5)
      ∧ m' ((c.tc : Thread Cert.NormP0RIdeal.nD Cert.NormP0RIdeal.τ).loc Cert.NormP0RIdeal.main_arg6) = m ((c.tc : Thread Cert.NormP0KIdeal.nD Cert.NormP0KIdeal.τ).loc Cert.NormP0KIdeal.main_arg6)
      ∧ m' ((c.tc : Thread Cert.NormP0RIdeal.nD Cert.NormP0RIdeal.τ).loc Cert.NormP0RIdeal.main_arg7) = m ((c.tc : Thread Cert.NormP0KIdeal.nD Cert.NormP0KIdeal.τ).loc Cert.NormP0KIdeal.main_arg7)
      ∧ m' ((c.tc : Thread Cert.NormP0RIdeal.nD Cert.NormP0RIdeal.τ).loc Cert.NormP0RIdeal.main_arg8) = m ((c.tc : Thread Cert.NormP0KIdeal.nD Cert.NormP0KIdeal.τ).loc Cert.NormP0KIdeal.main_arg8)
      ∧ m' ((c.tc : Thread Cert.NormP0RIdeal.nD Cert.NormP0RIdeal.τ).loc Cert.NormP0RIdeal.main_arg9) = m ((c.tc : Thread Cert.NormP0KIdeal.nD Cert.NormP0KIdeal.τ).loc Cert.NormP0KIdeal.main_arg9)) →
    ∃ (v0 : (c : Dev Cert.NormP0KIdeal.nD) → Buf (Elt Ideal) ((c.tc : Thread Cert.NormP0KIdeal.nD Cert.NormP0KIdeal.τ).loc Cert.NormP0KIdeal.main_v15_0)) (v1 : (c : Dev Cert.NormP0KIdeal.nD) → Buf (Elt Ideal) ((c.tc : Thread Cert.NormP0KIdeal.nD Cert.NormP0KIdeal.τ).loc Cert.NormP0KIdeal.main_v28)) (v2 : (c : Dev Cert.NormP0KIdeal.nD) → Buf (Elt Ideal) ((c.tc : Thread Cert.NormP0KIdeal.nD Cert.NormP0KIdeal.τ).loc Cert.NormP0KIdeal.main_v30)) (v3 : (c : Dev Cert.NormP0KIdeal.nD) → Buf (Elt Ideal) ((c.tc : Thread Cert.NormP0KIdeal.nD Cert.NormP0KIdeal.τ).loc Cert.NormP0KIdeal.main_v32)) (v4 : (c : Dev Cert.NormP0KIdeal.nD) → Buf (Elt Ideal) ((c.tc : Thread Cert.NormP0KIdeal.nD Cert.NormP0KIdeal.τ).loc Cert.NormP0KIdeal.main_v34)) (v5 : (c : Dev Cert.NormP0KIdeal.nD) → Buf (Elt Ideal) ((c.tc : Thread Cert.NormP0KIdeal.nD Cert.NormP0KIdeal.τ).loc Cert.NormP0KIdeal.main_v26)),
      θ_run (Cert.NormP0KIdeal.defs (F := Ideal)) (onTc (τ := Cert.NormP0KIdeal.τ) (Cert.NormP0KIdeal.main (F := Ideal))) ⟨m, fun _ => 0, g⟩ (fun r => ∀ c : Dev Cert.NormP0KIdeal.nD,
          r.2.mem ((c.tc : Thread Cert.NormP0KIdeal.nD Cert.NormP0KIdeal.τ).loc Cert.NormP0KIdeal.main_v15_0) = v0 c
          ∧ r.2.mem ((c.tc : Thread Cert.NormP0KIdeal.nD Cert.NormP0KIdeal.τ).loc Cert.NormP0KIdeal.main_v28) = v1 c
          ∧ r.2.mem ((c.tc : Thread Cert.NormP0KIdeal.nD Cert.NormP0KIdeal.τ).loc Cert.NormP0KIdeal.main_v30) = v2 c
          ∧ r.2.mem ((c.tc : Thread Cert.NormP0KIdeal.nD Cert.NormP0KIdeal.τ).loc Cert.NormP0KIdeal.main_v32) = v3 c
          ∧ r.2.mem ((c.tc : Thread Cert.NormP0KIdeal.nD Cert.NormP0KIdeal.τ).loc Cert.NormP0KIdeal.main_v34) = v4 c
          ∧ r.2.mem ((c.tc : Thread Cert.NormP0KIdeal.nD Cert.NormP0KIdeal.τ).loc Cert.NormP0KIdeal.main_v26) = v5 c
          ∧ r.2.mem ((c.tc : Thread Cert.NormP0KIdeal.nD Cert.NormP0KIdeal.τ).loc Cert.NormP0KIdeal.main_arg0) = m ((c.tc : Thread Cert.NormP0KIdeal.nD Cert.NormP0KIdeal.τ).loc Cert.NormP0KIdeal.main_arg0)
          ∧ r.2.mem ((c.tc : Thread Cert.NormP0KIdeal.nD Cert.NormP0KIdeal.τ).loc Cert.NormP0KIdeal.main_arg1) = m ((c.tc : Thread Cert.NormP0KIdeal.nD Cert.NormP0KIdeal.τ).loc Cert.NormP0KIdeal.main_arg1)
          ∧ r.2.mem ((c.tc : Thread Cert.NormP0KIdeal.nD Cert.NormP0KIdeal.τ).loc Cert.NormP0KIdeal.main_arg2) = m ((c.tc : Thread Cert.NormP0KIdeal.nD Cert.NormP0KIdeal.τ).loc Cert.NormP0KIdeal.main_arg2)
          ∧ r.2.mem ((c.tc : Thread Cert.NormP0KIdeal.nD Cert.NormP0KIdeal.τ).loc Cert.NormP0KIdeal.main_arg3) = m ((c.tc : Thread Cert.NormP0KIdeal.nD Cert.NormP0KIdeal.τ).loc Cert.NormP0KIdeal.main_arg3)
          ∧ r.2.mem ((c.tc : Thread Cert.NormP0KIdeal.nD Cert.NormP0KIdeal.τ).loc Cert.NormP0KIdeal.main_arg4) = m ((c.tc : Thread Cert.NormP0KIdeal.nD Cert.NormP0KIdeal.τ).loc Cert.NormP0KIdeal.main_arg4)
          ∧ r.2.mem ((c.tc : Thread Cert.NormP0KIdeal.nD Cert.NormP0KIdeal.τ).loc Cert.NormP0KIdeal.main_arg5) = m ((c.tc : Thread Cert.NormP0KIdeal.nD Cert.NormP0KIdeal.τ).loc Cert.NormP0KIdeal.main_arg5)
          ∧ r.2.mem ((c.tc : Thread Cert.NormP0KIdeal.nD Cert.NormP0KIdeal.τ).loc Cert.NormP0KIdeal.main_arg6) = m ((c.tc : Thread Cert.NormP0KIdeal.nD Cert.NormP0KIdeal.τ).loc Cert.NormP0KIdeal.main_arg6)
          ∧ r.2.mem ((c.tc : Thread Cert.NormP0KIdeal.nD Cert.NormP0KIdeal.τ).loc Cert.NormP0KIdeal.main_arg7) = m ((c.tc : Thread Cert.NormP0KIdeal.nD Cert.NormP0KIdeal.τ).loc Cert.NormP0KIdeal.main_arg7)
          ∧ r.2.mem ((c.tc : Thread Cert.NormP0KIdeal.nD Cert.NormP0KIdeal.τ).loc Cert.NormP0KIdeal.main_arg8) = m ((c.tc : Thread Cert.NormP0KIdeal.nD Cert.NormP0KIdeal.τ).loc Cert.NormP0KIdeal.main_arg8)
          ∧ r.2.mem ((c.tc : Thread Cert.NormP0KIdeal.nD Cert.NormP0KIdeal.τ).loc Cert.NormP0KIdeal.main_arg9) = m ((c.tc : Thread Cert.NormP0KIdeal.nD Cert.NormP0KIdeal.τ).loc Cert.NormP0KIdeal.main_arg9))
      ∧ θ_run (Cert.NormP0RIdeal.defs (F := Ideal)) (onTc (τ := Cert.NormP0RIdeal.τ) (Cert.NormP0RIdeal.main (F := Ideal))) ⟨m', fun _ => 0, g'⟩ (fun r => ∀ c : Dev Cert.NormP0RIdeal.nD,
          r.2.mem ((c.tc : Thread Cert.NormP0RIdeal.nD Cert.NormP0RIdeal.τ).loc Cert.NormP0RIdeal.main_v110) = v0 c
          ∧ r.2.mem ((c.tc : Thread Cert.NormP0RIdeal.nD Cert.NormP0RIdeal.τ).loc Cert.NormP0RIdeal.main_v82) = v1 c
          ∧ r.2.mem ((c.tc : Thread Cert.NormP0RIdeal.nD Cert.NormP0RIdeal.τ).loc Cert.NormP0RIdeal.main_v69) = v2 c
          ∧ r.2.mem ((c.tc : Thread Cert.NormP0RIdeal.nD Cert.NormP0RIdeal.τ).loc Cert.NormP0RIdeal.main_v88) = v3 c
          ∧ r.2.mem ((c.tc : Thread Cert.NormP0RIdeal.nD Cert.NormP0RIdeal.τ).loc Cert.NormP0RIdeal.main_v75) = v4 c
          ∧ r.2.mem ((c.tc : Thread Cert.NormP0RIdeal.nD Cert.NormP0RIdeal.τ).loc Cert.NormP0RIdeal.main_v95) = v5 c
          ∧ r.2.mem ((c.tc : Thread Cert.NormP0RIdeal.nD Cert.NormP0RIdeal.τ).loc Cert.NormP0RIdeal.main_arg0) = m' ((c.tc : Thread Cert.NormP0RIdeal.nD Cert.NormP0RIdeal.τ).loc Cert.NormP0RIdeal.main_arg0)
          ∧ r.2.mem ((c.tc : Thread Cert.NormP0RIdeal.nD Cert.NormP0RIdeal.τ).loc Cert.NormP0RIdeal.main_arg1) = m' ((c.tc : Thread Cert.NormP0RIdeal.nD Cert.NormP0RIdeal.τ).loc Cert.NormP0RIdeal.main_arg1)
          ∧ r.2.mem ((c.tc : Thread Cert.NormP0RIdeal.nD Cert.NormP0RIdeal.τ).loc Cert.NormP0RIdeal.main_arg2) = m' ((c.tc : Thread Cert.NormP0RIdeal.nD Cert.NormP0RIdeal.τ).loc Cert.NormP0RIdeal.main_arg2)
          ∧ r.2.mem ((c.tc : Thread Cert.NormP0RIdeal.nD Cert.NormP0RIdeal.τ).loc Cert.NormP0RIdeal.main_arg3) = m' ((c.tc : Thread Cert.NormP0RIdeal.nD Cert.NormP0RIdeal.τ).loc Cert.NormP0RIdeal.main_arg3)
          ∧ r.2.mem ((c.tc : Thread Cert.NormP0RIdeal.nD Cert.NormP0RIdeal.τ).loc Cert.NormP0RIdeal.main_arg4) = m' ((c.tc : Thread Cert.NormP0RIdeal.nD Cert.NormP0RIdeal.τ).loc Cert.NormP0RIdeal.main_arg4)
          ∧ r.2.mem ((c.tc : Thread Cert.NormP0RIdeal.nD Cert.NormP0RIdeal.τ).loc Cert.NormP0RIdeal.main_arg5) = m' ((c.tc : Thread Cert.NormP0RIdeal.nD Cert.NormP0RIdeal.τ).loc Cert.NormP0RIdeal.main_arg5)
          ∧ r.2.mem ((c.tc : Thread Cert.NormP0RIdeal.nD Cert.NormP0RIdeal.τ).loc Cert.NormP0RIdeal.main_arg6) = m' ((c.tc : Thread Cert.NormP0RIdeal.nD Cert.NormP0RIdeal.τ).loc Cert.NormP0RIdeal.main_arg6)
          ∧ r.2.mem ((c.tc : Thread Cert.NormP0RIdeal.nD Cert.NormP0RIdeal.τ).loc Cert.NormP0RIdeal.main_arg7) = m' ((c.tc : Thread Cert.NormP0RIdeal.nD Cert.NormP0RIdeal.τ).loc Cert.NormP0RIdeal.main_arg7)
          ∧ r.2.mem ((c.tc : Thread Cert.NormP0RIdeal.nD Cert.NormP0RIdeal.τ).loc Cert.NormP0RIdeal.main_arg8) = m' ((c.tc : Thread Cert.NormP0RIdeal.nD Cert.NormP0RIdeal.τ).loc Cert.NormP0RIdeal.main_arg8)
          ∧ r.2.mem ((c.tc : Thread Cert.NormP0RIdeal.nD Cert.NormP0RIdeal.τ).loc Cert.NormP0RIdeal.main_arg9) = m' ((c.tc : Thread Cert.NormP0RIdeal.nD Cert.NormP0RIdeal.τ).loc Cert.NormP0RIdeal.main_arg9))

def preserves_ConvK_ConvKIdeal : Prop :=
  True

def algebraic_ConvKIdeal_ConvRIdeal_pre_conv_finite [hConvKIdeal : Cert.ConvKIdeal.Facts] [hConvRIdeal : Cert.ConvRIdeal.Facts] [hPre_conv_finite : Cert.Pre_conv_finite.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal_conv_finite m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_1)) (v2 : (c : Dev Cert.ConvKIdeal.nD) → Buf (Elt Ideal) ((c.tc : Thread Cert.ConvKIdeal.nD Cert.ConvKIdeal.τ).loc Cert.ConvKIdeal.main_v0_2)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_1) = v1 c
          ∧ r.2.mem ((c.tc : Thread Cert.ConvKIdeal.nD Cert.ConvKIdeal.τ).loc Cert.ConvKIdeal.main_v0_2) = v2 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v84) = v0 c
          ∧ r.2.mem ((c.tc : Thread Cert.ConvRIdeal.nD Cert.ConvRIdeal.τ).loc Cert.ConvRIdeal.main_v68) = v1 c
          ∧ r.2.mem ((c.tc : Thread Cert.ConvRIdeal.nD Cert.ConvRIdeal.τ).loc Cert.ConvRIdeal.main_v42) = v2 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3))

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)
      ∧ m' ((c.tc : Thread Cert.LossRIdeal.nD Cert.LossRIdeal.τ).loc Cert.LossRIdeal.main_arg5) = m ((c.tc : Thread Cert.LossKIdeal.nD Cert.LossKIdeal.τ).loc Cert.LossKIdeal.main_arg5)) →
    ∃ (v0 : (c : Dev Cert.LossKIdeal.nD) → Buf (Elt Ideal) ((c.tc : Thread Cert.LossKIdeal.nD Cert.LossKIdeal.τ).loc Cert.LossKIdeal.main_v3_0)) (v1 : (c : Dev Cert.LossKIdeal.nD) → Buf (Elt Ideal) ((c.tc : Thread Cert.LossKIdeal.nD Cert.LossKIdeal.τ).loc Cert.LossKIdeal.main_v3_1)) (v2 : (c : Dev Cert.LossKIdeal.nD) → Buf (Elt Ideal) ((c.tc : Thread Cert.LossKIdeal.nD Cert.LossKIdeal.τ).loc Cert.LossKIdeal.main_v3_2)) (v3 : (c : Dev Cert.LossKIdeal.nD) → Buf (Elt Ideal) ((c.tc : Thread Cert.LossKIdeal.nD Cert.LossKIdeal.τ).loc Cert.LossKIdeal.main_v3_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v3_0) = v0 c
          ∧ r.2.mem ((c.tc : Thread Cert.LossKIdeal.nD Cert.LossKIdeal.τ).loc Cert.LossKIdeal.main_v3_1) = v1 c
          ∧ r.2.mem ((c.tc : Thread Cert.LossKIdeal.nD Cert.LossKIdeal.τ).loc Cert.LossKIdeal.main_v3_2) = v2 c
          ∧ r.2.mem ((c.tc : Thread Cert.LossKIdeal.nD Cert.LossKIdeal.τ).loc Cert.LossKIdeal.main_v3_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
          ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v57) = v0 c
          ∧ r.2.mem ((c.tc : Thread Cert.LossRIdeal.nD Cert.LossRIdeal.τ).loc Cert.LossRIdeal.main_v58) = v1 c
          ∧ r.2.mem ((c.tc : Thread Cert.LossRIdeal.nD Cert.LossRIdeal.τ).loc Cert.LossRIdeal.main_v56) = v2 c
          ∧ r.2.mem ((c.tc : Thread Cert.LossRIdeal.nD Cert.LossRIdeal.τ).loc Cert.LossRIdeal.main_v59) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4)
          ∧ r.2.mem ((c.tc : Thread Cert.LossRIdeal.nD Cert.LossRIdeal.τ).loc Cert.LossRIdeal.main_arg5) = m' ((c.tc : Thread Cert.LossRIdeal.nD Cert.LossRIdeal.τ).loc Cert.LossRIdeal.main_arg5))

def preserves_PoolK_PoolKIdeal : Prop :=
  True

def algebraic_PoolKIdeal_PoolRIdeal_pre_pool_finite [hPoolKIdeal : Cert.PoolKIdeal.Facts] [hPoolRIdeal : Cert.PoolRIdeal.Facts] [hPre_pool_finite : Cert.Pre_pool_finite.Facts] : Prop :=
  ∀ (m : (ℓ : Loc Cert.PoolKIdeal.nD Cert.PoolKIdeal.τ Cert.PoolKIdeal.sig) → Buf (Elt Ideal) ℓ) (g : Dev Cert.PoolKIdeal.nD → PrngReg)
    (m' : (ℓ : Loc Cert.PoolRIdeal.nD Cert.PoolRIdeal.τ Cert.PoolRIdeal.sig) → Buf (Elt Ideal) ℓ) (g' : Dev Cert.PoolRIdeal.nD → PrngReg), Pre_PoolKIdeal_pool_finite m →
    (∀ c : Dev Cert.PoolKIdeal.nD,
      m' ((c.tc : Thread Cert.PoolRIdeal.nD Cert.PoolRIdeal.τ).loc Cert.PoolRIdeal.main_arg0) = m ((c.tc : Thread Cert.PoolKIdeal.nD Cert.PoolKIdeal.τ).loc Cert.PoolKIdeal.main_arg0)
      ∧ m' ((c.tc : Thread Cert.PoolRIdeal.nD Cert.PoolRIdeal.τ).loc Cert.PoolRIdeal.main_arg1) = m ((c.tc : Thread Cert.PoolKIdeal.nD Cert.PoolKIdeal.τ).loc Cert.PoolKIdeal.main_arg1)
      ∧ m' ((c.tc : Thread Cert.PoolRIdeal.nD Cert.PoolRIdeal.τ).loc Cert.PoolRIdeal.main_arg2) = m ((c.tc : Thread Cert.PoolKIdeal.nD Cert.PoolKIdeal.τ).loc Cert.PoolKIdeal.main_arg2)
      ∧ m' ((c.tc : Thread Cert.PoolRIdeal.nD Cert.PoolRIdeal.τ).loc Cert.PoolRIdeal.main_arg3) = m ((c.tc : Thread Cert.PoolKIdeal.nD Cert.PoolKIdeal.τ).loc Cert.PoolKIdeal.main_arg3)) →
    ∃ (v0 : (c : Dev Cert.PoolKIdeal.nD) → Buf (Elt Ideal) ((c.tc : Thread Cert.PoolKIdeal.nD Cert.PoolKIdeal.τ).loc Cert.PoolKIdeal.main_v2_2)) (v1 : (c : Dev Cert.PoolKIdeal.nD) → Buf (Elt Ideal) ((c.tc : Thread Cert.PoolKIdeal.nD Cert.PoolKIdeal.τ).loc Cert.PoolKIdeal.main_v4_1)) (v2 : (c : Dev Cert.PoolKIdeal.nD) → Buf (Elt Ideal) ((c.tc : Thread Cert.PoolKIdeal.nD Cert.PoolKIdeal.τ).loc Cert.PoolKIdeal.main_v4_2)) (v3 : (c : Dev Cert.PoolKIdeal.nD) → Buf (Elt Ideal) ((c.tc : Thread Cert.PoolKIdeal.nD Cert.PoolKIdeal.τ).loc Cert.PoolKIdeal.main_v5)),
      θ_run (Cert.PoolKIdeal.defs (F := Ideal)) (onTc (τ := Cert.PoolKIdeal.τ) (Cert.PoolKIdeal.main (F := Ideal))) ⟨m, fun _ => 0, g⟩ (fun r => ∀ c : Dev Cert.PoolKIdeal.nD,
          r.2.mem ((c.tc : Thread Cert.PoolKIdeal.nD Cert.PoolKIdeal.τ).loc Cert.PoolKIdeal.main_v2_2) = v0 c
          ∧ r.2.mem ((c.tc : Thread Cert.PoolKIdeal.nD Cert.PoolKIdeal.τ).loc Cert.PoolKIdeal.main_v4_1) = v1 c
          ∧ r.2.mem ((c.tc : Thread Cert.PoolKIdeal.nD Cert.PoolKIdeal.τ).loc Cert.PoolKIdeal.main_v4_2) = v2 c
          ∧ r.2.mem ((c.tc : Thread Cert.PoolKIdeal.nD Cert.PoolKIdeal.τ).loc Cert.PoolKIdeal.main_v5) = v3 c
          ∧ r.2.mem ((c.tc : Thread Cert.PoolKIdeal.nD Cert.PoolKIdeal.τ).loc Cert.PoolKIdeal.main_arg0) = m ((c.tc : Thread Cert.PoolKIdeal.nD Cert.PoolKIdeal.τ).loc Cert.PoolKIdeal.main_arg0)
          ∧ r.2.mem ((c.tc : Thread Cert.PoolKIdeal.nD Cert.PoolKIdeal.τ).loc Cert.PoolKIdeal.main_arg1) = m ((c.tc : Thread Cert.PoolKIdeal.nD Cert.PoolKIdeal.τ).loc Cert.PoolKIdeal.main_arg1)
          ∧ r.2.mem ((c.tc : Thread Cert.PoolKIdeal.nD Cert.PoolKIdeal.τ).loc Cert.PoolKIdeal.main_arg2) = m ((c.tc : Thread Cert.PoolKIdeal.nD Cert.PoolKIdeal.τ).loc Cert.PoolKIdeal.main_arg2)
          ∧ r.2.mem ((c.tc : Thread Cert.PoolKIdeal.nD Cert.PoolKIdeal.τ).loc Cert.PoolKIdeal.main_arg3) = m ((c.tc : Thread Cert.PoolKIdeal.nD Cert.PoolKIdeal.τ).loc Cert.PoolKIdeal.main_arg3))
      ∧ θ_run (Cert.PoolRIdeal.defs (F := Ideal)) (onTc (τ := Cert.PoolRIdeal.τ) (Cert.PoolRIdeal.main (F := Ideal))) ⟨m', fun _ => 0, g'⟩ (fun r => ∀ c : Dev Cert.PoolRIdeal.nD,
          r.2.mem ((c.tc : Thread Cert.PoolRIdeal.nD Cert.PoolRIdeal.τ).loc Cert.PoolRIdeal.main_v55) = v0 c
          ∧ r.2.mem ((c.tc : Thread Cert.PoolRIdeal.nD Cert.PoolRIdeal.τ).loc Cert.PoolRIdeal.main_v59) = v1 c
          ∧ r.2.mem ((c.tc : Thread Cert.PoolRIdeal.nD Cert.PoolRIdeal.τ).loc Cert.PoolRIdeal.main_v60) = v2 c
          ∧ r.2.mem ((c.tc : Thread Cert.PoolRIdeal.nD Cert.PoolRIdeal.τ).loc Cert.PoolRIdeal.main_v61) = v3 c
          ∧ r.2.mem ((c.tc : Thread Cert.PoolRIdeal.nD Cert.PoolRIdeal.τ).loc Cert.PoolRIdeal.main_arg0) = m' ((c.tc : Thread Cert.PoolRIdeal.nD Cert.PoolRIdeal.τ).loc Cert.PoolRIdeal.main_arg0)
          ∧ r.2.mem ((c.tc : Thread Cert.PoolRIdeal.nD Cert.PoolRIdeal.τ).loc Cert.PoolRIdeal.main_arg1) = m' ((c.tc : Thread Cert.PoolRIdeal.nD Cert.PoolRIdeal.τ).loc Cert.PoolRIdeal.main_arg1)
          ∧ r.2.mem ((c.tc : Thread Cert.PoolRIdeal.nD Cert.PoolRIdeal.τ).loc Cert.PoolRIdeal.main_arg2) = m' ((c.tc : Thread Cert.PoolRIdeal.nD Cert.PoolRIdeal.τ).loc Cert.PoolRIdeal.main_arg2)
          ∧ r.2.mem ((c.tc : Thread Cert.PoolRIdeal.nD Cert.PoolRIdeal.τ).loc Cert.PoolRIdeal.main_arg3) = m' ((c.tc : Thread Cert.PoolRIdeal.nD Cert.PoolRIdeal.τ).loc Cert.PoolRIdeal.main_arg3))

def preserves_PoolP0K_PoolP0KIdeal : Prop :=
  True

def algebraic_PoolP0KIdeal_PoolP0RIdeal_pre_poolp0_finite [hPoolP0KIdeal : Cert.PoolP0KIdeal.Facts] [hPoolP0RIdeal : Cert.PoolP0RIdeal.Facts] [hPre_poolp0_finite : Cert.Pre_poolp0_finite.Facts] : Prop :=
  ∀ (m : (ℓ : Loc Cert.PoolP0KIdeal.nD Cert.PoolP0KIdeal.τ Cert.PoolP0KIdeal.sig) → Buf (Elt Ideal) ℓ) (g : Dev Cert.PoolP0KIdeal.nD → PrngReg)
    (m' : (ℓ : Loc Cert.PoolP0RIdeal.nD Cert.PoolP0RIdeal.τ Cert.PoolP0RIdeal.sig) → Buf (Elt Ideal) ℓ) (g' : Dev Cert.PoolP0RIdeal.nD → PrngReg), Pre_PoolP0KIdeal_poolp0_finite m →
    (∀ c : Dev Cert.PoolP0KIdeal.nD,
      m' ((c.tc : Thread Cert.PoolP0RIdeal.nD Cert.PoolP0RIdeal.τ).loc Cert.PoolP0RIdeal.main_arg0) = m ((c.tc : Thread Cert.PoolP0KIdeal.nD Cert.PoolP0KIdeal.τ).loc Cert.PoolP0KIdeal.main_arg0)
      ∧ m' ((c.tc : Thread Cert.PoolP0RIdeal.nD Cert.PoolP0RIdeal.τ).loc Cert.PoolP0RIdeal.main_arg1) = m ((c.tc : Thread Cert.PoolP0KIdeal.nD Cert.PoolP0KIdeal.τ).loc Cert.PoolP0KIdeal.main_arg1)
      ∧ m' ((c.tc : Thread Cert.PoolP0RIdeal.nD Cert.PoolP0RIdeal.τ).loc Cert.PoolP0RIdeal.main_arg2) = m ((c.tc : Thread Cert.PoolP0KIdeal.nD Cert.PoolP0KIdeal.τ).loc Cert.PoolP0KIdeal.main_arg2)
      ∧ m' ((c.tc : Thread Cert.PoolP0RIdeal.nD Cert.PoolP0RIdeal.τ).loc Cert.PoolP0RIdeal.main_arg3) = m ((c.tc : Thread Cert.PoolP0KIdeal.nD Cert.PoolP0KIdeal.τ).loc Cert.PoolP0KIdeal.main_arg3)) →
    ∃ (v0 : (c : Dev Cert.PoolP0KIdeal.nD) → Buf (Elt Ideal) ((c.tc : Thread Cert.PoolP0KIdeal.nD Cert.PoolP0KIdeal.τ).loc Cert.PoolP0KIdeal.main_v2_2)) (v1 : (c : Dev Cert.PoolP0KIdeal.nD) → Buf (Elt Ideal) ((c.tc : Thread Cert.PoolP0KIdeal.nD Cert.PoolP0KIdeal.τ).loc Cert.PoolP0KIdeal.main_v4_1)) (v2 : (c : Dev Cert.PoolP0KIdeal.nD) → Buf (Elt Ideal) ((c.tc : Thread Cert.PoolP0KIdeal.nD Cert.PoolP0KIdeal.τ).loc Cert.PoolP0KIdeal.main_v4_2)) (v3 : (c : Dev Cert.PoolP0KIdeal.nD) → Buf (Elt Ideal) ((c.tc : Thread Cert.PoolP0KIdeal.nD Cert.PoolP0KIdeal.τ).loc Cert.PoolP0KIdeal.main_v5)),
      θ_run (Cert.PoolP0KIdeal.defs (F := Ideal)) (onTc (τ := Cert.PoolP0KIdeal.τ) (Cert.PoolP0KIdeal.main (F := Ideal))) ⟨m, fun _ => 0, g⟩ (fun r => ∀ c : Dev Cert.PoolP0KIdeal.nD,
          r.2.mem ((c.tc : Thread Cert.PoolP0KIdeal.nD Cert.PoolP0KIdeal.τ).loc Cert.PoolP0KIdeal.main_v2_2) = v0 c
          ∧ r.2.mem ((c.tc : Thread Cert.PoolP0KIdeal.nD Cert.PoolP0KIdeal.τ).loc Cert.PoolP0KIdeal.main_v4_1) = v1 c
          ∧ r.2.mem ((c.tc : Thread Cert.PoolP0KIdeal.nD Cert.PoolP0KIdeal.τ).loc Cert.PoolP0KIdeal.main_v4_2) = v2 c
          ∧ r.2.mem ((c.tc : Thread Cert.PoolP0KIdeal.nD Cert.PoolP0KIdeal.τ).loc Cert.PoolP0KIdeal.main_v5) = v3 c
          ∧ r.2.mem ((c.tc : Thread Cert.PoolP0KIdeal.nD Cert.PoolP0KIdeal.τ).loc Cert.PoolP0KIdeal.main_arg0) = m ((c.tc : Thread Cert.PoolP0KIdeal.nD Cert.PoolP0KIdeal.τ).loc Cert.PoolP0KIdeal.main_arg0)
          ∧ r.2.mem ((c.tc : Thread Cert.PoolP0KIdeal.nD Cert.PoolP0KIdeal.τ).loc Cert.PoolP0KIdeal.main_arg1) = m ((c.tc : Thread Cert.PoolP0KIdeal.nD Cert.PoolP0KIdeal.τ).loc Cert.PoolP0KIdeal.main_arg1)
          ∧ r.2.mem ((c.tc : Thread Cert.PoolP0KIdeal.nD Cert.PoolP0KIdeal.τ).loc Cert.PoolP0KIdeal.main_arg2) = m ((c.tc : Thread Cert.PoolP0KIdeal.nD Cert.PoolP0KIdeal.τ).loc Cert.PoolP0KIdeal.main_arg2)
          ∧ r.2.mem ((c.tc : Thread Cert.PoolP0KIdeal.nD Cert.PoolP0KIdeal.τ).loc Cert.PoolP0KIdeal.main_arg3) = m ((c.tc : Thread Cert.PoolP0KIdeal.nD Cert.PoolP0KIdeal.τ).loc Cert.PoolP0KIdeal.main_arg3))
      ∧ θ_run (Cert.PoolP0RIdeal.defs (F := Ideal)) (onTc (τ := Cert.PoolP0RIdeal.τ) (Cert.PoolP0RIdeal.main (F := Ideal))) ⟨m', fun _ => 0, g'⟩ (fun r => ∀ c : Dev Cert.PoolP0RIdeal.nD,
          r.2.mem ((c.tc : Thread Cert.PoolP0RIdeal.nD Cert.PoolP0RIdeal.τ).loc Cert.PoolP0RIdeal.main_v120) = v0 c
          ∧ r.2.mem ((c.tc : Thread Cert.PoolP0RIdeal.nD Cert.PoolP0RIdeal.τ).loc Cert.PoolP0RIdeal.main_v121) = v1 c
          ∧ r.2.mem ((c.tc : Thread Cert.PoolP0RIdeal.nD Cert.PoolP0RIdeal.τ).loc Cert.PoolP0RIdeal.main_v122) = v2 c
          ∧ r.2.mem ((c.tc : Thread Cert.PoolP0RIdeal.nD Cert.PoolP0RIdeal.τ).loc Cert.PoolP0RIdeal.main_v123) = v3 c
          ∧ r.2.mem ((c.tc : Thread Cert.PoolP0RIdeal.nD Cert.PoolP0RIdeal.τ).loc Cert.PoolP0RIdeal.main_arg0) = m' ((c.tc : Thread Cert.PoolP0RIdeal.nD Cert.PoolP0RIdeal.τ).loc Cert.PoolP0RIdeal.main_arg0)
          ∧ r.2.mem ((c.tc : Thread Cert.PoolP0RIdeal.nD Cert.PoolP0RIdeal.τ).loc Cert.PoolP0RIdeal.main_arg1) = m' ((c.tc : Thread Cert.PoolP0RIdeal.nD Cert.PoolP0RIdeal.τ).loc Cert.PoolP0RIdeal.main_arg1)
          ∧ r.2.mem ((c.tc : Thread Cert.PoolP0RIdeal.nD Cert.PoolP0RIdeal.τ).loc Cert.PoolP0RIdeal.main_arg2) = m' ((c.tc : Thread Cert.PoolP0RIdeal.nD Cert.PoolP0RIdeal.τ).loc Cert.PoolP0RIdeal.main_arg2)
          ∧ r.2.mem ((c.tc : Thread Cert.PoolP0RIdeal.nD Cert.PoolP0RIdeal.τ).loc Cert.PoolP0RIdeal.main_arg3) = m' ((c.tc : Thread Cert.PoolP0RIdeal.nD Cert.PoolP0RIdeal.τ).loc Cert.PoolP0RIdeal.main_arg3))

def preserves_ConvFK_ConvFKIdeal : Prop :=
  True

def algebraic_ConvFKIdeal_ConvFRIdeal [hConvFKIdeal : Cert.ConvFKIdeal.Facts] [hConvFRIdeal : Cert.ConvFRIdeal.Facts] : Prop :=
  ∀ (m : (ℓ : Loc Cert.ConvFKIdeal.nD Cert.ConvFKIdeal.τ Cert.ConvFKIdeal.sig) → Buf (Elt Ideal) ℓ) (g : Dev Cert.ConvFKIdeal.nD → PrngReg)
    (m' : (ℓ : Loc Cert.ConvFRIdeal.nD Cert.ConvFRIdeal.τ Cert.ConvFRIdeal.sig) → Buf (Elt Ideal) ℓ) (g' : Dev Cert.ConvFRIdeal.nD → PrngReg), Pre_ConvFKIdeal m →
    (∀ c : Dev Cert.ConvFKIdeal.nD,
      m' ((c.tc : Thread Cert.ConvFRIdeal.nD Cert.ConvFRIdeal.τ).loc Cert.ConvFRIdeal.main_arg0) = m ((c.tc : Thread Cert.ConvFKIdeal.nD Cert.ConvFKIdeal.τ).loc Cert.ConvFKIdeal.main_arg0)
      ∧ m' ((c.tc : Thread Cert.ConvFRIdeal.nD Cert.ConvFRIdeal.τ).loc Cert.ConvFRIdeal.main_arg1) = m ((c.tc : Thread Cert.ConvFKIdeal.nD Cert.ConvFKIdeal.τ).loc Cert.ConvFKIdeal.main_arg1)
      ∧ m' ((c.tc : Thread Cert.ConvFRIdeal.nD Cert.ConvFRIdeal.τ).loc Cert.ConvFRIdeal.main_arg2) = m ((c.tc : Thread Cert.ConvFKIdeal.nD Cert.ConvFKIdeal.τ).loc Cert.ConvFKIdeal.main_arg2)) →
    ∃ (v0 : (c : Dev Cert.ConvFKIdeal.nD) → Buf (Elt Ideal) ((c.tc : Thread Cert.ConvFKIdeal.nD Cert.ConvFKIdeal.τ).loc Cert.ConvFKIdeal.main_v0)),
      θ_run (Cert.ConvFKIdeal.defs (F := Ideal)) (onTc (τ := Cert.ConvFKIdeal.τ) (Cert.ConvFKIdeal.main (F := Ideal))) ⟨m, fun _ => 0, g⟩ (fun r => ∀ c : Dev Cert.ConvFKIdeal.nD,
          r.2.mem ((c.tc : Thread Cert.ConvFKIdeal.nD Cert.ConvFKIdeal.τ).loc Cert.ConvFKIdeal.main_v0) = v0 c
          ∧ r.2.mem ((c.tc : Thread Cert.ConvFKIdeal.nD Cert.ConvFKIdeal.τ).loc Cert.ConvFKIdeal.main_arg0) = m ((c.tc : Thread Cert.ConvFKIdeal.nD Cert.ConvFKIdeal.τ).loc Cert.ConvFKIdeal.main_arg0)
          ∧ r.2.mem ((c.tc : Thread Cert.ConvFKIdeal.nD Cert.ConvFKIdeal.τ).loc Cert.ConvFKIdeal.main_arg1) = m ((c.tc : Thread Cert.ConvFKIdeal.nD Cert.ConvFKIdeal.τ).loc Cert.ConvFKIdeal.main_arg1)
          ∧ r.2.mem ((c.tc : Thread Cert.ConvFKIdeal.nD Cert.ConvFKIdeal.τ).loc Cert.ConvFKIdeal.main_arg2) = m ((c.tc : Thread Cert.ConvFKIdeal.nD Cert.ConvFKIdeal.τ).loc Cert.ConvFKIdeal.main_arg2))
      ∧ θ_run (Cert.ConvFRIdeal.defs (F := Ideal)) (onTc (τ := Cert.ConvFRIdeal.τ) (Cert.ConvFRIdeal.main (F := Ideal))) ⟨m', fun _ => 0, g'⟩ (fun r => ∀ c : Dev Cert.ConvFRIdeal.nD,
          r.2.mem ((c.tc : Thread Cert.ConvFRIdeal.nD Cert.ConvFRIdeal.τ).loc Cert.ConvFRIdeal.main_v33) = v0 c
          ∧ r.2.mem ((c.tc : Thread Cert.ConvFRIdeal.nD Cert.ConvFRIdeal.τ).loc Cert.ConvFRIdeal.main_arg0) = m' ((c.tc : Thread Cert.ConvFRIdeal.nD Cert.ConvFRIdeal.τ).loc Cert.ConvFRIdeal.main_arg0)
          ∧ r.2.mem ((c.tc : Thread Cert.ConvFRIdeal.nD Cert.ConvFRIdeal.τ).loc Cert.ConvFRIdeal.main_arg1) = m' ((c.tc : Thread Cert.ConvFRIdeal.nD Cert.ConvFRIdeal.τ).loc Cert.ConvFRIdeal.main_arg1)
          ∧ r.2.mem ((c.tc : Thread Cert.ConvFRIdeal.nD Cert.ConvFRIdeal.τ).loc Cert.ConvFRIdeal.main_arg2) = m' ((c.tc : Thread Cert.ConvFRIdeal.nD Cert.ConvFRIdeal.τ).loc Cert.ConvFRIdeal.main_arg2))

def preserves_ResidK_ResidKIdeal : Prop :=
  True

def algebraic_ResidKIdeal_ResidRIdeal [hResidKIdeal : Cert.ResidKIdeal.Facts] [hResidRIdeal : Cert.ResidRIdeal.Facts] : Prop :=
  ∀ (m : (ℓ : Loc Cert.ResidKIdeal.nD Cert.ResidKIdeal.τ Cert.ResidKIdeal.sig) → Buf (Elt Ideal) ℓ) (g : Dev Cert.ResidKIdeal.nD → PrngReg)
    (m' : (ℓ : Loc Cert.ResidRIdeal.nD Cert.ResidRIdeal.τ Cert.ResidRIdeal.sig) → Buf (Elt Ideal) ℓ) (g' : Dev Cert.ResidRIdeal.nD → PrngReg), Pre_ResidKIdeal m →
    (∀ c : Dev Cert.ResidKIdeal.nD,
      m' ((c.tc : Thread Cert.ResidRIdeal.nD Cert.ResidRIdeal.τ).loc Cert.ResidRIdeal.main_arg0) = m ((c.tc : Thread Cert.ResidKIdeal.nD Cert.ResidKIdeal.τ).loc Cert.ResidKIdeal.main_arg0)
      ∧ m' ((c.tc : Thread Cert.ResidRIdeal.nD Cert.ResidRIdeal.τ).loc Cert.ResidRIdeal.main_arg1) = m ((c.tc : Thread Cert.ResidKIdeal.nD Cert.ResidKIdeal.τ).loc Cert.ResidKIdeal.main_arg1)
      ∧ m' ((c.tc : Thread Cert.ResidRIdeal.nD Cert.ResidRIdeal.τ).loc Cert.ResidRIdeal.main_arg2) = m ((c.tc : Thread Cert.ResidKIdeal.nD Cert.ResidKIdeal.τ).loc Cert.ResidKIdeal.main_arg2)
      ∧ m' ((c.tc : Thread Cert.ResidRIdeal.nD Cert.ResidRIdeal.τ).loc Cert.ResidRIdeal.main_arg3) = m ((c.tc : Thread Cert.ResidKIdeal.nD Cert.ResidKIdeal.τ).loc Cert.ResidKIdeal.main_arg3)) →
    ∃ (v0 : (c : Dev Cert.ResidKIdeal.nD) → Buf (Elt Ideal) ((c.tc : Thread Cert.ResidKIdeal.nD Cert.ResidKIdeal.τ).loc Cert.ResidKIdeal.main_v2_0)) (v1 : (c : Dev Cert.ResidKIdeal.nD) → Buf (Elt Ideal) ((c.tc : Thread Cert.ResidKIdeal.nD Cert.ResidKIdeal.τ).loc Cert.ResidKIdeal.main_v2_1)),
      θ_run (Cert.ResidKIdeal.defs (F := Ideal)) (onTc (τ := Cert.ResidKIdeal.τ) (Cert.ResidKIdeal.main (F := Ideal))) ⟨m, fun _ => 0, g⟩ (fun r => ∀ c : Dev Cert.ResidKIdeal.nD,
          r.2.mem ((c.tc : Thread Cert.ResidKIdeal.nD Cert.ResidKIdeal.τ).loc Cert.ResidKIdeal.main_v2_0) = v0 c
          ∧ r.2.mem ((c.tc : Thread Cert.ResidKIdeal.nD Cert.ResidKIdeal.τ).loc Cert.ResidKIdeal.main_v2_1) = v1 c
          ∧ r.2.mem ((c.tc : Thread Cert.ResidKIdeal.nD Cert.ResidKIdeal.τ).loc Cert.ResidKIdeal.main_arg0) = m ((c.tc : Thread Cert.ResidKIdeal.nD Cert.ResidKIdeal.τ).loc Cert.ResidKIdeal.main_arg0)
          ∧ r.2.mem ((c.tc : Thread Cert.ResidKIdeal.nD Cert.ResidKIdeal.τ).loc Cert.ResidKIdeal.main_arg1) = m ((c.tc : Thread Cert.ResidKIdeal.nD Cert.ResidKIdeal.τ).loc Cert.ResidKIdeal.main_arg1)
          ∧ r.2.mem ((c.tc : Thread Cert.ResidKIdeal.nD Cert.ResidKIdeal.τ).loc Cert.ResidKIdeal.main_arg2) = m ((c.tc : Thread Cert.ResidKIdeal.nD Cert.ResidKIdeal.τ).loc Cert.ResidKIdeal.main_arg2)
          ∧ r.2.mem ((c.tc : Thread Cert.ResidKIdeal.nD Cert.ResidKIdeal.τ).loc Cert.ResidKIdeal.main_arg3) = m ((c.tc : Thread Cert.ResidKIdeal.nD Cert.ResidKIdeal.τ).loc Cert.ResidKIdeal.main_arg3))
      ∧ θ_run (Cert.ResidRIdeal.defs (F := Ideal)) (onTc (τ := Cert.ResidRIdeal.τ) (Cert.ResidRIdeal.main (F := Ideal))) ⟨m', fun _ => 0, g'⟩ (fun r => ∀ c : Dev Cert.ResidRIdeal.nD,
          r.2.mem ((c.tc : Thread Cert.ResidRIdeal.nD Cert.ResidRIdeal.τ).loc Cert.ResidRIdeal.main_v2) = v0 c
          ∧ r.2.mem ((c.tc : Thread Cert.ResidRIdeal.nD Cert.ResidRIdeal.τ).loc Cert.ResidRIdeal.main_v6) = v1 c
          ∧ r.2.mem ((c.tc : Thread Cert.ResidRIdeal.nD Cert.ResidRIdeal.τ).loc Cert.ResidRIdeal.main_arg0) = m' ((c.tc : Thread Cert.ResidRIdeal.nD Cert.ResidRIdeal.τ).loc Cert.ResidRIdeal.main_arg0)
          ∧ r.2.mem ((c.tc : Thread Cert.ResidRIdeal.nD Cert.ResidRIdeal.τ).loc Cert.ResidRIdeal.main_arg1) = m' ((c.tc : Thread Cert.ResidRIdeal.nD Cert.ResidRIdeal.τ).loc Cert.ResidRIdeal.main_arg1)
          ∧ r.2.mem ((c.tc : Thread Cert.ResidRIdeal.nD Cert.ResidRIdeal.τ).loc Cert.ResidRIdeal.main_arg2) = m' ((c.tc : Thread Cert.ResidRIdeal.nD Cert.ResidRIdeal.τ).loc Cert.ResidRIdeal.main_arg2)
          ∧ r.2.mem ((c.tc : Thread Cert.ResidRIdeal.nD Cert.ResidRIdeal.τ).loc Cert.ResidRIdeal.main_arg3) = m' ((c.tc : Thread Cert.ResidRIdeal.nD Cert.ResidRIdeal.τ).loc Cert.ResidRIdeal.main_arg3))

def preserves_Resid2K_Resid2KIdeal : Prop :=
  True

def algebraic_Resid2KIdeal_Resid2RIdeal [hResid2KIdeal : Cert.Resid2KIdeal.Facts] [hResid2RIdeal : Cert.Resid2RIdeal.Facts] : Prop :=
  ∀ (m : (ℓ : Loc Cert.Resid2KIdeal.nD Cert.Resid2KIdeal.τ Cert.Resid2KIdeal.sig) → Buf (Elt Ideal) ℓ) (g : Dev Cert.Resid2KIdeal.nD → PrngReg)
    (m' : (ℓ : Loc Cert.Resid2RIdeal.nD Cert.Resid2RIdeal.τ Cert.Resid2RIdeal.sig) → Buf (Elt Ideal) ℓ) (g' : Dev Cert.Resid2RIdeal.nD → PrngReg), Pre_Resid2KIdeal m →
    (∀ c : Dev Cert.Resid2KIdeal.nD,
      m' ((c.tc : Thread Cert.Resid2RIdeal.nD Cert.Resid2RIdeal.τ).loc Cert.Resid2RIdeal.main_arg0) = m ((c.tc : Thread Cert.Resid2KIdeal.nD Cert.Resid2KIdeal.τ).loc Cert.Resid2KIdeal.main_arg0)
      ∧ m' ((c.tc : Thread Cert.Resid2RIdeal.nD Cert.Resid2RIdeal.τ).loc Cert.Resid2RIdeal.main_arg1) = m ((c.tc : Thread Cert.Resid2KIdeal.nD Cert.Resid2KIdeal.τ).loc Cert.Resid2KIdeal.main_arg1)
      ∧ m' ((c.tc : Thread Cert.Resid2RIdeal.nD Cert.Resid2RIdeal.τ).loc Cert.Resid2RIdeal.main_arg2) = m ((c.tc : Thread Cert.Resid2KIdeal.nD Cert.Resid2KIdeal.τ).loc Cert.Resid2KIdeal.main_arg2)
      ∧ m' ((c.tc : Thread Cert.Resid2RIdeal.nD Cert.Resid2RIdeal.τ).loc Cert.Resid2RIdeal.main_arg3) = m ((c.tc : Thread Cert.Resid2KIdeal.nD Cert.Resid2KIdeal.τ).loc Cert.Resid2KIdeal.main_arg3)
      ∧ m' ((c.tc : Thread Cert.Resid2RIdeal.nD Cert.Resid2RIdeal.τ).loc Cert.Resid2RIdeal.main_arg4) = m ((c.tc : Thread Cert.Resid2KIdeal.nD Cert.Resid2KIdeal.τ).loc Cert.Resid2KIdeal.main_arg4)) →
    ∃ (v0 : (c : Dev Cert.Resid2KIdeal.nD) → Buf (Elt Ideal) ((c.tc : Thread Cert.Resid2KIdeal.nD Cert.Resid2KIdeal.τ).loc Cert.Resid2KIdeal.main_v5_0)) (v1 : (c : Dev Cert.Resid2KIdeal.nD) → Buf (Elt Ideal) ((c.tc : Thread Cert.Resid2KIdeal.nD Cert.Resid2KIdeal.τ).loc Cert.Resid2KIdeal.main_v5_1)),
      θ_run (Cert.Resid2KIdeal.defs (F := Ideal)) (onTc (τ := Cert.Resid2KIdeal.τ) (Cert.Resid2KIdeal.main (F := Ideal))) ⟨m, fun _ => 0, g⟩ (fun r => ∀ c : Dev Cert.Resid2KIdeal.nD,
          r.2.mem ((c.tc : Thread Cert.Resid2KIdeal.nD Cert.Resid2KIdeal.τ).loc Cert.Resid2KIdeal.main_v5_0) = v0 c
          ∧ r.2.mem ((c.tc : Thread Cert.Resid2KIdeal.nD Cert.Resid2KIdeal.τ).loc Cert.Resid2KIdeal.main_v5_1) = v1 c
          ∧ r.2.mem ((c.tc : Thread Cert.Resid2KIdeal.nD Cert.Resid2KIdeal.τ).loc Cert.Resid2KIdeal.main_arg0) = m ((c.tc : Thread Cert.Resid2KIdeal.nD Cert.Resid2KIdeal.τ).loc Cert.Resid2KIdeal.main_arg0)
          ∧ r.2.mem ((c.tc : Thread Cert.Resid2KIdeal.nD Cert.Resid2KIdeal.τ).loc Cert.Resid2KIdeal.main_arg1) = m ((c.tc : Thread Cert.Resid2KIdeal.nD Cert.Resid2KIdeal.τ).loc Cert.Resid2KIdeal.main_arg1)
          ∧ r.2.mem ((c.tc : Thread Cert.Resid2KIdeal.nD Cert.Resid2KIdeal.τ).loc Cert.Resid2KIdeal.main_arg2) = m ((c.tc : Thread Cert.Resid2KIdeal.nD Cert.Resid2KIdeal.τ).loc Cert.Resid2KIdeal.main_arg2)
          ∧ r.2.mem ((c.tc : Thread Cert.Resid2KIdeal.nD Cert.Resid2KIdeal.τ).loc Cert.Resid2KIdeal.main_arg3) = m ((c.tc : Thread Cert.Resid2KIdeal.nD Cert.Resid2KIdeal.τ).loc Cert.Resid2KIdeal.main_arg3)
          ∧ r.2.mem ((c.tc : Thread Cert.Resid2KIdeal.nD Cert.Resid2KIdeal.τ).loc Cert.Resid2KIdeal.main_arg4) = m ((c.tc : Thread Cert.Resid2KIdeal.nD Cert.Resid2KIdeal.τ).loc Cert.Resid2KIdeal.main_arg4))
      ∧ θ_run (Cert.Resid2RIdeal.defs (F := Ideal)) (onTc (τ := Cert.Resid2RIdeal.τ) (Cert.Resid2RIdeal.main (F := Ideal))) ⟨m', fun _ => 0, g'⟩ (fun r => ∀ c : Dev Cert.Resid2RIdeal.nD,
          r.2.mem ((c.tc : Thread Cert.Resid2RIdeal.nD Cert.Resid2RIdeal.τ).loc Cert.Resid2RIdeal.main_v7) = v0 c
          ∧ r.2.mem ((c.tc : Thread Cert.Resid2RIdeal.nD Cert.Resid2RIdeal.τ).loc Cert.Resid2RIdeal.main_v18) = v1 c
          ∧ r.2.mem ((c.tc : Thread Cert.Resid2RIdeal.nD Cert.Resid2RIdeal.τ).loc Cert.Resid2RIdeal.main_arg0) = m' ((c.tc : Thread Cert.Resid2RIdeal.nD Cert.Resid2RIdeal.τ).loc Cert.Resid2RIdeal.main_arg0)
          ∧ r.2.mem ((c.tc : Thread Cert.Resid2RIdeal.nD Cert.Resid2RIdeal.τ).loc Cert.Resid2RIdeal.main_arg1) = m' ((c.tc : Thread Cert.Resid2RIdeal.nD Cert.Resid2RIdeal.τ).loc Cert.Resid2RIdeal.main_arg1)
          ∧ r.2.mem ((c.tc : Thread Cert.Resid2RIdeal.nD Cert.Resid2RIdeal.τ).loc Cert.Resid2RIdeal.main_arg2) = m' ((c.tc : Thread Cert.Resid2RIdeal.nD Cert.Resid2RIdeal.τ).loc Cert.Resid2RIdeal.main_arg2)
          ∧ r.2.mem ((c.tc : Thread Cert.Resid2RIdeal.nD Cert.Resid2RIdeal.τ).loc Cert.Resid2RIdeal.main_arg3) = m' ((c.tc : Thread Cert.Resid2RIdeal.nD Cert.Resid2RIdeal.τ).loc Cert.Resid2RIdeal.main_arg3)
          ∧ r.2.mem ((c.tc : Thread Cert.Resid2RIdeal.nD Cert.Resid2RIdeal.τ).loc Cert.Resid2RIdeal.main_arg4) = m' ((c.tc : Thread Cert.Resid2RIdeal.nD Cert.Resid2RIdeal.τ).loc Cert.Resid2RIdeal.main_arg4))

def preserves_NormFK_NormFKIdeal : Prop :=
  True

def algebraic_NormFKIdeal_NormFRIdeal [hNormFKIdeal : Cert.NormFKIdeal.Facts] [hNormFRIdeal : Cert.NormFRIdeal.Facts] : Prop :=
  ∀ (m : (ℓ : Loc Cert.NormFKIdeal.nD Cert.NormFKIdeal.τ Cert.NormFKIdeal.sig) → Buf (Elt Ideal) ℓ) (g : Dev Cert.NormFKIdeal.nD → PrngReg)
    (m' : (ℓ : Loc Cert.NormFRIdeal.nD Cert.NormFRIdeal.τ Cert.NormFRIdeal.sig) → Buf (Elt Ideal) ℓ) (g' : Dev Cert.NormFRIdeal.nD → PrngReg), Pre_NormFKIdeal m →
    (∀ c : Dev Cert.NormFKIdeal.nD,
      m' ((c.tc : Thread Cert.NormFRIdeal.nD Cert.NormFRIdeal.τ).loc Cert.NormFRIdeal.main_arg0) = m ((c.tc : Thread Cert.NormFKIdeal.nD Cert.NormFKIdeal.τ).loc Cert.NormFKIdeal.main_arg0)
      ∧ m' ((c.tc : Thread Cert.NormFRIdeal.nD Cert.NormFRIdeal.τ).loc Cert.NormFRIdeal.main_arg1) = m ((c.tc : Thread Cert.NormFKIdeal.nD Cert.NormFKIdeal.τ).loc Cert.NormFKIdeal.main_arg1)
      ∧ m' ((c.tc : Thread Cert.NormFRIdeal.nD Cert.NormFRIdeal.τ).loc Cert.NormFRIdeal.main_arg2) = m ((c.tc : Thread Cert.NormFKIdeal.nD Cert.NormFKIdeal.τ).loc Cert.NormFKIdeal.main_arg2)
      ∧ m' ((c.tc : Thread Cert.NormFRIdeal.nD Cert.NormFRIdeal.τ).loc Cert.NormFRIdeal.main_arg3) = m ((c.tc : Thread Cert.NormFKIdeal.nD Cert.NormFKIdeal.τ).loc Cert.NormFKIdeal.main_arg3)
      ∧ m' ((c.tc : Thread Cert.NormFRIdeal.nD Cert.NormFRIdeal.τ).loc Cert.NormFRIdeal.main_arg4) = m ((c.tc : Thread Cert.NormFKIdeal.nD Cert.NormFKIdeal.τ).loc Cert.NormFKIdeal.main_arg4)) →
    ∃ (v0 : (c : Dev Cert.NormFKIdeal.nD) → Buf (Elt Ideal) ((c.tc : Thread Cert.NormFKIdeal.nD Cert.NormFKIdeal.τ).loc Cert.NormFKIdeal.main_v4_0)) (v1 : (c : Dev Cert.NormFKIdeal.nD) → Buf (Elt Ideal) ((c.tc : Thread Cert.NormFKIdeal.nD Cert.NormFKIdeal.τ).loc Cert.NormFKIdeal.main_v4_1)) (v2 : (c : Dev Cert.NormFKIdeal.nD) → Buf (Elt Ideal) ((c.tc : Thread Cert.NormFKIdeal.nD Cert.NormFKIdeal.τ).loc Cert.NormFKIdeal.main_v4_2)),
      θ_run (Cert.NormFKIdeal.defs (F := Ideal)) (onTc (τ := Cert.NormFKIdeal.τ) (Cert.NormFKIdeal.main (F := Ideal))) ⟨m, fun _ => 0, g⟩ (fun r => ∀ c : Dev Cert.NormFKIdeal.nD,
          r.2.mem ((c.tc : Thread Cert.NormFKIdeal.nD Cert.NormFKIdeal.τ).loc Cert.NormFKIdeal.main_v4_0) = v0 c
          ∧ r.2.mem ((c.tc : Thread Cert.NormFKIdeal.nD Cert.NormFKIdeal.τ).loc Cert.NormFKIdeal.main_v4_1) = v1 c
          ∧ r.2.mem ((c.tc : Thread Cert.NormFKIdeal.nD Cert.NormFKIdeal.τ).loc Cert.NormFKIdeal.main_v4_2) = v2 c
          ∧ r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
          ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1)
          ∧ r.2.mem ((c.tc : Thread Cert.NormFKIdeal.nD Cert.NormFKIdeal.τ).loc Cert.NormFKIdeal.main_arg2) = m ((c.tc : Thread Cert.NormFKIdeal.nD Cert.NormFKIdeal.τ).loc Cert.NormFKIdeal.main_arg2)
          ∧ r.2.mem ((c.tc : Thread Cert.NormFKIdeal.nD Cert.NormFKIdeal.τ).loc Cert.NormFKIdeal.main_arg3) = m ((c.tc : Thread Cert.NormFKIdeal.nD Cert.NormFKIdeal.τ).loc Cert.NormFKIdeal.main_arg3)
          ∧ r.2.mem ((c.tc : Thread Cert.NormFKIdeal.nD Cert.NormFKIdeal.τ).loc Cert.NormFKIdeal.main_arg4) = m ((c.tc : Thread Cert.NormFKIdeal.nD Cert.NormFKIdeal.τ).loc Cert.NormFKIdeal.main_arg4))
      ∧ θ_run (Cert.NormFRIdeal.defs (F := Ideal)) (onTc (τ := Cert.NormFRIdeal.τ) (Cert.NormFRIdeal.main (F := Ideal))) ⟨m', fun _ => 0, g'⟩ (fun r => ∀ c : Dev Cert.NormFRIdeal.nD,
          r.2.mem ((c.tc : Thread Cert.NormFRIdeal.nD Cert.NormFRIdeal.τ).loc Cert.NormFRIdeal.main_v21) = v0 c
          ∧ r.2.mem ((c.tc : Thread Cert.NormFRIdeal.nD Cert.NormFRIdeal.τ).loc Cert.NormFRIdeal.main_v7) = v1 c
          ∧ r.2.mem ((c.tc : Thread Cert.NormFRIdeal.nD Cert.NormFRIdeal.τ).loc Cert.NormFRIdeal.main_v23) = v2 c
          ∧ r.2.mem ((c.tc : Thread Cert.NormFRIdeal.nD Cert.NormFRIdeal.τ).loc Cert.NormFRIdeal.main_arg0) = m' ((c.tc : Thread Cert.NormFRIdeal.nD Cert.NormFRIdeal.τ).loc Cert.NormFRIdeal.main_arg0)
          ∧ r.2.mem ((c.tc : Thread Cert.NormFRIdeal.nD Cert.NormFRIdeal.τ).loc Cert.NormFRIdeal.main_arg1) = m' ((c.tc : Thread Cert.NormFRIdeal.nD Cert.NormFRIdeal.τ).loc Cert.NormFRIdeal.main_arg1)
          ∧ r.2.mem ((c.tc : Thread Cert.NormFRIdeal.nD Cert.NormFRIdeal.τ).loc Cert.NormFRIdeal.main_arg2) = m' ((c.tc : Thread Cert.NormFRIdeal.nD Cert.NormFRIdeal.τ).loc Cert.NormFRIdeal.main_arg2)
          ∧ r.2.mem ((c.tc : Thread Cert.NormFRIdeal.nD Cert.NormFRIdeal.τ).loc Cert.NormFRIdeal.main_arg3) = m' ((c.tc : Thread Cert.NormFRIdeal.nD Cert.NormFRIdeal.τ).loc Cert.NormFRIdeal.main_arg3)
          ∧ r.2.mem ((c.tc : Thread Cert.NormFRIdeal.nD Cert.NormFRIdeal.τ).loc Cert.NormFRIdeal.main_arg4) = m' ((c.tc : Thread Cert.NormFRIdeal.nD Cert.NormFRIdeal.τ).loc Cert.NormFRIdeal.main_arg4))

def preserves_NormFNaK_NormFNaKIdeal : Prop :=
  True

def algebraic_NormFNaKIdeal_NormFNaRIdeal [hNormFNaKIdeal : Cert.NormFNaKIdeal.Facts] [hNormFNaRIdeal : Cert.NormFNaRIdeal.Facts] : Prop :=
  ∀ (m : (ℓ : Loc Cert.NormFNaKIdeal.nD Cert.NormFNaKIdeal.τ Cert.NormFNaKIdeal.sig) → Buf (Elt Ideal) ℓ) (g : Dev Cert.NormFNaKIdeal.nD → PrngReg)
    (m' : (ℓ : Loc Cert.NormFNaRIdeal.nD Cert.NormFNaRIdeal.τ Cert.NormFNaRIdeal.sig) → Buf (Elt Ideal) ℓ) (g' : Dev Cert.NormFNaRIdeal.nD → PrngReg), Pre_NormFNaKIdeal m →
    (∀ c : Dev Cert.NormFNaKIdeal.nD,
      m' ((c.tc : Thread Cert.NormFNaRIdeal.nD Cert.NormFNaRIdeal.τ).loc Cert.NormFNaRIdeal.main_arg0) = m ((c.tc : Thread Cert.NormFNaKIdeal.nD Cert.NormFNaKIdeal.τ).loc Cert.NormFNaKIdeal.main_arg0)
      ∧ m' ((c.tc : Thread Cert.NormFNaRIdeal.nD Cert.NormFNaRIdeal.τ).loc Cert.NormFNaRIdeal.main_arg1) = m ((c.tc : Thread Cert.NormFNaKIdeal.nD Cert.NormFNaKIdeal.τ).loc Cert.NormFNaKIdeal.main_arg1)
      ∧ m' ((c.tc : Thread Cert.NormFNaRIdeal.nD Cert.NormFNaRIdeal.τ).loc Cert.NormFNaRIdeal.main_arg2) = m ((c.tc : Thread Cert.NormFNaKIdeal.nD Cert.NormFNaKIdeal.τ).loc Cert.NormFNaKIdeal.main_arg2)
      ∧ m' ((c.tc : Thread Cert.NormFNaRIdeal.nD Cert.NormFNaRIdeal.τ).loc Cert.NormFNaRIdeal.main_arg3) = m ((c.tc : Thread Cert.NormFNaKIdeal.nD Cert.NormFNaKIdeal.τ).loc Cert.NormFNaKIdeal.main_arg3)
      ∧ m' ((c.tc : Thread Cert.NormFNaRIdeal.nD Cert.NormFNaRIdeal.τ).loc Cert.NormFNaRIdeal.main_arg4) = m ((c.tc : Thread Cert.NormFNaKIdeal.nD Cert.NormFNaKIdeal.τ).loc Cert.NormFNaKIdeal.main_arg4)
      ∧ m' ((c.tc : Thread Cert.NormFNaRIdeal.nD Cert.NormFNaRIdeal.τ).loc Cert.NormFNaRIdeal.main_arg5) = m ((c.tc : Thread Cert.NormFNaKIdeal.nD Cert.NormFNaKIdeal.τ).loc Cert.NormFNaKIdeal.main_arg5)
      ∧ m' ((c.tc : Thread Cert.NormFNaRIdeal.nD Cert.NormFNaRIdeal.τ).loc Cert.NormFNaRIdeal.main_arg6) = m ((c.tc : Thread Cert.NormFNaKIdeal.nD Cert.NormFNaKIdeal.τ).loc Cert.NormFNaKIdeal.main_arg6)
      ∧ m' ((c.tc : Thread Cert.NormFNaRIdeal.nD Cert.NormFNaRIdeal.τ).loc Cert.NormFNaRIdeal.main_arg7) = m ((c.tc : Thread Cert.NormFNaKIdeal.nD Cert.NormFNaKIdeal.τ).loc Cert.NormFNaKIdeal.main_arg7)) →
    ∃ (v0 : (c : Dev Cert.NormFNaKIdeal.nD) → Buf (Elt Ideal) ((c.tc : Thread Cert.NormFNaKIdeal.nD Cert.NormFNaKIdeal.τ).loc Cert.NormFNaKIdeal.main_v11_0)) (v1 : (c : Dev Cert.NormFNaKIdeal.nD) → Buf (Elt Ideal) ((c.tc : Thread Cert.NormFNaKIdeal.nD Cert.NormFNaKIdeal.τ).loc Cert.NormFNaKIdeal.main_v11_1)) (v2 : (c : Dev Cert.NormFNaKIdeal.nD) → Buf (Elt Ideal) ((c.tc : Thread Cert.NormFNaKIdeal.nD Cert.NormFNaKIdeal.τ).loc Cert.NormFNaKIdeal.main_v11_2)),
      θ_run (Cert.NormFNaKIdeal.defs (F := Ideal)) (onTc (τ := Cert.NormFNaKIdeal.τ) (Cert.NormFNaKIdeal.main (F := Ideal))) ⟨m, fun _ => 0, g⟩ (fun r => ∀ c : Dev Cert.NormFNaKIdeal.nD,
          r.2.mem ((c.tc : Thread Cert.NormFNaKIdeal.nD Cert.NormFNaKIdeal.τ).loc Cert.NormFNaKIdeal.main_v11_0) = v0 c
          ∧ r.2.mem ((c.tc : Thread Cert.NormFNaKIdeal.nD Cert.NormFNaKIdeal.τ).loc Cert.NormFNaKIdeal.main_v11_1) = v1 c
          ∧ r.2.mem ((c.tc : Thread Cert.NormFNaKIdeal.nD Cert.NormFNaKIdeal.τ).loc Cert.NormFNaKIdeal.main_v11_2) = v2 c
          ∧ r.2.mem ((c.tc : Thread Cert.NormFNaKIdeal.nD Cert.NormFNaKIdeal.τ).loc Cert.NormFNaKIdeal.main_arg0) = m ((c.tc : Thread Cert.NormFNaKIdeal.nD Cert.NormFNaKIdeal.τ).loc Cert.NormFNaKIdeal.main_arg0)
          ∧ r.2.mem ((c.tc : Thread Cert.NormFNaKIdeal.nD Cert.NormFNaKIdeal.τ).loc Cert.NormFNaKIdeal.main_arg1) = m ((c.tc : Thread Cert.NormFNaKIdeal.nD Cert.NormFNaKIdeal.τ).loc Cert.NormFNaKIdeal.main_arg1)
          ∧ r.2.mem ((c.tc : Thread Cert.NormFNaKIdeal.nD Cert.NormFNaKIdeal.τ).loc Cert.NormFNaKIdeal.main_arg2) = m ((c.tc : Thread Cert.NormFNaKIdeal.nD Cert.NormFNaKIdeal.τ).loc Cert.NormFNaKIdeal.main_arg2)
          ∧ r.2.mem ((c.tc : Thread Cert.NormFNaKIdeal.nD Cert.NormFNaKIdeal.τ).loc Cert.NormFNaKIdeal.main_arg3) = m ((c.tc : Thread Cert.NormFNaKIdeal.nD Cert.NormFNaKIdeal.τ).loc Cert.NormFNaKIdeal.main_arg3)
          ∧ r.2.mem ((c.tc : Thread Cert.NormFNaKIdeal.nD Cert.NormFNaKIdeal.τ).loc Cert.NormFNaKIdeal.main_arg4) = m ((c.tc : Thread Cert.NormFNaKIdeal.nD Cert.NormFNaKIdeal.τ).loc Cert.NormFNaKIdeal.main_arg4)
          ∧ r.2.mem ((c.tc : Thread Cert.NormFNaKIdeal.nD Cert.NormFNaKIdeal.τ).loc Cert.NormFNaKIdeal.main_arg5) = m ((c.tc : Thread Cert.NormFNaKIdeal.nD Cert.NormFNaKIdeal.τ).loc Cert.NormFNaKIdeal.main_arg5)
          ∧ r.2.mem ((c.tc : Thread Cert.NormFNaKIdeal.nD Cert.NormFNaKIdeal.τ).loc Cert.NormFNaKIdeal.main_arg6) = m ((c.tc : Thread Cert.NormFNaKIdeal.nD Cert.NormFNaKIdeal.τ).loc Cert.NormFNaKIdeal.main_arg6)
          ∧ r.2.mem ((c.tc : Thread Cert.NormFNaKIdeal.nD Cert.NormFNaKIdeal.τ).loc Cert.NormFNaKIdeal.main_arg7) = m ((c.tc : Thread Cert.NormFNaKIdeal.nD Cert.NormFNaKIdeal.τ).loc Cert.NormFNaKIdeal.main_arg7))
      ∧ θ_run (Cert.NormFNaRIdeal.defs (F := Ideal)) (onTc (τ := Cert.NormFNaRIdeal.τ) (Cert.NormFNaRIdeal.main (F := Ideal))) ⟨m', fun _ => 0, g'⟩ (fun r => ∀ c : Dev Cert.NormFNaRIdeal.nD,
          r.2.mem ((c.tc : Thread Cert.NormFNaRIdeal.nD Cert.NormFNaRIdeal.τ).loc Cert.NormFNaRIdeal.main_v43) = v0 c
          ∧ r.2.mem ((c.tc : Thread Cert.NormFNaRIdeal.nD Cert.NormFNaRIdeal.τ).loc Cert.NormFNaRIdeal.main_v44) = v1 c
          ∧ r.2.mem ((c.tc : Thread Cert.NormFNaRIdeal.nD Cert.NormFNaRIdeal.τ).loc Cert.NormFNaRIdeal.main_v48) = v2 c
          ∧ r.2.mem ((c.tc : Thread Cert.NormFNaRIdeal.nD Cert.NormFNaRIdeal.τ).loc Cert.NormFNaRIdeal.main_arg0) = m' ((c.tc : Thread Cert.NormFNaRIdeal.nD Cert.NormFNaRIdeal.τ).loc Cert.NormFNaRIdeal.main_arg0)
          ∧ r.2.mem ((c.tc : Thread Cert.NormFNaRIdeal.nD Cert.NormFNaRIdeal.τ).loc Cert.NormFNaRIdeal.main_arg1) = m' ((c.tc : Thread Cert.NormFNaRIdeal.nD Cert.NormFNaRIdeal.τ).loc Cert.NormFNaRIdeal.main_arg1)
          ∧ r.2.mem ((c.tc : Thread Cert.NormFNaRIdeal.nD Cert.NormFNaRIdeal.τ).loc Cert.NormFNaRIdeal.main_arg2) = m' ((c.tc : Thread Cert.NormFNaRIdeal.nD Cert.NormFNaRIdeal.τ).loc Cert.NormFNaRIdeal.main_arg2)
          ∧ r.2.mem ((c.tc : Thread Cert.NormFNaRIdeal.nD Cert.NormFNaRIdeal.τ).loc Cert.NormFNaRIdeal.main_arg3) = m' ((c.tc : Thread Cert.NormFNaRIdeal.nD Cert.NormFNaRIdeal.τ).loc Cert.NormFNaRIdeal.main_arg3)
          ∧ r.2.mem ((c.tc : Thread Cert.NormFNaRIdeal.nD Cert.NormFNaRIdeal.τ).loc Cert.NormFNaRIdeal.main_arg4) = m' ((c.tc : Thread Cert.NormFNaRIdeal.nD Cert.NormFNaRIdeal.τ).loc Cert.NormFNaRIdeal.main_arg4)
          ∧ r.2.mem ((c.tc : Thread Cert.NormFNaRIdeal.nD Cert.NormFNaRIdeal.τ).loc Cert.NormFNaRIdeal.main_arg5) = m' ((c.tc : Thread Cert.NormFNaRIdeal.nD Cert.NormFNaRIdeal.τ).loc Cert.NormFNaRIdeal.main_arg5)
          ∧ r.2.mem ((c.tc : Thread Cert.NormFNaRIdeal.nD Cert.NormFNaRIdeal.τ).loc Cert.NormFNaRIdeal.main_arg6) = m' ((c.tc : Thread Cert.NormFNaRIdeal.nD Cert.NormFNaRIdeal.τ).loc Cert.NormFNaRIdeal.main_arg6)
          ∧ r.2.mem ((c.tc : Thread Cert.NormFNaRIdeal.nD Cert.NormFNaRIdeal.τ).loc Cert.NormFNaRIdeal.main_arg7) = m' ((c.tc : Thread Cert.NormFNaRIdeal.nD Cert.NormFNaRIdeal.τ).loc Cert.NormFNaRIdeal.main_arg7))

def preserves_NormFP0K_NormFP0KIdeal : Prop :=
  True

def algebraic_NormFP0KIdeal_NormFP0RIdeal [hNormFP0KIdeal : Cert.NormFP0KIdeal.Facts] [hNormFP0RIdeal : Cert.NormFP0RIdeal.Facts] : Prop :=
  ∀ (m : (ℓ : Loc Cert.NormFP0KIdeal.nD Cert.NormFP0KIdeal.τ Cert.NormFP0KIdeal.sig) → Buf (Elt Ideal) ℓ) (g : Dev Cert.NormFP0KIdeal.nD → PrngReg)
    (m' : (ℓ : Loc Cert.NormFP0RIdeal.nD Cert.NormFP0RIdeal.τ Cert.NormFP0RIdeal.sig) → Buf (Elt Ideal) ℓ) (g' : Dev Cert.NormFP0RIdeal.nD → PrngReg), Pre_NormFP0KIdeal m →
    (∀ c : Dev Cert.NormFP0KIdeal.nD,
      m' ((c.tc : Thread Cert.NormFP0RIdeal.nD Cert.NormFP0RIdeal.τ).loc Cert.NormFP0RIdeal.main_arg0) = m ((c.tc : Thread Cert.NormFP0KIdeal.nD Cert.NormFP0KIdeal.τ).loc Cert.NormFP0KIdeal.main_arg0)
      ∧ m' ((c.tc : Thread Cert.NormFP0RIdeal.nD Cert.NormFP0RIdeal.τ).loc Cert.NormFP0RIdeal.main_arg1) = m ((c.tc : Thread Cert.NormFP0KIdeal.nD Cert.NormFP0KIdeal.τ).loc Cert.NormFP0KIdeal.main_arg1)
      ∧ m' ((c.tc : Thread Cert.NormFP0RIdeal.nD Cert.NormFP0RIdeal.τ).loc Cert.NormFP0RIdeal.main_arg2) = m ((c.tc : Thread Cert.NormFP0KIdeal.nD Cert.NormFP0KIdeal.τ).loc Cert.NormFP0KIdeal.main_arg2)
      ∧ m' ((c.tc : Thread Cert.NormFP0RIdeal.nD Cert.NormFP0RIdeal.τ).loc Cert.NormFP0RIdeal.main_arg3) = m ((c.tc : Thread Cert.NormFP0KIdeal.nD Cert.NormFP0KIdeal.τ).loc Cert.NormFP0KIdeal.main_arg3)
      ∧ m' ((c.tc : Thread Cert.NormFP0RIdeal.nD Cert.NormFP0RIdeal.τ).loc Cert.NormFP0RIdeal.main_arg4) = m ((c.tc : Thread Cert.NormFP0KIdeal.nD Cert.NormFP0KIdeal.τ).loc Cert.NormFP0KIdeal.main_arg4)
      ∧ m' ((c.tc : Thread Cert.NormFP0RIdeal.nD Cert.NormFP0RIdeal.τ).loc Cert.NormFP0RIdeal.main_arg5) = m ((c.tc : Thread Cert.NormFP0KIdeal.nD Cert.NormFP0KIdeal.τ).loc Cert.NormFP0KIdeal.main_arg5)
      ∧ m' ((c.tc : Thread Cert.NormFP0RIdeal.nD Cert.NormFP0RIdeal.τ).loc Cert.NormFP0RIdeal.main_arg6) = m ((c.tc : Thread Cert.NormFP0KIdeal.nD Cert.NormFP0KIdeal.τ).loc Cert.NormFP0KIdeal.main_arg6)
      ∧ m' ((c.tc : Thread Cert.NormFP0RIdeal.nD Cert.NormFP0RIdeal.τ).loc Cert.NormFP0RIdeal.main_arg7) = m ((c.tc : Thread Cert.NormFP0KIdeal.nD Cert.NormFP0KIdeal.τ).loc Cert.NormFP0KIdeal.main_arg7)) →
    ∃ (v0 : (c : Dev Cert.NormFP0KIdeal.nD) → Buf (Elt Ideal) ((c.tc : Thread Cert.NormFP0KIdeal.nD Cert.NormFP0KIdeal.τ).loc Cert.NormFP0KIdeal.main_v10_0)) (v1 : (c : Dev Cert.NormFP0KIdeal.nD) → Buf (Elt Ideal) ((c.tc : Thread Cert.NormFP0KIdeal.nD Cert.NormFP0KIdeal.τ).loc Cert.NormFP0KIdeal.main_v10_1)) (v2 : (c : Dev Cert.NormFP0KIdeal.nD) → Buf (Elt Ideal) ((c.tc : Thread Cert.NormFP0KIdeal.nD Cert.NormFP0KIdeal.τ).loc Cert.NormFP0KIdeal.main_v10_2)) (v3 : (c : Dev Cert.NormFP0KIdeal.nD) → Buf (Elt Ideal) ((c.tc : Thread Cert.NormFP0KIdeal.nD Cert.NormFP0KIdeal.τ).loc Cert.NormFP0KIdeal.main_v10_3)),
      θ_run (Cert.NormFP0KIdeal.defs (F := Ideal)) (onTc (τ := Cert.NormFP0KIdeal.τ) (Cert.NormFP0KIdeal.main (F := Ideal))) ⟨m, fun _ => 0, g⟩ (fun r => ∀ c : Dev Cert.NormFP0KIdeal.nD,
          r.2.mem ((c.tc : Thread Cert.NormFP0KIdeal.nD Cert.NormFP0KIdeal.τ).loc Cert.NormFP0KIdeal.main_v10_0) = v0 c
          ∧ r.2.mem ((c.tc : Thread Cert.NormFP0KIdeal.nD Cert.NormFP0KIdeal.τ).loc Cert.NormFP0KIdeal.main_v10_1) = v1 c
          ∧ r.2.mem ((c.tc : Thread Cert.NormFP0KIdeal.nD Cert.NormFP0KIdeal.τ).loc Cert.NormFP0KIdeal.main_v10_2) = v2 c
          ∧ r.2.mem ((c.tc : Thread Cert.NormFP0KIdeal.nD Cert.NormFP0KIdeal.τ).loc Cert.NormFP0KIdeal.main_v10_3) = v3 c
          ∧ r.2.mem ((c.tc : Thread Cert.NormFP0KIdeal.nD Cert.NormFP0KIdeal.τ).loc Cert.NormFP0KIdeal.main_arg0) = m ((c.tc : Thread Cert.NormFP0KIdeal.nD Cert.NormFP0KIdeal.τ).loc Cert.NormFP0KIdeal.main_arg0)
          ∧ r.2.mem ((c.tc : Thread Cert.NormFP0KIdeal.nD Cert.NormFP0KIdeal.τ).loc Cert.NormFP0KIdeal.main_arg1) = m ((c.tc : Thread Cert.NormFP0KIdeal.nD Cert.NormFP0KIdeal.τ).loc Cert.NormFP0KIdeal.main_arg1)
          ∧ r.2.mem ((c.tc : Thread Cert.NormFP0KIdeal.nD Cert.NormFP0KIdeal.τ).loc Cert.NormFP0KIdeal.main_arg2) = m ((c.tc : Thread Cert.NormFP0KIdeal.nD Cert.NormFP0KIdeal.τ).loc Cert.NormFP0KIdeal.main_arg2)
          ∧ r.2.mem ((c.tc : Thread Cert.NormFP0KIdeal.nD Cert.NormFP0KIdeal.τ).loc Cert.NormFP0KIdeal.main_arg3) = m ((c.tc : Thread Cert.NormFP0KIdeal.nD Cert.NormFP0KIdeal.τ).loc Cert.NormFP0KIdeal.main_arg3)
          ∧ r.2.mem ((c.tc : Thread Cert.NormFP0KIdeal.nD Cert.NormFP0KIdeal.τ).loc Cert.NormFP0KIdeal.main_arg4) = m ((c.tc : Thread Cert.NormFP0KIdeal.nD Cert.NormFP0KIdeal.τ).loc Cert.NormFP0KIdeal.main_arg4)
          ∧ r.2.mem ((c.tc : Thread Cert.NormFP0KIdeal.nD Cert.NormFP0KIdeal.τ).loc Cert.NormFP0KIdeal.main_arg5) = m ((c.tc : Thread Cert.NormFP0KIdeal.nD Cert.NormFP0KIdeal.τ).loc Cert.NormFP0KIdeal.main_arg5)
          ∧ r.2.mem ((c.tc : Thread Cert.NormFP0KIdeal.nD Cert.NormFP0KIdeal.τ).loc Cert.NormFP0KIdeal.main_arg6) = m ((c.tc : Thread Cert.NormFP0KIdeal.nD Cert.NormFP0KIdeal.τ).loc Cert.NormFP0KIdeal.main_arg6)
          ∧ r.2.mem ((c.tc : Thread Cert.NormFP0KIdeal.nD Cert.NormFP0KIdeal.τ).loc Cert.NormFP0KIdeal.main_arg7) = m ((c.tc : Thread Cert.NormFP0KIdeal.nD Cert.NormFP0KIdeal.τ).loc Cert.NormFP0KIdeal.main_arg7))
      ∧ θ_run (Cert.NormFP0RIdeal.defs (F := Ideal)) (onTc (τ := Cert.NormFP0RIdeal.τ) (Cert.NormFP0RIdeal.main (F := Ideal))) ⟨m', fun _ => 0, g'⟩ (fun r => ∀ c : Dev Cert.NormFP0RIdeal.nD,
          r.2.mem ((c.tc : Thread Cert.NormFP0RIdeal.nD Cert.NormFP0RIdeal.τ).loc Cert.NormFP0RIdeal.main_v42) = v0 c
          ∧ r.2.mem ((c.tc : Thread Cert.NormFP0RIdeal.nD Cert.NormFP0RIdeal.τ).loc Cert.NormFP0RIdeal.main_v44) = v1 c
          ∧ r.2.mem ((c.tc : Thread Cert.NormFP0RIdeal.nD Cert.NormFP0RIdeal.τ).loc Cert.NormFP0RIdeal.main_v45) = v2 c
          ∧ r.2.mem ((c.tc : Thread Cert.NormFP0RIdeal.nD Cert.NormFP0RIdeal.τ).loc Cert.NormFP0RIdeal.main_v49) = v3 c
          ∧ r.2.mem ((c.tc : Thread Cert.NormFP0RIdeal.nD Cert.NormFP0RIdeal.τ).loc Cert.NormFP0RIdeal.main_arg0) = m' ((c.tc : Thread Cert.NormFP0RIdeal.nD Cert.NormFP0RIdeal.τ).loc Cert.NormFP0RIdeal.main_arg0)
          ∧ r.2.mem ((c.tc : Thread Cert.NormFP0RIdeal.nD Cert.NormFP0RIdeal.τ).loc Cert.NormFP0RIdeal.main_arg1) = m' ((c.tc : Thread Cert.NormFP0RIdeal.nD Cert.NormFP0RIdeal.τ).loc Cert.NormFP0RIdeal.main_arg1)
          ∧ r.2.mem ((c.tc : Thread Cert.NormFP0RIdeal.nD Cert.NormFP0RIdeal.τ).loc Cert.NormFP0RIdeal.main_arg2) = m' ((c.tc : Thread Cert.NormFP0RIdeal.nD Cert.NormFP0RIdeal.τ).loc Cert.NormFP0RIdeal.main_arg2)
          ∧ r.2.mem ((c.tc : Thread Cert.NormFP0RIdeal.nD Cert.NormFP0RIdeal.τ).loc Cert.NormFP0RIdeal.main_arg3) = m' ((c.tc : Thread Cert.NormFP0RIdeal.nD Cert.NormFP0RIdeal.τ).loc Cert.NormFP0RIdeal.main_arg3)
          ∧ r.2.mem ((c.tc : Thread Cert.NormFP0RIdeal.nD Cert.NormFP0RIdeal.τ).loc Cert.NormFP0RIdeal.main_arg4) = m' ((c.tc : Thread Cert.NormFP0RIdeal.nD Cert.NormFP0RIdeal.τ).loc Cert.NormFP0RIdeal.main_arg4)
          ∧ r.2.mem ((c.tc : Thread Cert.NormFP0RIdeal.nD Cert.NormFP0RIdeal.τ).loc Cert.NormFP0RIdeal.main_arg5) = m' ((c.tc : Thread Cert.NormFP0RIdeal.nD Cert.NormFP0RIdeal.τ).loc Cert.NormFP0RIdeal.main_arg5)
          ∧ r.2.mem ((c.tc : Thread Cert.NormFP0RIdeal.nD Cert.NormFP0RIdeal.τ).loc Cert.NormFP0RIdeal.main_arg6) = m' ((c.tc : Thread Cert.NormFP0RIdeal.nD Cert.NormFP0RIdeal.τ).loc Cert.NormFP0RIdeal.main_arg6)
          ∧ r.2.mem ((c.tc : Thread Cert.NormFP0RIdeal.nD Cert.NormFP0RIdeal.τ).loc Cert.NormFP0RIdeal.main_arg7) = m' ((c.tc : Thread Cert.NormFP0RIdeal.nD Cert.NormFP0RIdeal.τ).loc Cert.NormFP0RIdeal.main_arg7))

def Claim : Prop :=
  ∃ (hGateK : Cert.GateK.Facts) (hGateKIdeal : Cert.GateKIdeal.Facts) (hGateRIdeal : Cert.GateRIdeal.Facts) (hGate2K : Cert.Gate2K.Facts) (hGate2KIdeal : Cert.Gate2KIdeal.Facts) (hGate2RIdeal : Cert.Gate2RIdeal.Facts) (hNorm4K : Cert.Norm4K.Facts) (hNorm4KIdeal : Cert.Norm4KIdeal.Facts) (hNorm4RIdeal : Cert.Norm4RIdeal.Facts) (hNorm2K : Cert.Norm2K.Facts) (hNorm2KIdeal : Cert.Norm2KIdeal.Facts) (hNorm2RIdeal : Cert.Norm2RIdeal.Facts) (hNormNaK : Cert.NormNaK.Facts) (hNormNaKIdeal : Cert.NormNaKIdeal.Facts) (hNormNaRIdeal : Cert.NormNaRIdeal.Facts) (hNormP0K : Cert.NormP0K.Facts) (hNormP0KIdeal : Cert.NormP0KIdeal.Facts) (hNormP0RIdeal : Cert.NormP0RIdeal.Facts) (hConvK : Cert.ConvK.Facts) (hConvKIdeal : Cert.ConvKIdeal.Facts) (hConvRIdeal : Cert.ConvRIdeal.Facts) (hLossK : Cert.LossK.Facts) (hLossKIdeal : Cert.LossKIdeal.Facts) (hLossRIdeal : Cert.LossRIdeal.Facts) (hPoolK : Cert.PoolK.Facts) (hPoolKIdeal : Cert.PoolKIdeal.Facts) (hPoolRIdeal : Cert.PoolRIdeal.Facts) (hPoolP0K : Cert.PoolP0K.Facts) (hPoolP0KIdeal : Cert.PoolP0KIdeal.Facts) (hPoolP0RIdeal : Cert.PoolP0RIdeal.Facts) (hConvFK : Cert.ConvFK.Facts) (hConvFKIdeal : Cert.ConvFKIdeal.Facts) (hConvFRIdeal : Cert.ConvFRIdeal.Facts) (hResidK : Cert.ResidK.Facts) (hResidKIdeal : Cert.ResidKIdeal.Facts) (hResidRIdeal : Cert.ResidRIdeal.Facts) (hResid2K : Cert.Resid2K.Facts) (hResid2KIdeal : Cert.Resid2KIdeal.Facts) (hResid2RIdeal : Cert.Resid2RIdeal.Facts) (hNormFK : Cert.NormFK.Facts) (hNormFKIdeal : Cert.NormFKIdeal.Facts) (hNormFRIdeal : Cert.NormFRIdeal.Facts) (hNormFNaK : Cert.NormFNaK.Facts) (hNormFNaKIdeal : Cert.NormFNaKIdeal.Facts) (hNormFNaRIdeal : Cert.NormFNaRIdeal.Facts) (hNormFP0K : Cert.NormFP0K.Facts) (hNormFP0KIdeal : Cert.NormFP0KIdeal.Facts) (hNormFP0RIdeal : Cert.NormFP0RIdeal.Facts) (hPre_norm4_finite : Cert.Pre_norm4_finite.Facts) (hPre_norm2_finite : Cert.Pre_norm2_finite.Facts) (hPre_normna_finite : Cert.Pre_normna_finite.Facts) (hPre_normp0_finite : Cert.Pre_normp0_finite.Facts) (hPre_conv_finite : Cert.Pre_conv_finite.Facts) (hPre_loss_finite : Cert.Pre_loss_finite.Facts) (hPre_pool_finite : Cert.Pre_pool_finite.Facts) (hPre_poolp0_finite : Cert.Pre_poolp0_finite.Facts),
    quiescent_GateK (hGateK := hGateK)
    ∧ quiescent_GateKIdeal (hGateKIdeal := hGateKIdeal)
    ∧ quiescent_GateRIdeal (hGateRIdeal := hGateRIdeal)
    ∧ quiescent_Gate2K (hGate2K := hGate2K)
    ∧ quiescent_Gate2KIdeal (hGate2KIdeal := hGate2KIdeal)
    ∧ quiescent_Gate2RIdeal (hGate2RIdeal := hGate2RIdeal)
    ∧ quiescent_Norm4K (hNorm4K := hNorm4K)
    ∧ quiescent_Norm4KIdeal (hNorm4KIdeal := hNorm4KIdeal)
    ∧ quiescent_Norm4KIdeal_pre_norm4_finite (hNorm4KIdeal := hNorm4KIdeal) (hPre_norm4_finite := hPre_norm4_finite)
    ∧ quiescent_Norm4RIdeal (hNorm4RIdeal := hNorm4RIdeal)
    ∧ quiescent_Norm4RIdeal_pre_norm4_finite (hNorm4RIdeal := hNorm4RIdeal) (hPre_norm4_finite := hPre_norm4_finite)
    ∧ quiescent_Norm2K (hNorm2K := hNorm2K)
    ∧ quiescent_Norm2KIdeal (hNorm2KIdeal := hNorm2KIdeal)
    ∧ quiescent_Norm2KIdeal_pre_norm2_finite (hNorm2KIdeal := hNorm2KIdeal) (hPre_norm2_finite := hPre_norm2_finite)
    ∧ quiescent_Norm2RIdeal (hNorm2RIdeal := hNorm2RIdeal)
    ∧ quiescent_Norm2RIdeal_pre_norm2_finite (hNorm2RIdeal := hNorm2RIdeal) (hPre_norm2_finite := hPre_norm2_finite)
    ∧ quiescent_NormNaK (hNormNaK := hNormNaK)
    ∧ quiescent_NormNaKIdeal (hNormNaKIdeal := hNormNaKIdeal)
    ∧ quiescent_NormNaKIdeal_pre_normna_finite (hNormNaKIdeal := hNormNaKIdeal) (hPre_normna_finite := hPre_normna_finite)
    ∧ quiescent_NormNaRIdeal (hNormNaRIdeal := hNormNaRIdeal)
    ∧ quiescent_NormNaRIdeal_pre_normna_finite (hNormNaRIdeal := hNormNaRIdeal) (hPre_normna_finite := hPre_normna_finite)
    ∧ quiescent_NormP0K (hNormP0K := hNormP0K)
    ∧ quiescent_NormP0KIdeal (hNormP0KIdeal := hNormP0KIdeal)
    ∧ quiescent_NormP0KIdeal_pre_normp0_finite (hNormP0KIdeal := hNormP0KIdeal) (hPre_normp0_finite := hPre_normp0_finite)
    ∧ quiescent_NormP0RIdeal (hNormP0RIdeal := hNormP0RIdeal)
    ∧ quiescent_NormP0RIdeal_pre_normp0_finite (hNormP0RIdeal := hNormP0RIdeal) (hPre_normp0_finite := hPre_normp0_finite)
    ∧ quiescent_ConvK (hConvK := hConvK)
    ∧ quiescent_ConvKIdeal (hConvKIdeal := hConvKIdeal)
    ∧ quiescent_ConvKIdeal_pre_conv_finite (hConvKIdeal := hConvKIdeal) (hPre_conv_finite := hPre_conv_finite)
    ∧ quiescent_ConvRIdeal (hConvRIdeal := hConvRIdeal)
    ∧ quiescent_ConvRIdeal_pre_conv_finite (hConvRIdeal := hConvRIdeal) (hPre_conv_finite := hPre_conv_finite)
    ∧ quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_PoolK (hPoolK := hPoolK)
    ∧ quiescent_PoolKIdeal (hPoolKIdeal := hPoolKIdeal)
    ∧ quiescent_PoolKIdeal_pre_pool_finite (hPoolKIdeal := hPoolKIdeal) (hPre_pool_finite := hPre_pool_finite)
    ∧ quiescent_PoolRIdeal (hPoolRIdeal := hPoolRIdeal)
    ∧ quiescent_PoolRIdeal_pre_pool_finite (hPoolRIdeal := hPoolRIdeal) (hPre_pool_finite := hPre_pool_finite)
    ∧ quiescent_PoolP0K (hPoolP0K := hPoolP0K)
    ∧ quiescent_PoolP0KIdeal (hPoolP0KIdeal := hPoolP0KIdeal)
    ∧ quiescent_PoolP0KIdeal_pre_poolp0_finite (hPoolP0KIdeal := hPoolP0KIdeal) (hPre_poolp0_finite := hPre_poolp0_finite)
    ∧ quiescent_PoolP0RIdeal (hPoolP0RIdeal := hPoolP0RIdeal)
    ∧ quiescent_PoolP0RIdeal_pre_poolp0_finite (hPoolP0RIdeal := hPoolP0RIdeal) (hPre_poolp0_finite := hPre_poolp0_finite)
    ∧ quiescent_ConvFK (hConvFK := hConvFK)
    ∧ quiescent_ConvFKIdeal (hConvFKIdeal := hConvFKIdeal)
    ∧ quiescent_ConvFRIdeal (hConvFRIdeal := hConvFRIdeal)
    ∧ quiescent_ResidK (hResidK := hResidK)
    ∧ quiescent_ResidKIdeal (hResidKIdeal := hResidKIdeal)
    ∧ quiescent_ResidRIdeal (hResidRIdeal := hResidRIdeal)
    ∧ quiescent_Resid2K (hResid2K := hResid2K)
    ∧ quiescent_Resid2KIdeal (hResid2KIdeal := hResid2KIdeal)
    ∧ quiescent_Resid2RIdeal (hResid2RIdeal := hResid2RIdeal)
    ∧ quiescent_NormFK (hNormFK := hNormFK)
    ∧ quiescent_NormFKIdeal (hNormFKIdeal := hNormFKIdeal)
    ∧ quiescent_NormFRIdeal (hNormFRIdeal := hNormFRIdeal)
    ∧ quiescent_NormFNaK (hNormFNaK := hNormFNaK)
    ∧ quiescent_NormFNaKIdeal (hNormFNaKIdeal := hNormFNaKIdeal)
    ∧ quiescent_NormFNaRIdeal (hNormFNaRIdeal := hNormFNaRIdeal)
    ∧ quiescent_NormFP0K (hNormFP0K := hNormFP0K)
    ∧ quiescent_NormFP0KIdeal (hNormFP0KIdeal := hNormFP0KIdeal)
    ∧ quiescent_NormFP0RIdeal (hNormFP0RIdeal := hNormFP0RIdeal)
    ∧ preserves_GateK_GateKIdeal
    ∧ algebraic_GateKIdeal_GateRIdeal (hGateKIdeal := hGateKIdeal) (hGateRIdeal := hGateRIdeal)
    ∧ preserves_Gate2K_Gate2KIdeal
    ∧ algebraic_Gate2KIdeal_Gate2RIdeal (hGate2KIdeal := hGate2KIdeal) (hGate2RIdeal := hGate2RIdeal)
    ∧ preserves_Norm4K_Norm4KIdeal
    ∧ algebraic_Norm4KIdeal_Norm4RIdeal_pre_norm4_finite (hNorm4KIdeal := hNorm4KIdeal) (hNorm4RIdeal := hNorm4RIdeal) (hPre_norm4_finite := hPre_norm4_finite)
    ∧ preserves_Norm2K_Norm2KIdeal
    ∧ algebraic_Norm2KIdeal_Norm2RIdeal_pre_norm2_finite (hNorm2KIdeal := hNorm2KIdeal) (hNorm2RIdeal := hNorm2RIdeal) (hPre_norm2_finite := hPre_norm2_finite)
    ∧ preserves_NormNaK_NormNaKIdeal
    ∧ algebraic_NormNaKIdeal_NormNaRIdeal_pre_normna_finite (hNormNaKIdeal := hNormNaKIdeal) (hNormNaRIdeal := hNormNaRIdeal) (hPre_normna_finite := hPre_normna_finite)
    ∧ preserves_NormP0K_NormP0KIdeal
    ∧ algebraic_NormP0KIdeal_NormP0RIdeal_pre_normp0_finite (hNormP0KIdeal := hNormP0KIdeal) (hNormP0RIdeal := hNormP0RIdeal) (hPre_normp0_finite := hPre_normp0_finite)
    ∧ preserves_ConvK_ConvKIdeal
    ∧ algebraic_ConvKIdeal_ConvRIdeal_pre_conv_finite (hConvKIdeal := hConvKIdeal) (hConvRIdeal := hConvRIdeal) (hPre_conv_finite := hPre_conv_finite)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_PoolK_PoolKIdeal
    ∧ algebraic_PoolKIdeal_PoolRIdeal_pre_pool_finite (hPoolKIdeal := hPoolKIdeal) (hPoolRIdeal := hPoolRIdeal) (hPre_pool_finite := hPre_pool_finite)
    ∧ preserves_PoolP0K_PoolP0KIdeal
    ∧ algebraic_PoolP0KIdeal_PoolP0RIdeal_pre_poolp0_finite (hPoolP0KIdeal := hPoolP0KIdeal) (hPoolP0RIdeal := hPoolP0RIdeal) (hPre_poolp0_finite := hPre_poolp0_finite)
    ∧ preserves_ConvFK_ConvFKIdeal
    ∧ algebraic_ConvFKIdeal_ConvFRIdeal (hConvFKIdeal := hConvFKIdeal) (hConvFRIdeal := hConvFRIdeal)
    ∧ preserves_ResidK_ResidKIdeal
    ∧ algebraic_ResidKIdeal_ResidRIdeal (hResidKIdeal := hResidKIdeal) (hResidRIdeal := hResidRIdeal)
    ∧ preserves_Resid2K_Resid2KIdeal
    ∧ algebraic_Resid2KIdeal_Resid2RIdeal (hResid2KIdeal := hResid2KIdeal) (hResid2RIdeal := hResid2RIdeal)
    ∧ preserves_NormFK_NormFKIdeal
    ∧ algebraic_NormFKIdeal_NormFRIdeal (hNormFKIdeal := hNormFKIdeal) (hNormFRIdeal := hNormFRIdeal)
    ∧ preserves_NormFNaK_NormFNaKIdeal
    ∧ algebraic_NormFNaKIdeal_NormFNaRIdeal (hNormFNaKIdeal := hNormFNaKIdeal) (hNormFNaRIdeal := hNormFNaRIdeal)
    ∧ preserves_NormFP0K_NormFP0KIdeal
    ∧ algebraic_NormFP0KIdeal_NormFP0RIdeal (hNormFP0KIdeal := hNormFP0KIdeal) (hNormFP0RIdeal := hNormFP0RIdeal)
-- ==== Pre_conv_finite.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S3x1024 : S_.BroadcastsInDim S3x1024 (![] : Fin 0 → Fin S3x1024.rank)
  reducesTo_S3x1024_S_d0_1 : S3x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2048x1024 .bf16) (main_arg1 : FVec F S2048x4096 .bf16) (main_arg2 : FVec F S3x1024 .f32) (main_arg3 : FVec F S1x1024 .f32) : IVec S_ 1 :=
  let main_v0 : FVec F S2048x1024 .f32 := (extf .f32 · bitsLt_bf16_f32) main_arg0
  let main_v1 : FVec F S2048x4096 .f32 := (extf .f32 · bitsLt_bf16_f32) main_arg1
  let main_v2 : FVec F S2048x1024 .f32 := Host.absf main_v0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_c : IVec S_ 1 := constantI S_ 1 1#1
  let main_v5 : IVec S_ 1 := (fun x v => Host.reduce IntOp.andi x v reducesTo_S2048x1024_S_d0_1 h_S_) main_v4 main_c
  let main_v6 : FVec F S2048x4096 .f32 := Host.absf main_v1
  let main_cst_0 : FVec F S_ .f32 := constant S_ .f32 0x7F800000#32
  let main_v7 : FVec F S2048x4096 .f32 := broadcastInDim S2048x4096 ![] bcast_S_S2048x4096 main_cst_0
  let main_v8 : IVec S2048x4096 1 := cmpf .olt main_v6 main_v7
  let main_c_1 : IVec S_ 1 := constantI S_ 1 1#1
  let main_v9 : IVec S_ 1 := (fun x v => Host.reduce IntOp.andi x v reducesTo_S2048x4096_S_d0_1 h_S_) main_v8 main_c_1
  let main_v10 : IVec S_ 1 := andi main_v5 main_v9
  let main_v11 : FVec F S3x1024 .f32 := Host.absf main_arg2
  let main_cst_2 : FVec F S_ .f32 := constant S_ .f32 0x7F800000#32
  let main_v12 : FVec F S3x1024 .f32 := broadcastInDim S3x1024 ![] bcast_S_S3x1024 main_cst_2
  let main_v13 : IVec S3x1024 1 := cmpf .olt main_v11 main_v12
  let main_c_3 : IVec S_ 1 := constantI S_ 1 1#1
  let main_v14 : IVec S_ 1 := (fun x v => Host.reduce IntOp.andi x v reducesTo_S3x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_loss_finite.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S2048x1024 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024 .f32 := Host.absf main_arg4
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  let main_v25 : FVec F S2048x1024 .f32 := Host.absf main_arg5
  let main_cst_8 : FVec F S_ .f32 := constant S_ .f32 0x7F800000#32
  let main_v26 : FVec F S2048x1024 .f32 := broadcastInDim S2048x1024 ![] bcast_S_S2048x1024 main_cst_8
  let main_v27 : IVec S2048x1024 1 := cmpf .olt main_v25 main_v26
  let main_c_9 : IVec S_ 1 := constantI S_ 1 1#1
  let main_v28 : IVec S_ 1 := (fun x v => Host.reduce IntOp.andi x v reducesTo_S2048x1024_S_d0_1 h_S_) main_v27 main_c_9
  let main_v29 : IVec S_ 1 := andi main_v24 main_v28
  main_v29

def fn {F : FTy → Type} [FloatOps F] (main_arg0 : FVec F S2048x1024 .bf16) (main_arg1 : FVec F S1024x1024 .f32) (main_arg2 : FVec F S2048x1024 .f32) (main_arg3 : FVec F S1024 .f32) (main_arg4 : FVec F S1024 .f32) (main_arg5 : FVec F S2048x1024 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_v14 main_v15 main_v16
-- ==== Pre_norm2_finite.lean ====
abbrev S2x2048x1024 : Shape := ⟨3, ![2, 2048, 1024]⟩
abbrev S2048x1024 : Shape := ⟨2, ![2048, 1024]⟩
abbrev S1024 : Shape := ⟨1, ![1024]⟩
abbrev S1024x2048 : Shape := ⟨2, ![1024, 2048]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg6 : FVec F S1024x2048 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024x2048 .f32 := Host.absf main_arg6
  let main_cst_6 : FVec F S_ .f32 := constant S_ .f32 0x7F800000#32
  let main_v21 : FVec F S1024x2048 .f32 := broadcastInDim S1024x2048 ![] bcast_S_S1024x2048 main_cst_6
  let main_v22 : IVec S1024x2048 1 := cmpf .olt main_v20 main_v21
  let main_c_7 : IVec S_ 1 := constantI S_ 1 1#1
  let main_v23 : IVec S_ 1 := (fun x v => Host.reduce IntOp.andi x v reducesTo_S1024x2048_S_d0_1 h_S_) main_v22 main_c_7
  let main_v24 : IVec S_ 1 := andi main_v19 main_v23
  main_v24

def fn {F : FTy → Type} [FloatOps F] (main_arg0 : FVec F S2x2048x1024 .bf16) (main_arg1 : FVec F S2048x1024 .f32) (main_arg2 : FVec F S2048x1024 .f32) (main_arg3 : FVec F S1024 .f32) (main_arg4 : FVec F S1024 .f32) (main_arg5 : FVec F S1024 .f32) (main_arg6 : FVec F S1024x2048 .f32) : IVec S_ 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S2048x1024 .f32 := Host.absf main_arg2
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg6 main_v14 main_v15 main_v16
-- ==== Pre_norm4_finite.lean ====
abbrev S4x2048x1024 : Shape := ⟨3, ![4, 2048, 1024]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg6 : FVec F S1024x4096 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024x4096 .f32 := Host.absf main_arg6
  let main_cst_6 : FVec F S_ .f32 := constant S_ .f32 0x7F800000#32
  let main_v21 : FVec F S1024x4096 .f32 := broadcastInDim S1024x4096 ![] bcast_S_S1024x4096 main_cst_6
  let main_v22 : IVec S1024x4096 1 := cmpf .olt main_v20 main_v21
  let main_c_7 : IVec S_ 1 := constantI S_ 1 1#1
  let main_v23 : IVec S_ 1 := (fun x v => Host.reduce IntOp.andi x v reducesTo_S1024x4096_S_d0_1 h_S_) main_v22 main_c_7
  let main_v24 : IVec S_ 1 := andi main_v19 main_v23
  main_v24

def fn {F : FTy → Type} [FloatOps F] (main_arg0 : FVec F S4x2048x1024 .bf16) (main_arg1 : FVec F S2048x1024 .f32) (main_arg2 : FVec F S2048x1024 .f32) (main_arg3 : FVec F S1024 .f32) (main_arg4 : FVec F S1024 .f32) (main_arg5 : FVec F S1024 .f32) (main_arg6 : FVec F S1024x4096 .f32) : IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S2048x1024 .f32 := Host.absf main_arg2
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg6 main_v14 main_v15 main_v16
-- ==== Pre_normna_finite.lean ====
abbrev S4x2304x1024 : Shape := ⟨3, ![4, 2304, 1024]⟩
abbrev S2048x1024 : Shape := ⟨2, ![2048, 1024]⟩
abbrev S256x1024 : Shape := ⟨2, ![256, 1024]⟩
abbrev S1024 : Shape := ⟨1, ![1024]⟩
abbrev S1024x4096 : Shape := ⟨2, ![1024, 4096]⟩
abbrev S_ : Shape := ⟨0, ![]⟩

class Facts : Prop where
  bitsLt_bf16_f32 : FTy.bits .bf16 < FTy.bits .f32
  bcast_S_S4x2304x1024 : S_.BroadcastsInDim S4x2304x1024 (![] : Fin 0 → Fin S4x2304x1024.rank)
  reducesTo_S4x2304x1024_S_d0_1_2 : S4x2304x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg5 : FVec F S1024 .f32) (main_arg6 : FVec F S1024 .f32) (main_arg9 : FVec F S1024x4096 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024 .f32 := Host.absf main_arg5
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  let main_v25 : FVec F S1024 .f32 := Host.absf main_arg6
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S1024x4096 .f32 := Host.absf main_arg9
  let main_cst_10 : FVec F S_ .f32 := constant S_ .f32 0x7F800000#32
  let main_v31 : FVec F S1024x4096 .f32 := broadcastInDim S1024x4096 ![] bcast_S_S1024x4096 main_cst_10
  let main_v32 : IVec S1024x4096 1 := cmpf .olt main_v30 main_v31
  let main_c_11 : IVec S_ 1 := constantI S_ 1 1#1
  let main_v33 : IVec S_ 1 := (fun x v => Host.reduce IntOp.andi x v reducesTo_S1024x4096_S_d0_1 h_S_) main_v32 main_c_11
  fn_part2 (F := F) main_v29 main_v33

def fn {F : FTy → Type} [FloatOps F] (main_arg0 : FVec F S4x2304x1024 .bf16) (main_arg1 : FVec F S2048x1024 .f32) (main_arg2 : FVec F S2048x1024 .f32) (main_arg3 : FVec F S256x1024 .f32) (main_arg4 : FVec F S1024 .f32) (main_arg5 : FVec F S1024 .f32) (main_arg6 : FVec F S1024 .f32) (main_arg7 : FVec F S1024 .f32) (main_arg8 : FVec F S1024 .f32) (main_arg9 : FVec F S1024x4096 .f32) : IVec S_ 1 :=
  let main_v0 : FVec F S4x2304x1024 .f32 := (extf .f32 · bitsLt_bf16_f32) main_arg0
  let main_v1 : FVec F S4x2304x1024 .f32 := Host.absf main_v0
  let main_cst : FVec F S_ .f32 := constant S_ .f32 0x7F800000#32
  let main_v2 : FVec F S4x2304x1024 .f32 := broadcastInDim S4x2304x1024 ![] bcast_S_S4x2304x1024 main_cst
  let main_v3 : IVec S4x2304x1024 1 := cmpf .olt main_v1 main_v2
  let main_c : IVec S_ 1 := constantI S_ 1 1#1
  let main_v4 : IVec S_ 1 := (fun x v => Host.reduce IntOp.andi x v reducesTo_S4x2304x1024_S_d0_1_2 h_S_) main_v3 main_c
  let main_v5 : FVec F S2048x1024 .f32 := Host.absf main_arg2
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S256x1024 .f32 := Host.absf main_arg3
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg5 main_arg6 main_arg9 main_v14 main_v15 main_v16
-- ==== Pre_normp0_finite.lean ====
abbrev S2x2304x1024 : Shape := ⟨3, ![2, 2304, 1024]⟩
abbrev S2304x1024 : Shape := ⟨2, ![2304, 1024]⟩
abbrev S2048x1024 : Shape := ⟨2, ![2048, 1024]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩

class Facts : Prop where
  bitsLt_bf16_f32 : FTy.bits .bf16 < FTy.bits .f32
  bcast_S_S2x2304x1024 : S_.BroadcastsInDim S2x2304x1024 (![] : Fin 0 → Fin S2x2304x1024.rank)
  reducesTo_S2x2304x1024_S_d0_1_2 : S2x2304x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg5 : FVec F S1024 .f32) (main_arg6 : FVec F S1024 .f32) (main_arg9 : FVec F S1024x2048 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024 .f32 := Host.absf main_arg5
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  let main_v25 : FVec F S1024 .f32 := Host.absf main_arg6
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S1024x2048 .f32 := Host.absf main_arg9
  let main_cst_10 : FVec F S_ .f32 := constant S_ .f32 0x7F800000#32
  let main_v31 : FVec F S1024x2048 .f32 := broadcastInDim S1024x2048 ![] bcast_S_S1024x2048 main_cst_10
  let main_v32 : IVec S1024x2048 1 := cmpf .olt main_v30 main_v31
  let main_c_11 : IVec S_ 1 := constantI S_ 1 1#1
  let main_v33 : IVec S_ 1 := (fun x v => Host.reduce IntOp.andi x v reducesTo_S1024x2048_S_d0_1 h_S_) main_v32 main_c_11
  fn_part2 (F := F) main_v29 main_v33

def fn {F : FTy → Type} [FloatOps F] (main_arg0 : FVec F S2x2304x1024 .bf16) (main_arg1 : FVec F S2304x1024 .f32) (main_arg2 : FVec F S2048x1024 .f32) (main_arg3 : FVec F S256x1024 .f32) (main_arg4 : FVec F S1024 .f32) (main_arg5 : FVec F S1024 .f32) (main_arg6 : FVec F S1024 .f32) (main_arg7 : FVec F S1024 .f32) (main_arg8 : FVec F S1024 .f32) (main_arg9 : FVec F S1024x2048 .f32) : IVec S_ 1 :=
  let main_v0 : FVec F S2x2304x1024 .f32 := (extf .f32 · bitsLt_bf16_f32) main_arg0
  let main_v1 : FVec F S2x2304x1024 .f32 := Host.absf main_v0
  let main_cst : FVec F S_ .f32 := constant S_ .f32 0x7F800000#32
  let main_v2 : FVec F S2x2304x1024 .f32 := broadcastInDim S2x2304x1024 ![] bcast_S_S2x2304x1024 main_cst
  let main_v3 : IVec S2x2304x1024 1 := cmpf .olt main_v1 main_v2
  let main_c : IVec S_ 1 := constantI S_ 1 1#1
  let main_v4 : IVec S_ 1 := (fun x v => Host.reduce IntOp.andi x v reducesTo_S2x2304x1024_S_d0_1_2 h_S_) main_v3 main_c
  let main_v5 : FVec F S2048x1024 .f32 := Host.absf main_arg2
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S256x1024 .f32 := Host.absf main_arg3
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg5 main_arg6 main_arg9 main_v14 main_v15 main_v16
-- ==== Pre_pool_finite.lean ====
abbrev S2048x1024 : Shape := ⟨2, ![2048, 1024]⟩
abbrev S2048x2048 : Shape := ⟨2, ![2048, 2048]⟩
abbrev S1024 : Shape := ⟨1, ![1024]⟩
abbrev S4x256x256 : Shape := ⟨3, ![4, 256, 256]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_v15 : IVec S_ 1) (main_v16 : FVec F S4x256x256 .f32) (main_cst_4 : FVec F S_ .f32) : IVec S_ 1 :=
  let main_v17 : FVec F S4x256x256 .f32 := broadcastInDim S4x256x256 ![] bcast_S_S4x256x256 main_cst_4
  let main_v18 : IVec S4x256x256 1 := cmpf .olt main_v16 main_v17
  let main_c_5 : IVec S_ 1 := constantI S_ 1 1#1
  let main_v19 : IVec S_ 1 := (fun x v => Host.reduce IntOp.andi x v reducesTo_S4x256x256_S_d0_1_2 h_S_) main_v18 main_c_5
  let main_v20 : IVec S_ 1 := andi main_v15 main_v19
  main_v20

def fn {F : FTy → Type} [FloatOps F] (main_arg0 : FVec F S2048x1024 .bf16) (main_arg1 : FVec F S2048x2048 .bf16) (main_arg2 : FVec F S1024 .f32) (main_arg3 : FVec F S4x256x256 .f32) : IVec S_ 1 :=
  let main_v0 : FVec F S2048x1024 .f32 := (extf .f32 · bitsLt_bf16_f32) main_arg0
  let main_v1 : FVec F S2048x2048 .f32 := (extf .f32 · bitsLt_bf16_f32) main_arg1
  let main_v2 : FVec F S2048x1024 .f32 := Host.absf main_v0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_c : IVec S_ 1 := constantI S_ 1 1#1
  let main_v5 : IVec S_ 1 := (fun x v => Host.reduce IntOp.andi x v reducesTo_S2048x1024_S_d0_1 h_S_) main_v4 main_c
  let main_v6 : FVec F S2048x2048 .f32 := Host.absf main_v1
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v5 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S4x256x256 .f32 := Host.absf main_arg3
  let main_cst_4 : FVec F S_ .f32 := constant S_ .f32 0x7F800000#32
  fn_part1 (F := F) main_v15 main_v16 main_cst_4
-- ==== Pre_poolp0_finite.lean ====
abbrev S2304x1024 : Shape := ⟨2, ![2304, 1024]⟩
abbrev S2304x2048 : Shape := ⟨2, ![2304, 2048]⟩
abbrev S1024 : Shape := ⟨1, ![1024]⟩
abbrev S4x256x256 : Shape := ⟨3, ![4, 256, 256]⟩
abbrev S_ : Shape := ⟨0, ![]⟩

class Facts : Prop where
  bitsLt_bf16_f32 : FTy.bits .bf16 < FTy.bits .f32
  bcast_S_S2304x1024 : S_.BroadcastsInDim S2304x1024 (![] : Fin 0 → Fin S2304x1024.rank)
  reducesTo_S2304x1024_S_d0_1 : S2304x1024.ReducesTo [0, 1] S_
  h_S_ : 0 < S_.numel
  bcast_S_S2304x2048 : S_.BroadcastsInDim S2304x2048 (![] : Fin 0 → Fin S2304x2048.rank)
  reducesTo_S2304x2048_S_d0_1 : S2304x2048.ReducesTo [0, 1] S_
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_v15 : IVec S_ 1) (main_v16 : FVec F S4x256x256 .f32) (main_cst_4 : FVec F S_ .f32) : IVec S_ 1 :=
  let main_v17 : FVec F S4x256x256 .f32 := broadcastInDim S4x256x256 ![] bcast_S_S4x256x256 main_cst_4
  let main_v18 : IVec S4x256x256 1 := cmpf .olt main_v16 main_v17
  let main_c_5 : IVec S_ 1 := constantI S_ 1 1#1
  let main_v19 : IVec S_ 1 := (fun x v => Host.reduce IntOp.andi x v reducesTo_S4x256x256_S_d0_1_2 h_S_) main_v18 main_c_5
  let main_v20 : IVec S_ 1 := andi main_v15 main_v19
  main_v20

def fn {F : FTy → Type} [FloatOps F] (main_arg0 : FVec F S2304x1024 .bf16) (main_arg1 : FVec F S2304x2048 .bf16) (main_arg2 : FVec F S1024 .f32) (main_arg3 : FVec F S4x256x256 .f32) : IVec S_ 1 :=
  let main_v0 : FVec F S2304x1024 .f32 := (extf .f32 · bitsLt_bf16_f32) main_arg0
  let main_v1 : FVec F S2304x2048 .f32 := (extf .f32 · bitsLt_bf16_f32) main_arg1
  let main_v2 : FVec F S2304x1024 .f32 := Host.absf main_v0
  let main_cst : FVec F S_ .f32 := constant S_ .f32 0x7F800000#32
  let main_v3 : FVec F S2304x1024 .f32 := broadcastInDim S2304x1024 ![] bcast_S_S2304x1024 main_cst
  let main_v4 : IVec S2304x1024 1 := cmpf .olt main_v2 main_v3
  let main_c : IVec S_ 1 := constantI S_ 1 1#1
  let main_v5 : IVec S_ 1 := (fun x v => Host.reduce IntOp.andi x v reducesTo_S2304x1024_S_d0_1 h_S_) main_v4 main_c
  let main_v6 : FVec F S2304x2048 .f32 := Host.absf main_v1
  let main_cst_0 : FVec F S_ .f32 := constant S_ .f32 0x7F800000#32
  let main_v7 : FVec F S2304x2048 .f32 := broadcastInDim S2304x2048 ![] bcast_S_S2304x2048 main_cst_0
  let main_v8 : IVec S2304x2048 1 := cmpf .olt main_v6 main_v7
  let main_c_1 : IVec S_ 1 := constantI S_ 1 1#1
  let main_v9 : IVec S_ 1 := (fun x v => Host.reduce IntOp.andi x v reducesTo_S2304x2048_S_d0_1 h_S_) main_v8 main_c_1
  let main_v10 : IVec S_ 1 := andi main_v5 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S4x256x256 .f32 := Host.absf main_arg3
  let main_cst_4 : FVec F S_ .f32 := constant S_ .f32 0x7F800000#32
  fn_part1 (F := F) main_v15 main_v16 main_cst_4
-- ==== GateK.lean ====
abbrev S2048x1024 : Shape := ⟨2, ![2048, 1024]⟩
abbrev S1024 : Shape := ⟨1, ![1024]⟩
abbrev S1024x1024 : Shape := ⟨2, ![1024, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v19 : BitVec 32 := Scalar.extui v16
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32 : BitVec 32 := 0#32
  let v16 : BitVec 1 := Scalar.cmpi .eq arg0 c0_i32
  let v_true : BitVec 1 := 1#1
  let v21 : BitVec 1 := Scalar.xori v16 v_true
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateRIdeal.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S1x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gate2K.lean ====
abbrev S2304x1024 : Shape := ⟨2, ![2304, 1024]⟩
abbrev S1024 : Shape := ⟨1, ![1024]⟩
abbrev S1024x1024 : Shape := ⟨2, ![1024, 1024]⟩
abbrev S1x1024 : Shape := ⟨2, ![1, 1024]⟩
abbrev S2x1024 : Shape := ⟨2, ![2, 1024]⟩
abbrev S2x1x1024 : Shape := ⟨3, ![2, 1, 1024]⟩
abbrev S768x1024 : Shape := ⟨2, ![768, 1024]⟩
abbrev S768x1 : Shape := ⟨2, ![768, 1]⟩
abbrev S1x1x1024 : Shape := ⟨3, ![1, 1, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2304x1024, .f32⟩
  | .hbm, ⟨1, _⟩ => ⟨S2304x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S2x1x1024, .f32⟩
  | .hbm, ⟨10, _⟩ => ⟨S2304x1024, .f32⟩
  | .hbm, ⟨11, _⟩ => ⟨S2304x1024, .bf16⟩
  | .hbm, ⟨12, _⟩ => ⟨S2304x1024, .bf16⟩
  | .hbm, ⟨13, _⟩ => ⟨S2304x1024, .bf16⟩
  | .hbm, ⟨14, _⟩ => ⟨S2x1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S2x1x1024, .f32⟩
  | .local _ .vmem, ⟨5, _⟩ => ⟨S1024x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S2x1x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v43 : BitVec 32 := Scalar.extui v30
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v45 : BitVec 1 := Scalar.xori v30 v_true
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Gate2RIdeal.lean ====
abbrev S2304x1024 : Shape := ⟨2, ![2304, 1024]⟩
abbrev S1024 : Shape := ⟨1, ![1024]⟩
abbrev S1024x1024 : Shape := ⟨2, ![1024, 1024]⟩
abbrev S2048x1024 : Shape := ⟨2, ![2048, 1024]⟩
abbrev S256x1024 : Shape := ⟨2, ![256, 1024]⟩
abbrev S1x1024 : Shape := ⟨2, ![1, 1024]⟩
abbrev S_ : Shape := ⟨0, ![]⟩
abbrev S2x1024 : Shape := ⟨2, ![2, 1024]⟩
abbrev S2x1x1024 : Shape := ⟨3, ![2, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S256x1024, .bf16⟩
  | .hbm, ⟨9, _⟩ => ⟨S256x1024, .f32⟩
  | .hbm, ⟨10, _⟩ => ⟨S256x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1024, .f32⟩
  | .hbm, ⟨35, _⟩ => ⟨S2304x1024, .f32⟩
  | .hbm, ⟨36, _⟩ => ⟨S2304x1024, .bf16⟩
  | .hbm, ⟨37, _⟩ => ⟨S2048x1024, .f32⟩
  | .hbm, ⟨38, _⟩ => ⟨S256x1024, .f32⟩
  | .hbm, ⟨39, _⟩ => ⟨S2304x1024, .f32⟩
  | .hbm, ⟨40, _⟩ => ⟨S2304x1024, .bf16⟩
  | .hbm, ⟨41, _⟩ => ⟨S1x1024, .f32⟩
  | .hbm, ⟨42, _⟩ => ⟨S1x1024, .f32⟩
  | .hbm, ⟨43, _⟩ => ⟨S2x1024, .f32⟩
  | .hbm, ⟨44, _⟩ => ⟨S2x1x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Norm4K.lean ====
abbrev S4x2048x1024 : Shape := ⟨3, ![4, 2048, 1024]⟩
abbrev S2048x1024 : Shape := ⟨2, ![2048, 1024]⟩
abbrev S1024 : Shape := ⟨1, ![1024]⟩
abbrev S1024x4096 : Shape := ⟨2, ![1024, 4096]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S4x512x1024 : Shape := ⟨3, ![4, 512, 1024]⟩
abbrev S512x1024 : Shape := ⟨2, ![512, 1024]⟩
abbrev S512x1 : Shape := ⟨2, ![512, 1]⟩
abbrev S256x1024 : Shape := ⟨2, ![256, 1024]⟩
abbrev S1x512x1024 : Shape := ⟨3, ![1, 512, 1024]⟩
abbrev S1024x1024 : Shape := ⟨2, ![1024, 1024]⟩
abbrev S512 : Shape := ⟨1, ![512]⟩

abbrev nBuf : Space → Nat
  | .hbm => 38
  | .vmem => 17
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S1024x4096, .bf16⟩
  | .hbm, ⟨8, _⟩ => ⟨S1x1024, .f32⟩
  | .hbm, ⟨9, _⟩ => ⟨S1x1x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S1x1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .local _ .vmem, ⟨0, _⟩ => ⟨S4x512x1024, .bf16⟩
  | .local _ .vmem, ⟨1, _⟩ => ⟨S4x512x1024, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v60 : BitVec 32 := Scalar.extui v57
  let c0_i32_37 : BitVec 32 := 0#32
  let v61 : BitVec 1 := Scalar.cmpi .ne v60 c0_i32_37
  v61

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v62 : BitVec 1 := Scalar.xori v57 v_true
  let v63 : BitVec 32 := Scalar.extui v62
  let c0_i32_38 : BitVec 32 := 0#32
  let v64 : BitVec 1 := Scalar.cmpi .ne v63 c0_i32_38
  v64

def k0_cond3 (i : grid0.Coords) : BitVec 1 :=
  let arg0 : BitVec 32 := BitVec.ofNat 32 (i 0).val
  let c0_i32_39 : BitVec 32 := 0#32
  let v66 : BitVec 1 := Scalar.cmpi .eq arg0 c0_i32_39
  let v69 : BitVec 32 := Scalar.extui v66
  let c0_i32_41 : BitVec 32 := 0#32
  let v70 : BitVec 1 := Scalar.cmpi .ne v69 c0_i32_41
  v70

def k0_cond4 (i : grid0.Coords) : BitVec 1 :=
  let arg0 : BitVec 32 := BitVec.ofNat 32 (i 0).val
  let c0_i32_39 : BitVec 32 := 0#32
  let v66 : BitVec 1 := Scalar.cmpi .eq arg0 c0_i32_39
  let true_42 : BitVec 1 := 1#1
  let v71 : BitVec 1 := Scalar.xori v66 true_42
  let v72 : BitVec 32 := Scalar.extui v71
  let c0_i32_43 : BitVec 32 := 0#32
  let v73 : BitVec 1 := Scalar.cmpi .ne v72 c0_i32_43
  v73

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Norm4RIdeal.lean ====
abbrev S4x2048x1024 : Shape := ⟨3, ![4, 2048, 1024]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1x2048x1024 : Shape := ⟨3, ![1, 2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x4096, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S4x2048x1024, .f32⟩
  | .hbm, ⟨42, _⟩ => ⟨S1x2048x1024, .f32⟩
  | .hbm, ⟨43, _⟩ => ⟨S2048x1024, .f32⟩
  | .hbm, ⟨44, _⟩ => ⟨S1x2048x1024, .f32⟩
  | .hbm, ⟨45, _⟩ => ⟨S2048x1024, .f32⟩
  | .hbm, ⟨46, _⟩ => ⟨S1x2048x1024, .f32⟩
  | .hbm, ⟨47, _⟩ => ⟨S2048x1024, .f32⟩
  | .hbm, ⟨48, _⟩ => ⟨S1x2048x1024, .f32⟩
  | .hbm, ⟨49, _⟩ => ⟨S2048x1024, .f32⟩
  | .hbm, ⟨50, _⟩ => ⟨S2048x4096, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S2048x1024, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Norm2K.lean ====
abbrev S2x2048x1024 : Shape := ⟨3, ![2, 2048, 1024]⟩
abbrev S2048x1024 : Shape := ⟨2, ![2048, 1024]⟩
abbrev S1024 : Shape := ⟨1, ![1024]⟩
abbrev S1024x2048 : Shape := ⟨2, ![1024, 2048]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S2x512x1024 : Shape := ⟨3, ![2, 512, 1024]⟩
abbrev S512x1024 : Shape := ⟨2, ![512, 1024]⟩
abbrev S512x1 : Shape := ⟨2, ![512, 1]⟩
abbrev S256x1024 : Shape := ⟨2, ![256, 1024]⟩
abbrev S1x512x1024 : Shape := ⟨3, ![1, 512, 1024]⟩
abbrev S1024x1024 : Shape := ⟨2, ![1024, 1024]⟩
abbrev S512 : Shape := ⟨1, ![512]⟩

abbrev nBuf : Space → Nat
  | .hbm => 38
  | .vmem => 17
  | .smem => 0
  | _ => 0

abbrev bufTy : (tb : Table) → Fin (tcTables nBuf tb) → BufTy
  | .hbm, ⟨0, _⟩ => ⟨S2x2048x1024, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S1024x2048, .bf16⟩
  | .hbm, ⟨8, _⟩ => ⟨S1x1024, .f32⟩
  | .hbm, ⟨9, _⟩ => ⟨S1x1x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S1x1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v48 : BitVec 32 := Scalar.extui v45
  let c0_i32_29 : BitVec 32 := 0#32
  let v49 : BitVec 1 := Scalar.cmpi .ne v48 c0_i32_29
  v49

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v50 : BitVec 1 := Scalar.xori v45 v_true
  let v51 : BitVec 32 := Scalar.extui v50
  let c0_i32_30 : BitVec 32 := 0#32
  let v52 : BitVec 1 := Scalar.cmpi .ne v51 c0_i32_30
  v52

def k0_cond3 (i : grid0.Coords) : BitVec 1 :=
  let arg0 : BitVec 32 := BitVec.ofNat 32 (i 0).val
  let c0_i32_31 : BitVec 32 := 0#32
  let v54 : BitVec 1 := Scalar.cmpi .eq arg0 c0_i32_31
  let v57 : BitVec 32 := Scalar.extui v54
  let c0_i32_33 : BitVec 32 := 0#32
  let v58 : BitVec 1 := Scalar.cmpi .ne v57 c0_i32_33
  v58

def k0_cond4 (i : grid0.Coords) : BitVec 1 :=
  let arg0 : BitVec 32 := BitVec.ofNat 32 (i 0).val
  let c0_i32_31 : BitVec 32 := 0#32
  let v54 : BitVec 1 := Scalar.cmpi .eq arg0 c0_i32_31
  let true_34 : BitVec 1 := 1#1
  let v59 : BitVec 1 := Scalar.xori v54 true_34
  let v60 : BitVec 32 := Scalar.extui v59
  let c0_i32_35 : BitVec 32 := 0#32
  let v61 : BitVec 1 := Scalar.cmpi .ne v60 c0_i32_35
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Norm2RIdeal.lean ====
abbrev S2x2048x1024 : Shape := ⟨3, ![2, 2048, 1024]⟩
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S1x2048x1024 : Shape := ⟨3, ![1, 2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x2048, .f32⟩
  | .hbm, ⟨37, _⟩ => ⟨S2048x1024, .f32⟩
  | .hbm, ⟨38, _⟩ => ⟨S2048x1024, .f32⟩
  | .hbm, ⟨39, _⟩ => ⟨S2x2048x1024, .f32⟩
  | .hbm, ⟨40, _⟩ => ⟨S1x2048x1024, .f32⟩
  | .hbm, ⟨41, _⟩ => ⟨S2048x1024, .f32⟩
  | .hbm, ⟨42, _⟩ => ⟨S1x2048x1024, .f32⟩
  | .hbm, ⟨43, _⟩ => ⟨S2048x1024, .f32⟩
  | .hbm, ⟨44, _⟩ => ⟨S2048x2048, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== NormNaK.lean ====
abbrev S4x2304x1024 : Shape := ⟨3, ![4, 2304, 1024]⟩
abbrev S2048x1024 : Shape := ⟨2, ![2048, 1024]⟩
abbrev S256x1024 : Shape := ⟨2, ![256, 1024]⟩
abbrev S1024 : Shape := ⟨1, ![1024]⟩
abbrev S1024x4096 : Shape := ⟨2, ![1024, 4096]⟩
abbrev S1x1024 : Shape := ⟨2, ![1, 1024]⟩
abbrev S2x1024 : Shape := ⟨2, ![2, 1024]⟩
abbrev S2x1x1024 : Shape := ⟨3, ![2, 1, 1024]⟩
abbrev S2304x1024 : Shape := ⟨2, ![2304, 1024]⟩
abbrev S_ : Shape := ⟨0, ![]⟩
abbrev S2304 : Shape := ⟨1, ![2304]⟩
abbrev S2304x1 : Shape := ⟨2, ![2304, 1]⟩
abbrev S4x768x1024 : Shape := ⟨3, ![4, 768, 1024]⟩
abbrev S768x1024 : Shape := ⟨2, ![768, 1024]⟩
abbrev S768x1 : Shape := ⟨2, ![768, 1]⟩
abbrev S1x768x1024 : Shape := ⟨3, ![1, 768, 1024]⟩
abbrev S1024x1024 : Shape := ⟨2, ![1024, 1024]⟩
abbrev S1x1x1024 : Shape := ⟨3, ![1, 1, 1024]⟩
abbrev S768 : Shape := ⟨1, ![768]⟩

abbrev nBuf : Space → Nat
  | .hbm => 52
  | .vmem => 19
  | .smem => 0
  | _ => 0

abbrev bufTy : (tb : Table) → Fin (tcTables nBuf tb) → BufTy
  | .hbm, ⟨0, _⟩ => ⟨S4x2304x1024, .bf16⟩
  | .hbm, ⟨1, _⟩ => ⟨S2048x1024, .f32⟩
  | .hbm, ⟨2, _⟩ => ⟨S2048x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S1024x4096, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S2x1x1024, .f32⟩
  | .hbm, ⟨16, _⟩ => ⟨S2304x1024, .f32⟩
  | .hbm, ⟨17, _⟩ => ⟨S2304x1024, .f32⟩
  | .hbm, ⟨18, _⟩ => ⟨S_, .f32⟩
  | .hbm, ⟨19, _⟩ => ⟨S2304, .f32⟩
  | .hbm, ⟨20, _⟩ => ⟨S2304x1, .f32⟩
  | .hbm, ⟨21, _⟩ => ⟨S_, .f32⟩
  | .hbm, ⟨22, _⟩ => ⟨S2304x1, .f32⟩
  | .hbm, ⟨23, _⟩ => ⟨S2304x1, .f32⟩
  | .hbm, ⟨24, _⟩ => ⟨S_, .f32⟩
  | .hbm, ⟨25, _⟩ => ⟨S2304x1, .f32⟩
  | .hbm, ⟨26, _⟩ => ⟨S2304x1, .f32⟩
  | .hbm, ⟨27, _⟩ => ⟨S2304x1, .f32⟩
  | .hbm, ⟨28, _⟩ => ⟨S2304x1024, .f32⟩
  | .hbm, ⟨29, _⟩ => ⟨S2x1x1024, .f32⟩
  | .hbm, ⟨30, _⟩ => ⟨S2x1x1024, .f32⟩
  | .hbm, ⟨31, _⟩ => ⟨S2x1024, .f32⟩
  | .hbm, ⟨32, _⟩ => ⟨S2x1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .local _ .vmem, ⟨0, _⟩ => ⟨S4x768x1024, .bf16⟩
  | .local _ .vmem, ⟨1, _⟩ => ⟨S4x768x1024, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | .local _ .vmem, ⟨5, _⟩ => ⟨S768x1, .f32⟩
  | .local _ .vmem, ⟨6, _⟩ => ⟨S768x1, .f32⟩
  | .local _ .vmem, ⟨7, _⟩ => ⟨S1x1024, .f32⟩
  | .local _ .vmem, ⟨8, _⟩ => ⟨S2x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S768x1024, .f32⟩
  | .local _ .vmem, ⟨16, _⟩ => ⟨S768x1024, .f32⟩
  | .local _ .vmem, ⟨17, _⟩ => ⟨S2x1x1024, .f32⟩
  | .local _ .vmem, ⟨18, _⟩ => ⟨S2x1x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg0 : BitVec 32 := BitVec.ofNat 32 (i 0).val
  let c0_i32_49 : BitVec 32 := 0#32
  let v92 : BitVec 1 := Scalar.cmpi .eq arg0 c0_i32_49
  let v105 : BitVec 32 := Scalar.extui v92
  let c0_i32_54 : BitVec 32 := 0#32
  let v106 : BitVec 1 := Scalar.cmpi .ne v105 c0_i32_54
  v106

def k0_cond2 (i : grid0.Coords) : BitVec 1 :=
  let arg0 : BitVec 32 := BitVec.ofNat 32 (i 0).val
  let c0_i32_49 : BitVec 32 := 0#32
  let v92 : BitVec 1 := Scalar.cmpi .eq arg0 c0_i32_49
  let v_true : BitVec 1 := 1#1
  let v107 : BitVec 1 := Scalar.xori v92 v_true
  let v108 : BitVec 32 := Scalar.extui v107
  let c0_i32_55 : BitVec 32 := 0#32
  let v109 : BitVec 1 := Scalar.cmpi .ne v108 c0_i32_55
  v109

def k0_cond3 (i : grid0.Coords) : BitVec 1 :=
  let arg0 : BitVec 32 := BitVec.ofNat 32 (i 0).val
  let c0_i32_56 : BitVec 32 := 0#32
  let v111 : BitVec 1 := Scalar.cmpi .eq arg0 c0_i32_56
  let v124 : BitVec 32 := Scalar.extui v111
  let c0_i32_61 : BitVec 32 := 0#32
  let v125 : BitVec 1 := Scalar.cmpi .ne v124 c0_i32_61
  v125

def k0_cond4 (i : grid0.Coords) : BitVec 1 :=
  let arg0 : BitVec 32 := BitVec.ofNat 32 (i 0).val
  let c0_i32_56 : BitVec 32 := 0#32
  let v111 : BitVec 1 := Scalar.cmpi .eq arg0 c0_i32_56
  let true_62 : BitVec 1 := 1#1
  let v126 : BitVec 1 := Scalar.xori v111 true_62
  let v127 : BitVec 32 := Scalar.extui v126
  let c0_i32_63 : BitVec 32 := 0#32
  let v128 : BitVec 1 := Scalar.cmpi .ne v127 c0_i32_63
  v128

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== NormNaRIdeal.lean ====
abbrev S4x2304x1024 : Shape := ⟨3, ![4, 2304, 1024]⟩
abbrev S2048x1024 : Shape := ⟨2, ![2048, 1024]⟩
abbrev S256x1024 : Shape := ⟨2, ![256, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S2048x4096 : Shape := ⟨2, ![2048, 4096]⟩
abbrev S256x4096 : Shape := ⟨2, ![256, 4096]⟩
abbrev S4x2048x1024 : Shape := ⟨3, ![4, 2048, 1024]⟩
abbrev S1x2048x1024 : Shape := ⟨3, ![1, 2048, 1024]⟩
abbrev S4x256x1024 : Shape := ⟨3, ![4, 256, 1024]⟩
abbrev S1x256x1024 : Shape := ⟨3, ![1, 256, 1024]⟩
abbrev S2304x1024 : Shape := ⟨2, ![2304, 1024]⟩

abbrev nBuf : Space → Nat
  | .hbm => 180
  | .vmem => 0
  | .smem => 0
  | _ => 0

abbrev hbmTy0_0 (i : Nat) : BufTy := match i % 128 with
  | 0 => ⟨S4x2304x1024, .bf16⟩
  | 1 => ⟨S2048x1024, .f32⟩
  | 2 => ⟨S2048x1024, .f32⟩
  | 3 => ⟨S256x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024x4096, .f32⟩
  | 10 => ⟨S4x2304x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1024, .f32⟩
  | 27 => ⟨S2048x1024, .f32⟩
  | 28 => ⟨S1x1024, .f32⟩
  | 29 => ⟨S2048x1024, .f32⟩
  | 30 => ⟨S2048x1024, .f32⟩
  | 31 => ⟨S_, .f32⟩
  | 32 => ⟨S1024, .f32⟩
  | 33 => ⟨S1024, .f32⟩
  | 34 => ⟨S1x1024, .f32⟩
  | 35 => ⟨S2048x1024, .f32⟩
  | 36 => ⟨S2048x1024, .f32⟩
  | 37 => ⟨S1x1024, .f32⟩
  | 38 => ⟨S2048x1024, .f32⟩
  | 39 => ⟨S2048x1024, .f32⟩
  | 40 => ⟨S256x1024, .f32⟩
  | 41 => ⟨S_, .f32⟩
  | 42 => ⟨S256, .f32⟩
  | 43 => ⟨S256x1, .f32⟩
  | 44 => ⟨S_, .f32⟩
  | 45 => ⟨S256x1, .f32⟩
  | 46 => ⟨S256x1, .f32⟩
  | 47 => ⟨S_, .f32⟩
  | 48 => ⟨S256x1, .f32⟩
  | 49 => ⟨S256x1, .f32⟩
  | 50 => ⟨S256x1, .f32⟩
  | 51 => ⟨S256x1, .f32⟩
  | 52 => ⟨S_, .f32⟩
  | 53 => ⟨S256x1, .f32⟩
  | 54 => ⟨S256x1, .f32⟩
  | 55 => ⟨S256x1024, .f32⟩
  | 56 => ⟨S256x1024, .f32⟩
  | 57 => ⟨S1x1024, .f32⟩
  | 58 => ⟨S256x1024, .f32⟩
  | 59 => ⟨S256x1024, .f32⟩
  | 60 => ⟨S_, .f32⟩
  | 61 => ⟨S1024, .f32⟩
  | 62 => ⟨S1024, .f32⟩
  | 63 => ⟨S1x1024, .f32⟩
  | 64 => ⟨S256x1024, .f32⟩
  | 65 => ⟨S256x1024, .f32⟩
  | 66 => ⟨S1x1024, .f32⟩
  | 67 => ⟨S256x1024, .f32⟩
  | 68 => ⟨S256x1024, .f32⟩
  | 69 => ⟨S2048x4096, .f32⟩
  | 70 => ⟨S2048x1024, .f32⟩
  | 71 => ⟨S2048x1024, .f32⟩
  | 72 => ⟨S2048x1024, .f32⟩
  | 73 => ⟨S2048x1024, .f32⟩
  | 74 => ⟨S256x4096, .f32⟩
  | 75 => ⟨S256x1024, .f32⟩
  | 76 => ⟨S256x1024, .f32⟩
  | 77 => ⟨S256x1024, .f32⟩
  | 78 => ⟨S256x1024, .f32⟩
  | 79 => ⟨S4x2048x1024, .f32⟩
  | 80 => ⟨S1x2048x1024, .f32⟩
  | 81 => ⟨S2048x1024, .f32⟩
  | 82 => ⟨S1x2048x1024, .f32⟩
  | 83 => ⟨S2048x1024, .f32⟩
  | 84 => ⟨S1x2048x1024, .f32⟩
  | 85 => ⟨S2048x1024, .f32⟩
  | 86 => ⟨S1x2048x1024, .f32⟩
  | 87 => ⟨S2048x1024, .f32⟩
  | 88 => ⟨S4x256x1024, .f32⟩
  | 89 => ⟨S1x256x1024, .f32⟩
  | 90 => ⟨S256x1024, .f32⟩
  | 91 => ⟨S1x256x1024, .f32⟩
  | 92 => ⟨S256x1024, .f32⟩
  | 93 => ⟨S1x256x1024, .f32⟩
  | 94 => ⟨S256x1024, .f32⟩
  | 95 => ⟨S1x256x1024, .f32⟩
  | 96 => ⟨S256x1024, .f32⟩
  | 97 => ⟨S256x4096, .f32⟩
  | 98 => ⟨S256x1024, .f32⟩
  | 99 => ⟨S2048x4096, .f32⟩
  | 100 => ⟨S2048x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S256x1024, .f32⟩
  | 107 => ⟨S_, .f32⟩
  | 108 => ⟨S1024, .f32⟩
  | 109 => ⟨S1x1024, .f32⟩
  | 110 => ⟨S256x1024, .f32⟩
  | 111 => ⟨S256x1024, .f32⟩
  | 112 => ⟨S_, .f32⟩
  | 113 => ⟨S1024, .f32⟩
  | 114 => ⟨S256x1024, .f32⟩
  | 115 => ⟨S_, .f32⟩
  | 116 => ⟨S1024, .f32⟩
  | 117 => ⟨S1x1024, .f32⟩
  | 118 => ⟨S256x1024, .f32⟩
  | 119 => ⟨S256x1024, .f32⟩
  | 120 => ⟨S_, .f32⟩
  | 121 => ⟨S1024, .f32⟩
  | 122 => ⟨S256x1024, .f32⟩
  | 123 => ⟨S_, .f32⟩
  | 124 => ⟨S256, .f32⟩
  | 125 => ⟨S256x1, .f32⟩
  | 126 => ⟨S256x1024, .f32⟩
  | 127 => ⟨S256x1024, .f32⟩
  | _ => ⟨S4x2304x1024, .bf16⟩

abbrev hbmTy0_1 (i : Nat) : BufTy := match i % 128 with
  | 0 => ⟨S256x1, .f32⟩
  | 1 => ⟨S_, .f32⟩
  | 2 => ⟨S256x1, .f32⟩
  | 3 => ⟨S256x1, .f32⟩
  | 4 => ⟨S_, .f32⟩
  | 5 => ⟨S256, .f32⟩
  | 6 => ⟨S256x1024, .f32⟩
  | 7 => ⟨S256x1024, .f32⟩
  | 8 => ⟨S256x1024, .f32⟩
  | 9 => ⟨S256x1024, .f32⟩
  | 10 => ⟨S256x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S2048x1024, .f32⟩
  | 17 => ⟨S_, .f32⟩
  | 18 => ⟨S1024, .f32⟩
  | 19 => ⟨S1x1024, .f32⟩
  | 20 => ⟨S2048x1024, .f32⟩
  | 21 => ⟨S2048x1024, .f32⟩
  | 22 => ⟨S_, .f32⟩
  | 23 => ⟨S1024, .f32⟩
  | 24 => ⟨S2048x1024, .f32⟩
  | 25 => ⟨S_, .f32⟩
  | 26 => ⟨S1024, .f32⟩
  | 27 => ⟨S1x1024, .f32⟩
  | 28 => ⟨S2048x1024, .f32⟩
  | 29 => ⟨S2048x1024, .f32⟩
  | 30 => ⟨S_, .f32⟩
  | 31 => ⟨S1024, .f32⟩
  | 32 => ⟨S1024, .f32⟩
  | 33 => ⟨S2048x1024, .f32⟩
  | 34 => ⟨S_, .f32⟩
  | 35 => ⟨S2048, .f32⟩
  | 36 => ⟨S2048x1, .f32⟩
  | 37 => ⟨S2048x1024, .f32⟩
  | 38 => ⟨S2048x1024, .f32⟩
  | 39 => ⟨S2048x1024, .f32⟩
  | 40 => ⟨S2048x1, .f32⟩
  | 41 => ⟨S_, .f32⟩
  | 42 => ⟨S2048x1, .f32⟩
  | 43 => ⟨S2048x1, .f32⟩
  | 44 => ⟨S_, .f32⟩
  | 45 => ⟨S2048, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2304x1024, .f32⟩
  | _ => ⟨S4x2304x1024, .bf16⟩

abbrev hbmTy (i : Nat) : BufTy := match i / 128 with
  | 0 => hbmTy0_0 i
  | 1 => hbmTy0_1 i
  | _ => ⟨S4x2304x1024, .bf16⟩

abbrev bufTy : (tb : Table) → Fin (tcTables nBuf tb) → BufTy
  | .hbm, ⟨i, _⟩ => hbmTy i
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_12 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_18 : Ref sig .tc := ⟨.hbm, 139, rfl⟩
abbrev main_v110 : Ref sig .tc := ⟨.hbm, 140, rfl⟩
abbrev main_v111 : Ref sig .tc := ⟨.hbm, 141, rfl⟩
abbrev main_cst_19 : Ref sig .tc := ⟨.hbm, 142, rfl⟩
abbrev main_v112 : Ref sig .tc := ⟨.hbm, 143, rfl⟩
abbrev main_v113 : Ref sig .tc := ⟨.hbm, 144, rfl⟩
abbrev main_cst_20 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_21 : Ref sig .tc := ⟨.hbm, 150, rfl⟩
abbrev main_v118 : Ref sig .tc := ⟨.hbm, 151, rfl⟩
abbrev main_v119 : Ref sig .tc := ⟨.hbm, 152, rfl⟩
abbrev main_cst_22 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_23 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_24 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_25 : Ref sig .tc := ⟨.hbm, 169, rfl⟩
abbrev main_v133 : Ref sig .tc := ⟨.hbm, 170, rfl⟩
abbrev main_v134 : Ref sig .tc := ⟨.hbm, 171, rfl⟩
abbrev main_cst_26 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩

abbrev nD : Nat := 1
abbrev τ : Topo := Topo.v7x

variable {F : FTy → Type} [FloatOps F]
-- ==== NormP0K.lean ====
abbrev S2x2304x1024 : Shape := ⟨3, ![2, 2304, 1024]⟩
abbrev S2304x1024 : Shape := ⟨2, ![2304, 1024]⟩
abbrev S2048x1024 : Shape := ⟨2, ![2048, 1024]⟩
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S2x1024 : Shape := ⟨2, ![2, 1024]⟩
abbrev S2x1x1024 : Shape := ⟨3, ![2, 1, 1024]⟩
abbrev S_ : Shape := ⟨0, ![]⟩
abbrev S2304 : Shape := ⟨1, ![2304]⟩
abbrev S2304x1 : Shape := ⟨2, ![2304, 1]⟩
abbrev S2x768x1024 : Shape := ⟨3, ![2, 768, 1024]⟩
abbrev S768x1024 : Shape := ⟨2, ![768, 1024]⟩
abbrev S768x1 : Shape := ⟨2, ![768, 1]⟩
abbrev S1x768x1024 : Shape := ⟨3, ![1, 768, 1024]⟩
abbrev S1024x1024 : Shape := ⟨2, ![1024, 1024]⟩
abbrev S1x1x1024 : Shape := ⟨3, ![1, 1, 1024]⟩
abbrev S768 : Shape := ⟨1, ![768]⟩

abbrev nBuf : Space → Nat
  | .hbm => 52
  | .vmem => 19
  | .smem => 0
  | _ => 0

abbrev bufTy : (tb : Table) → Fin (tcTables nBuf tb) → BufTy
  | .hbm, ⟨0, _⟩ => ⟨S2x2304x1024, .bf16⟩
  | .hbm, ⟨1, _⟩ => ⟨S2304x1024, .f32⟩
  | .hbm, ⟨2, _⟩ => ⟨S2048x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x2048, .f32⟩
  | .hbm, ⟨10, _⟩ => ⟨S1024x2048, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S2x1x1024, .f32⟩
  | .hbm, ⟨16, _⟩ => ⟨S2304x1024, .f32⟩
  | .hbm, ⟨17, _⟩ => ⟨S2304x1024, .f32⟩
  | .hbm, ⟨18, _⟩ => ⟨S_, .f32⟩
  | .hbm, ⟨19, _⟩ => ⟨S2304, .f32⟩
  | .hbm, ⟨20, _⟩ => ⟨S2304x1, .f32⟩
  | .hbm, ⟨21, _⟩ => ⟨S_, .f32⟩
  | .hbm, ⟨22, _⟩ => ⟨S2304x1, .f32⟩
  | .hbm, ⟨23, _⟩ => ⟨S2304x1, .f32⟩
  | .hbm, ⟨24, _⟩ => ⟨S_, .f32⟩
  | .hbm, ⟨25, _⟩ => ⟨S2304x1, .f32⟩
  | .hbm, ⟨26, _⟩ => ⟨S2304x1, .f32⟩
  | .hbm, ⟨27, _⟩ => ⟨S2304x1, .f32⟩
  | .hbm, ⟨28, _⟩ => ⟨S2048x1024, .f32⟩
  | .hbm, ⟨29, _⟩ => ⟨S2x1x1024, .f32⟩
  | .hbm, ⟨30, _⟩ => ⟨S2x1x1024, .f32⟩
  | .hbm, ⟨31, _⟩ => ⟨S2x1024, .f32⟩
  | .hbm, ⟨32, _⟩ => ⟨S2x1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .local _ .vmem, ⟨0, _⟩ => ⟨S2x768x1024, .bf16⟩
  | .local _ .vmem, ⟨1, _⟩ => ⟨S2x768x1024, .bf16⟩
  | .local _ .vmem, ⟨2, _⟩ => ⟨S1024x2048, .bf16⟩
  | .local _ .vmem, ⟨3, _⟩ => ⟨S768x1024, .f32⟩
  | .local _ .vmem, ⟨4, _⟩ => ⟨S768x1024, .f32⟩
  | .local _ .vmem, ⟨5, _⟩ => ⟨S768x1, .f32⟩
  | .local _ .vmem, ⟨6, _⟩ => ⟨S768x1, .f32⟩
  | .local _ .vmem, ⟨7, _⟩ => ⟨S1x1024, .f32⟩
  | .local _ .vmem, ⟨8, _⟩ => ⟨S2x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S768x1024, .f32⟩
  | .local _ .vmem, ⟨16, _⟩ => ⟨S768x1024, .f32⟩
  | .local _ .vmem, ⟨17, _⟩ => ⟨S2x1x1024, .f32⟩
  | .local _ .vmem, ⟨18, _⟩ => ⟨S2x1x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v78 : BitVec 32 := Scalar.extui v65
  let c0_i32_38 : BitVec 32 := 0#32
  let v79 : BitVec 1 := Scalar.cmpi .ne v78 c0_i32_38
  v79

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v80 : BitVec 1 := Scalar.xori v65 v_true
  let v81 : BitVec 32 := Scalar.extui v80
  let c0_i32_39 : BitVec 32 := 0#32
  let v82 : BitVec 1 := Scalar.cmpi .ne v81 c0_i32_39
  v82

def k0_cond3 (i : grid0.Coords) : BitVec 1 :=
  let arg0 : BitVec 32 := BitVec.ofNat 32 (i 0).val
  let c0_i32_40 : BitVec 32 := 0#32
  let v84 : BitVec 1 := Scalar.cmpi .eq arg0 c0_i32_40
  let v97 : BitVec 32 := Scalar.extui v84
  let c0_i32_45 : BitVec 32 := 0#32
  let v98 : BitVec 1 := Scalar.cmpi .ne v97 c0_i32_45
  v98

def k0_cond4 (i : grid0.Coords) : BitVec 1 :=
  let arg0 : BitVec 32 := BitVec.ofNat 32 (i 0).val
  let c0_i32_40 : BitVec 32 := 0#32
  let v84 : BitVec 1 := Scalar.cmpi .eq arg0 c0_i32_40
  let true_46 : BitVec 1 := 1#1
  let v99 : BitVec 1 := Scalar.xori v84 true_46
  let v100 : BitVec 32 := Scalar.extui v99
  let c0_i32_47 : BitVec 32 := 0#32
  let v101 : BitVec 1 := Scalar.cmpi .ne v100 c0_i32_47
  v101

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c8_i32 : BitVec 32 := 8#32
  let v2 : BitVec 32 := Scalar.minsi v1 c8_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c8_i32 : BitVec 32 := 8#32
  let v2 : BitVec 32 := Scalar.minsi v1 c8_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c8_i32 : BitVec 32 := 8#32
  let v2 : BitVec 32 := Scalar.minsi v1 c8_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== NormP0RIdeal.lean ====
abbrev S2x2304x1024 : Shape := ⟨3, ![2, 2304, 1024]⟩
abbrev S2304x1024 : Shape := ⟨2, ![2304, 1024]⟩
abbrev S2048x1024 : Shape := ⟨2, ![2048, 1024]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S2048x2048 : Shape := ⟨2, ![2048, 2048]⟩
abbrev S256x2048 : Shape := ⟨2, ![256, 2048]⟩
abbrev S2x2048x1024 : Shape := ⟨3, ![2, 2048, 1024]⟩
abbrev S1x2048x1024 : Shape := ⟨3, ![1, 2048, 1024]⟩
abbrev S2x256x1024 : Shape := ⟨3, ![2, 256, 1024]⟩
abbrev S1x256x1024 : Shape := ⟨3, ![1, 256, 1024]⟩

abbrev nBuf : Space → Nat
  | .hbm => 145
  | .vmem => 0
  | .smem => 0
  | _ => 0

abbrev hbmTy0_0 (i : Nat) : BufTy := match i % 128 with
  | 0 => ⟨S2x2304x1024, .bf16⟩
  | 1 => ⟨S2304x1024, .f32⟩
  | 2 => ⟨S2048x1024, .f32⟩
  | 3 => ⟨S256x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024x2048, .f32⟩
  | 10 => ⟨S2x2304x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1024, .f32⟩
  | 27 => ⟨S2048x1024, .f32⟩
  | 28 => ⟨S1x1024, .f32⟩
  | 29 => ⟨S2048x1024, .f32⟩
  | 30 => ⟨S2048x1024, .f32⟩
  | 31 => ⟨S_, .f32⟩
  | 32 => ⟨S1024, .f32⟩
  | 33 => ⟨S1024, .f32⟩
  | 34 => ⟨S1x1024, .f32⟩
  | 35 => ⟨S2048x1024, .f32⟩
  | 36 => ⟨S2048x1024, .f32⟩
  | 37 => ⟨S1x1024, .f32⟩
  | 38 => ⟨S2048x1024, .f32⟩
  | 39 => ⟨S2048x1024, .f32⟩
  | 40 => ⟨S256x1024, .f32⟩
  | 41 => ⟨S_, .f32⟩
  | 42 => ⟨S256, .f32⟩
  | 43 => ⟨S256x1, .f32⟩
  | 44 => ⟨S_, .f32⟩
  | 45 => ⟨S256x1, .f32⟩
  | 46 => ⟨S256x1, .f32⟩
  | 47 => ⟨S_, .f32⟩
  | 48 => ⟨S256x1, .f32⟩
  | 49 => ⟨S256x1, .f32⟩
  | 50 => ⟨S256x1, .f32⟩
  | 51 => ⟨S256x1024, .f32⟩
  | 52 => ⟨S256x1024, .f32⟩
  | 53 => ⟨S1x1024, .f32⟩
  | 54 => ⟨S256x1024, .f32⟩
  | 55 => ⟨S256x1024, .f32⟩
  | 56 => ⟨S_, .f32⟩
  | 57 => ⟨S1024, .f32⟩
  | 58 => ⟨S1024, .f32⟩
  | 59 => ⟨S1x1024, .f32⟩
  | 60 => ⟨S256x1024, .f32⟩
  | 61 => ⟨S256x1024, .f32⟩
  | 62 => ⟨S1x1024, .f32⟩
  | 63 => ⟨S256x1024, .f32⟩
  | 64 => ⟨S256x1024, .f32⟩
  | 65 => ⟨S2048x2048, .f32⟩
  | 66 => ⟨S2048x1024, .f32⟩
  | 67 => ⟨S2048x1024, .f32⟩
  | 68 => ⟨S256x2048, .f32⟩
  | 69 => ⟨S256x1024, .f32⟩
  | 70 => ⟨S256x1024, .f32⟩
  | 71 => ⟨S2x2048x1024, .f32⟩
  | 72 => ⟨S1x2048x1024, .f32⟩
  | 73 => ⟨S2048x1024, .f32⟩
  | 74 => ⟨S1x2048x1024, .f32⟩
  | 75 => ⟨S2048x1024, .f32⟩
  | 76 => ⟨S2x256x1024, .f32⟩
  | 77 => ⟨S1x256x1024, .f32⟩
  | 78 => ⟨S256x1024, .f32⟩
  | 79 => ⟨S1x256x1024, .f32⟩
  | 80 => ⟨S256x1024, .f32⟩
  | 81 => ⟨S2048x1024, .f32⟩
  | 82 => ⟨S256x2048, .f32⟩
  | 83 => ⟨S256x1024, .f32⟩
  | 84 => ⟨S2048x2048, .f32⟩
  | 85 => ⟨S2048x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S256x1024, .f32⟩
  | 92 => ⟨S_, .f32⟩
  | 93 => ⟨S1024, .f32⟩
  | 94 => ⟨S1x1024, .f32⟩
  | 95 => ⟨S256x1024, .f32⟩
  | 96 => ⟨S256x1024, .f32⟩
  | 97 => ⟨S_, .f32⟩
  | 98 => ⟨S1024, .f32⟩
  | 99 => ⟨S256x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S2048x1024, .f32⟩
  | 111 => ⟨S_, .f32⟩
  | 112 => ⟨S1024, .f32⟩
  | 113 => ⟨S1x1024, .f32⟩
  | 114 => ⟨S2048x1024, .f32⟩
  | 115 => ⟨S2048x1024, .f32⟩
  | 116 => ⟨S_, .f32⟩
  | 117 => ⟨S1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S1024, .f32⟩
  | 127 => ⟨S2048x1024, .f32⟩
  | _ => ⟨S2x2304x1024, .bf16⟩

abbrev hbmTy0_1 (i : Nat) : BufTy := match i % 128 with
  | 0 => ⟨S_, .f32⟩
  | 1 => ⟨S2048, .f32⟩
  | 2 => ⟨S2048x1, .f32⟩
  | 3 => ⟨S2048x1024, .f32⟩
  | 4 => ⟨S2048x1024, .f32⟩
  | 5 => ⟨S2048x1024, .f32⟩
  | 6 => ⟨S2048x1, .f32⟩
  | 7 => ⟨S_, .f32⟩
  | 8 => ⟨S2048x1, .f32⟩
  | 9 => ⟨S2048x1, .f32⟩
  | 10 => ⟨S_, .f32⟩
  | 11 => ⟨S2048, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | _ => ⟨S2x2304x1024, .bf16⟩

abbrev hbmTy (i : Nat) : BufTy := match i / 128 with
  | 0 => hbmTy0_0 i
  | 1 => hbmTy0_1 i
  | _ => ⟨S2x2304x1024, .bf16⟩

abbrev bufTy : (tb : Table) → Fin (tcTables nBuf tb) → BufTy
  | .hbm, ⟨i, _⟩ => hbmTy i
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== ConvK.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S4x2048x1024 : Shape := ⟨3, ![4, 2048, 1024]⟩
abbrev S2048x128 : Shape := ⟨2, ![2048, 128]⟩
abbrev S3x128 : Shape := ⟨2, ![3, 128]⟩
abbrev S1x128 : Shape := ⟨2, ![1, 128]⟩
abbrev S4x2048x128 : Shape := ⟨3, ![4, 2048, 128]⟩
abbrev S1x2048x128 : Shape := ⟨3, ![1, 2048, 128]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S3x1024, .f32⟩
  | .hbm, ⟨3, _⟩ => ⟨S1x1024, .f32⟩
  | .hbm, ⟨4, _⟩ => ⟨S4x2048x1024, .bf16⟩
  | .hbm, ⟨5, _⟩ => ⟨S3x1024, .f32⟩
  | .hbm, ⟨6, _⟩ => ⟨S1x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S4x2048x128, .bf16⟩
  | .local _ .vmem, ⟨15, _⟩ => ⟨S4x2048x128, .bf16⟩
  | .local _ .vmem, ⟨16, _⟩ => ⟨S3x128, .f32⟩
  | .local _ .vmem, ⟨17, _⟩ => ⟨S3x128, .f32⟩
  | .local _ .vmem, ⟨18, _⟩ => ⟨S1x128, .f32⟩
  | .local _ .vmem, ⟨19, _⟩ => ⟨S1x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRIdeal.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩
abbrev S2047x1024 : Shape := ⟨2, ![2047, 1024]⟩
abbrev S1024 : Shape := ⟨1, ![1024]⟩
abbrev S1x2048x1024 : Shape := ⟨3, ![1, 2048, 1024]⟩
abbrev S4x2048x1024 : Shape := ⟨3, ![4, 2048, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S3x1024, .f32⟩
  | .hbm, ⟨3, _⟩ => ⟨S1x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S1x1024, .f32⟩
  | .hbm, ⟨12, _⟩ => ⟨S2047x1024, .f32⟩
  | .hbm, ⟨13, _⟩ => ⟨S2048x1024, .f32⟩
  | .hbm, ⟨14, _⟩ => ⟨S_, .f32⟩
  | .hbm, ⟨15, _⟩ => ⟨S1x1024, .f32⟩
  | .hbm, ⟨16, _⟩ => ⟨S2047x1024, .f32⟩
  | .hbm, ⟨17, _⟩ => ⟨S2048x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S2048x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S_, .f32⟩
  | .hbm, ⟨99, _⟩ => ⟨S3x1024, .f32⟩
  | .hbm, ⟨100, _⟩ => ⟨S3x1024, .f32⟩
  | .hbm, ⟨101, _⟩ => ⟨S2047x1024, .f32⟩
  | .hbm, ⟨102, _⟩ => ⟨S1x1024, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S1x1024, .f32⟩
  | .hbm, ⟨107, _⟩ => ⟨S2047x1024, .f32⟩
  | .hbm, ⟨108, _⟩ => ⟨S_, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S1x2048x1024, .f32⟩
  | .hbm, ⟨114, _⟩ => ⟨S1x2048x1024, .f32⟩
  | .hbm, ⟨115, _⟩ => ⟨S1x2048x1024, .f32⟩
  | .hbm, ⟨116, _⟩ => ⟨S1x2048x1024, .f32⟩
  | .hbm, ⟨117, _⟩ => ⟨S4x2048x1024, .f32⟩
  | .hbm, ⟨118, _⟩ => ⟨S4x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== LossK.lean ====
abbrev S2048x1024 : Shape := ⟨2, ![2048, 1024]⟩
abbrev S1024x1024 : Shape := ⟨2, ![1024, 1024]⟩
abbrev S1024 : Shape := ⟨1, ![1024]⟩
abbrev S1x1x1024 : Shape := ⟨3, ![1, 1, 1024]⟩
abbrev S1x1024 : Shape := ⟨2, ![1, 1024]⟩
abbrev S1x128 : Shape := ⟨2, ![1, 128]⟩
abbrev S512x1024 : Shape := ⟨2, ![512, 1024]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 13
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1024x1024, .bf16⟩
  | .hbm, ⟨7, _⟩ => ⟨S1x1x1024, .f32⟩
  | .hbm, ⟨8, _⟩ => ⟨S1x1024, .f32⟩
  | .hbm, ⟨9, _⟩ => ⟨S2048x1024, .bf16⟩
  | .hbm, ⟨10, _⟩ => ⟨S1x128, .f32⟩
  | .hbm, ⟨11, _⟩ => ⟨S2048x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v59 : BitVec 1 := Scalar.cmpi .eq arg0 c3_i32
  let v60 : BitVec 32 := Scalar.extui v59
  let c0_i32_29 : BitVec 32 := 0#32
  let v61 : BitVec 1 := Scalar.cmpi .ne v60 c0_i32_29
  v61

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_26 : BitVec 32 := 0#32
  let v55 : BitVec 1 := Scalar.cmpi .ne v54 c0_i32_26
  v55

def k0_cond2 (i : grid0.Coords) : BitVec 1 :=
  let arg0 : BitVec 32 := BitVec.ofNat 32 (i 0).val
  let c0_i32_27 : BitVec 32 := 0#32
  let v56 : BitVec 1 := Scalar.cmpi .sgt arg0 c0_i32_27
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .bf16⟩
  | .hbm, ⟨81, _⟩ => ⟨S1x128, .f32⟩
  | .hbm, ⟨82, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== PoolK.lean ====
abbrev S2048x1024 : Shape := ⟨2, ![2048, 1024]⟩
abbrev S2048x2048 : Shape := ⟨2, ![2048, 2048]⟩
abbrev S1024 : Shape := ⟨1, ![1024]⟩
abbrev S4x256x256 : Shape := ⟨3, ![4, 256, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S2096x256 : Shape := ⟨2, ![2096, 256]⟩
abbrev S16x256 : Shape := ⟨2, ![16, 256]⟩
abbrev S32x256 : Shape := ⟨2, ![32, 256]⟩
abbrev S2048x1 : Shape := ⟨2, ![2048, 1]⟩
abbrev S256x256 : Shape := ⟨2, ![256, 256]⟩
abbrev S2x2048x1024 : Shape := ⟨3, ![2, 2048, 1024]⟩
abbrev S2x2048x256 : Shape := ⟨3, ![2, 2048, 256]⟩
abbrev S1x2048x256 : Shape := ⟨3, ![1, 2048, 256]⟩
abbrev S256 : Shape := ⟨1, ![256]⟩

abbrev nBuf : Space → Nat
  | .hbm => 14
  | .vmem => 39
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024, .f32⟩
  | .hbm, ⟨3, _⟩ => ⟨S4x256x256, .f32⟩
  | .hbm, ⟨4, _⟩ => ⟨S4x256x256, .bf16⟩
  | .hbm, ⟨5, _⟩ => ⟨S1x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x1024, .f32⟩
  | .hbm, ⟨10, _⟩ => ⟨S2048x1024, .bf16⟩
  | .hbm, ⟨11, _⟩ => ⟨S2x2048x1024, .bf16⟩
  | .hbm, ⟨12, _⟩ => ⟨S1x1024, .f32⟩
  | .hbm, ⟨13, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2096x256, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S1x256, .f32⟩
  | .local _ .vmem, ⟨22, _⟩ => ⟨S1x256, .f32⟩
  | .local _ .vmem, ⟨23, _⟩ => ⟨S1x256x256, .bf16⟩
  | .local _ .vmem, ⟨24, _⟩ => ⟨S1x256x256, .bf16⟩
  | .local _ .vmem, ⟨25, _⟩ => ⟨S2048x256, .bf16⟩
  | .local _ .vmem, ⟨26, _⟩ => ⟨S2048x256, .bf16⟩
  | .local _ .vmem, ⟨27, _⟩ => ⟨S2x2048x256, .bf16⟩
  | .local _ .vmem, ⟨28, _⟩ => ⟨S2x2048x256, .bf16⟩
  | .local _ .vmem, ⟨29, _⟩ => ⟨S1x256, .f32⟩
  | .local _ .vmem, ⟨30, _⟩ => ⟨S1x256, .f32⟩
  | .local _ .vmem, ⟨31, _⟩ => ⟨S2048x256, .f32⟩
  | .local _ .vmem, ⟨32, _⟩ => ⟨S2096x256, .f32⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x256, .bf16⟩
  | .local _ .vmem, ⟨37, _⟩ => ⟨S1x256x256, .bf16⟩
  | .local _ .vmem, ⟨38, _⟩ => ⟨S1x256x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_scratch0 : Ref sig .tc := ⟨.vmem, 31, rfl⟩
abbrev cc1_scratch1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== PoolRIdeal.lean ====
abbrev S2048x1024 : Shape := ⟨2, ![2048, 1024]⟩
abbrev S2048x2048 : Shape := ⟨2, ![2048, 2048]⟩
abbrev S1024 : Shape := ⟨1, ![1024]⟩
abbrev S4x256x256 : Shape := ⟨3, ![4, 256, 256]⟩
abbrev S2048x4x256 : Shape := ⟨3, ![2048, 4, 256]⟩
abbrev S4x2048x2048 : Shape := ⟨3, ![4, 2048, 2048]⟩
abbrev S_ : Shape := ⟨0, ![]⟩
abbrev S4x256x2048 : Shape := ⟨3, ![4, 256, 2048]⟩
abbrev S4x2048 : Shape := ⟨2, ![4, 2048]⟩
abbrev S2048x4 : Shape := ⟨2, ![2048, 4]⟩
abbrev S2048x4x1 : Shape := ⟨3, ![2048, 4, 1]⟩
abbrev S1x1024 : Shape := ⟨2, ![1, 1024]⟩
abbrev S4x2048x256 : Shape := ⟨3, ![4, 2048, 256]⟩
abbrev S1x2048x1024 : Shape := ⟨3, ![1, 2048, 1024]⟩
abbrev S2x2048x1024 : Shape := ⟨3, ![2, 2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024, .f32⟩
  | .hbm, ⟨3, _⟩ => ⟨S4x256x256, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x4x256, .f32⟩
  | .hbm, ⟨8, _⟩ => ⟨S4x2048x2048, .i32⟩
  | .hbm, ⟨9, _⟩ => ⟨S_, .i32⟩
  | .hbm, ⟨10, _⟩ => ⟨S4x2048x2048, .i32⟩
  | .hbm, ⟨11, _⟩ => ⟨S4x2048x2048, .i32⟩
  | .hbm, ⟨12, _⟩ => ⟨S4x2048x2048, .i32⟩
  | .hbm, ⟨13, _⟩ => ⟨S4x2048x2048, .i32⟩
  | .hbm, ⟨14, _⟩ => ⟨S4x2048x2048, .i32⟩
  | .hbm, ⟨15, _⟩ => ⟨S4x2048x2048, .i1⟩
  | .hbm, ⟨16, _⟩ => ⟨S4x2048x2048, .i32⟩
  | .hbm, ⟨17, _⟩ => ⟨S4x2048x2048, .i1⟩
  | .hbm, ⟨18, _⟩ => ⟨S4x2048x2048, .i1⟩
  | .hbm, ⟨19, _⟩ => ⟨S4x2048x2048, .f32⟩
  | .hbm, ⟨20, _⟩ => ⟨S4x256x2048, .f32⟩
  | .hbm, ⟨21, _⟩ => ⟨S2048x4x256, .f32⟩
  | .hbm, ⟨22, _⟩ => ⟨S_, .f32⟩
  | .hbm, ⟨23, _⟩ => ⟨S4x2048, .f32⟩
  | .hbm, ⟨24, _⟩ => ⟨S2048x4, .f32⟩
  | .hbm, ⟨25, _⟩ => ⟨S2048x4x1, .f32⟩
  | .hbm, ⟨26, _⟩ => ⟨S2048x4x256, .f32⟩
  | .hbm, ⟨27, _⟩ => ⟨S2048x4x256, .f32⟩
  | .hbm, ⟨28, _⟩ => ⟨S2048x4x256, .f32⟩
  | .hbm, ⟨29, _⟩ => ⟨S4x256x2048, .f32⟩
  | .hbm, ⟨30, _⟩ => ⟨S2048x4x256, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S2048x4x256, .f32⟩
  | .hbm, ⟨65, _⟩ => ⟨S4x256x2048, .f32⟩
  | .hbm, ⟨66, _⟩ => ⟨S4x2048x256, .f32⟩
  | .hbm, ⟨67, _⟩ => ⟨S2048x4x256, .f32⟩
  | .hbm, ⟨68, _⟩ => ⟨S4x256x256, .f32⟩
  | .hbm, ⟨69, _⟩ => ⟨S4x256x256, .f32⟩
  | .hbm, ⟨70, _⟩ => ⟨S2048x4x256, .f32⟩
  | .hbm, ⟨71, _⟩ => ⟨S2048x4x256, .f32⟩
  | .hbm, ⟨72, _⟩ => ⟨S2048x4x256, .f32⟩
  | .hbm, ⟨73, _⟩ => ⟨S4x256x2048, .f32⟩
  | .hbm, ⟨74, _⟩ => ⟨S4x256x2048, .f32⟩
  | .hbm, ⟨75, _⟩ => ⟨S2048x4x256, .f32⟩
  | .hbm, ⟨76, _⟩ => ⟨S2048x4x256, .f32⟩
  | .hbm, ⟨77, _⟩ => ⟨S2048x1024, .f32⟩
  | .hbm, ⟨78, _⟩ => ⟨S2048x1024, .bf16⟩
  | .hbm, ⟨79, _⟩ => ⟨S1x2048x1024, .f32⟩
  | .hbm, ⟨80, _⟩ => ⟨S1x2048x1024, .f32⟩
  | .hbm, ⟨81, _⟩ => ⟨S2x2048x1024, .f32⟩
  | .hbm, ⟨82, _⟩ => ⟨S2x2048x1024, .bf16⟩
  | .hbm, ⟨83, _⟩ => ⟨S1x1024, .f32⟩
  | .hbm, ⟨84, _⟩ => ⟨S4x256x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_cst_0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== PoolP0K.lean ====
abbrev S2304x1024 : Shape := ⟨2, ![2304, 1024]⟩
abbrev S2304x2048 : Shape := ⟨2, ![2304, 2048]⟩
abbrev S1024 : Shape := ⟨1, ![1024]⟩
abbrev S4x256x256 : Shape := ⟨3, ![4, 256, 256]⟩
abbrev S1x1024 : Shape := ⟨2, ![1, 1024]⟩
abbrev S2304x256 : Shape := ⟨2, ![2304, 256]⟩
abbrev S1x256x256 : Shape := ⟨3, ![1, 256, 256]⟩
abbrev S1x256 : Shape := ⟨2, ![1, 256]⟩
abbrev S2096x256 : Shape := ⟨2, ![2096, 256]⟩
abbrev S304x256 : Shape := ⟨2, ![304, 256]⟩
abbrev S2048x256 : Shape := ⟨2, ![2048, 256]⟩
abbrev S16x256 : Shape := ⟨2, ![16, 256]⟩
abbrev S32x256 : Shape := ⟨2, ![32, 256]⟩
abbrev S2048x1 : Shape := ⟨2, ![2048, 1]⟩
abbrev S256x256 : Shape := ⟨2, ![256, 256]⟩
abbrev S256x1 : Shape := ⟨2, ![256, 1]⟩
abbrev S2x2304x1024 : Shape := ⟨3, ![2, 2304, 1024]⟩
abbrev S2x2304x256 : Shape := ⟨3, ![2, 2304, 256]⟩
abbrev S1x2304x256 : Shape := ⟨3, ![1, 2304, 256]⟩
abbrev S256 : Shape := ⟨1, ![256]⟩
abbrev S1x2048x256 : Shape := ⟨3, ![1, 2048, 256]⟩

abbrev nBuf : Space → Nat
  | .hbm => 14
  | .vmem => 41
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S1024, .f32⟩
  | .hbm, ⟨3, _⟩ => ⟨S4x256x256, .f32⟩
  | .hbm, ⟨4, _⟩ => ⟨S4x256x256, .bf16⟩
  | .hbm, ⟨5, _⟩ => ⟨S1x1024, .f32⟩
  | .hbm, ⟨6, _⟩ => ⟨S2304x1024, .bf16⟩
  | .hbm, ⟨7, _⟩ => ⟨S2304x1024, .bf16⟩
  | .hbm, ⟨8, _⟩ => ⟨S2304x1024, .bf16⟩
  | .hbm, ⟨9, _⟩ => ⟨S1x1024, .f32⟩
  | .hbm, ⟨10, _⟩ => ⟨S2304x1024, .bf16⟩
  | .hbm, ⟨11, _⟩ => ⟨S2x2304x1024, .bf16⟩
  | .hbm, ⟨12, _⟩ => ⟨S1x1024, .f32⟩
  | .hbm, ⟨13, _⟩ => ⟨S4x256x256, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2304x256, .bf16⟩
  | .local _ .vmem, ⟨9, _⟩ => ⟨S2304x256, .bf16⟩
  | .local _ .vmem, ⟨10, _⟩ => ⟨S2304x256, .bf16⟩
  | .local _ .vmem, ⟨11, _⟩ => ⟨S2304x256, .bf16⟩
  | .local _ .vmem, ⟨12, _⟩ => ⟨S2304x256, .bf16⟩
  | .local _ .vmem, ⟨13, _⟩ => ⟨S2304x256, .bf16⟩
  | .local _ .vmem, ⟨14, _⟩ => ⟨S2096x256, .f32⟩
  | .local _ .vmem, ⟨15, _⟩ => ⟨S304x256, .f32⟩
  | .local _ .vmem, ⟨16, _⟩ => ⟨S2304x256, .bf16⟩
  | .local _ .vmem, ⟨17, _⟩ => ⟨S2304x256, .bf16⟩
  | .local _ .vmem, ⟨18, _⟩ => ⟨S2304x256, .bf16⟩
  | .local _ .vmem, ⟨19, _⟩ => ⟨S2304x256, .bf16⟩
  | .local _ .vmem, ⟨20, _⟩ => ⟨S2304x256, .bf16⟩
  | .local _ .vmem, ⟨21, _⟩ => ⟨S2304x256, .bf16⟩
  | .local _ .vmem, ⟨22, _⟩ => ⟨S1x256, .f32⟩
  | .local _ .vmem, ⟨23, _⟩ => ⟨S1x256, .f32⟩
  | .local _ .vmem, ⟨24, _⟩ => ⟨S1x256x256, .bf16⟩
  | .local _ .vmem, ⟨25, _⟩ => ⟨S1x256x256, .bf16⟩
  | .local _ .vmem, ⟨26, _⟩ => ⟨S2304x256, .bf16⟩
  | .local _ .vmem, ⟨27, _⟩ => ⟨S2304x256, .bf16⟩
  | .local _ .vmem, ⟨28, _⟩ => ⟨S2x2304x256, .bf16⟩
  | .local _ .vmem, ⟨29, _⟩ => ⟨S2x2304x256, .bf16⟩
  | .local _ .vmem, ⟨30, _⟩ => ⟨S1x256, .f32⟩
  | .local _ .vmem, ⟨31, _⟩ => ⟨S1x256, .f32⟩
  | .local _ .vmem, ⟨32, _⟩ => ⟨S2304x256, .f32⟩
  | .local _ .vmem, ⟨33, _⟩ => ⟨S2096x256, .f32⟩
  | .local _ .vmem, ⟨34, _⟩ => ⟨S304x256, .f32⟩
  | .local _ .vmem, ⟨35, _⟩ => ⟨S2304x256, .bf16⟩
  | .local _ .vmem, ⟨36, _⟩ => ⟨S2304x256, .bf16⟩
  | .local _ .vmem, ⟨37, _⟩ => ⟨S2304x256, .bf16⟩
  | .local _ .vmem, ⟨38, _⟩ => ⟨S2304x256, .bf16⟩
  | .local _ .vmem, ⟨39, _⟩ => ⟨S1x256x256, .bf16⟩
  | .local _ .vmem, ⟨40, _⟩ => ⟨S1x256x256, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2304x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2304x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2304x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2304x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x2304x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2304x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2304x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== PoolP0RIdeal.lean ====
abbrev S2304x1024 : Shape := ⟨2, ![2304, 1024]⟩
abbrev S2304x2048 : Shape := ⟨2, ![2304, 2048]⟩
abbrev S1024 : Shape := ⟨1, ![1024]⟩
abbrev S4x256x256 : Shape := ⟨3, ![4, 256, 256]⟩
abbrev S2048x2048 : Shape := ⟨2, ![2048, 2048]⟩
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S4x2048x2048 : Shape := ⟨3, ![4, 2048, 2048]⟩
abbrev S_ : Shape := ⟨0, ![]⟩
abbrev S4x256x2048 : Shape := ⟨3, ![4, 256, 2048]⟩
abbrev S4x2048 : Shape := ⟨2, ![4, 2048]⟩
abbrev S2048x4 : Shape := ⟨2, ![2048, 4]⟩
abbrev S2048x4x1 : Shape := ⟨3, ![2048, 4, 1]⟩
abbrev S1x1024 : Shape := ⟨2, ![1, 1024]⟩
abbrev S256x4x256 : Shape := ⟨3, ![256, 4, 256]⟩
abbrev S4x256 : Shape := ⟨2, ![4, 256]⟩
abbrev S256x4 : Shape := ⟨2, ![256, 4]⟩
abbrev S256x4x1 : Shape := ⟨3, ![256, 4, 1]⟩
abbrev S4x2048x256 : Shape := ⟨3, ![4, 2048, 256]⟩
abbrev S1x2304x1024 : Shape := ⟨3, ![1, 2304, 1024]⟩
abbrev S2x2304x1024 : Shape := ⟨3, ![2, 2304, 1024]⟩

abbrev nBuf : Space → Nat
  | .hbm => 166
  | .vmem => 0
  | .smem => 0
  | _ => 0

abbrev hbmTy0_0 (i : Nat) : BufTy := match i % 128 with
  | 0 => ⟨S2304x1024, .bf16⟩
  | 1 => ⟨S2304x2048, .bf16⟩
  | 2 => ⟨S1024, .f32⟩
  | 3 => ⟨S4x256x256, .f32⟩
  | 4 => ⟨S2304x2048, .f32⟩
  | 5 => ⟨S2304x1024, .f32⟩
  | 6 => ⟨S2048x2048, .f32⟩
  | 7 => ⟨S2048x1024, .f32⟩
  | 8 => ⟨S2048x1024, .f32⟩
  | 9 => ⟨S256x2048, .f32⟩
  | 10 => ⟨S256x1024, .f32⟩
  | 11 => ⟨S256x1024, .f32⟩
  | 12 => ⟨S2048x4x256, .f32⟩
  | 13 => ⟨S4x2048x2048, .i32⟩
  | 14 => ⟨S_, .i32⟩
  | 15 => ⟨S4x2048x2048, .i32⟩
  | 16 => ⟨S4x2048x2048, .i32⟩
  | 17 => ⟨S4x2048x2048, .i32⟩
  | 18 => ⟨S4x2048x2048, .i32⟩
  | 19 => ⟨S4x2048x2048, .i32⟩
  | 20 => ⟨S4x2048x2048, .i1⟩
  | 21 => ⟨S4x2048x2048, .i32⟩
  | 22 => ⟨S4x2048x2048, .i1⟩
  | 23 => ⟨S4x2048x2048, .i1⟩
  | 24 => ⟨S4x2048x2048, .f32⟩
  | 25 => ⟨S4x256x2048, .f32⟩
  | 26 => ⟨S2048x4x256, .f32⟩
  | 27 => ⟨S_, .f32⟩
  | 28 => ⟨S4x2048, .f32⟩
  | 29 => ⟨S2048x4, .f32⟩
  | 30 => ⟨S2048x4x1, .f32⟩
  | 31 => ⟨S2048x4x256, .f32⟩
  | 32 => ⟨S2048x4x256, .f32⟩
  | 33 => ⟨S2048x4x256, .f32⟩
  | 34 => ⟨S4x256x2048, .f32⟩
  | 35 => ⟨S2048x4x256, .f32⟩
  | 36 => ⟨S2048x1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S256x4x256, .f32⟩
  | 55 => ⟨S4x256x256, .i32⟩
  | 56 => ⟨S_, .i32⟩
  | 57 => ⟨S4x256x256, .i32⟩
  | 58 => ⟨S4x256x256, .i32⟩
  | 59 => ⟨S4x256x256, .i32⟩
  | 60 => ⟨S4x256x256, .i32⟩
  | 61 => ⟨S4x256x256, .i32⟩
  | 62 => ⟨S4x256x256, .i1⟩
  | 63 => ⟨S4x256x256, .i32⟩
  | 64 => ⟨S4x256x256, .i1⟩
  | 65 => ⟨S4x256x256, .i1⟩
  | 66 => ⟨S4x256x256, .f32⟩
  | 67 => ⟨S4x256x256, .f32⟩
  | 68 => ⟨S256x4x256, .f32⟩
  | 69 => ⟨S_, .f32⟩
  | 70 => ⟨S4x256, .f32⟩
  | 71 => ⟨S256x4, .f32⟩
  | 72 => ⟨S256x4x1, .f32⟩
  | 73 => ⟨S256x4x256, .f32⟩
  | 74 => ⟨S256x4x256, .f32⟩
  | 75 => ⟨S256x4x256, .f32⟩
  | 76 => ⟨S4x256x256, .f32⟩
  | 77 => ⟨S256x4x256, .f32⟩
  | 78 => ⟨S256x1024, .f32⟩
  | 79 => ⟨S1x1024, .f32⟩
  | 80 => ⟨S256x1024, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S2048x1024, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S256x1024, .f32⟩
  | 103 => ⟨S256x1024, .f32⟩
  | 104 => ⟨S256x1024, .f32⟩
  | 105 => ⟨S_, .f32⟩
  | 106 => ⟨S1024, .f32⟩
  | 107 => ⟨S1x1024, .f32⟩
  | 108 => ⟨S256x1024, .f32⟩
  | 109 => ⟨S256x1024, .f32⟩
  | 110 => ⟨S_, .f32⟩
  | 111 => ⟨S1024, .f32⟩
  | 112 => ⟨S256x4x256, .f32⟩
  | 113 => ⟨S4x256x256, .f32⟩
  | 114 => ⟨S4x256x256, .f32⟩
  | 115 => ⟨S256x4x256, .f32⟩
  | 116 => ⟨S4x256x256, .f32⟩
  | 117 => ⟨S4x256x256, .f32⟩
  | 118 => ⟨S256x4x256, .f32⟩
  | 119 => ⟨S256x4x256, .f32⟩
  | 120 => ⟨S256x4x256, .f32⟩
  | 121 => ⟨S4x256x256, .f32⟩
  | 122 => ⟨S4x256x256, .f32⟩
  | 123 => ⟨S256x4x256, .f32⟩
  | 124 => ⟨S256x4x256, .f32⟩
  | 125 => ⟨S256x1024, .f32⟩
  | 126 => ⟨S2048x1024, .f32⟩
  | 127 => ⟨S2048x1024, .f32⟩
  | _ => ⟨S2304x1024, .bf16⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S_, .f32⟩
  | 6 => ⟨S1024, .f32⟩
  | 7 => ⟨S1x1024, .f32⟩
  | 8 => ⟨S2048x1024, .f32⟩
  | 9 => ⟨S2048x1024, .f32⟩
  | 10 => ⟨S_, .f32⟩
  | 11 => ⟨S1024, .f32⟩
  | 12 => ⟨S1024, .f32⟩
  | 13 => ⟨S2048x4x256, .f32⟩
  | 14 => ⟨S4x256x2048, .f32⟩
  | 15 => ⟨S4x2048x256, .f32⟩
  | 16 => ⟨S2048x4x256, .f32⟩
  | 17 => ⟨S4x256x256, .f32⟩
  | 18 => ⟨S4x256x256, .f32⟩
  | 19 => ⟨S4x256x256, .f32⟩
  | 20 => ⟨S2048x4x256, .f32⟩
  | 21 => ⟨S2048x4x256, .f32⟩
  | 22 => ⟨S2048x4x256, .f32⟩
  | 23 => ⟨S4x256x2048, .f32⟩
  | 24 => ⟨S4x256x2048, .f32⟩
  | 25 => ⟨S2048x4x256, .f32⟩
  | 26 => ⟨S2048x4x256, .f32⟩
  | 27 => ⟨S2048x1024, .f32⟩
  | 28 => ⟨S2304x1024, .f32⟩
  | 29 => ⟨S2304x1024, .f32⟩
  | 30 => ⟨S1x2304x1024, .f32⟩
  | 31 => ⟨S1x2304x1024, .f32⟩
  | 32 => ⟨S2x2304x1024, .f32⟩
  | 33 => ⟨S2304x1024, .f32⟩
  | 34 => ⟨S2304x1024, .bf16⟩
  | 35 => ⟨S2x2304x1024, .bf16⟩
  | 36 => ⟨S1x1024, .f32⟩
  | 37 => ⟨S4x256x256, .bf16⟩
  | _ => ⟨S2304x1024, .bf16⟩

abbrev hbmTy (i : Nat) : BufTy := match i / 128 with
  | 0 => hbmTy0_0 i
  | 1 => hbmTy0_1 i
  | _ => ⟨S2304x1024, .bf16⟩

abbrev bufTy : (tb : Table) → Fin (tcTables nBuf tb) → BufTy
  | .hbm, ⟨i, _⟩ => hbmTy i
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_v62_2 : Ref sig .tc := ⟨.hbm, 89, rfl⟩
abbrev main_call1_cst_1 : Ref sig .tc := ⟨.hbm, 90, rfl⟩
abbrev main_call1_v6 : Ref sig .tc := ⟨.hbm, 91, rfl⟩
abbrev main_call1_v7 : Ref sig .tc := ⟨.hbm, 92, rfl⟩
abbrev main_v62_1 : Ref sig .tc := ⟨.hbm, 93, rfl⟩
abbrev main_v62_0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v68 : Ref sig .tc := ⟨.hbm, 103, rfl⟩
abbrev main_v69 : Ref sig .tc := ⟨.hbm, 104, rfl⟩
abbrev main_cst_2 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_3 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v91 : Ref sig .tc := ⟨.hbm, 131, rfl⟩
abbrev main_v92 : Ref sig .tc := ⟨.hbm, 132, rfl⟩
abbrev main_cst_4 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_5 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩

abbrev nD : Nat := 1
abbrev τ : Topo := Topo.v7x

variable {F : FTy → Type} [FloatOps F]
-- ==== ConvFK.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S3x1024, .f32⟩
  | .hbm, ⟨2, _⟩ => ⟨S1x1024, .f32⟩
  | .hbm, ⟨3, _⟩ => ⟨S2048x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFRIdeal.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S_ : Shape := ⟨0, ![]⟩
abbrev S2047x1024 : Shape := ⟨2, ![2047, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S3x1024, .f32⟩
  | .hbm, ⟨2, _⟩ => ⟨S1x1024, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1x1024, .f32⟩
  | .hbm, ⟨11, _⟩ => ⟨S2047x1024, .f32⟩
  | .hbm, ⟨12, _⟩ => ⟨S2048x1024, .f32⟩
  | .hbm, ⟨13, _⟩ => ⟨S2047x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== ResidK.lean ====
abbrev S2048x1024 : Shape := ⟨2, ![2048, 1024]⟩
abbrev S1024 : Shape := ⟨1, ![1024]⟩
abbrev S1024x1024 : Shape := ⟨2, ![1024, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1x1024, .f32⟩
  | .hbm, ⟨6, _⟩ => ⟨S2048x1024, .bf16⟩
  | .hbm, ⟨7, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidRIdeal.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Resid2K.lean ====
abbrev S2304x1024 : Shape := ⟨2, ![2304, 1024]⟩
abbrev S1024 : Shape := ⟨1, ![1024]⟩
abbrev S1024x1024 : Shape := ⟨2, ![1024, 1024]⟩
abbrev S1x1024 : Shape := ⟨2, ![1, 1024]⟩
abbrev S2x1024 : Shape := ⟨2, ![2, 1024]⟩
abbrev S2x1x1024 : Shape := ⟨3, ![2, 1, 1024]⟩
abbrev S768x1024 : Shape := ⟨2, ![768, 1024]⟩
abbrev S768x1 : Shape := ⟨2, ![768, 1]⟩
abbrev S1x1x1024 : Shape := ⟨3, ![1, 1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S2x1x1024, .f32⟩
  | .hbm, ⟨10, _⟩ => ⟨S2304x1024, .bf16⟩
  | .hbm, ⟨11, _⟩ => ⟨S2304x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S2x1x1024, .f32⟩
  | .local _ .vmem, ⟨6, _⟩ => ⟨S768x1024, .bf16⟩
  | .local _ .vmem, ⟨7, _⟩ => ⟨S768x1024, .bf16⟩
  | .local _ .vmem, ⟨8, _⟩ => ⟨S768x1024, .f32⟩
  | .local _ .vmem, ⟨9, _⟩ => ⟨S768x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Resid2RIdeal.lean ====
abbrev S2304x1024 : Shape := ⟨2, ![2304, 1024]⟩
abbrev S1024 : Shape := ⟨1, ![1024]⟩
abbrev S1024x1024 : Shape := ⟨2, ![1024, 1024]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S256x1024, .bf16⟩
  | .hbm, ⟨9, _⟩ => ⟨S256x1024, .f32⟩
  | .hbm, ⟨10, _⟩ => ⟨S256x1024, .f32⟩
  | .hbm, ⟨11, _⟩ => ⟨S2304x1024, .f32⟩
  | .hbm, ⟨12, _⟩ => ⟨S2304x1024, .bf16⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S2304x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== NormFK.lean ====
abbrev S2048x1024 : Shape := ⟨2, ![2048, 1024]⟩
abbrev S1024 : Shape := ⟨1, ![1024]⟩
abbrev S1024x4096 : Shape := ⟨2, ![1024, 4096]⟩
abbrev S1x1024 : Shape := ⟨2, ![1, 1024]⟩
abbrev S1x1x1024 : Shape := ⟨3, ![1, 1, 1024]⟩
abbrev S2048x1 : Shape := ⟨2, ![2048, 1]⟩
abbrev S2048x4096 : Shape := ⟨2, ![2048, 4096]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S1x1024, .f32⟩
  | .hbm, ⟨6, _⟩ => ⟨S1x1x1024, .f32⟩
  | .hbm, ⟨7, _⟩ => ⟨S1x1x1024, .f32⟩
  | .hbm, ⟨8, _⟩ => ⟨S1024x4096, .bf16⟩
  | .hbm, ⟨9, _⟩ => ⟨S2048x1024, .bf16⟩
  | .hbm, ⟨10, _⟩ => ⟨S2048x1, .f32⟩
  | .hbm, ⟨11, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x4096, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S512x4096, .bf16⟩
  | .local _ .vmem, ⟨11, _⟩ => ⟨S512x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NormFRIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S2048x4096, .f32⟩
  | .hbm, ⟨32, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== NormFNaK.lean ====
abbrev S2048x1024 : Shape := ⟨2, ![2048, 1024]⟩
abbrev S256x1024 : Shape := ⟨2, ![256, 1024]⟩
abbrev S1024 : Shape := ⟨1, ![1024]⟩
abbrev S1024x4096 : Shape := ⟨2, ![1024, 4096]⟩
abbrev S1x1024 : Shape := ⟨2, ![1, 1024]⟩
abbrev S2x1024 : Shape := ⟨2, ![2, 1024]⟩
abbrev S2x1x1024 : Shape := ⟨3, ![2, 1, 1024]⟩
abbrev S2304x1024 : Shape := ⟨2, ![2304, 1024]⟩
abbrev S2304x1 : Shape := ⟨2, ![2304, 1]⟩
abbrev S2304x4096 : Shape := ⟨2, ![2304, 4096]⟩
abbrev S768x1024 : Shape := ⟨2, ![768, 1024]⟩
abbrev S768x1 : Shape := ⟨2, ![768, 1]⟩
abbrev S768x4096 : Shape := ⟨2, ![768, 4096]⟩
abbrev S768 : Shape := ⟨1, ![768]⟩
abbrev S1x1x1024 : Shape := ⟨3, ![1, 1, 1024]⟩

abbrev nBuf : Space → Nat
  | .hbm => 22
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S2x1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S2x1x1024, .f32⟩
  | .hbm, ⟨16, _⟩ => ⟨S2304x1024, .f32⟩
  | .hbm, ⟨17, _⟩ => ⟨S1x1024, .f32⟩
  | .hbm, ⟨18, _⟩ => ⟨S1024x4096, .bf16⟩
  | .hbm, ⟨19, _⟩ => ⟨S2304x1024, .bf16⟩
  | .hbm, ⟨20, _⟩ => ⟨S2304x1, .f32⟩
  | .hbm, ⟨21, _⟩ => ⟨S2304x4096, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S2x1x1024, .f32⟩
  | .local _ .vmem, ⟨4, _⟩ => ⟨S2x1x1024, .f32⟩
  | .local _ .vmem, ⟨5, _⟩ => ⟨S1024x4096, .bf16⟩
  | .local _ .vmem, ⟨6, _⟩ => ⟨S768x1024, .bf16⟩
  | .local _ .vmem, ⟨7, _⟩ => ⟨S768x1024, .bf16⟩
  | .local _ .vmem, ⟨8, _⟩ => ⟨S768x1, .f32⟩
  | .local _ .vmem, ⟨9, _⟩ => ⟨S768x1, .f32⟩
  | .local _ .vmem, ⟨10, _⟩ => ⟨S768x4096, .bf16⟩
  | .local _ .vmem, ⟨11, _⟩ => ⟨S768x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NormFNaRIdeal.lean ====
abbrev S2048x1024 : Shape := ⟨2, ![2048, 1024]⟩
abbrev S256x1024 : Shape := ⟨2, ![256, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S2304x1024 : Shape := ⟨2, ![2304, 1024]⟩
abbrev S2304x1 : Shape := ⟨2, ![2304, 1]⟩
abbrev S2048x4096 : Shape := ⟨2, ![2048, 4096]⟩
abbrev S256x4096 : Shape := ⟨2, ![256, 4096]⟩
abbrev S2304x4096 : Shape := ⟨2, ![2304, 4096]⟩

abbrev nBuf : Space → Nat
  | .hbm => 65
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S256x1, .f32⟩
  | .hbm, ⟨44, _⟩ => ⟨S256x1024, .f32⟩
  | .hbm, ⟨45, _⟩ => ⟨S256x1024, .f32⟩
  | .hbm, ⟨46, _⟩ => ⟨S1x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S2304x1024, .f32⟩
  | .hbm, ⟨59, _⟩ => ⟨S2304x1024, .bf16⟩
  | .hbm, ⟨60, _⟩ => ⟨S2304x1, .f32⟩
  | .hbm, ⟨61, _⟩ => ⟨S2048x4096, .f32⟩
  | .hbm, ⟨62, _⟩ => ⟨S256x4096, .f32⟩
  | .hbm, ⟨63, _⟩ => ⟨S2304x4096, .f32⟩
  | .hbm, ⟨64, _⟩ => ⟨S2304x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== NormFP0K.lean ====
abbrev S2048x1024 : Shape := ⟨2, ![2048, 1024]⟩
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S2x1024 : Shape := ⟨2, ![2, 1024]⟩
abbrev S2x1x1024 : Shape := ⟨3, ![2, 1, 1024]⟩
abbrev S2304x1024 : Shape := ⟨2, ![2304, 1024]⟩
abbrev S2304x1 : Shape := ⟨2, ![2304, 1]⟩
abbrev S2304x2048 : Shape := ⟨2, ![2304, 2048]⟩
abbrev S768x1024 : Shape := ⟨2, ![768, 1024]⟩
abbrev S768x1 : Shape := ⟨2, ![768, 1]⟩
abbrev S768x2048 : Shape := ⟨2, ![768, 2048]⟩
abbrev S768 : Shape := ⟨1, ![768]⟩
abbrev S1x1x1024 : Shape := ⟨3, ![1, 1, 1024]⟩

abbrev nBuf : Space → Nat
  | .hbm => 22
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S2x1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1024x2048, .bf16⟩
  | .hbm, ⟨18, _⟩ => ⟨S2304x1024, .f32⟩
  | .hbm, ⟨19, _⟩ => ⟨S2304x1024, .bf16⟩
  | .hbm, ⟨20, _⟩ => ⟨S2304x1, .f32⟩
  | .hbm, ⟨21, _⟩ => ⟨S2304x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S2x1x1024, .f32⟩
  | .local _ .vmem, ⟨9, _⟩ => ⟨S2x1x1024, .f32⟩
  | .local _ .vmem, ⟨10, _⟩ => ⟨S1024x2048, .bf16⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S768x1, .f32⟩
  | .local _ .vmem, ⟨16, _⟩ => ⟨S768x1, .f32⟩
  | .local _ .vmem, ⟨17, _⟩ => ⟨S768x2048, .bf16⟩
  | .local _ .vmem, ⟨18, _⟩ => ⟨S768x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S768x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S768x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== NormFP0RIdeal.lean ====
abbrev S2048x1024 : Shape := ⟨2, ![2048, 1024]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S2304x1024 : Shape := ⟨2, ![2304, 1024]⟩
abbrev S2304x1 : Shape := ⟨2, ![2304, 1]⟩
abbrev S2048x2048 : Shape := ⟨2, ![2048, 2048]⟩
abbrev S256x2048 : Shape := ⟨2, ![256, 2048]⟩
abbrev S2304x2048 : Shape := ⟨2, ![2304, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S256x1, .f32⟩
  | .hbm, ⟨44, _⟩ => ⟨S256x1024, .f32⟩
  | .hbm, ⟨45, _⟩ => ⟨S256x1024, .f32⟩
  | .hbm, ⟨46, _⟩ => ⟨S1x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S2304x1024, .f32⟩
  | .hbm, ⟨59, _⟩ => ⟨S2304x1024, .f32⟩
  | .hbm, ⟨60, _⟩ => ⟨S2304x1024, .bf16⟩
  | .hbm, ⟨61, _⟩ => ⟨S2304x1, .f32⟩
  | .hbm, ⟨62, _⟩ => ⟨S2048x2048, .f32⟩
  | .hbm, ⟨63, _⟩ => ⟨S256x2048, .f32⟩
  | .hbm, ⟨64, _⟩ => ⟨S2304x2048, .f32⟩
  | .hbm, ⟨65, _⟩ => ⟨S2304x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Gate.lean ====
/-
  The gate's gradient, one segment: the call multiplies the cotangent by the gate row, sends the product back
  through `w_outᵀ`, and sums cotangent × saved product over the rows, 512 rows a grid point. Each result array is
  the stage of the reference's derivative that it stands for.
-/
module

public import proofs.«01_k».proof.Proof.Gen.GateKIdeal.Value
public import proofs.«01_k».proof.Proof.Gen.GateRIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.GateRIdeal.Read (val_main_v0 val_main_v1 val_main_v2 val_main_v5 val_main_v6 val_main_v7 val_main_v8
  val_main_v9 val_main_v10 val_main_v11 val_main_v12 val_main_v13 val_main_v14 val_main_cst val_main_cst_0)

namespace Cert.GateKIdeal.Hand

open Cert.GateKIdeal Cert.GateKIdeal.Gen

variable (m : (ℓ : Loc nD τ sig) → Buf (Elt Ideal) ℓ)

/-- Where each window's block sits: the row windows move with the point, the others stay. -/
theorem idx : ∀ t : Fin cfg0.N, win0_0.index t = ![t.val, 0] ∧ win0_1.index t = ![t.val, 0]
    ∧ win0_2.index t = ![0, 0, 0] ∧ win0_3.index t = ![0, 0] ∧ win0_4.index t = ![t.val, 0]
    ∧ win0_5.index t = ![t.val, 0] ∧ win0_6.index t = ![0, 0, 0] :=
  (by decide +kernel : ∀ t : Fin grid0.N, _)

/-- One tile's column sums of cotangent × saved product. -/
theorem pay4_at (dx : FVec Ideal S512x1024 .f32) (yx : FVec Ideal S512x1024 .bf16) (j : S1x1x1024.Idx) :
    k0_pay4 dx yx j = ∑ r : Fin 512, dx (ix2 r (j 2)) * yx (ix2 r (j 2)) := by
  pointwise [k0_pay4, k0_pay3]

/-- … added into what the points before left. -/
theorem pay5_at (dx : FVec Ideal S512x1024 .f32) (yx : FVec Ideal S512x1024 .bf16) (a : FVec Ideal S1x1x1024 .f32)
    (j : S1x1x1024.Idx) :
    k0_pay5 dx yx a j = a j + ∑ r : Fin 512, dx (ix2 r (j 2)) * yx (ix2 r (j 2)) := by
  pointwise [k0_pay5, k0_pay3]

/-- One tile of the product of the gated cotangent with `w_outᵀ`. -/
theorem pay2_at (dx : FVec Ideal S512x1024 .f32) (gt : FVec Ideal S1x1x1024 .f32) (w : FVec Ideal S1024x1024 .bf16)
    (j : S512x1024.Idx) :
    k0_pay2 (F := Ideal) dx gt w j = ∑ k : Fin 1024, gt (ix3 0 0 k) * dx (ix2 (j 0) k) * w (ix2 (j 1) k) := by
  pointwise! [k0_pay2, k0_pay1]

/-- The saved product, as the call finds it, is the reference's product. -/
theorem yx_entry (c : Dev nD) (j : S2048x1024.Idx) :
    (show EReal from V m c main_v3 j)
      = val_main_v1 (F := Ideal) (m ((c : Thread nD τ).loc main_arg1)) (m ((c : Thread nD τ).loc main_arg3)) j := by
  entry_read
  pointwise [val_main_v1, val_main_v0]

/-- The gated cotangent's tile at point `t` is the reference's gated cotangent there. -/
theorem dyx_point (c : Dev nD) (t : Fin cfg0.N) (y : S512x1024.Idx) :
    k0_pay1 (F := Ideal) (iblk m c 0 t) (iblk m c 2 t) y
      = val_main_v11 (F := Ideal) (m ((c : Thread nD τ).loc main_arg0)) (m ((c : Thread nD τ).loc main_arg2))
          (((cfg0.win 4).blk t).view.emb y) := by
  pointwise [k0_pay1, val_main_v11, val_main_v6, val_main_v5, val_main_v2]
  rw [mul_comm]
  blk_point [iblk, V, idx t]

/-- The tile of the product with `w_outᵀ` at point `t`. -/
theorem da_point (c : Dev nD) (t : Fin cfg0.N) (y : S512x1024.Idx) :
    k0_pay2 (F := Ideal) (iblk m c 0 t) (iblk m c 2 t) (iblk m c 3 t) y
      = val_main_v13 (F := Ideal) (m ((c : Thread nD τ).loc main_arg0)) (m ((c : Thread nD τ).loc main_arg2))
          (m ((c : Thread nD τ).loc main_arg3)) (((cfg0.win 5).blk t).view.emb y) := by
  rw [pay2_at]
  pointwise [val_main_v13, val_main_v12, val_main_v6, val_main_v5, val_main_v2]
  blk_point [iblk, V, idx t]

/-- The gated cotangent after the run. -/
theorem dyx_final (c : Dev nD) : (dats m 0 c).arrAt 4 cfg0.N
    = val_main_v11 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  have hN : t.val < 4 := lt_of_lt_of_eq t.isLt N_0
  by_cases h : t.val % 4 = 0
  · rw [outsAt0_A m c t h (by omega)]; frame_out
    exact dyx_point m c t y
  · rw [outsAt0_B m c t h (by omega)]; frame_out
    exact dyx_point m c t y

/-- The gradient of the call's input after the run. -/
theorem da_final (c : Dev nD) : (dats m 0 c).arrAt 5 cfg0.N
    = val_main_v13 (F := Ideal) (m ((c : Thread nD τ).loc main_arg0)) (m ((c : Thread nD τ).loc main_arg2))
        (m ((c : Thread nD τ).loc main_arg3)) := by
  refine (dats m 0 c).arrAt_eq_of_covers 5 _ (by decide +kernel) fun t _ y => ?_
  blk_simp
  rw [after0_5]
  have hN : t.val < 4 := lt_of_lt_of_eq t.isLt N_0
  by_cases h : t.val % 4 = 0
  · rw [outsAt0_A m c t h (by omega)]; frame_out
    exact da_point m c t y
  · rw [outsAt0_B m c t h (by omega)]; frame_out
    exact da_point m c t y

/-- The gate's gradient after the run: the four tiles' sums are the sum over all rows. -/
theorem dgate_final (c : Dev nD) : (dats m 0 c).arrAt 6 cfg0.N
    = val_main_v14 (F := Ideal) (m ((c : Thread nD τ).loc main_arg0)) (m ((c : Thread nD τ).loc main_arg1))
        (m ((c : Thread nD τ).loc main_arg3)) := by
  refine (dats m 0 c).arrAt_eq_of_after_last 6 t0_3 (by decide +kernel) _ fun j => ?_
  have hN : ∀ t : Fin cfg0.N, t.val < 4 := fun t => lt_of_lt_of_eq t.isLt N_0
  blk_simp
  rw [after0_6, Pipeline.eq_sum_fin_of_reset_step_apply_last (fun n h => (outsAt0 m c n h).2.2) 4 (fun _ => 0)
    (fun t j => ∑ r : Fin 512, (show FVec Ideal S512x1024 .f32 from iblk m c 0 t) (ix2 r (j 2))
      * (show FVec Ideal S512x1024 .bf16 from iblk m c 1 t) (ix2 r (j 2)))
    (fun t h j => by rw [outsAt0_A m c t h (by have := hN t; omega)]; frame_out; rw [pay4_at, zero_add])
    (fun t h j => by rw [outsAt0_B m c t h (by omega)]; frame_out; rw [pay5_at])
    (le_of_eq N_0) t0_3 rfl j, zero_add]
  pointwise [val_main_v14, val_main_v10, val_main_v9, val_main_v8, val_main_v7, val_main_cst, val_main_cst_0]
  refine Fin.sum_points_lanes_congr 4 fun t k ha hl => ?_
  have ht := hN t
  refine Ideal.mul_congr ?_ ((yx_entry m c _).trans ?_)
  all_goals blk_ext [iblk, V, idx t]

end Cert.GateKIdeal.Hand

end
-- ==== Proof.GateClaim.lean ====
/-
  The gate's gradient (one segment): the call's results are the derivative's.
-/
module

public import proofs.«01_k».proof.Defs
public import proofs.«01_k».proof.Proof.Gate
public import proofs.«01_k».proof.Proof.Gen.GateKIdeal.Value
public import proofs.«01_k».proof.Proof.Gen.GateRIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem gate_reference_frame : Cert.quiescent_GateRIdeal := by
  intro m g _
  exact (θ_run _ _ _).mono (fun r h => ⟨fun c => (h c).2.2.2, sem_eq_zero_of_no_sems rfl _⟩)
    (Cert.GateRIdeal.Value.run m g)

/-- The call's three arrays are the derivative's. -/
theorem gate_value : Cert.algebraic_GateKIdeal_GateRIdeal := by
  pair_intro
  · run_from Cert.GateKIdeal.Gen.run_main m g
  · run_from Cert.GateRIdeal.Value.run m' g'
    · exact (Cert.GateKIdeal.Hand.dyx_final m c).symm
    · exact (Cert.GateKIdeal.Hand.da_final m c).symm
    · exact (Cert.GateKIdeal.Hand.dgate_final m c).symm

end Cert.Proof

end
-- ==== Proof.Seg.lean ====
/-
  Two segments in one array: 2048 latent rows, then 256 context rows. What the calls over both segments share: the
  word test that marks a context row, and sums over all rows of which only one segment's rows count.
-/
module

public import Idealize.ShloMosaic.Lib.Pipeline.ValueKit
public import Idealize.ShloMosaic.Lib.Pointwise
public import Idealize.ShloMosaic.Lib.WordCmp

@[expose] public section

open Idealize.ShloMosaic

namespace Cert.Seg

/-- The word test `t · 768 + r ≥ 2048` is the test on numbers. -/
theorem ctx_word {t r : Nat} (ht : t < 3) (hr : r < 768) :
    IntOp.cmpi CmpIPredicate.sge (IntOp.addi (Scalar.muli (BitVec.ofNat 32 t) 768#32) (BitVec.ofNat 32 r)) 2048#32
      = if 2048 ≤ t * 768 + r then 1#1 else 0#1 := by
  have e : IntOp.addi (Scalar.muli (BitVec.ofNat 32 t) 768#32) (BitVec.ofNat 32 r) = BitVec.ofNat 32 (t * 768 + r) := by
    rw [BitVec.ofNat_add, BitVec.ofNat_mul]; rfl
  rw [e]
  word_cmp
  by_cases h : 2048 ≤ t * 768 + r <;> simp [h]

/-- A choice made by a word that is itself a test is the choice made by the test. -/
theorem select_test {α : Type} (p : Prop) [Decidable p] (a b : α) :
    Scalar.select (if p then 1#1 else 0#1) a b = if p then a else b := by
  split <;> rfl

/-- A sum in which context rows count zero is the sum over the latent rows. -/
theorem sum_latent (f : Fin 2304 → EReal) :
    (∑ l : Fin 2304, if 2048 ≤ l.val then 0 else f l) = ∑ k : Fin 2048, f (Fin.castAdd 256 k) := by
  rw [show (∑ l : Fin 2304, if 2048 ≤ l.val then 0 else f l)
    = ∑ l : Fin (2048 + 256), if 2048 ≤ l.val then 0 else f l from rfl, Fin.sum_univ_add]
  simp [fun k : Fin 2048 => not_le.mpr k.isLt]

/-- A sum in which latent rows count zero is the sum over the context rows. -/
theorem sum_context (f : Fin 2304 → EReal) :
    (∑ l : Fin 2304, if 2048 ≤ l.val then f l else 0) = ∑ k : Fin 256, f (Fin.natAdd 2048 k) := by
  rw [show (∑ l : Fin 2304, if 2048 ≤ l.val then f l else 0)
    = ∑ l : Fin (2048 + 256), if 2048 ≤ l.val then f l else 0 from rfl, Fin.sum_univ_add]
  simp [fun k : Fin 2048 => not_le.mpr k.isLt]

/-- Two segments' rows, one after the other. -/
def join {α : Type} (f : Fin 2048 → α) (g : Fin 256 → α) (i : Fin 2304) : α :=
  if h : i.val < 2048 then f ⟨i.val, h⟩ else g ⟨i.val - 2048, by omega⟩

/-- The part of row `n` that segment `s` counts: the latent rows where `s = 0`, else the context rows. -/
noncomputable def only (s n : Nat) (a : EReal) : EReal :=
  if s = 0 then (if 2048 ≤ n then 0 else a) else (if 2048 ≤ n then a else 0)

/-- Three tiles' sums over one segment's rows are the sum over that segment's rows of the whole array. -/
theorem sum_tiles {N : Nat} (hN : N = 3) (s : Nat) (F : Fin N → Fin 768 → EReal) (f : Fin 2304 → EReal)
    (h : ∀ (t : Fin N) (r : Fin 768), F t r = f ⟨t.val * 768 + r.val, by omega⟩) :
    (∑ t : Fin N, ∑ r : Fin 768, only s (t.val * 768 + r.val) (F t r)) = ∑ l : Fin 2304, only s l.val (f l) := by
  subst hN
  refine Fin.sum_mul_add_congr (fun t k hl => ?_) (by decide)
  rw [h]

/-- What segment 0 counts is the latent rows. -/
theorem only_latent (q : Fin 2304 → EReal) : (∑ l : Fin 2304, only 0 l.val (q l)) = ∑ k : Fin 2048, q (Fin.castAdd 256 k) :=
  sum_latent q

/-- What segment 1 counts is the context rows. -/
theorem only_context (q : Fin 2304 → EReal) : (∑ l : Fin 2304, only 1 l.val (q l)) = ∑ k : Fin 256, q (Fin.natAdd 2048 k) :=
  sum_context q

/-- The word test `t · 3 + s < 8`, whether the residual has a block for these rows, is the test on numbers. -/
theorem res_word {t s : Nat} (ht : t < 3) (hs : s < 3) :
    Scalar.cmpi CmpIPredicate.slt (Scalar.addi (Scalar.muli (BitVec.ofNat 32 t) 3#32) (BitVec.ofNat 32 s)) 8#32
      = if t * 3 + s < 8 then 1#1 else 0#1 := by
  interval_cases t <;> interval_cases s <;> decide

end Cert.Seg
-- ==== Proof.Gate2.lean ====
/-
  The gate's gradient, two segments: latent rows use the gate's first row, context rows the second, and each of the
  two rows of the gate's gradient sums over its own segment. The grid walks 768 rows at a time, so the last point
  holds rows of both.
-/
module

public import proofs.«01_k».proof.Proof.Gen.Gate2KIdeal.Value
public import proofs.«01_k».proof.Proof.Gen.Gate2RIdeal.Read
public import proofs.«01_k».proof.Proof.Seg

@[expose] public section

set_option maxRecDepth 16384

noncomputable section

open Idealize.ShloMosaic Idealize.ShloMosaic.TcCoe Idealize.SL.Sem
open Idealize.ShloMosaic.Pipeline (Dat)
open Cert.Gate2RIdeal.Read

namespace Cert.Gate2KIdeal.Hand

open Cert.Gate2KIdeal Cert.Gate2KIdeal.Gen

variable (m : (ℓ : Loc nD τ sig) → Buf (Elt Ideal) ℓ)

/-- Where each window's block sits: the row windows move with the point, the others stay. -/
theorem idx : ∀ t : Fin cfg0.N, win0_0.index t = ![t.val, 0] ∧ win0_1.index t = ![t.val, 0]
    ∧ win0_2.index t = ![0, 0, 0] ∧ win0_3.index t = ![0, 0] ∧ win0_4.index t = ![t.val, 0]
    ∧ win0_5.index t = ![t.val, 0] ∧ win0_6.index t = ![0, 0, 0] ∧ (grid0.coords t 0).val = t.val :=
  (by decide +kernel : ∀ t : Fin grid0.N, _)

/-- The mask of point `i` marks the context rows. -/
theorem mask_at (i : grid0.Coords) (r : Fin 768) :
    k0_pay7 i (ix2 r 0) = if 2048 ≤ (i 0).val * 768 + r.val then 1#1 else 0#1 := by
  pointwise [k0_pay7]
  exact Cert.Seg.ctx_word (i 0).isLt r.isLt

/-- The gated cotangent of one tile: each row by its segment's gate row. -/
theorem pay8_at (i : grid0.Coords) (dx : FVec Ideal S768x1024 .f32) (cg g : FVec Ideal S1x1x1024 .f32)
    (r : Fin 768) (l : Fin 1024) :
    k0_pay8 (F := Ideal) i dx cg g (ix2 r l)
      = (if 2048 ≤ (i 0).val * 768 + r.val then cg (ix3 0 0 l) else g (ix3 0 0 l)) * dx (ix2 r l) := by
  pointwise! [k0_pay8, mask_at, Cert.Seg.select_test]

/-- One tile of the product of the gated cotangent with `w_outᵀ`. -/
theorem pay9_at (i : grid0.Coords) (dx : FVec Ideal S768x1024 .f32) (cg g : FVec Ideal S1x1x1024 .f32)
    (w : FVec Ideal S1024x1024 .bf16) (r : Fin 768) (l : Fin 1024) :
    k0_pay9 (F := Ideal) i dx cg g w (ix2 r l)
      = ∑ k : Fin 1024, (if 2048 ≤ (i 0).val * 768 + r.val then cg (ix3 0 0 k) else g (ix3 0 0 k)) * dx (ix2 r k)
          * w (ix2 l k) := by
  pointwise! [k0_pay9, pay8_at]

/-- One tile's column sums of cotangent × saved product, over the latent rows or over the context rows. -/
def tileSum (s t : Nat) (dx : FVec Ideal S768x1024 .f32) (yx : FVec Ideal S768x1024 .bf16) (l : Fin 1024) : EReal :=
  ∑ r : Fin 768, if s = 0 then (if 2048 ≤ t * 768 + r.val then 0 else dx (ix2 r l) * yx (ix2 r l))
    else (if 2048 ≤ t * 768 + r.val then dx (ix2 r l) * yx (ix2 r l) else 0)

/-- The first point's sum over the latent rows. -/
theorem pay3_at (i : grid0.Coords) (dx : FVec Ideal S768x1024 .f32) (yx : FVec Ideal S768x1024 .bf16) (x : S1x1x1024.Idx) :
    k0_pay3 (F := Ideal) (k0_pay11 i dx yx) x = tileSum 0 (i 0).val dx yx (x 2) := by
  pointwise [k0_pay3, k0_pay1, k0_pay11, k0_pay10, mask_at, Cert.Seg.select_test, tileSum]

/-- The first point's sum over the context rows. -/
theorem pay4_at (i : grid0.Coords) (dx : FVec Ideal S768x1024 .f32) (yx : FVec Ideal S768x1024 .bf16) (x : S1x1x1024.Idx) :
    k0_pay4 (F := Ideal) (k0_pay7 i) (k0_pay10 dx yx) x = tileSum 1 (i 0).val dx yx (x 2) := by
  pointwise [k0_pay4, k0_pay2, k0_pay10, mask_at, Cert.Seg.select_test, tileSum]

/-- A later point's sum over the latent rows, added into what the points before left. -/
theorem pay5_at (i : grid0.Coords) (dx : FVec Ideal S768x1024 .f32) (yx : FVec Ideal S768x1024 .bf16)
    (a : FVec Ideal S1x1x1024 .f32) (x : S1x1x1024.Idx) :
    k0_pay5 (F := Ideal) (k0_pay11 i dx yx) a x = a x + tileSum 0 (i 0).val dx yx (x 2) := by
  rw [← pay3_at]; pointwise [k0_pay5, k0_pay3]

/-- A later point's sum over the context rows, added into what the points before left. -/
theorem pay6_at (i : grid0.Coords) (dx : FVec Ideal S768x1024 .f32) (yx : FVec Ideal S768x1024 .bf16)
    (a : FVec Ideal S1x1x1024 .f32) (x : S1x1x1024.Idx) :
    k0_pay6 (F := Ideal) (k0_pay7 i) (k0_pay10 dx yx) a x = a x + tileSum 1 (i 0).val dx yx (x 2) := by
  rw [← pay4_at]; pointwise [k0_pay6, k0_pay4]

/-- The saved product's latent rows, as the call finds them, are the reference's. -/
theorem yx_latent (c : Dev nD) (r : Fin 2048) (l : Fin 1024) :
    (show EReal from V m c main_v6 (ix2 (Fin.castAdd 256 r) l))
      = val_main_v2 (F := Ideal) (m ((c : Thread nD τ).loc main_arg1)) (m ((c : Thread nD τ).loc main_arg4)) (ix2 r l) := by
  entry_read
  pointwise [val_main_v2, val_main_v1, val_main_v0]
  rfl

/-- The saved product's context rows, as the call finds them, are the reference's. -/
theorem yx_context (c : Dev nD) (r : Fin 256) (l : Fin 1024) :
    (show EReal from V m c main_v6 (ix2 (Fin.natAdd 2048 r) l))
      = val_main_v5 (F := Ideal) (m ((c : Thread nD τ).loc main_arg1)) (m ((c : Thread nD τ).loc main_arg4)) (ix2 r l) := by
  entry_read
  pointwise [val_main_v5, val_main_v4, val_main_v3]
  rfl

/-- Cotangent × saved product at one row. -/
def rowProd (c : Dev nD) (l : Fin 1024) (r : Fin 2304) : EReal :=
  (show FVec Ideal S2304x1024 .f32 from m ((c : Thread nD τ).loc main_arg0)) (ix2 r l)
    * (show FVec Ideal S2304x1024 .bf16 from V m c main_v6) (ix2 r l)

/-- The three tiles' sums over the latent rows are the sum over the latent rows. -/
theorem latent_sum (c : Dev nD) (l : Fin 1024) :
    ∑ t : Fin cfg0.N, tileSum 0 t (iblk m c 0 t) (iblk m c 1 t) l = ∑ r : Fin 2048, rowProd m c l (Fin.castAdd 256 r) := by
  rw [← Cert.Seg.sum_latent]
  unfold tileSum rowProd
  refine Fin.sum_mul_add_congr (fun t k hl => ?_) (by decide)
  have ht : t.val < 3 := lt_of_lt_of_eq t.isLt N_0
  rw [if_pos rfl]
  refine if_congr Iff.rfl rfl (Ideal.mul_congr ?_ ?_)
  all_goals blk_ext [iblk, V, idx t]

/-- The three tiles' sums over the context rows are the sum over the context rows. -/
theorem context_sum (c : Dev nD) (l : Fin 1024) :
    ∑ t : Fin cfg0.N, tileSum 1 t (iblk m c 0 t) (iblk m c 1 t) l = ∑ r : Fin 256, rowProd m c l (Fin.natAdd 2048 r) := by
  rw [← Cert.Seg.sum_context]
  unfold tileSum rowProd
  refine Fin.sum_mul_add_congr (fun t k hl => ?_) (by decide)
  have ht : t.val < 3 := lt_of_lt_of_eq t.isLt N_0
  rw [if_neg (by decide)]
  refine if_congr Iff.rfl (Ideal.mul_congr ?_ ?_) rfl
  all_goals blk_ext [iblk, V, idx t]

/-- The gate's two gradient rows after the run: the three tiles' sums are the sums over each segment's rows. -/
theorem dgate_final (c : Dev nD) : (dats m 0 c).arrAt 6 cfg0.N
    = val_main_v35 (F := Ideal) (m ((c : Thread nD τ).loc main_arg0)) (m ((c : Thread nD τ).loc main_arg1))
        (m ((c : Thread nD τ).loc main_arg4)) := by
  refine (dats m 0 c).arrAt_eq_of_after_last 6 t0_2 (by decide +kernel) _ fun j => ?_
  have hN : ∀ t : Fin cfg0.N, t.val < 3 := fun t => lt_of_lt_of_eq t.isLt N_0
  blk_simp
  rw [after0_6, Pipeline.eq_sum_fin_of_reset_step_apply_last (fun n h => (outsAt0 m c n h).2.2) 3 (fun _ => 0)
    (fun t j => tileSum (j 0).val t (iblk m c 0 t) (iblk m c 1 t) (j 2))
    (fun t h j => by
      rw [outsAt0_A m c t h (by have := hN t; omega), zero_add]; frame_out
      canon_tiles x h
      · rw [pay4_at, (idx t).2.2.2.2.2.2.2, show (j 0).val = 1 by omega, show j 2 = x 2 from Fin.ext h2]
      · rw [pay3_at, (idx t).2.2.2.2.2.2.2, show (j 0).val = 0 by omega, show j 2 = x 2 from Fin.ext h2])
    (fun t h j => by
      rw [outsAt0_B m c t h (by omega)]; frame_out
      canon_tiles x h
      · rw [pay6_at, (idx t).2.2.2.2.2.2.2, show (j 0).val = 1 by omega, show j 2 = x 2 from Fin.ext h2]
        refine Ideal.add_congr ?_ rfl
        pointwise []
        blk_ext []
      · rw [pay5_at, (idx t).2.2.2.2.2.2.2, show (j 0).val = 0 by omega, show j 2 = x 2 from Fin.ext h2]
        refine Ideal.add_congr ?_ rfl
        pointwise []
        blk_ext [])
    (le_of_eq N_0) t0_2 rfl j, zero_add]
  idx_vars j
  fin_cases j0
  · refine (latent_sum m c j2).trans ?_
    pointwise [val_main_v35, val_main_v34, val_main_v32, val_main_v15, val_main_v14, val_main_v13, val_main_v12, val_main_v9, val_main_cst, val_main_cst_0]
    simp only [Finset.univ_unique, Finset.sum_singleton]
    refine Finset.sum_congr rfl fun r _ => ?_
    exact Ideal.mul_congr rfl (yx_latent m c r j2)
  · refine (context_sum m c j2).trans ?_
    pointwise [val_main_v35, val_main_v34, val_main_v33, val_main_v25, val_main_v24, val_main_v23, val_main_v22, val_main_v19, val_main_cst_1, val_main_cst_2]
    simp only [Finset.univ_unique, Finset.sum_singleton]
    refine Finset.sum_congr rfl fun r _ => ?_
    exact Ideal.mul_congr rfl (yx_context m c r j2)

/-- The staged gates' first row is the latent gate. -/
theorem gate_row (c : Dev nD) (t : Fin cfg0.N) (l : Fin 1024) :
    iblk m c 2 t (ix3 0 0 l) = m ((c : Thread nD τ).loc main_arg2) (ix1 l) := by
  refine (show _ = V m c main_v4 (ix3 0 0 l) by blk_ext [iblk, V, idx t]).trans ?_
  entry_read
  pointwise []

/-- The staged gates' second row is the context gate. -/
theorem cgate_row (c : Dev nD) (t : Fin cfg0.N) (l : Fin 1024) :
    iblk m c 2 t (ix3 1 0 l) = m ((c : Thread nD τ).loc main_arg3) (ix1 l) := by
  refine (show _ = V m c main_v4 (ix3 1 0 l) by blk_ext [iblk, V, idx t]).trans ?_
  entry_read
  pointwise []

/-- The gated cotangent's tile at point `t`. -/
theorem dyx_point (c : Dev nD) (t : Fin cfg0.N) (y : S768x1024.Idx) (cg g : FVec Ideal S1x1x1024 .f32)
    (hg : ∀ l : Fin 1024, g (ix3 0 0 l) = m ((c : Thread nD τ).loc main_arg2) (ix1 l))
    (hc : ∀ l : Fin 1024, cg (ix3 0 0 l) = m ((c : Thread nD τ).loc main_arg3) (ix1 l)) :
    k0_pay8 (F := Ideal) (grid0.coords t) (iblk m c 0 t) cg g y
      = val_main_v27 (F := Ideal) (m ((c : Thread nD τ).loc main_arg0)) (m ((c : Thread nD τ).loc main_arg2))
          (m ((c : Thread nD τ).loc main_arg3)) (((cfg0.win 4).blk t).view.emb y) := by
  idx_vars y
  have hN : t.val < 3 := lt_of_lt_of_eq t.isLt N_0
  have ez : (show S2304x1024.Idx from ((cfg0.win 4).blk t).view.emb (ix2 y0 y1)) = ix2 ⟨t.val * 768 + y0.val, by omega⟩ y1 := by
    blk_ext [idx t]
  rw [pay8_at, hg, hc, (idx t).2.2.2.2.2.2.2]
  refine Eq.trans ?_ (congrArg _ ez.symm)
  pointwise [val_main_v27, val_main_v26, val_main_v21, val_main_v20, val_main_v19, val_main_v16, val_main_v11, val_main_v10, val_main_v9, val_main_v6]
  by_cases h : 2048 ≤ t.val * 768 + y0.val
  · rw [if_pos h, dif_neg (by omega)]
    refine Ideal.mul_congr rfl ?_
    blk_ext [iblk, V, idx t]
  · rw [if_neg h, dif_pos (by omega)]
    refine Ideal.mul_congr rfl ?_
    blk_ext [iblk, V, idx t]

/-- The tile of the product with `w_outᵀ` at point `t`. -/
theorem da_point (c : Dev nD) (t : Fin cfg0.N) (y : S768x1024.Idx) (cg g : FVec Ideal S1x1x1024 .f32)
    (hg : ∀ l : Fin 1024, g (ix3 0 0 l) = m ((c : Thread nD τ).loc main_arg2) (ix1 l))
    (hc : ∀ l : Fin 1024, cg (ix3 0 0 l) = m ((c : Thread nD τ).loc main_arg3) (ix1 l)) :
    k0_pay9 (F := Ideal) (grid0.coords t) (iblk m c 0 t) cg g (iblk m c 3 t) y
      = val_main_v31 (F := Ideal) (m ((c : Thread nD τ).loc main_arg0)) (m ((c : Thread nD τ).loc main_arg2))
          (m ((c : Thread nD τ).loc main_arg3)) (m ((c : Thread nD τ).loc main_arg4))
          (((cfg0.win 5).blk t).view.emb y) := by
  idx_vars y
  have hN : t.val < 3 := lt_of_lt_of_eq t.isLt N_0
  have ez : (show S2304x1024.Idx from ((cfg0.win 5).blk t).view.emb (ix2 y0 y1)) = ix2 ⟨t.val * 768 + y0.val, by omega⟩ y1 := by
    blk_ext [idx t]
  rw [pay9_at, (idx t).2.2.2.2.2.2.2]
  simp only [hg, hc]
  refine Eq.trans ?_ (congrArg _ ez.symm)
  pointwise [val_main_v31, val_main_v30, val_main_v29, val_main_v28, val_main_v21, val_main_v20, val_main_v19, val_main_v16, val_main_v11, val_main_v10, val_main_v9, val_main_v6]
  by_cases h : 2048 ≤ t.val * 768 + y0.val
  · simp only [if_pos h]
    rw [dif_neg (by omega)]
    refine Finset.sum_congr rfl fun k _ => ?_
    refine Ideal.mul_congr (Ideal.mul_congr rfl ?_) ?_
    all_goals blk_ext [iblk, V, idx t]
  · simp only [if_neg h]
    rw [dif_pos (by omega)]
    refine Finset.sum_congr rfl fun k _ => ?_
    refine Ideal.mul_congr (Ideal.mul_congr rfl ?_) ?_
    all_goals blk_ext [iblk, V, idx t]

/-- The gated cotangent after the run. -/
theorem dyx_final (c : Dev nD) : (dats m 0 c).arrAt 4 cfg0.N
    = val_main_v27 (F := Ideal) (m ((c : Thread nD τ).loc main_arg0)) (m ((c : Thread nD τ).loc main_arg2))
          (m ((c : Thread nD τ).loc main_arg3)) := by
  refine (dats m 0 c).arrAt_eq_of_covers 4 _ (by decide +kernel) fun t _ y => ?_
  blk_simp
  rw [after0_4]
  have hN : t.val < 3 := lt_of_lt_of_eq t.isLt N_0
  by_cases h : t.val % 3 = 0
  · rw [outsAt0_A m c t h (by omega)]; frame_out
    refine dyx_point m c t y _ _ (fun l => ?_) (fun l => ?_) <;> pointwise []
    · exact gate_row m c t l
    · exact cgate_row m c t l
  · rw [outsAt0_B m c t h (by omega)]; frame_out
    refine dyx_point m c t y _ _ (fun l => ?_) (fun l => ?_) <;> pointwise []
    · exact gate_row m c t l
    · exact cgate_row m c t l

/-- The gradient of the call's input after the run. -/
theorem da_final (c : Dev nD) : (dats m 0 c).arrAt 5 cfg0.N
    = val_main_v31 (F := Ideal) (m ((c : Thread nD τ).loc main_arg0)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 3 := lt_of_lt_of_eq t.isLt N_0
  by_cases h : t.val % 3 = 0
  · rw [outsAt0_A m c t h (by omega)]; frame_out
    refine da_point m c t y _ _ (fun l => ?_) (fun l => ?_) <;> pointwise []
    · exact gate_row m c t l
    · exact cgate_row m c t l
  · rw [outsAt0_B m c t h (by omega)]; frame_out
    refine da_point m c t y _ _ (fun l => ?_) (fun l => ?_) <;> pointwise []
    · exact gate_row m c t l
    · exact cgate_row m c t l

end Cert.Gate2KIdeal.Hand

end
-- ==== Proof.Gate2Claim.lean ====
/-
  The gate's gradient (two segments): the call's results are the derivative's.
-/
module

public import proofs.«01_k».proof.Defs
public import proofs.«01_k».proof.Proof.Gate2
public import proofs.«01_k».proof.Proof.Gen.Gate2KIdeal.Value
public import proofs.«01_k».proof.Proof.Gen.Gate2RIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem gate2_reference_frame : Cert.quiescent_Gate2RIdeal := by
  intro m g _
  exact (θ_run _ _ _).mono (fun r h => ⟨fun c => (h c).2.2.2, sem_eq_zero_of_no_sems rfl _⟩)
    (Cert.Gate2RIdeal.Value.run m g)

/-- The call's three arrays are the derivative's. -/
theorem gate2_value : Cert.algebraic_Gate2KIdeal_Gate2RIdeal := by
  pair_intro
  · run_from Cert.Gate2KIdeal.Gen.run_main m g
  · refine (θ_run _ _ _).mono (fun r h c => ?_) (Cert.Gate2RIdeal.Value.run m' g')
    obtain ⟨e0, e1, e2, e3, e4⟩ := hagree c
    obtain ⟨h0, h1, h2, ha⟩ := h c
    refine ⟨h0.trans (Eq.trans ?_ (Cert.Gate2KIdeal.Hand.dyx_final m c).symm),
      h1.trans (Eq.trans ?_ (Cert.Gate2KIdeal.Hand.da_final m c).symm),
      h2.trans (Eq.trans ?_ (Cert.Gate2KIdeal.Hand.dgate_final m c).symm), ha⟩
    · rw [e0, e2, e3]
      rfl
    · rw [e0, e2, e3, e4]
      rfl
    · rw [e0, e1, e4]
      rfl

end Cert.Proof

end
-- ==== Proof.Finite.lean ====
/-
  Arguments known to be finite. A precondition `all (|x| < ∞)` is read back into "every element is a real
  number", and being a real number is carried through the operations the norms, the gates and the loss are made of.
-/
module

public import Idealize.ShloMosaic.Lib.ReduceAll
public import Idealize.ShloMosaic.Lib.Pointwise
public import Idealize.ShloMosaic.Lib.Affine

@[expose] public section

noncomputable section

open Idealize.ShloMosaic

namespace Cert.Finite

/-- An extended real that is a real number. -/
def IsReal (a : EReal) : Prop := ∃ r : ℝ, a = (r : EReal)

/-- The pattern of `+∞`. -/
theorem top_f32 : Ideal.ofBits .f32 0x7F800000#32 = ⊤ := by simp [Ideal.ofBits, Ideal.ieee]

/-- Below `∞` in absolute value is real. -/
theorem of_abs_lt {a : EReal} (h : max a (-a) < ⊤) : IsReal a := by
  induction a with
  | bot => simp at h
  | top => simp at h
  | coe r => exact ⟨r, rfl⟩

/-- One array of a finiteness precondition: where `all (|x| < ∞)` holds, every element is real. -/
theorem of_all {s t u : Shape} {axes : List (Fin s.rank)} [Subsingleton t.Idx] (x : FVec Ideal s .f32)
    (hb : (⟨0, ![]⟩ : Shape).BroadcastsInDim s ![]) (init : IVec u 1) (h : s.ReducesTo axes t) (hu : 0 < u.numel)
    (j : t.Idx)
    (e : Host.reduce IntOp.andi (cmpf .olt (Host.absf x)
      (broadcastInDim s ![] hb (constant (F := Ideal) ⟨0, ![]⟩ .f32 0x7F800000#32))) init h hu j = 1#1)
    (i : s.Idx) : IsReal (x i) := by
  have h1 := Host.reduce_andi_all _ _ h hu j e i
  have h2 : Ideal.cmp .olt (max (x i : EReal) (-(x i : EReal))) (Ideal.ofBits .f32 0x7F800000#32) = 1#1 := h1
  rw [top_f32] at h2
  exact of_abs_lt ((Ideal.cmp_olt_eq_one _ _).1 h2)

/-- Two halves of a conjunction of conditions at the one index of a scalar. -/
theorem and_split {t : Shape} {x y : IVec t 1} {j : t.Idx} (h : andi x y j = 1#1) : x j = 1#1 ∧ y j = 1#1 :=
  IntOp.andi_eq_one.1 h

theorem IsReal.zero : IsReal 0 := ⟨0, rfl⟩
theorem IsReal.one : IsReal 1 := ⟨1, rfl⟩
theorem IsReal.coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, by push_cast; rfl⟩

theorem IsReal.sub {a b : EReal} (ha : IsReal a) (hb : IsReal b) : IsReal (a - b) := by
  obtain ⟨r, rfl⟩ := ha; obtain ⟨s, rfl⟩ := hb; exact ⟨r - s, by push_cast; rfl⟩

theorem IsReal.mul {a b : EReal} (ha : IsReal a) (hb : IsReal b) : IsReal (a * b) := by
  obtain ⟨r, rfl⟩ := ha; obtain ⟨s, rfl⟩ := hb; exact ⟨r * s, by push_cast; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A real factor moves into a sum of real terms. -/
theorem mul_sum_real {ι : Type} (s : Finset ι) {c : EReal} {f : ι → EReal} (hc : IsReal c) (h : ∀ i, IsReal (f i)) :
    c * ∑ i ∈ s, f i = ∑ i ∈ s, c * f i := by
  choose g hg using h
  obtain ⟨r, rfl⟩ := hc
  simp only [hg, ← coe_sum, ← EReal.coe_mul, Finset.mul_sum]

/-- … and out of it on the right. -/
theorem sum_mul_real {ι : Type} (s : Finset ι) {c : EReal} {f : ι → EReal} (hc : IsReal c) (h : ∀ i, IsReal (f i)) :
    (∑ i ∈ s, f i) * c = ∑ i ∈ s, f i * c := by
  rw [mul_comm, mul_sum_real s hc h]
  exact Finset.sum_congr rfl fun i _ => mul_comm _ _

end Cert.Finite

end
-- ==== Proof.NormRow.lean ====
/-
  One row of the norm's gradient. The forward pass is `x ↦ x · rsqrt (mean x² + ε) · g · (1 + s)`; with the
  cotangent `d` of its result the call forms `r · (dxn − xn · mean (dxn · xn))`, `xn = x · r`, `dxn = d · (g · (1 + s))`,
  while the derivative of the forward lines goes back through the product with `r`, through `rsqrt` and through the
  mean of squares. Both are stated here as one row of 1024 extended reals that are real numbers.
-/
module

public import proofs.«01_k».proof.Proof.Finite

@[expose] public section

noncomputable section

open Idealize.ShloMosaic

namespace Cert.NormRow

open Cert.Finite

/-- `1024.0`. -/
theorem ofBits_1024 : Ideal.ofBits .f32 0x44800000#32 = ((1024 : ℝ) : EReal) := by
  simp [Ideal.ofBits, Ideal.ieee, -EReal.coe_mul]; norm_num

/-- `-0.5`. -/
theorem ofBits_neg_half : Ideal.ofBits .f32 0xBF000000#32 = ((-(1 / 2) : ℝ) : EReal) := by
  simp [Ideal.ofBits, Ideal.ieee, -EReal.coe_mul]; norm_num

/-- The norm's `ε` is a positive real number. -/
theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The mean of squares with `ε`, in the norm's spelling. -/
abbrev ms (x : Fin 1024 → EReal) : EReal :=
  Ideal.div (∑ k, x k * x k) (Ideal.ofBits .f32 0x44800000#32) + Ideal.ofBits .f32 0x358637BD#32

/-- The call's row: the gradient through the norm, and the residual's cotangent added. -/
abbrev rowKernel (x d g s : Fin 1024 → EReal) (r P : EReal) (l : Fin 1024) : EReal :=
  r * (d l * (g l * (1 + s l))
    - x l * r * Ideal.div (∑ k, d k * (g k * (1 + s k)) * (x k * r)) (Ideal.ofBits .f32 0x44800000#32)) + P

/-- The coefficient that comes back through the mean of squares. -/
abbrev coef (x d g s : Fin 1024 → EReal) : EReal :=
  Ideal.div ((∑ k, x k * (d k * (1 + s k) * g k))
    * (Ideal.ofBits .f32 0xBF000000#32 * Ideal.div (Ideal.rsqrt (ms x)) (ms x))) (Ideal.ofBits .f32 0x44800000#32)

/-- The derivative's row. -/
abbrev rowReference (x d g s : Fin 1024 → EReal) (P : EReal) (l : Fin 1024) : EReal :=
  P + d l * (1 + s l) * g l * Ideal.rsqrt (ms x) + x l * coef x d g s + coef x d g s * x l

/-- Of real entries the mean of squares with `ε` is a positive real `M`, and its `rsqrt` a real `r` with `r² M = 1`. -/
theorem ms_real {x : Fin 1024 → EReal} (hx : ∀ k, IsReal (x k)) :
    ∃ M r : ℝ, 0 < M ∧ r * r * M = 1 ∧ ms x = (M : EReal) ∧ Ideal.rsqrt (ms x) = (r : EReal) := by
  choose X hX using hx
  obtain ⟨e, he, hb⟩ := ofBits_eps
  have hM : ms x = (((∑ k, X k * X k) * (1 / 1024) + e : ℝ) : EReal) := by
    simp only [ms, hX, hb, ofBits_1024, Ideal.div_coe (by norm_num : (1024 : ℝ) ≠ 0), ← EReal.coe_mul, ← coe_sum,
      ← EReal.coe_add]
  have hpos : 0 < (∑ k, X k * X k) * (1 / 1024) + e :=
    add_pos_of_nonneg_of_pos (mul_nonneg (Finset.sum_nonneg fun k _ => mul_self_nonneg _) (by norm_num)) he
  refine ⟨_, (Real.sqrt ((∑ k, X k * X k) * (1 / 1024) + e))⁻¹, hpos, ?_, hM, ?_⟩
  · have hs := Real.mul_self_sqrt hpos.le
    have h0 : Real.sqrt ((∑ k, X k * X k) * (1 / 1024) + e) ≠ 0 := (Real.sqrt_pos.2 hpos).ne'
    rw [← mul_inv, hs, inv_mul_cancel₀ hpos.ne']
  · rw [hM, Ideal.rsqrt_coe, if_neg (not_lt.2 hpos.le), if_neg hpos.ne']

theorem rsqrt_real {x : Fin 1024 → EReal} (hx : ∀ k, IsReal (x k)) : IsReal (Ideal.rsqrt (ms x)) := by
  obtain ⟨M, r, _, _, _, h⟩ := ms_real hx
  exact ⟨r, h⟩

/-- The call's row is the derivative's row. -/
theorem row_eq {x d g s : Fin 1024 → EReal} (hx : ∀ k, IsReal (x k)) (hd : ∀ k, IsReal (d k)) (hg : ∀ k, IsReal (g k))
    (hs : ∀ k, IsReal (s k)) (P : EReal) (l : Fin 1024) :
    rowKernel x d g s (Ideal.rsqrt (ms x)) P l = rowReference x d g s P l := by
  obtain ⟨M, r, hM, hr, eM, er⟩ := ms_real hx
  unfold rowKernel rowReference coef
  rw [er, eM]
  choose X hX using hx
  choose D hD using hd
  choose G hG using hg
  choose S hS using hs
  have h1 : (1 : EReal) = ((1 : ℝ) : EReal) := rfl
  simp only [hX, hD, hG, hS, h1, ofBits_1024, ofBits_neg_half, Ideal.div_coe (by norm_num : (1024 : ℝ) ≠ 0),
    Ideal.div_coe hM.ne', ← EReal.coe_mul, ← EReal.coe_add, ← EReal.coe_sub, ← coe_sum]
  rw [add_assoc P, add_assoc P, ← EReal.coe_add, ← EReal.coe_add, add_comm]
  congr 2
  have hT : ∑ k, D k * (G k * (1 + S k)) * (X k * r) = (∑ k, X k * (D k * (1 + S k) * G k)) * r := by
    rw [Finset.sum_mul]; exact Finset.sum_congr rfl fun k _ => by ring
  rw [hT]
  generalize ∑ k, X k * (D k * (1 + S k) * G k) = T
  have hM' : 1 / M = r * r := by field_simp; linarith
  rw [hM']
  ring

/-- The call's row of equal data is the same row. -/
theorem rowKernel_congr {x x' d d' g g' s s' : Fin 1024 → EReal} {r r' P P' : EReal} (l : Fin 1024)
    (hx : ∀ k, x k = x' k) (hd : ∀ k, d k = d' k) (hg : ∀ k, g k = g' k) (hs : ∀ k, s k = s' k) (hr : r = r')
    (hP : P = P') : rowKernel x d g s r P l = rowKernel x' d' g' s' r' P' l := by
  obtain rfl := funext hx; obtain rfl := funext hd; obtain rfl := funext hg; obtain rfl := funext hs
  subst hr hP; rfl

/-- A sum over 2048 columns is the sum over its two halves. -/
theorem sum_two (f : Fin 2048 → EReal) :
    ∑ k, f k = (∑ k : Fin 1024, f ⟨k.val, by omega⟩) + ∑ k : Fin 1024, f ⟨1024 + k.val, by omega⟩ :=
  Fin.sum_univ_add (a := 1024) (b := 1024) f

/-- A sum over 4096 columns is the sum over its four quarters. -/
theorem sum_four (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [show (∑ k, f k) = _ from Fin.sum_univ_add (a := 3072) (b := 1024) f,
    show (∑ k : Fin 3072, f (Fin.castAdd 1024 k)) = _ from
      Fin.sum_univ_add (a := 2048) (b := 1024) fun k => f (Fin.castAdd 1024 k),
    sum_two fun k => f (Fin.castAdd 1024 (Fin.castAdd 1024 k))]
  rfl

/-- The scale's gradient: the norm's gain taken out of the sum over the rows. -/
theorem dscale_eq {ι : Type} [Fintype ι] {d xn : ι → EReal} {g : EReal} (hd : ∀ k, IsReal (d k)) (hx : ∀ k, IsReal (xn k))
    (hg : IsReal g) : (∑ k, d k * xn k) * g = ∑ k, xn k * g * d k := by
  rw [sum_mul_real _ hg fun k => (hd k).mul (hx k)]
  exact Finset.sum_congr rfl fun k _ => by ac_rfl

/-- The gain's gradient: the factor `1 + s` taken out of the sum over the rows. -/
theorem dgain_eq {ι : Type} [Fintype ι] {d xn : ι → EReal} {s : EReal} (hd : ∀ k, IsReal (d k)) (hx : ∀ k, IsReal (xn k))
    (hs : IsReal s) : (∑ k, d k * xn k) * (1 + s) = ∑ k, xn k * (d k * (1 + s)) := by
  rw [sum_mul_real _ (IsReal.one.add hs) fun k => (hd k).mul (hx k)]
  exact Finset.sum_congr rfl fun k _ => by ac_rfl

end Cert.NormRow

end
-- ==== Proof.Norm4.lean ====
module

public import proofs.«01_k».proof.Proof.Gen.Norm4KIdeal.Frame
public import proofs.«01_k».proof.Proof.Gen.Norm4RIdeal.Read
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Norm4RIdeal.Read
open Cert.Finite (IsReal)

namespace Cert.Norm4KIdeal.Hand

open Cert.Norm4KIdeal Cert.Norm4KIdeal.Gen

variable (m : (ℓ : Loc nD τ sig) → Buf (Elt Ideal) ℓ)

/-- Where each window's block sits. -/
theorem idx : ∀ t : Fin cfg0.N, win0_0.index t = ![0, t.val, 0] ∧ win0_1.index t = ![0, 0]
    ∧ win0_2.index t = ![t.val, 0] ∧ win0_3.index t = ![t.val, 0] ∧ win0_4.index t = ![0, 0]
    ∧ win0_5.index t = ![0, 0, 0] ∧ win0_6.index t = ![2 * t.val, 0] ∧ win0_7.index t = ![2 * t.val + 1, 0]
    ∧ win0_8.index t = ![t.val, 0] ∧ win0_9.index t = ![0, 0, 0] ∧ win0_10.index t = ![0, 0, 0] :=
  (by decide +kernel : ∀ t : Fin grid0.N, _)

/-- The product of a tile's cotangents with `w_inᵀ`: four blocks against four quarters of the columns. -/
theorem pay5_at (p0 p1 p2 p3 : FVec Ideal S1x512x1024 .bf16) (w0 w1 w2 w3 : FVec Ideal S1024x1024 .bf16) (j : S512x1024.Idx) :
    k0_pay5 (F := Ideal) p0 w0 p1 w1 p2 w2 p3 w3 j
      = (((∑ k : Fin 1024, p0 (ix3 0 (j 0) k) * w0 (ix2 (j 1) k)) + ∑ k : Fin 1024, p1 (ix3 0 (j 0) k) * w1 (ix2 (j 1) k))
        + ∑ k : Fin 1024, p2 (ix3 0 (j 0) k) * w2 (ix2 (j 1) k)) + ∑ k : Fin 1024, p3 (ix3 0 (j 0) k) * w3 (ix2 (j 1) k) := by
  pointwise [k0_pay5]

/-- A tile's normed rows. -/
theorem pay8_at (r : FVec Ideal S512x1 .f32) (x : FVec Ideal S512x1024 .f32) (j : S512x1024.Idx) :
    k0_pay8 (F := Ideal) x (k0_pay7 r) j = x j * r (ix2 (j 0) 0) := by
  pointwise [k0_pay8, k0_pay7, k0_pay6]

/-- The upper half of a tile's derivative. -/
theorem pay10_at (d : FVec Ideal S512x1024 .f32) (r : FVec Ideal S512x1 .f32) (x : FVec Ideal S512x1024 .f32)
    (g : FVec Ideal S1x1024 .f32) (s : FVec Ideal S1x1x1024 .f32) (res : FVec Ideal S256x1024 .f32)
    (a : Fin 256) (l : Fin 1024) :
    k0_pay10 (F := Ideal) d (k0_pay6 r) x (k0_pay7 r) g s res (ix2 a l)
     = NormRow.rowKernel (fun k => x (ix2 ⟨a.val, by omega⟩ k)) (fun k => d (ix2 ⟨a.val, by omega⟩ k))
        (fun k => g (ix2 0 k)) (fun k => s (ix3 0 0 k)) (r (ix2 ⟨a.val, by omega⟩ 0)) (res (ix2 a l)) l := by
  pointwise [k0_pay10, k0_pay9, k0_pay8, k0_pay7, k0_pay6]

/-- The lower half of a tile's derivative. -/
theorem pay11_at (d : FVec Ideal S512x1024 .f32) (r : FVec Ideal S512x1 .f32) (x : FVec Ideal S512x1024 .f32)
    (g : FVec Ideal S1x1024 .f32) (s : FVec Ideal S1x1x1024 .f32) (res : FVec Ideal S256x1024 .f32)
    (a : Fin 256) (l : Fin 1024) :
    k0_pay11 (F := Ideal) d (k0_pay6 r) x (k0_pay7 r) g s res (ix2 a l)
     = NormRow.rowKernel (fun k => x (ix2 ⟨256 + a.val, by omega⟩ k)) (fun k => d (ix2 ⟨256 + a.val, by omega⟩ k))
        (fun k => g (ix2 0 k)) (fun k => s (ix3 0 0 k)) (r (ix2 ⟨256 + a.val, by omega⟩ 0)) (res (ix2 a l)) l := by
  pointwise [k0_pay11, k0_pay9, k0_pay8, k0_pay7, k0_pay6]

/-- A tile's column sums of the product with the normed rows, at the first tile. -/
theorem pay3_at (d xn : FVec Ideal S512x1024 .f32) (j : S1x1x1024.Idx) :
    k0_pay3 (F := Ideal) d xn j = ∑ a : Fin 512, d (ix2 a (j 2)) * xn (ix2 a (j 2)) := by
  pointwise [k0_pay3, k0_pay2]

/-- The same added to what stood. -/
theorem pay4_at (d xn : FVec Ideal S512x1024 .f32) (p : FVec Ideal S1x1x1024 .f32) (j : S1x1x1024.Idx) :
    k0_pay4 (F := Ideal) d xn p j = p j + ∑ a : Fin 512, d (ix2 a (j 2)) * xn (ix2 a (j 2)) := by
  pointwise [k0_pay4, k0_pay2]

/-- A tile's column sums, at the first tile. -/
theorem pay13_at (d : FVec Ideal S512x1024 .f32) (j : S1x1x1024.Idx) :
    k0_pay13 (F := Ideal) d j = ∑ a : Fin 512, d (ix2 a (j 2)) := by
  pointwise [k0_pay13, k0_pay12]

/-- The same added to what stood. -/
theorem pay1_at (d : FVec Ideal S512x1024 .f32) (p : FVec Ideal S1x1x1024 .f32) (j : S1x1x1024.Idx) :
    k0_pay1 (F := Ideal) (k0_pay12 d) p j = p j + ∑ a : Fin 512, d (ix2 a (j 2)) := by
  pointwise [k0_pay1, k0_pay12]

/-- The saved reciprocal root, as the call finds it. -/
theorem r_entry (c : Dev nD) (j : S2048x1.Idx) :
    (show EReal from V m c main_v10 j)
      = Ideal.rsqrt (NormRow.ms fun k => m ((c : Thread nD τ).loc main_arg2) (ix2 (j 0) k)) := by
  simp only [V, V0, List.flatten_cons, List.flatten_nil, List.append_nil, hostOps0]
  after_results
  pointwise []

/-- The gain row, as the call finds it. -/
theorem g_entry (c : Dev nD) (j : S1x1024.Idx) :
    (show EReal from V m c main_v1 j) = m ((c : Thread nD τ).loc main_arg3) (ix1 (j 1)) := by
  simp only [V, V0, List.flatten_cons, List.flatten_nil, List.append_nil, hostOps0]
  after_results
  pointwise []

/-- The scale row, as the call finds it. -/
theorem s_entry (c : Dev nD) (j : S1x1x1024.Idx) :
    (show EReal from V m c main_v2 j) = m ((c : Thread nD τ).loc main_arg4) (ix1 (j 2)) := by
  simp only [V, V0, List.flatten_cons, List.flatten_nil, List.append_nil, hostOps0]
  after_results
  pointwise []

/-- What the blocks of tile `t` hold, in the argument arrays: four cotangent blocks, four quarters of `w_in`, the rows
    of the norm's input and of its saved root, the gain and the scale. -/
structure Tile (c : Dev nD) (t : Fin 4) (p0 p1 p2 p3 : FVec Ideal S1x512x1024 .bf16) (w0 w1 w2 w3 : FVec Ideal S1024x1024 .bf16)
    (r : FVec Ideal S512x1 .f32) (x : FVec Ideal S512x1024 .f32) (g : FVec Ideal S1x1024 .f32)
    (s : FVec Ideal S1x1x1024 .f32) : Prop where
  dp0 : ∀ (a : Fin 512) (k : Fin 1024), (p0 (ix3 0 a k) : EReal)
    = m ((c : Thread nD τ).loc main_arg0) (ix3 0 ⟨t.val * 512 + a.val, by omega⟩ k)
  dp1 : ∀ (a : Fin 512) (k : Fin 1024), (p1 (ix3 0 a k) : EReal)
    = m ((c : Thread nD τ).loc main_arg0) (ix3 1 ⟨t.val * 512 + a.val, by omega⟩ k)
  dp2 : ∀ (a : Fin 512) (k : Fin 1024), (p2 (ix3 0 a k) : EReal)
    = m ((c : Thread nD τ).loc main_arg0) (ix3 2 ⟨t.val * 512 + a.val, by omega⟩ k)
  dp3 : ∀ (a : Fin 512) (k : Fin 1024), (p3 (ix3 0 a k) : EReal)
    = m ((c : Thread nD τ).loc main_arg0) (ix3 3 ⟨t.val * 512 + a.val, by omega⟩ k)
  win0 : ∀ l k : Fin 1024, (w0 (ix2 l k) : EReal) = m ((c : Thread nD τ).loc main_arg6) (ix2 l ⟨k.val, by omega⟩)
  win1 : ∀ l k : Fin 1024, (w1 (ix2 l k) : EReal)
    = m ((c : Thread nD τ).loc main_arg6) (ix2 l ⟨1024 + k.val, by omega⟩)
  win2 : ∀ l k : Fin 1024, (w2 (ix2 l k) : EReal)
    = m ((c : Thread nD τ).loc main_arg6) (ix2 l ⟨2048 + k.val, by omega⟩)
  win3 : ∀ l k : Fin 1024, (w3 (ix2 l k) : EReal)
    = m ((c : Thread nD τ).loc main_arg6) (ix2 l ⟨3072 + k.val, by omega⟩)
  root : ∀ a : Fin 512, (r (ix2 a 0) : EReal) = Ideal.rsqrt (NormRow.ms fun k =>
    m ((c : Thread nD τ).loc main_arg2) (ix2 ⟨t.val * 512 + a.val, by omega⟩ k))
  row : ∀ (a : Fin 512) (k : Fin 1024), (x (ix2 a k) : EReal)
    = m ((c : Thread nD τ).loc main_arg2) (ix2 ⟨t.val * 512 + a.val, by omega⟩ k)
  gain : ∀ k : Fin 1024, (g (ix2 0 k) : EReal) = m ((c : Thread nD τ).loc main_arg3) (ix1 k)
  scale : ∀ k : Fin 1024, (s (ix3 0 0 k) : EReal) = m ((c : Thread nD τ).loc main_arg4) (ix1 k)

set_option maxHeartbeats 1000000 in
/-- The blocks of point `t` are that. -/
theorem tile_at (c : Dev nD) (t : Fin cfg0.N) (ht : t.val < 4) : Tile m c ⟨t.val, ht⟩
    (View.ld (iblk m c 0 t) (Rect.unit ![0, 0, 0] ![1, 512, 1024] inb_S4x512x1024_S1x512x1024_0_0_0))
    (View.ld (iblk m c 0 t) (Rect.unit ![1, 0, 0] ![1, 512, 1024] inb_S4x512x1024_S1x512x1024_1_0_0))
    (View.ld (iblk m c 0 t) (Rect.unit ![2, 0, 0] ![1, 512, 1024] inb_S4x512x1024_S1x512x1024_2_0_0))
    (View.ld (iblk m c 0 t) (Rect.unit ![3, 0, 0] ![1, 512, 1024] inb_S4x512x1024_S1x512x1024_3_0_0))
    (View.ld (iblk m c 1 t) (Rect.unit ![0, 0] ![1024, 1024] inb_S1024x4096_S1024x1024_0_0))
    (View.ld (iblk m c 1 t) (Rect.unit ![0, 1024] ![1024, 1024] inb_S1024x4096_S1024x1024_0_1024))
    (View.ld (iblk m c 1 t) (Rect.unit ![0, 2048] ![1024, 1024] inb_S1024x4096_S1024x1024_0_2048))
    (View.ld (iblk m c 1 t) (Rect.unit ![0, 3072] ![1024, 1024] inb_S1024x4096_S1024x1024_0_3072))
    (iblk m c 3 t) (iblk m c 2 t) (iblk m c 4 t) (iblk m c 5 t) where
  dp0 a k := by pointwise []; blk_ext [iblk, V, idx t]
  dp1 a k := by pointwise []; blk_ext [iblk, V, idx t]
  dp2 a k := by pointwise []; blk_ext [iblk, V, idx t]
  dp3 a k := by pointwise []; blk_ext [iblk, V, idx t]
  win0 l k := by pointwise []; blk_ext [iblk, V, idx t]
  win1 l k := by pointwise []; blk_ext [iblk, V, idx t]
  win2 l k := by pointwise []; blk_ext [iblk, V, idx t]
  win3 l k := by pointwise []; blk_ext [iblk, V, idx t]
  root a := by
    refine Eq.trans ?_ (r_entry m c (ix2 ⟨t.val * 512 + a.val, by omega⟩ 0))
    blk_ext [iblk, V, idx t]
  row a k := by blk_ext [iblk, V, idx t]
  gain k := by
    refine Eq.trans ?_ (g_entry m c (ix2 0 k))
    blk_ext [iblk, V, idx t]
  scale k := by
    refine Eq.trans ?_ (s_entry m c (ix3 0 0 k))
    blk_ext [iblk, V, idx t]

variable {m} {c : Dev nD} {t : Fin 4} {p0 p1 p2 p3 : FVec Ideal S1x512x1024 .bf16}
  {w0 w1 w2 w3 : FVec Ideal S1024x1024 .bf16}
  {r : FVec Ideal S512x1 .f32} {x : FVec Ideal S512x1024 .f32} {g : FVec Ideal S1x1024 .f32}
  {s : FVec Ideal S1x1x1024 .f32}

/-- One tile of the cotangent's product with `w_inᵀ` is the reference's product there. -/
theorem Tile.dh (T : Tile m c t p0 p1 p2 p3 w0 w1 w2 w3 r x g s) (a : Fin 512) (l : Fin 1024) :
    k0_pay5 (F := Ideal) p0 w0 p1 w1 p2 w2 p3 w3 (ix2 a l)
      = val_main_v39 (F := Ideal) (m ((c : Thread nD τ).loc main_arg0)) (m ((c : Thread nD τ).loc main_arg6))
          (ix2 ⟨t.val * 512 + a.val, by omega⟩ l) := by
  rw [pay5_at]
  pointwise [val_main_v39]
  rw [NormRow.sum_four]
  refine Ideal.add_congr (Ideal.add_congr (Ideal.add_congr (Finset.sum_congr rfl fun k _ => Ideal.mul_congr ?_ (T.win0 l k))
    (Finset.sum_congr rfl fun k _ => Ideal.mul_congr ?_ (T.win1 l k))) (Finset.sum_congr rfl fun k _ => Ideal.mul_congr ?_ (T.win2 l k)))
    (Finset.sum_congr rfl fun k _ => Ideal.mul_congr ?_ (T.win3 l k))
  · refine (T.dp0 a k).trans ?_
    pointwise [val_main_v38, val_main_v31, val_main_v30, val_main_v29]
  · refine (T.dp1 a k).trans ?_
    pointwise [val_main_v38, val_main_v33, val_main_v32, val_main_v29]
  · refine (T.dp2 a k).trans ?_
    pointwise [val_main_v38, val_main_v35, val_main_v34, val_main_v29]
    rw [dif_neg (by omega), dif_neg (by omega), dif_pos (by omega)]
    simp only [show 2048 + k.val - 1024 - 1024 = k.val by omega]
  · refine (T.dp3 a k).trans ?_
    pointwise [val_main_v38, val_main_v37, val_main_v36, val_main_v29]
    rw [dif_neg (by omega), dif_neg (by omega), dif_neg (by omega)]
    simp only [show 3072 + k.val - 1024 - 1024 - 1024 = k.val by omega]

/-- The arguments the gradients are formed of are real numbers. -/
structure Reals (m : (ℓ : Loc nD τ sig) → Buf (Elt Ideal) ℓ) (c : Dev nD) : Prop where
  dp : ∀ i, IsReal (m ((c : Thread nD τ).loc main_arg0) i)
  x : ∀ i, IsReal (m ((c : Thread nD τ).loc main_arg2) i)
  g : ∀ i, IsReal (m ((c : Thread nD τ).loc main_arg3) i)
  s : ∀ i, IsReal (m ((c : Thread nD τ).loc main_arg4) i)
  w : ∀ i, IsReal (m ((c : Thread nD τ).loc main_arg6) i)

/-- The cotangent's product with `w_inᵀ` is real. -/
theorem Tile.dh_real (T : Tile m c t p0 p1 p2 p3 w0 w1 w2 w3 r x g s) (R : Reals m c) (a : Fin 512) (l : Fin 1024) :
    IsReal (k0_pay5 (F := Ideal) p0 w0 p1 w1 p2 w2 p3 w3 (ix2 a l)) := by
  rw [pay5_at]
  refine (((IsReal.sum _ fun k => ?_).add (IsReal.sum _ fun k => ?_)).add (IsReal.sum _ fun k => ?_)).add
    (IsReal.sum _ fun k => ?_)
  · exact ((T.dp0 a k).symm ▸ R.dp _).mul ((T.win0 l k).symm ▸ R.w _)
  · exact ((T.dp1 a k).symm ▸ R.dp _).mul ((T.win1 l k).symm ▸ R.w _)
  · exact ((T.dp2 a k).symm ▸ R.dp _).mul ((T.win2 l k).symm ▸ R.w _)
  · exact ((T.dp3 a k).symm ▸ R.dp _).mul ((T.win3 l k).symm ▸ R.w _)

/-- The derivative of the norm's input, an element of the reference's stage. -/
theorem ref_dx (m : (ℓ : Loc nD τ sig) → Buf (Elt Ideal) ℓ) (c : Dev nD) (i : Fin 2048) (l : Fin 1024) :
    val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 i l)
    = NormRow.rowReference (fun k => m ((c : Thread nD τ).loc main_arg2) (ix2 i k))
      (fun k => val_main_v39 (F := Ideal) (m ((c : Thread nD τ).loc main_arg0)) (m ((c : Thread nD τ).loc main_arg6)) (ix2 i k))
      (fun k => m ((c : Thread nD τ).loc main_arg3) (ix1 k)) (fun k => m ((c : Thread nD τ).loc main_arg4) (ix1 k))
      (m ((c : Thread nD τ).loc main_arg1) (ix2 i l)) l := by
  pointwise [val_main_v69, val_main_v68, val_main_v67, val_main_v66, val_main_v65, val_main_v64, val_main_v63,
    val_main_v62, val_main_v61, val_main_v60, val_main_v59, val_main_v58, val_main_v57, val_main_v56, val_main_v55,
    val_main_v53, val_main_v52, val_main_v47, val_main_v46, val_main_v18, val_main_v17, val_main_v16, val_main_v13,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3, val_main_cst_10, val_main_cst_11, val_main_cst_12]
  simp only [Finset.univ_unique, Finset.sum_singleton]

/-- One row of a tile of the derivative. -/
theorem Tile.dx (T : Tile m c t p0 p1 p2 p3 w0 w1 w2 w3 r x g s) (R : Reals m c) (a : Fin 512) (l : Fin 1024) (P : EReal)
    (hP : P = m ((c : Thread nD τ).loc main_arg1) (ix2 ⟨t.val * 512 + a.val, by omega⟩ l)) :
    NormRow.rowKernel (fun k => x (ix2 a k)) (fun k => k0_pay5 (F := Ideal) p0 w0 p1 w1 p2 w2 p3 w3 (ix2 a k))
        (fun k => g (ix2 0 k)) (fun k => s (ix3 0 0 k)) (r (ix2 a 0)) P l
      = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 ⟨t.val * 512 + a.val, by omega⟩ l) := by
  rw [ref_dx, ← hP]
  refine Eq.trans ?_ (NormRow.row_eq (fun k => R.x _) (fun k => (T.dh a k) ▸ T.dh_real R a k) (fun k => R.g _) (fun k => R.s _) P l)
  exact NormRow.rowKernel_congr l (T.row a) (T.dh a) T.gain T.scale (T.root a) rfl

/-- The normed rows of a tile are the reference's. -/
theorem Tile.xn (T : Tile m c t p0 p1 p2 p3 w0 w1 w2 w3 r x g s) (a : Fin 512) (l : Fin 1024) :
    k0_pay8 (F := Ideal) x (k0_pay7 r) (ix2 a l) = val_main_v12 (F := Ideal) (m ((c : Thread nD τ).loc main_arg2)) (ix2 ⟨t.val * 512 + a.val, by omega⟩ l) := by
  refine (pay8_at r x (ix2 a l)).trans ((Ideal.mul_congr (T.row a l) (T.root a)).trans ?_)
  pointwise [val_main_v12, val_main_v11, val_main_v7, val_main_v6, val_main_v5, val_main_v4, val_main_v3,
    val_main_v2, val_main_v1, val_main_v0, val_main_cst, val_main_cst_0, val_main_cst_1]

variable (m)

set_option maxHeartbeats 1000000 in
/-- The derivative of the norm's input after the run. -/
theorem dx_final (c : Dev nD) (R : Reals m c) : (dats m 0 c).arrAt 8 cfg0.N
    = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 8 _ (by decide +kernel) fun t _ y => ?_
  blk_simp
  rw [after0_8]
  have hN : t.val < 4 := lt_of_lt_of_eq t.isLt N_0
  have T := tile_at m c t hN
  by_cases h : t.val % 4 = 0
  · rw [outsAt0_A m c t h (by omega) h (by omega)]; frame_out
    canon_tiles y hy
    · idx_vars y
      refine (pay11_at _ _ _ _ _ _ _ _).trans ((T.dx R _ _ _ ?_).trans ?_)
      all_goals blk_ext [iblk, V, idx t]
    · idx_vars y
      refine (pay10_at _ _ _ _ _ _ _ _).trans ((T.dx R _ _ _ ?_).trans ?_)
      all_goals blk_ext [iblk, V, idx t]
  · rw [outsAt0_B m c t h (by omega) h (by omega)]; frame_out
    canon_tiles y hy
    · idx_vars y
      refine (pay11_at _ _ _ _ _ _ _ _).trans ((T.dx R _ _ _ ?_).trans ?_)
      all_goals blk_ext [iblk, V, idx t]
    · idx_vars y
      refine (pay10_at _ _ _ _ _ _ _ _).trans ((T.dx R _ _ _ ?_).trans ?_)
      all_goals blk_ext [iblk, V, idx t]

/-- The sum over the rows of the cotangent's product with `w_inᵀ`, after the run. -/
theorem dshift_sum (c : Dev nD) : (dats m 0 c).arrAt 9 cfg0.N
    = fun j : S1x1x1024.Idx => (∑ i : Fin 2048, val_main_v39 (F := Ideal) (m ((c : Thread nD τ).loc main_arg0)) (m ((c : Thread nD τ).loc main_arg6)) (ix2 i (j 2)) : EReal) := by
  refine (dats m 0 c).arrAt_eq_of_after_last 9 t0_3 (by decide +kernel) _ fun j => ?_
  have hN : ∀ t : Fin cfg0.N, t.val < 4 := fun t => lt_of_lt_of_eq t.isLt N_0
  blk_simp
  rw [after0_9, Pipeline.eq_sum_fin_of_reset_step_apply_last (fun n h => (outsAt0 m c n h).2.1) 4 (fun _ => 0)
    (fun t j => ∑ a : Fin 512, val_main_v39 (F := Ideal) (m ((c : Thread nD τ).loc main_arg0)) (m ((c : Thread nD τ).loc main_arg6))
      (ix2 ⟨t.val * 512 + a.val, by have := hN t; omega⟩ (j 2)))
    (fun t h j => by
      rw [outsAt0_A m c t h (by have := hN t; omega) h (by have := hN t; omega)]; frame_out
      rw [zero_add]
      exact (pay13_at _ _).trans (Finset.sum_congr rfl fun a _ => (tile_at m c t (hN t)).dh a _))
    (fun t h j => by
      rw [outsAt0_B m c t h (by omega) h (by omega)]; frame_out
      exact (pay1_at _ _ _).trans (congrArg _ (Finset.sum_congr rfl fun a _ => (tile_at m c t (hN t)).dh a _)))
    (le_of_eq N_0) t0_3 rfl j, zero_add]
  refine Fin.sum_mul_add_congr (fun t k hl => ?_) (by decide)
  blk_ext [idx t]

/-- The sum over the rows of that product times the normed rows, after the run. -/
theorem dgeff_sum (c : Dev nD) : (dats m 0 c).arrAt 10 cfg0.N
    = fun j : S1x1x1024.Idx => (∑ i : Fin 2048, val_main_v39 (F := Ideal) (m ((c : Thread nD τ).loc main_arg0)) (m ((c : Thread nD τ).loc main_arg6)) (ix2 i (j 2)) * val_main_v12 (F := Ideal) (m ((c : Thread nD τ).loc main_arg2)) (ix2 i (j 2)) : EReal) := by
  refine (dats m 0 c).arrAt_eq_of_after_last 10 t0_3 (by decide +kernel) _ fun j => ?_
  have hN : ∀ t : Fin cfg0.N, t.val < 4 := fun t => lt_of_lt_of_eq t.isLt N_0
  blk_simp
  rw [after0_10, Pipeline.eq_sum_fin_of_reset_step_apply_last (fun n h => (outsAt0 m c n h).2.2) 4 (fun _ => 0)
    (fun t j => ∑ a : Fin 512, val_main_v39 (F := Ideal) (m ((c : Thread nD τ).loc main_arg0)) (m ((c : Thread nD τ).loc main_arg6))
      (ix2 ⟨t.val * 512 + a.val, by have := hN t; omega⟩ (j 2)) * val_main_v12 (F := Ideal) (m ((c : Thread nD τ).loc main_arg2))
      (ix2 ⟨t.val * 512 + a.val, by have := hN t; omega⟩ (j 2)))
    (fun t h j => by
      rw [outsAt0_A m c t h (by have := hN t; omega) h (by have := hN t; omega)]; frame_out
      rw [zero_add]
      exact (pay3_at _ _ _).trans (Finset.sum_congr rfl fun a _ =>
        Ideal.mul_congr ((tile_at m c t (hN t)).dh a _) ((tile_at m c t (hN t)).xn a _)))
    (fun t h j => by
      rw [outsAt0_B m c t h (by omega) h (by omega)]; frame_out
      exact (pay4_at _ _ _ _).trans (congrArg _ (Finset.sum_congr rfl fun a _ =>
        Ideal.mul_congr ((tile_at m c t (hN t)).dh a _) ((tile_at m c t (hN t)).xn a _))))
    (le_of_eq N_0) t0_3 rfl j, zero_add]
  refine Fin.sum_mul_add_congr (fun t k hl => ?_) (by decide)
  refine Ideal.mul_congr ?_ ?_
  all_goals blk_ext [idx t]

end Cert.Norm4KIdeal.Hand

end
-- ==== Proof.Norm4Run.lean ====
/-
  The gradient through the norm and `w_in` (four cotangent blocks): the whole call's run, with the host lines after the
  kernel, as the stages of the derivative.
-/
module

public import proofs.«01_k».proof.Proof.Norm4

@[expose] public section

set_option maxRecDepth 16384

noncomputable section

open Idealize.ShloMosaic Idealize.ShloMosaic.TcCoe Idealize.SL.Sem
open Cert.Norm4RIdeal.Read
open Cert.Finite (IsReal)

namespace Cert.Norm4KIdeal.Hand

open Cert.Norm4KIdeal Cert.Norm4KIdeal.Gen

variable (m : (ℓ : Loc nD τ sig) → Buf (Elt Ideal) ℓ)

/-- What the host lines after the kernel find: the kernel's arrays after its run, every other buffer as it was. -/
abbrev mid (c : Dev nD) : Valuation τ sig (Elt Ideal) :=
  Pipeline.withArrays spec0 c (V0 m c) fun w => (dats m 0 c).arrAt w cfg0.N

/-- An array of the kernel's, as the host lines after it find it. -/
theorem mid_arr (c : Dev nD) (w : Fin cfg0.W) : mid m c (Proc.devRef .tc (Pipeline.arrRef spec0 w)) = (dats m 0 c).arrAt w cfg0.N :=
  Pipeline.Dat.withArrays_arrAt (dats m 0 c) sharedIn0 (V0 m c) (A_eq m c) w

theorem mid_dshift (c : Dev nD) : (show S1x1x1024.Idx → EReal from mid m c (Proc.devRef .tc main_v11_1)) = fun j : S1x1x1024.Idx =>
    (∑ i : Fin 2048, val_main_v39 (F := Ideal) (m ((c : Thread nD τ).loc main_arg0)) (m ((c : Thread nD τ).loc main_arg6)) (ix2 i (j 2)) : EReal) :=
  (mid_arr m c 9).trans (dshift_sum m c)

theorem mid_dgeff (c : Dev nD) : (show S1x1x1024.Idx → EReal from mid m c (Proc.devRef .tc main_v11_2)) = fun j : S1x1x1024.Idx =>
    (∑ i : Fin 2048, val_main_v39 (F := Ideal) (m ((c : Thread nD τ).loc main_arg0)) (m ((c : Thread nD τ).loc main_arg6)) (ix2 i (j 2))
      * val_main_v12 (F := Ideal) (m ((c : Thread nD τ).loc main_arg2)) (ix2 i (j 2)) : EReal) :=
  (mid_arr m c 10).trans (dgeff_sum m c)

theorem mid_gain (c : Dev nD) : mid m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

theorem mid_scale (c : Dev nD) : (show S1x1x1024.Idx → EReal from mid m c (Proc.devRef .tc main_v2))
    = fun j => m ((c : Thread nD τ).loc main_arg4) (ix1 (j 2)) :=
  (mid_arr m c 5).trans ((((dats m 0 c).arrAt_in 5 (by decide) _).trans (A_eq m c 5)).trans (funext fun j => s_entry m c j))

/-- The shift row's gradient. -/
theorem dshift_tail (c : Dev nD) : Pipeline.afterTail₀ cfgs (dats m) 0 (V0 m) [hostOps1] c main_v22
    = val_main_v42 (F := Ideal) (m ((c : Thread nD τ).loc main_arg0)) (m ((c : Thread nD τ).loc main_arg6)) := by
  unfold Pipeline.afterTail₀
  simp only [hostOps1, List.flatten_cons, List.flatten_nil, List.append_nil]
  after_results
  funext (j : S1024.Idx)
  change shapeCast S1024 (shapeCast S1x1024 (show S1x1x1024.Idx → EReal from mid m c (Proc.devRef .tc main_v11_1)) shapeCasts_S1x1x1024_S1x1024) shapeCasts_S1x1024_S1024 j = _
  rw [mid_dshift]
  idx_vars j
  pointwise [val_main_v42, val_main_v41, val_main_v40, val_main_cst_4, val_main_cst_5]
  simp only [Finset.univ_unique, Finset.sum_singleton]

/-- The reference's product with `w_inᵀ` is real. -/
theorem dh_real {m : (ℓ : Loc nD τ sig) → Buf (Elt Ideal) ℓ} {c : Dev nD} (R : Reals m c) (i : Fin 2048) (l : Fin 1024) :
    IsReal (val_main_v39 (F := Ideal) (m ((c : Thread nD τ).loc main_arg0)) (m ((c : Thread nD τ).loc main_arg6)) (ix2 i l)) := by
  have T := tile_at m c ⟨i.val / 512, lt_of_lt_of_eq (by omega) N_0.symm⟩ (by show i.val / 512 < 4; omega)
  have e := T.dh ⟨i.val % 512, by omega⟩ l
  rw [show (⟨(⟨i.val / 512, by omega⟩ : Fin 4).val * 512 + (⟨i.val % 512, by omega⟩ : Fin 512).val, by omega⟩ : Fin 2048) = i from
    Fin.ext (Nat.div_add_mod' _ _)] at e
  exact e ▸ T.dh_real R _ l

/-- The reference's normed row, written out. -/
theorem ref_xn (m : (ℓ : Loc nD τ sig) → Buf (Elt Ideal) ℓ) (c : Dev nD) (i : Fin 2048) (l : Fin 1024) :
    val_main_v12 (F := Ideal) (m ((c : Thread nD τ).loc main_arg2)) (ix2 i l)
      = (show EReal from m ((c : Thread nD τ).loc main_arg2) (ix2 i l))
        * Ideal.rsqrt (NormRow.ms fun k => m ((c : Thread nD τ).loc main_arg2) (ix2 i k)) := by
  pointwise [val_main_v12, val_main_v11, val_main_v7, val_main_v6, val_main_v5, val_main_v4, val_main_v3,
    val_main_v2, val_main_v1, val_main_v0, val_main_cst, val_main_cst_0, val_main_cst_1]

/-- It is real. -/
theorem xn_real {m : (ℓ : Loc nD τ sig) → Buf (Elt Ideal) ℓ} {c : Dev nD} (R : Reals m c) (i : Fin 2048) (l : Fin 1024) :
    IsReal (val_main_v12 (F := Ideal) (m ((c : Thread nD τ).loc main_arg2)) (ix2 i l)) :=
  (ref_xn m c i l) ▸ (R.x _).mul (NormRow.rsqrt_real fun k => R.x _)

/-- The scale row's gradient. -/
theorem dscale_tail (c : Dev nD) (R : Reals m c) : Pipeline.afterTail₀ cfgs (dats m) 0 (V0 m) [hostOps1] c main_v23
    = val_main_v48 (F := Ideal) (m ((c : Thread nD τ).loc main_arg0)) (m ((c : Thread nD τ).loc main_arg2)) (m ((c : Thread nD τ).loc main_arg3)) (m ((c : Thread nD τ).loc main_arg6)) := by
  unfold Pipeline.afterTail₀
  simp only [hostOps1, List.flatten_cons, List.flatten_nil, List.append_nil]
  after_results
  funext (j : S1024.Idx)
  change shapeCast S1024 (mulf (shapeCast S1x1024 (show FVec Ideal S1x1x1024 .f32 from mid m c (Proc.devRef .tc main_v11_2)) shapeCasts_S1x1x1024_S1x1024)
    (broadcastInDim S1x1024 ![1] bcast_S1024_S1x1024_1 (show FVec Ideal S1024 .f32 from mid m c (Proc.devRef .tc main_arg3)))) shapeCasts_S1x1024_S1024 j = _
  rw [mid_dgeff, mid_gain]
  idx_vars j
  refine Eq.trans ?_ ((NormRow.dscale_eq (fun k => dh_real R k j0) (fun k => xn_real R k j0) (R.g (ix1 j0))).trans ?_)
  · pointwise []
  · pointwise [val_main_v48, val_main_v45, val_main_v44, val_main_v43, val_main_v15, val_main_v14, val_main_v13, val_main_cst_6, val_main_cst_7]
    simp only [Finset.univ_unique, Finset.sum_singleton]

/-- The gain's gradient. -/
theorem dgain_tail (c : Dev nD) (R : Reals m c) : Pipeline.afterTail₀ cfgs (dats m) 0 (V0 m) [hostOps1] c main_v21
    = val_main_v54 (F := Ideal) (m ((c : Thread nD τ).loc main_arg0)) (m ((c : Thread nD τ).loc main_arg2)) (m ((c : Thread nD τ).loc main_arg4)) (m ((c : Thread nD τ).loc main_arg6)) := by
  unfold Pipeline.afterTail₀
  simp only [hostOps1, List.flatten_cons, List.flatten_nil, List.append_nil]
  after_results
  funext (j : S1024.Idx)
  change Host.reduceAdd (mulf (shapeCast S1x1024 (show FVec Ideal S1x1x1024 .f32 from mid m c (Proc.devRef .tc main_v11_2)) shapeCasts_S1x1x1024_S1x1024)
    (addf (broadcastInDim S1x1024 ![] bcast_S_S1x1024 (constant S_ FTy.f32 1065353216#32))
      (shapeCast S1x1024 (show FVec Ideal S1x1x1024 .f32 from mid m c (Proc.devRef .tc main_v2)) shapeCasts_S1x1x1024_S1x1024)))
      (constant S_ FTy.f32 0#32) reducesTo_S1x1024_S1024_d0 h_S_ j = _
  rw [mid_dgeff, mid_scale]
  idx_vars j
  refine Eq.trans ?_ ((NormRow.dgain_eq (fun k => dh_real R k j0) (fun k => xn_real R k j0) (R.s (ix1 j0))).trans ?_)
  · pointwise []
    simp only [Finset.univ_unique, Finset.sum_singleton]
  · pointwise [val_main_v54, val_main_v51, val_main_v50, val_main_v49, val_main_v47, val_main_v46, val_main_v18, val_main_v17, val_main_v16, val_main_cst_3, val_main_cst_8, val_main_cst_9]
    simp only [Finset.univ_unique, Finset.sum_singleton]

/-- The call's run: every result is the derivative's stage, and the arguments stay. -/
theorem run (ρ : Dev nD → PrngReg) (R : ∀ c, Reals m c) :
    θ_run defs (onTc (τ := τ) (main (F := Ideal))) ⟨m, fun _ => 0, ρ⟩ fun r => ∀ c : Dev nD,
      r.2.mem ((c.tc : Thread nD τ).loc main_v11_0) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_v22) = val_main_v42 (F := Ideal) (m ((c : Thread nD τ).loc main_arg0)) (m ((c : Thread nD τ).loc main_arg6))
      ∧ r.2.mem ((c.tc : Thread nD τ).loc main_v23) = val_main_v48 (F := Ideal) (m ((c : Thread nD τ).loc main_arg0)) (m ((c : Thread nD τ).loc main_arg2)) (m ((c : Thread nD τ).loc main_arg3)) (m ((c : Thread nD τ).loc main_arg6))
      ∧ r.2.mem ((c.tc : Thread nD τ).loc main_v21) = val_main_v54 (F := Ideal) (m ((c : Thread nD τ).loc main_arg0)) (m ((c : Thread nD τ).loc main_arg2)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.2 c).1 8).trans (dx_final m c (R c)),
      ((h.2 c).2 main_v22 (Pipeline.mem_restRefs_of main_v22 rfl (by decide))).trans (dshift_tail m c),
      ((h.2 c).2 main_v23 (Pipeline.mem_restRefs_of main_v23 rfl (by decide))).trans (dscale_tail m c (R c)),
      ((h.2 c).2 main_v21 (Pipeline.mem_restRefs_of main_v21 rfl (by decide))).trans (dgain_tail m c (R c)), h.1 c⟩)
    (θ_run_and (unchanged m ρ) (run_main m ρ))

end Cert.Norm4KIdeal.Hand

end
-- ==== Proof.Norm4Claim.lean ====
/-
  The gradient through the norm and `w_in` (four cotangent blocks): the call's results are the derivative's.
-/
module

public import proofs.«01_k».proof.Defs
public import proofs.«01_k».proof.Proof.Norm4Run
public import proofs.«01_k».proof.Proof.Gen.Norm4RIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.Norm4RIdeal.Read

/-- The shape relations the precondition's operations take. -/
theorem norm4_pre_facts : Cert.Pre_norm4_finite.Facts := by
  constructor <;> decide

theorem norm4_reals [Cert.Pre_norm4_finite.Facts] (m : (ℓ : Loc Cert.Norm4KIdeal.nD Cert.Norm4KIdeal.τ Cert.Norm4KIdeal.sig) → Buf (Elt Ideal) ℓ)
    (h : Cert.Pre_Norm4KIdeal_norm4_finite m) (c : Dev Cert.Norm4KIdeal.nD) : Cert.Norm4KIdeal.Hand.Reals m c := by
  have e := congrFun (h c) (fun a => a.elim0)
  obtain ⟨e, hw⟩ := Cert.Finite.and_split e
  obtain ⟨e, hs⟩ := Cert.Finite.and_split e
  obtain ⟨e, hg⟩ := Cert.Finite.and_split e
  obtain ⟨hd, hx⟩ := Cert.Finite.and_split e
  exact ⟨Cert.Finite.of_all _ _ _ _ _ _ hd, Cert.Finite.of_all _ _ _ _ _ _ hx, Cert.Finite.of_all _ _ _ _ _ _ hg,
    Cert.Finite.of_all _ _ _ _ _ _ hs, Cert.Finite.of_all _ _ _ _ _ _ hw⟩

/-- The reference runs and leaves its arguments. -/
theorem norm4_reference_frame : Cert.quiescent_Norm4RIdeal := by
  intro m g _
  exact (θ_run _ _ _).mono (fun r h => ⟨fun c => (h c).2.2.2.2, sem_eq_zero_of_no_sems rfl _⟩)
    (Cert.Norm4RIdeal.Value.run m g)

/-- The call's gradients are the derivative's. -/
theorem norm4_value [Cert.Pre_norm4_finite.Facts] : Cert.algebraic_Norm4KIdeal_Norm4RIdeal_pre_norm4_finite := by
  pair_intro
  · run_from Cert.Norm4KIdeal.Hand.run m g (fun c => norm4_reals m ‹_› c)
  · refine (θ_run _ _ _).mono (fun r h c => ?_) (Cert.Norm4RIdeal.Value.run m' g')
    obtain ⟨e0, e1, e2, e3, e4, e5, e6⟩ := hagree c
    obtain ⟨h0, h1, h2, h3, ha⟩ := h c
    refine ⟨h0.trans ?_, h1.trans ?_, h2.trans ?_, h3.trans ?_, ha⟩
    · unfold Cert.Norm4RIdeal.Value.res_main_v69
      rw [e0, e1, e2, e3, e4, e6]
      rfl
    · rw [e0, e6]
      rfl
    · rw [e0, e2, e3, e6]
      rfl
    · rw [e0, e2, e4, e6]
      rfl

end Cert.Proof

end
-- ==== Proof.Norm2.lean ====
module

public import proofs.«01_k».proof.Proof.Gen.Norm2KIdeal.Frame
public import proofs.«01_k».proof.Proof.Gen.Norm2RIdeal.Read
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Norm2RIdeal.Read
open Cert.Finite (IsReal)

namespace Cert.Norm2KIdeal.Hand

open Cert.Norm2KIdeal Cert.Norm2KIdeal.Gen

variable (m : (ℓ : Loc nD τ sig) → Buf (Elt Ideal) ℓ)

/-- Where each window's block sits. -/
theorem idx : ∀ t : Fin cfg0.N, win0_0.index t = ![0, t.val, 0] ∧ win0_1.index t = ![0, 0]
    ∧ win0_2.index t = ![t.val, 0] ∧ win0_3.index t = ![t.val, 0] ∧ win0_4.index t = ![0, 0]
    ∧ win0_5.index t = ![0, 0, 0] ∧ win0_6.index t = ![2 * t.val, 0] ∧ win0_7.index t = ![2 * t.val + 1, 0]
    ∧ win0_8.index t = ![t.val, 0] ∧ win0_9.index t = ![0, 0, 0] ∧ win0_10.index t = ![0, 0, 0] :=
  (by decide +kernel : ∀ t : Fin grid0.N, _)

theorem pay10_at (p0 p1 : FVec Ideal S1x512x1024 .bf16) (w0 w1 : FVec Ideal S1024x1024 .bf16) (j : S512x1024.Idx) :
    k0_pay10 (F := Ideal) p0 w0 p1 w1 j
      = (∑ k : Fin 1024, p0 (ix3 0 (j 0) k) * w0 (ix2 (j 1) k)) + ∑ k : Fin 1024, p1 (ix3 0 (j 0) k) * w1 (ix2 (j 1) k) := by
  pointwise [k0_pay10]

theorem pay12_at (r : FVec Ideal S512x1 .f32) (x : FVec Ideal S512x1024 .f32) (j : S512x1024.Idx) :
    k0_pay12 (F := Ideal) r x j = x j * r (ix2 (j 0) 0) := by
  pointwise [k0_pay12, k0_pay11]

theorem pay2_at (p0 p1 : FVec Ideal S1x512x1024 .bf16) (w0 w1 : FVec Ideal S1024x1024 .bf16)
   (r : FVec Ideal S512x1 .f32) (x : FVec Ideal S512x1024 .f32) (g : FVec Ideal S1x1024 .f32) (s : FVec Ideal S1x1x1024 .f32)
   (res : FVec Ideal S256x1024 .f32)
   (a : Fin 256) (l : Fin 1024) :
    k0_pay2 (F := Ideal) (k0_pay11 r) (k0_pay12 r x) (k0_pay13 p0 w0 p1 w1 g s) (k0_pay14 p0 w0 p1 w1 r x g s) res (ix2 a l)
     = NormRow.rowKernel (fun k => x (ix2 ⟨a.val, by omega⟩ k)) (fun k => k0_pay10 (F := Ideal) p0 w0 p1 w1 (ix2 ⟨a.val, by omega⟩ k))
        (fun k => g (ix2 0 k)) (fun k => s (ix3 0 0 k)) (r (ix2 ⟨a.val, by omega⟩ 0)) (res (ix2 a l)) l := by
  pointwise [k0_pay2, k0_pay1, k0_pay11, k0_pay12, k0_pay13, k0_pay14]

theorem pay3_at (p0 p1 : FVec Ideal S1x512x1024 .bf16) (w0 w1 : FVec Ideal S1024x1024 .bf16)
   (r : FVec Ideal S512x1 .f32) (x : FVec Ideal S512x1024 .f32) (g : FVec Ideal S1x1024 .f32) (s : FVec Ideal S1x1x1024 .f32)
   (res : FVec Ideal S256x1024 .f32)
   (a : Fin 256) (l : Fin 1024) :
    k0_pay3 (F := Ideal) (k0_pay11 r) (k0_pay12 r x) (k0_pay13 p0 w0 p1 w1 g s) (k0_pay14 p0 w0 p1 w1 r x g s) res (ix2 a l)
     = NormRow.rowKernel (fun k => x (ix2 ⟨256 + a.val, by omega⟩ k)) (fun k => k0_pay10 (F := Ideal) p0 w0 p1 w1 (ix2 ⟨256 + a.val, by omega⟩ k))
        (fun k => g (ix2 0 k)) (fun k => s (ix3 0 0 k)) (r (ix2 ⟨256 + a.val, by omega⟩ 0)) (res (ix2 a l)) l := by
  pointwise [k0_pay3, k0_pay1, k0_pay11, k0_pay12, k0_pay13, k0_pay14]

theorem pay8_at (d xn : FVec Ideal S512x1024 .f32) (j : S1x1x1024.Idx) :
    k0_pay8 (F := Ideal) d xn j = ∑ a : Fin 512, d (ix2 a (j 2)) * xn (ix2 a (j 2)) := by
  pointwise [k0_pay8, k0_pay7]

theorem pay9_at (d xn : FVec Ideal S512x1024 .f32) (p : FVec Ideal S1x1x1024 .f32) (j : S1x1x1024.Idx) :
    k0_pay9 (F := Ideal) d xn p j = p j + ∑ a : Fin 512, d (ix2 a (j 2)) * xn (ix2 a (j 2)) := by
  pointwise [k0_pay9, k0_pay7]

theorem pay5_at (d : FVec Ideal S512x1024 .f32) (j : S1x1x1024.Idx) :
    k0_pay5 (F := Ideal) d j = ∑ a : Fin 512, d (ix2 a (j 2)) := by
  pointwise [k0_pay5, k0_pay4]

theorem pay6_at (d : FVec Ideal S512x1024 .f32) (p : FVec Ideal S1x1x1024 .f32) (j : S1x1x1024.Idx) :
    k0_pay6 (F := Ideal) d p j = p j + ∑ a : Fin 512, d (ix2 a (j 2)) := by
  pointwise [k0_pay6, k0_pay4]

/-- The saved reciprocal root, as the call finds it. -/
theorem r_entry (c : Dev nD) (j : S2048x1.Idx) :
    (show EReal from V m c main_v10 j)
      = Ideal.rsqrt (NormRow.ms fun k => m ((c : Thread nD τ).loc main_arg2) (ix2 (j 0) k)) := by
  simp only [V, V0, List.flatten_cons, List.flatten_nil, List.append_nil, hostOps0]
  after_results
  pointwise []

/-- The gain row, as the call finds it. -/
theorem g_entry (c : Dev nD) (j : S1x1024.Idx) :
    (show EReal from V m c main_v1 j) = m ((c : Thread nD τ).loc main_arg3) (ix1 (j 1)) := by
  simp only [V, V0, List.flatten_cons, List.flatten_nil, List.append_nil, hostOps0]
  after_results
  pointwise []

/-- The scale row, as the call finds it. -/
theorem s_entry (c : Dev nD) (j : S1x1x1024.Idx) :
    (show EReal from V m c main_v2 j) = m ((c : Thread nD τ).loc main_arg4) (ix1 (j 2)) := by
  simp only [V, V0, List.flatten_cons, List.flatten_nil, List.append_nil, hostOps0]
  after_results
  pointwise []

/-- What the blocks of tile `t` hold, in the argument arrays: two cotangent blocks, two halves of `w_in`, the rows
    of the norm's input and of its saved root, the gain and the scale. -/
structure Tile (c : Dev nD) (t : Fin 4) (p0 p1 : FVec Ideal S1x512x1024 .bf16) (w0 w1 : FVec Ideal S1024x1024 .bf16)
    (r : FVec Ideal S512x1 .f32) (x : FVec Ideal S512x1024 .f32) (g : FVec Ideal S1x1024 .f32)
    (s : FVec Ideal S1x1x1024 .f32) : Prop where
  dp0 : ∀ (a : Fin 512) (k : Fin 1024), (p0 (ix3 0 a k) : EReal)
    = m ((c : Thread nD τ).loc main_arg0) (ix3 0 ⟨t.val * 512 + a.val, by omega⟩ k)
  dp1 : ∀ (a : Fin 512) (k : Fin 1024), (p1 (ix3 0 a k) : EReal)
    = m ((c : Thread nD τ).loc main_arg0) (ix3 1 ⟨t.val * 512 + a.val, by omega⟩ k)
  win0 : ∀ l k : Fin 1024, (w0 (ix2 l k) : EReal) = m ((c : Thread nD τ).loc main_arg6) (ix2 l ⟨k.val, by omega⟩)
  win1 : ∀ l k : Fin 1024, (w1 (ix2 l k) : EReal)
    = m ((c : Thread nD τ).loc main_arg6) (ix2 l ⟨1024 + k.val, by omega⟩)
  root : ∀ a : Fin 512, (r (ix2 a 0) : EReal) = Ideal.rsqrt (NormRow.ms fun k =>
    m ((c : Thread nD τ).loc main_arg2) (ix2 ⟨t.val * 512 + a.val, by omega⟩ k))
  row : ∀ (a : Fin 512) (k : Fin 1024), (x (ix2 a k) : EReal)
    = m ((c : Thread nD τ).loc main_arg2) (ix2 ⟨t.val * 512 + a.val, by omega⟩ k)
  gain : ∀ k : Fin 1024, (g (ix2 0 k) : EReal) = m ((c : Thread nD τ).loc main_arg3) (ix1 k)
  scale : ∀ k : Fin 1024, (s (ix3 0 0 k) : EReal) = m ((c : Thread nD τ).loc main_arg4) (ix1 k)

/-- The blocks of point `t` are that. -/
theorem tile_at (c : Dev nD) (t : Fin cfg0.N) (ht : t.val < 4) : Tile m c ⟨t.val, ht⟩
    (View.ld (iblk m c 0 t) (Rect.unit ![0, 0, 0] ![1, 512, 1024] inb_S2x512x1024_S1x512x1024_0_0_0))
    (View.ld (iblk m c 0 t) (Rect.unit ![1, 0, 0] ![1, 512, 1024] inb_S2x512x1024_S1x512x1024_1_0_0))
    (View.ld (iblk m c 1 t) (Rect.unit ![0, 0] ![1024, 1024] inb_S1024x2048_S1024x1024_0_0))
    (View.ld (iblk m c 1 t) (Rect.unit ![0, 1024] ![1024, 1024] inb_S1024x2048_S1024x1024_0_1024))
    (iblk m c 3 t) (iblk m c 2 t) (iblk m c 4 t) (iblk m c 5 t) where
  dp0 a k := by pointwise []; blk_ext [iblk, V, idx t]
  dp1 a k := by pointwise []; blk_ext [iblk, V, idx t]
  win0 l k := by pointwise []; blk_ext [iblk, V, idx t]
  win1 l k := by pointwise []; blk_ext [iblk, V, idx t]
  root a := by
    refine Eq.trans ?_ (r_entry m c (ix2 ⟨t.val * 512 + a.val, by omega⟩ 0))
    blk_ext [iblk, V, idx t]
  row a k := by blk_ext [iblk, V, idx t]
  gain k := by
    refine Eq.trans ?_ (g_entry m c (ix2 0 k))
    blk_ext [iblk, V, idx t]
  scale k := by
    refine Eq.trans ?_ (s_entry m c (ix3 0 0 k))
    blk_ext [iblk, V, idx t]

variable {m} {c : Dev nD} {t : Fin 4} {p0 p1 : FVec Ideal S1x512x1024 .bf16} {w0 w1 : FVec Ideal S1024x1024 .bf16}
  {r : FVec Ideal S512x1 .f32} {x : FVec Ideal S512x1024 .f32} {g : FVec Ideal S1x1024 .f32}
  {s : FVec Ideal S1x1x1024 .f32}

/-- One tile of the cotangent's product with `w_inᵀ` is the reference's product there. -/
theorem Tile.dh (T : Tile m c t p0 p1 w0 w1 r x g s) (a : Fin 512) (l : Fin 1024) :
    k0_pay10 (F := Ideal) p0 w0 p1 w1 (ix2 a l)
      = val_main_v33 (F := Ideal) (m ((c : Thread nD τ).loc main_arg0)) (m ((c : Thread nD τ).loc main_arg6))
          (ix2 ⟨t.val * 512 + a.val, by omega⟩ l) := by
  rw [pay10_at]
  pointwise [val_main_v33]
  rw [NormRow.sum_two]
  refine Ideal.add_congr (Finset.sum_congr rfl fun k _ => Ideal.mul_congr ?_ (T.win0 l k))
    (Finset.sum_congr rfl fun k _ => Ideal.mul_congr ?_ (T.win1 l k))
  · refine (T.dp0 a k).trans ?_
    pointwise [val_main_v32, val_main_v29, val_main_v28, val_main_v27]
  · refine (T.dp1 a k).trans ?_
    pointwise [val_main_v32, val_main_v31, val_main_v30, val_main_v27]

/-- The arguments the gradients are formed of are real numbers. -/
structure Reals (m : (ℓ : Loc nD τ sig) → Buf (Elt Ideal) ℓ) (c : Dev nD) : Prop where
  dp : ∀ i, IsReal (m ((c : Thread nD τ).loc main_arg0) i)
  x : ∀ i, IsReal (m ((c : Thread nD τ).loc main_arg2) i)
  g : ∀ i, IsReal (m ((c : Thread nD τ).loc main_arg3) i)
  s : ∀ i, IsReal (m ((c : Thread nD τ).loc main_arg4) i)
  w : ∀ i, IsReal (m ((c : Thread nD τ).loc main_arg6) i)

/-- The cotangent's product with `w_inᵀ` is real. -/
theorem Tile.dh_real (T : Tile m c t p0 p1 w0 w1 r x g s) (R : Reals m c) (a : Fin 512) (l : Fin 1024) :
    IsReal (k0_pay10 (F := Ideal) p0 w0 p1 w1 (ix2 a l)) := by
  rw [pay10_at]
  refine (IsReal.sum _ fun k => ?_).add (IsReal.sum _ fun k => ?_)
  · exact ((T.dp0 a k).symm ▸ R.dp _).mul ((T.win0 l k).symm ▸ R.w _)
  · exact ((T.dp1 a k).symm ▸ R.dp _).mul ((T.win1 l k).symm ▸ R.w _)

/-- The derivative of the norm's input, an element of the reference's stage. -/
theorem ref_dx (m : (ℓ : Loc nD τ sig) → Buf (Elt Ideal) ℓ) (c : Dev nD) (i : Fin 2048) (l : Fin 1024) :
    val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 i l)
    = NormRow.rowReference (fun k => m ((c : Thread nD τ).loc main_arg2) (ix2 i k))
      (fun k => val_main_v33 (F := Ideal) (m ((c : Thread nD τ).loc main_arg0)) (m ((c : Thread nD τ).loc main_arg6)) (ix2 i k))
      (fun k => m ((c : Thread nD τ).loc main_arg3) (ix1 k)) (fun k => m ((c : Thread nD τ).loc main_arg4) (ix1 k))
      (m ((c : Thread nD τ).loc main_arg1) (ix2 i l)) l := by
  pointwise [val_main_v63, val_main_v62, val_main_v61, val_main_v60, val_main_v59, val_main_v58, val_main_v57,
    val_main_v56, val_main_v55, val_main_v54, val_main_v53, val_main_v52, val_main_v51, val_main_v50, val_main_v49,
    val_main_v47, val_main_v46, val_main_v41, val_main_v40, val_main_v18, val_main_v17, val_main_v16, val_main_v13,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3, val_main_cst_10, val_main_cst_11, val_main_cst_12]
  simp only [Finset.univ_unique, Finset.sum_singleton]

/-- One row of a tile of the derivative. -/
theorem Tile.dx (T : Tile m c t p0 p1 w0 w1 r x g s) (R : Reals m c) (a : Fin 512) (l : Fin 1024) (P : EReal)
    (hP : P = m ((c : Thread nD τ).loc main_arg1) (ix2 ⟨t.val * 512 + a.val, by omega⟩ l)) :
    NormRow.rowKernel (fun k => x (ix2 a k)) (fun k => k0_pay10 (F := Ideal) p0 w0 p1 w1 (ix2 a k))
        (fun k => g (ix2 0 k)) (fun k => s (ix3 0 0 k)) (r (ix2 a 0)) P l
      = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 ⟨t.val * 512 + a.val, by omega⟩ l) := by
  rw [ref_dx, ← hP]
  refine Eq.trans ?_ (NormRow.row_eq (fun k => R.x _) (fun k => (T.dh a k) ▸ T.dh_real R a k) (fun k => R.g _) (fun k => R.s _) P l)
  exact NormRow.rowKernel_congr l (T.row a) (T.dh a) T.gain T.scale (T.root a) rfl

/-- The normed rows of a tile are the reference's. -/
theorem Tile.xn (T : Tile m c t p0 p1 w0 w1 r x g s) (a : Fin 512) (l : Fin 1024) :
    k0_pay12 (F := Ideal) r x (ix2 a l) = val_main_v12 (F := Ideal) (m ((c : Thread nD τ).loc main_arg2)) (ix2 ⟨t.val * 512 + a.val, by omega⟩ l) := by
  refine (pay12_at r x (ix2 a l)).trans ((Ideal.mul_congr (T.row a l) (T.root a)).trans ?_)
  pointwise [val_main_v12, val_main_v11, val_main_v7, val_main_v6, val_main_v5, val_main_v4, val_main_v3,
    val_main_v2, val_main_v1, val_main_v0, val_main_cst, val_main_cst_0, val_main_cst_1]

variable (m)

set_option maxHeartbeats 1000000 in
/-- The derivative of the norm's input after the run. -/
theorem dx_final (c : Dev nD) (R : Reals m c) : (dats m 0 c).arrAt 8 cfg0.N
    = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 8 _ (by decide +kernel) fun t _ y => ?_
  blk_simp
  rw [after0_8]
  have hN : t.val < 4 := lt_of_lt_of_eq t.isLt N_0
  have T := tile_at m c t hN
  by_cases h : t.val % 4 = 0
  · rw [outsAt0_A m c t h (by omega) h (by omega)]; frame_out
    canon_tiles y hy
    · idx_vars y
      refine (pay3_at _ _ _ _ _ _ _ _ _ _ _).trans ((T.dx R _ _ _ ?_).trans ?_)
      all_goals blk_ext [iblk, V, idx t]
    · idx_vars y
      refine (pay2_at _ _ _ _ _ _ _ _ _ _ _).trans ((T.dx R _ _ _ ?_).trans ?_)
      all_goals blk_ext [iblk, V, idx t]
  · rw [outsAt0_B m c t h (by omega) h (by omega)]; frame_out
    canon_tiles y hy
    · idx_vars y
      refine (pay3_at _ _ _ _ _ _ _ _ _ _ _).trans ((T.dx R _ _ _ ?_).trans ?_)
      all_goals blk_ext [iblk, V, idx t]
    · idx_vars y
      refine (pay2_at _ _ _ _ _ _ _ _ _ _ _).trans ((T.dx R _ _ _ ?_).trans ?_)
      all_goals blk_ext [iblk, V, idx t]

/-- The sum over the rows of the cotangent's product with `w_inᵀ`, after the run. -/
theorem dshift_sum (c : Dev nD) : (dats m 0 c).arrAt 9 cfg0.N
    = fun j : S1x1x1024.Idx => (∑ i : Fin 2048, val_main_v33 (F := Ideal) (m ((c : Thread nD τ).loc main_arg0)) (m ((c : Thread nD τ).loc main_arg6)) (ix2 i (j 2)) : EReal) := by
  refine (dats m 0 c).arrAt_eq_of_after_last 9 t0_3 (by decide +kernel) _ fun j => ?_
  have hN : ∀ t : Fin cfg0.N, t.val < 4 := fun t => lt_of_lt_of_eq t.isLt N_0
  blk_simp
  rw [after0_9, Pipeline.eq_sum_fin_of_reset_step_apply_last (fun n h => (outsAt0 m c n h).2.1) 4 (fun _ => 0)
    (fun t j => ∑ a : Fin 512, val_main_v33 (F := Ideal) (m ((c : Thread nD τ).loc main_arg0)) (m ((c : Thread nD τ).loc main_arg6))
      (ix2 ⟨t.val * 512 + a.val, by have := hN t; omega⟩ (j 2)))
    (fun t h j => by
      rw [outsAt0_A m c t h (by have := hN t; omega) h (by have := hN t; omega)]; frame_out
      rw [zero_add]
      exact (pay5_at _ _).trans (Finset.sum_congr rfl fun a _ => (tile_at m c t (hN t)).dh a _))
    (fun t h j => by
      rw [outsAt0_B m c t h (by omega) h (by omega)]; frame_out
      exact (pay6_at _ _ _).trans (congrArg _ (Finset.sum_congr rfl fun a _ => (tile_at m c t (hN t)).dh a _)))
    (le_of_eq N_0) t0_3 rfl j, zero_add]
  refine Fin.sum_mul_add_congr (fun t k hl => ?_) (by decide)
  blk_ext [idx t]

/-- The sum over the rows of that product times the normed rows, after the run. -/
theorem dgeff_sum (c : Dev nD) : (dats m 0 c).arrAt 10 cfg0.N
    = fun j : S1x1x1024.Idx => (∑ i : Fin 2048, val_main_v33 (F := Ideal) (m ((c : Thread nD τ).loc main_arg0)) (m ((c : Thread nD τ).loc main_arg6)) (ix2 i (j 2)) * val_main_v12 (F := Ideal) (m ((c : Thread nD τ).loc main_arg2)) (ix2 i (j 2)) : EReal) := by
  refine (dats m 0 c).arrAt_eq_of_after_last 10 t0_3 (by decide +kernel) _ fun j => ?_
  have hN : ∀ t : Fin cfg0.N, t.val < 4 := fun t => lt_of_lt_of_eq t.isLt N_0
  blk_simp
  rw [after0_10, Pipeline.eq_sum_fin_of_reset_step_apply_last (fun n h => (outsAt0 m c n h).2.2) 4 (fun _ => 0)
    (fun t j => ∑ a : Fin 512, val_main_v33 (F := Ideal) (m ((c : Thread nD τ).loc main_arg0)) (m ((c : Thread nD τ).loc main_arg6))
      (ix2 ⟨t.val * 512 + a.val, by have := hN t; omega⟩ (j 2)) * val_main_v12 (F := Ideal) (m ((c : Thread nD τ).loc main_arg2))
      (ix2 ⟨t.val * 512 + a.val, by have := hN t; omega⟩ (j 2)))
    (fun t h j => by
      rw [outsAt0_A m c t h (by have := hN t; omega) h (by have := hN t; omega)]; frame_out
      rw [zero_add]
      exact (pay8_at _ _ _).trans (Finset.sum_congr rfl fun a _ =>
        Ideal.mul_congr ((tile_at m c t (hN t)).dh a _) ((tile_at m c t (hN t)).xn a _)))
    (fun t h j => by
      rw [outsAt0_B m c t h (by omega) h (by omega)]; frame_out
      exact (pay9_at _ _ _ _).trans (congrArg _ (Finset.sum_congr rfl fun a _ =>
        Ideal.mul_congr ((tile_at m c t (hN t)).dh a _) ((tile_at m c t (hN t)).xn a _))))
    (le_of_eq N_0) t0_3 rfl j, zero_add]
  refine Fin.sum_mul_add_congr (fun t k hl => ?_) (by decide)
  refine Ideal.mul_congr ?_ ?_
  all_goals blk_ext [idx t]

end Cert.Norm2KIdeal.Hand

end
-- ==== Proof.Norm2Run.lean ====
/-
  The gradient through the norm and `w_in` (two cotangent blocks): the whole call's run, with the host lines after the
  kernel, as the stages of the derivative.
-/
module

public import proofs.«01_k».proof.Proof.Norm2

@[expose] public section

set_option maxRecDepth 16384

noncomputable section

open Idealize.ShloMosaic Idealize.ShloMosaic.TcCoe Idealize.SL.Sem
open Cert.Norm2RIdeal.Read
open Cert.Finite (IsReal)

namespace Cert.Norm2KIdeal.Hand

open Cert.Norm2KIdeal Cert.Norm2KIdeal.Gen

variable (m : (ℓ : Loc nD τ sig) → Buf (Elt Ideal) ℓ)

/-- What the host lines after the kernel find: the kernel's arrays after its run, every other buffer as it was. -/
abbrev mid (c : Dev nD) : Valuation τ sig (Elt Ideal) :=
  Pipeline.withArrays spec0 c (V0 m c) fun w => (dats m 0 c).arrAt w cfg0.N

/-- An array of the kernel's, as the host lines after it find it. -/
theorem mid_arr (c : Dev nD) (w : Fin cfg0.W) : mid m c (Proc.devRef .tc (Pipeline.arrRef spec0 w)) = (dats m 0 c).arrAt w cfg0.N :=
  Pipeline.Dat.withArrays_arrAt (dats m 0 c) sharedIn0 (V0 m c) (A_eq m c) w

theorem mid_dshift (c : Dev nD) : (show S1x1x1024.Idx → EReal from mid m c (Proc.devRef .tc main_v11_1)) = fun j : S1x1x1024.Idx =>
    (∑ i : Fin 2048, val_main_v33 (F := Ideal) (m ((c : Thread nD τ).loc main_arg0)) (m ((c : Thread nD τ).loc main_arg6)) (ix2 i (j 2)) : EReal) :=
  (mid_arr m c 9).trans (dshift_sum m c)

theorem mid_dgeff (c : Dev nD) : (show S1x1x1024.Idx → EReal from mid m c (Proc.devRef .tc main_v11_2)) = fun j : S1x1x1024.Idx =>
    (∑ i : Fin 2048, val_main_v33 (F := Ideal) (m ((c : Thread nD τ).loc main_arg0)) (m ((c : Thread nD τ).loc main_arg6)) (ix2 i (j 2))
      * val_main_v12 (F := Ideal) (m ((c : Thread nD τ).loc main_arg2)) (ix2 i (j 2)) : EReal) :=
  (mid_arr m c 10).trans (dgeff_sum m c)

theorem mid_gain (c : Dev nD) : mid m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

theorem mid_scale (c : Dev nD) : (show S1x1x1024.Idx → EReal from mid m c (Proc.devRef .tc main_v2))
    = fun j => m ((c : Thread nD τ).loc main_arg4) (ix1 (j 2)) :=
  (mid_arr m c 5).trans ((((dats m 0 c).arrAt_in 5 (by decide) _).trans (A_eq m c 5)).trans (funext fun j => s_entry m c j))

/-- The shift row's gradient. -/
theorem dshift_tail (c : Dev nD) : Pipeline.afterTail₀ cfgs (dats m) 0 (V0 m) [hostOps1] c main_v22
    = val_main_v36 (F := Ideal) (m ((c : Thread nD τ).loc main_arg0)) (m ((c : Thread nD τ).loc main_arg6)) := by
  unfold Pipeline.afterTail₀
  simp only [hostOps1, List.flatten_cons, List.flatten_nil, List.append_nil]
  after_results
  funext (j : S1024.Idx)
  change shapeCast S1024 (shapeCast S1x1024 (show S1x1x1024.Idx → EReal from mid m c (Proc.devRef .tc main_v11_1)) shapeCasts_S1x1x1024_S1x1024) shapeCasts_S1x1024_S1024 j = _
  rw [mid_dshift]
  idx_vars j
  pointwise [val_main_v36, val_main_v35, val_main_v34, val_main_cst_4, val_main_cst_5]
  simp only [Finset.univ_unique, Finset.sum_singleton]

/-- The reference's product with `w_inᵀ` is real. -/
theorem dh_real {m : (ℓ : Loc nD τ sig) → Buf (Elt Ideal) ℓ} {c : Dev nD} (R : Reals m c) (i : Fin 2048) (l : Fin 1024) :
    IsReal (val_main_v33 (F := Ideal) (m ((c : Thread nD τ).loc main_arg0)) (m ((c : Thread nD τ).loc main_arg6)) (ix2 i l)) := by
  have T := tile_at m c ⟨i.val / 512, lt_of_lt_of_eq (by omega) N_0.symm⟩ (by show i.val / 512 < 4; omega)
  have e := T.dh ⟨i.val % 512, by omega⟩ l
  rw [show (⟨(⟨i.val / 512, by omega⟩ : Fin 4).val * 512 + (⟨i.val % 512, by omega⟩ : Fin 512).val, by omega⟩ : Fin 2048) = i from
    Fin.ext (Nat.div_add_mod' _ _)] at e
  exact e ▸ T.dh_real R _ l

/-- The reference's normed row, written out. -/
theorem ref_xn (m : (ℓ : Loc nD τ sig) → Buf (Elt Ideal) ℓ) (c : Dev nD) (i : Fin 2048) (l : Fin 1024) :
    val_main_v12 (F := Ideal) (m ((c : Thread nD τ).loc main_arg2)) (ix2 i l)
      = (show EReal from m ((c : Thread nD τ).loc main_arg2) (ix2 i l))
        * Ideal.rsqrt (NormRow.ms fun k => m ((c : Thread nD τ).loc main_arg2) (ix2 i k)) := by
  pointwise [val_main_v12, val_main_v11, val_main_v7, val_main_v6, val_main_v5, val_main_v4, val_main_v3,
    val_main_v2, val_main_v1, val_main_v0, val_main_cst, val_main_cst_0, val_main_cst_1]

/-- It is real. -/
theorem xn_real {m : (ℓ : Loc nD τ sig) → Buf (Elt Ideal) ℓ} {c : Dev nD} (R : Reals m c) (i : Fin 2048) (l : Fin 1024) :
    IsReal (val_main_v12 (F := Ideal) (m ((c : Thread nD τ).loc main_arg2)) (ix2 i l)) :=
  (ref_xn m c i l) ▸ (R.x _).mul (NormRow.rsqrt_real fun k => R.x _)

/-- The scale row's gradient. -/
theorem dscale_tail (c : Dev nD) (R : Reals m c) : Pipeline.afterTail₀ cfgs (dats m) 0 (V0 m) [hostOps1] c main_v23
    = val_main_v42 (F := Ideal) (m ((c : Thread nD τ).loc main_arg0)) (m ((c : Thread nD τ).loc main_arg2)) (m ((c : Thread nD τ).loc main_arg3)) (m ((c : Thread nD τ).loc main_arg6)) := by
  unfold Pipeline.afterTail₀
  simp only [hostOps1, List.flatten_cons, List.flatten_nil, List.append_nil]
  after_results
  funext (j : S1024.Idx)
  change shapeCast S1024 (mulf (shapeCast S1x1024 (show FVec Ideal S1x1x1024 .f32 from mid m c (Proc.devRef .tc main_v11_2)) shapeCasts_S1x1x1024_S1x1024)
    (broadcastInDim S1x1024 ![1] bcast_S1024_S1x1024_1 (show FVec Ideal S1024 .f32 from mid m c (Proc.devRef .tc main_arg3)))) shapeCasts_S1x1024_S1024 j = _
  rw [mid_dgeff, mid_gain]
  idx_vars j
  refine Eq.trans ?_ ((NormRow.dscale_eq (fun k => dh_real R k j0) (fun k => xn_real R k j0) (R.g (ix1 j0))).trans ?_)
  · pointwise []
  · pointwise [val_main_v42, val_main_v39, val_main_v38, val_main_v37, val_main_v15, val_main_v14, val_main_v13, val_main_cst_6, val_main_cst_7]
    simp only [Finset.univ_unique, Finset.sum_singleton]

/-- The gain's gradient. -/
theorem dgain_tail (c : Dev nD) (R : Reals m c) : Pipeline.afterTail₀ cfgs (dats m) 0 (V0 m) [hostOps1] c main_v21
    = val_main_v48 (F := Ideal) (m ((c : Thread nD τ).loc main_arg0)) (m ((c : Thread nD τ).loc main_arg2)) (m ((c : Thread nD τ).loc main_arg4)) (m ((c : Thread nD τ).loc main_arg6)) := by
  unfold Pipeline.afterTail₀
  simp only [hostOps1, List.flatten_cons, List.flatten_nil, List.append_nil]
  after_results
  funext (j : S1024.Idx)
  change Host.reduceAdd (mulf (shapeCast S1x1024 (show FVec Ideal S1x1x1024 .f32 from mid m c (Proc.devRef .tc main_v11_2)) shapeCasts_S1x1x1024_S1x1024)
    (addf (broadcastInDim S1x1024 ![] bcast_S_S1x1024 (constant S_ FTy.f32 1065353216#32))
      (shapeCast S1x1024 (show FVec Ideal S1x1x1024 .f32 from mid m c (Proc.devRef .tc main_v2)) shapeCasts_S1x1x1024_S1x1024)))
      (constant S_ FTy.f32 0#32) reducesTo_S1x1024_S1024_d0 h_S_ j = _
  rw [mid_dgeff, mid_scale]
  idx_vars j
  refine Eq.trans ?_ ((NormRow.dgain_eq (fun k => dh_real R k j0) (fun k => xn_real R k j0) (R.s (ix1 j0))).trans ?_)
  · pointwise []
    simp only [Finset.univ_unique, Finset.sum_singleton]
  · pointwise [val_main_v48, val_main_v45, val_main_v44, val_main_v43, val_main_v41, val_main_v40, val_main_v18, val_main_v17, val_main_v16, val_main_cst_3, val_main_cst_8, val_main_cst_9]
    simp only [Finset.univ_unique, Finset.sum_singleton]

/-- The call's run: every result is the derivative's stage, and the arguments stay. -/
theorem run (ρ : Dev nD → PrngReg) (R : ∀ c, Reals m c) :
    θ_run defs (onTc (τ := τ) (main (F := Ideal))) ⟨m, fun _ => 0, ρ⟩ fun r => ∀ c : Dev nD,
      r.2.mem ((c.tc : Thread nD τ).loc main_v11_0) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_v22) = val_main_v36 (F := Ideal) (m ((c : Thread nD τ).loc main_arg0)) (m ((c : Thread nD τ).loc main_arg6))
      ∧ r.2.mem ((c.tc : Thread nD τ).loc main_v23) = val_main_v42 (F := Ideal) (m ((c : Thread nD τ).loc main_arg0)) (m ((c : Thread nD τ).loc main_arg2)) (m ((c : Thread nD τ).loc main_arg3)) (m ((c : Thread nD τ).loc main_arg6))
      ∧ r.2.mem ((c.tc : Thread nD τ).loc main_v21) = val_main_v48 (F := Ideal) (m ((c : Thread nD τ).loc main_arg0)) (m ((c : Thread nD τ).loc main_arg2)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.2 c).1 8).trans (dx_final m c (R c)),
      ((h.2 c).2 main_v22 (Pipeline.mem_restRefs_of main_v22 rfl (by decide))).trans (dshift_tail m c),
      ((h.2 c).2 main_v23 (Pipeline.mem_restRefs_of main_v23 rfl (by decide))).trans (dscale_tail m c (R c)),
      ((h.2 c).2 main_v21 (Pipeline.mem_restRefs_of main_v21 rfl (by decide))).trans (dgain_tail m c (R c)), h.1 c⟩)
    (θ_run_and (unchanged m ρ) (run_main m ρ))

end Cert.Norm2KIdeal.Hand

end
-- ==== Proof.Norm2Claim.lean ====
/-
  The gradient through the norm and `w_in` (two cotangent blocks): the call's results are the derivative's.
-/
module

public import proofs.«01_k».proof.Defs
public import proofs.«01_k».proof.Proof.Norm2Run
public import proofs.«01_k».proof.Proof.Gen.Norm2RIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.Norm2RIdeal.Read

/-- The shape relations the precondition's operations take. -/
theorem norm2_pre_facts : Cert.Pre_norm2_finite.Facts := by
  constructor <;> decide

theorem norm2_reals [Cert.Pre_norm2_finite.Facts] (m : (ℓ : Loc Cert.Norm2KIdeal.nD Cert.Norm2KIdeal.τ Cert.Norm2KIdeal.sig) → Buf (Elt Ideal) ℓ)
    (h : Cert.Pre_Norm2KIdeal_norm2_finite m) (c : Dev Cert.Norm2KIdeal.nD) : Cert.Norm2KIdeal.Hand.Reals m c := by
  have e := congrFun (h c) (fun a => a.elim0)
  obtain ⟨e, hw⟩ := Cert.Finite.and_split e
  obtain ⟨e, hs⟩ := Cert.Finite.and_split e
  obtain ⟨e, hg⟩ := Cert.Finite.and_split e
  obtain ⟨hd, hx⟩ := Cert.Finite.and_split e
  exact ⟨Cert.Finite.of_all _ _ _ _ _ _ hd, Cert.Finite.of_all _ _ _ _ _ _ hx, Cert.Finite.of_all _ _ _ _ _ _ hg,
    Cert.Finite.of_all _ _ _ _ _ _ hs, Cert.Finite.of_all _ _ _ _ _ _ hw⟩

/-- The reference runs and leaves its arguments. -/
theorem norm2_reference_frame : Cert.quiescent_Norm2RIdeal := by
  intro m g _
  exact (θ_run _ _ _).mono (fun r h => ⟨fun c => (h c).2.2.2.2, sem_eq_zero_of_no_sems rfl _⟩)
    (Cert.Norm2RIdeal.Value.run m g)

/-- The call's gradients are the derivative's. -/
theorem norm2_value [Cert.Pre_norm2_finite.Facts] : Cert.algebraic_Norm2KIdeal_Norm2RIdeal_pre_norm2_finite := by
  pair_intro
  · run_from Cert.Norm2KIdeal.Hand.run m g (fun c => norm2_reals m ‹_› c)
  · refine (θ_run _ _ _).mono (fun r h c => ?_) (Cert.Norm2RIdeal.Value.run m' g')
    obtain ⟨e0, e1, e2, e3, e4, e5, e6⟩ := hagree c
    obtain ⟨h0, h1, h2, h3, ha⟩ := h c
    refine ⟨h0.trans ?_, h1.trans ?_, h2.trans ?_, h3.trans ?_, ha⟩
    · unfold Cert.Norm2RIdeal.Value.res_main_v63
      rw [e0, e1, e2, e3, e4, e6]
      rfl
    · rw [e0, e6]
      rfl
    · rw [e0, e2, e3, e6]
      rfl
    · rw [e0, e2, e4, e6]
      rfl

end Cert.Proof

end
-- ==== Proof.NormNa.lean ====
/-
  The gradient through the norm and `w_in`, four cotangent blocks over two segments: 2048 latent rows and 256 context
  rows, each with its own scale and shift. The grid walks 768 rows at a time, so the last point holds rows of both, and
  only the latent rows have a residual whose cotangent is added.
-/
module

public import proofs.«01_k».proof.Proof.Gen.NormNaKIdeal.Frame
public import proofs.«01_k».proof.Proof.Gen.NormNaRIdeal.Read
public import proofs.«01_k».proof.Proof.NormRow
public import proofs.«01_k».proof.Proof.Seg
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormNaRIdeal.Read
open Cert.Finite (IsReal)
open Cert.Seg (join only)

namespace Cert.NormNaKIdeal.Hand

open Cert.NormNaKIdeal Cert.NormNaKIdeal.Gen

variable (m : (ℓ : Loc nD τ sig) → Buf (Elt Ideal) ℓ)

/-- Where each window's block sits. -/
theorem idx : ∀ t : Fin cfg0.N, win0_0.index t = ![0, t.val, 0] ∧ win0_1.index t = ![0, 0]
    ∧ win0_2.index t = ![t.val, 0] ∧ win0_3.index t = ![t.val, 0] ∧ win0_4.index t = ![0, 0]
    ∧ win0_5.index t = ![0, 0, 0] ∧ win0_6.index t = ![min (t.val * 3) 7, 0]
    ∧ win0_7.index t = ![min (t.val * 3 + 1) 7, 0] ∧ win0_8.index t = ![min (t.val * 3 + 2) 7, 0]
    ∧ win0_9.index t = ![t.val, 0] ∧ win0_10.index t = ![0, 0, 0] ∧ win0_11.index t = ![0, 0, 0]
    ∧ (grid0.coords t 0).val = t.val :=
  (by decide +kernel : ∀ t : Fin grid0.N, _)

theorem coord (t : Fin cfg0.N) : (grid0.coords t 0).val = t.val := (idx t).2.2.2.2.2.2.2.2.2.2.2.2

/-- The mask of point `i` marks the context rows. -/
theorem mask_at (i : grid0.Coords) (r : Fin 768) :
    k0_pay14 i (ix2 r 0) = if 2048 ≤ (i 0).val * 768 + r.val then 1#1 else 0#1 := by
  pointwise [k0_pay14]
  exact Cert.Seg.ctx_word (i 0).isLt r.isLt

/-- The product of a tile's cotangents with `w_inᵀ`: four blocks against four quarters of the columns. -/
theorem pay13_at (p0 p1 p2 p3 : FVec Ideal S1x768x1024 .bf16) (w0 w1 w2 w3 : FVec Ideal S1024x1024 .bf16) (j : S768x1024.Idx) :
    k0_pay13 (F := Ideal) p0 w0 p1 w1 p2 w2 p3 w3 j
      = (((∑ k : Fin 1024, p0 (ix3 0 (j 0) k) * w0 (ix2 (j 1) k)) + ∑ k : Fin 1024, p1 (ix3 0 (j 0) k) * w1 (ix2 (j 1) k))
        + ∑ k : Fin 1024, p2 (ix3 0 (j 0) k) * w2 (ix2 (j 1) k)) + ∑ k : Fin 1024, p3 (ix3 0 (j 0) k) * w3 (ix2 (j 1) k) := by
  pointwise [k0_pay13]

/-- A tile's normed rows. -/
theorem pay16_at (r : FVec Ideal S768x1 .f32) (x : FVec Ideal S768x1024 .f32) (j : S768x1024.Idx) :
    k0_pay16 (F := Ideal) r x j = x j * r (ix2 (j 0) 0) := by
  pointwise [k0_pay16, k0_pay15]

/-- A row of the tile's derivative, each segment's rows by their own scale, before the residual is added. -/
theorem pay17_at (i : grid0.Coords) (d x : FVec Ideal S768x1024 .f32) (r : FVec Ideal S768x1 .f32) (g : FVec Ideal S1x1024 .f32)
    (sc sl : FVec Ideal S1x1x1024 .f32) (a : Fin 768) (l : Fin 1024) (P : EReal) :
    (show EReal from k0_pay17 (F := Ideal) d (k0_pay14 i) r x g sc sl (ix2 a l)) + P
     = NormRow.rowKernel (fun k => x (ix2 a k)) (fun k => d (ix2 a k)) (fun k => g (ix2 0 k))
        (fun k => if 2048 ≤ (i 0).val * 768 + a.val then sc (ix3 0 0 k) else sl (ix3 0 0 k)) (r (ix2 a 0)) P l := by
  refine congrArg (· + P) ?_
  pointwise [k0_pay17, k0_pay16, k0_pay15, mask_at, Cert.Seg.select_test]

/-- The residual's cotangent added to the first 256 rows of a tile. -/
theorem pay19_at (t : Fin 3) (d : FVec Ideal S768x1024 .f32) (p : FVec Ideal S256x1024 .f32) (a : Fin 256) (l : Fin 1024) :
    k0_pay19 (F := Ideal) d p (Scalar.cmpi .slt (Scalar.addi (Scalar.muli (BitVec.ofNat 32 t.val) 3#32) 0#32) 8#32) k0_pay18 (ix2 a l)
      = (show EReal from d (ix2 ⟨a.val, by omega⟩ l)) + if t.val * 3 + 0 < 8 then p (ix2 a l) else 0 := by
  rw [show Scalar.cmpi .slt (Scalar.addi (Scalar.muli (BitVec.ofNat 32 t.val) 3#32) 0#32) 8#32 = _ from
    Cert.Seg.res_word (s := 0) t.isLt (by decide)]
  pointwise [k0_pay19, k0_pay18, Cert.Seg.select_test]
  split <;> rfl

/-- The same for the next 256 rows. -/
theorem pay20_at (t : Fin 3) (d : FVec Ideal S768x1024 .f32) (p : FVec Ideal S256x1024 .f32) (a : Fin 256) (l : Fin 1024) :
    k0_pay20 (F := Ideal) (BitVec.ofNat 32 t.val) d p (ix2 a l)
      = (show EReal from d (ix2 ⟨256 + a.val, by omega⟩ l)) + if t.val * 3 + 1 < 8 then p (ix2 a l) else 0 := by
  unfold k0_pay20
  rw [show Scalar.cmpi .slt (Scalar.addi (Scalar.muli (BitVec.ofNat 32 t.val) 3#32) 1#32) 8#32 = _ from
    Cert.Seg.res_word (s := 1) t.isLt (by decide)]
  pointwise [Cert.Seg.select_test]
  split <;> rfl

/-- The same for the last 256 rows. -/
theorem pay21_at (t : Fin 3) (d : FVec Ideal S768x1024 .f32) (p : FVec Ideal S256x1024 .f32) (a : Fin 256) (l : Fin 1024) :
    k0_pay21 (F := Ideal) (BitVec.ofNat 32 t.val) d p (ix2 a l)
      = (show EReal from d (ix2 ⟨512 + a.val, by omega⟩ l)) + if t.val * 3 + 2 < 8 then p (ix2 a l) else 0 := by
  unfold k0_pay21
  rw [show Scalar.cmpi .slt (Scalar.addi (Scalar.muli (BitVec.ofNat 32 t.val) 3#32) 2#32) 8#32 = _ from
    Cert.Seg.res_word (s := 2) t.isLt (by decide)]
  pointwise [Cert.Seg.select_test]
  split <;> rfl

/-- One segment's part of a tile's column sums. -/
abbrev tileSum (s : Nat) (i : grid0.Coords) (f : Fin 768 → EReal) : EReal :=
  ∑ a : Fin 768, only s ((i 0).val * 768 + a.val) (f a)

/-- A tile's column sums over the latent rows, at the first point. -/
theorem pay2_at (i : grid0.Coords) (d : FVec Ideal S768x1024 .f32) (j : S1x1x1024.Idx) :
    k0_pay2 (F := Ideal) (k0_pay22 d (k0_pay14 i)) j = tileSum 0 i fun a => d (ix2 a (j 2)) := by
  pointwise [k0_pay2, k0_pay22, mask_at, Cert.Seg.select_test, tileSum, only]

/-- The same over the context rows. -/
theorem pay3_at (i : grid0.Coords) (d : FVec Ideal S768x1024 .f32) (j : S1x1x1024.Idx) :
    k0_pay3 (F := Ideal) (k0_pay23 d (k0_pay14 i)) j = tileSum 1 i fun a => d (ix2 a (j 2)) := by
  pointwise [k0_pay3, k0_pay1, k0_pay23, mask_at, Cert.Seg.select_test, tileSum, only]

/-- The latent rows' sums of the product with the normed rows. -/
theorem pay9_at (i : grid0.Coords) (d xn : FVec Ideal S768x1024 .f32) (j : S1x1x1024.Idx) :
    k0_pay9 (F := Ideal) d (k0_pay14 i) xn j = tileSum 0 i fun a => d (ix2 a (j 2)) * xn (ix2 a (j 2)) := by
  pointwise [k0_pay9, k0_pay7, k0_pay6, mask_at, Cert.Seg.select_test, tileSum, only]

/-- The same over the context rows. -/
theorem pay10_at (i : grid0.Coords) (d xn : FVec Ideal S768x1024 .f32) (j : S1x1x1024.Idx) :
    k0_pay10 (F := Ideal) d (k0_pay14 i) xn j = tileSum 1 i fun a => d (ix2 a (j 2)) * xn (ix2 a (j 2)) := by
  pointwise [k0_pay10, k0_pay8, k0_pay6, mask_at, Cert.Seg.select_test, tileSum, only]

/-- Those sums, added to what stood. -/
theorem pay4_at (i : grid0.Coords) (d : FVec Ideal S768x1024 .f32) (p : FVec Ideal S1x1x1024 .f32) (j : S1x1x1024.Idx) :
    k0_pay4 (F := Ideal) (k0_pay22 d (k0_pay14 i)) p j = p j + tileSum 0 i fun a => d (ix2 a (j 2)) := by
  rw [← pay2_at]; pointwise [k0_pay4, k0_pay2]

theorem pay5_at (i : grid0.Coords) (d : FVec Ideal S768x1024 .f32) (p : FVec Ideal S1x1x1024 .f32) (j : S1x1x1024.Idx) :
    k0_pay5 (F := Ideal) (k0_pay23 d (k0_pay14 i)) p j = p j + tileSum 1 i fun a => d (ix2 a (j 2)) := by
  rw [← pay3_at]; pointwise [k0_pay5, k0_pay3]

theorem pay11_at (i : grid0.Coords) (d xn : FVec Ideal S768x1024 .f32) (p : FVec Ideal S1x1x1024 .f32) (j : S1x1x1024.Idx) :
    k0_pay11 (F := Ideal) d (k0_pay14 i) xn p j = p j + tileSum 0 i fun a => d (ix2 a (j 2)) * xn (ix2 a (j 2)) := by
  rw [← pay9_at]; pointwise [k0_pay11, k0_pay9]

theorem pay12_at (i : grid0.Coords) (d xn : FVec Ideal S768x1024 .f32) (p : FVec Ideal S1x1x1024 .f32) (j : S1x1x1024.Idx) :
    k0_pay12 (F := Ideal) d (k0_pay14 i) xn p j = p j + tileSum 1 i fun a => d (ix2 a (j 2)) * xn (ix2 a (j 2)) := by
  rw [← pay10_at]; pointwise [k0_pay12, k0_pay10]

/-- The norm's input, latent rows then context rows. -/
abbrev X (c : Dev nD) : Fin 2304 → Fin 1024 → EReal :=
  join (fun i k => m ((c : Thread nD τ).loc main_arg2) (ix2 i k)) fun i k => m ((c : Thread nD τ).loc main_arg3) (ix2 i k)

/-- The scale of each row's segment. -/
abbrev S (c : Dev nD) : Fin 2304 → Fin 1024 → EReal :=
  join (fun _ k => m ((c : Thread nD τ).loc main_arg5) (ix1 k)) fun _ k => m ((c : Thread nD τ).loc main_arg6) (ix1 k)

/-- The cotangent of each row's residual; the context rows have none. -/
abbrev P (c : Dev nD) : Fin 2304 → Fin 1024 → EReal :=
  join (fun i k => m ((c : Thread nD τ).loc main_arg1) (ix2 i k)) fun _ _ => 0

/-- The reference's product of the latent rows' cotangent with `w_inᵀ`. -/
abbrev dhL (c : Dev nD) : FVec Ideal S2048x1024 .f32 :=
  val_main_v80 (F := Ideal) (m ((c : Thread nD τ).loc main_arg0)) (m ((c : Thread nD τ).loc main_arg9))

/-- The same of the context rows. -/
abbrev dhC (c : Dev nD) : FVec Ideal S256x1024 .f32 :=
  val_main_v78 (F := Ideal) (m ((c : Thread nD τ).loc main_arg0)) (m ((c : Thread nD τ).loc main_arg9))

/-- Both, one after the other. -/
abbrev H (c : Dev nD) : Fin 2304 → Fin 1024 → EReal :=
  join (fun i l => dhL m c (ix2 i l)) fun i l => dhC m c (ix2 i l)

theorem H_lt (c : Dev nD) {n : Nat} (hn : n < 2304) (h : n < 2048) (l : Fin 1024) : H m c ⟨n, hn⟩ l = dhL m c (ix2 ⟨n, h⟩ l) := by
  simp only [H, join, dif_pos h]

theorem H_ge (c : Dev nD) {n : Nat} (hn : n < 2304) (h : ¬n < 2048) (l : Fin 1024) :
    H m c ⟨n, hn⟩ l = dhC m c (ix2 ⟨n - 2048, by omega⟩ l) := by
  simp only [H, join, dif_neg h]

/-- The norm's input, as the call finds it. -/
theorem x_entry (c : Dev nD) (i : Fin 2304) (k : Fin 1024) : (show EReal from V m c main_v6 (ix2 i k)) = X m c i k := by
  simp only [V, V0, List.flatten_cons, List.flatten_nil, List.append_nil, hostOps0]
  after_results
  pointwise [join]
  split <;> rfl

/-- The saved reciprocal root, as the call finds it. -/
theorem r_entry (c : Dev nD) (i : Fin 2304) :
    (show EReal from V m c main_v14 (ix2 i 0)) = Ideal.rsqrt (NormRow.ms fun k => X m c i k) := by
  simp only [V, V0, List.flatten_cons, List.flatten_nil, List.append_nil, hostOps0]
  after_results
  pointwise [join]
  split <;> rfl

/-- The gain row, as the call finds it. -/
theorem g_entry (c : Dev nD) (j : S1x1024.Idx) :
    (show EReal from V m c main_v1 j) = m ((c : Thread nD τ).loc main_arg4) (ix1 (j 1)) := by
  simp only [V, V0, List.flatten_cons, List.flatten_nil, List.append_nil, hostOps0]
  after_results
  pointwise []

/-- The two scale rows, as the call finds them. -/
theorem s_entry (c : Dev nD) (s : Fin 2) (k : Fin 1024) :
    (show EReal from V m c main_v5 (ix3 s 0 k))
      = if s.val = 0 then m ((c : Thread nD τ).loc main_arg5) (ix1 k) else m ((c : Thread nD τ).loc main_arg6) (ix1 k) := by
  simp only [V, V0, List.flatten_cons, List.flatten_nil, List.append_nil, hostOps0]
  after_results
  fin_cases s <;> pointwise []

/-- What the blocks of tile `t` hold: four cotangent blocks, four quarters of `w_in`, the rows of the norm's input and
    of its saved root, the gain and the two scales. -/
structure Tile (c : Dev nD) (t : Fin 3) (p0 p1 p2 p3 : FVec Ideal S1x768x1024 .bf16) (w0 w1 w2 w3 : FVec Ideal S1024x1024 .bf16)
    (r : FVec Ideal S768x1 .f32) (x : FVec Ideal S768x1024 .f32) (g : FVec Ideal S1x1024 .f32)
    (sc sl : FVec Ideal S1x1x1024 .f32) : Prop where
  dp0 : ∀ (a : Fin 768) (k : Fin 1024), (p0 (ix3 0 a k) : EReal)
    = m ((c : Thread nD τ).loc main_arg0) (ix3 0 ⟨t.val * 768 + a.val, by omega⟩ k)
  dp1 : ∀ (a : Fin 768) (k : Fin 1024), (p1 (ix3 0 a k) : EReal)
    = m ((c : Thread nD τ).loc main_arg0) (ix3 1 ⟨t.val * 768 + a.val, by omega⟩ k)
  dp2 : ∀ (a : Fin 768) (k : Fin 1024), (p2 (ix3 0 a k) : EReal)
    = m ((c : Thread nD τ).loc main_arg0) (ix3 2 ⟨t.val * 768 + a.val, by omega⟩ k)
  dp3 : ∀ (a : Fin 768) (k : Fin 1024), (p3 (ix3 0 a k) : EReal)
    = m ((c : Thread nD τ).loc main_arg0) (ix3 3 ⟨t.val * 768 + a.val, by omega⟩ k)
  win0 : ∀ l k : Fin 1024, (w0 (ix2 l k) : EReal) = m ((c : Thread nD τ).loc main_arg9) (ix2 l ⟨k.val, by omega⟩)
  win1 : ∀ l k : Fin 1024, (w1 (ix2 l k) : EReal) = m ((c : Thread nD τ).loc main_arg9) (ix2 l ⟨1024 + k.val, by omega⟩)
  win2 : ∀ l k : Fin 1024, (w2 (ix2 l k) : EReal) = m ((c : Thread nD τ).loc main_arg9) (ix2 l ⟨2048 + k.val, by omega⟩)
  win3 : ∀ l k : Fin 1024, (w3 (ix2 l k) : EReal) = m ((c : Thread nD τ).loc main_arg9) (ix2 l ⟨3072 + k.val, by omega⟩)
  root : ∀ a : Fin 768, (r (ix2 a 0) : EReal) = Ideal.rsqrt (NormRow.ms fun k => X m c ⟨t.val * 768 + a.val, by omega⟩ k)
  row : ∀ (a : Fin 768) (k : Fin 1024), (x (ix2 a k) : EReal) = X m c ⟨t.val * 768 + a.val, by omega⟩ k
  gain : ∀ k : Fin 1024, (g (ix2 0 k) : EReal) = m ((c : Thread nD τ).loc main_arg4) (ix1 k)
  scale : ∀ (a : Fin 768) (k : Fin 1024), (if 2048 ≤ t.val * 768 + a.val then sc (ix3 0 0 k) else sl (ix3 0 0 k) : EReal)
    = S m c ⟨t.val * 768 + a.val, by omega⟩ k

set_option maxHeartbeats 1000000 in
/-- The blocks of point `t` are that. -/
theorem tile_at (c : Dev nD) (t : Fin cfg0.N) (ht : t.val < 3) : Tile m c ⟨t.val, ht⟩
    (View.ld (iblk m c 0 t) (Rect.unit ![0, 0, 0] ![1, 768, 1024] inb_S4x768x1024_S1x768x1024_0_0_0))
    (View.ld (iblk m c 0 t) (Rect.unit ![1, 0, 0] ![1, 768, 1024] inb_S4x768x1024_S1x768x1024_1_0_0))
    (View.ld (iblk m c 0 t) (Rect.unit ![2, 0, 0] ![1, 768, 1024] inb_S4x768x1024_S1x768x1024_2_0_0))
    (View.ld (iblk m c 0 t) (Rect.unit ![3, 0, 0] ![1, 768, 1024] inb_S4x768x1024_S1x768x1024_3_0_0))
    (View.ld (iblk m c 1 t) (Rect.unit ![0, 0] ![1024, 1024] inb_S1024x4096_S1024x1024_0_0))
    (View.ld (iblk m c 1 t) (Rect.unit ![0, 1024] ![1024, 1024] inb_S1024x4096_S1024x1024_0_1024))
    (View.ld (iblk m c 1 t) (Rect.unit ![0, 2048] ![1024, 1024] inb_S1024x4096_S1024x1024_0_2048))
    (View.ld (iblk m c 1 t) (Rect.unit ![0, 3072] ![1024, 1024] inb_S1024x4096_S1024x1024_0_3072))
    (iblk m c 3 t) (iblk m c 2 t) (iblk m c 4 t)
    (View.ld (iblk m c 5 t) (Rect.unit ![1, 0, 0] ![1, 1, 1024] inb_S2x1x1024_S1x1x1024_1_0_0))
    (View.ld (iblk m c 5 t) (Rect.unit ![0, 0, 0] ![1, 1, 1024] inb_S2x1x1024_S1x1x1024_0_0_0)) where
  dp0 a k := by pointwise []; blk_ext [iblk, V, idx t]
  dp1 a k := by pointwise []; blk_ext [iblk, V, idx t]
  dp2 a k := by pointwise []; blk_ext [iblk, V, idx t]
  dp3 a k := by pointwise []; blk_ext [iblk, V, idx t]
  win0 l k := by pointwise []; blk_ext [iblk, V, idx t]
  win1 l k := by pointwise []; blk_ext [iblk, V, idx t]
  win2 l k := by pointwise []; blk_ext [iblk, V, idx t]
  win3 l k := by pointwise []; blk_ext [iblk, V, idx t]
  root a := by
    refine Eq.trans ?_ (r_entry m c ⟨t.val * 768 + a.val, by omega⟩)
    blk_ext [iblk, V, idx t]
  row a k := by
    refine Eq.trans ?_ (x_entry m c ⟨t.val * 768 + a.val, by omega⟩ k)
    blk_ext [iblk, V, idx t]
  gain k := by
    refine Eq.trans ?_ (g_entry m c (ix2 0 k))
    blk_ext [iblk, V, idx t]
  scale a k := by
    by_cases h : 2048 ≤ t.val * 768 + a.val
    · simp only [S, join, if_pos h, dif_neg (not_lt.mpr h)]
      refine Eq.trans ?_ (s_entry m c 1 k)
      pointwise []
      blk_ext [iblk, V, idx t]
    · simp only [S, join, if_neg h, dif_pos (not_le.mp h)]
      refine Eq.trans ?_ (s_entry m c 0 k)
      pointwise []
      blk_ext [iblk, V, idx t]

variable {m} {c : Dev nD} {t : Fin 3} {p0 p1 p2 p3 : FVec Ideal S1x768x1024 .bf16}
  {w0 w1 w2 w3 : FVec Ideal S1024x1024 .bf16}
  {r : FVec Ideal S768x1 .f32} {x : FVec Ideal S768x1024 .f32} {g : FVec Ideal S1x1024 .f32}
  {sc sl : FVec Ideal S1x1x1024 .f32}

/-- One tile of the cotangent's product with `w_inᵀ` is the reference's product there. -/
theorem Tile.dh (T : Tile m c t p0 p1 p2 p3 w0 w1 w2 w3 r x g sc sl) (a : Fin 768) (l : Fin 1024) :
    k0_pay13 (F := Ideal) p0 w0 p1 w1 p2 w2 p3 w3 (ix2 a l) = H m c ⟨t.val * 768 + a.val, by omega⟩ l := by
  rw [pay13_at]
  refine (Ideal.add_congr (Ideal.add_congr (Ideal.add_congr (Finset.sum_congr rfl fun k _ => Ideal.mul_congr (T.dp0 a k) (T.win0 l k))
    (Finset.sum_congr rfl fun k _ => Ideal.mul_congr (T.dp1 a k) (T.win1 l k))) (Finset.sum_congr rfl fun k _ => Ideal.mul_congr (T.dp2 a k) (T.win2 l k)))
    (Finset.sum_congr rfl fun k _ => Ideal.mul_congr (T.dp3 a k) (T.win3 l k))).trans ?_
  by_cases h : t.val * 768 + a.val < 2048
  · refine Eq.trans ?_ (H_lt m c _ h l).symm
    pointwise [dhL, val_main_v80]
    rw [NormRow.sum_four]
    refine Ideal.add_congr (Ideal.add_congr (Ideal.add_congr (Finset.sum_congr rfl fun k _ => Ideal.mul_congr ?_ rfl)
      (Finset.sum_congr rfl fun k _ => Ideal.mul_congr ?_ rfl)) (Finset.sum_congr rfl fun k _ => Ideal.mul_congr ?_ rfl))
      (Finset.sum_congr rfl fun k _ => Ideal.mul_congr ?_ rfl)
    · pointwise [val_main_v79, val_main_v61, val_main_v60, val_main_v59, val_main_v0]
    · pointwise [val_main_v79, val_main_v63, val_main_v62, val_main_v59, val_main_v0]
    · pointwise [val_main_v79, val_main_v65, val_main_v64, val_main_v59, val_main_v0]
      rw [dif_neg (by omega), dif_neg (by omega), dif_pos (by omega)]
      simp only [show 2048 + k.val - 1024 - 1024 = k.val by omega]
    · pointwise [val_main_v79, val_main_v67, val_main_v66, val_main_v59, val_main_v0]
      rw [dif_neg (by omega), dif_neg (by omega), dif_neg (by omega)]
      simp only [show 3072 + k.val - 1024 - 1024 - 1024 = k.val by omega]
  · refine Eq.trans ?_ (H_ge m c _ h l).symm
    have e : 2048 + (t.val * 768 + a.val - 2048) = t.val * 768 + a.val := by omega
    pointwise [dhC, val_main_v78]
    rw [NormRow.sum_four]
    refine Ideal.add_congr (Ideal.add_congr (Ideal.add_congr (Finset.sum_congr rfl fun k _ => Ideal.mul_congr ?_ rfl)
      (Finset.sum_congr rfl fun k _ => Ideal.mul_congr ?_ rfl)) (Finset.sum_congr rfl fun k _ => Ideal.mul_congr ?_ rfl))
      (Finset.sum_congr rfl fun k _ => Ideal.mul_congr ?_ rfl)
    · pointwise [val_main_v77, val_main_v70, val_main_v69, val_main_v68, val_main_v0]
      simp only [e]
    · pointwise [val_main_v77, val_main_v72, val_main_v71, val_main_v68, val_main_v0]
      simp only [e]
    · pointwise [val_main_v77, val_main_v74, val_main_v73, val_main_v68, val_main_v0]
      rw [dif_neg (by omega), dif_neg (by omega), dif_pos (by omega)]
      simp only [e, show 2048 + k.val - 1024 - 1024 = k.val by omega]
    · pointwise [val_main_v77, val_main_v76, val_main_v75, val_main_v68, val_main_v0]
      rw [dif_neg (by omega), dif_neg (by omega), dif_neg (by omega)]
      simp only [e, show 3072 + k.val - 1024 - 1024 - 1024 = k.val by omega]

/-- The arguments the gradients are formed of are real numbers. -/
structure Reals (m : (ℓ : Loc nD τ sig) → Buf (Elt Ideal) ℓ) (c : Dev nD) : Prop where
  dp : ∀ i, IsReal (m ((c : Thread nD τ).loc main_arg0) i)
  x : ∀ i, IsReal (m ((c : Thread nD τ).loc main_arg2) i)
  ctx : ∀ i, IsReal (m ((c : Thread nD τ).loc main_arg3) i)
  g : ∀ i, IsReal (m ((c : Thread nD τ).loc main_arg4) i)
  s : ∀ i, IsReal (m ((c : Thread nD τ).loc main_arg5) i)
  cs : ∀ i, IsReal (m ((c : Thread nD τ).loc main_arg6) i)
  w : ∀ i, IsReal (m ((c : Thread nD τ).loc main_arg9) i)

theorem Reals.X (R : Reals m c) (i : Fin 2304) (k : Fin 1024) : IsReal (X m c i k) := by
  unfold Hand.X join; split
  · exact R.x _
  · exact R.ctx _

theorem Reals.S (R : Reals m c) (i : Fin 2304) (k : Fin 1024) : IsReal (S m c i k) := by
  unfold Hand.S join; split
  · exact R.s _
  · exact R.cs _

/-- The cotangent's product with `w_inᵀ` is real. -/
theorem Tile.dh_real (T : Tile m c t p0 p1 p2 p3 w0 w1 w2 w3 r x g sc sl) (R : Reals m c) (a : Fin 768) (l : Fin 1024) :
    IsReal (H m c ⟨t.val * 768 + a.val, by omega⟩ l) := by
  rw [← T.dh, pay13_at]
  refine (((IsReal.sum _ fun k => ?_).add (IsReal.sum _ fun k => ?_)).add (IsReal.sum _ fun k => ?_)).add
    (IsReal.sum _ fun k => ?_)
  · exact ((T.dp0 a k).symm ▸ R.dp _).mul ((T.win0 l k).symm ▸ R.w _)
  · exact ((T.dp1 a k).symm ▸ R.dp _).mul ((T.win1 l k).symm ▸ R.w _)
  · exact ((T.dp2 a k).symm ▸ R.dp _).mul ((T.win2 l k).symm ▸ R.w _)
  · exact ((T.dp3 a k).symm ▸ R.dp _).mul ((T.win3 l k).symm ▸ R.w _)

/-- The reference's derivative of the norm's input, latent rows then context rows. -/
abbrev dxRef (m : (ℓ : Loc nD τ sig) → Buf (Elt Ideal) ℓ) (c : Dev nD) : FVec Ideal S2304x1024 .f32 :=
  val_main_v141 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg9))

/-- One row of it, as the derivative of one row's norm. -/
theorem ref_dx (m : (ℓ : Loc nD τ sig) → Buf (Elt Ideal) ℓ) (c : Dev nD) (i : Fin 2304) (l : Fin 1024) :
    dxRef m c (ix2 i l) = NormRow.rowReference (X m c i) (H m c i) (fun k => m ((c : Thread nD τ).loc main_arg4) (ix1 k))
      (S m c i) (P m c i l) l := by
  by_cases h : i.val < 2048
  · simp only [X, H, S, P, join, dif_pos h]
    pointwise [dxRef, val_main_v141, val_main_v140, val_main_v139, val_main_v138, val_main_v137, val_main_v136, val_main_v135,
      val_main_v134, val_main_v133, val_main_v132, val_main_v131, val_main_v130, val_main_v129, val_main_v128, val_main_v127,
      val_main_v126, val_main_v123, val_main_v122, val_main_v117, val_main_v116, val_main_v19, val_main_v18, val_main_v17,
      val_main_v14, val_main_v11, val_main_v10, val_main_v9, val_main_v8, val_main_v7, val_main_v6, val_main_v5, val_main_v4,
      val_main_v3, val_main_v2, val_main_v1, val_main_cst, val_main_cst_0, val_main_cst_1, val_main_cst_2, val_main_cst_3,
      val_main_cst_24, val_main_cst_25, val_main_cst_26]
    simp only [dif_pos h, Finset.univ_unique, Finset.sum_singleton]
  · simp only [X, H, S, P, join, dif_neg h]
    pointwise [dxRef, val_main_v141, val_main_v109, val_main_v108, val_main_v107, val_main_v106, val_main_v105, val_main_v104,
      val_main_v103, val_main_v102, val_main_v101, val_main_v100, val_main_v99, val_main_v98, val_main_v97, val_main_v96,
      val_main_v94, val_main_v93, val_main_v88, val_main_v87, val_main_v43, val_main_v42, val_main_v41, val_main_v38,
      val_main_v35, val_main_v34, val_main_v33, val_main_v32, val_main_v31, val_main_v30, val_main_v29, val_main_v28,
      val_main_v27, val_main_v26, val_main_v25, val_main_cst_4, val_main_cst_5, val_main_cst_6, val_main_cst_7, val_main_cst_8,
      val_main_cst_15, val_main_cst_16, val_main_cst_17]
    simp only [dif_neg h, Finset.univ_unique, Finset.sum_singleton]
    simp only [NormRow.rowReference, NormRow.coef, NormRow.ms, dhC, zero_add]

set_option maxHeartbeats 1000000 in
/-- One element of a tile of the derivative. -/
theorem Tile.dx (T : Tile m c t p0 p1 p2 p3 w0 w1 w2 w3 r x g sc sl) (R : Reals m c) (a : Fin 768) (l : Fin 1024) (i : grid0.Coords)
    (hi : (i 0).val = t.val) (Q : EReal) (hQ : Q = P m c ⟨t.val * 768 + a.val, by omega⟩ l) :
    (show EReal from k0_pay17 (F := Ideal) (k0_pay13 (F := Ideal) p0 w0 p1 w1 p2 w2 p3 w3) (k0_pay14 i) r x g sc sl (ix2 a l)) + Q
      = dxRef m c (ix2 ⟨t.val * 768 + a.val, by omega⟩ l) := by
  rw [pay17_at, ref_dx, ← hQ, hi]
  refine Eq.trans ?_ (NormRow.row_eq (x := X m c ⟨t.val * 768 + a.val, by omega⟩) (d := H m c ⟨t.val * 768 + a.val, by omega⟩)
    (g := fun k => m ((c : Thread nD τ).loc main_arg4) (ix1 k)) (s := S m c ⟨t.val * 768 + a.val, by omega⟩)
    (R.X _) (T.dh_real R a) (fun k => R.g _) (R.S _) Q l)
  exact NormRow.rowKernel_congr l (T.row a) (T.dh a) T.gain (T.scale a) (T.root a) rfl

/-- The normed rows of a tile. -/
theorem Tile.xn (T : Tile m c t p0 p1 p2 p3 w0 w1 w2 w3 r x g sc sl) (a : Fin 768) (l : Fin 1024) :
    k0_pay16 (F := Ideal) r x (ix2 a l) = X m c ⟨t.val * 768 + a.val, by omega⟩ l
      * Ideal.rsqrt (NormRow.ms fun k => X m c ⟨t.val * 768 + a.val, by omega⟩ k) :=
  (pay16_at r x (ix2 a l)).trans (Ideal.mul_congr (T.row a l) (T.root a))

/-- One segment's part of a tile's column sums of the product with `w_inᵀ`. -/
theorem Tile.sumH (T : Tile m c t p0 p1 p2 p3 w0 w1 w2 w3 r x g sc sl) (s : Nat) (i : grid0.Coords) (hi : (i 0).val = t.val) (l : Fin 1024) :
    (tileSum s i fun a => k0_pay13 (F := Ideal) p0 w0 p1 w1 p2 w2 p3 w3 (ix2 a l))
      = ∑ a : Fin 768, only s (t.val * 768 + a.val) (H m c ⟨t.val * 768 + a.val, by omega⟩ l) := by
  unfold tileSum
  rw [hi]
  exact Finset.sum_congr rfl fun a _ => congrArg _ (T.dh a l)

/-- The product of the cotangent's product and the normed row. -/
abbrev HX (m : (ℓ : Loc nD τ sig) → Buf (Elt Ideal) ℓ) (c : Dev nD) (i : Fin 2304) (l : Fin 1024) : EReal :=
  H m c i l * (X m c i l * Ideal.rsqrt (NormRow.ms fun k => X m c i k))

/-- One segment's part of a tile's column sums of that. -/
theorem Tile.sumHX (T : Tile m c t p0 p1 p2 p3 w0 w1 w2 w3 r x g sc sl) (s : Nat) (i : grid0.Coords) (hi : (i 0).val = t.val) (l : Fin 1024) :
    (tileSum s i fun a => k0_pay13 (F := Ideal) p0 w0 p1 w1 p2 w2 p3 w3 (ix2 a l) * k0_pay16 (F := Ideal) r x (ix2 a l))
      = ∑ a : Fin 768, only s (t.val * 768 + a.val) (HX m c ⟨t.val * 768 + a.val, by omega⟩ l) := by
  unfold tileSum
  rw [hi]
  exact Finset.sum_congr rfl fun a _ => congrArg _ (Ideal.mul_congr (T.dh a l) (T.xn a l))

variable (m)

/-- The residual's cotangent for 256 rows of a tile: its block where the rows are latent, nothing else. -/
theorem res_at (c : Dev nD) {t n a s : Nat} (hn : n < 2304) (ht : t < 3) (hs : s < 3) (ha : a < 256) (e : n = t * 768 + (s * 256 + a)) (l : Fin 1024) (q : EReal)
    (hq : ∀ h : t * 3 + s < 8, q = m ((c : Thread nD τ).loc main_arg1) (ix2 ⟨n, by omega⟩ l)) :
    (if t * 3 + s < 8 then q else 0) = P m c ⟨n, hn⟩ l := by
  by_cases h : t * 3 + s < 8
  · simp only [P, join, if_pos h, dif_pos (show n < 2048 by omega)]
    exact hq h
  · simp only [P, join, if_neg h, dif_neg (show ¬n < 2048 by omega)]

set_option maxHeartbeats 1000000 in
/-- The derivative of the norm's input after the run. -/
theorem dx_final (c : Dev nD) (R : Reals m c) : (dats m 0 c).arrAt 9 cfg0.N = dxRef m c := by
  refine (dats m 0 c).arrAt_eq_of_covers 9 _ (by decide +kernel) fun t _ y => ?_
  blk_simp
  rw [after0_9]
  have hN : t.val < 3 := lt_of_lt_of_eq t.isLt N_0
  have T := tile_at m c t hN
  by_cases h : t.val % 3 = 0
  on_goal 1 => rw [outsAt0_A m c t h (by omega) h (by omega)]
  on_goal 2 => rw [outsAt0_B m c t h (by omega) h (by omega)]
  all_goals
    frame_out
    canon_tiles y hy
    · idx_vars y
      refine (pay21_at _ _ _ _ _).trans ((T.dx R _ _ _ (coord t) _ (res_at m c (t := (grid0.coords t 0).val) (s := 2) (a := y0.val) _
        (by rw [coord]; exact hN) (by decide) y0_lt ?_ _ _ fun h' => ?_)).trans ?_)
      · rw [coord]
      · rw [coord] at h'
        blk_ext [iblk, V, idx t]
      · blk_ext [iblk, V, idx t]
    · idx_vars y
      refine (pay20_at _ _ _ _ _).trans ((T.dx R _ _ _ (coord t) _ (res_at m c (t := (grid0.coords t 0).val) (s := 1) (a := y0.val) _
        (by rw [coord]; exact hN) (by decide) y0_lt ?_ _ _ fun h' => ?_)).trans ?_)
      · rw [coord]
      · rw [coord] at h'
        blk_ext [iblk, V, idx t]
      · blk_ext [iblk, V, idx t]
    · idx_vars y
      refine (pay19_at _ _ _ _ _).trans ((T.dx R _ _ _ (coord t) _ (res_at m c (t := (grid0.coords t 0).val) (s := 0) (a := y0.val) _
        (by rw [coord]; exact hN) (by decide) y0_lt ?_ _ _ fun h' => ?_)).trans ?_)
      · rw [coord]
        show t.val * 768 + y0.val = _
        omega
      · rw [coord] at h'
        blk_ext [iblk, V, idx t]
      · blk_ext [iblk, V, idx t]

/-- The sums over each segment's rows of the cotangent's product with `w_inᵀ`, after the run. -/
theorem dshift_sum (c : Dev nD) : (dats m 0 c).arrAt 10 cfg0.N
    = fun j : S2x1x1024.Idx => (∑ i : Fin 2304, only (j 0).val i.val (H m c i (j 2)) : EReal) := by
  refine (dats m 0 c).arrAt_eq_of_after_last 10 t0_2 (by decide +kernel) _ fun j => ?_
  have hN : ∀ t : Fin cfg0.N, t.val < 3 := fun t => lt_of_lt_of_eq t.isLt N_0
  blk_simp
  rw [after0_10, Pipeline.eq_sum_fin_of_reset_step_apply_last (fun n h => (outsAt0 m c n h).2.1) 3 (fun _ => 0)
    (fun t j => ∑ a : Fin 768, only (j 0).val (t.val * 768 + a.val) (H m c ⟨t.val * 768 + a.val, by have := hN t; omega⟩ (j 2)))
    (fun t h j => by
      have T := tile_at m c t (hN t)
      rw [outsAt0_A m c t h (by have := hN t; omega) h (by have := hN t; omega), zero_add]; frame_out
      canon_tiles x hx
      · refine (pay3_at _ _ _).trans ((T.sumH 1 _ (coord t) _).trans ?_)
        rw [show (j 0).val = 1 by omega, show j 2 = x 2 from Fin.ext hx2]
      · refine (pay2_at _ _ _).trans ((T.sumH 0 _ (coord t) _).trans ?_)
        rw [show (j 0).val = 0 by omega, show j 2 = x 2 from Fin.ext hx2])
    (fun t h j => by
      have T := tile_at m c t (hN t)
      rw [outsAt0_B m c t h (by omega) h (by omega)]; frame_out
      canon_tiles x hx
      · refine (pay5_at _ _ _ _).trans (Ideal.add_congr ?_ ((T.sumH 1 _ (coord t) _).trans ?_))
        · pointwise []
          blk_ext []
        · rw [show (j 0).val = 1 by omega, show j 2 = x 2 from Fin.ext hx2]
      · refine (pay4_at _ _ _ _).trans (Ideal.add_congr ?_ ((T.sumH 0 _ (coord t) _).trans ?_))
        · pointwise []
          blk_ext []
        · rw [show (j 0).val = 0 by omega, show j 2 = x 2 from Fin.ext hx2])
    (le_of_eq N_0) t0_2 rfl j, zero_add]
  exact Cert.Seg.sum_tiles N_0 _ _ (fun i => H m c i (j 2)) fun _ _ => rfl

/-- The sums over each segment's rows of that product times the normed rows, after the run. -/
theorem dgeff_sum (c : Dev nD) : (dats m 0 c).arrAt 11 cfg0.N
    = fun j : S2x1x1024.Idx => (∑ i : Fin 2304, only (j 0).val i.val (HX m c i (j 2)) : EReal) := by
  refine (dats m 0 c).arrAt_eq_of_after_last 11 t0_2 (by decide +kernel) _ fun j => ?_
  have hN : ∀ t : Fin cfg0.N, t.val < 3 := fun t => lt_of_lt_of_eq t.isLt N_0
  blk_simp
  rw [after0_11, Pipeline.eq_sum_fin_of_reset_step_apply_last (fun n h => (outsAt0 m c n h).2.2) 3 (fun _ => 0)
    (fun t j => ∑ a : Fin 768, only (j 0).val (t.val * 768 + a.val) (HX m c ⟨t.val * 768 + a.val, by have := hN t; omega⟩ (j 2)))
    (fun t h j => by
      have T := tile_at m c t (hN t)
      rw [outsAt0_A m c t h (by have := hN t; omega) h (by have := hN t; omega), zero_add]; frame_out
      canon_tiles x hx
      · refine (pay10_at _ _ _ _).trans ((T.sumHX 1 _ (coord t) _).trans ?_)
        rw [show (j 0).val = 1 by omega, show j 2 = x 2 from Fin.ext hx2]
      · refine (pay9_at _ _ _ _).trans ((T.sumHX 0 _ (coord t) _).trans ?_)
        rw [show (j 0).val = 0 by omega, show j 2 = x 2 from Fin.ext hx2])
    (fun t h j => by
      have T := tile_at m c t (hN t)
      rw [outsAt0_B m c t h (by omega) h (by omega)]; frame_out
      canon_tiles x hx
      · refine (pay12_at _ _ _ _ _).trans (Ideal.add_congr ?_ ((T.sumHX 1 _ (coord t) _).trans ?_))
        · pointwise []
          blk_ext []
        · rw [show (j 0).val = 1 by omega, show j 2 = x 2 from Fin.ext hx2]
      · refine (pay11_at _ _ _ _ _).trans (Ideal.add_congr ?_ ((T.sumHX 0 _ (coord t) _).trans ?_))
        · pointwise []
          blk_ext []
        · rw [show (j 0).val = 0 by omega, show j 2 = x 2 from Fin.ext hx2])
    (le_of_eq N_0) t0_2 rfl j, zero_add]
  exact Cert.Seg.sum_tiles N_0 _ _ (fun i => HX m c i (j 2)) fun _ _ => rfl

end Cert.NormNaKIdeal.Hand

end
-- ==== Proof.NormNaRun.lean ====
/-
  The gradient through the norm and `w_in`, four cotangent blocks over two segments: the whole call's run, with the host
  lines after the kernel, as the stages of the derivative.
-/
module

public import proofs.«01_k».proof.Proof.NormNa

@[expose] public section

set_option maxRecDepth 16384

noncomputable section

open Idealize.ShloMosaic Idealize.ShloMosaic.TcCoe Idealize.SL.Sem
open Cert.NormNaRIdeal.Read
open Cert.Finite (IsReal)
open Cert.Seg (join only)

namespace Cert.NormNaKIdeal.Hand

open Cert.NormNaKIdeal Cert.NormNaKIdeal.Gen

variable (m : (ℓ : Loc nD τ sig) → Buf (Elt Ideal) ℓ)

/-- What the host lines after the kernel find: the kernel's arrays after its run, every other buffer as it was. -/
abbrev mid (c : Dev nD) : Valuation τ sig (Elt Ideal) :=
  Pipeline.withArrays spec0 c (V0 m c) fun w => (dats m 0 c).arrAt w cfg0.N

/-- An array of the kernel's, as the host lines after it find it. -/
theorem mid_arr (c : Dev nD) (w : Fin cfg0.W) : mid m c (Proc.devRef .tc (Pipeline.arrRef spec0 w)) = (dats m 0 c).arrAt w cfg0.N :=
  Pipeline.Dat.withArrays_arrAt (dats m 0 c) sharedIn0 (V0 m c) (A_eq m c) w

theorem mid_dshift (c : Dev nD) : (show S2x1x1024.Idx → EReal from mid m c (Proc.devRef .tc main_v15_1))
    = fun j : S2x1x1024.Idx => (∑ i : Fin 2304, only (j 0).val i.val (H m c i (j 2)) : EReal) :=
  (mid_arr m c 10).trans (dshift_sum m c)

theorem mid_dgeff (c : Dev nD) : (show S2x1x1024.Idx → EReal from mid m c (Proc.devRef .tc main_v15_2))
    = fun j : S2x1x1024.Idx => (∑ i : Fin 2304, only (j 0).val i.val (HX m c i (j 2)) : EReal) :=
  (mid_arr m c 11).trans (dgeff_sum m c)

theorem mid_gain (c : Dev nD) : mid m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

theorem mid_scale (c : Dev nD) : (show S2x1x1024.Idx → EReal from mid m c (Proc.devRef .tc main_v5))
    = fun j => if (j 0).val = 0 then m ((c : Thread nD τ).loc main_arg5) (ix1 (j 2)) else m ((c : Thread nD τ).loc main_arg6) (ix1 (j 2)) :=
  (mid_arr m c 5).trans ((((dats m 0 c).arrAt_in 5 (by decide) _).trans (A_eq m c 5)).trans (funext fun j => by
    idx_vars j
    obtain rfl : j1 = 0 := Subsingleton.elim _ _
    exact s_entry m c j0 j2))

/-- The reference's normed latent rows. -/
abbrev xnL (c : Dev nD) : FVec Ideal S2048x1024 .f32 := val_main_v13 (F := Ideal) (m ((c : Thread nD τ).loc main_arg2))

/-- The reference's normed context rows. -/
abbrev xnC (c : Dev nD) : FVec Ideal S256x1024 .f32 := val_main_v37 (F := Ideal) (m ((c : Thread nD τ).loc main_arg3))

theorem H_latent (c : Dev nD) (k : Fin 2048) (l : Fin 1024) : H m c (Fin.castAdd 256 k) l = dhL m c (ix2 k l) :=
  H_lt m c _ k.isLt l

theorem H_context (c : Dev nD) (k : Fin 256) (l : Fin 1024) : H m c (Fin.natAdd 2048 k) l = dhC m c (ix2 k l) := by
  refine (H_ge m c (n := 2048 + k.val) (by omega) (by omega) l).trans ?_
  rw [show (⟨2048 + k.val - 2048, by omega⟩ : Fin 256) = k from Fin.ext (by simp)]

theorem X_latent (c : Dev nD) (k : Fin 2048) (l : Fin 1024) :
    X m c (Fin.castAdd 256 k) l = m ((c : Thread nD τ).loc main_arg2) (ix2 k l) := by
  simp only [X, join, Fin.val_castAdd, dif_pos k.isLt]

theorem X_context (c : Dev nD) (k : Fin 256) (l : Fin 1024) :
    X m c (Fin.natAdd 2048 k) l = m ((c : Thread nD τ).loc main_arg3) (ix2 k l) := by
  simp only [X, join, Fin.val_natAdd, dif_neg (show ¬2048 + k.val < 2048 by omega), Nat.add_sub_cancel_left]

theorem HX_latent (c : Dev nD) (k : Fin 2048) (l : Fin 1024) :
    HX m c (Fin.castAdd 256 k) l = dhL m c (ix2 k l) * xnL m c (ix2 k l) := by
  refine Ideal.mul_congr (H_latent m c k l) ?_
  simp only [X_latent]
  pointwise [xnL, val_main_v13, val_main_v12, val_main_v8, val_main_v7, val_main_v6, val_main_v5, val_main_v4,
    val_main_v3, val_main_v2, val_main_v1, val_main_cst, val_main_cst_0, val_main_cst_1]

theorem HX_context (c : Dev nD) (k : Fin 256) (l : Fin 1024) :
    HX m c (Fin.natAdd 2048 k) l = dhC m c (ix2 k l) * xnC m c (ix2 k l) := by
  refine Ideal.mul_congr (H_context m c k l) ?_
  simp only [X_context]
  pointwise [xnC, val_main_v37, val_main_v36, val_main_v32, val_main_v31, val_main_v30, val_main_v29, val_main_v28,
    val_main_v27, val_main_v26, val_main_v25, val_main_cst_4, val_main_cst_5, val_main_cst_6]

/-- The product with `w_inᵀ` is real at every row. -/
theorem H_real {m : (ℓ : Loc nD τ sig) → Buf (Elt Ideal) ℓ} {c : Dev nD} (R : Reals m c) (i : Fin 2304) (l : Fin 1024) :
    IsReal (H m c i l) := by
  have T := tile_at m c ⟨i.val / 768, lt_of_lt_of_eq (by omega) N_0.symm⟩ (by show i.val / 768 < 3; omega)
  have e := T.dh_real R ⟨i.val % 768, by omega⟩ l
  rwa [show (⟨(⟨i.val / 768, by omega⟩ : Fin 3).val * 768 + (⟨i.val % 768, by omega⟩ : Fin 768).val, by omega⟩ : Fin 2304) = i from
    Fin.ext (Nat.div_add_mod' _ _)] at e

theorem dhL_real {m : (ℓ : Loc nD τ sig) → Buf (Elt Ideal) ℓ} {c : Dev nD} (R : Reals m c) (k : Fin 2048) (l : Fin 1024) :
    IsReal (dhL m c (ix2 k l)) := H_latent m c k l ▸ H_real R _ l

theorem dhC_real {m : (ℓ : Loc nD τ sig) → Buf (Elt Ideal) ℓ} {c : Dev nD} (R : Reals m c) (k : Fin 256) (l : Fin 1024) :
    IsReal (dhC m c (ix2 k l)) := H_context m c k l ▸ H_real R _ l

theorem xnL_real {m : (ℓ : Loc nD τ sig) → Buf (Elt Ideal) ℓ} {c : Dev nD} (R : Reals m c) (k : Fin 2048) (l : Fin 1024) :
    IsReal (xnL m c (ix2 k l)) := by
  have e : xnL m c (ix2 k l) = (show EReal from m ((c : Thread nD τ).loc main_arg2) (ix2 k l))
      * Ideal.rsqrt (NormRow.ms fun k' => m ((c : Thread nD τ).loc main_arg2) (ix2 k k')) := by
    pointwise [xnL, val_main_v13, val_main_v12, val_main_v8, val_main_v7, val_main_v6, val_main_v5, val_main_v4,
      val_main_v3, val_main_v2, val_main_v1, val_main_cst, val_main_cst_0, val_main_cst_1]
  exact e ▸ (R.x _).mul (NormRow.rsqrt_real fun k => R.x _)

theorem xnC_real {m : (ℓ : Loc nD τ sig) → Buf (Elt Ideal) ℓ} {c : Dev nD} (R : Reals m c) (k : Fin 256) (l : Fin 1024) :
    IsReal (xnC m c (ix2 k l)) := by
  have e : xnC m c (ix2 k l) = (show EReal from m ((c : Thread nD τ).loc main_arg3) (ix2 k l))
      * Ideal.rsqrt (NormRow.ms fun k' => m ((c : Thread nD τ).loc main_arg3) (ix2 k k')) := by
    pointwise [xnC, val_main_v37, val_main_v36, val_main_v32, val_main_v31, val_main_v30, val_main_v29, val_main_v28,
      val_main_v27, val_main_v26, val_main_v25, val_main_cst_4, val_main_cst_5, val_main_cst_6]
  exact e ▸ (R.ctx _).mul (NormRow.rsqrt_real fun k => R.ctx _)

/-- The latent rows' sums of the product with the normed rows. -/
theorem sumHX_latent (c : Dev nD) (l : Fin 1024) :
    (∑ i : Fin 2304, only 0 i.val (HX m c i l)) = ∑ k : Fin 2048, dhL m c (ix2 k l) * xnL m c (ix2 k l) :=
  (Cert.Seg.only_latent fun i => HX m c i l).trans (Finset.sum_congr rfl fun k _ => HX_latent m c k l)

/-- The context rows' sums of the product with the normed rows. -/
theorem sumHX_context (c : Dev nD) (l : Fin 1024) :
    (∑ i : Fin 2304, only 1 i.val (HX m c i l)) = ∑ k : Fin 256, dhC m c (ix2 k l) * xnC m c (ix2 k l) :=
  (Cert.Seg.only_context fun i => HX m c i l).trans (Finset.sum_congr rfl fun k _ => HX_context m c k l)

/-- The latent shift row's gradient. -/
theorem dshift_tail (c : Dev nD) : Pipeline.afterTail₀ cfgs (dats m) 0 (V0 m) [hostOps1] c main_v28
    = val_main_v112 (F := Ideal) (m ((c : Thread nD τ).loc main_arg0)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![0, 0] (shapeCast S2x1024 (show FVec Ideal S2x1x1024 .f32 from mid m c (Proc.devRef .tc main_v15_1)) shapeCasts_S2x1x1024_S2x1024) slices_S2x1024_S1x1024_0_0) shapeCasts_S1x1024_S1024 j = _
  rw [mid_dshift]
  idx_vars j
  refine Eq.trans ?_ (((Cert.Seg.only_latent fun i => H m c i j0).trans (Finset.sum_congr rfl fun k _ => H_latent m c k j0)).trans ?_)
  · pointwise []
  · pointwise [val_main_v112, val_main_v111, val_main_v110, val_main_cst_18, val_main_cst_19]
    simp only [Finset.univ_unique, Finset.sum_singleton]

/-- The context shift row's gradient. -/
theorem dcshift_tail (c : Dev nD) : Pipeline.afterTail₀ cfgs (dats m) 0 (V0 m) [hostOps1] c main_v30
    = val_main_v83 (F := Ideal) (m ((c : Thread nD τ).loc main_arg0)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![1, 0] (shapeCast S2x1024 (show FVec Ideal S2x1x1024 .f32 from mid m c (Proc.devRef .tc main_v15_1)) shapeCasts_S2x1x1024_S2x1024) slices_S2x1024_S1x1024_1_0) shapeCasts_S1x1024_S1024 j = _
  rw [mid_dshift]
  idx_vars j
  refine Eq.trans ?_ (((Cert.Seg.only_context fun i => H m c i j0).trans (Finset.sum_congr rfl fun k _ => H_context m c k j0)).trans ?_)
  · pointwise []
  · pointwise [val_main_v83, val_main_v82, val_main_v81, val_main_cst_9, val_main_cst_10]
    simp only [Finset.univ_unique, Finset.sum_singleton]

/-- The latent scale row's gradient. -/
theorem dscale_tail (c : Dev nD) (R : Reals m c) : Pipeline.afterTail₀ cfgs (dats m) 0 (V0 m) [hostOps1] c main_v32
    = val_main_v118 (F := Ideal) (m ((c : Thread nD τ).loc main_arg0)) (m ((c : Thread nD τ).loc main_arg2)) (m ((c : Thread nD τ).loc main_arg4)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![0, 0] (mulf (shapeCast S2x1024 (show FVec Ideal S2x1x1024 .f32 from mid m c (Proc.devRef .tc main_v15_2)) shapeCasts_S2x1x1024_S2x1024)
    (broadcastInDim S2x1024 ![0, 1] bcast_S1x1024_S2x1024_0_1 (broadcastInDim S1x1024 ![1] bcast_S1024_S1x1024_1 (show FVec Ideal S1024 .f32 from mid m c (Proc.devRef .tc main_arg4))))) slices_S2x1024_S1x1024_0_0) shapeCasts_S1x1024_S1024 j = _
  rw [mid_dgeff, mid_gain]
  idx_vars j
  refine Eq.trans ?_ ((NormRow.dscale_eq (fun k => dhL_real R k j0) (fun k => xnL_real R k j0) (R.g (ix1 j0))).trans ?_)
  · rw [← sumHX_latent]
    pointwise []
  · pointwise [val_main_v118, val_main_v115, val_main_v114, val_main_v113, val_main_v16, val_main_v15, val_main_v14, val_main_cst_20, val_main_cst_21]
    simp only [Finset.univ_unique, Finset.sum_singleton]

/-- The context scale row's gradient. -/
theorem dcscale_tail (c : Dev nD) (R : Reals m c) : Pipeline.afterTail₀ cfgs (dats m) 0 (V0 m) [hostOps1] c main_v34
    = val_main_v89 (F := Ideal) (m ((c : Thread nD τ).loc main_arg0)) (m ((c : Thread nD τ).loc main_arg3)) (m ((c : Thread nD τ).loc main_arg4)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![1, 0] (mulf (shapeCast S2x1024 (show FVec Ideal S2x1x1024 .f32 from mid m c (Proc.devRef .tc main_v15_2)) shapeCasts_S2x1x1024_S2x1024)
    (broadcastInDim S2x1024 ![0, 1] bcast_S1x1024_S2x1024_0_1 (broadcastInDim S1x1024 ![1] bcast_S1024_S1x1024_1 (show FVec Ideal S1024 .f32 from mid m c (Proc.devRef .tc main_arg4))))) slices_S2x1024_S1x1024_1_0) shapeCasts_S1x1024_S1024 j = _
  rw [mid_dgeff, mid_gain]
  idx_vars j
  refine Eq.trans ?_ ((NormRow.dscale_eq (fun k => dhC_real R k j0) (fun k => xnC_real R k j0) (R.g (ix1 j0))).trans ?_)
  · rw [← sumHX_context]
    pointwise []
  · pointwise [val_main_v89, val_main_v86, val_main_v85, val_main_v84, val_main_v40, val_main_v39, val_main_v38, val_main_cst_11, val_main_cst_12]
    simp only [Finset.univ_unique, Finset.sum_singleton]

/-- The gain's gradient: both segments' rows, each by its own scale. -/
theorem dgain_tail (c : Dev nD) (R : Reals m c) : Pipeline.afterTail₀ cfgs (dats m) 0 (V0 m) [hostOps1] c main_v26
    = val_main_v125 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9)) := by
  unfold Pipeline.afterTail₀
  simp only [hostOps1, List.flatten_cons, List.flatten_nil, List.append_nil]
  after_results
  funext (j : S1024.Idx)
  change Host.reduceAdd (mulf (shapeCast S2x1024 (show FVec Ideal S2x1x1024 .f32 from mid m c (Proc.devRef .tc main_v15_2)) shapeCasts_S2x1x1024_S2x1024)
    (addf (broadcastInDim S2x1024 ![] bcast_S_S2x1024 (constant S_ FTy.f32 1065353216#32))
      (shapeCast S2x1024 (show FVec Ideal S2x1x1024 .f32 from mid m c (Proc.devRef .tc main_v5)) shapeCasts_S2x1x1024_S2x1024)))
      (constant S_ FTy.f32 0#32) reducesTo_S2x1024_S1024_d0 h_S_ j = _
  rw [mid_dgeff, mid_scale]
  idx_vars j
  have eL := NormRow.dgain_eq (fun k => dhL_real R k j0) (fun k => xnL_real R k j0) (R.s (ix1 j0))
  have eC := NormRow.dgain_eq (fun k => dhC_real R k j0) (fun k => xnC_real R k j0) (R.cs (ix1 j0))
  rw [← sumHX_latent] at eL
  rw [← sumHX_context] at eC
  refine Eq.trans ?_ ((Ideal.add_congr eL eC).trans ((add_comm _ _).trans ?_))
  · pointwise []
    rw [Fin.sum_univ_two]
    rfl
  · pointwise [val_main_v125, val_main_v124, val_main_v121, val_main_v120, val_main_v119, val_main_v117, val_main_v116, val_main_v19,
      val_main_v18, val_main_v17, val_main_cst_3, val_main_cst_22, val_main_cst_23, val_main_v95, val_main_v92, val_main_v91,
      val_main_v90, val_main_v88, val_main_v87, val_main_v43, val_main_v42, val_main_v41, val_main_cst_8, val_main_cst_13, val_main_cst_14]
    simp only [Finset.univ_unique, Finset.sum_singleton]

/-- The call's run: every result is the derivative's stage, and the arguments stay. -/
theorem run (ρ : Dev nD → PrngReg) (R : ∀ c, Reals m c) :
    θ_run defs (onTc (τ := τ) (main (F := Ideal))) ⟨m, fun _ => 0, ρ⟩ fun r => ∀ c : Dev nD,
      r.2.mem ((c.tc : Thread nD τ).loc main_v15_0) = dxRef m c
      ∧ r.2.mem ((c.tc : Thread nD τ).loc main_v28) = val_main_v112 (F := Ideal) (m ((c : Thread nD τ).loc main_arg0)) (m ((c : Thread nD τ).loc main_arg9))
      ∧ r.2.mem ((c.tc : Thread nD τ).loc main_v30) = val_main_v83 (F := Ideal) (m ((c : Thread nD τ).loc main_arg0)) (m ((c : Thread nD τ).loc main_arg9))
      ∧ r.2.mem ((c.tc : Thread nD τ).loc main_v32) = val_main_v118 (F := Ideal) (m ((c : Thread nD τ).loc main_arg0)) (m ((c : Thread nD τ).loc main_arg2)) (m ((c : Thread nD τ).loc main_arg4)) (m ((c : Thread nD τ).loc main_arg9))
      ∧ r.2.mem ((c.tc : Thread nD τ).loc main_v34) = val_main_v89 (F := Ideal) (m ((c : Thread nD τ).loc main_arg0)) (m ((c : Thread nD τ).loc main_arg3)) (m ((c : Thread nD τ).loc main_arg4)) (m ((c : Thread nD τ).loc main_arg9))
      ∧ r.2.mem ((c.tc : Thread nD τ).loc main_v26) = val_main_v125 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.2 c).1 9).trans (dx_final m c (R c)),
      ((h.2 c).2 main_v28 (Pipeline.mem_restRefs_of main_v28 rfl (by decide))).trans (dshift_tail m c),
      ((h.2 c).2 main_v30 (Pipeline.mem_restRefs_of main_v30 rfl (by decide))).trans (dcshift_tail m c),
      ((h.2 c).2 main_v32 (Pipeline.mem_restRefs_of main_v32 rfl (by decide))).trans (dscale_tail m c (R c)),
      ((h.2 c).2 main_v34 (Pipeline.mem_restRefs_of main_v34 rfl (by decide))).trans (dcscale_tail m c (R c)),
      ((h.2 c).2 main_v26 (Pipeline.mem_restRefs_of main_v26 rfl (by decide))).trans (dgain_tail m c (R c)), h.1 c⟩)
    (θ_run_and (unchanged m ρ) (run_main m ρ))

end Cert.NormNaKIdeal.Hand

end
-- ==== Proof.NormNaClaim.lean ====
/-
  The gradient through the norm and `w_in` (four cotangent blocks, two segments): the call's results are the derivative's.
-/
module

public import proofs.«01_k».proof.Defs
public import proofs.«01_k».proof.Proof.NormNaRun
public import proofs.«01_k».proof.Proof.Gen.NormNaRIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.NormNaRIdeal.Read

/-- The shape relations the precondition's operations take. -/
theorem normna_pre_facts : Cert.Pre_normna_finite.Facts := by
  constructor <;> decide

/-- The precondition says the arguments the gradients are formed of are real. -/
theorem normna_reals [Cert.Pre_normna_finite.Facts] (m : (ℓ : Loc Cert.NormNaKIdeal.nD Cert.NormNaKIdeal.τ Cert.NormNaKIdeal.sig) → Buf (Elt Ideal) ℓ)
    (h : Cert.Pre_NormNaKIdeal_normna_finite m) (c : Dev Cert.NormNaKIdeal.nD) : Cert.NormNaKIdeal.Hand.Reals m c := by
  have e := congrFun (h c) (fun a => a.elim0)
  obtain ⟨e, hw⟩ := Cert.Finite.and_split e
  obtain ⟨e, hcs⟩ := Cert.Finite.and_split e
  obtain ⟨e, hs⟩ := Cert.Finite.and_split e
  obtain ⟨e, hg⟩ := Cert.Finite.and_split e
  obtain ⟨e, hctx⟩ := Cert.Finite.and_split e
  obtain ⟨hd, hx⟩ := Cert.Finite.and_split e
  exact ⟨Cert.Finite.of_all _ _ _ _ _ _ hd, Cert.Finite.of_all _ _ _ _ _ _ hx, Cert.Finite.of_all _ _ _ _ _ _ hctx,
    Cert.Finite.of_all _ _ _ _ _ _ hg, Cert.Finite.of_all _ _ _ _ _ _ hs, Cert.Finite.of_all _ _ _ _ _ _ hcs,
    Cert.Finite.of_all _ _ _ _ _ _ hw⟩

/-- The reference runs and leaves its arguments. -/
theorem normna_reference_frame : Cert.quiescent_NormNaRIdeal := by
  intro m g _
  exact (θ_run _ _ _).mono (fun r h => ⟨fun c => (h c).2.2.2.2.2.2, sem_eq_zero_of_no_sems rfl _⟩)
    (Cert.NormNaRIdeal.Value.run m g)

/-- The call's gradients are the derivative's. -/
theorem normna_value [Cert.Pre_normna_finite.Facts] : Cert.algebraic_NormNaKIdeal_NormNaRIdeal_pre_normna_finite := by
  pair_intro
  · run_from Cert.NormNaKIdeal.Hand.run m g (fun c => normna_reals m ‹_› c)
  · refine (θ_run _ _ _).mono (fun r h c => ?_) (Cert.NormNaRIdeal.Value.run m' g')
    obtain ⟨e0, e1, e2, e3, e4, e5, e6, e7, e8, e9⟩ := hagree c
    obtain ⟨h0, h1, h2, h3, h4, h5, ha⟩ := h c
    refine ⟨h0.trans ?_, h1.trans ?_, h2.trans ?_, h3.trans ?_, h4.trans ?_, h5.trans ?_, ha⟩
    · unfold Cert.NormNaRIdeal.Value.res_main_v141
      rw [e0, e1, e2, e3, e4, e5, e6, e9]
      rfl
    · rw [e0, e9]
      rfl
    · rw [e0, e9]
      rfl
    · rw [e0, e2, e4, e9]
      rfl
    · rw [e0, e3, e4, e9]
      rfl
    · unfold Cert.NormNaRIdeal.Value.res_main_v125
      rw [e0, e2, e3, e5, e6, e9]
      rfl

end Cert.Proof

end
-- ==== Proof.NormP0.lean ====
/-
  The gradient through the norm and `w_in`, two cotangent blocks over two segments: 2048 latent rows and 256 context
  rows, each with its own scale and shift. The grid walks 768 rows at a time, so the last point holds rows of both, and
  only the latent rows of the derivative are written back.
-/
module

public import proofs.«01_k».proof.Proof.Gen.NormP0KIdeal.Frame
public import proofs.«01_k».proof.Proof.Gen.NormP0RIdeal.Read
public import proofs.«01_k».proof.Proof.NormRow
public import proofs.«01_k».proof.Proof.Seg
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormP0RIdeal.Read
open Cert.Finite (IsReal)
open Cert.Seg (join only)

namespace Cert.NormP0KIdeal.Hand

open Cert.NormP0KIdeal Cert.NormP0KIdeal.Gen

variable (m : (ℓ : Loc nD τ sig) → Buf (Elt Ideal) ℓ)

/-- Where each window's block sits. -/
theorem idx : ∀ t : Fin cfg0.N, win0_0.index t = ![0, t.val, 0] ∧ win0_1.index t = ![0, 0]
    ∧ win0_2.index t = ![t.val, 0] ∧ win0_3.index t = ![t.val, 0] ∧ win0_4.index t = ![0, 0]
    ∧ win0_5.index t = ![0, 0, 0] ∧ win0_6.index t = ![t.val * 3, 0]
    ∧ win0_7.index t = ![t.val * 3 + 1, 0] ∧ win0_8.index t = ![t.val * 3 + 2, 0]
    ∧ win0_9.index t = ![t.val, 0] ∧ win0_10.index t = ![0, 0, 0] ∧ win0_11.index t = ![0, 0, 0]
    ∧ (grid0.coords t 0).val = t.val :=
  (by decide +kernel : ∀ t : Fin grid0.N, _)

theorem coord (t : Fin cfg0.N) : (grid0.coords t 0).val = t.val := (idx t).2.2.2.2.2.2.2.2.2.2.2.2

/-- The mask of point `i` marks the context rows. -/
theorem mask_at (i : grid0.Coords) (r : Fin 768) :
    k0_pay15 i (ix2 r 0) = if 2048 ≤ (i 0).val * 768 + r.val then 1#1 else 0#1 := by
  pointwise [k0_pay15]
  exact Cert.Seg.ctx_word (i 0).isLt r.isLt

/-- The product of a tile's cotangents with `w_inᵀ`: two blocks against two halves of the columns. -/
theorem pay14_at (p0 p1 : FVec Ideal S1x768x1024 .bf16) (w0 w1 : FVec Ideal S1024x1024 .bf16) (j : S768x1024.Idx) :
    k0_pay14 (F := Ideal) p0 w0 p1 w1 j
      = (∑ k : Fin 1024, p0 (ix3 0 (j 0) k) * w0 (ix2 (j 1) k)) + ∑ k : Fin 1024, p1 (ix3 0 (j 0) k) * w1 (ix2 (j 1) k) := by
  pointwise [k0_pay14]

/-- A tile's normed rows. -/
theorem pay17_at (r : FVec Ideal S768x1 .f32) (x : FVec Ideal S768x1024 .f32) (j : S768x1024.Idx) :
    k0_pay17 (F := Ideal) r x j = x j * r (ix2 (j 0) 0) := by
  pointwise [k0_pay17, k0_pay16]

/-- A tile's derivative before the residual is added, each segment's rows by their own scale. -/
abbrev der (i : grid0.Coords) (d x : FVec Ideal S768x1024 .f32) (r : FVec Ideal S768x1 .f32) (g : FVec Ideal S1x1024 .f32)
    (sc sl : FVec Ideal S1x1x1024 .f32) : FVec Ideal S768x1024 .f32 :=
  k0_pay21 (F := Ideal) d (k0_pay15 i) (k0_pay16 r) (k0_pay17 r x) (k0_pay18 g) (k0_pay19 sc) (k0_pay20 sl)

/-- A row of it, with the residual's cotangent. -/
theorem der_at (i : grid0.Coords) (d x : FVec Ideal S768x1024 .f32) (r : FVec Ideal S768x1 .f32) (g : FVec Ideal S1x1024 .f32)
    (sc sl : FVec Ideal S1x1x1024 .f32) (a : Fin 768) (l : Fin 1024) (P : EReal) :
    (show EReal from der i d x r g sc sl (ix2 a l)) + P
     = NormRow.rowKernel (fun k => x (ix2 a k)) (fun k => d (ix2 a k)) (fun k => g (ix2 0 k))
        (fun k => if 2048 ≤ (i 0).val * 768 + a.val then sc (ix3 0 0 k) else sl (ix3 0 0 k)) (r (ix2 a 0)) P l := by
  refine congrArg (· + P) ?_
  pointwise [der, k0_pay21, k0_pay17, k0_pay16, k0_pay18, k0_pay19, k0_pay20, mask_at, Cert.Seg.select_test]

/-- The residual's cotangent added to the first 256 rows of a tile. -/
theorem pay22_at (d : FVec Ideal S768x1024 .f32) (k : IVec S768x1 1) (r : FVec Ideal S768x1 .f32) (x : FVec Ideal S768x1024 .f32)
    (g s u : FVec Ideal S1x1024 .f32) (p : FVec Ideal S256x1024 .f32) (a : Fin 256) (l : Fin 1024) :
    k0_pay22 (F := Ideal) d k r x g s u p (ix2 a l)
      = (show EReal from k0_pay21 (F := Ideal) d k r x g s u (ix2 ⟨0 + a.val, by omega⟩ l)) + p (ix2 a l) := by
  pointwise [k0_pay22]

/-- The same for the next 256 rows. -/
theorem pay23_at (d : FVec Ideal S768x1024 .f32) (k : IVec S768x1 1) (r : FVec Ideal S768x1 .f32) (x : FVec Ideal S768x1024 .f32)
    (g s u : FVec Ideal S1x1024 .f32) (p : FVec Ideal S256x1024 .f32) (a : Fin 256) (l : Fin 1024) :
    k0_pay23 (F := Ideal) d k r x g s u p (ix2 a l)
      = (show EReal from k0_pay21 (F := Ideal) d k r x g s u (ix2 ⟨256 + a.val, by omega⟩ l)) + p (ix2 a l) := by
  pointwise [k0_pay23]

/-- The same for the last 256 rows. -/
theorem pay24_at (d : FVec Ideal S768x1024 .f32) (k : IVec S768x1 1) (r : FVec Ideal S768x1 .f32) (x : FVec Ideal S768x1024 .f32)
    (g s u : FVec Ideal S1x1024 .f32) (p : FVec Ideal S256x1024 .f32) (a : Fin 256) (l : Fin 1024) :
    k0_pay24 (F := Ideal) d k r x g s u p (ix2 a l)
      = (show EReal from k0_pay21 (F := Ideal) d k r x g s u (ix2 ⟨512 + a.val, by omega⟩ l)) + p (ix2 a l) := by
  pointwise [k0_pay24]

/-- One segment's part of a tile's column sums. -/
abbrev tileSum (s : Nat) (i : grid0.Coords) (f : Fin 768 → EReal) : EReal :=
  ∑ a : Fin 768, only s ((i 0).val * 768 + a.val) (f a)

/-- A tile's column sums over the latent rows, at the first point. -/
theorem pay3_at (i : grid0.Coords) (d : FVec Ideal S768x1024 .f32) (j : S1x1x1024.Idx) :
    k0_pay3 (F := Ideal) (k0_pay25 d (k0_pay15 i)) j = tileSum 0 i fun a => d (ix2 a (j 2)) := by
  pointwise [k0_pay3, k0_pay1, k0_pay25, mask_at, Cert.Seg.select_test, tileSum, only]

/-- The same over the context rows. -/
theorem pay4_at (i : grid0.Coords) (d : FVec Ideal S768x1024 .f32) (j : S1x1x1024.Idx) :
    k0_pay4 (F := Ideal) d (k0_pay15 i) j = tileSum 1 i fun a => d (ix2 a (j 2)) := by
  pointwise [k0_pay4, k0_pay2, mask_at, Cert.Seg.select_test, tileSum, only]

/-- The latent rows' sums of the product with the normed rows. -/
theorem pay10_at (i : grid0.Coords) (d xn : FVec Ideal S768x1024 .f32) (j : S1x1x1024.Idx) :
    k0_pay10 (F := Ideal) d (k0_pay15 i) xn j = tileSum 0 i fun a => d (ix2 a (j 2)) * xn (ix2 a (j 2)) := by
  pointwise [k0_pay10, k0_pay8, k0_pay7, mask_at, Cert.Seg.select_test, tileSum, only]

/-- The same over the context rows. -/
theorem pay11_at (i : grid0.Coords) (d xn : FVec Ideal S768x1024 .f32) (j : S1x1x1024.Idx) :
    k0_pay11 (F := Ideal) d (k0_pay15 i) xn j = tileSum 1 i fun a => d (ix2 a (j 2)) * xn (ix2 a (j 2)) := by
  pointwise [k0_pay11, k0_pay9, k0_pay7, mask_at, Cert.Seg.select_test, tileSum, only]

/-- Those sums, added to what stood. -/
theorem pay5_at (i : grid0.Coords) (d : FVec Ideal S768x1024 .f32) (p : FVec Ideal S1x1x1024 .f32) (j : S1x1x1024.Idx) :
    k0_pay5 (F := Ideal) (k0_pay25 d (k0_pay15 i)) p j = p j + tileSum 0 i fun a => d (ix2 a (j 2)) := by
  rw [← pay3_at]; pointwise [k0_pay5, k0_pay3]

theorem pay6_at (i : grid0.Coords) (d : FVec Ideal S768x1024 .f32) (p : FVec Ideal S1x1x1024 .f32) (j : S1x1x1024.Idx) :
    k0_pay6 (F := Ideal) d (k0_pay15 i) p j = p j + tileSum 1 i fun a => d (ix2 a (j 2)) := by
  rw [← pay4_at]; pointwise [k0_pay6, k0_pay4]

theorem pay12_at (i : grid0.Coords) (d xn : FVec Ideal S768x1024 .f32) (p : FVec Ideal S1x1x1024 .f32) (j : S1x1x1024.Idx) :
    k0_pay12 (F := Ideal) d (k0_pay15 i) xn p j = p j + tileSum 0 i fun a => d (ix2 a (j 2)) * xn (ix2 a (j 2)) := by
  rw [← pay10_at]; pointwise [k0_pay12, k0_pay10]

theorem pay13_at (i : grid0.Coords) (d xn : FVec Ideal S768x1024 .f32) (p : FVec Ideal S1x1x1024 .f32) (j : S1x1x1024.Idx) :
    k0_pay13 (F := Ideal) d (k0_pay15 i) xn p j = p j + tileSum 1 i fun a => d (ix2 a (j 2)) * xn (ix2 a (j 2)) := by
  rw [← pay11_at]; pointwise [k0_pay13, k0_pay11]

/-- The norm's input, latent rows then context rows. -/
abbrev X (c : Dev nD) : Fin 2304 → Fin 1024 → EReal :=
  join (fun i k => m ((c : Thread nD τ).loc main_arg2) (ix2 i k)) fun i k => m ((c : Thread nD τ).loc main_arg3) (ix2 i k)

/-- The scale of each row's segment. -/
abbrev S (c : Dev nD) : Fin 2304 → Fin 1024 → EReal :=
  join (fun _ k => m ((c : Thread nD τ).loc main_arg5) (ix1 k)) fun _ k => m ((c : Thread nD τ).loc main_arg6) (ix1 k)

/-- The cotangent of each latent row's residual. -/
abbrev P (c : Dev nD) : Fin 2304 → Fin 1024 → EReal :=
  join (fun i k => m ((c : Thread nD τ).loc main_arg1) (ix2 ⟨i.val, by omega⟩ k)) fun _ _ => 0

/-- The reference's product of the latent rows' cotangent with `w_inᵀ`. -/
abbrev dhL (c : Dev nD) : FVec Ideal S2048x1024 .f32 :=
  val_main_v66 (F := Ideal) (m ((c : Thread nD τ).loc main_arg0)) (m ((c : Thread nD τ).loc main_arg9))

/-- The same of the context rows. -/
abbrev dhC (c : Dev nD) : FVec Ideal S256x1024 .f32 :=
  val_main_v64 (F := Ideal) (m ((c : Thread nD τ).loc main_arg0)) (m ((c : Thread nD τ).loc main_arg9))

/-- Both, one after the other. -/
abbrev H (c : Dev nD) : Fin 2304 → Fin 1024 → EReal :=
  join (fun i l => dhL m c (ix2 i l)) fun i l => dhC m c (ix2 i l)

theorem H_lt (c : Dev nD) {n : Nat} (hn : n < 2304) (h : n < 2048) (l : Fin 1024) : H m c ⟨n, hn⟩ l = dhL m c (ix2 ⟨n, h⟩ l) := by
  simp only [H, join, dif_pos h]

theorem H_ge (c : Dev nD) {n : Nat} (hn : n < 2304) (h : ¬n < 2048) (l : Fin 1024) :
    H m c ⟨n, hn⟩ l = dhC m c (ix2 ⟨n - 2048, by omega⟩ l) := by
  simp only [H, join, dif_neg h]

/-- The norm's input, as the call finds it. -/
theorem x_entry (c : Dev nD) (i : Fin 2304) (k : Fin 1024) : (show EReal from V m c main_v6 (ix2 i k)) = X m c i k := by
  simp only [V, V0, List.flatten_cons, List.flatten_nil, List.append_nil, hostOps0]
  after_results
  pointwise [join]
  split <;> rfl

/-- The saved reciprocal root, as the call finds it. -/
theorem r_entry (c : Dev nD) (i : Fin 2304) :
    (show EReal from V m c main_v14 (ix2 i 0)) = Ideal.rsqrt (NormRow.ms fun k => X m c i k) := by
  simp only [V, V0, List.flatten_cons, List.flatten_nil, List.append_nil, hostOps0]
  after_results
  pointwise [join]
  split <;> rfl

/-- The gain row, as the call finds it. -/
theorem g_entry (c : Dev nD) (j : S1x1024.Idx) :
    (show EReal from V m c main_v1 j) = m ((c : Thread nD τ).loc main_arg4) (ix1 (j 1)) := by
  simp only [V, V0, List.flatten_cons, List.flatten_nil, List.append_nil, hostOps0]
  after_results
  pointwise []

/-- The two scale rows, as the call finds them. -/
theorem s_entry (c : Dev nD) (s : Fin 2) (k : Fin 1024) :
    (show EReal from V m c main_v5 (ix3 s 0 k))
      = if s.val = 0 then m ((c : Thread nD τ).loc main_arg5) (ix1 k) else m ((c : Thread nD τ).loc main_arg6) (ix1 k) := by
  simp only [V, V0, List.flatten_cons, List.flatten_nil, List.append_nil, hostOps0]
  after_results
  fin_cases s <;> pointwise []

/-- What the blocks of tile `t` hold: two cotangent blocks, two halves of `w_in`, the rows of the norm's input and
    of its saved root, the gain and the two scales. -/
structure Tile (c : Dev nD) (t : Fin 3) (p0 p1 : FVec Ideal S1x768x1024 .bf16) (w0 w1 : FVec Ideal S1024x1024 .bf16)
    (r : FVec Ideal S768x1 .f32) (x : FVec Ideal S768x1024 .f32) (g : FVec Ideal S1x1024 .f32)
    (sc sl : FVec Ideal S1x1x1024 .f32) : Prop where
  dp0 : ∀ (a : Fin 768) (k : Fin 1024), (p0 (ix3 0 a k) : EReal)
    = m ((c : Thread nD τ).loc main_arg0) (ix3 0 ⟨t.val * 768 + a.val, by omega⟩ k)
  dp1 : ∀ (a : Fin 768) (k : Fin 1024), (p1 (ix3 0 a k) : EReal)
    = m ((c : Thread nD τ).loc main_arg0) (ix3 1 ⟨t.val * 768 + a.val, by omega⟩ k)
  win0 : ∀ l k : Fin 1024, (w0 (ix2 l k) : EReal) = m ((c : Thread nD τ).loc main_arg9) (ix2 l ⟨k.val, by omega⟩)
  win1 : ∀ l k : Fin 1024, (w1 (ix2 l k) : EReal) = m ((c : Thread nD τ).loc main_arg9) (ix2 l ⟨1024 + k.val, by omega⟩)
  root : ∀ a : Fin 768, (r (ix2 a 0) : EReal) = Ideal.rsqrt (NormRow.ms fun k => X m c ⟨t.val * 768 + a.val, by omega⟩ k)
  row : ∀ (a : Fin 768) (k : Fin 1024), (x (ix2 a k) : EReal) = X m c ⟨t.val * 768 + a.val, by omega⟩ k
  gain : ∀ k : Fin 1024, (g (ix2 0 k) : EReal) = m ((c : Thread nD τ).loc main_arg4) (ix1 k)
  scale : ∀ (a : Fin 768) (k : Fin 1024), (if 2048 ≤ t.val * 768 + a.val then sc (ix3 0 0 k) else sl (ix3 0 0 k) : EReal)
    = S m c ⟨t.val * 768 + a.val, by omega⟩ k

set_option maxHeartbeats 1000000 in
/-- The blocks of point `t` are that. -/
theorem tile_at (c : Dev nD) (t : Fin cfg0.N) (ht : t.val < 3) : Tile m c ⟨t.val, ht⟩
    (View.ld (iblk m c 0 t) (Rect.unit ![0, 0, 0] ![1, 768, 1024] inb_S2x768x1024_S1x768x1024_0_0_0))
    (View.ld (iblk m c 0 t) (Rect.unit ![1, 0, 0] ![1, 768, 1024] inb_S2x768x1024_S1x768x1024_1_0_0))
    (View.ld (iblk m c 1 t) (Rect.unit ![0, 0] ![1024, 1024] inb_S1024x2048_S1024x1024_0_0))
    (View.ld (iblk m c 1 t) (Rect.unit ![0, 1024] ![1024, 1024] inb_S1024x2048_S1024x1024_0_1024))
    (iblk m c 3 t) (iblk m c 2 t) (iblk m c 4 t)
    (View.ld (iblk m c 5 t) (Rect.unit ![1, 0, 0] ![1, 1, 1024] inb_S2x1x1024_S1x1x1024_1_0_0))
    (View.ld (iblk m c 5 t) (Rect.unit ![0, 0, 0] ![1, 1, 1024] inb_S2x1x1024_S1x1x1024_0_0_0)) where
  dp0 a k := by pointwise []; blk_ext [iblk, V, idx t]
  dp1 a k := by pointwise []; blk_ext [iblk, V, idx t]
  win0 l k := by pointwise []; blk_ext [iblk, V, idx t]
  win1 l k := by pointwise []; blk_ext [iblk, V, idx t]
  root a := by
    refine Eq.trans ?_ (r_entry m c ⟨t.val * 768 + a.val, by omega⟩)
    blk_ext [iblk, V, idx t]
  row a k := by
    refine Eq.trans ?_ (x_entry m c ⟨t.val * 768 + a.val, by omega⟩ k)
    blk_ext [iblk, V, idx t]
  gain k := by
    refine Eq.trans ?_ (g_entry m c (ix2 0 k))
    blk_ext [iblk, V, idx t]
  scale a k := by
    by_cases h : 2048 ≤ t.val * 768 + a.val
    · simp only [S, join, if_pos h, dif_neg (not_lt.mpr h)]
      refine Eq.trans ?_ (s_entry m c 1 k)
      pointwise []
      blk_ext [iblk, V, idx t]
    · simp only [S, join, if_neg h, dif_pos (not_le.mp h)]
      refine Eq.trans ?_ (s_entry m c 0 k)
      pointwise []
      blk_ext [iblk, V, idx t]

variable {m} {c : Dev nD} {t : Fin 3} {p0 p1 : FVec Ideal S1x768x1024 .bf16}
  {w0 w1 : FVec Ideal S1024x1024 .bf16}
  {r : FVec Ideal S768x1 .f32} {x : FVec Ideal S768x1024 .f32} {g : FVec Ideal S1x1024 .f32}
  {sc sl : FVec Ideal S1x1x1024 .f32}

/-- One tile of the cotangent's product with `w_inᵀ` is the reference's product there. -/
theorem Tile.dh (T : Tile m c t p0 p1 w0 w1 r x g sc sl) (a : Fin 768) (l : Fin 1024) :
    k0_pay14 (F := Ideal) p0 w0 p1 w1 (ix2 a l) = H m c ⟨t.val * 768 + a.val, by omega⟩ l := by
  rw [pay14_at]
  refine (Ideal.add_congr (Finset.sum_congr rfl fun k _ => Ideal.mul_congr (T.dp0 a k) (T.win0 l k))
    (Finset.sum_congr rfl fun k _ => Ideal.mul_congr (T.dp1 a k) (T.win1 l k))).trans ?_
  by_cases h : t.val * 768 + a.val < 2048
  · refine Eq.trans ?_ (H_lt m c _ h l).symm
    pointwise [dhL, val_main_v66]
    rw [NormRow.sum_two]
    refine Ideal.add_congr (Finset.sum_congr rfl fun k _ => Ideal.mul_congr ?_ rfl) (Finset.sum_congr rfl fun k _ => Ideal.mul_congr ?_ rfl)
    · pointwise [val_main_v65, val_main_v54, val_main_v53, val_main_v52, val_main_v0]
    · pointwise [val_main_v65, val_main_v56, val_main_v55, val_main_v52, val_main_v0]
  · refine Eq.trans ?_ (H_ge m c _ h l).symm
    have e : 2048 + (t.val * 768 + a.val - 2048) = t.val * 768 + a.val := by omega
    pointwise [dhC, val_main_v64]
    rw [NormRow.sum_two]
    refine Ideal.add_congr (Finset.sum_congr rfl fun k _ => Ideal.mul_congr ?_ rfl) (Finset.sum_congr rfl fun k _ => Ideal.mul_congr ?_ rfl)
    · pointwise [val_main_v63, val_main_v59, val_main_v58, val_main_v57, val_main_v0]
      simp only [e]
    · pointwise [val_main_v63, val_main_v61, val_main_v60, val_main_v57, val_main_v0]
      simp only [e]

/-- The arguments the gradients are formed of are real numbers. -/
structure Reals (m : (ℓ : Loc nD τ sig) → Buf (Elt Ideal) ℓ) (c : Dev nD) : Prop where
  dp : ∀ i, IsReal (m ((c : Thread nD τ).loc main_arg0) i)
  x : ∀ i, IsReal (m ((c : Thread nD τ).loc main_arg2) i)
  ctx : ∀ i, IsReal (m ((c : Thread nD τ).loc main_arg3) i)
  g : ∀ i, IsReal (m ((c : Thread nD τ).loc main_arg4) i)
  s : ∀ i, IsReal (m ((c : Thread nD τ).loc main_arg5) i)
  cs : ∀ i, IsReal (m ((c : Thread nD τ).loc main_arg6) i)
  w : ∀ i, IsReal (m ((c : Thread nD τ).loc main_arg9) i)

theorem Reals.X (R : Reals m c) (i : Fin 2304) (k : Fin 1024) : IsReal (X m c i k) := by
  unfold Hand.X join; split
  · exact R.x _
  · exact R.ctx _

theorem Reals.S (R : Reals m c) (i : Fin 2304) (k : Fin 1024) : IsReal (S m c i k) := by
  unfold Hand.S join; split
  · exact R.s _
  · exact R.cs _

/-- The cotangent's product with `w_inᵀ` is real. -/
theorem Tile.dh_real (T : Tile m c t p0 p1 w0 w1 r x g sc sl) (R : Reals m c) (a : Fin 768) (l : Fin 1024) :
    IsReal (H m c ⟨t.val * 768 + a.val, by omega⟩ l) := by
  rw [← T.dh, pay14_at]
  refine (IsReal.sum _ fun k => ?_).add (IsReal.sum _ fun k => ?_)
  · exact ((T.dp0 a k).symm ▸ R.dp _).mul ((T.win0 l k).symm ▸ R.w _)
  · exact ((T.dp1 a k).symm ▸ R.dp _).mul ((T.win1 l k).symm ▸ R.w _)

/-- The reference's derivative of the norm's latent input. -/
abbrev dxRef (m : (ℓ : Loc nD τ sig) → Buf (Elt Ideal) ℓ) (c : Dev nD) : FVec Ideal S2048x1024 .f32 :=
  val_main_v110 (F := Ideal) (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg9))

/-- One row of it, as the derivative of one row's norm. -/
theorem ref_dx (m : (ℓ : Loc nD τ sig) → Buf (Elt Ideal) ℓ) (c : Dev nD) {n : Nat} (hn : n < 2304) (h : n < 2048) (l : Fin 1024) :
    dxRef m c (ix2 ⟨n, h⟩ l) = NormRow.rowReference (X m c ⟨n, hn⟩) (H m c ⟨n, hn⟩) (fun k => m ((c : Thread nD τ).loc main_arg4) (ix1 k))
      (S m c ⟨n, hn⟩) (P m c ⟨n, hn⟩ l) l := by
  simp only [X, H, S, P, join, dif_pos h]
  pointwise [dxRef, val_main_v110, val_main_v109, val_main_v108, val_main_v107, val_main_v106, val_main_v105, val_main_v104,
    val_main_v103, val_main_v102, val_main_v101, val_main_v100, val_main_v99, val_main_v98, val_main_v97, val_main_v96,
    val_main_v93, val_main_v92, val_main_v87, val_main_v86, val_main_v62, val_main_v19, val_main_v18, val_main_v17,
    val_main_v14, val_main_v11, val_main_v10, val_main_v9, val_main_v8, val_main_v7, val_main_v6, val_main_v5, val_main_v4,
    val_main_v3, val_main_v2, val_main_v1, val_main_cst, val_main_cst_0, val_main_cst_1, val_main_cst_2, val_main_cst_3,
    val_main_cst_20, val_main_cst_21, val_main_cst_22]
  simp only [Finset.univ_unique, Finset.sum_singleton]

set_option maxHeartbeats 1000000 in
/-- One element of a tile of the derivative, in a latent row. -/
theorem Tile.dx (T : Tile m c t p0 p1 w0 w1 r x g sc sl) (R : Reals m c) (a : Fin 768) (l : Fin 1024) (i : grid0.Coords)
    (hi : (i 0).val = t.val) (h : t.val * 768 + a.val < 2048) (Q : EReal)
    (hQ : Q = m ((c : Thread nD τ).loc main_arg1) (ix2 ⟨t.val * 768 + a.val, by omega⟩ l)) :
    (show EReal from der i (k0_pay14 (F := Ideal) p0 w0 p1 w1) x r g sc sl (ix2 a l)) + Q
      = dxRef m c (ix2 ⟨t.val * 768 + a.val, h⟩ l) := by
  have hP : P m c ⟨t.val * 768 + a.val, by omega⟩ l = Q := by
    simp only [P, join, dif_pos h, hQ]
  rw [der_at, ref_dx m c (by omega) h, hP, hi]
  refine Eq.trans ?_ (NormRow.row_eq (x := X m c ⟨t.val * 768 + a.val, by omega⟩) (d := H m c ⟨t.val * 768 + a.val, by omega⟩)
    (g := fun k => m ((c : Thread nD τ).loc main_arg4) (ix1 k)) (s := S m c ⟨t.val * 768 + a.val, by omega⟩)
    (R.X _) (T.dh_real R a) (fun k => R.g _) (R.S _) Q l)
  exact NormRow.rowKernel_congr l (T.row a) (T.dh a) T.gain (T.scale a) (T.root a) rfl

/-- The normed rows of a tile. -/
theorem Tile.xn (T : Tile m c t p0 p1 w0 w1 r x g sc sl) (a : Fin 768) (l : Fin 1024) :
    k0_pay17 (F := Ideal) r x (ix2 a l) = X m c ⟨t.val * 768 + a.val, by omega⟩ l
      * Ideal.rsqrt (NormRow.ms fun k => X m c ⟨t.val * 768 + a.val, by omega⟩ k) :=
  (pay17_at r x (ix2 a l)).trans (Ideal.mul_congr (T.row a l) (T.root a))

/-- One segment's part of a tile's column sums of the product with `w_inᵀ`. -/
theorem Tile.sumH (T : Tile m c t p0 p1 w0 w1 r x g sc sl) (s : Nat) (i : grid0.Coords) (hi : (i 0).val = t.val) (l : Fin 1024) :
    (tileSum s i fun a => k0_pay14 (F := Ideal) p0 w0 p1 w1 (ix2 a l))
      = ∑ a : Fin 768, only s (t.val * 768 + a.val) (H m c ⟨t.val * 768 + a.val, by omega⟩ l) := by
  unfold tileSum
  rw [hi]
  exact Finset.sum_congr rfl fun a _ => congrArg _ (T.dh a l)

/-- The product of the cotangent's product and the normed row. -/
abbrev HX (m : (ℓ : Loc nD τ sig) → Buf (Elt Ideal) ℓ) (c : Dev nD) (i : Fin 2304) (l : Fin 1024) : EReal :=
  H m c i l * (X m c i l * Ideal.rsqrt (NormRow.ms fun k => X m c i k))

/-- One segment's part of a tile's column sums of that. -/
theorem Tile.sumHX (T : Tile m c t p0 p1 w0 w1 r x g sc sl) (s : Nat) (i : grid0.Coords) (hi : (i 0).val = t.val) (l : Fin 1024) :
    (tileSum s i fun a => k0_pay14 (F := Ideal) p0 w0 p1 w1 (ix2 a l) * k0_pay17 (F := Ideal) r x (ix2 a l))
      = ∑ a : Fin 768, only s (t.val * 768 + a.val) (HX m c ⟨t.val * 768 + a.val, by omega⟩ l) := by
  unfold tileSum
  rw [hi]
  exact Finset.sum_congr rfl fun a _ => congrArg _ (Ideal.mul_congr (T.dh a l) (T.xn a l))

variable (m)

/-- A point writes back latent rows only. -/
theorem out_rows : ∀ t : Fin cfg0.N, t.val * 768 + ((cfg0.win 9).xblock (cfg0.grid.coords t)).size 0 ≤ 2048 := by
  decide +kernel

set_option maxHeartbeats 1000000 in
/-- The derivative of the norm's latent input after the run. -/
theorem dx_final (c : Dev nD) (R : Reals m c) : (dats m 0 c).arrAt 9 cfg0.N = dxRef m c := by
  refine (dats m 0 c).arrAt_eq_of_covers 9 _ (by decide +kernel) fun t _ z => ?_
  have hl := lt_of_lt_of_le (Nat.add_lt_add_left (z 0).isLt _) (out_rows t)
  obtain ⟨n0, h0⟩ : ∃ n, (z 0).val = n := ⟨_, rfl⟩
  obtain ⟨n1, h1⟩ : ∃ n, (z 1).val = n := ⟨_, rfl⟩
  blk_simp
  rw [after0_9]
  have hN : t.val < 3 := lt_of_lt_of_eq t.isLt N_0
  have T := tile_at m c t hN
  by_cases h : t.val % 3 = 0
  on_goal 1 => rw [outsAt0_A m c t h (by omega) h (by omega)]
  on_goal 2 => rw [outsAt0_B m c t h (by omega) h (by omega)]
  all_goals
    frame_out
    canon_tiles z hy
    · have hz : n0 = 512 + (z 0).val := h0.symm.trans hy0
      have hz' : n1 = (z 1).val := h1.symm.trans hy1
      idx_vars z
      refine (pay24_at _ _ _ _ _ _ _ _ _ _).trans ((T.dx R ⟨512 + z0.val, by omega⟩ _ _ (coord t) (by show t.val * 768 + (512 + z0.val) < 2048; omega) _ ?_).trans ?_)
      · blk_ext [iblk, V, idx t]
      · blk_ext [iblk, V, idx t]
    · have hz : n0 = 256 + (z 0).val := h0.symm.trans hy0
      have hz' : n1 = (z 1).val := h1.symm.trans hy1
      idx_vars z
      refine (pay23_at _ _ _ _ _ _ _ _ _ _).trans ((T.dx R ⟨256 + z0.val, by omega⟩ _ _ (coord t) (by show t.val * 768 + (256 + z0.val) < 2048; omega) _ ?_).trans ?_)
      · blk_ext [iblk, V, idx t]
      · blk_ext [iblk, V, idx t]
    · have hz : n0 = 0 + (z 0).val := (h0.symm.trans hy0).trans (Nat.zero_add _).symm
      have hz' : n1 = (z 1).val := h1.symm.trans hy1
      idx_vars z
      refine (pay22_at _ _ _ _ _ _ _ _ _ _).trans ((T.dx R ⟨0 + z0.val, by omega⟩ _ _ (coord t) (by show t.val * 768 + (0 + z0.val) < 2048; omega) _ ?_).trans ?_)
      · blk_ext [iblk, V, idx t]
      · blk_ext [iblk, V, idx t]

/-- The sums over each segment's rows of the cotangent's product with `w_inᵀ`, after the run. -/
theorem dshift_sum (c : Dev nD) : (dats m 0 c).arrAt 10 cfg0.N
    = fun j : S2x1x1024.Idx => (∑ i : Fin 2304, only (j 0).val i.val (H m c i (j 2)) : EReal) := by
  refine (dats m 0 c).arrAt_eq_of_after_last 10 t0_2 (by decide +kernel) _ fun j => ?_
  have hN : ∀ t : Fin cfg0.N, t.val < 3 := fun t => lt_of_lt_of_eq t.isLt N_0
  blk_simp
  rw [after0_10, Pipeline.eq_sum_fin_of_reset_step_apply_last (fun n h => (outsAt0 m c n h).2.1) 3 (fun _ => 0)
    (fun t j => ∑ a : Fin 768, only (j 0).val (t.val * 768 + a.val) (H m c ⟨t.val * 768 + a.val, by have := hN t; omega⟩ (j 2)))
    (fun t h j => by
      have T := tile_at m c t (hN t)
      rw [outsAt0_A m c t h (by have := hN t; omega) h (by have := hN t; omega), zero_add]; frame_out
      canon_tiles x hx
      · refine (pay4_at _ _ _).trans ((T.sumH 1 _ (coord t) _).trans ?_)
        rw [show (j 0).val = 1 by omega, show j 2 = x 2 from Fin.ext hx2]
      · refine (pay3_at _ _ _).trans ((T.sumH 0 _ (coord t) _).trans ?_)
        rw [show (j 0).val = 0 by omega, show j 2 = x 2 from Fin.ext hx2])
    (fun t h j => by
      have T := tile_at m c t (hN t)
      rw [outsAt0_B m c t h (by omega) h (by omega)]; frame_out
      canon_tiles x hx
      · refine (pay6_at _ _ _ _).trans (Ideal.add_congr ?_ ((T.sumH 1 _ (coord t) _).trans ?_))
        · pointwise []
          blk_ext []
        · rw [show (j 0).val = 1 by omega, show j 2 = x 2 from Fin.ext hx2]
      · refine (pay5_at _ _ _ _).trans (Ideal.add_congr ?_ ((T.sumH 0 _ (coord t) _).trans ?_))
        · pointwise []
          blk_ext []
        · rw [show (j 0).val = 0 by omega, show j 2 = x 2 from Fin.ext hx2])
    (le_of_eq N_0) t0_2 rfl j, zero_add]
  exact Cert.Seg.sum_tiles N_0 _ _ (fun i => H m c i (j 2)) fun _ _ => rfl

/-- The sums over each segment's rows of that product times the normed rows, after the run. -/
theorem dgeff_sum (c : Dev nD) : (dats m 0 c).arrAt 11 cfg0.N
    = fun j : S2x1x1024.Idx => (∑ i : Fin 2304, only (j 0).val i.val (HX m c i (j 2)) : EReal) := by
  refine (dats m 0 c).arrAt_eq_of_after_last 11 t0_2 (by decide +kernel) _ fun j => ?_
  have hN : ∀ t : Fin cfg0.N, t.val < 3 := fun t => lt_of_lt_of_eq t.isLt N_0
  blk_simp
  rw [after0_11, Pipeline.eq_sum_fin_of_reset_step_apply_last (fun n h => (outsAt0 m c n h).2.2) 3 (fun _ => 0)
    (fun t j => ∑ a : Fin 768, only (j 0).val (t.val * 768 + a.val) (HX m c ⟨t.val * 768 + a.val, by have := hN t; omega⟩ (j 2)))
    (fun t h j => by
      have T := tile_at m c t (hN t)
      rw [outsAt0_A m c t h (by have := hN t; omega) h (by have := hN t; omega), zero_add]; frame_out
      canon_tiles x hx
      · refine (pay11_at _ _ _ _).trans ((T.sumHX 1 _ (coord t) _).trans ?_)
        rw [show (j 0).val = 1 by omega, show j 2 = x 2 from Fin.ext hx2]
      · refine (pay10_at _ _ _ _).trans ((T.sumHX 0 _ (coord t) _).trans ?_)
        rw [show (j 0).val = 0 by omega, show j 2 = x 2 from Fin.ext hx2])
    (fun t h j => by
      have T := tile_at m c t (hN t)
      rw [outsAt0_B m c t h (by omega) h (by omega)]; frame_out
      canon_tiles x hx
      · refine (pay13_at _ _ _ _ _).trans (Ideal.add_congr ?_ ((T.sumHX 1 _ (coord t) _).trans ?_))
        · pointwise []
          blk_ext []
        · rw [show (j 0).val = 1 by omega, show j 2 = x 2 from Fin.ext hx2]
      · refine (pay12_at _ _ _ _ _).trans (Ideal.add_congr ?_ ((T.sumHX 0 _ (coord t) _).trans ?_))
        · pointwise []
          blk_ext []
        · rw [show (j 0).val = 0 by omega, show j 2 = x 2 from Fin.ext hx2])
    (le_of_eq N_0) t0_2 rfl j, zero_add]
  exact Cert.Seg.sum_tiles N_0 _ _ (fun i => HX m c i (j 2)) fun _ _ => rfl

end Cert.NormP0KIdeal.Hand

end
-- ==== Proof.NormP0Run.lean ====
/-
  The gradient through the norm and `w_in`, two cotangent blocks over two segments: the whole call's run, with the host
  lines after the kernel, as the stages of the derivative.
-/
module

public import proofs.«01_k».proof.Proof.NormP0

@[expose] public section

set_option maxRecDepth 16384

noncomputable section

open Idealize.ShloMosaic Idealize.ShloMosaic.TcCoe Idealize.SL.Sem
open Cert.NormP0RIdeal.Read
open Cert.Finite (IsReal)
open Cert.Seg (join only)

namespace Cert.NormP0KIdeal.Hand

open Cert.NormP0KIdeal Cert.NormP0KIdeal.Gen

variable (m : (ℓ : Loc nD τ sig) → Buf (Elt Ideal) ℓ)

/-- What the host lines after the kernel find: the kernel's arrays after its run, every other buffer as it was. -/
abbrev mid (c : Dev nD) : Valuation τ sig (Elt Ideal) :=
  Pipeline.withArrays spec0 c (V0 m c) fun w => (dats m 0 c).arrAt w cfg0.N

/-- An array of the kernel's, as the host lines after it find it. -/
theorem mid_arr (c : Dev nD) (w : Fin cfg0.W) : mid m c (Proc.devRef .tc (Pipeline.arrRef spec0 w)) = (dats m 0 c).arrAt w cfg0.N :=
  Pipeline.Dat.withArrays_arrAt (dats m 0 c) sharedIn0 (V0 m c) (A_eq m c) w

theorem mid_dshift (c : Dev nD) : (show S2x1x1024.Idx → EReal from mid m c (Proc.devRef .tc main_v15_1))
    = fun j : S2x1x1024.Idx => (∑ i : Fin 2304, only (j 0).val i.val (H m c i (j 2)) : EReal) :=
  (mid_arr m c 10).trans (dshift_sum m c)

theorem mid_dgeff (c : Dev nD) : (show S2x1x1024.Idx → EReal from mid m c (Proc.devRef .tc main_v15_2))
    = fun j : S2x1x1024.Idx => (∑ i : Fin 2304, only (j 0).val i.val (HX m c i (j 2)) : EReal) :=
  (mid_arr m c 11).trans (dgeff_sum m c)

theorem mid_gain (c : Dev nD) : mid m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

theorem mid_scale (c : Dev nD) : (show S2x1x1024.Idx → EReal from mid m c (Proc.devRef .tc main_v5))
    = fun j => if (j 0).val = 0 then m ((c : Thread nD τ).loc main_arg5) (ix1 (j 2)) else m ((c : Thread nD τ).loc main_arg6) (ix1 (j 2)) :=
  (mid_arr m c 5).trans ((((dats m 0 c).arrAt_in 5 (by decide) _).trans (A_eq m c 5)).trans (funext fun j => by
    idx_vars j
    obtain rfl : j1 = 0 := Subsingleton.elim _ _
    exact s_entry m c j0 j2))

/-- The reference's normed latent rows. -/
abbrev xnL (c : Dev nD) : FVec Ideal S2048x1024 .f32 := val_main_v13 (F := Ideal) (m ((c : Thread nD τ).loc main_arg2))

/-- The reference's normed context rows. -/
abbrev xnC (c : Dev nD) : FVec Ideal S256x1024 .f32 := val_main_v34 (F := Ideal) (m ((c : Thread nD τ).loc main_arg3))

theorem H_latent (c : Dev nD) (k : Fin 2048) (l : Fin 1024) : H m c (Fin.castAdd 256 k) l = dhL m c (ix2 k l) :=
  H_lt m c _ k.isLt l

theorem H_context (c : Dev nD) (k : Fin 256) (l : Fin 1024) : H m c (Fin.natAdd 2048 k) l = dhC m c (ix2 k l) := by
  refine (H_ge m c (n := 2048 + k.val) (by omega) (by omega) l).trans ?_
  rw [show (⟨2048 + k.val - 2048, by omega⟩ : Fin 256) = k from Fin.ext (by simp)]

theorem X_latent (c : Dev nD) (k : Fin 2048) (l : Fin 1024) :
    X m c (Fin.castAdd 256 k) l = m ((c : Thread nD τ).loc main_arg2) (ix2 k l) := by
  simp only [X, join, Fin.val_castAdd, dif_pos k.isLt]

theorem X_context (c : Dev nD) (k : Fin 256) (l : Fin 1024) :
    X m c (Fin.natAdd 2048 k) l = m ((c : Thread nD τ).loc main_arg3) (ix2 k l) := by
  simp only [X, join, Fin.val_natAdd, dif_neg (show ¬2048 + k.val < 2048 by omega), Nat.add_sub_cancel_left]

theorem HX_latent (c : Dev nD) (k : Fin 2048) (l : Fin 1024) :
    HX m c (Fin.castAdd 256 k) l = dhL m c (ix2 k l) * xnL m c (ix2 k l) := by
  refine Ideal.mul_congr (H_latent m c k l) ?_
  simp only [X_latent]
  pointwise [xnL, val_main_v13, val_main_v12, val_main_v8, val_main_v7, val_main_v6, val_main_v5, val_main_v4,
    val_main_v3, val_main_v2, val_main_v1, val_main_cst, val_main_cst_0, val_main_cst_1]

theorem HX_context (c : Dev nD) (k : Fin 256) (l : Fin 1024) :
    HX m c (Fin.natAdd 2048 k) l = dhC m c (ix2 k l) * xnC m c (ix2 k l) := by
  refine Ideal.mul_congr (H_context m c k l) ?_
  simp only [X_context]
  pointwise [xnC, val_main_v34, val_main_v33, val_main_v32, val_main_v31, val_main_v30, val_main_v29, val_main_v28,
    val_main_v27, val_main_v26, val_main_v25, val_main_cst_4, val_main_cst_5, val_main_cst_6]

/-- The product with `w_inᵀ` is real at every row. -/
theorem H_real {m : (ℓ : Loc nD τ sig) → Buf (Elt Ideal) ℓ} {c : Dev nD} (R : Reals m c) (i : Fin 2304) (l : Fin 1024) :
    IsReal (H m c i l) := by
  have T := tile_at m c ⟨i.val / 768, lt_of_lt_of_eq (by omega) N_0.symm⟩ (by show i.val / 768 < 3; omega)
  have e := T.dh_real R ⟨i.val % 768, by omega⟩ l
  rwa [show (⟨(⟨i.val / 768, by omega⟩ : Fin 3).val * 768 + (⟨i.val % 768, by omega⟩ : Fin 768).val, by omega⟩ : Fin 2304) = i from
    Fin.ext (Nat.div_add_mod' _ _)] at e

theorem dhL_real {m : (ℓ : Loc nD τ sig) → Buf (Elt Ideal) ℓ} {c : Dev nD} (R : Reals m c) (k : Fin 2048) (l : Fin 1024) :
    IsReal (dhL m c (ix2 k l)) := H_latent m c k l ▸ H_real R _ l

theorem dhC_real {m : (ℓ : Loc nD τ sig) → Buf (Elt Ideal) ℓ} {c : Dev nD} (R : Reals m c) (k : Fin 256) (l : Fin 1024) :
    IsReal (dhC m c (ix2 k l)) := H_context m c k l ▸ H_real R _ l

theorem xnL_real {m : (ℓ : Loc nD τ sig) → Buf (Elt Ideal) ℓ} {c : Dev nD} (R : Reals m c) (k : Fin 2048) (l : Fin 1024) :
    IsReal (xnL m c (ix2 k l)) := by
  have e : xnL m c (ix2 k l) = (show EReal from m ((c : Thread nD τ).loc main_arg2) (ix2 k l))
      * Ideal.rsqrt (NormRow.ms fun k' => m ((c : Thread nD τ).loc main_arg2) (ix2 k k')) := by
    pointwise [xnL, val_main_v13, val_main_v12, val_main_v8, val_main_v7, val_main_v6, val_main_v5, val_main_v4,
      val_main_v3, val_main_v2, val_main_v1, val_main_cst, val_main_cst_0, val_main_cst_1]
  exact e ▸ (R.x _).mul (NormRow.rsqrt_real fun k => R.x _)

theorem xnC_real {m : (ℓ : Loc nD τ sig) → Buf (Elt Ideal) ℓ} {c : Dev nD} (R : Reals m c) (k : Fin 256) (l : Fin 1024) :
    IsReal (xnC m c (ix2 k l)) := by
  have e : xnC m c (ix2 k l) = (show EReal from m ((c : Thread nD τ).loc main_arg3) (ix2 k l))
      * Ideal.rsqrt (NormRow.ms fun k' => m ((c : Thread nD τ).loc main_arg3) (ix2 k k')) := by
    pointwise [xnC, val_main_v34, val_main_v33, val_main_v32, val_main_v31, val_main_v30, val_main_v29, val_main_v28,
      val_main_v27, val_main_v26, val_main_v25, val_main_cst_4, val_main_cst_5, val_main_cst_6]
  exact e ▸ (R.ctx _).mul (NormRow.rsqrt_real fun k => R.ctx _)

/-- The latent rows' sums of the product with the normed rows. -/
theorem sumHX_latent (c : Dev nD) (l : Fin 1024) :
    (∑ i : Fin 2304, only 0 i.val (HX m c i l)) = ∑ k : Fin 2048, dhL m c (ix2 k l) * xnL m c (ix2 k l) :=
  (Cert.Seg.only_latent fun i => HX m c i l).trans (Finset.sum_congr rfl fun k _ => HX_latent m c k l)

/-- The context rows' sums of the product with the normed rows. -/
theorem sumHX_context (c : Dev nD) (l : Fin 1024) :
    (∑ i : Fin 2304, only 1 i.val (HX m c i l)) = ∑ k : Fin 256, dhC m c (ix2 k l) * xnC m c (ix2 k l) :=
  (Cert.Seg.only_context fun i => HX m c i l).trans (Finset.sum_congr rfl fun k _ => HX_context m c k l)

/-- The latent shift row's gradient. -/
theorem dshift_tail (c : Dev nD) : Pipeline.afterTail₀ cfgs (dats m) 0 (V0 m) [hostOps1] c main_v28
    = val_main_v82 (F := Ideal) (m ((c : Thread nD τ).loc main_arg0)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![0, 0] (shapeCast S2x1024 (show FVec Ideal S2x1x1024 .f32 from mid m c (Proc.devRef .tc main_v15_1)) shapeCasts_S2x1x1024_S2x1024) slices_S2x1024_S1x1024_0_0) shapeCasts_S1x1024_S1024 j = _
  rw [mid_dshift]
  idx_vars j
  refine Eq.trans ?_ (((Cert.Seg.only_latent fun i => H m c i j0).trans (Finset.sum_congr rfl fun k _ => H_latent m c k j0)).trans ?_)
  · pointwise []
  · pointwise [val_main_v82, val_main_v81, val_main_v80, val_main_cst_14, val_main_cst_15]
    simp only [Finset.univ_unique, Finset.sum_singleton]

/-- The context shift row's gradient. -/
theorem dcshift_tail (c : Dev nD) : Pipeline.afterTail₀ cfgs (dats m) 0 (V0 m) [hostOps1] c main_v30
    = val_main_v69 (F := Ideal) (m ((c : Thread nD τ).loc main_arg0)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![1, 0] (shapeCast S2x1024 (show FVec Ideal S2x1x1024 .f32 from mid m c (Proc.devRef .tc main_v15_1)) shapeCasts_S2x1x1024_S2x1024) slices_S2x1024_S1x1024_1_0) shapeCasts_S1x1024_S1024 j = _
  rw [mid_dshift]
  idx_vars j
  refine Eq.trans ?_ (((Cert.Seg.only_context fun i => H m c i j0).trans (Finset.sum_congr rfl fun k _ => H_context m c k j0)).trans ?_)
  · pointwise []
  · pointwise [val_main_v69, val_main_v68, val_main_v67, val_main_cst_8, val_main_cst_9]
    simp only [Finset.univ_unique, Finset.sum_singleton]

/-- The latent scale row's gradient. -/
theorem dscale_tail (c : Dev nD) (R : Reals m c) : Pipeline.afterTail₀ cfgs (dats m) 0 (V0 m) [hostOps1] c main_v32
    = val_main_v88 (F := Ideal) (m ((c : Thread nD τ).loc main_arg0)) (m ((c : Thread nD τ).loc main_arg2)) (m ((c : Thread nD τ).loc main_arg4)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![0, 0] (mulf (shapeCast S2x1024 (show FVec Ideal S2x1x1024 .f32 from mid m c (Proc.devRef .tc main_v15_2)) shapeCasts_S2x1x1024_S2x1024)
    (broadcastInDim S2x1024 ![0, 1] bcast_S1x1024_S2x1024_0_1 (broadcastInDim S1x1024 ![1] bcast_S1024_S1x1024_1 (show FVec Ideal S1024 .f32 from mid m c (Proc.devRef .tc main_arg4))))) slices_S2x1024_S1x1024_0_0) shapeCasts_S1x1024_S1024 j = _
  rw [mid_dgeff, mid_gain]
  idx_vars j
  refine Eq.trans ?_ ((NormRow.dscale_eq (fun k => dhL_real R k j0) (fun k => xnL_real R k j0) (R.g (ix1 j0))).trans ?_)
  · rw [← sumHX_latent]
    pointwise []
  · pointwise [val_main_v88, val_main_v85, val_main_v84, val_main_v83, val_main_v16, val_main_v15, val_main_v14, val_main_cst_16, val_main_cst_17]
    simp only [Finset.univ_unique, Finset.sum_singleton]

/-- The context scale row's gradient. -/
theorem dcscale_tail (c : Dev nD) (R : Reals m c) : Pipeline.afterTail₀ cfgs (dats m) 0 (V0 m) [hostOps1] c main_v34
    = val_main_v75 (F := Ideal) (m ((c : Thread nD τ).loc main_arg0)) (m ((c : Thread nD τ).loc main_arg3)) (m ((c : Thread nD τ).loc main_arg4)) (m ((c : Thread nD τ).loc main_arg9)) := by
  unfold Pipeline.afterTail₀
  simp only [hostOps1, List.flatten_cons, List.flatten_nil, List.append_nil]
  after_results
  funext (j : S1024.Idx)
  change shapeCast S1024 (extractStridedSlice S1x1024 ![1, 0] (mulf (shapeCast S2x1024 (show FVec Ideal S2x1x1024 .f32 from mid m c (Proc.devRef .tc main_v15_2)) shapeCasts_S2x1x1024_S2x1024)
    (broadcastInDim S2x1024 ![0, 1] bcast_S1x1024_S2x1024_0_1 (broadcastInDim S1x1024 ![1] bcast_S1024_S1x1024_1 (show FVec Ideal S1024 .f32 from mid m c (Proc.devRef .tc main_arg4))))) slices_S2x1024_S1x1024_1_0) shapeCasts_S1x1024_S1024 j = _
  rw [mid_dgeff, mid_gain]
  idx_vars j
  refine Eq.trans ?_ ((NormRow.dscale_eq (fun k => dhC_real R k j0) (fun k => xnC_real R k j0) (R.g (ix1 j0))).trans ?_)
  · rw [← sumHX_context]
    pointwise []
  · pointwise [val_main_v75, val_main_v72, val_main_v71, val_main_v70, val_main_v37, val_main_v36, val_main_v35, val_main_cst_10, val_main_cst_11]
    simp only [Finset.univ_unique, Finset.sum_singleton]

/-- The gain's gradient: both segments' rows, each by its own scale. -/
theorem dgain_tail (c : Dev nD) (R : Reals m c) : Pipeline.afterTail₀ cfgs (dats m) 0 (V0 m) [hostOps1] c main_v26
    = val_main_v95 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9)) := by
  unfold Pipeline.afterTail₀
  simp only [hostOps1, List.flatten_cons, List.flatten_nil, List.append_nil]
  after_results
  funext (j : S1024.Idx)
  change Host.reduceAdd (mulf (shapeCast S2x1024 (show FVec Ideal S2x1x1024 .f32 from mid m c (Proc.devRef .tc main_v15_2)) shapeCasts_S2x1x1024_S2x1024)
    (addf (broadcastInDim S2x1024 ![] bcast_S_S2x1024 (constant S_ FTy.f32 1065353216#32))
      (shapeCast S2x1024 (show FVec Ideal S2x1x1024 .f32 from mid m c (Proc.devRef .tc main_v5)) shapeCasts_S2x1x1024_S2x1024)))
      (constant S_ FTy.f32 0#32) reducesTo_S2x1024_S1024_d0 h_S_ j = _
  rw [mid_dgeff, mid_scale]
  idx_vars j
  have eL := NormRow.dgain_eq (fun k => dhL_real R k j0) (fun k => xnL_real R k j0) (R.s (ix1 j0))
  have eC := NormRow.dgain_eq (fun k => dhC_real R k j0) (fun k => xnC_real R k j0) (R.cs (ix1 j0))
  rw [← sumHX_latent] at eL
  rw [← sumHX_context] at eC
  refine Eq.trans ?_ ((Ideal.add_congr eL eC).trans ((add_comm _ _).trans ?_))
  · pointwise []
    rw [Fin.sum_univ_two]
    rfl
  · pointwise [val_main_v95, val_main_v94, val_main_v91, val_main_v90, val_main_v89, val_main_v87, val_main_v86, val_main_v19,
      val_main_v18, val_main_v17, val_main_cst_3, val_main_cst_18, val_main_cst_19, val_main_v79, val_main_v78, val_main_v77,
      val_main_v76, val_main_v74, val_main_v73, val_main_v40, val_main_v39, val_main_v38, val_main_cst_7, val_main_cst_12, val_main_cst_13]
    simp only [Finset.univ_unique, Finset.sum_singleton]

/-- The call's run: every result is the derivative's stage, and the arguments stay. -/
theorem run (ρ : Dev nD → PrngReg) (R : ∀ c, Reals m c) :
    θ_run defs (onTc (τ := τ) (main (F := Ideal))) ⟨m, fun _ => 0, ρ⟩ fun r => ∀ c : Dev nD,
      r.2.mem ((c.tc : Thread nD τ).loc main_v15_0) = dxRef m c
      ∧ r.2.mem ((c.tc : Thread nD τ).loc main_v28) = val_main_v82 (F := Ideal) (m ((c : Thread nD τ).loc main_arg0)) (m ((c : Thread nD τ).loc main_arg9))
      ∧ r.2.mem ((c.tc : Thread nD τ).loc main_v30) = val_main_v69 (F := Ideal) (m ((c : Thread nD τ).loc main_arg0)) (m ((c : Thread nD τ).loc main_arg9))
      ∧ r.2.mem ((c.tc : Thread nD τ).loc main_v32) = val_main_v88 (F := Ideal) (m ((c : Thread nD τ).loc main_arg0)) (m ((c : Thread nD τ).loc main_arg2)) (m ((c : Thread nD τ).loc main_arg4)) (m ((c : Thread nD τ).loc main_arg9))
      ∧ r.2.mem ((c.tc : Thread nD τ).loc main_v34) = val_main_v75 (F := Ideal) (m ((c : Thread nD τ).loc main_arg0)) (m ((c : Thread nD τ).loc main_arg3)) (m ((c : Thread nD τ).loc main_arg4)) (m ((c : Thread nD τ).loc main_arg9))
      ∧ r.2.mem ((c.tc : Thread nD τ).loc main_v26) = val_main_v95 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.2 c).1 9).trans (dx_final m c (R c)),
      ((h.2 c).2 main_v28 (Pipeline.mem_restRefs_of main_v28 rfl (by decide))).trans (dshift_tail m c),
      ((h.2 c).2 main_v30 (Pipeline.mem_restRefs_of main_v30 rfl (by decide))).trans (dcshift_tail m c),
      ((h.2 c).2 main_v32 (Pipeline.mem_restRefs_of main_v32 rfl (by decide))).trans (dscale_tail m c (R c)),
      ((h.2 c).2 main_v34 (Pipeline.mem_restRefs_of main_v34 rfl (by decide))).trans (dcscale_tail m c (R c)),
      ((h.2 c).2 main_v26 (Pipeline.mem_restRefs_of main_v26 rfl (by decide))).trans (dgain_tail m c (R c)), h.1 c⟩)
    (θ_run_and (unchanged m ρ) (run_main m ρ))

end Cert.NormP0KIdeal.Hand

end
-- ==== Proof.NormP0Claim.lean ====
/-
  The gradient through the norm and `w_in` (two cotangent blocks, two segments): the call's results are the derivative's.
-/
module

public import proofs.«01_k».proof.Defs
public import proofs.«01_k».proof.Proof.NormP0Run
public import proofs.«01_k».proof.Proof.Gen.NormP0RIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.NormP0RIdeal.Read

/-- The shape relations the precondition's operations take. -/
theorem normp0_pre_facts : Cert.Pre_normp0_finite.Facts := by
  constructor <;> decide

/-- The precondition says the arguments the gradients are formed of are real. -/
theorem normp0_reals [Cert.Pre_normp0_finite.Facts] (m : (ℓ : Loc Cert.NormP0KIdeal.nD Cert.NormP0KIdeal.τ Cert.NormP0KIdeal.sig) → Buf (Elt Ideal) ℓ)
    (h : Cert.Pre_NormP0KIdeal_normp0_finite m) (c : Dev Cert.NormP0KIdeal.nD) : Cert.NormP0KIdeal.Hand.Reals m c := by
  have e := congrFun (h c) (fun a => a.elim0)
  obtain ⟨e, hw⟩ := Cert.Finite.and_split e
  obtain ⟨e, hcs⟩ := Cert.Finite.and_split e
  obtain ⟨e, hs⟩ := Cert.Finite.and_split e
  obtain ⟨e, hg⟩ := Cert.Finite.and_split e
  obtain ⟨e, hctx⟩ := Cert.Finite.and_split e
  obtain ⟨hd, hx⟩ := Cert.Finite.and_split e
  exact ⟨Cert.Finite.of_all _ _ _ _ _ _ hd, Cert.Finite.of_all _ _ _ _ _ _ hx, Cert.Finite.of_all _ _ _ _ _ _ hctx,
    Cert.Finite.of_all _ _ _ _ _ _ hg, Cert.Finite.of_all _ _ _ _ _ _ hs, Cert.Finite.of_all _ _ _ _ _ _ hcs,
    Cert.Finite.of_all _ _ _ _ _ _ hw⟩

/-- The reference runs and leaves its arguments. -/
theorem normp0_reference_frame : Cert.quiescent_NormP0RIdeal := by
  intro m g _
  exact (θ_run _ _ _).mono (fun r h => ⟨fun c => (h c).2.2.2.2.2.2, sem_eq_zero_of_no_sems rfl _⟩)
    (Cert.NormP0RIdeal.Value.run m g)

/-- The call's gradients are the derivative's. -/
theorem normp0_value [Cert.Pre_normp0_finite.Facts] : Cert.algebraic_NormP0KIdeal_NormP0RIdeal_pre_normp0_finite := by
  pair_intro
  · run_from Cert.NormP0KIdeal.Hand.run m g (fun c => normp0_reals m ‹_› c)
  · refine (θ_run _ _ _).mono (fun r h c => ?_) (Cert.NormP0RIdeal.Value.run m' g')
    obtain ⟨e0, e1, e2, e3, e4, e5, e6, e7, e8, e9⟩ := hagree c
    obtain ⟨h0, h1, h2, h3, h4, h5, ha⟩ := h c
    refine ⟨h0.trans ?_, h1.trans ?_, h2.trans ?_, h3.trans ?_, h4.trans ?_, h5.trans ?_, ha⟩
    · unfold Cert.NormP0RIdeal.Value.res_main_v110
      rw [e0, e1, e2, e4, e5, e9]
      rfl
    · rw [e0, e9]
      rfl
    · rw [e0, e9]
      rfl
    · rw [e0, e2, e4, e9]
      rfl
    · rw [e0, e3, e4, e9]
      rfl
    · rw [e0, e2, e3, e5, e6, e9]
      rfl

end Cert.Proof

end
-- ==== Proof.Conv.lean ====
module

public import proofs.«01_k».proof.Proof.Gen.ConvKIdeal.Value
public import proofs.«01_k».proof.Proof.Gen.ConvRIdeal.Run
public import proofs.«01_k».proof.Proof.Gen.ConvRIdeal.Read
public import proofs.«01_k».proof.Proof.Finite
public import Idealize.ShloMosaic.Lib.Pipeline.ValueKit
public import Idealize.ShloMosaic.Lib.Pointwise
public import Idealize.ShloMosaic.Lib.WordCmp

/-! The short convolution's gradients. The kernel moves a column of the product `c · v` one row down or up by
    rotating it and putting zero in the row that wraps; the reference joins a zero row to a slice, or pads one.
    Both are `before` and `after` here. Everything but the gate's own derivative then agrees by commuting; the
    gate's derivative opens a bracket, for which the arguments have to be finite. -/

@[expose] public section
set_option maxRecDepth 16384
noncomputable section
open Idealize.ShloMosaic Idealize.ShloMosaic.TcCoe Idealize.SL.Sem
open Idealize.ShloMosaic.Pipeline (Dat)
open Cert.ConvRIdeal.Read
open Cert.Finite (IsReal)
namespace Cert.ConvKIdeal.Hand
open Cert.ConvKIdeal Cert.ConvKIdeal.Gen

/-- Where each window's block sits: a column block of each array moves with the point. -/
theorem idx : ∀ t : Fin cfg0.N, win0_0.index t = ![0, t.val] ∧ win0_1.index t = ![0, t.val]
    ∧ win0_2.index t = ![0, 8 + t.val] ∧ win0_3.index t = ![0, 16 + t.val] ∧ win0_4.index t = ![0, 24 + t.val]
    ∧ win0_5.index t = ![0, t.val] ∧ win0_6.index t = ![0, t.val] ∧ win0_7.index t = ![0, 0, t.val]
    ∧ win0_8.index t = ![0, t.val] ∧ win0_9.index t = ![0, t.val] :=
  (by decide +kernel : ∀ t : Fin grid0.N, _)

/-! ## One column -/

/-- The column one row later: row `i` holds what row `i − 1` held, row 0 zero. -/
def before (f : Fin 2048 → EReal) (i : Fin 2048) : EReal := if h : 1 ≤ i.val then f ⟨i.val - 1, by omega⟩ else 0

/-- The column one row earlier: row `i` holds what row `i + 1` held, the last row zero. -/
def after (f : Fin 2048 → EReal) (i : Fin 2048) : EReal := if h : i.val < 2047 then f ⟨1 + i.val, by omega⟩ else 0

/-- A rotation by one row, the row that wraps replaced by zero. -/
theorem rotate_before (f : Fin 2048 → EReal) (i : Fin 2048) (h : (i.val + 2048 - 1) % 2048 < 2048) :
    Scalar.select (IntOp.cmpi .sge (BitVec.ofNat 32 i.val) 1#32) (f ⟨(i.val + 2048 - 1) % 2048, h⟩) 0 = before f i := by
  have hi := i.isLt
  unfold before
  by_cases h1 : 1 ≤ i.val
  · have e : (⟨(i.val + 2048 - 1) % 2048, h⟩ : Fin 2048) = ⟨i.val - 1, by omega⟩ := Fin.ext (by simp only; omega)
    word_cmp
    simp only [h1, e]
    rfl
  · word_cmp
    simp only [h1]
    rfl

/-- A rotation by all rows but one, the row that wraps replaced by zero. -/
theorem rotate_after (f : Fin 2048 → EReal) (i : Fin 2048) (h : (i.val + 2048 - 2047) % 2048 < 2048) :
    Scalar.select (IntOp.cmpi .slt (BitVec.ofNat 32 i.val) 2047#32) (f ⟨(i.val + 2048 - 2047) % 2048, h⟩) 0 = after f i := by
  have hi := i.isLt
  unfold after
  by_cases h1 : i.val < 2047
  · have e : (⟨(i.val + 2048 - 2047) % 2048, h⟩ : Fin 2048) = ⟨1 + i.val, by omega⟩ := Fin.ext (by simp only; omega)
    word_cmp
    simp only [h1, e]
    rfl
  · word_cmp
    simp only [h1]
    rfl

/-- A factor of every row comes out of the shift. -/
theorem before_mul (f : Fin 2048 → EReal) (w : EReal) (i : Fin 2048) : before (fun k => f k * w) i = w * before f i := by
  unfold before
  split
  · exact mul_comm _ _
  · exact (mul_zero w).symm

theorem after_mul (f : Fin 2048 → EReal) (w : EReal) (i : Fin 2048) : after (fun k => f k * w) i = w * after f i := by
  unfold after
  split
  · exact mul_comm _ _
  · exact (mul_zero w).symm

/-- The convolution of a column with three taps. -/
def conv (f : Fin 2048 → EReal) (w0 w1 w2 b : EReal) (i : Fin 2048) : EReal := w0 * before f i + w1 * f i + w2 * after f i + b

/-- The logistic function. -/
def logi (g : EReal) : EReal := Ideal.div 1 (1 + Ideal.exp (-g))

/-- Its value at a real is real. -/
theorem logi_real {g : EReal} (h : IsReal g) : IsReal (logi g) := by
  obtain ⟨r, rfl⟩ := h
  have e : (1 + Ideal.exp (-(r : EReal)) : EReal) = ((1 + Real.exp (-r) : ℝ) : EReal) := by
    rw [← EReal.coe_neg, Ideal.exp_coe]
    push_cast
    rfl
  refine ⟨1 / (1 + Real.exp (-r)), ?_⟩
  rw [logi, e, Ideal.div_coe (by positivity), one_mul]

/-- The derivative of `g · logistic g`, as the kernel and as the reference write it. -/
theorem gate_eq {a y g s : EReal} (ha : IsReal a) (hy : IsReal y) (hg : IsReal g) (hs : IsReal s) :
    a * y * (s * (1 + g * (1 - s))) = y * a * s + g * (y * a) * (s * (1 - s)) := by
  obtain ⟨a, rfl⟩ := ha; obtain ⟨y, rfl⟩ := hy; obtain ⟨g, rfl⟩ := hg; obtain ⟨s, rfl⟩ := hs
  rw [show (1 : EReal) = ((1 : ℝ) : EReal) from rfl]
  norm_cast
  ring

theorem before_real {f : Fin 2048 → EReal} (h : ∀ k, IsReal (f k)) (i : Fin 2048) : IsReal (before f i) := by
  unfold before
  split
  · exact h _
  · exact IsReal.zero

theorem after_real {f : Fin 2048 → EReal} (h : ∀ k, IsReal (f k)) (i : Fin 2048) : IsReal (after f i) := by
  unfold after
  split
  · exact h _
  · exact IsReal.zero

/-! ## The kernel's values at an entry of a block -/

section
variable (c v b g a : FVec Ideal S2048x128 .bf16) (w0 w1 w2 wb : FVec Ideal S1x128 .f32) (d e : FVec Ideal S2048x128 .f32)
  (i : Fin 2048) (l : Fin 128)

theorem pay6_at : k0_pay6 (F := Ideal) c v (ix2 i l) = c (ix2 i l) * v (ix2 i l) := by
  pointwise [k0_pay6, k0_pay2, k0_pay3]

theorem pay7_at : k0_pay7 (F := Ideal) c v (ix2 i l) = before (fun k => k0_pay6 (F := Ideal) c v (ix2 k l)) i := by
  refine Eq.trans ?_ (rotate_before (fun k => k0_pay6 (F := Ideal) c v (ix2 k l)) i (Nat.mod_lt _ (by decide)))
  pointwise [k0_pay7]

theorem pay8_at : k0_pay8 (F := Ideal) c v (ix2 i l) = after (fun k => k0_pay6 (F := Ideal) c v (ix2 k l)) i := by
  refine Eq.trans ?_ (rotate_after (fun k => k0_pay6 (F := Ideal) c v (ix2 k l)) i (Nat.mod_lt _ (by decide)))
  pointwise [k0_pay8]

theorem pay9_at : k0_pay9 (F := Ideal) c v w0 w1 w2 wb (ix2 i l)
    = conv (fun k => k0_pay6 (F := Ideal) c v (ix2 k l)) (w0 (ix2 0 l)) (w1 (ix2 0 l)) (w2 (ix2 0 l)) (wb (ix2 0 l)) i := by
  rw [conv, ← pay7_at, ← pay8_at]
  pointwise [k0_pay9]

theorem pay10_at : k0_pay10 (F := Ideal) c v b w0 w1 w2 wb (ix2 i l)
    = b (ix2 i l) * k0_pay9 (F := Ideal) c v w0 w1 w2 wb (ix2 i l) := by
  pointwise [k0_pay10, k0_pay4]

/-- The cotangent through the outer gate. -/
theorem pay12_at : k0_pay12 (F := Ideal) (k0_pay5 g) a (ix2 i l) = a (ix2 i l) * (g (ix2 i l) * logi (g (ix2 i l))) := by
  rw [logi, ← zero_sub]
  pointwise [k0_pay12, k0_pay11, k0_pay5]

theorem pay13_at : k0_pay13 (F := Ideal) (k0_pay5 g) d a (ix3 0 i l)
    = a (ix2 i l) * d (ix2 i l) * (logi (g (ix2 i l)) * (1 + g (ix2 i l) * (1 - logi (g (ix2 i l))))) := by
  rw [logi, ← zero_sub]
  pointwise [k0_pay13, k0_pay11, k0_pay5]

theorem pay14_at : k0_pay14 (F := Ideal) (k0_pay5 g) d a (ix3 0 i l)
    = k0_pay12 (F := Ideal) (k0_pay5 g) a (ix2 i l) * d (ix2 i l) := by
  pointwise [k0_pay14]

theorem pay15_at : k0_pay15 (F := Ideal) (k0_pay4 b) (k0_pay5 g) a (ix2 i l)
    = k0_pay12 (F := Ideal) (k0_pay5 g) a (ix2 i l) * b (ix2 i l) := by
  pointwise [k0_pay15, k0_pay4]

theorem pay16_at : k0_pay16 (F := Ideal) (k0_pay4 b) (k0_pay5 g) a (ix2 0 l)
    = ∑ k : Fin 2048, k0_pay15 (F := Ideal) (k0_pay4 b) (k0_pay5 g) a (ix2 k l) := by
  pointwise [k0_pay16]

theorem pay17_at : k0_pay17 (F := Ideal) e d (ix2 0 l) = ∑ k : Fin 2048, d (ix2 k l) * e (ix2 k l) := by
  pointwise [k0_pay17]

theorem pay18_at : k0_pay18 (F := Ideal) e d (ix2 0 l) = ∑ k : Fin 2048, d (ix2 k l) * e (ix2 k l) := by
  pointwise [k0_pay18]

theorem pay19_at : k0_pay19 (F := Ideal) e d (ix2 0 l) = ∑ k : Fin 2048, d (ix2 k l) * e (ix2 k l) := by
  pointwise [k0_pay19]

/-- The cotangent of the product, through the three taps the other way round. -/
theorem pay20_at : k0_pay20 (F := Ideal) w0 w1 w2 d (ix2 i l)
    = w0 (ix2 0 l) * after (fun k => d (ix2 k l)) i + w1 (ix2 0 l) * d (ix2 i l)
      + w2 (ix2 0 l) * before (fun k => d (ix2 k l)) i := by
  rw [← rotate_before (fun k => d (ix2 k l)) i (Nat.mod_lt _ (by decide)), ← rotate_after (fun k => d (ix2 k l)) i (Nat.mod_lt _ (by decide))]
  pointwise [k0_pay20]

theorem pay21_at : k0_pay21 (F := Ideal) (k0_pay3 v) w0 w1 w2 d (ix3 0 i l)
    = k0_pay20 (F := Ideal) w0 w1 w2 d (ix2 i l) * v (ix2 i l) := by
  pointwise [k0_pay21, k0_pay3]

theorem pay1_at : k0_pay1 (F := Ideal) (k0_pay22 (k0_pay2 c) w0 w1 w2 d) (ix3 0 i l)
    = k0_pay20 (F := Ideal) w0 w1 w2 d (ix2 i l) * c (ix2 i l) := by
  pointwise [k0_pay1, k0_pay22, k0_pay2]

end

/-! ## The reference's values at an entry -/

section
variable (x0 : FVec Ideal S2048x1024 .bf16) (x1 : FVec Ideal S2048x4096 .bf16) (x2 : FVec Ideal S3x1024 .f32)
  (x3 : FVec Ideal S1x1024 .f32) (i : Fin 2048) (j : Fin 1024)

theorem v8_at : val_main_v8 (F := Ideal) x1 (ix2 i j) = before (fun k => val_main_v5 (F := Ideal) x1 (ix2 k j)) i := by
  pointwise [val_main_v8, val_main_v7, val_main_v6, val_main_cst]
  unfold before
  by_cases h : 1 ≤ i.val
  · rw [dif_neg (by omega), dif_pos h]
  · rw [dif_pos (by omega), dif_neg h]

theorem v11_at : val_main_v11 (F := Ideal) x1 (ix2 i j) = after (fun k => val_main_v5 (F := Ideal) x1 (ix2 k j)) i := by
  pointwise [val_main_v11, val_main_v10, val_main_v9, val_main_v6, val_main_cst]
  rfl

theorem v31_at : val_main_v31 (F := Ideal) x1 x2 x3 (ix2 i j)
    = conv (fun k => val_main_v5 (F := Ideal) x1 (ix2 k j)) (val_main_v15 (F := Ideal) x2 (ix2 0 j)) (val_main_v20 (F := Ideal) x2 (ix2 0 j))
      (val_main_v26 (F := Ideal) x2 (ix2 0 j)) (x3 (ix2 0 j)) i := by
  rw [conv, ← v8_at, ← v11_at]
  pointwise [val_main_v31, val_main_v29, val_main_v23, val_main_v17, val_main_v16, val_main_v22, val_main_v21, val_main_v28, val_main_v27, val_main_v30]
  rw [mul_comm (val_main_v8 (F := Ideal) x1 (ix2 i j)), mul_comm (val_main_v5 (F := Ideal) x1 (ix2 i j)), mul_comm (val_main_v11 (F := Ideal) x1 (ix2 i j))]

theorem v37_at : val_main_v37 (F := Ideal) x0 x1 (ix2 i j)
    = x0 (ix2 i j) * (val_main_v4 (F := Ideal) x1 (ix2 i j) * logi (val_main_v4 (F := Ideal) x1 (ix2 i j))) := by
  rw [logi]
  pointwise [val_main_v37, val_main_v35, val_main_v33_0, val_main_v33_2, val_main_call0_v0, val_main_call0_v1, val_main_call0_v2, val_main_call0_v3,
    val_main_call0_v4, val_main_call0_cst, val_main_call0_cst_0]

theorem v38_at : val_main_v38 (F := Ideal) x0 x1 x2 x3 (ix2 i j)
    = val_main_v32 (F := Ideal) x1 x2 x3 (ix2 i j) * x0 (ix2 i j) * logi (val_main_v4 (F := Ideal) x1 (ix2 i j))
      + val_main_v4 (F := Ideal) x1 (ix2 i j) * (val_main_v32 (F := Ideal) x1 x2 x3 (ix2 i j) * x0 (ix2 i j))
        * (logi (val_main_v4 (F := Ideal) x1 (ix2 i j)) * (1 - logi (val_main_v4 (F := Ideal) x1 (ix2 i j)))) := by
  rw [logi]
  pointwise [val_main_v38, val_main_call1_v0, val_main_call1_v1, val_main_call1_v2, val_main_v36, val_main_v35, val_main_v33_0, val_main_v33_1,
    val_main_v33_2, val_main_call0_v0, val_main_call0_v1, val_main_call0_v2, val_main_call0_v3, val_main_call0_v4, val_main_call0_v6,
    val_main_call0_v7, val_main_call0_cst, val_main_call0_cst_0, val_main_call0_cst_1]

/-- The cotangent of the product. -/
theorem v76_at : val_main_v76 (F := Ideal) x0 x1 x2 (ix2 i j)
    = val_main_v15 (F := Ideal) x2 (ix2 0 j) * after (fun k => val_main_v39 (F := Ideal) x0 x1 (ix2 k j)) i
      + val_main_v20 (F := Ideal) x2 (ix2 0 j) * val_main_v39 (F := Ideal) x0 x1 (ix2 i j)
      + val_main_v26 (F := Ideal) x2 (ix2 0 j) * before (fun k => val_main_v39 (F := Ideal) x0 x1 (ix2 k j)) i := by
  rw [← before_mul, ← after_mul, mul_comm (val_main_v20 (F := Ideal) x2 (ix2 0 j))]
  pointwise [val_main_v76, val_main_v75, val_main_v74, val_main_v72, val_main_v71, val_main_v69, val_main_v64, val_main_v47, val_main_v46, val_main_v55,
    val_main_v54, val_main_v63, val_main_cst_12, val_main_cst_13]
  rw [add_comm (_ + _) _, ← add_assoc]
  refine congrArg₂ _ rfl ?_
  unfold before
  by_cases h : 1 ≤ i.val
  · rw [dif_pos ⟨h, by omega⟩, dif_pos h]
  · rw [dif_neg fun h' => h h'.1, dif_neg h]

/-- The bias's gradient. -/
theorem v42_at : val_main_v42 (F := Ideal) x0 x1 (ix2 0 j) = ∑ k : Fin 2048, val_main_v39 (F := Ideal) x0 x1 (ix2 k j) := by
  pointwise [val_main_v42, val_main_v41, val_main_cst_2]

/-- The taps' gradients. -/
theorem v68_at0 : val_main_v68 (F := Ideal) x0 x1 (ix2 0 j)
    = ∑ k : Fin 2048, val_main_v8 (F := Ideal) x1 (ix2 k j) * val_main_v39 (F := Ideal) x0 x1 (ix2 k j) := by
  pointwise [val_main_v68, val_main_v59, val_main_v50, val_main_v58, val_main_v67, val_main_v66, val_main_v65, val_main_v62, val_main_v61, val_main_v60,
    val_main_cst_5, val_main_cst_8, val_main_cst_11, val_main_cst_9, val_main_cst_10]
  simp only [Finset.univ_unique, Finset.sum_singleton]

theorem v68_at1 : val_main_v68 (F := Ideal) x0 x1 (ix2 1 j)
    = ∑ k : Fin 2048, val_main_v5 (F := Ideal) x1 (ix2 k j) * val_main_v39 (F := Ideal) x0 x1 (ix2 k j) := by
  pointwise [val_main_v68, val_main_v59, val_main_v50, val_main_v58, val_main_v67, val_main_v57, val_main_v56, val_main_v53, val_main_v52, val_main_v51,
    val_main_cst_5, val_main_cst_8, val_main_cst_11, val_main_cst_6, val_main_cst_7]
  simp only [Finset.univ_unique, Finset.sum_singleton]

theorem v68_at2 : val_main_v68 (F := Ideal) x0 x1 (ix2 2 j)
    = ∑ k : Fin 2048, val_main_v11 (F := Ideal) x1 (ix2 k j) * val_main_v39 (F := Ideal) x0 x1 (ix2 k j) := by
  pointwise [val_main_v68, val_main_v59, val_main_v50, val_main_v58, val_main_v67, val_main_v49, val_main_v48, val_main_v45, val_main_v44, val_main_v43,
    val_main_cst_5, val_main_cst_8, val_main_cst_11, val_main_cst_3, val_main_cst_4]
  simp only [Finset.univ_unique, Finset.sum_singleton]

theorem v84_at (a : Fin 4) : val_main_v84 (F := Ideal) x0 x1 x2 x3 (ix3 a i j)
    = ![val_main_v40 (F := Ideal) x0 x1 x2 x3 (ix2 i j), val_main_v78 (F := Ideal) x0 x1 x2 (ix2 i j), val_main_v77 (F := Ideal) x0 x1 x2 (ix2 i j),
        val_main_v38 (F := Ideal) x0 x1 x2 x3 (ix2 i j)] a := by
  fin_cases a <;> pointwise [val_main_v84, val_main_v83, val_main_v79, val_main_v80, val_main_v81, val_main_v82] <;> rfl

end

/-! ## A column of a block against its column of the arrays -/

/-- Column `l` of the blocks is column `j` of the arrays. -/
structure Cols (x0 : FVec Ideal S2048x1024 .bf16) (x1 : FVec Ideal S2048x4096 .bf16) (x2 : FVec Ideal S3x1024 .f32) (x3 : FVec Ideal S1x1024 .f32)
    (c v b g a : FVec Ideal S2048x128 .bf16) (w0 w1 w2 wb : FVec Ideal S1x128 .f32) (l : Fin 128) (j : Fin 1024) : Prop where
  a : ∀ k, a (ix2 k l) = x0 (ix2 k j)
  b : ∀ k, b (ix2 k l) = val_main_v1 (F := Ideal) x1 (ix2 k j)
  c : ∀ k, c (ix2 k l) = val_main_v2 (F := Ideal) x1 (ix2 k j)
  v : ∀ k, v (ix2 k l) = val_main_v3 (F := Ideal) x1 (ix2 k j)
  g : ∀ k, g (ix2 k l) = val_main_v4 (F := Ideal) x1 (ix2 k j)
  w0 : w0 (ix2 0 l) = val_main_v15 (F := Ideal) x2 (ix2 0 j)
  w1 : w1 (ix2 0 l) = val_main_v20 (F := Ideal) x2 (ix2 0 j)
  w2 : w2 (ix2 0 l) = val_main_v26 (F := Ideal) x2 (ix2 0 j)
  wb : wb (ix2 0 l) = x3 (ix2 0 j)

section
variable {x0 : FVec Ideal S2048x1024 .bf16} {x1 : FVec Ideal S2048x4096 .bf16} {x2 : FVec Ideal S3x1024 .f32} {x3 : FVec Ideal S1x1024 .f32}
  {c v b g a : FVec Ideal S2048x128 .bf16} {w0 w1 w2 wb : FVec Ideal S1x128 .f32} {l : Fin 128} {j : Fin 1024}

/-- The product that is convolved. -/
theorem Cols.tv (H : Cols x0 x1 x2 x3 c v b g a w0 w1 w2 wb l j) (k : Fin 2048) :
    k0_pay6 (F := Ideal) c v (ix2 k l) = val_main_v5 (F := Ideal) x1 (ix2 k j) := by
  rw [pay6_at, H.c, H.v]
  pointwise [val_main_v5]

/-- The convolution. -/
theorem Cols.conv (H : Cols x0 x1 x2 x3 c v b g a w0 w1 w2 wb l j) (k : Fin 2048) :
    k0_pay9 (F := Ideal) c v w0 w1 w2 wb (ix2 k l) = val_main_v31 (F := Ideal) x1 x2 x3 (ix2 k j) := by
  rw [pay9_at, v31_at, H.w0, H.w1, H.w2, H.wb]
  simp only [H.tv]

/-- The cotangent through the outer gate. -/
theorem Cols.dy (H : Cols x0 x1 x2 x3 c v b g a w0 w1 w2 wb l j) (k : Fin 2048) :
    k0_pay12 (F := Ideal) (k0_pay5 g) a (ix2 k l) = val_main_v37 (F := Ideal) x0 x1 (ix2 k j) := by
  rw [pay12_at, v37_at, H.a, H.g]

/-- The convolution's cotangent. -/
theorem Cols.dconv (H : Cols x0 x1 x2 x3 c v b g a w0 w1 w2 wb l j) (k : Fin 2048) :
    k0_pay15 (F := Ideal) (k0_pay4 b) (k0_pay5 g) a (ix2 k l) = val_main_v39 (F := Ideal) x0 x1 (ix2 k j) := by
  rw [pay15_at, H.dy, H.b, mul_comm]
  pointwise [val_main_v39]

/-- The product's cotangent. -/
theorem Cols.dt (H : Cols x0 x1 x2 x3 c v b g a w0 w1 w2 wb l j) (k : Fin 2048) :
    k0_pay20 (F := Ideal) w0 w1 w2 (k0_pay15 (k0_pay4 b) (k0_pay5 g) a) (ix2 k l) = val_main_v76 (F := Ideal) x0 x1 x2 (ix2 k j) := by
  rw [pay20_at, v76_at, H.w0, H.w1, H.w2]
  simp only [H.dconv]

/-- The derivative of the inner gate. -/
theorem Cols.dbg (H : Cols x0 x1 x2 x3 c v b g a w0 w1 w2 wb l j) (k : Fin 2048) :
    k0_pay14 (F := Ideal) (k0_pay5 g) (k0_pay9 c v w0 w1 w2 wb) a (ix3 0 k l) = val_main_v84 (F := Ideal) x0 x1 x2 x3 (ix3 0 k j) := by
  rw [pay14_at, H.dy, H.conv, v84_at]
  pointwise [val_main_v40]

/-- The derivative of the product's first factor. -/
theorem Cols.dcg (H : Cols x0 x1 x2 x3 c v b g a w0 w1 w2 wb l j) (k : Fin 2048) :
    k0_pay21 (F := Ideal) (k0_pay3 v) w0 w1 w2 (k0_pay15 (k0_pay4 b) (k0_pay5 g) a) (ix3 0 k l)
      = val_main_v84 (F := Ideal) x0 x1 x2 x3 (ix3 1 k j) := by
  rw [pay21_at, H.dt, H.v, v84_at]
  pointwise [val_main_v78]

/-- The derivative of the product's second factor. -/
theorem Cols.dv (H : Cols x0 x1 x2 x3 c v b g a w0 w1 w2 wb l j) (k : Fin 2048) :
    k0_pay1 (F := Ideal) (k0_pay22 (k0_pay2 c) w0 w1 w2 (k0_pay15 (k0_pay4 b) (k0_pay5 g) a)) (ix3 0 k l)
      = val_main_v84 (F := Ideal) x0 x1 x2 x3 (ix3 2 k j) := by
  rw [pay1_at, H.dt, H.c, v84_at, mul_comm]
  pointwise [val_main_v77]

/-- The derivative of the outer gate. -/
theorem Cols.dg (H : Cols x0 x1 x2 x3 c v b g a w0 w1 w2 wb l j) (h0 : ∀ i, IsReal (x0 i)) (h1 : ∀ i, IsReal (x1 i)) (h2 : ∀ i, IsReal (x2 i))
    (h3 : ∀ i, IsReal (x3 i)) (k : Fin 2048) :
    k0_pay13 (F := Ideal) (k0_pay5 g) (k0_pay10 c v b w0 w1 w2 wb) a (ix3 0 k l) = val_main_v84 (F := Ideal) x0 x1 x2 x3 (ix3 3 k j) := by
  have e : k0_pay10 (F := Ideal) c v b w0 w1 w2 wb (ix2 k l) = val_main_v32 (F := Ideal) x1 x2 x3 (ix2 k j) := by
    rw [pay10_at, H.conv, H.b]
    pointwise [val_main_v32]
  have r5 : ∀ k, IsReal (val_main_v5 (F := Ideal) x1 (ix2 k j)) := fun k => by
    pointwise [val_main_v5, val_main_v2, val_main_v3, val_main_v0]
    exact (h1 _).mul (h1 _)
  have r32 : IsReal (val_main_v32 (F := Ideal) x1 x2 x3 (ix2 k j)) := by
    pointwise [val_main_v32, val_main_v1, val_main_v0]
    rw [v31_at]
    pointwise [val_main_v15, val_main_v20, val_main_v26, val_main_v14, val_main_v13, val_main_v19, val_main_v18, val_main_v25, val_main_v24]
    exact (h1 _).mul (((((h2 _).mul (before_real r5 _)).add ((h2 _).mul (r5 _))).add ((h2 _).mul (after_real r5 _))).add (h3 _))
  have r4 : IsReal (val_main_v4 (F := Ideal) x1 (ix2 k j)) := by
    pointwise [val_main_v4, val_main_v0]
    exact h1 _
  rw [pay13_at, e, H.a, H.g, v84_at, gate_eq (h0 _) r32 r4 (logi_real r4)]
  exact (v38_at x0 x1 x2 x3 k j).symm

/-- The bias's gradient. -/
theorem Cols.ddb (H : Cols x0 x1 x2 x3 c v b g a w0 w1 w2 wb l j) :
    k0_pay16 (F := Ideal) (k0_pay4 b) (k0_pay5 g) a (ix2 0 l) = val_main_v42 (F := Ideal) x0 x1 (ix2 0 j) := by
  rw [pay16_at, v42_at]
  simp only [H.dconv]

/-- The first tap's gradient. -/
theorem Cols.ddw0 (H : Cols x0 x1 x2 x3 c v b g a w0 w1 w2 wb l j) :
    k0_pay17 (F := Ideal) (k0_pay7 c v) (k0_pay15 (k0_pay4 b) (k0_pay5 g) a) (ix2 0 l) = val_main_v68 (F := Ideal) x0 x1 (ix2 0 j) := by
  rw [pay17_at, v68_at0]
  refine Finset.sum_congr rfl fun k _ => ?_
  rw [H.dconv, pay7_at, v8_at, mul_comm]
  simp only [H.tv]

/-- The second tap's gradient. -/
theorem Cols.ddw1 (H : Cols x0 x1 x2 x3 c v b g a w0 w1 w2 wb l j) :
    k0_pay18 (F := Ideal) (k0_pay6 c v) (k0_pay15 (k0_pay4 b) (k0_pay5 g) a) (ix2 0 l) = val_main_v68 (F := Ideal) x0 x1 (ix2 1 j) := by
  rw [pay18_at, v68_at1]
  refine Finset.sum_congr rfl fun k _ => ?_
  rw [H.dconv, H.tv, mul_comm]

/-- The third tap's gradient. -/
theorem Cols.ddw2 (H : Cols x0 x1 x2 x3 c v b g a w0 w1 w2 wb l j) :
    k0_pay19 (F := Ideal) (k0_pay8 c v) (k0_pay15 (k0_pay4 b) (k0_pay5 g) a) (ix2 0 l) = val_main_v68 (F := Ideal) x0 x1 (ix2 2 j) := by
  rw [pay19_at, v68_at2]
  refine Finset.sum_congr rfl fun k _ => ?_
  rw [H.dconv, pay8_at, v11_at, mul_comm]
  simp only [H.tv]

end

/-! ## The arrays after the run -/

section
variable (m : (ℓ : Loc nD τ sig) → Buf (Elt Ideal) ℓ) (ch : Dev nD)

/-- The cotangent, the four packed inputs, the taps and the bias. -/
abbrev A0 : FVec Ideal S2048x1024 .bf16 := m ((ch : Thread nD τ).loc main_arg0)
abbrev A1 : FVec Ideal S2048x4096 .bf16 := m ((ch : Thread nD τ).loc main_arg1)
abbrev A2 : FVec Ideal S3x1024 .f32 := m ((ch : Thread nD τ).loc main_arg2)
abbrev A3 : FVec Ideal S1x1024 .f32 := m ((ch : Thread nD τ).loc main_arg3)

/-- Every argument of the call is finite on this device. -/
structure Reals : Prop where
  a : ∀ i, IsReal (A0 m ch i)
  p : ∀ i, IsReal (A1 m ch i)
  w : ∀ i, IsReal (A2 m ch i)
  b : ∀ i, IsReal (A3 m ch i)

/-- The packed gates, the cotangent and the product's cotangent as the body names them between its stores. -/
theorem pay24_eq (x0 x1 x2 x3 x4 : FVec Ideal S2048x128 .bf16) (x5 : FVec Ideal S3x128 .f32) (x6 : FVec Ideal S1x128 .f32) :
    k0_pay24 (F := Ideal) x0 x1 x2 x3 x4 x5 x6 = k0_pay5 x4 := by
  unfold k0_pay24
  frame_out

theorem pay23_eq (x0 x1 x2 x3 x4 : FVec Ideal S2048x128 .bf16) (x5 : FVec Ideal S3x128 .f32) (x6 : FVec Ideal S1x128 .f32) :
    k0_pay23 (F := Ideal) x0 x1 x2 x3 x4 x5 x6 = k0_pay4 x1 := by
  unfold k0_pay23
  frame_out

theorem pay25_eq (x0 x1 x2 x3 x4 : FVec Ideal S2048x128 .bf16) (x5 : FVec Ideal S3x128 .f32) (x6 : FVec Ideal S1x128 .f32) :
    k0_pay25 (F := Ideal) x0 x1 x2 x3 x4 x5 x6 = k0_pay15 (k0_pay4 x1) (k0_pay5 x4) x0 := by
  unfold k0_pay25 k0_pay24 k0_pay23
  frame_out

/-- At grid point `t` the blocks hold columns `128 t + l`. -/
theorem cols_at (t : Fin cfg0.N) (l : Fin 128) (j : Fin 1024) (hj : j.val = t.val * 128 + l.val) :
    Cols (A0 m ch) (A1 m ch) (A2 m ch) (A3 m ch) (iblk m ch 2 t) (iblk m ch 3 t) (iblk m ch 1 t)
      (iblk m ch 4 t) (iblk m ch 0 t) (View.ld (iblk m ch 5 t) r0_1) (View.ld (iblk m ch 5 t) r0_2)
      (View.ld (iblk m ch 5 t) r0_3) (iblk m ch 6 t) l j := by
  have hN : t.val < 8 := lt_of_lt_of_eq t.isLt N_0
  constructor
  · intro k
    unfold A0
    blk_ext [iblk, V, idx t]
  · intro k
    pointwise [val_main_v1, val_main_v0, A1]
    blk_ext [iblk, V, idx t]
  · intro k
    pointwise [val_main_v2, val_main_v0, A1]
    blk_ext [iblk, V, idx t]
  · intro k
    pointwise [val_main_v3, val_main_v0, A1]
    blk_ext [iblk, V, idx t]
  · intro k
    pointwise [val_main_v4, val_main_v0, A1]
    blk_ext [iblk, V, idx t]
  · pointwise [val_main_v15, val_main_v14, val_main_v13, A2]
    blk_ext [iblk, V, idx t]
  · pointwise [val_main_v20, val_main_v19, val_main_v18, A2]
    blk_ext [iblk, V, idx t]
  · pointwise [val_main_v26, val_main_v25, val_main_v24, A2]
    blk_ext [iblk, V, idx t]
  · unfold A3
    blk_ext [iblk, V, idx t]

end

end Cert.ConvKIdeal.Hand
end
end
-- ==== Proof.ConvRun.lean ====
module

public import proofs.«01_k».proof.Proof.Gen.ConvKIdeal.Value
public import proofs.«01_k».proof.Proof.Conv
public import proofs.«01_k».proof.Proof.Gen.ConvRIdeal.Run
public import proofs.«01_k».proof.Proof.Gen.ConvRIdeal.Read
public import proofs.«01_k».proof.Proof.Finite
public import Idealize.ShloMosaic.Lib.Pipeline.ValueKit
public import Idealize.ShloMosaic.Lib.Pointwise
public import Idealize.ShloMosaic.Lib.WordCmp

/-! The arrays of the short convolution's gradients after the run, and the run that leaves them. -/

@[expose] public section
set_option maxRecDepth 16384
noncomputable section
open Idealize.ShloMosaic Idealize.ShloMosaic.TcCoe Idealize.SL.Sem
open Idealize.ShloMosaic.Pipeline (Dat)
open Cert.ConvRIdeal.Read
open Cert.Finite (IsReal)
namespace Cert.ConvKIdeal.Hand
open Cert.ConvKIdeal Cert.ConvKIdeal.Gen

section
variable (m : (ℓ : Loc nD τ sig) → Buf (Elt Ideal) ℓ) (ch : Dev nD)

set_option maxHeartbeats 1000000 in
/-- The packed inputs' gradients after the run. -/
theorem d4_final (R : Reals m ch) : (dats m 0 ch).arrAt 7 cfg0.N = val_main_v84 (F := Ideal) (A0 m ch) (A1 m ch) (A2 m ch) (A3 m ch) := by
  refine (dats m 0 ch).arrAt_eq_of_covers 7 _ (by decide +kernel) fun t _ y => ?_
  have hN : t.val < 8 := lt_of_lt_of_eq t.isLt N_0
  blk_simp
  rw [after0_7]
  frame_out
  canon_tiles y hy
  · idx_vars y
    obtain rfl : y0 = 0 := Subsingleton.elim _ _
    rw [pay25_eq]
    refine ((cols_at m ch t y2 ⟨t.val * 128 + y2.val, by omega⟩ rfl).dv y1).trans ?_
    blk_ext [iblk, V, idx t]
  · idx_vars y
    obtain rfl : y0 = 0 := Subsingleton.elim _ _
    rw [pay25_eq]
    refine ((cols_at m ch t y2 ⟨t.val * 128 + y2.val, by omega⟩ rfl).dcg y1).trans ?_
    blk_ext [iblk, V, idx t]
  · idx_vars y
    obtain rfl : y0 = 0 := Subsingleton.elim _ _
    rw [pay24_eq]
    refine ((cols_at m ch t y2 ⟨t.val * 128 + y2.val, by omega⟩ rfl).dbg y1).trans ?_
    blk_ext [iblk, V, idx t]
  · idx_vars y
    obtain rfl : y0 = 0 := Subsingleton.elim _ _
    rw [pay24_eq]
    refine ((cols_at m ch t y2 ⟨t.val * 128 + y2.val, by omega⟩ rfl).dg R.a R.p R.w R.b y1).trans ?_
    blk_ext [iblk, V, idx t]

/-- The taps' gradients after the run. -/
theorem ddw_final : (dats m 0 ch).arrAt 8 cfg0.N = val_main_v68 (F := Ideal) (A0 m ch) (A1 m ch) := by
  refine (dats m 0 ch).arrAt_eq_of_covers 8 _ (by decide +kernel) fun t _ y => ?_
  have hN : t.val < 8 := lt_of_lt_of_eq t.isLt N_0
  blk_simp
  rw [after0_8]
  frame_out
  rw [pay25_eq]
  canon_tiles y hy
  · idx_vars y
    obtain rfl : y0 = 0 := Subsingleton.elim _ _
    refine (cols_at m ch t y1 ⟨t.val * 128 + y1.val, by omega⟩ rfl).ddw2.trans ?_
    blk_ext [iblk, V, idx t]
  · idx_vars y
    obtain rfl : y0 = 0 := Subsingleton.elim _ _
    refine (cols_at m ch t y1 ⟨t.val * 128 + y1.val, by omega⟩ rfl).ddw1.trans ?_
    blk_ext [iblk, V, idx t]
  · idx_vars y
    obtain rfl : y0 = 0 := Subsingleton.elim _ _
    refine (cols_at m ch t y1 ⟨t.val * 128 + y1.val, by omega⟩ rfl).ddw0.trans ?_
    blk_ext [iblk, V, idx t]

/-- The bias's gradient after the run. -/
theorem ddb_final : (dats m 0 ch).arrAt 9 cfg0.N = val_main_v42 (F := Ideal) (A0 m ch) (A1 m ch) := by
  refine (dats m 0 ch).arrAt_eq_of_covers 9 _ (by decide +kernel) fun t _ y => ?_
  have hN : t.val < 8 := lt_of_lt_of_eq t.isLt N_0
  blk_simp
  rw [after0_9]
  frame_out
  rw [pay24_eq, pay23_eq]
  idx_vars y
  obtain rfl : y0 = 0 := Subsingleton.elim _ _
  refine (cols_at m ch t y1 ⟨t.val * 128 + y1.val, by omega⟩ rfl).ddb.trans ?_
  blk_ext [iblk, V, idx t]

end

/-- The run with the gradients as the reference's values. -/
theorem run (m : (ℓ : Loc nD τ sig) → Buf (Elt Ideal) ℓ) (ρ : Dev nD → PrngReg) (R : ∀ c, Reals m c) :
    θ_run defs (onTc (τ := τ) (main (F := Ideal))) ⟨m, fun _ => 0, ρ⟩ fun r => ∀ c : Dev nD,
      r.2.mem ((c : Thread nD τ).loc main_v0_0) = val_main_v84 (F := Ideal) (A0 m c) (A1 m c) (A2 m c) (A3 m c)
      ∧ r.2.mem ((c : Thread nD τ).loc main_v0_1) = val_main_v68 (F := Ideal) (A0 m c) (A1 m c)
      ∧ r.2.mem ((c : Thread nD τ).loc main_v0_2) = val_main_v42 (F := Ideal) (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (d4_final m c (R c)), (h c).2.1.trans (ddw_final m c),
    (h c).2.2.1.trans (ddb_final m c), (h c).2.2.2⟩) (Value.run_blocks m ρ)

end Cert.ConvKIdeal.Hand
end
end
-- ==== Proof.ConvClaim.lean ====
/-
  The short convolution's gradients: the call's results are the derivative's.
-/
module

public import proofs.«01_k».proof.Defs
public import proofs.«01_k».proof.Proof.ConvRun
public import proofs.«01_k».proof.Proof.Gen.ConvRIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.ConvRIdeal.Read

/-- The shape relations the precondition's operations take. -/
theorem conv_pre_facts : Cert.Pre_conv_finite.Facts := by
  constructor <;> decide

theorem conv_reals [Cert.Pre_conv_finite.Facts] (m : (ℓ : Loc Cert.ConvKIdeal.nD Cert.ConvKIdeal.τ Cert.ConvKIdeal.sig) → Buf (Elt Ideal) ℓ)
    (h : Cert.Pre_ConvKIdeal_conv_finite m) (c : Dev Cert.ConvKIdeal.nD) : Cert.ConvKIdeal.Hand.Reals m c := by
  have e := congrFun (h c) (fun a => a.elim0)
  obtain ⟨e, hb⟩ := Cert.Finite.and_split e
  obtain ⟨e, hw⟩ := Cert.Finite.and_split e
  obtain ⟨ha, hp⟩ := Cert.Finite.and_split e
  exact ⟨Cert.Finite.of_all _ _ _ _ _ _ ha, Cert.Finite.of_all _ _ _ _ _ _ hp, Cert.Finite.of_all _ _ _ _ _ _ hw, Cert.Finite.of_all _ _ _ _ _ _ hb⟩

/-- The reference runs and leaves its arguments. -/
theorem conv_reference_frame : Cert.quiescent_ConvRIdeal := by
  intro m g _
  exact (θ_run _ _ _).mono (fun r h => ⟨fun c => (h c).2.2.2, sem_eq_zero_of_no_sems rfl _⟩)
    (Cert.ConvRIdeal.Value.run m g)

/-- The call's gradients are the derivative's. -/
theorem conv_value [Cert.Pre_conv_finite.Facts] : Cert.algebraic_ConvKIdeal_ConvRIdeal_pre_conv_finite := by
  pair_intro
  · run_from Cert.ConvKIdeal.Hand.run m g (fun c => conv_reals m ‹_› c)
  · refine (θ_run _ _ _).mono (fun r h c => ?_) (Cert.ConvRIdeal.Value.run m' g')
    obtain ⟨e0, e1, e2, e3⟩ := hagree c
    obtain ⟨h0, h1, h2, ha⟩ := h c
    refine ⟨h0.trans ?_, h1.trans ?_, h2.trans ?_, ha⟩
    · unfold Cert.ConvRIdeal.Value.res_main_v84
      rw [e0, e1, e2, e3]
      rfl
    · unfold Cert.ConvRIdeal.Value.res_main_v68
      rw [e0, e1]
      rfl
    · rw [e0, e1]
      rfl

end Cert.Proof

end
-- ==== Proof.Loss.lean ====
/-
  The output product with the loss and its gradients: what one row of a tile holds is what the row of the arrays holds.
  The row's gradient is the norm's (`row_eq`), the loss and the gain's gradient are sums of the rows over the tiles.
-/
module

public import proofs.«01_k».proof.Proof.Gen.LossKIdeal.Value
public import proofs.«01_k».proof.Proof.Gen.LossRIdeal.Run
public import proofs.«01_k».proof.Proof.Gen.LossRIdeal.Read
public import proofs.«01_k».proof.Proof.NormRow
public import Idealize.ShloMosaic.Lib.Pipeline.ValueKit
public import Idealize.ShloMosaic.Lib.Pointwise

@[expose] public section

set_option maxRecDepth 16384

noncomputable section

namespace Cert.LossKIdeal.Hand

open Cert.LossKIdeal Cert.LossKIdeal.Gen
open Idealize.ShloMosaic Idealize.ShloMosaic.TcCoe Idealize.SL.Sem
open Idealize.ShloMosaic.Pipeline (Dat)
open Cert.LossRIdeal.Read
open Cert.Finite (IsReal)
open Cert.NormRow

/-- Where each window's block sits: the row windows move with the point, the others stay. -/
theorem idx : ∀ t : Fin cfg0.N, win0_0.index t = ![t.val, 0] ∧ win0_1.index t = ![0, 0]
    ∧ win0_2.index t = ![t.val, 0] ∧ win0_3.index t = ![0, 0, 0] ∧ win0_4.index t = ![0, 0]
    ∧ win0_5.index t = ![t.val, 0] ∧ win0_6.index t = ![t.val, 0] ∧ win0_7.index t = ![0, 0]
    ∧ win0_8.index t = ![t.val, 0] ∧ win0_9.index t = ![0, 0] :=
  (by decide +kernel : ∀ t : Fin grid0.N, _)

theorem ofBits_inv1024 : Ideal.ofBits .f32 0x3A800000#32 = ((1 / 1024 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

/-- Half of a 1024th of the doubled error is the error's 1024th. -/
theorem half_double (e : EReal) :
    Ideal.div (Ideal.ofBits .f32 0x3F000000#32 * 1) (Ideal.ofBits .f32 0x44800000#32) * (Ideal.ofBits .f32 0x40000000#32 * e)
      = e * Ideal.ofBits .f32 0x3A800000#32 := by
  rw [ofBits_half, ofBits_1024, ofBits_two, ofBits_inv1024, mul_one, Ideal.div_coe (by norm_num), ← mul_assoc, ← EReal.coe_mul, ← EReal.coe_mul, mul_comm e]
  norm_num

/-! ## The kernel's values at an entry of a tile -/

section
variable (a : FVec Ideal S512x1024 .bf16) (w : FVec Ideal S1024x1024 .bf16) (x tg : FVec Ideal S512x1024 .f32) (gt : FVec Ideal S1x1x1024 .f32)
  (fg : FVec Ideal S1x1024 .f32) (i : Fin 512) (j : Fin 1024)

theorem pay8_at : k0_pay8 (F := Ideal) a w (ix2 i j) = ∑ k : Fin 1024, a (ix2 i k) * w (ix2 k j) := by
  pointwise [k0_pay8]

theorem pay10_at : k0_pay10 (F := Ideal) a w x gt (ix2 i j) = x (ix2 i j) + gt (ix3 0 0 j) * k0_pay8 (F := Ideal) a w (ix2 i j) := by
  pointwise [k0_pay10]

theorem pay12_at : k0_pay12 (F := Ideal) a w x gt (ix2 i 0) = Ideal.rsqrt (ms fun k => k0_pay10 (F := Ideal) a w x gt (ix2 i k)) := by
  pointwise [k0_pay12]

theorem pay13_at : k0_pay13 (F := Ideal) a w x gt (ix2 i j)
    = k0_pay10 (F := Ideal) a w x gt (ix2 i j) * k0_pay12 (F := Ideal) a w x gt (ix2 i 0) := by
  pointwise [k0_pay13]

theorem pay14_at : k0_pay14 (F := Ideal) a w x gt fg tg (ix2 i j)
    = k0_pay13 (F := Ideal) a w x gt (ix2 i j) * fg (ix2 0 j) - tg (ix2 i j) := by
  pointwise [k0_pay14, k0_pay11]

theorem pay15_at : k0_pay15 (F := Ideal) a w x gt fg tg (ix2 i j)
    = k0_pay14 (F := Ideal) a w x gt fg tg (ix2 i j) * Ideal.ofBits .f32 0x3A800000#32 := by
  pointwise [k0_pay15]

theorem pay16_at : k0_pay16 (F := Ideal) a w x gt fg tg (ix2 i j) = k0_pay15 (F := Ideal) a w x gt fg tg (ix2 i j) * fg (ix2 0 j) := by
  pointwise [k0_pay16, k0_pay11]

theorem pay17_at : k0_pay17 (F := Ideal) a w x gt fg tg (ix2 i 0)
    = ∑ k : Fin 1024, k0_pay16 (F := Ideal) a w x gt fg tg (ix2 i k) * k0_pay13 (F := Ideal) a w x gt (ix2 i k) := by
  pointwise [k0_pay17]

theorem pay1_at (r s : FVec Ideal S512x1 .f32) (xn d : FVec Ideal S512x1024 .f32) :
    k0_pay1 (F := Ideal) r xn d s k0_pay18 (ix2 i j)
      = r (ix2 i 0) * (d (ix2 i j) - xn (ix2 i j) * Ideal.div (s (ix2 i 0)) (Ideal.ofBits .f32 0x44800000#32)) := by
  pointwise [k0_pay1, k0_pay18]

/-- A tile's part of the gain's gradient. -/
theorem pay2_at (xn d : FVec Ideal S512x1024 .f32) : k0_pay2 (F := Ideal) xn d (ix2 0 j) = ∑ i : Fin 512, d (ix2 i j) * xn (ix2 i j) := by
  pointwise [k0_pay2]

theorem pay5_at (xn d : FVec Ideal S512x1024 .f32) (b : FVec Ideal S1x1024 .f32) :
    k0_pay5 (F := Ideal) xn d b (ix2 0 j) = b (ix2 0 j) + ∑ i : Fin 512, d (ix2 i j) * xn (ix2 i j) := by
  pointwise [k0_pay5, k0_pay2]

/-- A tile's part of the loss. -/
theorem pay4_at (e : FVec Ideal S512x1024 .f32) : k0_pay4 (F := Ideal) e (ix2 0 0)
    = ∑ i : Fin 512, Ideal.div (∑ k : Fin 1024, e (ix2 i k) * e (ix2 i k)) (Ideal.ofBits .f32 0x44800000#32) := by
  pointwise [k0_pay4, k0_pay3]

theorem pay6_at (e : FVec Ideal S512x1024 .f32) (b : FVec Ideal S1x1 .f32) : k0_pay6 (F := Ideal) e b (ix2 0 0)
    = b (ix2 0 0) + ∑ i : Fin 512, Ideal.div (∑ k : Fin 1024, e (ix2 i k) * e (ix2 i k)) (Ideal.ofBits .f32 0x44800000#32) := by
  pointwise [k0_pay6, k0_pay3]

theorem pay7_at (b : FVec Ideal S1x1 .f32) (l : Fin 128) : k0_pay7 (F := Ideal) b (ix2 0 l) = Ideal.ofBits .f32 0x3F000000#32 * b (ix2 0 0) := by
  pointwise [k0_pay7]

end

/-! ## The reference's values at an entry -/

section
variable (x0 : FVec Ideal S2048x1024 .bf16) (x1 : FVec Ideal S1024x1024 .f32) (x2 : FVec Ideal S2048x1024 .f32) (x3 x4 : FVec Ideal S1024 .f32)
  (x5 : FVec Ideal S2048x1024 .f32) (n : Fin 2048) (j : Fin 1024)

theorem v1_at : val_main_v1 (F := Ideal) x0 x1 (ix2 n j) = ∑ k : Fin 1024, x0 (ix2 n k) * x1 (ix2 k j) := by
  pointwise [val_main_v1, val_main_v0]

theorem v5_at : val_main_v5 (F := Ideal) x0 x1 x2 x3 (ix2 n j) = x2 (ix2 n j) + x3 (ix1 j) * val_main_v1 (F := Ideal) x0 x1 (ix2 n j) := by
  pointwise [val_main_v5, val_main_v4, val_main_v3, val_main_v2]

theorem v12_at : val_main_v12 (F := Ideal) x0 x1 x2 x3 (ix2 n 0) = ms fun k => val_main_v5 (F := Ideal) x0 x1 x2 x3 (ix2 n k) := by
  pointwise [val_main_v12, val_main_v10, val_main_v8, val_main_v7, val_main_v6, val_main_v9, val_main_v11, val_main_cst, val_main_cst_0, val_main_cst_1]

theorem v13_at : val_main_v13 (F := Ideal) x0 x1 x2 x3 (ix2 n 0)
    = Ideal.rsqrt (ms fun k => val_main_v5 (F := Ideal) x0 x1 x2 x3 (ix2 n k)) := by
  rw [← v12_at]
  pointwise [val_main_v13]

theorem v18_at : val_main_v18 (F := Ideal) x0 x1 x2 x3 (ix2 n j)
    = val_main_v5 (F := Ideal) x0 x1 x2 x3 (ix2 n j) * val_main_v13 (F := Ideal) x0 x1 x2 x3 (ix2 n 0) := by
  pointwise [val_main_v18, val_main_v17]

theorem v22_at : val_main_v22 (F := Ideal) x0 x1 x2 x3 x4 x5 (ix2 n j)
    = val_main_v18 (F := Ideal) x0 x1 x2 x3 (ix2 n j) * x4 (ix1 j) - x5 (ix2 n j) := by
  pointwise [val_main_v22, val_main_v21, val_main_v20, val_main_v19]

theorem v36_at : val_main_v36 (F := Ideal) x0 x1 x2 x3 x4 x5 (ix2 n j)
    = val_main_v22 (F := Ideal) x0 x1 x2 x3 x4 x5 (ix2 n j) * Ideal.ofBits .f32 0x3A800000#32 := by
  rw [← half_double]
  pointwise [val_main_v36, val_main_v35, val_main_v34, val_main_v33, val_main_v32, val_main_v31, val_main_v25, val_main_v24, val_main_cst_3, val_main_cst_8,
    val_main_cst_9, val_main_cst_10]

theorem v41_at : val_main_v41 (F := Ideal) x0 x1 x2 x3 x4 x5 (ix2 n j) = val_main_v36 (F := Ideal) x0 x1 x2 x3 x4 x5 (ix2 n j) * x4 (ix1 j) := by
  pointwise [val_main_v41, val_main_v40, val_main_v19]

theorem v28_at : val_main_v28 (F := Ideal) x0 x1 x2 x3 x4 x5 (ix1 n)
    = Ideal.div (∑ k : Fin 1024, val_main_v22 (F := Ideal) x0 x1 x2 x3 x4 x5 (ix2 n k) * val_main_v22 (F := Ideal) x0 x1 x2 x3 x4 x5 (ix2 n k))
        (Ideal.ofBits .f32 0x44800000#32) := by
  pointwise [val_main_v28, val_main_v26, val_main_v23, val_main_v27, val_main_cst_4, val_main_cst_5]

/-- The loss. -/
theorem v58_at (l : Fin 128) : val_main_v58 (F := Ideal) x0 x1 x2 x3 x4 x5 (ix2 0 l)
    = Ideal.ofBits .f32 0x3F000000#32 * ∑ n : Fin 2048, val_main_v28 (F := Ideal) x0 x1 x2 x3 x4 x5 (ix1 n) := by
  pointwise [val_main_v58, val_main_v30, val_main_v29, val_main_cst_6, val_main_cst_7]

/-- The gain's gradient. -/
theorem v59_at : val_main_v59 (F := Ideal) x0 x1 x2 x3 x4 x5 (ix2 0 j)
    = ∑ n : Fin 2048, val_main_v18 (F := Ideal) x0 x1 x2 x3 (ix2 n j) * val_main_v36 (F := Ideal) x0 x1 x2 x3 x4 x5 (ix2 n j) := by
  pointwise [val_main_v59, val_main_v42, val_main_v39, val_main_v38, val_main_v37, val_main_cst_11, val_main_cst_12]
  simp only [Finset.univ_unique, Finset.sum_singleton]

/-- The row's gradient. -/
theorem v56_at : val_main_v56 (F := Ideal) x0 x1 x2 x3 x4 x5 (ix2 n j)
    = rowReference (fun k => val_main_v5 (F := Ideal) x0 x1 x2 x3 (ix2 n k)) (fun k => val_main_v36 (F := Ideal) x0 x1 x2 x3 x4 x5 (ix2 n k))
        (fun k => x4 (ix1 k)) (fun _ => 0) 0 j := by
  unfold rowReference coef
  simp only [add_zero, zero_add, mul_one, ← v41_at, ← v12_at]
  pointwise [val_main_v56, val_main_v55, val_main_v54, val_main_v53, val_main_v52, val_main_v51, val_main_v50, val_main_v49, val_main_v48, val_main_v47,
    val_main_v46, val_main_v45, val_main_v44, val_main_v43, val_main_v16, val_main_v15, val_main_v14, val_main_v13, val_main_cst_2, val_main_cst_13,
    val_main_cst_14, val_main_cst_15]
  simp only [Finset.univ_unique, Finset.sum_singleton, v41_at]
  rfl

end

/-! ## A row of a tile against its row of the arrays -/

/-- Row `i` of the tile is row `n` of the arrays, and the whole blocks are the whole arrays. -/
structure Rows (x0 : FVec Ideal S2048x1024 .bf16) (x1 : FVec Ideal S1024x1024 .f32) (x2 : FVec Ideal S2048x1024 .f32) (x3 x4 : FVec Ideal S1024 .f32)
    (x5 : FVec Ideal S2048x1024 .f32) (a : FVec Ideal S512x1024 .bf16) (w : FVec Ideal S1024x1024 .bf16) (x tg : FVec Ideal S512x1024 .f32)
    (gt : FVec Ideal S1x1x1024 .f32) (fg : FVec Ideal S1x1024 .f32) (i : Fin 512) (n : Fin 2048) : Prop where
  a : ∀ k, a (ix2 i k) = x0 (ix2 n k)
  w : ∀ k j, w (ix2 k j) = x1 (ix2 k j)
  x : ∀ k, x (ix2 i k) = x2 (ix2 n k)
  gt : ∀ k, gt (ix3 0 0 k) = x3 (ix1 k)
  fg : ∀ k, fg (ix2 0 k) = x4 (ix1 k)
  tg : ∀ k, tg (ix2 i k) = x5 (ix2 n k)

section
variable {x0 : FVec Ideal S2048x1024 .bf16} {x1 : FVec Ideal S1024x1024 .f32} {x2 : FVec Ideal S2048x1024 .f32} {x3 x4 : FVec Ideal S1024 .f32}
  {x5 : FVec Ideal S2048x1024 .f32} {a : FVec Ideal S512x1024 .bf16} {w : FVec Ideal S1024x1024 .bf16} {x tg : FVec Ideal S512x1024 .f32}
  {gt : FVec Ideal S1x1x1024 .f32} {fg : FVec Ideal S1x1024 .f32} {i : Fin 512} {n : Fin 2048}

/-- The product. -/
theorem Rows.yx (H : Rows x0 x1 x2 x3 x4 x5 a w x tg gt fg i n) (j : Fin 1024) :
    k0_pay8 (F := Ideal) a w (ix2 i j) = val_main_v1 (F := Ideal) x0 x1 (ix2 n j) := by
  rw [pay8_at, v1_at]
  simp only [H.a, H.w]

/-- The norm's input. -/
theorem Rows.xv (H : Rows x0 x1 x2 x3 x4 x5 a w x tg gt fg i n) (j : Fin 1024) :
    k0_pay10 (F := Ideal) a w x gt (ix2 i j) = val_main_v5 (F := Ideal) x0 x1 x2 x3 (ix2 n j) := by
  rw [pay10_at, v5_at, H.yx, H.x, H.gt]

theorem Rows.r (H : Rows x0 x1 x2 x3 x4 x5 a w x tg gt fg i n) :
    k0_pay12 (F := Ideal) a w x gt (ix2 i 0) = val_main_v13 (F := Ideal) x0 x1 x2 x3 (ix2 n 0) := by
  rw [pay12_at, v13_at]
  simp only [H.xv]

theorem Rows.xn (H : Rows x0 x1 x2 x3 x4 x5 a w x tg gt fg i n) (j : Fin 1024) :
    k0_pay13 (F := Ideal) a w x gt (ix2 i j) = val_main_v18 (F := Ideal) x0 x1 x2 x3 (ix2 n j) := by
  rw [pay13_at, v18_at, H.xv, H.r]

/-- The error. -/
theorem Rows.err (H : Rows x0 x1 x2 x3 x4 x5 a w x tg gt fg i n) (j : Fin 1024) :
    k0_pay14 (F := Ideal) a w x gt fg tg (ix2 i j) = val_main_v22 (F := Ideal) x0 x1 x2 x3 x4 x5 (ix2 n j) := by
  rw [pay14_at, v22_at, H.xn, H.fg, H.tg]

/-- The norm's cotangent. -/
theorem Rows.dy (H : Rows x0 x1 x2 x3 x4 x5 a w x tg gt fg i n) (j : Fin 1024) :
    k0_pay15 (F := Ideal) a w x gt fg tg (ix2 i j) = val_main_v36 (F := Ideal) x0 x1 x2 x3 x4 x5 (ix2 n j) := by
  rw [pay15_at, v36_at, H.err]

/-- The row's part of the loss. -/
theorem Rows.loss (H : Rows x0 x1 x2 x3 x4 x5 a w x tg gt fg i n) :
    Ideal.div (∑ k : Fin 1024, k0_pay14 (F := Ideal) a w x gt fg tg (ix2 i k) * k0_pay14 (F := Ideal) a w x gt fg tg (ix2 i k))
      (Ideal.ofBits .f32 0x44800000#32) = val_main_v28 (F := Ideal) x0 x1 x2 x3 x4 x5 (ix1 n) := by
  rw [v28_at]
  simp only [H.err]

/-- The row's part of the gain's gradient. -/
theorem Rows.dg (H : Rows x0 x1 x2 x3 x4 x5 a w x tg gt fg i n) (j : Fin 1024) :
    k0_pay15 (F := Ideal) a w x gt fg tg (ix2 i j) * k0_pay13 (F := Ideal) a w x gt (ix2 i j)
      = val_main_v18 (F := Ideal) x0 x1 x2 x3 (ix2 n j) * val_main_v36 (F := Ideal) x0 x1 x2 x3 x4 x5 (ix2 n j) := by
  rw [H.dy, H.xn, mul_comm]

/-- The row's gradient. -/
theorem Rows.dx (H : Rows x0 x1 x2 x3 x4 x5 a w x tg gt fg i n) (h0 : ∀ i, IsReal (x0 i)) (h1 : ∀ i, IsReal (x1 i)) (h2 : ∀ i, IsReal (x2 i))
    (h3 : ∀ i, IsReal (x3 i)) (h4 : ∀ i, IsReal (x4 i)) (h5 : ∀ i, IsReal (x5 i)) (j : Fin 1024) :
    k0_pay1 (F := Ideal) (k0_pay12 a w x gt) (k0_pay13 a w x gt) (k0_pay16 a w x gt fg tg) (k0_pay17 a w x gt fg tg) k0_pay18 (ix2 i j)
      = val_main_v56 (F := Ideal) x0 x1 x2 x3 x4 x5 (ix2 n j) := by
  have rx : ∀ k, IsReal (val_main_v5 (F := Ideal) x0 x1 x2 x3 (ix2 n k)) := fun k => by
    rw [v5_at, v1_at]
    exact (h2 _).add ((h3 _).mul (IsReal.sum _ fun _ => (h0 _).mul (h1 _)))
  have rr : IsReal (val_main_v13 (F := Ideal) x0 x1 x2 x3 (ix2 n 0)) := by
    rw [v13_at]
    exact rsqrt_real rx
  have rd : ∀ k, IsReal (val_main_v36 (F := Ideal) x0 x1 x2 x3 x4 x5 (ix2 n k)) := fun k => by
    rw [v36_at, v22_at, v18_at, ofBits_inv1024]
    exact ((((rx k).mul rr).mul (h4 _)).sub (h5 _)).mul (IsReal.coe _)
  rw [v56_at, ← row_eq rx rd (fun k => h4 _) (fun _ => IsReal.zero) 0 j, pay1_at, pay17_at]
  simp only [pay16_at, pay13_at, H.dy, H.xv, H.fg, pay12_at, rowKernel, add_zero, mul_one]

end

/-! ## The arrays after the run -/

section
variable (m : (ℓ : Loc nD τ sig) → Buf (Elt Ideal) ℓ) (c : Dev nD)

/-- The gated branch, the output weight, the residual stream, the gate, the gain and the target. -/
abbrev A0 : FVec Ideal S2048x1024 .bf16 := m ((c : Thread nD τ).loc main_arg0)
abbrev A1 : FVec Ideal S1024x1024 .f32 := m ((c : Thread nD τ).loc main_arg1)
abbrev A2 : FVec Ideal S2048x1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S2048x1024 .f32 := m ((c : Thread nD τ).loc main_arg5)

/-- Every argument of the call is finite on this device. -/
structure Reals : Prop where
  a : ∀ i, IsReal (A0 m c i)
  w : ∀ i, IsReal (A1 m c i)
  x : ∀ i, IsReal (A2 m c i)
  gt : ∀ i, IsReal (A3 m c i)
  fg : ∀ i, IsReal (A4 m c i)
  tg : ∀ i, IsReal (A5 m c i)

/-- The weight, the gate's row and the gain's row, as the call finds them. -/
theorem w_entry (k j : Fin 1024) : (show EReal from V m c main_v0 (ix2 k j)) = m ((c : Thread nD τ).loc main_arg1) (ix2 k j) := by
  entry_read
  pointwise []

theorem gt_entry (k : Fin 1024) : (show EReal from V m c main_v1 (ix3 0 0 k)) = m ((c : Thread nD τ).loc main_arg3) (ix1 k) := by
  entry_read
  pointwise []

theorem fg_entry (k : Fin 1024) : (show EReal from V m c main_v2 (ix2 0 k)) = m ((c : Thread nD τ).loc main_arg4) (ix1 k) := by
  entry_read
  pointwise []

/-- At grid point `t` row `i` of the blocks is row `512 t + i`. -/
theorem rows_at (t : Fin cfg0.N) (i : Fin 512) (n : Fin 2048) (hn : n.val = t.val * 512 + i.val) :
    Rows (A0 m c) (A1 m c) (A2 m c) (A3 m c) (A4 m c) (A5 m c) (iblk m c 0 t) (iblk m c 1 t) (iblk m c 2 t) (iblk m c 5 t) (iblk m c 3 t)
      (iblk m c 4 t) i n := by
  have hN : t.val < 4 := lt_of_lt_of_eq t.isLt N_0
  constructor
  · intro k
    unfold A0
    blk_ext [iblk, V, idx t]
  · intro k j
    refine Eq.trans ?_ (w_entry m c k j)
    blk_ext [iblk, V, idx t]
  · intro k
    unfold A2
    blk_ext [iblk, V, idx t]
  · intro k
    refine Eq.trans ?_ (gt_entry m c k)
    blk_ext [iblk, V, idx t]
  · intro k
    refine Eq.trans ?_ (fg_entry m c k)
    blk_ext [iblk, V, idx t]
  · intro k
    unfold A5
    blk_ext [iblk, V, idx t]

end

end Cert.LossKIdeal.Hand

end
-- ==== Proof.LossRun.lean ====
module

public import proofs.«01_k».proof.Proof.Loss
public import Idealize.ShloMosaic.Lib.Pipeline.ReadBack

/-! The arrays of the output product with the loss after the run, and the run that leaves them. -/

@[expose] public section

set_option maxRecDepth 16384

noncomputable section

namespace Cert.LossKIdeal.Hand

open Cert.LossKIdeal Cert.LossKIdeal.Gen
open Idealize.ShloMosaic Idealize.ShloMosaic.TcCoe Idealize.SL.Sem
open Idealize.ShloMosaic.Pipeline (Dat)
open Cert.LossRIdeal.Read

section
variable (m : (ℓ : Loc nD τ sig) → Buf (Elt Ideal) ℓ) (c : Dev nD)

theorem lt_four (t : Fin cfg0.N) : t.val < 4 := lt_of_lt_of_eq t.isLt N_0

/-- The product, rounded, as a point leaves its tile. -/
theorem yx_tile (t : Fin cfg0.N) (i : Fin 512) (j : Fin 1024) :
    (outsAt0 m c t.val t.isLt).1 (ix2 i j) = k0_pay8 (F := Ideal) (iblk m c 0 t) (iblk m c 1 t) (ix2 i j) := by
  have hN := lt_four t
  by_cases h0 : t.val % 4 = 0
  · rw [outsAt0_A m c t h0 (by omega) (by omega)]; frame_out; pointwise [k0_pay9]
  · by_cases h3 : t.val % 4 = 3
    · rw [outsAt0_C m c t h0 (by omega) h3]; frame_out; pointwise [k0_pay9]
    · rw [outsAt0_B m c t h0 (by omega) h3]; frame_out; pointwise [k0_pay9]

/-- The row gradients, as a point leaves its tile. -/
theorem dx_tile (t : Fin cfg0.N) : (outsAt0 m c t.val t.isLt).2.2.1
    = k0_pay1 (F := Ideal) (k0_pay12 (iblk m c 0 t) (iblk m c 1 t) (iblk m c 2 t) (iblk m c 3 t))
        (k0_pay13 (iblk m c 0 t) (iblk m c 1 t) (iblk m c 2 t) (iblk m c 3 t))
        (k0_pay16 (iblk m c 0 t) (iblk m c 1 t) (iblk m c 2 t) (iblk m c 3 t) (iblk m c 4 t) (iblk m c 5 t))
        (k0_pay17 (iblk m c 0 t) (iblk m c 1 t) (iblk m c 2 t) (iblk m c 3 t) (iblk m c 4 t) (iblk m c 5 t)) k0_pay18 := by
  have hN := lt_four t
  by_cases h0 : t.val % 4 = 0
  · rw [outsAt0_A m c t h0 (by omega) (by omega)]; frame_out
  · by_cases h3 : t.val % 4 = 3
    · rw [outsAt0_C m c t h0 (by omega) h3]; frame_out
    · rw [outsAt0_B m c t h0 (by omega) h3]; frame_out

/-- The product after the run. -/
theorem yx_final : (dats m 0 c).arrAt 6 cfg0.N = val_main_v57 (F := Ideal) (A0 m c) (A1 m c) := by
  refine (dats m 0 c).arrAt_eq_of_covers 6 _ (by decide +kernel) fun t _ y => ?_
  have hN := lt_four t
  blk_simp
  rw [after0_6]
  idx_vars y
  refine (yx_tile m c t y0 y1).trans (((rows_at m c t y0 ⟨t.val * 512 + y0.val, by omega⟩ rfl).yx y1).trans ?_)
  pointwise [val_main_v57]
  blk_ext [iblk, V, idx t]

/-- The row gradients after the run. -/
theorem dx_final (R : Reals m c) : (dats m 0 c).arrAt 8 cfg0.N
    = val_main_v56 (F := Ideal) (A0 m c) (A1 m c) (A2 m c) (A3 m c) (A4 m c) (A5 m c) := by
  refine (dats m 0 c).arrAt_eq_of_covers 8 _ (by decide +kernel) fun t _ y => ?_
  have hN := lt_four t
  blk_simp
  rw [after0_8, dx_tile]
  idx_vars y
  refine ((rows_at m c t y0 ⟨t.val * 512 + y0.val, by omega⟩ rfl).dx R.a R.w R.x R.gt R.fg R.tg y1).trans ?_
  blk_ext [iblk, V, idx t]

/-- A point's part of the gain's gradient, at a column. -/
abbrev dgPart (t : Fin cfg0.N) (i : Fin 512) (j : Fin 1024) : EReal :=
  k0_pay15 (F := Ideal) (iblk m c 0 t) (iblk m c 1 t) (iblk m c 2 t) (iblk m c 3 t) (iblk m c 4 t) (iblk m c 5 t) (ix2 i j)
    * k0_pay13 (F := Ideal) (iblk m c 0 t) (iblk m c 1 t) (iblk m c 2 t) (iblk m c 3 t) (ix2 i j)

/-- A row's part of the loss. -/
abbrev lossPart (t : Fin cfg0.N) (i : Fin 512) : EReal :=
  Ideal.div (∑ k : Fin 1024, k0_pay14 (F := Ideal) (iblk m c 0 t) (iblk m c 1 t) (iblk m c 2 t) (iblk m c 3 t) (iblk m c 4 t) (iblk m c 5 t) (ix2 i k)
    * k0_pay14 (F := Ideal) (iblk m c 0 t) (iblk m c 1 t) (iblk m c 2 t) (iblk m c 3 t) (iblk m c 4 t) (iblk m c 5 t) (ix2 i k))
      (Ideal.ofBits .f32 0x44800000#32)

/-- The gain's gradient after the run. -/
theorem dg_final : (dats m 0 c).arrAt 9 cfg0.N
    = val_main_v59 (F := Ideal) (A0 m c) (A1 m c) (A2 m c) (A3 m c) (A4 m c) (A5 m c) := by
  refine (dats m 0 c).arrAt_eq_of_after_last 9 t0_3 (by decide +kernel) _ fun j => ?_
  blk_simp
  idx_vars j
  obtain rfl : j0 = 0 := Subsingleton.elim _ _
  rw [after0_9, Pipeline.eq_sum_fin_of_reset_step_apply_last (fun n h => (outsAt0 m c n h).2.2.2.1) 4 (fun _ => 0)
    (fun t j => ∑ i : Fin 512, dgPart m c t i (j 1))
    (fun t h j => by
      have := lt_four t
      idx_vars j
      obtain rfl : j0 = 0 := Subsingleton.elim _ _
      rw [outsAt0_A m c t h (by omega) (by omega)]; frame_out; rw [zero_add]; exact pay2_at _ _ _)
    (fun t h j => by
      have := lt_four t
      idx_vars j
      obtain rfl : j0 = 0 := Subsingleton.elim _ _
      by_cases h3 : t.val % 4 = 3
      · rw [outsAt0_C m c t h (by omega) h3]; frame_out; exact pay5_at _ _ _ _
      · rw [outsAt0_B m c t h (by omega) h3]; frame_out; exact pay5_at _ _ _ _)
    (le_of_eq N_0) t0_3 rfl _, zero_add]
  refine Eq.trans ?_ (v59_at _ _ _ _ _ _ j1).symm
  refine Fin.sum_mul_add_congr fun t k hl => ?_
  exact (rows_at m c t k ⟨_, hl⟩ rfl).dg j1

/-- The carried sum after the last point: the loss's rows. -/
theorem scratch_last : (outsAt0 m c t0_3.val t0_3.isLt).2.2.2.2 (ix2 0 0)
    = ∑ n : Fin 2048, val_main_v28 (F := Ideal) (A0 m c) (A1 m c) (A2 m c) (A3 m c) (A4 m c) (A5 m c) (ix1 n) := by
  rw [Pipeline.eq_sum_fin_of_reset_step_apply_last (fun n h => (outsAt0 m c n h).2.2.2.2) 4 (fun _ => 0)
    (fun t _ => ∑ i : Fin 512, lossPart m c t i)
    (fun t h j => by
      have := lt_four t
      idx_vars j
      obtain rfl : j0 = 0 := Subsingleton.elim _ _
      obtain rfl : j1 = 0 := Subsingleton.elim _ _
      rw [outsAt0_A m c t h (by omega) (by omega)]; frame_out; rw [zero_add]; exact pay4_at _)
    (fun t h j => by
      have := lt_four t
      idx_vars j
      obtain rfl : j0 = 0 := Subsingleton.elim _ _
      obtain rfl : j1 = 0 := Subsingleton.elim _ _
      by_cases h3 : t.val % 4 = 3
      · rw [outsAt0_C m c t h (by omega) h3]; frame_out; rw [read_unread_whole]; exact pay6_at _ _
      · rw [outsAt0_B m c t h (by omega) h3]; frame_out; rw [read_unread_whole]; exact pay6_at _ _)
    (le_of_eq N_0) t0_3 rfl _, zero_add]
  refine Fin.sum_mul_add_congr fun t k hl => ?_
  exact (rows_at m c t k ⟨_, hl⟩ rfl).loss

/-- The last point writes half the carried sum into every lane. -/
theorem loss_last : (outsAt0 m c t0_3.val t0_3.isLt).2.1 = k0_pay7 (F := Ideal) (outsAt0 m c t0_3.val t0_3.isLt).2.2.2.2 := by
  rw [outsAt0_C m c t0_3 (by decide) (by decide) (by decide)]
  frame_out

/-- The loss after the run. -/
theorem loss_final : (dats m 0 c).arrAt 7 cfg0.N
    = val_main_v58 (F := Ideal) (A0 m c) (A1 m c) (A2 m c) (A3 m c) (A4 m c) (A5 m c) := by
  refine (dats m 0 c).arrAt_eq_of_after_last 7 t0_3 (by decide +kernel) _ fun j => ?_
  blk_simp
  idx_vars j
  obtain rfl : j0 = 0 := Subsingleton.elim _ _
  rw [after0_7, loss_last]
  exact (pay7_at _ _).trans ((congrArg _ (scratch_last m c)).trans (v58_at _ _ _ _ _ _ j1).symm)

end

/-- The run leaves the product, the loss, the row gradients and the gain's gradient. -/
theorem run (m : (ℓ : Loc nD τ sig) → Buf (Elt Ideal) ℓ) (ρ : Dev nD → PrngReg) (R : ∀ c, Reals m c) :
    θ_run defs (onTc (τ := τ) (main (F := Ideal))) ⟨m, fun _ => 0, ρ⟩ fun r => ∀ c : Dev nD,
      r.2.mem ((c : Thread nD τ).loc main_v3_0) = val_main_v57 (F := Ideal) (A0 m c) (A1 m c)
      ∧ r.2.mem ((c : Thread nD τ).loc main_v3_1) = val_main_v58 (F := Ideal) (A0 m c) (A1 m c) (A2 m c) (A3 m c) (A4 m c) (A5 m c)
      ∧ r.2.mem ((c : Thread nD τ).loc main_v3_2) = val_main_v56 (F := Ideal) (A0 m c) (A1 m c) (A2 m c) (A3 m c) (A4 m c) (A5 m c)
      ∧ r.2.mem ((c : Thread nD τ).loc main_v3_3) = val_main_v59 (F := Ideal) (A0 m c) (A1 m c) (A2 m c) (A3 m c) (A4 m c) (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (yx_final m c), (h c).2.1.trans (loss_final m c),
    (h c).2.2.1.trans (dx_final m c (R c)), (h c).2.2.2.1.trans (dg_final m c), (h c).2.2.2.2⟩) (Value.run_blocks m ρ)

end Cert.LossKIdeal.Hand

end
-- ==== Proof.LossClaim.lean ====
/-
  The output product with the loss and its gradients: the call's results are the reference's value and derivative.
-/
module

public import proofs.«01_k».proof.Defs
public import proofs.«01_k».proof.Proof.LossRun
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.LossRIdeal.Read

/-- The shape relations the precondition's operations take. -/
theorem loss_pre_facts : Cert.Pre_loss_finite.Facts := by
  constructor <;> decide

/-- The precondition makes every argument's entries real numbers. -/
theorem loss_reals [Cert.Pre_loss_finite.Facts] (m : (ℓ : Loc Cert.LossKIdeal.nD Cert.LossKIdeal.τ Cert.LossKIdeal.sig) → Buf (Elt Ideal) ℓ)
    (h : Cert.Pre_LossKIdeal_loss_finite m) (c : Dev Cert.LossKIdeal.nD) : Cert.LossKIdeal.Hand.Reals m c := by
  have e := congrFun (h c) (fun a => a.elim0)
  obtain ⟨e, h5⟩ := Cert.Finite.and_split e
  obtain ⟨e, h4⟩ := Cert.Finite.and_split e
  obtain ⟨e, h3⟩ := Cert.Finite.and_split e
  obtain ⟨e, h2⟩ := Cert.Finite.and_split e
  obtain ⟨h0, h1⟩ := Cert.Finite.and_split e
  exact ⟨Cert.Finite.of_all _ _ _ _ _ _ h0, Cert.Finite.of_all _ _ _ _ _ _ h1, Cert.Finite.of_all _ _ _ _ _ _ h2,
    Cert.Finite.of_all _ _ _ _ _ _ h3, Cert.Finite.of_all _ _ _ _ _ _ h4, Cert.Finite.of_all _ _ _ _ _ _ h5⟩

/-- The reference runs and leaves its arguments. -/
theorem loss_reference_frame : Cert.quiescent_LossRIdeal := by
  intro m g _
  exact (θ_run _ _ _).mono (fun r h => ⟨fun c => (h c).2.2.2.2, sem_eq_zero_of_no_sems rfl _⟩)
    (Cert.LossRIdeal.Value.run m g)

/-- The call's product, loss and gradients are the reference's. -/
theorem loss_value [Cert.Pre_loss_finite.Facts] : Cert.algebraic_LossKIdeal_LossRIdeal_pre_loss_finite := by
  pair_intro
  · run_from Cert.LossKIdeal.Hand.run m g (fun c => loss_reals m ‹_› c)
  · refine (θ_run _ _ _).mono (fun r h c => ?_) (Cert.LossRIdeal.Value.run m' g')
    obtain ⟨e0, e1, e2, e3, e4, e5⟩ := hagree c
    obtain ⟨h0, h1, h2, h3, ha⟩ := h c
    refine ⟨h0.trans ?_, h1.trans ?_, h2.trans ?_, h3.trans ?_, ha⟩
    · rw [e0, e1]; rfl
    · rw [e0, e1, e2, e3, e4, e5]; rfl
    · unfold Cert.LossRIdeal.Value.res_main_v56
      rw [e0, e1, e2, e3, e4, e5]; rfl
    · unfold Cert.LossRIdeal.Value.res_main_v59
      rw [e0, e1, e2, e3, e4, e5]; rfl

end Cert.Proof

end
-- ==== Proof.PoolSum.lean ====
/-
  Sums over a window of rows. A buffer holds a segment of rows between two strips of zeros; doubling it against its own
  rotations leaves in each row the sum of the rows from there on, a last rotation moves the window back, and what is read
  off at a row of the segment is the segment's sum over the rows the window meets: the product with the window's indicator.
-/
module

public import proofs.«01_k».proof.Proof.Finite
public import Idealize.ShloMosaic.Lib.Pipeline.ReadBack
public import Idealize.ShloMosaic.Lib.Pipeline.ValueKit
public import Idealize.ShloMosaic.Lib.Pointwise
public import Idealize.ShloMosaic.Lib.KernelVsHost
public import Idealize.ShloMosaic.Lib.WordCmp

@[expose] public section

set_option maxRecDepth 16384

noncomputable section

namespace Cert.Pool

open Idealize.ShloMosaic Cert.Finite
open scoped BigOperators

/-- A buffer of rows of 256 columns. -/
abbrev Rows (L : ℕ) : Shape := ⟨2, ![L, 256]⟩

/-! ## Doubling against rotations -/

/-- In column `j` each row of `y` is the sum of `n` entries of `X` from `o` rows further on, around the end. -/
def Win {L : ℕ} (j : Fin 256) (X : ℕ → EReal) (o n : ℕ) (y : (Rows L).Idx → EReal) : Prop :=
  ∀ r : Fin L, y (ix2 r j) = ∑ k ∈ Finset.range n, X ((r.val + o + k) % L)

/-- A rotation along the rows, read at a row. -/
theorem rot_at {L : ℕ} (w : BitVec 32) (s : ℕ) (hw : w.toNat = s) (hs : s < L) (y : (Rows L).Idx → EReal)
    (h : (Rows L).Rotates 0 none) (r : Fin L) (j : Fin 256) :
    dynamicRotate 0 w none y h (ix2 r j) = y (ix2 ⟨(r.val + (L - s)) % L, Nat.mod_lt _ (by omega)⟩ j) := by
  refine dynamicRotate_apply (0 : Fin 2) w y h _ _ fun b => ?_
  match b with
  | ⟨0, _⟩ =>
    show (r.val + (L - s)) % L = (r.val + L - w.toNat % L) % L
    rw [hw, Nat.mod_eq_of_lt hs, Nat.add_sub_assoc hs.le]
  | ⟨1, _⟩ => rfl

/-- A rotation by `s` moves the window back by `s` rows. -/
theorem Win.rot {L : ℕ} {j : Fin 256} {X : ℕ → EReal} {o n : ℕ} {y : (Rows L).Idx → EReal} (hy : Win j X o n y)
    (w : BitVec 32) (s : ℕ) (hw : w.toNat = s) (hs : s < L) (h : (Rows L).Rotates 0 none) :
    Win j X (o + (L - s)) n (dynamicRotate 0 w none y h) := fun r => by
  rw [rot_at w s hw hs, hy]
  refine Finset.sum_congr rfl fun k _ => congrArg X ?_
  show ((r.val + (L - s)) % L + o + k) % L = _
  rw [Nat.add_assoc, Nat.mod_add_mod]
  congr 1
  omega

/-- Adding the rotation that brings the row `n` further on doubles the window. -/
theorem Win.dbl {L : ℕ} {j : Fin 256} {X : ℕ → EReal} {o n : ℕ} {y : (Rows L).Idx → EReal} (hy : Win j X o n y)
    (w : BitVec 32) (hw : w.toNat = L - n) (hn : 0 < n) (hL : n < L) (h : (Rows L).Rotates 0 none) :
    Win j X o (n + n) (fun i => y i + dynamicRotate 0 w none y h i) := fun r => by
  show y (ix2 r j) + dynamicRotate 0 w none y h (ix2 r j) = _
  rw [hy.rot w (L - n) hw (by omega) h r, hy r, Finset.sum_range_add]
  congr 1
  refine Finset.sum_congr rfl fun k _ => congrArg X ?_
  congr 1
  omega

/-! ## The buffer -/

/-- The rows of the buffer in a column: the segment after 16 rows of zeros, zeros elsewhere. -/
def rowsOf {len : ℕ} (D : Fin len → EReal) (m : ℕ) : EReal := if h : 16 ≤ m ∧ m < 16 + len then D ⟨m - 16, by omega⟩ else 0

/-- The buffer after the three stores: zeros, the segment, zeros. -/
theorem buffer_at {L len o : ℕ} (hL : 16 + len + 32 = L) (ho : o = 16 + len) (top : (Rows 16).Idx → EReal)
    (x : (Rows len).Idx → EReal) (bot : (Rows 32).Idx → EReal) (ht : ∀ i, top i = 0) (hb : ∀ i, bot i = 0)
    (i1 : ∀ a, (![0, 0] : Fin 2 → ℕ) a + (![16, 256] : Fin 2 → ℕ) a ≤ (Rows L).size a)
    (i2 : ∀ a, (![16, 0] : Fin 2 → ℕ) a + (![len, 256] : Fin 2 → ℕ) a ≤ (Rows L).size a)
    (i3 : ∀ a, (![o, 0] : Fin 2 → ℕ) a + (![32, 256] : Fin 2 → ℕ) a ≤ (Rows L).size a)
    (i4 : ∀ a, (![0, 0] : Fin 2 → ℕ) a + (![L, 256] : Fin 2 → ℕ) a ≤ (Rows L).size a)
    {sig : RefSig} {κ : Kind} {sp : Space} (v : View sig κ sp (Rows L) .f32) (j : Fin 256) :
    Win (L := L) j (rowsOf fun s => x (ix2 s j)) 0 1 (v.readCov (Val := Elt Ideal)
      [⟨Rect.unit (s := Rows L) ![o, 0] ![32, 256] i3, bot⟩, ⟨Rect.unit (s := Rows L) ![16, 0] ![len, 256] i2, x⟩,
        ⟨Rect.unit (s := Rows L) ![0, 0] ![16, 256] i1, top⟩] (Rect.unit (s := Rows L) ![0, 0] ![L, 256] i4).toLoadRect) := fun r => by
  have hr := r.isLt
  have hj := j.isLt
  rw [Finset.sum_range_one, Nat.add_zero, Nat.mod_eq_of_lt hr, View.readCov_eq_canon']
  have e0 : (Rect.unit (s := Rows L) ![0, 0] ![L, 256] i4).toLoadRect.idx (ix2 r j) = (ix2 r j : (Rows L).Idx) := by
    funext a; apply Fin.ext; match a with
    | ⟨0, _⟩ => show 0 + 1 * r.val = r.val; omega
    | ⟨1, _⟩ => show 0 + 1 * j.val = j.val; omega
  show View.canon _ ((Rect.unit (s := Rows L) ![0, 0] ![L, 256] i4).toLoadRect.idx (ix2 r j)) = _
  rw [e0]
  unfold rowsOf
  by_cases h3 : o ≤ r.val
  · rw [dif_neg (by omega)]
    have e : (ix2 r j : (Rows L).Idx) = (Rect.unit (s := Rows L) ![o, 0] ![32, 256] i3).emb (ix2 (⟨r.val - o, by omega⟩ : Fin 32) j) := by
      funext a; apply Fin.ext; match a with
      | ⟨0, _⟩ => show r.val = o + 1 * (r.val - o); omega
      | ⟨1, _⟩ => show j.val = 0 + 1 * j.val; omega
    rw [e, View.canon_cons_emb]
    exact hb _
  rw [View.canon_cons_of_not_mem _ _ (by rw [Rect.mem_set_unit]; intro h; exact h3 (h 0).1)]
  by_cases h2 : 16 ≤ r.val
  · rw [dif_pos ⟨h2, by omega⟩]
    have e : (ix2 r j : (Rows L).Idx) = (Rect.unit (s := Rows L) ![16, 0] ![len, 256] i2).emb (ix2 (⟨r.val - 16, by omega⟩ : Fin len) j) := by
      funext a; apply Fin.ext; match a with
      | ⟨0, _⟩ => show r.val = 16 + 1 * (r.val - 16); omega
      | ⟨1, _⟩ => show j.val = 0 + 1 * j.val; omega
    rw [e, View.canon_cons_emb]
  rw [View.canon_cons_of_not_mem _ _ (by rw [Rect.mem_set_unit]; intro h; exact h2 (h 0).1), dif_neg (by omega)]
  have e : (ix2 r j : (Rows L).Idx) = (Rect.unit (s := Rows L) ![0, 0] ![16, 256] i1).emb (ix2 (⟨r.val, by omega⟩ : Fin 16) j) := by
    funext a; apply Fin.ext; match a with
    | ⟨0, _⟩ => show r.val = 0 + 1 * r.val; omega
    | ⟨1, _⟩ => show j.val = 0 + 1 * j.val; omega
  rw [e, View.canon_cons_emb]
  exact ht _

/-- The segment's rows read back after the whole buffer is stored. -/
theorem segment_at {L len : ℕ} (y : (Rows L).Idx → EReal) (hL : 16 + len ≤ L)
    (i2 : ∀ a, (![16, 0] : Fin 2 → ℕ) a + (![len, 256] : Fin 2 → ℕ) a ≤ (Rows L).size a)
    (i4 : ∀ a, (![0, 0] : Fin 2 → ℕ) a + (![L, 256] : Fin 2 → ℕ) a ≤ (Rows L).size a)
    {sig : RefSig} {κ : Kind} {sp : Space} (v : View sig κ sp (Rows L) .f32) (P : List (View.Piece (Elt Ideal) (Rows L) .f32))
    (t : Fin len) (j : Fin 256) :
    v.readCov (Val := Elt Ideal) (⟨Rect.unit (s := Rows L) ![0, 0] ![L, 256] i4, y⟩ :: P)
      (Rect.unit (s := Rows L) ![16, 0] ![len, 256] i2).toLoadRect (ix2 t j) = y (ix2 (⟨16 + t.val, by omega⟩ : Fin L) j) := by
  rw [View.readCov_eq_canon']
  show View.canon _ ((Rect.unit (s := Rows L) ![16, 0] ![len, 256] i2).toLoadRect.idx (ix2 t j)) = _
  have e : (Rect.unit (s := Rows L) ![16, 0] ![len, 256] i2).toLoadRect.idx (ix2 t j)
      = (Rect.unit (s := Rows L) ![0, 0] ![L, 256] i4).emb (ix2 (⟨16 + t.val, by omega⟩ : Fin L) j) := by
    funext a; apply Fin.ext; match a with
    | ⟨0, _⟩ => show 16 + 1 * t.val = 0 + 1 * (16 + t.val); omega
    | ⟨1, _⟩ => show 0 + 1 * j.val = 0 + 1 * j.val; rfl
  rw [e, View.canon_cons_emb]

/-- Two planes stored, read at the first. -/
theorem plane0 {L : ℕ} (a b : (⟨3, ![1, L, 256]⟩ : Shape).Idx → EReal)
    (i0 : ∀ q, (![0, 0, 0] : Fin 3 → ℕ) q + (![1, L, 256] : Fin 3 → ℕ) q ≤ (⟨3, ![2, L, 256]⟩ : Shape).size q)
    (i1 : ∀ q, (![1, 0, 0] : Fin 3 → ℕ) q + (![1, L, 256] : Fin 3 → ℕ) q ≤ (⟨3, ![2, L, 256]⟩ : Shape).size q) (i : Fin L) (j : Fin 256) :
    View.canon (Val := Elt Ideal) (e := .bf16) [⟨Rect.unit (s := ⟨3, ![2, L, 256]⟩) ![0, 0, 0] ![1, L, 256] i0, a⟩,
      ⟨Rect.unit (s := ⟨3, ![2, L, 256]⟩) ![1, 0, 0] ![1, L, 256] i1, b⟩] (ix3 0 i j) = a (ix3 0 i j) := by
  have e : (ix3 0 i j : (⟨3, ![2, L, 256]⟩ : Shape).Idx)
      = (Rect.unit (s := ⟨3, ![2, L, 256]⟩) ![0, 0, 0] ![1, L, 256] i0).emb (ix3 (0 : Fin 1) i j) := by
    funext q; apply Fin.ext; match q with
    | ⟨0, _⟩ => rfl
    | ⟨1, _⟩ => show i.val = 0 + 1 * i.val; omega
    | ⟨2, _⟩ => show j.val = 0 + 1 * j.val; omega
  rw [e, View.canon_cons_emb]

/-- Two planes stored, read at the second. -/
theorem plane1 {L : ℕ} (a b : (⟨3, ![1, L, 256]⟩ : Shape).Idx → EReal)
    (i0 : ∀ q, (![0, 0, 0] : Fin 3 → ℕ) q + (![1, L, 256] : Fin 3 → ℕ) q ≤ (⟨3, ![2, L, 256]⟩ : Shape).size q)
    (i1 : ∀ q, (![1, 0, 0] : Fin 3 → ℕ) q + (![1, L, 256] : Fin 3 → ℕ) q ≤ (⟨3, ![2, L, 256]⟩ : Shape).size q) (i : Fin L) (j : Fin 256) :
    View.canon (Val := Elt Ideal) (e := .bf16) [⟨Rect.unit (s := ⟨3, ![2, L, 256]⟩) ![0, 0, 0] ![1, L, 256] i0, a⟩,
      ⟨Rect.unit (s := ⟨3, ![2, L, 256]⟩) ![1, 0, 0] ![1, L, 256] i1, b⟩] (ix3 1 i j) = b (ix3 0 i j) := by
  have e : (ix3 1 i j : (⟨3, ![2, L, 256]⟩ : Shape).Idx)
      = (Rect.unit (s := ⟨3, ![2, L, 256]⟩) ![1, 0, 0] ![1, L, 256] i1).emb (ix3 (0 : Fin 1) i j) := by
    funext q; apply Fin.ext; match q with
    | ⟨0, _⟩ => rfl
    | ⟨1, _⟩ => show i.val = 0 + 1 * i.val; omega
    | ⟨2, _⟩ => show j.val = 0 + 1 * j.val; omega
  rw [View.canon_cons_of_not_mem _ _ (by rw [Rect.mem_set_unit]; intro h; exact absurd (show (1 : ℕ) < 0 + 1 from (h 0).2) (by omega)), e, View.canon_cons_emb]

/-! ## The window's indicator -/

/-- Row `s` lies in the window of row `t`. -/
def ind (half t s : ℕ) : EReal := if t ≤ s + half ∧ s < t + half then 1 else 0

theorem ind_real (half t s : ℕ) : IsReal (ind half t s) := by
  unfold ind
  split
  · exact IsReal.one
  · exact IsReal.zero

theorem mul_ite_one {p : Prop} [Decidable p] (a : EReal) : a * (if p then 1 else 0) = if p then a else 0 := by
  split <;> simp

/-- A window read off the buffer is the sum of the segment's rows the window meets. -/
theorem window_sum {len : ℕ} (D : Fin len → EReal) (t lo n : ℕ) (hlo : lo ≤ 16) :
    ∑ k ∈ Finset.range n, rowsOf D (16 + t - lo + k) = ∑ s : Fin len, if t ≤ s.val + lo ∧ s.val + lo < t + n then D s else 0 := by
  have e1 : ∑ k ∈ Finset.range n, rowsOf D (16 + t - lo + k) = ∑ m ∈ Finset.Ico (16 + t - lo) (16 + t - lo + n), rowsOf D m := by
    rw [Finset.sum_Ico_eq_sum_range, Nat.add_sub_cancel_left]
  have e2 : (∑ s : Fin len, if t ≤ s.val + lo ∧ s.val + lo < t + n then D s else 0)
      = ∑ m ∈ Finset.Ico 16 (16 + len), if 16 + t - lo ≤ m ∧ m < 16 + t - lo + n then rowsOf D m else 0 := by
    rw [Finset.sum_Ico_eq_sum_range, Nat.add_sub_cancel_left,
      ← Fin.sum_univ_eq_sum_range (fun i => if 16 + t - lo ≤ 16 + i ∧ 16 + i < 16 + t - lo + n then rowsOf D (16 + i) else 0)]
    refine Finset.sum_congr rfl fun s _ => ?_
    have hs := s.isLt
    have hr : rowsOf D (16 + s.val) = D s := by
      unfold rowsOf
      rw [dif_pos (by omega)]
      exact congrArg D (Fin.ext (by show 16 + s.val - 16 = s.val; omega))
    rw [hr]
    exact if_congr (by omega) rfl rfl
  rw [e1, e2, ← Finset.sum_filter]
  refine (Finset.sum_subset (fun m hm => ?_) fun m hm hn => ?_).symm
  · exact Finset.mem_Ico.2 (Finset.mem_filter.1 hm).2
  · unfold rowsOf
    refine dif_neg fun h => hn (Finset.mem_filter.2 ⟨Finset.mem_Ico.2 h, Finset.mem_Ico.1 hm⟩)

/-- The window of the forward pass. -/
theorem window_fwd {len : ℕ} (D : Fin len → EReal) (t half : ℕ) (hh : half ≤ 16) :
    ∑ k ∈ Finset.range (half + half), rowsOf D (16 + t - half + k) = ∑ s : Fin len, D s * ind half t s.val := by
  rw [window_sum D t half _ hh]
  refine Finset.sum_congr rfl fun s _ => ?_
  rw [ind, mul_ite_one]
  exact if_congr (by omega) rfl rfl

/-- The window of the backward pass: the rows whose window meets this one. -/
theorem window_bwd {len : ℕ} (D : Fin len → EReal) (t half : ℕ) (h0 : 0 < half) (hh : half ≤ 16) :
    ∑ k ∈ Finset.range (half + half), rowsOf D (16 + t - (half - 1) + k) = ∑ s : Fin len, D s * ind half s.val t := by
  rw [window_sum D t (half - 1) _ (by omega)]
  refine Finset.sum_congr rfl fun s _ => ?_
  rw [ind, mul_ite_one]
  exact if_congr (by omega) rfl rfl

/-- How many rows of a segment of `len` the window of row `t` meets. -/
def count (len half t : ℕ) : ℕ := min (t + half) len - (t - half)

theorem ind_sum {len : ℕ} (half t : ℕ) : ∑ s : Fin len, ind half t s.val = ((count len half t : ℝ) : EReal) := by
  have e : ∀ s : Fin len, ind half t s.val = ((if t ≤ s.val + half ∧ s.val < t + half then (1 : ℝ) else 0 : ℝ) : EReal) := fun s => by
    unfold ind; split <;> simp
  simp only [e]
  rw [← coe_sum, Finset.sum_boole]
  congr 2
  have e2 : (Finset.univ.filter fun s : Fin len => t ≤ s.val + half ∧ s.val < t + half).card
      = ((Finset.univ.filter fun s : Fin len => t ≤ s.val + half ∧ s.val < t + half).map Fin.valEmbedding).card := (Finset.card_map _).symm
  rw [e2]
  have e3 : (Finset.univ.filter fun s : Fin len => t ≤ s.val + half ∧ s.val < t + half).map Fin.valEmbedding
      = Finset.Ico (t - half) (min (t + half) len) := by
    ext m
    simp only [Finset.mem_map, Finset.mem_filter, Finset.mem_univ, true_and, Finset.mem_Ico, Fin.valEmbedding_apply, lt_min_iff]
    constructor
    · rintro ⟨s, h, rfl⟩
      have := s.isLt
      omega
    · intro h
      exact ⟨⟨m, by omega⟩, by constructor <;> (dsimp only; omega), rfl⟩
  rw [e3, Nat.card_Ico]
  rfl

theorem count_pos {len half t : ℕ} (h0 : 0 < half) (ht : t < len) : 0 < count len half t := by unfold count; omega

/-- A real divided by a positive count is real. -/
theorem div_count_real {a : EReal} (ha : IsReal a) {n : ℕ} (hn : 0 < n) : IsReal (Ideal.div a ((n : ℝ) : EReal)) := by
  rw [Ideal.div_coe (by positivity)]
  exact ha.mul (IsReal.coe _)

/-- A window sum, stored over the whole buffer and read back at a row of the segment. -/
theorem window_at {L len lo n : ℕ} {j : Fin 256} {D : Fin len → EReal} {o : ℕ} {y : (Rows L).Idx → EReal}
    (hy : Win (L := L) j (rowsOf D) o n y) (hL : 16 + len + 32 = L) (ho : (o + lo) % L = 0) (hlo : lo ≤ 16) (hn : n ≤ 16)
    (i2 : ∀ a, (![16, 0] : Fin 2 → ℕ) a + (![len, 256] : Fin 2 → ℕ) a ≤ (Rows L).size a)
    (i4 : ∀ a, (![0, 0] : Fin 2 → ℕ) a + (![L, 256] : Fin 2 → ℕ) a ≤ (Rows L).size a)
    {sig : RefSig} {κ : Kind} {sp : Space} (v : View sig κ sp (Rows L) .f32) (P : List (View.Piece (Elt Ideal) (Rows L) .f32))
    (t : Fin len) :
    v.readCov (Val := Elt Ideal) (⟨Rect.unit (s := Rows L) ![0, 0] ![L, 256] i4, y⟩ :: P)
      (Rect.unit (s := Rows L) ![16, 0] ![len, 256] i2).toLoadRect (ix2 t j)
    = ∑ k ∈ Finset.range n, rowsOf D (16 + t.val - lo + k) := by
  rw [segment_at y (by omega) i2 i4 v P t j, hy]
  have ht := t.isLt
  refine Finset.sum_congr rfl fun k hk => congrArg _ ?_
  have hk' := Finset.mem_range.1 hk
  have e : 16 + t.val + o + k = (16 + t.val - lo + k) + (o + lo) := by omega
  show (16 + t.val + o + k) % L = _
  rw [e, Nat.add_mod, ho, Nat.add_zero, Nat.mod_mod, Nat.mod_eq_of_lt (by omega)]

/-- The forward window's sum as the reads give it. -/
theorem fwd_at {L len half : ℕ} {j : Fin 256} {D : Fin len → EReal} {o : ℕ} {y : (Rows L).Idx → EReal}
    (hy : Win (L := L) j (rowsOf D) o (half + half) y) (hL : 16 + len + 32 = L) (ho : (o + half) % L = 0) (hh : half ≤ 8)
    (i2 : ∀ a, (![16, 0] : Fin 2 → ℕ) a + (![len, 256] : Fin 2 → ℕ) a ≤ (Rows L).size a)
    (i4 : ∀ a, (![0, 0] : Fin 2 → ℕ) a + (![L, 256] : Fin 2 → ℕ) a ≤ (Rows L).size a)
    {sig : RefSig} {κ : Kind} {sp : Space} (v : View sig κ sp (Rows L) .f32) (P : List (View.Piece (Elt Ideal) (Rows L) .f32))
    (t : Fin len) :
    v.readCov (Val := Elt Ideal) (⟨Rect.unit (s := Rows L) ![0, 0] ![L, 256] i4, y⟩ :: P)
      (Rect.unit (s := Rows L) ![16, 0] ![len, 256] i2).toLoadRect (ix2 t j)
    = ∑ s : Fin len, D s * ind half t.val s.val :=
  (window_at hy hL ho (by omega) (by omega) i2 i4 v P t).trans (window_fwd D t.val half (by omega))

/-- The backward window's sum as the reads give it. -/
theorem bwd_at {L len half : ℕ} {j : Fin 256} {D : Fin len → EReal} {o : ℕ} {y : (Rows L).Idx → EReal}
    (hy : Win (L := L) j (rowsOf D) o (half + half) y) (hL : 16 + len + 32 = L) (ho : (o + (half - 1)) % L = 0) (h0 : 0 < half) (hh : half ≤ 8)
    (i2 : ∀ a, (![16, 0] : Fin 2 → ℕ) a + (![len, 256] : Fin 2 → ℕ) a ≤ (Rows L).size a)
    (i4 : ∀ a, (![0, 0] : Fin 2 → ℕ) a + (![L, 256] : Fin 2 → ℕ) a ≤ (Rows L).size a)
    {sig : RefSig} {κ : Kind} {sp : Space} (v : View sig κ sp (Rows L) .f32) (P : List (View.Piece (Elt Ideal) (Rows L) .f32))
    (t : Fin len) :
    v.readCov (Val := Elt Ideal) (⟨Rect.unit (s := Rows L) ![0, 0] ![L, 256] i4, y⟩ :: P)
      (Rect.unit (s := Rows L) ![16, 0] ![len, 256] i2).toLoadRect (ix2 t j)
    = ∑ s : Fin len, D s * ind half s.val t.val :=
  (window_at hy hL ho (by omega) (by omega) i2 i4 v P t).trans (window_bwd D t.val half h0 (by omega))

/-! ## The values -/

/-- The centred mean's difference: the mean over the window less the row itself. -/
def zf {len : ℕ} (half : ℕ) (D : Fin len → EReal) (t : Fin len) : EReal :=
  Ideal.div (∑ s, D s * ind half t.val s.val) ((count len half t.val : ℝ) : EReal) - D t

theorem zf_real {len : ℕ} {half : ℕ} {D : Fin len → EReal} (hD : ∀ s, IsReal (D s)) (h0 : 0 < half) (t : Fin len) :
    IsReal (zf half D t) := by
  refine (div_count_real (IsReal.sum _ fun s => (hD s).mul (ind_real half t.val s.val)) (count_pos h0 t.isLt)).sub (hD t)

/-- Its derivative: every row takes its share of the windows that meet it, less itself. -/
def dzf {len : ℕ} (half : ℕ) (E : Fin len → EReal) (t : Fin len) : EReal :=
  (∑ s, Ideal.div (E s) ((count len half s.val : ℝ) : EReal) * ind half s.val t.val) - E t

/-! ## The gate -/

/-- The logistic function. -/
def logi (g : EReal) : EReal := Ideal.div 1 (1 + Ideal.exp (-g))

theorem logi_real {g : EReal} (h : IsReal g) : IsReal (logi g) := by
  obtain ⟨r, rfl⟩ := h
  have e : (1 + Ideal.exp (-(r : EReal)) : EReal) = ((1 + Real.exp (-r) : ℝ) : EReal) := by
    rw [← EReal.coe_neg, Ideal.exp_coe]
    push_cast
    rfl
  refine ⟨1 / (1 + Real.exp (-r)), ?_⟩
  rw [logi, e, Ideal.div_coe (by positivity), one_mul]

/-- The gate's derivative, as the kernel and as the reference write it. -/
theorem gate_eq {a y c g s : EReal} (ha : IsReal a) (hy : IsReal y) (hc : IsReal c) (hg : IsReal g) (hs : IsReal s) :
    a * y * c * (s * (1 + g * (1 - s))) = y * c * a * s + g * (y * c * a) * (s * (1 - s)) := by
  obtain ⟨a, rfl⟩ := ha; obtain ⟨y, rfl⟩ := hy; obtain ⟨c, rfl⟩ := hc; obtain ⟨g, rfl⟩ := hg; obtain ⟨s, rfl⟩ := hs
  rw [show (1 : EReal) = ((1 : ℝ) : EReal) from rfl]
  norm_cast
  ring

/-! ## The results, of the arrays -/

/-- Column `j` of group `g`. -/
def col (g : Fin 4) (j : Fin 256) : Fin 1024 := ⟨g.val * 256 + j.val, by omega⟩

/-- The column of `u` in the array of `u` and gate. -/
def ucol (g : Fin 4) (j : Fin 256) : Fin 2048 := ⟨g.val * 256 + j.val, by omega⟩

/-- The column of the gate in the array of `u` and gate. -/
def gcol (g : Fin 4) (j : Fin 256) : Fin 2048 := ⟨1024 + (g.val * 256 + j.val), by omega⟩

theorem exists_col (l : Fin 1024) : ∃ g j, l = col g j :=
  ⟨⟨l.val / 256, by omega⟩, ⟨l.val % 256, by omega⟩, Fin.ext (by show l.val = l.val / 256 * 256 + l.val % 256; omega)⟩

/-- An array of rows by group and lane. -/
def perCol {n : ℕ} (f : Fin 4 → Fin n → Fin 256 → EReal) (i : (⟨2, ![n, 1024]⟩ : Shape).Idx) : EReal :=
  f ⟨(i 1).val / 256, by have h : (i 1).val < 1024 := (i 1).isLt; omega⟩ (i 0) ⟨(i 1).val % 256, Nat.mod_lt _ (by decide)⟩

theorem perCol_at {n : ℕ} (f : Fin 4 → Fin n → Fin 256 → EReal) (g : Fin 4) (i : Fin n) (j : Fin 256) : perCol f (ix2 i (col g j)) = f g i j := by
  have e1 : (⟨(col g j).val / 256, by have h := (col g j).isLt; omega⟩ : Fin 4) = g := Fin.ext (by show (g.val * 256 + j.val) / 256 = g.val; omega)
  have e2 : (⟨(col g j).val % 256, Nat.mod_lt _ (by decide)⟩ : Fin 256) = j := Fin.ext (by show (g.val * 256 + j.val) % 256 = j.val; omega)
  show f ⟨(col g j).val / 256, _⟩ i ⟨(col g j).val % 256, _⟩ = _
  rw [e1, e2]

/-- Two such arrays, one above the other. -/
def planes {n : ℕ} (f h : Fin 4 → Fin n → Fin 256 → EReal) (i : (⟨3, ![2, n, 1024]⟩ : Shape).Idx) : EReal :=
  if (i 0).val = 0 then perCol f (ix2 (i 1) (i 2)) else perCol h (ix2 (i 1) (i 2))

theorem planes_at0 {n : ℕ} (f h : Fin 4 → Fin n → Fin 256 → EReal) (g : Fin 4) (i : Fin n) (j : Fin 256) :
    planes f h (ix3 0 i (col g j)) = f g i j :=
  (if_pos rfl).trans (perCol_at f g i j)

theorem planes_at1 {n : ℕ} (f h : Fin 4 → Fin n → Fin 256 → EReal) (g : Fin 4) (i : Fin n) (j : Fin 256) :
    planes f h (ix3 1 i (col g j)) = h g i j :=
  (if_neg Nat.one_ne_zero).trans (perCol_at h g i j)

section
variable (x0 : (⟨2, ![2048, 1024]⟩ : Shape).Idx → EReal) (x1 : (⟨2, ![2048, 2048]⟩ : Shape).Idx → EReal)
  (x2 : (⟨1, ![1024]⟩ : Shape).Idx → EReal) (x3 : (⟨3, ![4, 256, 256]⟩ : Shape).Idx → EReal)
  (g : Fin 4) (i : Fin 2048) (j : Fin 256)

/-- The centred mean's difference. -/
def zV : EReal := zf (2 ^ g.val) (fun s : Fin 2048 => x1 (ix2 s (ucol g j))) i

/-- Mixed within the group. -/
def mV : EReal := ∑ k : Fin 256, zV x1 g i k * x3 (ix3 g k j)

/-- The gate times its logistic. -/
def siluV : EReal := x1 (ix2 i (gcol g j)) * logi (x1 (ix2 i (gcol g j)))

/-- The gradient of the mixed rows. -/
def dmV : EReal := x0 (ix2 i (col g j)) * x2 (ix1 (col g j)) * siluV x1 g i j

/-- The gradient of the centred mean's difference. -/
def dzV : EReal := ∑ k : Fin 256, dmV x0 x1 x2 g i k * x3 (ix3 g j k)

/-- The layer's output. -/
def aV : EReal := mV x1 x3 g i j * x2 (ix1 (col g j)) * siluV x1 g i j

/-- The gradient of `u`. -/
def duV : EReal := dzf (2 ^ g.val) (fun s => dzV x0 x1 x2 x3 g s j) i

/-- The gradient of the gate. -/
def dgateV : EReal :=
  x0 (ix2 i (col g j)) * mV x1 x3 g i j * x2 (ix1 (col g j))
    * (logi (x1 (ix2 i (gcol g j))) * (1 + x1 (ix2 i (gcol g j)) * (1 - logi (x1 (ix2 i (gcol g j))))))

/-- The gradient of the scale. -/
def dscaleV : EReal := ∑ r : Fin 2048, x0 (ix2 r (col g j)) * mV x1 x3 g r j * siluV x1 g r j

/-- The gradient of the mixing weights. -/
def dwV (k : Fin 256) : EReal := ∑ r : Fin 2048, zV x1 g r k * dmV x0 x1 x2 g r j

end

end Cert.Pool

end
-- ==== Proof.PoolPay.lean ====
/-
  The payloads of the pooling kernels, index by index.
-/
module

public import proofs.«01_k».proof.Proof.PoolSum
public import proofs.«01_k».proof.Proof.Gen.PoolKIdeal.Frame

@[expose] public section

set_option maxRecDepth 16384

noncomputable section

namespace Cert.PoolKIdeal.Hand

open Cert.PoolKIdeal Cert.PoolKIdeal.Gen Cert.Pool Cert.Finite
open Idealize.ShloMosaic Idealize.ShloMosaic.TcCoe Idealize.SL.Sem
open scoped BigOperators

/-! ## Sums over windows -/

section
variable {j : Fin 256} {X : ℕ → EReal} {y : FVec Ideal S2096x256 .f32}

theorem two (hy : Win j X 0 1 y) : Win j X 0 2 (addf y (dynamicRotate 0 2095#32 none y rotates_S2096x256_d0)) :=
  hy.dbl 2095#32 rfl (by decide) (by decide) _

theorem four {o : ℕ} (hy : Win j X o 2 y) : Win j X o 4 (addf y (dynamicRotate 0 2094#32 none y rotates_S2096x256_d0)) :=
  hy.dbl 2094#32 rfl (by decide) (by decide) _

theorem eight {o : ℕ} (hy : Win j X o 4 y) : Win j X o 8 (addf y (dynamicRotate 0 2092#32 none y rotates_S2096x256_d0)) :=
  hy.dbl 2092#32 rfl (by decide) (by decide) _

theorem sixteen {o : ℕ} (hy : Win j X o 8 y) : Win j X o 16 (addf y (dynamicRotate 0 2088#32 none y rotates_S2096x256_d0)) :=
  hy.dbl 2088#32 rfl (by decide) (by decide) _

theorem fwd1 (hy : Win j X 0 1 y) : Win j X 2095 2 (k0_pay6 (F := Ideal) y) := by
  rw [k0_pay6, shapeCast_self]
  exact (two hy).rot 1#32 1 rfl (by decide) _

theorem fwd2 (hy : Win j X 0 1 y) : Win j X 2094 4 (k0_pay12 (F := Ideal) y) := by
  rw [k0_pay12, shapeCast_self]
  exact (four (two hy)).rot 2#32 2 rfl (by decide) _

theorem fwd4 (hy : Win j X 0 1 y) : Win j X 2092 8 (k0_pay18 (F := Ideal) y) := by
  rw [k0_pay18, shapeCast_self]
  exact (eight (four (two hy))).rot 4#32 4 rfl (by decide) _

theorem fwd8 (hy : Win j X 0 1 y) : Win j X 2088 16 (k0_pay25 (F := Ideal) y) := by
  rw [k0_pay25, shapeCast_self]
  exact (sixteen (eight (four (two hy)))).rot 8#32 8 rfl (by decide) _

theorem bwd1 (hy : Win j X 0 1 y) : Win j X 0 2 (k1_pay12 (F := Ideal) y) := by
  rw [k1_pay12, shapeCast_self]
  exact two hy

theorem bwd2 (hy : Win j X 0 1 y) : Win j X 2095 4 (k1_pay17 (F := Ideal) y) := by
  rw [k1_pay17, shapeCast_self]
  exact (four (two hy)).rot 1#32 1 rfl (by decide) _

theorem bwd4 (hy : Win j X 0 1 y) : Win j X 2093 8 (k1_pay5 (F := Ideal) (k1_pay21 (F := Ideal) y)) := by
  rw [k1_pay5, k1_pay21, shapeCast_self]
  exact (eight (four (two hy))).rot 3#32 3 rfl (by decide) _

theorem bwd8 (hy : Win j X 0 1 y) : Win j X 2089 16 (k1_pay7 (F := Ideal) (k1_pay25 (F := Ideal) y)) := by
  rw [k1_pay7, k1_pay25, shapeCast_self]
  exact (sixteen (eight (four (two hy)))).rot 7#32 7 rfl (by decide) _

end

/-! ## The count of rows in a window -/

theorem count_int : ∀ g : Fin 4, ∀ t : Fin 2048,
    (IntOp.subi (IntOp.minsi (IntOp.addi (BitVec.ofNat 32 t.val) (BitVec.ofNat 32 (2 ^ g.val))) 2048#32)
      (IntOp.maxsi (IntOp.subi (BitVec.ofNat 32 t.val) (BitVec.ofNat 32 (2 ^ g.val))) 0#32)).toInt = (count 2048 (2 ^ g.val) t.val : ℤ) := by
  decide +kernel

/-- The words of the kernel count the rows of the window. -/
theorem count_word (g : Fin 4) (half : ℕ) (hh : half = 2 ^ g.val) (t : Fin 2048) :
    (FloatOps.sitofp FTy.f32 (IntOp.subi (IntOp.minsi (IntOp.addi (BitVec.ofNat 32 t.val) (BitVec.ofNat 32 half)) 2048#32)
      (IntOp.maxsi (IntOp.subi (BitVec.ofNat 32 t.val) (BitVec.ofNat 32 half)) 0#32)) : Ideal .f32)
    = ((count 2048 half t.val : ℝ) : EReal) := by
  subst hh
  show (((IntOp.subi _ _).toInt : ℝ) : EReal) = _
  rw [count_int g t]
  norm_cast

section
variable (x s : FVec Ideal S2048x256 .f32) (b g : FVec Ideal S2048x256 .bf16) (i : Fin 2048) (j : Fin 256)

theorem pay27_at : k0_pay27 (F := Ideal) (k0_pay2 b) (k0_pay7 s) (ix2 i j)
    = Ideal.div (s (ix2 i j)) ((count 2048 1 i.val : ℝ) : EReal) - b (ix2 i j) := by
  rw [← count_word 0 1 rfl i]
  pointwise [k0_pay27, k0_pay2, k0_pay7]

theorem pay28_at : k0_pay28 (F := Ideal) (k0_pay8 b) s k0_pay13 (ix2 i j)
    = Ideal.div (s (ix2 i j)) ((count 2048 2 i.val : ℝ) : EReal) - b (ix2 i j) := by
  rw [← count_word 1 2 rfl i]
  pointwise [k0_pay28, k0_pay8, k0_pay13]

theorem pay29_at : k0_pay29 (F := Ideal) (k0_pay14 b) s k0_pay19 k0_pay20 0#32 (ix2 i j)
    = Ideal.div (s (ix2 i j)) ((count 2048 4 i.val : ℝ) : EReal) - b (ix2 i j) := by
  rw [← count_word 2 4 rfl i]
  pointwise [k0_pay29, k0_pay14, k0_pay19, k0_pay20]

theorem pay30_at : k0_pay30 (F := Ideal) (k0_pay21 b) s (iota .tc S2048x1 32 [0] iota_S2048x1_d0_w32) k0_pay26 8#32 (ix2 i j)
    = Ideal.div (s (ix2 i j)) ((count 2048 8 i.val : ℝ) : EReal) - b (ix2 i j) := by
  rw [← count_word 3 8 rfl i]
  pointwise [k0_pay30, k0_pay21, k0_pay26]

theorem pay10_at : k1_pay10 (F := Ideal) x (ix2 i j) = Ideal.div (x (ix2 i j)) ((count 2048 1 i.val : ℝ) : EReal) := by
  rw [← count_word 0 1 rfl i]
  pointwise [k1_pay10]

theorem pay15_at : k1_pay15 (F := Ideal) x (ix2 i j) = Ideal.div (x (ix2 i j)) ((count 2048 2 i.val : ℝ) : EReal) := by
  rw [← count_word 1 2 rfl i]
  pointwise [k1_pay15]

theorem pay19_at : k1_pay19 (F := Ideal) x (ix2 i j) = Ideal.div (x (ix2 i j)) ((count 2048 4 i.val : ℝ) : EReal) := by
  rw [← count_word 2 4 rfl i]
  pointwise [k1_pay19]

theorem pay23_at : k1_pay23 (F := Ideal) x (ix2 i j) = Ideal.div (x (ix2 i j)) ((count 2048 8 i.val : ℝ) : EReal) := by
  rw [← count_word 3 8 rfl i]
  pointwise [k1_pay23]

/-! ## The forward products -/

variable (w : FVec Ideal S1x256x256 .bf16) (sc : FVec Ideal S1x256 .f32)

theorem pay31_at : k0_pay31 (F := Ideal) b w (ix2 i j) = ∑ k : Fin 256, b (ix2 i k) * w (ix3 0 k j) := by
  pointwise [k0_pay31]

theorem pay32_at : k0_pay32 (F := Ideal) b w (ix2 i j) = ∑ k : Fin 256, b (ix2 i k) * w (ix3 0 k j) := pay31_at b i j w

theorem act_at : k0_pay1 (F := Ideal) (k0_pay33 b w sc) (k0_pay34 g) (k0_pay35 g) k0_pay36 (ix2 i j)
    = (∑ k : Fin 256, b (ix2 i k) * w (ix3 0 k j)) * sc (ix2 0 j) * (g (ix2 i j) * logi (g (ix2 i j))) := by
  rw [← pay31_at, logi, ← zero_sub]
  pointwise [k0_pay1, k0_pay33, k0_pay34, k0_pay35, k0_pay36]

/-! ## The backward products -/

variable (da m : FVec Ideal S2048x256 .bf16)

theorem dm_at : k1_pay31 (F := Ideal) da g sc (ix2 i j) = da (ix2 i j) * sc (ix2 0 j) * (g (ix2 i j) * logi (g (ix2 i j))) := by
  rw [logi, ← zero_sub]
  pointwise [k1_pay31, k1_pay30, k1_pay29, k1_pay28, k1_pay26]

theorem dz_at : k1_pay32 (F := Ideal) da g sc w (ix2 i j) = ∑ k : Fin 256, k1_pay31 (F := Ideal) da g sc (ix2 i k) * w (ix3 0 j k) := by
  pointwise [k1_pay32]

theorem dgate_at : k1_pay1 (F := Ideal) (k1_pay28 g) (k1_pay33 da m sc) (k1_pay34 g) (ix3 0 i j)
    = da (ix2 i j) * m (ix2 i j) * sc (ix2 0 j) * (logi (g (ix2 i j)) * (1 + g (ix2 i j) * (1 - logi (g (ix2 i j))))) := by
  rw [logi, ← zero_sub]
  pointwise [k1_pay1, k1_pay28, k1_pay33, k1_pay34, k1_pay26, k1_pay27, k1_pay30]

theorem dscale_at : k1_pay2 (F := Ideal) (k1_pay26 da) (k1_pay27 m) (k1_pay29 g) (ix2 0 j)
    = ∑ k : Fin 2048, da (ix2 k j) * m (ix2 k j) * (g (ix2 k j) * logi (g (ix2 k j))) := by
  simp only [logi, ← zero_sub (g _)]
  pointwise [k1_pay2, k1_pay26, k1_pay27, k1_pay29, k1_pay28]

theorem du1_at : k1_pay3 (F := Ideal) (k1_pay13 x s) (ix3 0 i j) = s (ix2 i j) - x (ix2 i j) := by
  pointwise [k1_pay3, k1_pay13]

theorem du2_at : k1_pay4 (F := Ideal) x s (ix3 0 i j) = s (ix2 i j) - x (ix2 i j) := by
  pointwise [k1_pay4]

theorem du4_at : k1_pay6 (F := Ideal) x s (ix3 0 i j) = s (ix2 i j) - x (ix2 i j) := by
  pointwise [k1_pay6]

theorem du8_at : k1_pay8 (F := Ideal) x s (ix3 0 i j) = s (ix2 i j) - x (ix2 i j) := by
  pointwise [k1_pay8]

theorem dw_at (a d : Fin 256) : k2_pay1 (F := Ideal) b m (ix3 0 a d) = ∑ k : Fin 2048, b (ix2 k a) * m (ix2 k d) := by
  pointwise [k2_pay1]

end

end Cert.PoolKIdeal.Hand

end
-- ==== Proof.PoolFwd.lean ====
/-
  The forward call of the pooling layer: what its three arrays hold after the region, whatever the arrays held before it.
-/
module

public import proofs.«01_k».proof.Proof.PoolPay

@[expose] public section

set_option maxRecDepth 16384

noncomputable section

namespace Cert.PoolKIdeal.Hand

open Cert.PoolKIdeal Cert.PoolKIdeal.Gen Cert.Pool Cert.Finite
open Idealize.ShloMosaic Idealize.ShloMosaic.TcCoe Idealize.SL.Sem
open Idealize.ShloMosaic.Pipeline (Dat)
open scoped BigOperators

/-- Where each window's block sits: every array's block is its group's. -/
theorem idx0 : ∀ t : Fin cfg0.N, win0_0.index t = ![0, t.val] ∧ win0_1.index t = ![0, 4 + t.val] ∧ win0_2.index t = ![t.val, 0, 0]
    ∧ win0_3.index t = ![0, t.val] ∧ win0_4.index t = ![0, t.val] ∧ win0_5.index t = ![0, t.val] ∧ win0_6.index t = ![0, t.val] :=
  (by decide +kernel : ∀ t : Fin grid0.N, _)

theorem pay3_zero (i : S16x256.Idx) : k0_pay3 (F := Ideal) i = 0 := by
  rw [k0_pay3, shapeCast_self]
  exact Ideal.ofBits_zero_f32

theorem pay9_zero (i : S16x256.Idx) : k0_pay9 (F := Ideal) i = 0 := by
  rw [k0_pay9, shapeCast_self]
  exact Ideal.ofBits_zero_f32

theorem pay15_zero (i : S16x256.Idx) : k0_pay15 (F := Ideal) i = 0 := by
  rw [k0_pay15, shapeCast_self]
  exact Ideal.ofBits_zero_f32

theorem pay22_zero (i : S16x256.Idx) : k0_pay22 (F := Ideal) i = 0 := by
  rw [k0_pay22, shapeCast_self]
  exact Ideal.ofBits_zero_f32

theorem pay5_zero (i : S32x256.Idx) : k0_pay5 (F := Ideal) i = 0 := by
  rw [k0_pay5, shapeCast_self]
  exact Ideal.ofBits_zero_f32

theorem pay11_zero (i : S32x256.Idx) : k0_pay11 (F := Ideal) i = 0 := by
  rw [k0_pay11, shapeCast_self]
  exact Ideal.ofBits_zero_f32

theorem pay17_zero (i : S32x256.Idx) : k0_pay17 (F := Ideal) i = 0 := by
  rw [k0_pay17, shapeCast_self]
  exact Ideal.ofBits_zero_f32

theorem pay24_zero (i : S32x256.Idx) : k0_pay24 (F := Ideal) i = 0 := by
  rw [k0_pay24, shapeCast_self]
  exact Ideal.ofBits_zero_f32

theorem pay4_eq (b : FVec Ideal S2048x256 .bf16) : k0_pay4 (F := Ideal) b = b := by
  rw [k0_pay4, shapeCast_self]
  rfl

theorem seg10_eq (b : FVec Ideal S2048x256 .bf16) : k0_pay10 (F := Ideal) b = b := by
  rw [k0_pay10, shapeCast_self]
  rfl

theorem pay16_eq (b : FVec Ideal S2048x256 .bf16) : k0_pay16 (F := Ideal) b = b := by
  rw [k0_pay16, shapeCast_self]
  rfl

theorem pay23_eq (b : FVec Ideal S2048x256 .bf16) : k0_pay23 (F := Ideal) b = b := by
  rw [k0_pay23, shapeCast_self]
  rfl

section
variable (V : (c : Dev nD) → (b : Ref sig .tc) → Buf (Elt Ideal) ((c : Thread nD τ).loc b)) (c : Dev nD)

theorem four0 (t : Fin cfg0.N) : t.val < 4 := lt_of_lt_of_eq t.isLt N_0

/-- The centred mean's difference at the group's tile. -/
theorem z_at (t : Fin cfg0.N) (i : Fin 2048) (j : Fin 256) :
    (outsAt0 V c t.val t.isLt).1 (ix2 i j) = zf (2 ^ t.val) (fun s : Fin 2048 => iblk0 V c 0 t (ix2 s j)) i := by
  have hN := four0 t
  by_cases h0 : t.val % 4 = 0
  · rw [outsAt0_A V c t h0 (by omega) (by omega) (by omega), show 2 ^ t.val = 1 by rw [show t.val = 0 by omega]; rfl]
    frame_out
    rw [pay27_at, fwd_at (half := 1) (fwd1 (buffer_at (L := 2096) (len := 2048) (by decide) (by decide) _ _ _ pay3_zero pay5_zero _ _ _ _ _ j))
      (by decide) (by decide) (by decide), pay4_eq]
    rfl
  by_cases h1 : t.val % 4 = 1
  · rw [outsAt0_B V c t (by omega) h1 (by omega) (by omega), show 2 ^ t.val = 2 by rw [show t.val = 1 by omega]; rfl]
    frame_out
    rw [pay28_at, fwd_at (half := 2) (fwd2 (buffer_at (L := 2096) (len := 2048) (by decide) (by decide) _ _ _ pay9_zero pay11_zero _ _ _ _ _ j))
      (by decide) (by decide) (by decide), seg10_eq]
    rfl
  by_cases h2 : t.val % 4 = 2
  · rw [outsAt0_C V c t (by omega) (by omega) h2 (by omega), show 2 ^ t.val = 4 by rw [show t.val = 2 by omega]; rfl]
    frame_out
    rw [pay29_at, fwd_at (half := 4) (fwd4 (buffer_at (L := 2096) (len := 2048) (by decide) (by decide) _ _ _ pay15_zero pay17_zero _ _ _ _ _ j))
      (by decide) (by decide) (by decide), pay16_eq]
    rfl
  · rw [outsAt0_D V c t (by omega) (by omega) (by omega) (by omega), show 2 ^ t.val = 8 by rw [show t.val = 3 by omega]; rfl]
    frame_out
    rw [pay30_at, fwd_at (half := 8) (fwd8 (buffer_at (L := 2096) (len := 2048) (by decide) (by decide) _ _ _ pay22_zero pay24_zero _ _ _ _ _ j))
      (by decide) (by decide) (by decide), pay23_eq]
    rfl

/-- The tile mixed. -/
theorem mixed_eq (t : Fin cfg0.N) :
    (outsAt0 V c t.val t.isLt).2.1 = k0_pay32 (F := Ideal) (outsAt0 V c t.val t.isLt).1 (iblk0 V c 2 t) := by
  have hN := four0 t
  by_cases h0 : t.val % 4 = 0
  · rw [outsAt0_A V c t h0 (by omega) (by omega) (by omega)]; frame_out
  by_cases h1 : t.val % 4 = 1
  · rw [outsAt0_B V c t (by omega) h1 (by omega) (by omega)]; frame_out
  by_cases h2 : t.val % 4 = 2
  · rw [outsAt0_C V c t (by omega) (by omega) h2 (by omega)]; frame_out
  · rw [outsAt0_D V c t (by omega) (by omega) (by omega) (by omega)]; frame_out

/-- The layer's output at the tile. -/
theorem act_eq (t : Fin cfg0.N) : (outsAt0 V c t.val t.isLt).2.2
    = k0_pay1 (F := Ideal) (k0_pay33 (outsAt0 V c t.val t.isLt).1 (iblk0 V c 2 t) (iblk0 V c 3 t)) (k0_pay34 (iblk0 V c 1 t))
      (k0_pay35 (iblk0 V c 1 t)) k0_pay36 := by
  have hN := four0 t
  by_cases h0 : t.val % 4 = 0
  · rw [outsAt0_A V c t h0 (by omega) (by omega) (by omega)]; frame_out
  by_cases h1 : t.val % 4 = 1
  · rw [outsAt0_B V c t (by omega) h1 (by omega) (by omega)]; frame_out
  by_cases h2 : t.val % 4 = 2
  · rw [outsAt0_C V c t (by omega) (by omega) h2 (by omega)]; frame_out
  · rw [outsAt0_D V c t (by omega) (by omega) (by omega) (by omega)]; frame_out

/-! ## The arrays after the region -/

variable {x1 : FVec Ideal S2048x2048 .bf16} {x2 : FVec Ideal S1024 .f32} {x3 : FVec Ideal S4x256x256 .f32}

/-- The group of a point. -/
def grp0 (t : Fin cfg0.N) : Fin 4 := ⟨t.val, four0 t⟩

theorem u_blk (h1 : V c main_arg1 = x1) (t : Fin cfg0.N) (i : Fin 2048) (j : Fin 256) : iblk0 V c 0 t (ix2 i j) = x1 (ix2 i (ucol (grp0 t) j)) := by
  subst h1
  blk_ext [iblk0, idx0 t, ucol, grp0]

theorem gate_blk (h1 : V c main_arg1 = x1) (t : Fin cfg0.N) (i : Fin 2048) (j : Fin 256) :
    iblk0 V c 1 t (ix2 i j) = x1 (ix2 i (gcol (grp0 t) j)) := by
  subst h1
  blk_ext [iblk0, idx0 t, gcol, grp0]

theorem w_blk (hw : ∀ i, V c main_v0 i = x3 i) (t : Fin cfg0.N) (k j : Fin 256) : iblk0 V c 2 t (ix3 0 k j) = x3 (ix3 (grp0 t) k j) := by
  rw [← hw]
  blk_ext [iblk0, idx0 t, grp0]

theorem scale_blk (hs : ∀ l, V c main_v1 (ix2 0 l) = x2 (ix1 l)) (t : Fin cfg0.N) (j : Fin 256) :
    iblk0 V c 3 t (ix2 0 j) = x2 (ix1 (col (grp0 t) j)) := by
  rw [← hs]
  blk_ext [iblk0, idx0 t, col, grp0]

theorem z_val (h1 : V c main_arg1 = x1) (t : Fin cfg0.N) (i : Fin 2048) (j : Fin 256) :
    (outsAt0 V c t.val t.isLt).1 (ix2 i j) = zV x1 (grp0 t) i j := by
  rw [z_at, zV]
  simp only [u_blk V c h1]
  rfl

/-- The centred mean's difference after the region. -/
theorem z_final (h1 : V c main_arg1 = x1) : (dat0 V c).arrAt 4 cfg0.N = perCol (zV x1) := by
  refine (dat0 V c).arrAt_eq_of_covers 4 _ (by decide +kernel) fun t _ y => ?_
  have hN := four0 t
  blk_simp
  rw [after0_4]
  idx_vars y
  refine (z_val V c h1 t y0 y1).trans ((perCol_at (zV x1) (grp0 t) y0 y1).symm.trans ?_)
  blk_ext [idx0 t, col, grp0]

theorem mixed_val (h1 : V c main_arg1 = x1) (hw : ∀ i, V c main_v0 i = x3 i) (t : Fin cfg0.N) (i : Fin 2048) (j : Fin 256) :
    (outsAt0 V c t.val t.isLt).2.1 (ix2 i j) = mV x1 x3 (grp0 t) i j := by
  rw [mixed_eq, pay32_at, mV]
  simp only [z_val V c h1, w_blk V c hw]

/-- The mixed rows after the region. -/
theorem mixed_final (h1 : V c main_arg1 = x1) (hw : ∀ i, V c main_v0 i = x3 i) : (dat0 V c).arrAt 5 cfg0.N = perCol (mV x1 x3) := by
  refine (dat0 V c).arrAt_eq_of_covers 5 _ (by decide +kernel) fun t _ y => ?_
  have hN := four0 t
  blk_simp
  rw [after0_5]
  idx_vars y
  refine (mixed_val V c h1 hw t y0 y1).trans ((perCol_at (mV x1 x3) (grp0 t) y0 y1).symm.trans ?_)
  blk_ext [idx0 t, col, grp0]

/-- The layer's output after the region. -/
theorem act_final (h1 : V c main_arg1 = x1) (hw : ∀ i, V c main_v0 i = x3 i) (hs : ∀ l, V c main_v1 (ix2 0 l) = x2 (ix1 l)) :
    (dat0 V c).arrAt 6 cfg0.N = perCol (aV x1 x2 x3) := by
  refine (dat0 V c).arrAt_eq_of_covers 6 _ (by decide +kernel) fun t _ y => ?_
  have hN := four0 t
  blk_simp
  rw [after0_6]
  idx_vars y
  have e : (outsAt0 V c t.val t.isLt).2.2 (ix2 y0 y1) = aV x1 x2 x3 (grp0 t) y0 y1 := by
    rw [act_eq, act_at, aV, siluV, mV]
    simp only [z_val V c h1, w_blk V c hw, gate_blk V c h1, scale_blk V c hs]
  refine e.trans ((perCol_at (aV x1 x2 x3) (grp0 t) y0 y1).symm.trans ?_)
  blk_ext [idx0 t, col, grp0]

end

end Cert.PoolKIdeal.Hand

end
-- ==== Proof.PoolBwd.lean ====
/-
  The backward call of the pooling layer: what its three arrays hold after the region, whatever the arrays held before it.
-/
module

public import proofs.«01_k».proof.Proof.PoolPay

@[expose] public section

set_option maxRecDepth 16384

noncomputable section

namespace Cert.PoolKIdeal.Hand

open Cert.PoolKIdeal Cert.PoolKIdeal.Gen Cert.Pool Cert.Finite
open Idealize.ShloMosaic Idealize.ShloMosaic.TcCoe Idealize.SL.Sem
open Idealize.ShloMosaic.Pipeline (Dat)
open scoped BigOperators

/-- Where each window's block sits: every array's block is its group's. -/
theorem idx1 : ∀ t : Fin cfg1.N, win1_0.index t = ![0, t.val] ∧ win1_1.index t = ![0, t.val] ∧ win1_2.index t = ![0, 4 + t.val]
    ∧ win1_3.index t = ![0, t.val] ∧ win1_4.index t = ![t.val, 0, 0] ∧ win1_5.index t = ![0, t.val] ∧ win1_6.index t = ![0, 0, t.val]
    ∧ win1_7.index t = ![0, t.val] :=
  (by decide +kernel : ∀ t : Fin grid1.N, _)

theorem k1_pay9_zero (i : S16x256.Idx) : k1_pay9 (F := Ideal) i = 0 := by
  rw [k1_pay9, shapeCast_self]
  exact Ideal.ofBits_zero_f32

theorem k1_pay14_zero (i : S16x256.Idx) : k1_pay14 (F := Ideal) i = 0 := by
  rw [k1_pay14, shapeCast_self]
  exact Ideal.ofBits_zero_f32

theorem k1_pay18_zero (i : S16x256.Idx) : k1_pay18 (F := Ideal) i = 0 := by
  rw [k1_pay18, shapeCast_self]
  exact Ideal.ofBits_zero_f32

theorem k1_pay22_zero (i : S16x256.Idx) : k1_pay22 (F := Ideal) i = 0 := by
  rw [k1_pay22, shapeCast_self]
  exact Ideal.ofBits_zero_f32

theorem k1_pay11_zero (i : S32x256.Idx) : k1_pay11 (F := Ideal) i = 0 := by
  rw [k1_pay11, shapeCast_self]
  exact Ideal.ofBits_zero_f32

theorem k1_pay16_zero (i : S32x256.Idx) : k1_pay16 (F := Ideal) i = 0 := by
  rw [k1_pay16, shapeCast_self]
  exact Ideal.ofBits_zero_f32

theorem k1_pay20_zero (i : S32x256.Idx) : k1_pay20 (F := Ideal) i = 0 := by
  rw [k1_pay20, shapeCast_self]
  exact Ideal.ofBits_zero_f32

theorem k1_pay24_zero (i : S32x256.Idx) : k1_pay24 (F := Ideal) i = 0 := by
  rw [k1_pay24, shapeCast_self]
  exact Ideal.ofBits_zero_f32

section
variable (V : (c : Dev nD) → (b : Ref sig .tc) → Buf (Elt Ideal) ((c : Thread nD τ).loc b)) (c : Dev nD)

theorem four1 (t : Fin cfg1.N) : t.val < 4 := lt_of_lt_of_eq t.isLt N_1

/-- The group of a point. -/
def grp1 (t : Fin cfg1.N) : Fin 4 := ⟨t.val, four1 t⟩

/-- The gradient of the mixed rows at the group's tile. -/
theorem dm_eq (t : Fin cfg1.N) : (outsAt1 V c t.val t.isLt).1 = k1_pay31 (F := Ideal) (iblk1 V c 0 t) (iblk1 V c 2 t) (iblk1 V c 3 t) := by
  have hN := four1 t
  by_cases h0 : t.val % 4 = 0
  · rw [outsAt1_A V c t h0 (by omega) (by omega) (by omega)]; frame_out
  by_cases h1 : t.val % 4 = 1
  · rw [outsAt1_B V c t (by omega) h1 (by omega) (by omega)]; frame_out
  by_cases h2 : t.val % 4 = 2
  · rw [outsAt1_C V c t (by omega) (by omega) h2 (by omega)]; frame_out
  · rw [outsAt1_D V c t (by omega) (by omega) (by omega) (by omega)]; frame_out

/-- The gradient of the scale at the group's tile. -/
theorem dscale_eq (t : Fin cfg1.N) : (outsAt1 V c t.val t.isLt).2.2
    = k1_pay2 (F := Ideal) (k1_pay26 (iblk1 V c 0 t)) (k1_pay27 (iblk1 V c 1 t)) (k1_pay29 (iblk1 V c 2 t)) := by
  have hN := four1 t
  by_cases h0 : t.val % 4 = 0
  · rw [outsAt1_A V c t h0 (by omega) (by omega) (by omega)]; frame_out
  by_cases h1 : t.val % 4 = 1
  · rw [outsAt1_B V c t (by omega) h1 (by omega) (by omega)]; frame_out
  by_cases h2 : t.val % 4 = 2
  · rw [outsAt1_C V c t (by omega) (by omega) h2 (by omega)]; frame_out
  · rw [outsAt1_D V c t (by omega) (by omega) (by omega) (by omega)]; frame_out

/-- The gradient of the gate at the group's tile. -/
theorem dgate_eq (t : Fin cfg1.N) (i : Fin 2048) (j : Fin 256) : (outsAt1 V c t.val t.isLt).2.1 (ix3 1 i j)
    = k1_pay1 (F := Ideal) (k1_pay28 (iblk1 V c 2 t)) (k1_pay33 (iblk1 V c 0 t) (iblk1 V c 1 t) (iblk1 V c 3 t)) (k1_pay34 (iblk1 V c 2 t)) (ix3 0 i j) := by
  have hN := four1 t
  by_cases h0 : t.val % 4 = 0
  · rw [outsAt1_A V c t h0 (by omega) (by omega) (by omega)]; frame_out; exact plane1 _ _ _ _ i j
  by_cases h1 : t.val % 4 = 1
  · rw [outsAt1_B V c t (by omega) h1 (by omega) (by omega)]; frame_out; exact plane1 _ _ _ _ i j
  by_cases h2 : t.val % 4 = 2
  · rw [outsAt1_C V c t (by omega) (by omega) h2 (by omega)]; frame_out; exact plane1 _ _ _ _ i j
  · rw [outsAt1_D V c t (by omega) (by omega) (by omega) (by omega)]; frame_out; exact plane1 _ _ _ _ i j

/-- The gradient of `u` at the group's tile. -/
theorem du_at (t : Fin cfg1.N) (i : Fin 2048) (j : Fin 256) : (outsAt1 V c t.val t.isLt).2.1 (ix3 0 i j)
    = dzf (2 ^ t.val) (fun s : Fin 2048 => k1_pay32 (F := Ideal) (iblk1 V c 0 t) (iblk1 V c 2 t) (iblk1 V c 3 t) (iblk1 V c 4 t) (ix2 s j)) i := by
  have hN := four1 t
  by_cases h0 : t.val % 4 = 0
  · rw [outsAt1_A V c t h0 (by omega) (by omega) (by omega), show 2 ^ t.val = 1 by rw [show t.val = 0 by omega]; rfl]
    frame_out
    rw [plane0, du1_at, bwd_at (half := 1) (bwd1 (buffer_at (L := 2096) (len := 2048) (by decide) (by decide) _ _ _ k1_pay9_zero k1_pay11_zero _ _ _ _ _ j))
      (by decide) (by decide) (by decide) (by decide), dzf]
    simp only [pay10_at]
  by_cases h1 : t.val % 4 = 1
  · rw [outsAt1_B V c t (by omega) h1 (by omega) (by omega), show 2 ^ t.val = 2 by rw [show t.val = 1 by omega]; rfl]
    frame_out
    rw [plane0, du2_at, bwd_at (half := 2) (bwd2 (buffer_at (L := 2096) (len := 2048) (by decide) (by decide) _ _ _ k1_pay14_zero k1_pay16_zero _ _ _ _ _ j))
      (by decide) (by decide) (by decide) (by decide), dzf]
    simp only [pay15_at]
  by_cases h2 : t.val % 4 = 2
  · rw [outsAt1_C V c t (by omega) (by omega) h2 (by omega), show 2 ^ t.val = 4 by rw [show t.val = 2 by omega]; rfl]
    frame_out
    rw [plane0, du4_at, bwd_at (half := 4) (bwd4 (buffer_at (L := 2096) (len := 2048) (by decide) (by decide) _ _ _ k1_pay18_zero k1_pay20_zero _ _ _ _ _ j))
      (by decide) (by decide) (by decide) (by decide), dzf]
    simp only [pay19_at]
  · rw [outsAt1_D V c t (by omega) (by omega) (by omega) (by omega), show 2 ^ t.val = 8 by rw [show t.val = 3 by omega]; rfl]
    frame_out
    rw [plane0, du8_at, bwd_at (half := 8) (bwd8 (buffer_at (L := 2096) (len := 2048) (by decide) (by decide) _ _ _ k1_pay22_zero k1_pay24_zero _ _ _ _ _ j))
      (by decide) (by decide) (by decide) (by decide), dzf]
    simp only [pay23_at]

/-! ## The arrays after the region -/

variable {x0 : FVec Ideal S2048x1024 .bf16} {x1 : FVec Ideal S2048x2048 .bf16} {x2 : FVec Ideal S1024 .f32} {x3 : FVec Ideal S4x256x256 .f32}

theorem da_blk1 (h0 : V c main_arg0 = x0) (t : Fin cfg1.N) (i : Fin 2048) (j : Fin 256) : iblk1 V c 0 t (ix2 i j) = x0 (ix2 i (col (grp1 t) j)) := by
  subst h0
  blk_ext [iblk1, idx1 t, col, grp1]

theorem mixed_blk1 (hm : V c main_v2_1 = perCol (mV x1 x3)) (t : Fin cfg1.N) (i : Fin 2048) (j : Fin 256) :
    iblk1 V c 1 t (ix2 i j) = mV x1 x3 (grp1 t) i j := by
  rw [← perCol_at (mV x1 x3), ← hm]
  blk_ext [iblk1, idx1 t, col, grp1]

theorem gate_blk1 (h1 : V c main_arg1 = x1) (t : Fin cfg1.N) (i : Fin 2048) (j : Fin 256) :
    iblk1 V c 2 t (ix2 i j) = x1 (ix2 i (gcol (grp1 t) j)) := by
  subst h1
  blk_ext [iblk1, idx1 t, gcol, grp1]

theorem scale_blk1 (hs : ∀ l, V c main_v3 (ix2 0 l) = x2 (ix1 l)) (t : Fin cfg1.N) (j : Fin 256) :
    iblk1 V c 3 t (ix2 0 j) = x2 (ix1 (col (grp1 t) j)) := by
  rw [← hs]
  blk_ext [iblk1, idx1 t, col, grp1]

theorem w_blk1 (hw : ∀ i, V c main_v0 i = x3 i) (t : Fin cfg1.N) (k j : Fin 256) : iblk1 V c 4 t (ix3 0 k j) = x3 (ix3 (grp1 t) k j) := by
  rw [← hw]
  blk_ext [iblk1, idx1 t, grp1]

theorem dm_val (h0 : V c main_arg0 = x0) (h1 : V c main_arg1 = x1) (hs : ∀ l, V c main_v3 (ix2 0 l) = x2 (ix1 l)) (t : Fin cfg1.N)
    (i : Fin 2048) (j : Fin 256) :
    k1_pay31 (F := Ideal) (iblk1 V c 0 t) (iblk1 V c 2 t) (iblk1 V c 3 t) (ix2 i j) = dmV x0 x1 x2 (grp1 t) i j := by
  rw [dm_at, dmV, siluV, da_blk1 V c h0, gate_blk1 V c h1, scale_blk1 V c hs]

/-- The gradient of the mixed rows after the region. -/
theorem dm_final (h0 : V c main_arg0 = x0) (h1 : V c main_arg1 = x1) (hs : ∀ l, V c main_v3 (ix2 0 l) = x2 (ix1 l)) :
    (dat1 V c).arrAt 5 cfg1.N = perCol (dmV x0 x1 x2) := by
  refine (dat1 V c).arrAt_eq_of_covers 5 _ (by decide +kernel) fun t _ y => ?_
  have hN := four1 t
  blk_simp
  rw [after1_5]
  idx_vars y
  rw [dm_eq]
  refine (dm_val V c h0 h1 hs t y0 y1).trans ((perCol_at (dmV x0 x1 x2) (grp1 t) y0 y1).symm.trans ?_)
  blk_ext [idx1 t, col, grp1]

theorem du_val (h0 : V c main_arg0 = x0) (h1 : V c main_arg1 = x1) (hs : ∀ l, V c main_v3 (ix2 0 l) = x2 (ix1 l)) (hw : ∀ i, V c main_v0 i = x3 i)
    (t : Fin cfg1.N) (i : Fin 2048) (j : Fin 256) : (outsAt1 V c t.val t.isLt).2.1 (ix3 0 i j) = duV x0 x1 x2 x3 (grp1 t) i j := by
  rw [du_at, duV, show (grp1 t).val = t.val from rfl]
  congr 1
  funext s
  rw [dz_at, dzV]
  exact Finset.sum_congr rfl fun k _ => by rw [dm_val V c h0 h1 hs, w_blk1 V c hw]

theorem dgate_val (h0 : V c main_arg0 = x0) (h1 : V c main_arg1 = x1) (hs : ∀ l, V c main_v3 (ix2 0 l) = x2 (ix1 l))
    (hm : V c main_v2_1 = perCol (mV x1 x3)) (t : Fin cfg1.N) (i : Fin 2048) (j : Fin 256) :
    (outsAt1 V c t.val t.isLt).2.1 (ix3 1 i j) = dgateV x0 x1 x2 x3 (grp1 t) i j := by
  rw [dgate_eq, dgate_at, dgateV, da_blk1 V c h0, gate_blk1 V c h1, scale_blk1 V c hs, mixed_blk1 V c hm]

/-- The gradients of `u` and of the gate after the region. -/
theorem duv_final (h0 : V c main_arg0 = x0) (h1 : V c main_arg1 = x1) (hs : ∀ l, V c main_v3 (ix2 0 l) = x2 (ix1 l)) (hw : ∀ i, V c main_v0 i = x3 i)
    (hm : V c main_v2_1 = perCol (mV x1 x3)) : (dat1 V c).arrAt 6 cfg1.N = planes (duV x0 x1 x2 x3) (dgateV x0 x1 x2 x3) := by
  refine (dat1 V c).arrAt_eq_of_covers 6 _ (by decide +kernel) fun t _ y => ?_
  have hN := four1 t
  blk_simp
  rw [after1_6]
  idx_vars y
  obtain rfl | rfl : y0 = 0 ∨ y0 = 1 := by
    rcases y0 with ⟨_ | _ | _, h⟩
    · exact .inl rfl
    · exact .inr rfl
    · exact absurd h (by show ¬ _ < 2; omega)
  · refine (du_val V c h0 h1 hs hw t y1 y2).trans ((planes_at0 (duV x0 x1 x2 x3) (dgateV x0 x1 x2 x3) (grp1 t) y1 y2).symm.trans ?_)
    blk_ext [idx1 t, col, grp1]
  · refine (dgate_val V c h0 h1 hs hm t y1 y2).trans ((planes_at1 (duV x0 x1 x2 x3) (dgateV x0 x1 x2 x3) (grp1 t) y1 y2).symm.trans ?_)
    blk_ext [idx1 t, col, grp1]

/-- The gradient of the scale after the region. -/
theorem dscale_final (h0 : V c main_arg0 = x0) (h1 : V c main_arg1 = x1) (hm : V c main_v2_1 = perCol (mV x1 x3)) :
    (dat1 V c).arrAt 7 cfg1.N = perCol fun g (_ : Fin 1) j => dscaleV x0 x1 x3 g j := by
  refine (dat1 V c).arrAt_eq_of_covers 7 _ (by decide +kernel) fun t _ y => ?_
  have hN := four1 t
  blk_simp
  rw [after1_7]
  idx_vars y
  obtain rfl : y0 = 0 := Subsingleton.elim _ _
  have e : (outsAt1 V c t.val t.isLt).2.2 (ix2 0 y1) = dscaleV x0 x1 x3 (grp1 t) y1 := by
    rw [dscale_eq, dscale_at, dscaleV]
    exact Finset.sum_congr rfl fun r _ => by rw [da_blk1 V c h0, mixed_blk1 V c hm, gate_blk1 V c h1, siluV]
  refine e.trans ((perCol_at (fun g (_ : Fin 1) j => dscaleV x0 x1 x3 g j) (grp1 t) 0 y1).symm.trans ?_)
  blk_ext [idx1 t, col, grp1]

/-! ## The call of the weights' gradient -/

theorem idx2 : ∀ t : Fin cfg2.N, win2_0.index t = ![0, t.val] ∧ win2_1.index t = ![0, t.val] ∧ win2_2.index t = ![t.val, 0, 0] :=
  (by decide +kernel : ∀ t : Fin grid2.N, _)

theorem four2 (t : Fin cfg2.N) : t.val < 4 := lt_of_lt_of_eq t.isLt N_2

/-- The group of a point. -/
def grp2 (t : Fin cfg2.N) : Fin 4 := ⟨t.val, four2 t⟩

theorem z_blk2 (hz : V c main_v2_0 = perCol (zV x1)) (t : Fin cfg2.N) (i : Fin 2048) (j : Fin 256) : iblk2 V c 0 t (ix2 i j) = zV x1 (grp2 t) i j := by
  rw [← perCol_at (zV x1), ← hz]
  blk_ext [iblk2, idx2 t, col, grp2]

theorem dm_blk2 (hd : V c main_v4_0 = perCol (dmV x0 x1 x2)) (t : Fin cfg2.N) (i : Fin 2048) (j : Fin 256) :
    iblk2 V c 1 t (ix2 i j) = dmV x0 x1 x2 (grp2 t) i j := by
  rw [← perCol_at (dmV x0 x1 x2), ← hd]
  blk_ext [iblk2, idx2 t, col, grp2]

theorem dw_val (hz : V c main_v2_0 = perCol (zV x1)) (hd : V c main_v4_0 = perCol (dmV x0 x1 x2)) (t : Fin cfg2.N) (a d : Fin 256) :
    out2_2 (F := Ideal) (iblk2 V c 0 t) (iblk2 V c 1 t) (ix3 0 a d) = dwV x0 x1 x2 (grp2 t) d a := by
  unfold out2_2
  frame_out
  rw [dw_at, dwV]
  exact Finset.sum_congr rfl fun r _ => by rw [z_blk2 V c hz, dm_blk2 V c hd]

/-- The weights' gradient, as an array. -/
def dwA (x0 : FVec Ideal S2048x1024 .bf16) (x1 : FVec Ideal S2048x2048 .bf16) (x2 : FVec Ideal S1024 .f32) (i : S4x256x256.Idx) : EReal :=
  dwV x0 x1 x2 (i 0) (i 2) (i 1)

theorem dwA_at (g : Fin 4) (a d : Fin 256) : dwA x0 x1 x2 (ix3 g a d) = dwV x0 x1 x2 g d a := rfl

/-- The gradient of the mixing weights after the region. -/
theorem dw_final (hz : V c main_v2_0 = perCol (zV x1)) (hd : V c main_v4_0 = perCol (dmV x0 x1 x2)) :
    (dat2 V c).arrAt 2 cfg2.N = dwA x0 x1 x2 := by
  refine (dat2 V c).arrAt_eq_of_covers 2 _ (by decide +kernel) fun t _ y => ?_
  have hN := four2 t
  blk_simp
  rw [after2_2]
  idx_vars y
  obtain rfl : y0 = 0 := Subsingleton.elim _ _
  refine (dw_val V c hz hd t y1 y2).trans ((dwA_at (x0 := x0) (x1 := x1) (x2 := x2) (grp2 t) y1 y2).symm.trans ?_)
  blk_ext [idx2 t, grp2]

end

end Cert.PoolKIdeal.Hand

end
-- ==== Proof.PoolRef.lean ====
/-
  The reference of the pooling layer, stage by stage: its results are those of the arrays.
-/
module

public import proofs.«01_k».proof.Proof.PoolSum
public import proofs.«01_k».proof.Proof.Gen.PoolRIdeal.Run
public import proofs.«01_k».proof.Proof.Gen.PoolRIdeal.Read

@[expose] public section

set_option maxRecDepth 16384

noncomputable section

namespace Cert.PoolRIdeal.Hand

open Cert.PoolRIdeal Cert.PoolRIdeal.Gen Cert.PoolRIdeal.Read Cert.Pool Cert.Finite
open Idealize.ShloMosaic Idealize.ShloMosaic.TcCoe Idealize.SL.Sem
open scoped BigOperators

/-- Half the window of group `g`, as the reference's word. -/
theorem half_word (g : Fin 4) (t s : Fin 2048) : val_main_v6 (F := Ideal) (ix3 g t s) = BitVec.ofNat 32 (2 ^ g.val) := by
  pointwise! [val_main_v6, val_main_v5, val_main_c, val_main_v4]
  fin_cases g <;> rfl

/-- The reference's test for a row of the window. -/
theorem ind_word (t s h : ℕ) (ht : t < 2048) (hs : s < 2048) (hh : h ≤ 8) :
    (FloatOps.uitofp FTy.f32 (IntOp.andi (IntOp.cmpi .sle (BitVec.ofNat 32 t) (IntOp.addi (BitVec.ofNat 32 s) (BitVec.ofNat 32 h)))
      (IntOp.cmpi .slt (BitVec.ofNat 32 s) (IntOp.addi (BitVec.ofNat 32 t) (BitVec.ofNat 32 h)))) : Ideal .f32) = ind h t s := by
  have e1 : IntOp.addi (BitVec.ofNat 32 s) (BitVec.ofNat 32 h) = BitVec.ofNat 32 (s + h) := (BitVec.ofNat_add ..).symm
  have e2 : IntOp.addi (BitVec.ofNat 32 t) (BitVec.ofNat 32 h) = BitVec.ofNat 32 (t + h) := (BitVec.ofNat_add ..).symm
  rw [e1, e2, WordCmp.cmpi_sle_ofNat (by omega) (by omega), WordCmp.cmpi_slt_ofNat (by omega) (by omega), WordCmp.andi_ofBool, ← Bool.decide_and, ind]
  by_cases h : t ≤ s + h ∧ s < t + h
  · rw [if_pos h, decide_eq_true h]
    show (((BitVec.ofBool true).toNat : ℝ) : EReal) = 1
    simp
  · rw [if_neg h, decide_eq_false h]
    show (((BitVec.ofBool false).toNat : ℝ) : EReal) = 0
    simp

theorem v14_at (g : Fin 4) (t s : Fin 2048) : val_main_v14 (F := Ideal) (ix3 g t s) = ind (2 ^ g.val) t.val s.val := by
  rw [← ind_word t.val s.val (2 ^ g.val) t.isLt s.isLt (by fin_cases g <;> decide)]
  pointwise! [val_main_v14, val_main_v13, val_main_v12, val_main_v11, val_main_v10, val_main_v9, val_main_v8, val_main_v7, half_word]

theorem col_div (g : Fin 4) (j : Fin 256) (h : (col g j).val / 256 < 4) : (⟨(col g j).val / 256, h⟩ : Fin 4) = g :=
  Fin.ext (by show (g.val * 256 + j.val) / 256 = g.val; omega)

theorem col_mod (g : Fin 4) (j : Fin 256) (h : (col g j).val % 256 < 256) : (⟨(col g j).val % 256, h⟩ : Fin 256) = j :=
  Fin.ext (by show (g.val * 256 + j.val) % 256 = j.val; omega)

section
variable (x0 : (⟨S2048x1024, .bf16⟩ : BufTy).Contents (Elt Ideal)) (x1 : (⟨S2048x2048, .bf16⟩ : BufTy).Contents (Elt Ideal))
  (x2 : (⟨S1024, .f32⟩ : BufTy).Contents (Elt Ideal)) (x3 : (⟨S4x256x256, .f32⟩ : BufTy).Contents (Elt Ideal))
  (g : Fin 4) (i : Fin 2048) (j : Fin 256)

theorem v3_at : val_main_v3 (F := Ideal) x1 (ix3 i g j) = x1 (ix2 i (ucol g j)) := by
  pointwise! [val_main_v3, val_main_v1, val_main_v0]

theorem v20_at : val_main_v20 (F := Ideal) (ix3 i g j) = ((count 2048 (2 ^ g.val) i.val : ℝ) : EReal) := by
  rw [← ind_sum]
  pointwise! [val_main_v20, val_main_v19, val_main_v18, val_main_v17, v14_at, val_main_cst]

theorem v48_at : val_main_v48 (F := Ideal) (ix3 i g j) = ((count 2048 (2 ^ g.val) i.val : ℝ) : EReal) := v20_at g i j

theorem v16_at : val_main_v16 (F := Ideal) x1 (ix3 i g j) = ∑ s : Fin 2048, x1 (ix2 s (ucol g j)) * ind (2 ^ g.val) i.val s.val := by
  pointwise! [val_main_v16, val_main_v15, v14_at, v3_at]

theorem v22_at : val_main_v22 (F := Ideal) x1 (ix3 i g j) = zV x1 g i j := by
  pointwise! [val_main_v22, val_main_v21, v16_at, v20_at, v3_at, zV, zf]

theorem v25_at : val_main_v25 (F := Ideal) x1 x3 (ix2 i (col g j)) = mV x1 x3 g i j := by
  pointwise! [val_main_v25, val_main_v24, val_main_v23, v22_at, mV]
  simp only [col_div, col_mod, mul_comm (x3 _)]

theorem v27_at : val_main_v27 (F := Ideal) x2 (ix2 i (col g j)) = x2 (ix1 (col g j)) := by
  pointwise! [val_main_v27, val_main_v26]

theorem v38_at : val_main_v38 (F := Ideal) x2 (ix2 i (col g j)) = x2 (ix1 (col g j)) := by
  pointwise! [val_main_v38, val_main_v26]

theorem v2_at : val_main_v2 (F := Ideal) x1 (ix2 i (col g j)) = x1 (ix2 i (gcol g j)) := by
  pointwise! [val_main_v2, val_main_v0]

theorem v29_2_at : val_main_v29_2 (F := Ideal) x1 (ix2 i (col g j)) = logi (x1 (ix2 i (gcol g j))) := by
  rw [logi]
  pointwise! [val_main_v29_2, val_main_call0_v4, val_main_call0_v3, val_main_call0_v2, val_main_call0_v1, val_main_call0_v0, v2_at,
    val_main_call0_cst, val_main_call0_cst_0]

theorem v29_0_at : val_main_v29_0 (F := Ideal) x1 (ix2 i (col g j)) = siluV x1 g i j := by
  pointwise! [val_main_v29_0, v29_2_at, v2_at, siluV]

theorem v29_1_at : val_main_v29_1 (F := Ideal) x1 (ix2 i (col g j))
    = logi (x1 (ix2 i (gcol g j))) * (1 - logi (x1 (ix2 i (gcol g j)))) := by
  pointwise! [val_main_v29_1, val_main_call0_v7, val_main_call0_v6, v29_2_at, val_main_call0_cst_1]

/-- The layer's output. -/
theorem v55_at : val_main_v55 (F := Ideal) x1 x2 x3 (ix2 i (col g j)) = aV x1 x2 x3 g i j := by
  pointwise! [val_main_v55, val_main_v30, val_main_v28, v25_at, v27_at, v29_0_at, aV]

theorem v39_at : val_main_v39 (F := Ideal) x0 x1 x2 (ix2 i (col g j)) = dmV x0 x1 x2 g i j := by
  rw [dmV, mul_assoc, mul_comm (x2 (ix1 (col g j))), ← mul_assoc]
  pointwise! [val_main_v39, val_main_v33, val_main_v31, v29_0_at, v38_at]

theorem v42_at : val_main_v42 (F := Ideal) x0 x1 x2 (ix3 g j i) = dmV x0 x1 x2 g i j := by
  rw [← v39_at]
  pointwise! [val_main_v42, val_main_v41]

theorem v44_at : val_main_v44 (F := Ideal) x0 x1 x2 x3 (ix3 i g j) = dzV x0 x1 x2 x3 g i j := by
  pointwise! [val_main_v44, val_main_v43, v42_at, dzV]

theorem v54_at : val_main_v54 (F := Ideal) x0 x1 x2 x3 (ix2 i (col g j)) = duV x0 x1 x2 x3 g i j := by
  have e : val_main_v53 (F := Ideal) x0 x1 x2 x3 (ix3 i g j) = duV x0 x1 x2 x3 g i j := by
    rw [duV, dzf, sub_eq_add_neg, add_comm]
    pointwise! [val_main_v53, val_main_v52, val_main_v51, val_main_v50, val_main_v49, v48_at, val_main_v47, v44_at, v20_at, v14_at]
  rw [← e]
  pointwise! [val_main_v54]
  simp only [col_div, col_mod]

/-- The gradient of `u`. -/
theorem v59_at0 : val_main_v59 (F := Ideal) x0 x1 x2 x3 (ix3 0 i (col g j)) = duV x0 x1 x2 x3 g i j := by
  rw [← v54_at]
  pointwise! [val_main_v59, val_main_v58, val_main_v57, val_main_v56]

/-- The gradient of the gate, for real arguments. -/
theorem v59_at1 (hx : IsReal (x0 (ix2 i (col g j)))) (hm : IsReal (mV x1 x3 g i j)) (hc : IsReal (x2 (ix1 (col g j))))
    (hg : IsReal (x1 (ix2 i (gcol g j)))) : val_main_v59 (F := Ideal) x0 x1 x2 x3 (ix3 1 i (col g j)) = dgateV x0 x1 x2 x3 g i j := by
  rw [dgateV, gate_eq hx hm hc hg (logi_real hg)]
  pointwise! [val_main_v59, val_main_v58, val_main_v57, val_main_v56, val_main_v34, val_main_call1_v1, val_main_call1_v2, val_main_call1_v0, val_main_v32,
    val_main_v31, val_main_v28, v25_at, v27_at, v2_at, v29_1_at, v29_2_at]

/-- The gradient of the scale. -/
theorem v60_at : val_main_v60 (F := Ideal) x0 x1 x3 (ix2 0 (col g j)) = dscaleV x0 x1 x3 g j := by
  pointwise! [val_main_v60, val_main_v40, val_main_v37, val_main_v36, val_main_v35, val_main_v33, val_main_v31, v25_at, v29_0_at, val_main_cst_0,
    val_main_cst_1, dscaleV]
  simp only [Finset.univ_unique, Finset.sum_singleton]
  exact Finset.sum_congr rfl fun r _ => by rw [mul_left_comm, ← mul_assoc]

/-- The gradient of the mixing weights. -/
theorem v61_at (k : Fin 256) : val_main_v61 (F := Ideal) x0 x1 x2 (ix3 g k j) = dwV x0 x1 x2 g j k := by
  pointwise! [val_main_v61, val_main_v46, val_main_v45, v42_at, v22_at, dwV]

end

end Cert.PoolRIdeal.Hand

end
-- ==== Proof.PoolRun.lean ====
/-
  The pooling layer's calls one after another: what the forward call leaves is what the backward calls read.
-/
module

public import proofs.«01_k».proof.Proof.PoolFwd
public import proofs.«01_k».proof.Proof.PoolBwd
public import proofs.«01_k».proof.Proof.PoolRef
public import proofs.«01_k».proof.Proof.Gen.PoolKIdeal.Frame

@[expose] public section

set_option maxRecDepth 16384

noncomputable section

namespace Cert.PoolKIdeal.Hand

open Cert.PoolKIdeal Cert.PoolKIdeal.Gen Cert.Pool Cert.Finite
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What one of the four arrays holds at the end. -/
abbrev endOf (c : Dev nD) (b : Ref sig .tc) := W5 m ρ c (Proc.devRef .tc b)

set_option backward.isDefEq.respectTransparency.types false in
/-- The program's run, with what its results hold at the end. -/
theorem run_all : θ_run defs (onTc (τ := τ) (main (F := Ideal))) ⟨m, fun _ => 0, ρ⟩ (fun r => ∀ c : Dev nD,
      (r.2.mem ((c.tc : Thread nD τ).loc main_v2_2) = endOf m ρ c main_v2_2
        ∧ r.2.mem ((c.tc : Thread nD τ).loc main_v4_1) = endOf m ρ c main_v4_1
        ∧ r.2.mem ((c.tc : Thread nD τ).loc main_v4_2) = endOf m ρ c main_v4_2
        ∧ r.2.mem ((c.tc : Thread nD τ).loc main_v5) = endOf m ρ c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨⟨h c _ (mem_uc main_v2_2 (by decide)), h c _ (mem_uc main_v4_1 (by decide)), h c _ (mem_uc main_v4_2 (by decide)), h c _ (mem_uc main_v5 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

section
variable (c : Dev nD)

/-- The arguments. -/
abbrev X0 : FVec Ideal S2048x1024 .bf16 := m ((c : Thread nD τ).loc main_arg0)
abbrev X1 : FVec Ideal S2048x2048 .bf16 := m ((c : Thread nD τ).loc main_arg1)
abbrev X2 : FVec Ideal S1024 .f32 := m ((c : Thread nD τ).loc main_arg2)
abbrev X3 : FVec Ideal S4x256x256 .f32 := m ((c : Thread nD τ).loc main_arg3)

/-- A vector spread over one row. -/
theorem row_at (x : FVec Ideal S1024 .f32) (l : Fin 1024) :
    (broadcastInDim S1x1024 ![1] bcast_S1024_S1x1024_1 x : (⟨S1x1024, .f32⟩ : BufTy).Contents (Elt Ideal)) (ix2 0 l) = x (ix1 l) := by
  pointwise []

/-! ### What the forward call reads -/

theorem v1_x1 : V1 m ρ c main_arg1 = X1 m c := W1_args m ρ c _ (by decide)

theorem v1_w (i : S4x256x256.Idx) : V1 m ρ c main_v0 i = X3 m c i := by
  show StableHlo.after hostOps0 (W0 m ρ c) (Proc.devRef .tc main_v0) i = _
  rfl

theorem v1_scale (l : Fin 1024) : V1 m ρ c main_v1 (ix2 0 l) = X2 m c (ix1 l) := by
  show (broadcastInDim S1x1024 ![1] bcast_S1024_S1x1024_1 (X2 m c) : (⟨S1x1024, .f32⟩ : BufTy).Contents (Elt Ideal)) (ix2 0 l) = _
  exact row_at _ l

/-! ### What the backward call reads -/

theorem v3_x0 : V3 m ρ c main_arg0 = X0 m c := W3_args m ρ c _ (by decide)
theorem v3_x1 : V3 m ρ c main_arg1 = X1 m c := W3_args m ρ c _ (by decide)

theorem v3_w (i : S4x256x256.Idx) : V3 m ρ c main_v0 i = X3 m c i := by
  show W3 m ρ c (Proc.devRef .tc main_v0) i = _
  rw [W3_of m ρ c main_v0 (by decide), W2_of m ρ c main_v0 (by decide +kernel)]
  exact v1_w m ρ c i

theorem v3_scale (l : Fin 1024) : V3 m ρ c main_v3 (ix2 0 l) = X2 m c (ix1 l) := by
  rw [X2, ← W2_args m ρ c main_arg2 (by decide)]
  show (broadcastInDim S1x1024 ![1] bcast_S1024_S1x1024_1 (W2 m ρ c (Proc.devRef .tc main_arg2)) : (⟨S1x1024, .f32⟩ : BufTy).Contents (Elt Ideal)) (ix2 0 l) = _
  exact row_at _ l

theorem v3_mixed : V3 m ρ c main_v2_1 = perCol (mV (X1 m c) (X3 m c)) :=
  (W3_of m ρ c main_v2_1 (by decide)).trans ((W2_arr m ρ c 5).trans (mixed_final (V1 m ρ) c (v1_x1 m ρ c) (v1_w m ρ c)))

theorem v3_z : W3 m ρ c (Proc.devRef .tc main_v2_0) = perCol (zV (X1 m c)) :=
  (W3_of m ρ c main_v2_0 (by decide)).trans ((W2_arr m ρ c 4).trans (z_final (V1 m ρ) c (v1_x1 m ρ c)))

/-! ### What the last call reads -/

theorem v4_z : V4 m ρ c main_v2_0 = perCol (zV (X1 m c)) :=
  (W4_of m ρ c main_v2_0 (by decide +kernel)).trans (v3_z m ρ c)

theorem v4_dm : V4 m ρ c main_v4_0 = perCol (dmV (X0 m c) (X1 m c) (X2 m c)) :=
  (W4_arr m ρ c 5).trans (dm_final (V3 m ρ) c (v3_x0 m ρ c) (v3_x1 m ρ c) (v3_scale m ρ c))

/-! ### The results -/

theorem end_a : endOf m ρ c main_v2_2 = perCol (aV (X1 m c) (X2 m c) (X3 m c)) :=
  (W5_of m ρ c main_v2_2 (by decide +kernel)).trans ((W4_of m ρ c main_v2_2 (by decide +kernel)).trans
    ((W3_of m ρ c main_v2_2 (by decide)).trans ((W2_arr m ρ c 6).trans (act_final (V1 m ρ) c (v1_x1 m ρ c) (v1_w m ρ c) (v1_scale m ρ c)))))

theorem end_duv : endOf m ρ c main_v4_1
    = planes (duV (X0 m c) (X1 m c) (X2 m c) (X3 m c)) (dgateV (X0 m c) (X1 m c) (X2 m c) (X3 m c)) :=
  (W5_of m ρ c main_v4_1 (by decide +kernel)).trans ((W4_arr m ρ c 6).trans
    (duv_final (V3 m ρ) c (v3_x0 m ρ c) (v3_x1 m ρ c) (v3_scale m ρ c) (v3_w m ρ c) (v3_mixed m ρ c)))

theorem end_dscale : endOf m ρ c main_v4_2 = perCol fun g (_ : Fin 1) j => dscaleV (X0 m c) (X1 m c) (X3 m c) g j :=
  (W5_of m ρ c main_v4_2 (by decide +kernel)).trans ((W4_arr m ρ c 7).trans
    (dscale_final (V3 m ρ) c (v3_x0 m ρ c) (v3_x1 m ρ c) (v3_mixed m ρ c)))

theorem end_dw : endOf m ρ c main_v5 = dwA (X0 m c) (X1 m c) (X2 m c) :=
  (W5_arr m ρ c 2).trans (dw_final (V4 m ρ) c (v4_z m ρ c) (v4_dm m ρ c))

/-- Arguments that are real numbers. -/
def Reals : Prop := (∀ i, IsReal (X0 m c i)) ∧ (∀ i, IsReal (X1 m c i)) ∧ (∀ i, IsReal (X2 m c i)) ∧ ∀ i, IsReal (X3 m c i)

end

/-- Every array of a real argument's layer is real at the gate. -/
theorem mV_real {x1 : FVec Ideal S2048x2048 .bf16} {x3 : FVec Ideal S4x256x256 .f32} (h1 : ∀ i, IsReal (x1 i)) (h3 : ∀ i, IsReal (x3 i))
    (g : Fin 4) (i : Fin 2048) (j : Fin 256) : IsReal (mV x1 x3 g i j) := by
  rw [mV]
  exact IsReal.sum _ fun k => (zf_real (fun s => h1 _) (by positivity) i).mul (h3 _)

open Cert.PoolRIdeal.Read in
/-- The run's results are the derivative's. -/
theorem run (hr : ∀ c, Reals m c) : θ_run defs (onTc (τ := τ) (main (F := Ideal))) ⟨m, fun _ => 0, ρ⟩ (fun r => ∀ c : Dev nD,
      r.2.mem ((c.tc : Thread nD τ).loc main_v2_2) = val_main_v55 (F := Ideal) (X1 m c) (X2 m c) (X3 m c)
      ∧ r.2.mem ((c.tc : Thread nD τ).loc main_v4_1) = val_main_v59 (F := Ideal) (X0 m c) (X1 m c) (X2 m c) (X3 m c)
      ∧ r.2.mem ((c.tc : Thread nD τ).loc main_v4_2) = val_main_v60 (F := Ideal) (X0 m c) (X1 m c) (X3 m c)
      ∧ r.2.mem ((c.tc : Thread nD τ).loc main_v5) = val_main_v61 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (run_all m ρ)
  obtain ⟨⟨ha, hd, hc, hw⟩, hargs⟩ := h c
  obtain ⟨r0, r1, r2, r3⟩ := hr c
  refine ⟨(ha.trans (end_a m ρ c)).trans ?_, (hd.trans (end_duv m ρ c)).trans ?_, (hc.trans (end_dscale m ρ c)).trans ?_,
    (hw.trans (end_dw m ρ c)).trans ?_, hargs⟩
  · funext y
    idx_vars y
    obtain ⟨g, j, rfl⟩ := exists_col y1
    exact (perCol_at _ g y0 j).trans (Cert.PoolRIdeal.Hand.v55_at _ _ _ g y0 j).symm
  · funext y
    idx_vars y
    obtain ⟨g, j, rfl⟩ := exists_col y2
    obtain rfl | rfl : y0 = 0 ∨ y0 = 1 := by
      rcases y0 with ⟨_ | _ | _, h⟩
      · exact .inl rfl
      · exact .inr rfl
      · exact absurd h (by show ¬ _ < 2; omega)
    · exact (planes_at0 _ _ g y1 j).trans (Cert.PoolRIdeal.Hand.v59_at0 _ _ _ _ g y1 j).symm
    · exact (planes_at1 _ _ g y1 j).trans (Cert.PoolRIdeal.Hand.v59_at1 _ _ _ _ g y1 j (r0 _) (mV_real r1 r3 g y1 j) (r2 _) (r1 _)).symm
  · funext y
    idx_vars y
    obtain rfl : y0 = 0 := Subsingleton.elim _ _
    obtain ⟨g, j, rfl⟩ := exists_col y1
    exact (perCol_at _ g (0 : Fin 1) j).trans (Cert.PoolRIdeal.Hand.v60_at _ _ _ g j).symm
  · funext y
    idx_vars y
    exact (Cert.PoolRIdeal.Hand.v61_at _ _ _ y0 y2 y1).symm

end Cert.PoolKIdeal.Hand

end
-- ==== Proof.PoolClaim.lean ====
/-
  The pooling layer: the forward call's rows and the backward calls' gradients are the reference's.
-/
module

public import proofs.«01_k».proof.Defs
public import proofs.«01_k».proof.Proof.PoolRun
public import proofs.«01_k».proof.Proof.Gen.PoolRIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.PoolRIdeal.Read

/-- The shape relations the precondition's operations take. -/
theorem pool_pre_facts : Cert.Pre_pool_finite.Facts := by
  constructor <;> decide

/-- The precondition makes every argument's entries real numbers. -/
theorem pool_reals [Cert.Pre_pool_finite.Facts] (m : (ℓ : Loc Cert.PoolKIdeal.nD Cert.PoolKIdeal.τ Cert.PoolKIdeal.sig) → Buf (Elt Ideal) ℓ)
    (h : Cert.Pre_PoolKIdeal_pool_finite m) (c : Dev Cert.PoolKIdeal.nD) : Cert.PoolKIdeal.Hand.Reals m c := by
  have e := congrFun (h c) (fun a => a.elim0)
  obtain ⟨e, h3⟩ := Cert.Finite.and_split e
  obtain ⟨e, h2⟩ := Cert.Finite.and_split e
  obtain ⟨h0, h1⟩ := Cert.Finite.and_split e
  exact ⟨Cert.Finite.of_all _ _ _ _ _ _ h0, Cert.Finite.of_all _ _ _ _ _ _ h1, Cert.Finite.of_all _ _ _ _ _ _ h2, Cert.Finite.of_all _ _ _ _ _ _ h3⟩

/-- The reference runs and leaves its arguments. -/
theorem pool_reference_frame : Cert.quiescent_PoolRIdeal := by
  intro m g _
  exact (θ_run _ _ _).mono (fun r h => ⟨fun c => (h c).2.2.2.2, sem_eq_zero_of_no_sems rfl _⟩)
    (Cert.PoolRIdeal.Value.run m g)

/-- The layer's output and its four gradients are the reference's. -/
theorem pool_value [Cert.Pre_pool_finite.Facts] : Cert.algebraic_PoolKIdeal_PoolRIdeal_pre_pool_finite := by
  pair_intro
  · run_from Cert.PoolKIdeal.Hand.run m g (fun c => pool_reals m ‹_› c)
  · refine (θ_run _ _ _).mono (fun r h c => ?_) (Cert.PoolRIdeal.Value.run m' g')
    obtain ⟨e0, e1, e2, e3⟩ := hagree c
    obtain ⟨h0, h1, h2, h3, ha⟩ := h c
    refine ⟨h0.trans ?_, h1.trans ?_, h2.trans ?_, h3.trans ?_, ha⟩
    · rw [e1, e2, e3]; rfl
    · unfold Cert.PoolRIdeal.Value.res_main_v59
      rw [e0, e1, e2, e3]; rfl
    · rw [e0, e1, e3]; rfl
    · rw [e0, e1, e2]; rfl

end Cert.Proof

end
-- ==== Proof.PoolP0Sum.lean ====
/-
  The pooling layer on two segments of rows, 2048 and 256, that share an array: each row's window stays within its segment.
-/
module

public import proofs.«01_k».proof.Proof.PoolSum

@[expose] public section

set_option maxRecDepth 16384

noncomputable section

namespace Cert.PoolP0

open Idealize.ShloMosaic Cert.Finite Cert.Pool
open scoped BigOperators

/-- A row of the first segment. -/
def lo (i : Fin 2048) : Fin 2304 := ⟨i.val, by omega⟩

/-- A row of the second segment. -/
def hi (i : Fin 256) : Fin 2304 := ⟨2048 + i.val, by omega⟩

theorem row_cases (i : Fin 2304) : (∃ r, i = lo r) ∨ ∃ r, i = hi r := by
  by_cases h : i.val < 2048
  · exact .inl ⟨⟨i.val, h⟩, rfl⟩
  · exact .inr ⟨⟨i.val - 2048, by omega⟩, Fin.ext (by show i.val = 2048 + (i.val - 2048); omega)⟩

/-- One function on the first segment, another on the second. -/
def both (f : Fin 2048 → EReal) (h : Fin 256 → EReal) (i : Fin 2304) : EReal :=
  if q : i.val < 2048 then f ⟨i.val, q⟩ else h ⟨i.val - 2048, by omega⟩

theorem both_lo (f : Fin 2048 → EReal) (h : Fin 256 → EReal) (i : Fin 2048) : both f h (lo i) = f i := dif_pos i.isLt

theorem both_hi (f : Fin 2048 → EReal) (h : Fin 256 → EReal) (i : Fin 256) : both f h (hi i) = h i := by
  rw [both, dif_neg (by show ¬ 2048 + i.val < 2048; omega)]
  exact congrArg h (Fin.ext (by show 2048 + i.val - 2048 = i.val; omega))

/-- A sum over all rows is the segments' sums. -/
theorem sum_rows (f : Fin 2304 → EReal) : ∑ i, f i = (∑ i, f (lo i)) + ∑ i, f (hi i) :=
  Fin.sum_univ_add (a := 2048) (b := 256) f

/-- The centred mean's difference from its two reads of a segment. -/
theorem zf_of {len half : ℕ} {D E : Fin len → EReal} {x : EReal} (t : Fin len) (hD : ∀ s, D s = E s) (hx : x = E t) :
    Ideal.div (∑ s, D s * ind half t.val s.val) ((count len half t.val : ℝ) : EReal) - x = zf half E t := by
  obtain rfl : D = E := funext hD
  rw [hx]
  rfl

/-! ## Tiles stored by segments -/

/-- The first segment's rows, among all the rows. -/
theorem emb_lo (h : ∀ a, (![0, 0] : Fin 2 → ℕ) a + (![2048, 256] : Fin 2 → ℕ) a ≤ (Rows 2304).size a) (i : Fin 2048) (j : Fin 256) :
    (Rect.unit (s := Rows 2304) ![0, 0] ![2048, 256] h).emb (ix2 i j) = ix2 (lo i) j := by
  funext a; apply Fin.ext; match a with
  | ⟨0, _⟩ => show 0 + 1 * i.val = i.val; omega
  | ⟨1, _⟩ => show 0 + 1 * j.val = j.val; omega

/-- The second segment's rows, among all the rows. -/
theorem emb_hi (h : ∀ a, (![2048, 0] : Fin 2 → ℕ) a + (![256, 256] : Fin 2 → ℕ) a ≤ (Rows 2304).size a) (i : Fin 256) (j : Fin 256) :
    (Rect.unit (s := Rows 2304) ![2048, 0] ![256, 256] h).emb (ix2 i j) = ix2 (hi i) j := by
  funext a; apply Fin.ext; match a with
  | ⟨0, _⟩ => show 2048 + 1 * i.val = 2048 + i.val; omega
  | ⟨1, _⟩ => show 0 + 1 * j.val = j.val; omega

/-- All the rows, among all the rows. -/
theorem emb_all (h : ∀ a, (![0, 0] : Fin 2 → ℕ) a + (![2304, 256] : Fin 2 → ℕ) a ≤ (Rows 2304).size a) (i : Fin 2304) (j : Fin 256) :
    (Rect.unit (s := Rows 2304) ![0, 0] ![2304, 256] h).emb (ix2 i j) = ix2 i j := by
  funext a; apply Fin.ext; match a with
  | ⟨0, _⟩ => show 0 + 1 * i.val = i.val; omega
  | ⟨1, _⟩ => show 0 + 1 * j.val = j.val; omega

section
variable (a : (Rows 256).Idx → EReal) (b : (Rows 2048).Idx → EReal)
  (ha : ∀ q, (![2048, 0] : Fin 2 → ℕ) q + (![256, 256] : Fin 2 → ℕ) q ≤ (Rows 2304).size q)
  (hb : ∀ q, (![0, 0] : Fin 2 → ℕ) q + (![2048, 256] : Fin 2 → ℕ) q ≤ (Rows 2304).size q)
  (hc : ∀ q, (![0, 0] : Fin 2 → ℕ) q + (![2304, 256] : Fin 2 → ℕ) q ≤ (Rows 2304).size q)

/-- A tile of two pieces, read in the first segment. -/
theorem tile_lo (i : Fin 2048) (j : Fin 256) :
    View.canon (Val := Elt Ideal) (e := .bf16) [⟨Rect.unit (s := Rows 2304) ![2048, 0] ![256, 256] ha, a⟩,
      ⟨Rect.unit (s := Rows 2304) ![0, 0] ![2048, 256] hb, b⟩] (ix2 (lo i) j) = b (ix2 i j) := by
  rw [View.canon_cons_of_not_mem _ _ (by
      rw [Rect.mem_set_unit]; intro h; exact absurd (show 2048 ≤ i.val from (h 0).1) (by have := i.isLt; omega)), ← emb_lo hb, View.canon_cons_emb]

/-- A tile of two pieces, read in the second segment. -/
theorem tile_hi (i : Fin 256) (j : Fin 256) :
    View.canon (Val := Elt Ideal) (e := .bf16) [⟨Rect.unit (s := Rows 2304) ![2048, 0] ![256, 256] ha, a⟩,
      ⟨Rect.unit (s := Rows 2304) ![0, 0] ![2048, 256] hb, b⟩] (ix2 (hi i) j) = a (ix2 i j) := by
  rw [← emb_hi ha, View.canon_cons_emb]

/-- A tile read whole is what its pieces leave. -/
theorem read_all {sig : RefSig} {κ : Kind} {sp : Space} (v : View sig κ sp (Rows 2304) .bf16) (P : List (View.Piece (Elt Ideal) (Rows 2304) .bf16)) :
    v.readCov (Val := Elt Ideal) P (Rect.unit (s := Rows 2304) ![0, 0] ![2304, 256] hc).toLoadRect = View.canon P := by
  rw [View.readCov_eq_canon']
  funext y
  idx_vars y
  exact congrArg (View.canon P) (emb_all hc y0 y1)

/-- A tile stored whole, its first segment read back. -/
theorem back_lo {sig : RefSig} {κ : Kind} {sp : Space} (v : View sig κ sp (Rows 2304) .f32) (x : (Rows 2304).Idx → EReal) (i : Fin 2048) (j : Fin 256) :
    v.readCov (Val := Elt Ideal) [⟨Rect.unit (s := Rows 2304) ![0, 0] ![2304, 256] hc, x⟩]
      (Rect.unit (s := Rows 2304) ![0, 0] ![2048, 256] hb).toLoadRect (ix2 i j) = x (ix2 (lo i) j) := by
  rw [View.readCov_eq_canon']
  refine (congrArg (View.canon _) ((emb_lo hb i j).trans (emb_all hc (lo i) j).symm)).trans ?_
  rw [View.canon_cons_emb]

/-- A tile stored whole, its second segment read back. -/
theorem back_hi {sig : RefSig} {κ : Kind} {sp : Space} (v : View sig κ sp (Rows 2304) .f32) (x : (Rows 2304).Idx → EReal) (i : Fin 256) (j : Fin 256) :
    v.readCov (Val := Elt Ideal) [⟨Rect.unit (s := Rows 2304) ![0, 0] ![2304, 256] hc, x⟩]
      (Rect.unit (s := Rows 2304) ![2048, 0] ![256, 256] ha).toLoadRect (ix2 i j) = x (ix2 (hi i) j) := by
  rw [View.readCov_eq_canon']
  refine (congrArg (View.canon _) ((emb_hi ha i j).trans (emb_all hc (hi i) j).symm)).trans ?_
  rw [View.canon_cons_emb]

/-- A block's first segment. -/
theorem ld_lo (x : (Rows 2304).Idx → EReal) (i : Fin 2048) (j : Fin 256) :
    View.ld (Val := Elt Ideal) (e' := .bf16) x (Rect.unit (s := Rows 2304) ![0, 0] ![2048, 256] hb) (ix2 i j) = x (ix2 (lo i) j) :=
  congrArg x (emb_lo hb i j)

/-- A block's second segment. -/
theorem ld_hi (x : (Rows 2304).Idx → EReal) (i : Fin 256) (j : Fin 256) :
    View.ld (Val := Elt Ideal) (e' := .bf16) x (Rect.unit (s := Rows 2304) ![2048, 0] ![256, 256] ha) (ix2 i j) = x (ix2 (hi i) j) :=
  congrArg x (emb_hi ha i j)

end

section
variable (a : (⟨3, ![1, 256, 256]⟩ : Shape).Idx → EReal) (b : (⟨3, ![1, 2048, 256]⟩ : Shape).Idx → EReal) (d : (⟨3, ![1, 2304, 256]⟩ : Shape).Idx → EReal)
  (ha : ∀ q, (![0, 2048, 0] : Fin 3 → ℕ) q + (![1, 256, 256] : Fin 3 → ℕ) q ≤ (⟨3, ![2, 2304, 256]⟩ : Shape).size q)
  (hb : ∀ q, (![0, 0, 0] : Fin 3 → ℕ) q + (![1, 2048, 256] : Fin 3 → ℕ) q ≤ (⟨3, ![2, 2304, 256]⟩ : Shape).size q)
  (hd : ∀ q, (![1, 0, 0] : Fin 3 → ℕ) q + (![1, 2304, 256] : Fin 3 → ℕ) q ≤ (⟨3, ![2, 2304, 256]⟩ : Shape).size q)

/-- The two planes as stored: the first by segments, the second whole. -/
abbrev stored : List (View.Piece (Elt Ideal) (⟨3, ![2, 2304, 256]⟩ : Shape) .bf16) :=
  [⟨Rect.unit (s := ⟨3, ![2, 2304, 256]⟩) ![0, 2048, 0] ![1, 256, 256] ha, a⟩, ⟨Rect.unit (s := ⟨3, ![2, 2304, 256]⟩) ![0, 0, 0] ![1, 2048, 256] hb, b⟩,
    ⟨Rect.unit (s := ⟨3, ![2, 2304, 256]⟩) ![1, 0, 0] ![1, 2304, 256] hd, d⟩]

theorem stored_hi (i : Fin 256) (j : Fin 256) : View.canon (stored a b d ha hb hd) (ix3 0 (hi i) j) = a (ix3 0 i j) := by
  have e : (ix3 0 (hi i) j : (⟨3, ![2, 2304, 256]⟩ : Shape).Idx) = (Rect.unit (s := ⟨3, ![2, 2304, 256]⟩) ![0, 2048, 0] ![1, 256, 256] ha).emb (ix3 (0 : Fin 1) i j) := by
    funext q; apply Fin.ext; match q with
    | ⟨0, _⟩ => rfl
    | ⟨1, _⟩ => show 2048 + i.val = 2048 + 1 * i.val; omega
    | ⟨2, _⟩ => show j.val = 0 + 1 * j.val; omega
  rw [e, View.canon_cons_emb]

theorem stored_lo (i : Fin 2048) (j : Fin 256) : View.canon (stored a b d ha hb hd) (ix3 0 (lo i) j) = b (ix3 0 i j) := by
  have e : (ix3 0 (lo i) j : (⟨3, ![2, 2304, 256]⟩ : Shape).Idx) = (Rect.unit (s := ⟨3, ![2, 2304, 256]⟩) ![0, 0, 0] ![1, 2048, 256] hb).emb (ix3 (0 : Fin 1) i j) := by
    funext q; apply Fin.ext; match q with
    | ⟨0, _⟩ => rfl
    | ⟨1, _⟩ => show i.val = 0 + 1 * i.val; omega
    | ⟨2, _⟩ => show j.val = 0 + 1 * j.val; omega
  rw [View.canon_cons_of_not_mem _ _ (by
      rw [Rect.mem_set_unit]; intro h; exact absurd (show 2048 ≤ i.val from (h 1).1) (by have := i.isLt; omega)), e, View.canon_cons_emb]

theorem stored_gate (i : Fin 2304) (j : Fin 256) : View.canon (stored a b d ha hb hd) (ix3 1 i j) = d (ix3 0 i j) := by
  have e : (ix3 1 i j : (⟨3, ![2, 2304, 256]⟩ : Shape).Idx) = (Rect.unit (s := ⟨3, ![2, 2304, 256]⟩) ![1, 0, 0] ![1, 2304, 256] hd).emb (ix3 (0 : Fin 1) i j) := by
    funext q; apply Fin.ext; match q with
    | ⟨0, _⟩ => rfl
    | ⟨1, _⟩ => show i.val = 0 + 1 * i.val; omega
    | ⟨2, _⟩ => show j.val = 0 + 1 * j.val; omega
  rw [View.canon_cons_of_not_mem _ _ (by
      rw [Rect.mem_set_unit]; intro h; exact absurd (show (1 : ℕ) < 0 + 1 from (h 0).2) (by omega)),
    View.canon_cons_of_not_mem _ _ (by
      rw [Rect.mem_set_unit]; intro h; exact absurd (show (1 : ℕ) < 0 + 1 from (h 0).2) (by omega)), e, View.canon_cons_emb]

end

/-! ## The count of rows in a window -/

/-- The words that count a window's rows in a segment of `len`. -/
abbrev countW (len t half : ℕ) : BitVec 32 :=
  IntOp.subi (IntOp.minsi (IntOp.addi (BitVec.ofNat 32 t) (BitVec.ofNat 32 half)) (BitVec.ofNat 32 len))
    (IntOp.maxsi (IntOp.subi (BitVec.ofNat 32 t) (BitVec.ofNat 32 half)) 0#32)

theorem count_lo : ∀ g : Fin 4, ∀ t : Fin 2048, (countW 2048 t.val (2 ^ g.val)).toInt = (count 2048 (2 ^ g.val) t.val : ℤ) := by
  decide +kernel

theorem count_hi : ∀ g : Fin 4, ∀ t : Fin 256, (countW 256 t.val (2 ^ g.val)).toInt = (count 256 (2 ^ g.val) t.val : ℤ) := by
  decide +kernel

theorem word_lo (g : Fin 4) (half : ℕ) (hh : half = 2 ^ g.val) (t : Fin 2048) :
    (FloatOps.sitofp FTy.f32 (countW 2048 t.val half) : Ideal .f32) = ((count 2048 half t.val : ℝ) : EReal) := by
  subst hh
  show (((countW _ _ _).toInt : ℝ) : EReal) = _
  rw [count_lo g t]
  norm_cast

theorem word_hi (g : Fin 4) (half : ℕ) (hh : half = 2 ^ g.val) (t : Fin 256) :
    (FloatOps.sitofp FTy.f32 (countW 256 t.val half) : Ideal .f32) = ((count 256 half t.val : ℝ) : EReal) := by
  subst hh
  show (((countW _ _ _).toInt : ℝ) : EReal) = _
  rw [count_hi g t]
  norm_cast

/-! ## The results, of the arrays -/

section
variable (x0 : (⟨2, ![2304, 1024]⟩ : Shape).Idx → EReal) (x1 : (⟨2, ![2304, 2048]⟩ : Shape).Idx → EReal)
  (x2 : (⟨1, ![1024]⟩ : Shape).Idx → EReal) (x3 : (⟨3, ![4, 256, 256]⟩ : Shape).Idx → EReal)
  (g : Fin 4) (i : Fin 2304) (j : Fin 256)

/-- The centred mean's difference, within each segment. -/
def zV : EReal :=
  both (zf (2 ^ g.val) fun s => x1 (ix2 (lo s) (ucol g j))) (zf (2 ^ g.val) fun s => x1 (ix2 (hi s) (ucol g j))) i

/-- Mixed within the group. -/
def mV : EReal := ∑ k : Fin 256, zV x1 g i k * x3 (ix3 g k j)

/-- The gate times its logistic. -/
def siluV : EReal := x1 (ix2 i (gcol g j)) * logi (x1 (ix2 i (gcol g j)))

/-- The gradient of the mixed rows. -/
def dmV : EReal := x0 (ix2 i (col g j)) * x2 (ix1 (col g j)) * siluV x1 g i j

/-- The gradient of the centred mean's difference. -/
def dzV : EReal := ∑ k : Fin 256, dmV x0 x1 x2 g i k * x3 (ix3 g j k)

/-- The layer's output. -/
def aV : EReal := mV x1 x3 g i j * x2 (ix1 (col g j)) * siluV x1 g i j

/-- The gradient of `u`, within each segment. -/
def duV : EReal :=
  both (dzf (2 ^ g.val) fun s => dzV x0 x1 x2 x3 g (lo s) j) (dzf (2 ^ g.val) fun s => dzV x0 x1 x2 x3 g (hi s) j) i

/-- The gradient of the gate. -/
def dgateV : EReal :=
  x0 (ix2 i (col g j)) * mV x1 x3 g i j * x2 (ix1 (col g j))
    * (logi (x1 (ix2 i (gcol g j))) * (1 + x1 (ix2 i (gcol g j)) * (1 - logi (x1 (ix2 i (gcol g j))))))

/-- The gradient of the scale. -/
def dscaleV : EReal := ∑ r : Fin 2304, x0 (ix2 r (col g j)) * mV x1 x3 g r j * siluV x1 g r j

/-- The gradient of the mixing weights. -/
def dwV (k : Fin 256) : EReal := ∑ r : Fin 2304, zV x1 g r k * dmV x0 x1 x2 g r j

variable {x1 x3}

/-- The mixed rows of real arguments are real. -/
theorem mV_real (h1 : ∀ i, IsReal (x1 i)) (h3 : ∀ i, IsReal (x3 i)) : IsReal (mV x1 x3 g i j) := by
  refine IsReal.sum _ fun k => IsReal.mul ?_ (h3 _)
  rw [zV]
  obtain ⟨r, rfl⟩ | ⟨r, rfl⟩ := row_cases i
  · rw [both_lo]; exact zf_real (fun s => h1 _) (by positivity) r
  · rw [both_hi]; exact zf_real (fun s => h1 _) (by positivity) r

end

end Cert.PoolP0

end
-- ==== Proof.PoolP0Pay.lean ====
/-
  The payloads of the pooling kernels on two segments, index by index.
-/
module

public import proofs.«01_k».proof.Proof.PoolP0Sum
public import proofs.«01_k».proof.Proof.Gen.PoolP0KIdeal.Frame

@[expose] public section

set_option maxRecDepth 16384

noncomputable section

namespace Cert.PoolP0KIdeal.Hand

open Cert.PoolP0KIdeal Cert.PoolP0KIdeal.Gen Cert.Pool Cert.PoolP0 Cert.Finite
open Idealize.ShloMosaic Idealize.ShloMosaic.TcCoe Idealize.SL.Sem
open scoped BigOperators

/-! ## Sums over windows: the first segment's buffer -/

section
variable {j : Fin 256} {X : ℕ → EReal} {y : FVec Ideal S2096x256 .f32}

theorem two (hy : Win j X 0 1 y) : Win j X 0 2 (addf y (dynamicRotate 0 2095#32 none y rotates_S2096x256_d0)) :=
  hy.dbl 2095#32 rfl (by decide) (by decide) _

theorem four (hy : Win j X 0 2 y) : Win j X 0 4 (addf y (dynamicRotate 0 2094#32 none y rotates_S2096x256_d0)) :=
  hy.dbl 2094#32 rfl (by decide) (by decide) _

theorem eight (hy : Win j X 0 4 y) : Win j X 0 8 (addf y (dynamicRotate 0 2092#32 none y rotates_S2096x256_d0)) :=
  hy.dbl 2092#32 rfl (by decide) (by decide) _

theorem sixteen (hy : Win j X 0 8 y) : Win j X 0 16 (addf y (dynamicRotate 0 2088#32 none y rotates_S2096x256_d0)) :=
  hy.dbl 2088#32 rfl (by decide) (by decide) _

theorem fwd1 (hy : Win j X 0 1 y) : Win j X 2095 2 (k0_pay6 (F := Ideal) y) := by
  rw [k0_pay6, shapeCast_self]
  exact (two hy).rot 1#32 1 rfl (by decide) _

theorem fwd2 (hy : Win j X 0 1 y) : Win j X 2094 4 (k0_pay20 (F := Ideal) y) := by
  rw [k0_pay20, shapeCast_self]
  exact (four (two hy)).rot 2#32 2 rfl (by decide) _

theorem fwd4 (hy : Win j X 0 1 y) : Win j X 2092 8 (k0_pay33 (F := Ideal) y) := by
  rw [k0_pay33, shapeCast_self]
  exact (eight (four (two hy))).rot 4#32 4 rfl (by decide) _

theorem fwd8 (hy : Win j X 0 1 y) : Win j X 2088 16 (k0_pay46 (F := Ideal) y) := by
  rw [k0_pay46, shapeCast_self]
  exact (sixteen (eight (four (two hy)))).rot 8#32 8 rfl (by decide) _

theorem bwd1 (hy : Win j X 0 1 y) : Win j X 0 2 (k1_pay13 (F := Ideal) y) := by
  rw [k1_pay13, shapeCast_self]
  exact two hy

theorem bwd2 (hy : Win j X 0 1 y) : Win j X 2095 4 (k1_pay23 (F := Ideal) y) := by
  rw [k1_pay23, shapeCast_self]
  exact (four (two hy)).rot 1#32 1 rfl (by decide) _

theorem bwd4 (hy : Win j X 0 1 y) : Win j X 2093 8 (k1_pay33 (F := Ideal) (k1_pay32 (F := Ideal) y)) := by
  rw [k1_pay33, k1_pay32, shapeCast_self]
  exact (eight (four (two hy))).rot 3#32 3 rfl (by decide) _

theorem bwd8 (hy : Win j X 0 1 y) : Win j X 2089 16 (k1_pay42 (F := Ideal) (k1_pay41 (F := Ideal) y)) := by
  rw [k1_pay42, k1_pay41, shapeCast_self]
  exact (sixteen (eight (four (two hy)))).rot 7#32 7 rfl (by decide) _

end

/-! ## Sums over windows: the second segment's buffer -/

section
variable {j : Fin 256} {X : ℕ → EReal} {y : FVec Ideal S304x256 .f32}

theorem twoS (hy : Win j X 0 1 y) : Win j X 0 2 (addf y (dynamicRotate 0 303#32 none y rotates_S304x256_d0)) :=
  hy.dbl 303#32 rfl (by decide) (by decide) _

theorem fourS (hy : Win j X 0 2 y) : Win j X 0 4 (addf y (dynamicRotate 0 302#32 none y rotates_S304x256_d0)) :=
  hy.dbl 302#32 rfl (by decide) (by decide) _

theorem eightS (hy : Win j X 0 4 y) : Win j X 0 8 (addf y (dynamicRotate 0 300#32 none y rotates_S304x256_d0)) :=
  hy.dbl 300#32 rfl (by decide) (by decide) _

theorem sixteenS (hy : Win j X 0 8 y) : Win j X 0 16 (addf y (dynamicRotate 0 296#32 none y rotates_S304x256_d0)) :=
  hy.dbl 296#32 rfl (by decide) (by decide) _

theorem fwd1S (hy : Win j X 0 1 y) : Win j X 303 2 (k0_pay13 (F := Ideal) y) := by
  rw [k0_pay13, shapeCast_self]
  exact (twoS hy).rot 1#32 1 rfl (by decide) _

theorem fwd2S (hy : Win j X 0 1 y) : Win j X 302 4 (k0_pay27 (F := Ideal) y) := by
  rw [k0_pay27, shapeCast_self]
  exact (fourS (twoS hy)).rot 2#32 2 rfl (by decide) _

theorem fwd4S (hy : Win j X 0 1 y) : Win j X 300 8 (k0_pay41 (F := Ideal) y) := by
  rw [k0_pay41, shapeCast_self]
  exact (eightS (fourS (twoS hy))).rot 4#32 4 rfl (by decide) _

theorem fwd8S (hy : Win j X 0 1 y) : Win j X 296 16 (k0_pay57 (F := Ideal) (k0_pay53 (F := Ideal) y)) := by
  rw [k0_pay57, k0_pay53, shapeCast_self]
  exact (sixteenS (eightS (fourS (twoS hy)))).rot 8#32 8 rfl (by decide) _

theorem bwd1S (hy : Win j X 0 1 y) : Win j X 0 2 (k1_pay19 (F := Ideal) y) := by
  rw [k1_pay19, shapeCast_self]
  exact twoS hy

theorem bwd2S (hy : Win j X 0 1 y) : Win j X 303 4 (k1_pay4 (F := Ideal) (k1_pay28 (F := Ideal) y) 302#32) := by
  rw [k1_pay4, k1_pay28, shapeCast_self]
  exact (fourS (twoS hy)).rot 1#32 1 rfl (by decide) _

theorem bwd4S (hy : Win j X 0 1 y) : Win j X 301 8 (k1_pay6 (F := Ideal) y 303#32) := by
  rw [k1_pay6, shapeCast_self]
  exact (eightS (fourS (twoS hy))).rot 3#32 3 rfl (by decide) _

theorem bwd8S (hy : Win j X 0 1 y) : Win j X 297 16 (k1_pay8 (F := Ideal) y) := by
  rw [k1_pay8, shapeCast_self]
  exact (sixteenS (eightS (fourS (twoS hy)))).rot 7#32 7 rfl (by decide) _

end

/-! ## The strips of zeros and the segments -/

theorem zero16 (h : S16x256.ShapeCasts S16x256) (i : S16x256.Idx) :
    shapeCast S16x256 (broadcast S16x256 (Scalar.ofBits .f32 0x00000000#32 : Ideal .f32)) h i = 0 := by
  rw [shapeCast_self]
  exact Ideal.ofBits_zero_f32

theorem zero32 (h : S32x256.ShapeCasts S32x256) (i : S32x256.Idx) :
    shapeCast S32x256 (broadcast S32x256 (Scalar.ofBits .f32 0x00000000#32 : Ideal .f32)) h i = 0 := by
  rw [shapeCast_self]
  exact Ideal.ofBits_zero_f32

theorem seg_lo (b : FVec Ideal S2048x256 .bf16) (h : S2048x256.ShapeCasts S2048x256) :
    shapeCast S2048x256 (extf .f32 b bitsLt_bf16_f32) h = b := by
  rw [shapeCast_self]
  rfl

theorem seg_hi (b : FVec Ideal S256x256 .bf16) (h : S256x256.ShapeCasts S256x256) :
    shapeCast S256x256 (extf .f32 b bitsLt_bf16_f32) h = b := by
  rw [shapeCast_self]
  rfl

/-! ## The first segment -/

section
variable (x s : FVec Ideal S2048x256 .f32) (b : FVec Ideal S2048x256 .bf16) (i : Fin 2048) (j : Fin 256)

theorem z1_at : k0_pay8 (F := Ideal) (k0_pay2 b) (k0_pay7 s) (ix2 i j)
    = Ideal.div (s (ix2 i j)) ((count 2048 1 i.val : ℝ) : EReal) - b (ix2 i j) := by
  rw [← word_lo 0 1 rfl i]
  pointwise [k0_pay8, k0_pay2, k0_pay7]

theorem z2_at : k0_pay22 (F := Ideal) (k0_pay16 b) s k0_pay21 (ix2 i j)
    = Ideal.div (s (ix2 i j)) ((count 2048 2 i.val : ℝ) : EReal) - b (ix2 i j) := by
  rw [← word_lo 1 2 rfl i]
  pointwise [k0_pay22, k0_pay16, k0_pay21]

theorem z4_at : k0_pay36 (F := Ideal) (k0_pay29 b) s k0_pay34 k0_pay35 0#32 (ix2 i j)
    = Ideal.div (s (ix2 i j)) ((count 2048 4 i.val : ℝ) : EReal) - b (ix2 i j) := by
  rw [← word_lo 2 4 rfl i]
  pointwise [k0_pay36, k0_pay29, k0_pay34, k0_pay35]

theorem z8_at : k0_pay48 (F := Ideal) (k0_pay42 b) s (iota .tc S2048x1 32 [0] iota_S2048x1_d0_w32) k0_pay47 8#32 (ix2 i j)
    = Ideal.div (s (ix2 i j)) ((count 2048 8 i.val : ℝ) : EReal) - b (ix2 i j) := by
  rw [← word_lo 3 8 rfl i]
  pointwise [k0_pay48, k0_pay42, k0_pay47]

theorem share1_at : k1_pay11 (F := Ideal) x (ix2 i j) = Ideal.div (x (ix2 i j)) ((count 2048 1 i.val : ℝ) : EReal) := by
  rw [← word_lo 0 1 rfl i]
  pointwise [k1_pay11]

theorem share2_at : k1_pay21 (F := Ideal) x (ix2 i j) = Ideal.div (x (ix2 i j)) ((count 2048 2 i.val : ℝ) : EReal) := by
  rw [← word_lo 1 2 rfl i]
  pointwise [k1_pay21]

theorem share4_at : k1_pay30 (F := Ideal) x (ix2 i j) = Ideal.div (x (ix2 i j)) ((count 2048 4 i.val : ℝ) : EReal) := by
  rw [← word_lo 2 4 rfl i]
  pointwise [k1_pay30]

theorem share8_at : k1_pay39 (F := Ideal) x (ix2 i j) = Ideal.div (x (ix2 i j)) ((count 2048 8 i.val : ℝ) : EReal) := by
  rw [← word_lo 3 8 rfl i]
  pointwise [k1_pay39]

theorem du1_at : k1_pay15 (F := Ideal) (k1_pay14 x s) (ix3 0 i j) = s (ix2 i j) - x (ix2 i j) := by
  pointwise [k1_pay15, k1_pay14]

theorem du2_at : k1_pay24 (F := Ideal) x s (ix3 0 i j) = s (ix2 i j) - x (ix2 i j) := by
  pointwise [k1_pay24]

theorem du4_at : k1_pay34 (F := Ideal) x s (ix3 0 i j) = s (ix2 i j) - x (ix2 i j) := by
  pointwise [k1_pay34]

theorem du8_at : k1_pay43 (F := Ideal) x s (ix3 0 i j) = s (ix2 i j) - x (ix2 i j) := by
  pointwise [k1_pay43]

end

/-! ## The second segment -/

section
variable (x s : FVec Ideal S256x256 .f32) (b : FVec Ideal S256x256 .bf16) (i : Fin 256) (j : Fin 256)

theorem z1S_at : k0_pay54 (F := Ideal) (k0_pay9 b) s k0_pay14 k0_pay15 0#32 (ix2 i j)
    = Ideal.div (s (ix2 i j)) ((count 256 1 i.val : ℝ) : EReal) - b (ix2 i j) := by
  rw [← word_hi 0 1 rfl i]
  pointwise [k0_pay54, k0_pay9, k0_pay14, k0_pay15]

theorem z2S_at : k0_pay55 (F := Ideal) (k0_pay23 b) s (iota .tc S256x1 32 [0] iota_S256x1_d0_w32) k0_pay28 256#32 (ix2 i j)
    = Ideal.div (s (ix2 i j)) ((count 256 2 i.val : ℝ) : EReal) - b (ix2 i j) := by
  rw [← word_hi 1 2 rfl i]
  pointwise [k0_pay55, k0_pay23, k0_pay28]

theorem z4S_at : k0_pay56 (F := Ideal) (k0_pay37 b) s (ix2 i j)
    = Ideal.div (s (ix2 i j)) ((count 256 4 i.val : ℝ) : EReal) - b (ix2 i j) := by
  rw [← word_hi 2 4 rfl i]
  pointwise [k0_pay56, k0_pay37]

theorem z8S_at : k0_pay58 (F := Ideal) (k0_pay49 b) s (ix2 i j)
    = Ideal.div (s (ix2 i j)) ((count 256 8 i.val : ℝ) : EReal) - b (ix2 i j) := by
  rw [← word_hi 3 8 rfl i]
  pointwise [k0_pay58, k0_pay49]

theorem share1S_at : k1_pay17 (F := Ideal) x (ix2 i j) = Ideal.div (x (ix2 i j)) ((count 256 1 i.val : ℝ) : EReal) := by
  rw [← word_hi 0 1 rfl i]
  pointwise [k1_pay17]

theorem share2S_at : k1_pay26 (F := Ideal) x (ix2 i j) = Ideal.div (x (ix2 i j)) ((count 256 2 i.val : ℝ) : EReal) := by
  rw [← word_hi 1 2 rfl i]
  pointwise [k1_pay26]

theorem share4S_at : k1_pay36 (F := Ideal) x (ix2 i j) = Ideal.div (x (ix2 i j)) ((count 256 4 i.val : ℝ) : EReal) := by
  rw [← word_hi 2 4 rfl i]
  pointwise [k1_pay36]

theorem share8S_at : k1_pay45 (F := Ideal) x (ix2 i j) = Ideal.div (x (ix2 i j)) ((count 256 8 i.val : ℝ) : EReal) := by
  rw [← word_hi 3 8 rfl i]
  pointwise [k1_pay45]

theorem du1S_at : k1_pay3 (F := Ideal) x s (ix3 0 i j) = s (ix2 i j) - x (ix2 i j) := by
  pointwise [k1_pay3]

theorem du2S_at : k1_pay5 (F := Ideal) x s (ix3 0 i j) = s (ix2 i j) - x (ix2 i j) := by
  pointwise [k1_pay5]

theorem du4S_at : k1_pay7 (F := Ideal) x s (ix3 0 i j) = s (ix2 i j) - x (ix2 i j) := by
  pointwise [k1_pay7]

theorem du8S_at : k1_pay9 (F := Ideal) x s (ix3 0 i j) = s (ix2 i j) - x (ix2 i j) := by
  pointwise [k1_pay9]

end

/-! ## The products, on all the rows -/

section
variable (b g da m : FVec Ideal S2304x256 .bf16) (w : FVec Ideal S1x256x256 .bf16) (sc : FVec Ideal S1x256 .f32) (i : Fin 2304) (j : Fin 256)

theorem mix_at : k0_pay60 (F := Ideal) b w (ix2 i j) = ∑ k : Fin 256, b (ix2 i k) * w (ix3 0 k j) := by
  pointwise [k0_pay60, k0_pay59]

theorem mix59_at : k0_pay59 (F := Ideal) b w (ix2 i j) = ∑ k : Fin 256, b (ix2 i k) * w (ix3 0 k j) := by
  pointwise [k0_pay59]

theorem act_at : k0_pay1 (F := Ideal) (k0_pay61 b w sc) (k0_pay62 g) (k0_pay63 g) k0_pay64 (ix2 i j)
    = (∑ k : Fin 256, b (ix2 i k) * w (ix3 0 k j)) * sc (ix2 0 j) * (g (ix2 i j) * logi (g (ix2 i j))) := by
  rw [← mix59_at, logi, ← zero_sub]
  pointwise [k0_pay1, k0_pay61, k0_pay62, k0_pay63, k0_pay64]

theorem dm_at : k1_pay52 (F := Ideal) da g sc (ix2 i j) = da (ix2 i j) * sc (ix2 0 j) * (g (ix2 i j) * logi (g (ix2 i j))) := by
  rw [logi, ← zero_sub]
  pointwise [k1_pay52, k1_pay51, k1_pay50, k1_pay49, k1_pay47]

theorem dz_at : k1_pay53 (F := Ideal) da g sc w (ix2 i j) = ∑ k : Fin 256, k1_pay52 (F := Ideal) da g sc (ix2 i k) * w (ix3 0 j k) := by
  pointwise [k1_pay53]

theorem dgate_at : k1_pay1 (F := Ideal) (k1_pay49 g) (k1_pay54 da m sc) (k1_pay55 g) (ix3 0 i j)
    = da (ix2 i j) * m (ix2 i j) * sc (ix2 0 j) * (logi (g (ix2 i j)) * (1 + g (ix2 i j) * (1 - logi (g (ix2 i j))))) := by
  rw [logi, ← zero_sub]
  pointwise [k1_pay1, k1_pay49, k1_pay54, k1_pay55, k1_pay47, k1_pay48, k1_pay51]

theorem dscale_at : k1_pay2 (F := Ideal) (k1_pay47 da) (k1_pay48 m) (k1_pay50 g) (ix2 0 j)
    = ∑ k : Fin 2304, da (ix2 k j) * m (ix2 k j) * (g (ix2 k j) * logi (g (ix2 k j))) := by
  simp only [logi, ← zero_sub (g _)]
  pointwise [k1_pay2, k1_pay47, k1_pay48, k1_pay50, k1_pay49]

theorem dw_at (a d : Fin 256) : k2_pay1 (F := Ideal) b m (ix3 0 a d) = ∑ k : Fin 2304, b (ix2 k a) * m (ix2 k d) := by
  pointwise [k2_pay1]

end

end Cert.PoolP0KIdeal.Hand

end
-- ==== Proof.PoolP0Fwd.lean ====
/-
  The forward call of the pooling layer on two segments: what its three arrays hold after the region, whatever the arrays held before it.
-/
module

public import proofs.«01_k».proof.Proof.PoolP0Pay

@[expose] public section

set_option maxRecDepth 16384

noncomputable section

namespace Cert.PoolP0KIdeal.Hand

open Cert.PoolP0KIdeal Cert.PoolP0KIdeal.Gen Cert.PoolP0 Cert.Finite
open Cert.Pool (zf dzf perCol perCol_at planes planes_at0 planes_at1 col ucol gcol logi buffer_at fwd_at bwd_at)
open Idealize.ShloMosaic Idealize.ShloMosaic.TcCoe Idealize.SL.Sem
open Idealize.ShloMosaic.Pipeline (Dat)
open scoped BigOperators

/-- Where each window's block sits: every array's block is its group's. -/
theorem idx0 : ∀ t : Fin cfg0.N, win0_0.index t = ![0, t.val] ∧ win0_1.index t = ![0, 4 + t.val] ∧ win0_2.index t = ![t.val, 0, 0]
    ∧ win0_3.index t = ![0, t.val] ∧ win0_4.index t = ![0, t.val] ∧ win0_5.index t = ![0, t.val] ∧ win0_6.index t = ![0, t.val] :=
  (by decide +kernel : ∀ t : Fin grid0.N, _)

section
variable (V : (c : Dev nD) → (b : Ref sig .tc) → Buf (Elt Ideal) ((c : Thread nD τ).loc b)) (c : Dev nD)

theorem four0 (t : Fin cfg0.N) : t.val < 4 := lt_of_lt_of_eq t.isLt N_0

/-- The centred mean's difference at the group's tile, in the first segment. -/
theorem z_lo (t : Fin cfg0.N) (i : Fin 2048) (j : Fin 256) :
    (outsAt0 V c t.val t.isLt).1 (ix2 (lo i) j) = zf (2 ^ t.val) (fun s : Fin 2048 => iblk0 V c 0 t (ix2 (lo s) j)) i := by
  have hN := four0 t
  by_cases h0 : t.val % 4 = 0
  · rw [outsAt0_A V c t h0 (by omega) (by omega) (by omega), show 2 ^ t.val = 1 by rw [show t.val = 0 by omega]; rfl]
    frame_out
    rw [tile_lo, z1_at, fwd_at (half := 1) (fwd1 (buffer_at (L := 2096) (len := 2048) (by decide) (by decide) _ _ _
      (show ∀ i, k0_pay3 (F := Ideal) i = 0 from zero16 _) (show ∀ i, k0_pay5 (F := Ideal) i = 0 from zero32 _) _ _ _ _ _ j))
      (by decide) (by decide) (by decide)]
    exact zf_of i (fun s => (congrFun (show k0_pay4 (F := Ideal) _ = _ from seg_lo _ _) _).trans (ld_lo _ _ s j)) (ld_lo _ _ i j)
  by_cases h1 : t.val % 4 = 1
  · rw [outsAt0_B V c t (by omega) h1 (by omega) (by omega), show 2 ^ t.val = 2 by rw [show t.val = 1 by omega]; rfl]
    frame_out
    rw [tile_lo, z2_at, fwd_at (half := 2) (fwd2 (buffer_at (L := 2096) (len := 2048) (by decide) (by decide) _ _ _
      (show ∀ i, k0_pay17 (F := Ideal) i = 0 from zero16 _) (show ∀ i, k0_pay19 (F := Ideal) i = 0 from zero32 _) _ _ _ _ _ j))
      (by decide) (by decide) (by decide)]
    exact zf_of i (fun s => (congrFun (show k0_pay18 (F := Ideal) _ = _ from seg_lo _ _) _).trans (ld_lo _ _ s j)) (ld_lo _ _ i j)
  by_cases h2 : t.val % 4 = 2
  · rw [outsAt0_C V c t (by omega) (by omega) h2 (by omega), show 2 ^ t.val = 4 by rw [show t.val = 2 by omega]; rfl]
    frame_out
    rw [tile_lo, z4_at, fwd_at (half := 4) (fwd4 (buffer_at (L := 2096) (len := 2048) (by decide) (by decide) _ _ _
      (show ∀ i, k0_pay30 (F := Ideal) i = 0 from zero16 _) (show ∀ i, k0_pay32 (F := Ideal) i = 0 from zero32 _) _ _ _ _ _ j))
      (by decide) (by decide) (by decide)]
    exact zf_of i (fun s => (congrFun (show k0_pay31 (F := Ideal) _ = _ from seg_lo _ _) _).trans (ld_lo _ _ s j)) (ld_lo _ _ i j)
  · rw [outsAt0_D V c t (by omega) (by omega) (by omega) (by omega), show 2 ^ t.val = 8 by rw [show t.val = 3 by omega]; rfl]
    frame_out
    rw [tile_lo, z8_at, fwd_at (half := 8) (fwd8 (buffer_at (L := 2096) (len := 2048) (by decide) (by decide) _ _ _
      (show ∀ i, k0_pay43 (F := Ideal) i = 0 from zero16 _) (show ∀ i, k0_pay45 (F := Ideal) i = 0 from zero32 _) _ _ _ _ _ j))
      (by decide) (by decide) (by decide)]
    exact zf_of i (fun s => (congrFun (show k0_pay44 (F := Ideal) _ = _ from seg_lo _ _) _).trans (ld_lo _ _ s j)) (ld_lo _ _ i j)

/-- The centred mean's difference at the group's tile, in the second segment. -/
theorem z_hi (t : Fin cfg0.N) (i : Fin 256) (j : Fin 256) :
    (outsAt0 V c t.val t.isLt).1 (ix2 (hi i) j) = zf (2 ^ t.val) (fun s : Fin 256 => iblk0 V c 0 t (ix2 (hi s) j)) i := by
  have hN := four0 t
  by_cases h0 : t.val % 4 = 0
  · rw [outsAt0_A V c t h0 (by omega) (by omega) (by omega), show 2 ^ t.val = 1 by rw [show t.val = 0 by omega]; rfl]
    frame_out
    rw [tile_hi, z1S_at, fwd_at (half := 1) (fwd1S (buffer_at (L := 304) (len := 256) (by decide) (by decide) _ _ _
      (show ∀ i, k0_pay10 (F := Ideal) i = 0 from zero16 _) (show ∀ i, k0_pay12 (F := Ideal) i = 0 from zero32 _) _ _ _ _ _ j))
      (by decide) (by decide) (by decide)]
    exact zf_of i (fun s => (congrFun (show k0_pay11 (F := Ideal) _ = _ from seg_hi _ _) _).trans (ld_hi _ _ s j)) (ld_hi _ _ i j)
  by_cases h1 : t.val % 4 = 1
  · rw [outsAt0_B V c t (by omega) h1 (by omega) (by omega), show 2 ^ t.val = 2 by rw [show t.val = 1 by omega]; rfl]
    frame_out
    rw [tile_hi, z2S_at, fwd_at (half := 2) (fwd2S (buffer_at (L := 304) (len := 256) (by decide) (by decide) _ _ _
      (show ∀ i, k0_pay24 (F := Ideal) i = 0 from zero16 _) (show ∀ i, k0_pay26 (F := Ideal) i = 0 from zero32 _) _ _ _ _ _ j))
      (by decide) (by decide) (by decide)]
    exact zf_of i (fun s => (congrFun (show k0_pay25 (F := Ideal) _ = _ from seg_hi _ _) _).trans (ld_hi _ _ s j)) (ld_hi _ _ i j)
  by_cases h2 : t.val % 4 = 2
  · rw [outsAt0_C V c t (by omega) (by omega) h2 (by omega), show 2 ^ t.val = 4 by rw [show t.val = 2 by omega]; rfl]
    frame_out
    rw [tile_hi, z4S_at, fwd_at (half := 4) (fwd4S (buffer_at (L := 304) (len := 256) (by decide) (by decide) _ _ _
      (show ∀ i, k0_pay38 (F := Ideal) i = 0 from zero16 _) (show ∀ i, k0_pay40 (F := Ideal) i = 0 from zero32 _) _ _ _ _ _ j))
      (by decide) (by decide) (by decide)]
    exact zf_of i (fun s => (congrFun (show k0_pay39 (F := Ideal) _ = _ from seg_hi _ _) _).trans (ld_hi _ _ s j)) (ld_hi _ _ i j)
  · rw [outsAt0_D V c t (by omega) (by omega) (by omega) (by omega), show 2 ^ t.val = 8 by rw [show t.val = 3 by omega]; rfl]
    frame_out
    rw [tile_hi, z8S_at, fwd_at (half := 8) (fwd8S (buffer_at (L := 304) (len := 256) (by decide) (by decide) _ _ _
      (show ∀ i, k0_pay50 (F := Ideal) i = 0 from zero16 _) (show ∀ i, k0_pay52 (F := Ideal) i = 0 from zero32 _) _ _ _ _ _ j))
      (by decide) (by decide) (by decide)]
    exact zf_of i (fun s => (congrFun (show k0_pay51 (F := Ideal) _ = _ from seg_hi _ _) _).trans (ld_hi _ _ s j)) (ld_hi _ _ i j)

/-- The tile mixed. -/
theorem mixed_eq (t : Fin cfg0.N) :
    (outsAt0 V c t.val t.isLt).2.1 = k0_pay60 (F := Ideal) (outsAt0 V c t.val t.isLt).1 (iblk0 V c 2 t) := by
  have hN := four0 t
  by_cases h0 : t.val % 4 = 0
  · rw [outsAt0_A V c t h0 (by omega) (by omega) (by omega)]; frame_out; rw [read_all]
  by_cases h1 : t.val % 4 = 1
  · rw [outsAt0_B V c t (by omega) h1 (by omega) (by omega)]; frame_out; rw [read_all]
  by_cases h2 : t.val % 4 = 2
  · rw [outsAt0_C V c t (by omega) (by omega) h2 (by omega)]; frame_out; rw [read_all]
  · rw [outsAt0_D V c t (by omega) (by omega) (by omega) (by omega)]; frame_out; rw [read_all]

/-- The layer's output at the tile. -/
theorem act_eq (t : Fin cfg0.N) : (outsAt0 V c t.val t.isLt).2.2
    = k0_pay1 (F := Ideal) (k0_pay61 (outsAt0 V c t.val t.isLt).1 (iblk0 V c 2 t) (iblk0 V c 3 t)) (k0_pay62 (iblk0 V c 1 t))
      (k0_pay63 (iblk0 V c 1 t)) k0_pay64 := by
  have hN := four0 t
  by_cases h0 : t.val % 4 = 0
  · rw [outsAt0_A V c t h0 (by omega) (by omega) (by omega)]; frame_out; rw [read_all]
  by_cases h1 : t.val % 4 = 1
  · rw [outsAt0_B V c t (by omega) h1 (by omega) (by omega)]; frame_out; rw [read_all]
  by_cases h2 : t.val % 4 = 2
  · rw [outsAt0_C V c t (by omega) (by omega) h2 (by omega)]; frame_out; rw [read_all]
  · rw [outsAt0_D V c t (by omega) (by omega) (by omega) (by omega)]; frame_out; rw [read_all]

/-! ## The arrays after the region -/

variable {x1 : FVec Ideal S2304x2048 .bf16} {x2 : FVec Ideal S1024 .f32} {x3 : FVec Ideal S4x256x256 .f32}

/-- The group of a point. -/
def grp0 (t : Fin cfg0.N) : Fin 4 := ⟨t.val, four0 t⟩

theorem u_blk (h1 : V c main_arg1 = x1) (t : Fin cfg0.N) (i : Fin 2304) (j : Fin 256) : iblk0 V c 0 t (ix2 i j) = x1 (ix2 i (ucol (grp0 t) j)) := by
  subst h1
  blk_ext [iblk0, idx0 t, ucol, grp0]

theorem gate_blk (h1 : V c main_arg1 = x1) (t : Fin cfg0.N) (i : Fin 2304) (j : Fin 256) :
    iblk0 V c 1 t (ix2 i j) = x1 (ix2 i (gcol (grp0 t) j)) := by
  subst h1
  blk_ext [iblk0, idx0 t, gcol, grp0]

theorem w_blk (hw : ∀ i, V c main_v0 i = x3 i) (t : Fin cfg0.N) (k j : Fin 256) : iblk0 V c 2 t (ix3 0 k j) = x3 (ix3 (grp0 t) k j) := by
  rw [← hw]
  blk_ext [iblk0, idx0 t, grp0]

theorem scale_blk (hs : ∀ l, V c main_v1 (ix2 0 l) = x2 (ix1 l)) (t : Fin cfg0.N) (j : Fin 256) :
    iblk0 V c 3 t (ix2 0 j) = x2 (ix1 (col (grp0 t) j)) := by
  rw [← hs]
  blk_ext [iblk0, idx0 t, col, grp0]

theorem z_val (h1 : V c main_arg1 = x1) (t : Fin cfg0.N) (i : Fin 2304) (j : Fin 256) :
    (outsAt0 V c t.val t.isLt).1 (ix2 i j) = zV x1 (grp0 t) i j := by
  rw [zV]
  obtain ⟨r, rfl⟩ | ⟨r, rfl⟩ := row_cases i
  · rw [z_lo, both_lo]
    simp only [u_blk V c h1]
    rfl
  · rw [z_hi, both_hi]
    simp only [u_blk V c h1]
    rfl

/-- The centred mean's difference after the region. -/
theorem z_final (h1 : V c main_arg1 = x1) : (dat0 V c).arrAt 4 cfg0.N = perCol (zV x1) := by
  refine (dat0 V c).arrAt_eq_of_covers 4 _ (by decide +kernel) fun t _ y => ?_
  have hN := four0 t
  blk_simp
  rw [after0_4]
  idx_vars y
  refine (z_val V c h1 t y0 y1).trans ((perCol_at (zV x1) (grp0 t) y0 y1).symm.trans ?_)
  blk_ext [idx0 t, col, grp0]

theorem mixed_val (h1 : V c main_arg1 = x1) (hw : ∀ i, V c main_v0 i = x3 i) (t : Fin cfg0.N) (i : Fin 2304) (j : Fin 256) :
    (outsAt0 V c t.val t.isLt).2.1 (ix2 i j) = mV x1 x3 (grp0 t) i j := by
  rw [mixed_eq, mix_at, mV]
  simp only [z_val V c h1, w_blk V c hw]

/-- The mixed rows after the region. -/
theorem mixed_final (h1 : V c main_arg1 = x1) (hw : ∀ i, V c main_v0 i = x3 i) : (dat0 V c).arrAt 5 cfg0.N = perCol (mV x1 x3) := by
  refine (dat0 V c).arrAt_eq_of_covers 5 _ (by decide +kernel) fun t _ y => ?_
  have hN := four0 t
  blk_simp
  rw [after0_5]
  idx_vars y
  refine (mixed_val V c h1 hw t y0 y1).trans ((perCol_at (mV x1 x3) (grp0 t) y0 y1).symm.trans ?_)
  blk_ext [idx0 t, col, grp0]

/-- The layer's output after the region. -/
theorem act_final (h1 : V c main_arg1 = x1) (hw : ∀ i, V c main_v0 i = x3 i) (hs : ∀ l, V c main_v1 (ix2 0 l) = x2 (ix1 l)) :
    (dat0 V c).arrAt 6 cfg0.N = perCol (aV x1 x2 x3) := by
  refine (dat0 V c).arrAt_eq_of_covers 6 _ (by decide +kernel) fun t _ y => ?_
  have hN := four0 t
  blk_simp
  rw [after0_6]
  idx_vars y
  have e : (outsAt0 V c t.val t.isLt).2.2 (ix2 y0 y1) = aV x1 x2 x3 (grp0 t) y0 y1 := by
    rw [act_eq, act_at, aV, siluV, mV]
    simp only [z_val V c h1, w_blk V c hw, gate_blk V c h1, scale_blk V c hs]
  refine e.trans ((perCol_at (aV x1 x2 x3) (grp0 t) y0 y1).symm.trans ?_)
  blk_ext [idx0 t, col, grp0]

end

end Cert.PoolP0KIdeal.Hand

end
-- ==== Proof.PoolP0Bwd.lean ====
/-
  The backward call of the pooling layer on two segments: what its three arrays hold after the region, whatever the arrays held before it.
-/
module

public import proofs.«01_k».proof.Proof.PoolP0Pay

@[expose] public section

set_option maxRecDepth 16384

noncomputable section

namespace Cert.PoolP0KIdeal.Hand

open Cert.PoolP0KIdeal Cert.PoolP0KIdeal.Gen Cert.PoolP0 Cert.Finite
open Cert.Pool (zf dzf perCol perCol_at planes planes_at0 planes_at1 col ucol gcol logi buffer_at fwd_at bwd_at)
open Idealize.ShloMosaic Idealize.ShloMosaic.TcCoe Idealize.SL.Sem
open Idealize.ShloMosaic.Pipeline (Dat)
open scoped BigOperators

/-- Where each window's block sits: every array's block is its group's. -/
theorem idx1 : ∀ t : Fin cfg1.N, win1_0.index t = ![0, t.val] ∧ win1_1.index t = ![0, t.val] ∧ win1_2.index t = ![0, 4 + t.val]
    ∧ win1_3.index t = ![0, t.val] ∧ win1_4.index t = ![t.val, 0, 0] ∧ win1_5.index t = ![0, t.val] ∧ win1_6.index t = ![0, 0, t.val]
    ∧ win1_7.index t = ![0, t.val] :=
  (by decide +kernel : ∀ t : Fin grid1.N, _)

section
variable (V : (c : Dev nD) → (b : Ref sig .tc) → Buf (Elt Ideal) ((c : Thread nD τ).loc b)) (c : Dev nD)

theorem four1 (t : Fin cfg1.N) : t.val < 4 := lt_of_lt_of_eq t.isLt N_1

/-- The group of a point. -/
def grp1 (t : Fin cfg1.N) : Fin 4 := ⟨t.val, four1 t⟩

/-- The gradient of the mixed rows at the group's tile. -/
theorem dm_eq (t : Fin cfg1.N) : (outsAt1 V c t.val t.isLt).1 = k1_pay52 (F := Ideal) (iblk1 V c 0 t) (iblk1 V c 2 t) (iblk1 V c 3 t) := by
  have hN := four1 t
  by_cases h0 : t.val % 4 = 0
  · rw [outsAt1_A V c t h0 (by omega) (by omega) (by omega)]; frame_out
  by_cases h1 : t.val % 4 = 1
  · rw [outsAt1_B V c t (by omega) h1 (by omega) (by omega)]; frame_out
  by_cases h2 : t.val % 4 = 2
  · rw [outsAt1_C V c t (by omega) (by omega) h2 (by omega)]; frame_out
  · rw [outsAt1_D V c t (by omega) (by omega) (by omega) (by omega)]; frame_out

/-- The gradient of the scale at the group's tile. -/
theorem dscale_eq (t : Fin cfg1.N) : (outsAt1 V c t.val t.isLt).2.2
    = k1_pay2 (F := Ideal) (k1_pay47 (iblk1 V c 0 t)) (k1_pay48 (iblk1 V c 1 t)) (k1_pay50 (iblk1 V c 2 t)) := by
  have hN := four1 t
  by_cases h0 : t.val % 4 = 0
  · rw [outsAt1_A V c t h0 (by omega) (by omega) (by omega)]; frame_out
  by_cases h1 : t.val % 4 = 1
  · rw [outsAt1_B V c t (by omega) h1 (by omega) (by omega)]; frame_out
  by_cases h2 : t.val % 4 = 2
  · rw [outsAt1_C V c t (by omega) (by omega) h2 (by omega)]; frame_out
  · rw [outsAt1_D V c t (by omega) (by omega) (by omega) (by omega)]; frame_out

/-- The gradient of the gate at the group's tile. -/
theorem dgate_eq (t : Fin cfg1.N) (i : Fin 2304) (j : Fin 256) : (outsAt1 V c t.val t.isLt).2.1 (ix3 1 i j)
    = k1_pay1 (F := Ideal) (k1_pay49 (iblk1 V c 2 t)) (k1_pay54 (iblk1 V c 0 t) (iblk1 V c 1 t) (iblk1 V c 3 t)) (k1_pay55 (iblk1 V c 2 t)) (ix3 0 i j) := by
  have hN := four1 t
  by_cases h0 : t.val % 4 = 0
  · rw [outsAt1_A V c t h0 (by omega) (by omega) (by omega)]; frame_out; exact stored_gate _ _ _ _ _ _ i j
  by_cases h1 : t.val % 4 = 1
  · rw [outsAt1_B V c t (by omega) h1 (by omega) (by omega)]; frame_out; exact stored_gate _ _ _ _ _ _ i j
  by_cases h2 : t.val % 4 = 2
  · rw [outsAt1_C V c t (by omega) (by omega) h2 (by omega)]; frame_out; exact stored_gate _ _ _ _ _ _ i j
  · rw [outsAt1_D V c t (by omega) (by omega) (by omega) (by omega)]; frame_out; exact stored_gate _ _ _ _ _ _ i j

/-- The gradient of `u` at the group's tile, in the first segment. -/
theorem du_lo (t : Fin cfg1.N) (i : Fin 2048) (j : Fin 256) : (outsAt1 V c t.val t.isLt).2.1 (ix3 0 (lo i) j)
    = dzf (2 ^ t.val) (fun s : Fin 2048 => k1_pay53 (F := Ideal) (iblk1 V c 0 t) (iblk1 V c 2 t) (iblk1 V c 3 t) (iblk1 V c 4 t) (ix2 (lo s) j)) i := by
  have hN := four1 t
  by_cases h0 : t.val % 4 = 0
  · rw [outsAt1_A V c t h0 (by omega) (by omega) (by omega), show 2 ^ t.val = 1 by rw [show t.val = 0 by omega]; rfl]
    frame_out
    rw [stored_lo, du1_at, bwd_at (half := 1) (bwd1 (buffer_at (L := 2096) (len := 2048) (by decide) (by decide) _ _ _
      (show ∀ i, k1_pay10 (F := Ideal) i = 0 from zero16 _) (show ∀ i, k1_pay12 (F := Ideal) i = 0 from zero32 _) _ _ _ _ _ j))
      (by decide) (by decide) (by decide) (by decide), dzf]
    simp only [share1_at, back_lo]
  by_cases h1 : t.val % 4 = 1
  · rw [outsAt1_B V c t (by omega) h1 (by omega) (by omega), show 2 ^ t.val = 2 by rw [show t.val = 1 by omega]; rfl]
    frame_out
    rw [stored_lo, du2_at, bwd_at (half := 2) (bwd2 (buffer_at (L := 2096) (len := 2048) (by decide) (by decide) _ _ _
      (show ∀ i, k1_pay20 (F := Ideal) i = 0 from zero16 _) (show ∀ i, k1_pay22 (F := Ideal) i = 0 from zero32 _) _ _ _ _ _ j))
      (by decide) (by decide) (by decide) (by decide), dzf]
    simp only [share2_at, back_lo]
  by_cases h2 : t.val % 4 = 2
  · rw [outsAt1_C V c t (by omega) (by omega) h2 (by omega), show 2 ^ t.val = 4 by rw [show t.val = 2 by omega]; rfl]
    frame_out
    rw [stored_lo, du4_at, bwd_at (half := 4) (bwd4 (buffer_at (L := 2096) (len := 2048) (by decide) (by decide) _ _ _
      (show ∀ i, k1_pay29 (F := Ideal) i = 0 from zero16 _) (show ∀ i, k1_pay31 (F := Ideal) i = 0 from zero32 _) _ _ _ _ _ j))
      (by decide) (by decide) (by decide) (by decide), dzf]
    simp only [share4_at, back_lo]
  · rw [outsAt1_D V c t (by omega) (by omega) (by omega) (by omega), show 2 ^ t.val = 8 by rw [show t.val = 3 by omega]; rfl]
    frame_out
    rw [stored_lo, du8_at, bwd_at (half := 8) (bwd8 (buffer_at (L := 2096) (len := 2048) (by decide) (by decide) _ _ _
      (show ∀ i, k1_pay38 (F := Ideal) i = 0 from zero16 _) (show ∀ i, k1_pay40 (F := Ideal) i = 0 from zero32 _) _ _ _ _ _ j))
      (by decide) (by decide) (by decide) (by decide), dzf]
    simp only [share8_at, back_lo]

/-- The gradient of `u` at the group's tile, in the second segment. -/
theorem du_hi (t : Fin cfg1.N) (i : Fin 256) (j : Fin 256) : (outsAt1 V c t.val t.isLt).2.1 (ix3 0 (hi i) j)
    = dzf (2 ^ t.val) (fun s : Fin 256 => k1_pay53 (F := Ideal) (iblk1 V c 0 t) (iblk1 V c 2 t) (iblk1 V c 3 t) (iblk1 V c 4 t) (ix2 (hi s) j)) i := by
  have hN := four1 t
  by_cases h0 : t.val % 4 = 0
  · rw [outsAt1_A V c t h0 (by omega) (by omega) (by omega), show 2 ^ t.val = 1 by rw [show t.val = 0 by omega]; rfl]
    frame_out
    rw [stored_hi, du1S_at, bwd_at (half := 1) (bwd1S (buffer_at (L := 304) (len := 256) (by decide) (by decide) _ _ _
      (show ∀ i, k1_pay16 (F := Ideal) i = 0 from zero16 _) (show ∀ i, k1_pay18 (F := Ideal) i = 0 from zero32 _) _ _ _ _ _ j))
      (by decide) (by decide) (by decide) (by decide), dzf]
    simp only [share1S_at, back_hi]
  by_cases h1 : t.val % 4 = 1
  · rw [outsAt1_B V c t (by omega) h1 (by omega) (by omega), show 2 ^ t.val = 2 by rw [show t.val = 1 by omega]; rfl]
    frame_out
    rw [stored_hi, du2S_at, bwd_at (half := 2) (bwd2S (buffer_at (L := 304) (len := 256) (by decide) (by decide) _ _ _
      (show ∀ i, k1_pay25 (F := Ideal) i = 0 from zero16 _) (show ∀ i, k1_pay27 (F := Ideal) i = 0 from zero32 _) _ _ _ _ _ j))
      (by decide) (by decide) (by decide) (by decide), dzf]
    simp only [share2S_at, back_hi]
  by_cases h2 : t.val % 4 = 2
  · rw [outsAt1_C V c t (by omega) (by omega) h2 (by omega), show 2 ^ t.val = 4 by rw [show t.val = 2 by omega]; rfl]
    frame_out
    rw [stored_hi, du4S_at, bwd_at (half := 4) (bwd4S (buffer_at (L := 304) (len := 256) (by decide) (by decide) _ _ _
      (show ∀ i, k1_pay35 (F := Ideal) i = 0 from zero16 _) (show ∀ i, k1_pay37 (F := Ideal) i = 0 from zero32 _) _ _ _ _ _ j))
      (by decide) (by decide) (by decide) (by decide), dzf]
    simp only [share4S_at, back_hi]
  · rw [outsAt1_D V c t (by omega) (by omega) (by omega) (by omega), show 2 ^ t.val = 8 by rw [show t.val = 3 by omega]; rfl]
    frame_out
    rw [stored_hi, du8S_at, bwd_at (half := 8) (bwd8S (buffer_at (L := 304) (len := 256) (by decide) (by decide) _ _ _
      (show ∀ i, k1_pay44 (F := Ideal) i = 0 from zero16 _) (show ∀ i, k1_pay46 (F := Ideal) i = 0 from zero32 _) _ _ _ _ _ j))
      (by decide) (by decide) (by decide) (by decide), dzf]
    simp only [share8S_at, back_hi]

/-! ## The arrays after the region -/

variable {x0 : FVec Ideal S2304x1024 .bf16} {x1 : FVec Ideal S2304x2048 .bf16} {x2 : FVec Ideal S1024 .f32} {x3 : FVec Ideal S4x256x256 .f32}

theorem da_blk1 (h0 : V c main_arg0 = x0) (t : Fin cfg1.N) (i : Fin 2304) (j : Fin 256) : iblk1 V c 0 t (ix2 i j) = x0 (ix2 i (col (grp1 t) j)) := by
  subst h0
  blk_ext [iblk1, idx1 t, col, grp1]

theorem mixed_blk1 (hm : V c main_v2_1 = perCol (mV x1 x3)) (t : Fin cfg1.N) (i : Fin 2304) (j : Fin 256) :
    iblk1 V c 1 t (ix2 i j) = mV x1 x3 (grp1 t) i j := by
  rw [← perCol_at (mV x1 x3), ← hm]
  blk_ext [iblk1, idx1 t, col, grp1]

theorem gate_blk1 (h1 : V c main_arg1 = x1) (t : Fin cfg1.N) (i : Fin 2304) (j : Fin 256) :
    iblk1 V c 2 t (ix2 i j) = x1 (ix2 i (gcol (grp1 t) j)) := by
  subst h1
  blk_ext [iblk1, idx1 t, gcol, grp1]

theorem scale_blk1 (hs : ∀ l, V c main_v3 (ix2 0 l) = x2 (ix1 l)) (t : Fin cfg1.N) (j : Fin 256) :
    iblk1 V c 3 t (ix2 0 j) = x2 (ix1 (col (grp1 t) j)) := by
  rw [← hs]
  blk_ext [iblk1, idx1 t, col, grp1]

theorem w_blk1 (hw : ∀ i, V c main_v0 i = x3 i) (t : Fin cfg1.N) (k j : Fin 256) : iblk1 V c 4 t (ix3 0 k j) = x3 (ix3 (grp1 t) k j) := by
  rw [← hw]
  blk_ext [iblk1, idx1 t, grp1]

theorem dm_val (h0 : V c main_arg0 = x0) (h1 : V c main_arg1 = x1) (hs : ∀ l, V c main_v3 (ix2 0 l) = x2 (ix1 l)) (t : Fin cfg1.N)
    (i : Fin 2304) (j : Fin 256) :
    k1_pay52 (F := Ideal) (iblk1 V c 0 t) (iblk1 V c 2 t) (iblk1 V c 3 t) (ix2 i j) = dmV x0 x1 x2 (grp1 t) i j := by
  rw [dm_at, dmV, siluV, da_blk1 V c h0, gate_blk1 V c h1, scale_blk1 V c hs]

/-- The gradient of the mixed rows after the region. -/
theorem dm_final (h0 : V c main_arg0 = x0) (h1 : V c main_arg1 = x1) (hs : ∀ l, V c main_v3 (ix2 0 l) = x2 (ix1 l)) :
    (dat1 V c).arrAt 5 cfg1.N = perCol (dmV x0 x1 x2) := by
  refine (dat1 V c).arrAt_eq_of_covers 5 _ (by decide +kernel) fun t _ y => ?_
  have hN := four1 t
  blk_simp
  rw [after1_5]
  idx_vars y
  rw [dm_eq]
  refine (dm_val V c h0 h1 hs t y0 y1).trans ((perCol_at (dmV x0 x1 x2) (grp1 t) y0 y1).symm.trans ?_)
  blk_ext [idx1 t, col, grp1]

theorem du_val (h0 : V c main_arg0 = x0) (h1 : V c main_arg1 = x1) (hs : ∀ l, V c main_v3 (ix2 0 l) = x2 (ix1 l)) (hw : ∀ i, V c main_v0 i = x3 i)
    (t : Fin cfg1.N) (i : Fin 2304) (j : Fin 256) : (outsAt1 V c t.val t.isLt).2.1 (ix3 0 i j) = duV x0 x1 x2 x3 (grp1 t) i j := by
  have e : ∀ s j, k1_pay53 (F := Ideal) (iblk1 V c 0 t) (iblk1 V c 2 t) (iblk1 V c 3 t) (iblk1 V c 4 t) (ix2 s j)
      = dzV x0 x1 x2 x3 (grp1 t) s j := fun s j => by
    rw [dz_at, dzV]
    exact Finset.sum_congr rfl fun k _ => by rw [dm_val V c h0 h1 hs, w_blk1 V c hw]
  rw [duV, show (grp1 t).val = t.val from rfl]
  obtain ⟨r, rfl⟩ | ⟨r, rfl⟩ := row_cases i
  · rw [du_lo, both_lo]
    simp only [e]
  · rw [du_hi, both_hi]
    simp only [e]

theorem dgate_val (h0 : V c main_arg0 = x0) (h1 : V c main_arg1 = x1) (hs : ∀ l, V c main_v3 (ix2 0 l) = x2 (ix1 l))
    (hm : V c main_v2_1 = perCol (mV x1 x3)) (t : Fin cfg1.N) (i : Fin 2304) (j : Fin 256) :
    (outsAt1 V c t.val t.isLt).2.1 (ix3 1 i j) = dgateV x0 x1 x2 x3 (grp1 t) i j := by
  rw [dgate_eq, dgate_at, dgateV, da_blk1 V c h0, gate_blk1 V c h1, scale_blk1 V c hs, mixed_blk1 V c hm]

/-- The gradients of `u` and of the gate after the region. -/
theorem duv_final (h0 : V c main_arg0 = x0) (h1 : V c main_arg1 = x1) (hs : ∀ l, V c main_v3 (ix2 0 l) = x2 (ix1 l)) (hw : ∀ i, V c main_v0 i = x3 i)
    (hm : V c main_v2_1 = perCol (mV x1 x3)) : (dat1 V c).arrAt 6 cfg1.N = planes (duV x0 x1 x2 x3) (dgateV x0 x1 x2 x3) := by
  refine (dat1 V c).arrAt_eq_of_covers 6 _ (by decide +kernel) fun t _ y => ?_
  have hN := four1 t
  blk_simp
  rw [after1_6]
  idx_vars y
  obtain rfl | rfl : y0 = 0 ∨ y0 = 1 := by
    rcases y0 with ⟨_ | _ | _, h⟩
    · exact .inl rfl
    · exact .inr rfl
    · exact absurd h (by show ¬ _ < 2; omega)
  · refine (du_val V c h0 h1 hs hw t y1 y2).trans ((planes_at0 (duV x0 x1 x2 x3) (dgateV x0 x1 x2 x3) (grp1 t) y1 y2).symm.trans ?_)
    blk_ext [idx1 t, col, grp1]
  · refine (dgate_val V c h0 h1 hs hm t y1 y2).trans ((planes_at1 (duV x0 x1 x2 x3) (dgateV x0 x1 x2 x3) (grp1 t) y1 y2).symm.trans ?_)
    blk_ext [idx1 t, col, grp1]

/-- The gradient of the scale after the region. -/
theorem dscale_final (h0 : V c main_arg0 = x0) (h1 : V c main_arg1 = x1) (hm : V c main_v2_1 = perCol (mV x1 x3)) :
    (dat1 V c).arrAt 7 cfg1.N = perCol fun g (_ : Fin 1) j => dscaleV x0 x1 x3 g j := by
  refine (dat1 V c).arrAt_eq_of_covers 7 _ (by decide +kernel) fun t _ y => ?_
  have hN := four1 t
  blk_simp
  rw [after1_7]
  idx_vars y
  obtain rfl : y0 = 0 := Subsingleton.elim _ _
  have e : (outsAt1 V c t.val t.isLt).2.2 (ix2 0 y1) = dscaleV x0 x1 x3 (grp1 t) y1 := by
    rw [dscale_eq, dscale_at, dscaleV]
    exact Finset.sum_congr rfl fun r _ => by rw [da_blk1 V c h0, mixed_blk1 V c hm, gate_blk1 V c h1, siluV]
  refine e.trans ((perCol_at (fun g (_ : Fin 1) j => dscaleV x0 x1 x3 g j) (grp1 t) 0 y1).symm.trans ?_)
  blk_ext [idx1 t, col, grp1]

/-! ## The call of the weights' gradient -/

theorem idx2 : ∀ t : Fin cfg2.N, win2_0.index t = ![0, t.val] ∧ win2_1.index t = ![0, t.val] ∧ win2_2.index t = ![t.val, 0, 0] :=
  (by decide +kernel : ∀ t : Fin grid2.N, _)

theorem four2 (t : Fin cfg2.N) : t.val < 4 := lt_of_lt_of_eq t.isLt N_2

/-- The group of a point. -/
def grp2 (t : Fin cfg2.N) : Fin 4 := ⟨t.val, four2 t⟩

theorem z_blk2 (hz : V c main_v2_0 = perCol (zV x1)) (t : Fin cfg2.N) (i : Fin 2304) (j : Fin 256) : iblk2 V c 0 t (ix2 i j) = zV x1 (grp2 t) i j := by
  rw [← perCol_at (zV x1), ← hz]
  blk_ext [iblk2, idx2 t, col, grp2]

theorem dm_blk2 (hd : V c main_v4_0 = perCol (dmV x0 x1 x2)) (t : Fin cfg2.N) (i : Fin 2304) (j : Fin 256) :
    iblk2 V c 1 t (ix2 i j) = dmV x0 x1 x2 (grp2 t) i j := by
  rw [← perCol_at (dmV x0 x1 x2), ← hd]
  blk_ext [iblk2, idx2 t, col, grp2]

theorem dw_val (hz : V c main_v2_0 = perCol (zV x1)) (hd : V c main_v4_0 = perCol (dmV x0 x1 x2)) (t : Fin cfg2.N) (a d : Fin 256) :
    out2_2 (F := Ideal) (iblk2 V c 0 t) (iblk2 V c 1 t) (ix3 0 a d) = dwV x0 x1 x2 (grp2 t) d a := by
  unfold out2_2
  frame_out
  rw [dw_at, dwV]
  exact Finset.sum_congr rfl fun r _ => by rw [z_blk2 V c hz, dm_blk2 V c hd]

/-- The weights' gradient, as an array. -/
def dwA (x0 : FVec Ideal S2304x1024 .bf16) (x1 : FVec Ideal S2304x2048 .bf16) (x2 : FVec Ideal S1024 .f32) (i : S4x256x256.Idx) : EReal :=
  dwV x0 x1 x2 (i 0) (i 2) (i 1)

theorem dwA_at (g : Fin 4) (a d : Fin 256) : dwA x0 x1 x2 (ix3 g a d) = dwV x0 x1 x2 g d a := rfl

/-- The gradient of the mixing weights after the region. -/
theorem dw_final (hz : V c main_v2_0 = perCol (zV x1)) (hd : V c main_v4_0 = perCol (dmV x0 x1 x2)) :
    (dat2 V c).arrAt 2 cfg2.N = dwA x0 x1 x2 := by
  refine (dat2 V c).arrAt_eq_of_covers 2 _ (by decide +kernel) fun t _ y => ?_
  have hN := four2 t
  blk_simp
  rw [after2_2]
  idx_vars y
  obtain rfl : y0 = 0 := Subsingleton.elim _ _
  refine (dw_val V c hz hd t y1 y2).trans ((dwA_at (x0 := x0) (x1 := x1) (x2 := x2) (grp2 t) y1 y2).symm.trans ?_)
  blk_ext [idx2 t, grp2]

end

end Cert.PoolP0KIdeal.Hand

end
-- ==== Proof.PoolP0Ref.lean ====
/-
  The reference of the pooling layer on two segments of rows, stage by stage: its results are those of the arrays.
-/
module

public import proofs.«01_k».proof.Proof.PoolP0Sum
public import proofs.«01_k».proof.Proof.Gen.PoolP0RIdeal.Run
public import proofs.«01_k».proof.Proof.Gen.PoolP0RIdeal.Read

@[expose] public section

set_option maxRecDepth 16384

noncomputable section

namespace Cert.PoolP0RIdeal.Hand

open Cert.PoolP0RIdeal Cert.PoolP0RIdeal.Gen Cert.PoolP0RIdeal.Read Cert.PoolP0 Cert.Finite
open Cert.Pool (zf dzf col ucol gcol logi logi_real gate_eq count ind ind_sum)
open Idealize.ShloMosaic Idealize.ShloMosaic.TcCoe Idealize.SL.Sem
open scoped BigOperators

/-- The reference's test for a row of the window. -/
theorem ind_word (t s h : ℕ) (ht : t < 2048) (hs : s < 2048) (hh : h ≤ 8) :
    (FloatOps.uitofp FTy.f32 (IntOp.andi (IntOp.cmpi .sle (BitVec.ofNat 32 t) (IntOp.addi (BitVec.ofNat 32 s) (BitVec.ofNat 32 h)))
      (IntOp.cmpi .slt (BitVec.ofNat 32 s) (IntOp.addi (BitVec.ofNat 32 t) (BitVec.ofNat 32 h)))) : Ideal .f32) = ind h t s := by
  have add (n : ℕ) : IntOp.addi (BitVec.ofNat 32 n) (BitVec.ofNat 32 h) = BitVec.ofNat 32 (n + h) := (BitVec.ofNat_add ..).symm
  rw [add, add, WordCmp.cmpi_sle_ofNat (by omega) (by omega), WordCmp.cmpi_slt_ofNat (by omega) (by omega), WordCmp.andi_ofBool, ← Bool.decide_and, ind]
  by_cases h : t ≤ s + h ∧ s < t + h
  · rw [if_pos h, decide_eq_true h]
    show (((BitVec.ofBool true).toNat : ℝ) : EReal) = 1
    simp
  · rw [if_neg h, decide_eq_false h]
    show (((BitVec.ofBool false).toNat : ℝ) : EReal) = 0
    simp

theorem col_div (g : Fin 4) (j : Fin 256) (h : (col g j).val / 256 < 4) : (⟨(col g j).val / 256, h⟩ : Fin 4) = g :=
  Fin.ext (by show (g.val * 256 + j.val) / 256 = g.val; omega)

theorem col_mod (g : Fin 4) (j : Fin 256) (h : (col g j).val % 256 < 256) : (⟨(col g j).val % 256, h⟩ : Fin 256) = j :=
  Fin.ext (by show (g.val * 256 + j.val) % 256 = j.val; omega)

/-! ## The first segment -/

theorem v11_at (g : Fin 4) (t s : Fin 2048) : val_main_v11 (F := Ideal) (ix3 g t s) = BitVec.ofNat 32 (2 ^ g.val) := by
  pointwise! [val_main_v11, val_main_v10, val_main_c, val_main_v9]
  fin_cases g <;> rfl

theorem v19_at (g : Fin 4) (t s : Fin 2048) : val_main_v19 (F := Ideal) (ix3 g t s) = ind (2 ^ g.val) t.val s.val := by
  rw [← ind_word t.val s.val (2 ^ g.val) (by omega) (by omega) (by fin_cases g <;> decide)]
  pointwise! [val_main_v19, val_main_v18, val_main_v17, val_main_v16, val_main_v15, val_main_v14, val_main_v13, val_main_v12, v11_at]

section
variable (x0 : (⟨S2304x1024, .bf16⟩ : BufTy).Contents (Elt Ideal)) (x1 : (⟨S2304x2048, .bf16⟩ : BufTy).Contents (Elt Ideal))
  (x2 : (⟨S1024, .f32⟩ : BufTy).Contents (Elt Ideal)) (x3 : (⟨S4x256x256, .f32⟩ : BufTy).Contents (Elt Ideal))
  (g : Fin 4) (i : Fin 2048) (j : Fin 256)

theorem v8_at : val_main_v8 (F := Ideal) x1 (ix3 i g j) = x1 (ix2 (lo i) (ucol g j)) := by
  pointwise! [val_main_v8, val_main_v3, val_main_v2, val_main_v0]

theorem v25_at : val_main_v25 (F := Ideal) (ix3 i g j) = ((count 2048 (2 ^ g.val) i.val : ℝ) : EReal) := by
  rw [← ind_sum]
  pointwise! [val_main_v25, val_main_v24, val_main_v23, val_main_v22, v19_at, val_main_cst]

theorem v107_at : val_main_v107 (F := Ideal) (ix3 i g j) = ((count 2048 (2 ^ g.val) i.val : ℝ) : EReal) := v25_at g i j

theorem v21_at : val_main_v21 (F := Ideal) x1 (ix3 i g j) = ∑ s : Fin 2048, x1 (ix2 (lo s) (ucol g j)) * ind (2 ^ g.val) i.val s.val := by
  pointwise! [val_main_v21, val_main_v20, v19_at, v8_at]

theorem v27_at : val_main_v27 (F := Ideal) x1 (ix3 i g j) = zV x1 g (lo i) j := by
  rw [zV, both_lo]
  pointwise! [val_main_v27, val_main_v26, v21_at, v25_at, v8_at, zf]

theorem v30_at : val_main_v30 (F := Ideal) x1 x3 (ix2 i (col g j)) = mV x1 x3 g (lo i) j := by
  pointwise! [val_main_v30, val_main_v29, val_main_v28, v27_at, mV]
  simp only [col_div, col_mod, mul_comm (x3 _)]

theorem v32_at : val_main_v32 (F := Ideal) x2 (ix2 i (col g j)) = x2 (ix1 (col g j)) := by
  pointwise! [val_main_v32, val_main_v31]

theorem v95_at : val_main_v95 (F := Ideal) x2 (ix2 i (col g j)) = x2 (ix1 (col g j)) := by
  pointwise! [val_main_v95, val_main_v31]

theorem v4_at : val_main_v4 (F := Ideal) x1 (ix2 i (col g j)) = x1 (ix2 (lo i) (gcol g j)) := by
  pointwise! [val_main_v4, val_main_v2, val_main_v0]

theorem v64_at : val_main_v64 (F := Ideal) x0 (ix2 i (col g j)) = x0 (ix2 (lo i) (col g j)) := by
  pointwise! [val_main_v64, val_main_v1]

theorem v34_2_at : val_main_v34_2 (F := Ideal) x1 (ix2 i (col g j)) = logi (x1 (ix2 (lo i) (gcol g j))) := by
  rw [logi]
  pointwise! [val_main_v34_2, val_main_call0_v4, val_main_call0_v3, val_main_call0_v2, val_main_call0_v1, val_main_call0_v0, v4_at,
    val_main_call0_cst, val_main_call0_cst_0]

theorem v34_0_at : val_main_v34_0 (F := Ideal) x1 (ix2 i (col g j)) = siluV x1 g (lo i) j := by
  pointwise! [val_main_v34_0, v34_2_at, v4_at, siluV]

theorem v34_1_at : val_main_v34_1 (F := Ideal) x1 (ix2 i (col g j))
    = logi (x1 (ix2 (lo i) (gcol g j))) * (1 - logi (x1 (ix2 (lo i) (gcol g j)))) := by
  pointwise! [val_main_v34_1, val_main_call0_v7, val_main_call0_v6, v34_2_at, val_main_call0_cst_1]

/-- The output's rows. -/
theorem v35_at : val_main_v35 (F := Ideal) x1 x2 x3 (ix2 i (col g j)) = aV x1 x2 x3 g (lo i) j := by
  pointwise! [val_main_v35, val_main_v33, v30_at, v32_at, v34_0_at, aV]

theorem v96_at : val_main_v96 (F := Ideal) x0 x1 x2 (ix2 i (col g j)) = dmV x0 x1 x2 g (lo i) j := by
  rw [dmV, mul_assoc, mul_comm (x2 (ix1 (col g j))), ← mul_assoc]
  pointwise! [val_main_v96, val_main_v90, v64_at, v34_0_at, v95_at]

theorem v100_at : val_main_v100 (F := Ideal) x0 x1 x2 (ix3 g j i) = dmV x0 x1 x2 g (lo i) j := by
  rw [← v96_at]
  pointwise! [val_main_v100, val_main_v99]

theorem v102_at : val_main_v102 (F := Ideal) x0 x1 x2 x3 (ix3 i g j) = dzV x0 x1 x2 x3 g (lo i) j := by
  pointwise! [val_main_v102, val_main_v101, v100_at, dzV]

/-- The gradient of `u` in the segment's rows. -/
theorem v113_at : val_main_v113 (F := Ideal) x0 x1 x2 x3 (ix2 i (col g j)) = duV x0 x1 x2 x3 g (lo i) j := by
  have e : val_main_v112 (F := Ideal) x0 x1 x2 x3 (ix3 i g j) = duV x0 x1 x2 x3 g (lo i) j := by
    rw [duV, both_lo, dzf, sub_eq_add_neg, add_comm]
    pointwise! [val_main_v112, val_main_v111, val_main_v110, val_main_v109, val_main_v108, v107_at, val_main_v106, v102_at, v25_at, v19_at]
  rw [← e, val_main_v113_apply]
  refine congrArg _ (funext fun a => Fin.ext ?_)
  match a with
  | ⟨0, _⟩ => show (i.val * 1024 + (g.val * 256 + j.val)) / 1024 = i.val; omega
  | ⟨1, _⟩ => show (i.val * 1024 + (g.val * 256 + j.val)) / 256 % 4 = g.val; omega
  | ⟨2, _⟩ => show (i.val * 1024 + (g.val * 256 + j.val)) % 256 = j.val; omega

/-- The gradient of the gate in the segment's rows, for real arguments. -/
theorem v91_at (hx : IsReal (x0 (ix2 (lo i) (col g j)))) (hm : IsReal (mV x1 x3 g (lo i) j)) (hc : IsReal (x2 (ix1 (col g j))))
    (hg : IsReal (x1 (ix2 (lo i) (gcol g j)))) :
    val_main_v91 (F := Ideal) x0 x1 x2 x3 (ix2 i (col g j)) = dgateV x0 x1 x2 x3 g (lo i) j := by
  rw [dgateV, gate_eq hx hm hc hg (logi_real hg)]
  pointwise! [val_main_v91, val_main_call3_v1, val_main_call3_v2, val_main_call3_v0, val_main_v89, v64_at, val_main_v33, v30_at, v32_at,
    v4_at, v34_1_at, v34_2_at]

/-- The segment's part of the scale's gradient. -/
theorem v97_at : val_main_v97 (F := Ideal) x0 x1 x3 (ix1 (col g j))
    = ∑ r : Fin 2048, x0 (ix2 (lo r) (col g j)) * mV x1 x3 g (lo r) j * siluV x1 g (lo r) j := by
  pointwise! [val_main_v97, val_main_v94, val_main_v93, val_main_v92, val_main_v90, v64_at, v30_at, v34_0_at, val_main_cst_4,
    val_main_cst_5]
  simp only [Finset.univ_unique, Finset.sum_singleton]
  exact Finset.sum_congr rfl fun r _ => by rw [mul_left_comm, ← mul_assoc]

/-- The segment's part of the mixing weights' gradient. -/
theorem v104_at (k : Fin 256) : val_main_v104 (F := Ideal) x0 x1 x2 (ix3 g k j)
    = ∑ r : Fin 2048, zV x1 g (lo r) k * dmV x0 x1 x2 g (lo r) j := by
  pointwise! [val_main_v104, val_main_v103, v100_at, v27_at]

end

/-! ## The second segment -/

theorem v39_at (g : Fin 4) (t s : Fin 256) : val_main_v39 (F := Ideal) (ix3 g t s) = BitVec.ofNat 32 (2 ^ g.val) := by
  pointwise! [val_main_v39, val_main_v38, val_main_c_0, val_main_v37]
  fin_cases g <;> rfl

theorem v47_at (g : Fin 4) (t s : Fin 256) : val_main_v47 (F := Ideal) (ix3 g t s) = ind (2 ^ g.val) t.val s.val := by
  rw [← ind_word t.val s.val (2 ^ g.val) (by omega) (by omega) (by fin_cases g <;> decide)]
  pointwise! [val_main_v47, val_main_v46, val_main_v45, val_main_v44, val_main_v43, val_main_v42, val_main_v41, val_main_v40, v39_at]

section
variable (x0 : (⟨S2304x1024, .bf16⟩ : BufTy).Contents (Elt Ideal)) (x1 : (⟨S2304x2048, .bf16⟩ : BufTy).Contents (Elt Ideal))
  (x2 : (⟨S1024, .f32⟩ : BufTy).Contents (Elt Ideal)) (x3 : (⟨S4x256x256, .f32⟩ : BufTy).Contents (Elt Ideal))
  (g : Fin 4) (i : Fin 256) (j : Fin 256)

theorem v36_at : val_main_v36 (F := Ideal) x1 (ix3 i g j) = x1 (ix2 (hi i) (ucol g j)) := by
  pointwise! [val_main_v36, val_main_v6, val_main_v5, val_main_v0]

theorem v53_at : val_main_v53 (F := Ideal) (ix3 i g j) = ((count 256 (2 ^ g.val) i.val : ℝ) : EReal) := by
  rw [← ind_sum]
  pointwise! [val_main_v53, val_main_v52, val_main_v51, val_main_v50, v47_at, val_main_cst_1]

theorem v82_at : val_main_v82 (F := Ideal) (ix3 i g j) = ((count 256 (2 ^ g.val) i.val : ℝ) : EReal) := v53_at g i j

theorem v49_at : val_main_v49 (F := Ideal) x1 (ix3 i g j) = ∑ s : Fin 256, x1 (ix2 (hi s) (ucol g j)) * ind (2 ^ g.val) i.val s.val := by
  pointwise! [val_main_v49, val_main_v48, v47_at, v36_at]

theorem v55_at : val_main_v55 (F := Ideal) x1 (ix3 i g j) = zV x1 g (hi i) j := by
  rw [zV, both_hi]
  pointwise! [val_main_v55, val_main_v54, v49_at, v53_at, v36_at, zf]

theorem v58_at : val_main_v58 (F := Ideal) x1 x3 (ix2 i (col g j)) = mV x1 x3 g (hi i) j := by
  pointwise! [val_main_v58, val_main_v57, val_main_v56, v55_at, mV]
  simp only [col_div, col_mod, mul_comm (x3 _)]

theorem v60_at : val_main_v60 (F := Ideal) x2 (ix2 i (col g j)) = x2 (ix1 (col g j)) := by
  pointwise! [val_main_v60, val_main_v59]

theorem v72_at : val_main_v72 (F := Ideal) x2 (ix2 i (col g j)) = x2 (ix1 (col g j)) := by
  pointwise! [val_main_v72, val_main_v59]

theorem v7_at : val_main_v7 (F := Ideal) x1 (ix2 i (col g j)) = x1 (ix2 (hi i) (gcol g j)) := by
  pointwise! [val_main_v7, val_main_v5, val_main_v0]

theorem v65_at : val_main_v65 (F := Ideal) x0 (ix2 i (col g j)) = x0 (ix2 (hi i) (col g j)) := by
  pointwise! [val_main_v65, val_main_v1]

theorem v62_2_at : val_main_v62_2 (F := Ideal) x1 (ix2 i (col g j)) = logi (x1 (ix2 (hi i) (gcol g j))) := by
  rw [logi]
  pointwise! [val_main_v62_2, val_main_call1_v4, val_main_call1_v3, val_main_call1_v2, val_main_call1_v1, val_main_call1_v0, v7_at,
    val_main_call1_cst, val_main_call1_cst_0]

theorem v62_0_at : val_main_v62_0 (F := Ideal) x1 (ix2 i (col g j)) = siluV x1 g (hi i) j := by
  pointwise! [val_main_v62_0, v62_2_at, v7_at, siluV]

theorem v62_1_at : val_main_v62_1 (F := Ideal) x1 (ix2 i (col g j))
    = logi (x1 (ix2 (hi i) (gcol g j))) * (1 - logi (x1 (ix2 (hi i) (gcol g j)))) := by
  pointwise! [val_main_v62_1, val_main_call1_v7, val_main_call1_v6, v62_2_at, val_main_call1_cst_1]

/-- The output's rows. -/
theorem v63_at : val_main_v63 (F := Ideal) x1 x2 x3 (ix2 i (col g j)) = aV x1 x2 x3 g (hi i) j := by
  pointwise! [val_main_v63, val_main_v61, v58_at, v60_at, v62_0_at, aV]

theorem v73_at : val_main_v73 (F := Ideal) x0 x1 x2 (ix2 i (col g j)) = dmV x0 x1 x2 g (hi i) j := by
  rw [dmV, mul_assoc, mul_comm (x2 (ix1 (col g j))), ← mul_assoc]
  pointwise! [val_main_v73, val_main_v67, v65_at, v62_0_at, v72_at]

theorem v76_at : val_main_v76 (F := Ideal) x0 x1 x2 (ix3 g j i) = dmV x0 x1 x2 g (hi i) j := by
  rw [← v73_at]
  pointwise! [val_main_v76, val_main_v75]

theorem v78_at : val_main_v78 (F := Ideal) x0 x1 x2 x3 (ix3 i g j) = dzV x0 x1 x2 x3 g (hi i) j := by
  pointwise! [val_main_v78, val_main_v77, v76_at, dzV]

/-- The gradient of `u` in the segment's rows. -/
theorem v88_at : val_main_v88 (F := Ideal) x0 x1 x2 x3 (ix2 i (col g j)) = duV x0 x1 x2 x3 g (hi i) j := by
  have e : val_main_v87 (F := Ideal) x0 x1 x2 x3 (ix3 i g j) = duV x0 x1 x2 x3 g (hi i) j := by
    rw [duV, both_hi, dzf, sub_eq_add_neg, add_comm]
    pointwise! [val_main_v87, val_main_v86, val_main_v85, val_main_v84, val_main_v83, v82_at, val_main_v81, v78_at, v53_at, v47_at]
  rw [← e, val_main_v88_apply]
  refine congrArg _ (funext fun a => Fin.ext ?_)
  match a with
  | ⟨0, _⟩ => show (i.val * 1024 + (g.val * 256 + j.val)) / 1024 = i.val; omega
  | ⟨1, _⟩ => show (i.val * 1024 + (g.val * 256 + j.val)) / 256 % 4 = g.val; omega
  | ⟨2, _⟩ => show (i.val * 1024 + (g.val * 256 + j.val)) % 256 = j.val; omega

/-- The gradient of the gate in the segment's rows, for real arguments. -/
theorem v68_at (hx : IsReal (x0 (ix2 (hi i) (col g j)))) (hm : IsReal (mV x1 x3 g (hi i) j)) (hc : IsReal (x2 (ix1 (col g j))))
    (hg : IsReal (x1 (ix2 (hi i) (gcol g j)))) :
    val_main_v68 (F := Ideal) x0 x1 x2 x3 (ix2 i (col g j)) = dgateV x0 x1 x2 x3 g (hi i) j := by
  rw [dgateV, gate_eq hx hm hc hg (logi_real hg)]
  pointwise! [val_main_v68, val_main_call2_v1, val_main_call2_v2, val_main_call2_v0, val_main_v66, v65_at, val_main_v61, v58_at, v60_at,
    v7_at, v62_1_at, v62_2_at]

/-- The segment's part of the scale's gradient. -/
theorem v74_at : val_main_v74 (F := Ideal) x0 x1 x3 (ix1 (col g j))
    = ∑ r : Fin 256, x0 (ix2 (hi r) (col g j)) * mV x1 x3 g (hi r) j * siluV x1 g (hi r) j := by
  pointwise! [val_main_v74, val_main_v71, val_main_v70, val_main_v69, val_main_v67, v65_at, v58_at, v62_0_at, val_main_cst_2,
    val_main_cst_3]
  simp only [Finset.univ_unique, Finset.sum_singleton]
  exact Finset.sum_congr rfl fun r _ => by rw [mul_left_comm, ← mul_assoc]

/-- The segment's part of the mixing weights' gradient. -/
theorem v80_at (k : Fin 256) : val_main_v80 (F := Ideal) x0 x1 x2 (ix3 g k j)
    = ∑ r : Fin 256, zV x1 g (hi r) k * dmV x0 x1 x2 g (hi r) j := by
  pointwise! [val_main_v80, val_main_v79, v76_at, v55_at]

end

/-! ## Both segments -/

section
variable (p : (⟨S2048x1024, .f32⟩ : BufTy).Contents (Elt Ideal)) (q : (⟨S256x1024, .f32⟩ : BufTy).Contents (Elt Ideal))

/-- The segments' rows one below the other. -/
abbrev below : (⟨S2304x1024, .f32⟩ : BufTy).Contents (Elt Ideal) :=
  concatenate S2304x1024 0 [⟨S2048x1024, p⟩, ⟨S256x1024, q⟩] concatenates_S2048x1024_S256x1024_S2304x1024_d0

theorem below_lo (i : Fin 2048) (l : Fin 1024) : below p q (ix2 (lo i) l) = p (ix2 i l) :=
  concatenate_pair_apply_left 0 p q _ (ix2 (lo i) l) rfl (ix2 i l) fun b => match b with
    | ⟨0, _⟩ => rfl
    | ⟨1, _⟩ => rfl

theorem below_hi (i : Fin 256) (l : Fin 1024) : below p q (ix2 (hi i) l) = q (ix2 i l) :=
  concatenate_pair_apply_right 0 p q _ (ix2 (hi i) l) rfl rfl (ix2 i l) (fun b => match b with
    | ⟨0, _⟩ => fun h => absurd rfl h
    | ⟨1, _⟩ => fun _ => rfl) (by show i.val + 2048 = 2048 + i.val; omega)

end

section
variable (x0 : (⟨S2304x1024, .bf16⟩ : BufTy).Contents (Elt Ideal)) (x1 : (⟨S2304x2048, .bf16⟩ : BufTy).Contents (Elt Ideal))
  (x2 : (⟨S1024, .f32⟩ : BufTy).Contents (Elt Ideal)) (x3 : (⟨S4x256x256, .f32⟩ : BufTy).Contents (Elt Ideal))
  (g : Fin 4) (i : Fin 2304) (j : Fin 256)

/-- The layer's output. -/
theorem v120_at : val_main_v120 (F := Ideal) x1 x2 x3 (ix2 i (col g j)) = aV x1 x2 x3 g i j := by
  show below (val_main_v35 (F := Ideal) x1 x2 x3) (val_main_v63 (F := Ideal) x1 x2 x3) (ix2 i (col g j)) = _
  obtain ⟨r, rfl⟩ | ⟨r, rfl⟩ := row_cases i
  · rw [below_lo, v35_at]
  · rw [below_hi, v63_at]

/-- The gradient of `u`. -/
theorem v121_at0 : val_main_v121 (F := Ideal) x0 x1 x2 x3 (ix3 0 i (col g j)) = duV x0 x1 x2 x3 g i j := by
  have e : val_main_v121 (F := Ideal) x0 x1 x2 x3 (ix3 0 i (col g j))
      = below (val_main_v113 (F := Ideal) x0 x1 x2 x3) (val_main_v88 (F := Ideal) x0 x1 x2 x3) (ix2 i (col g j)) := by
    rw [show below (val_main_v113 (F := Ideal) x0 x1 x2 x3) (val_main_v88 (F := Ideal) x0 x1 x2 x3) = val_main_v114 (F := Ideal) x0 x1 x2 x3 from rfl]
    pointwise! [val_main_v121, val_main_v118, val_main_v116]
  rw [e]
  obtain ⟨r, rfl⟩ | ⟨r, rfl⟩ := row_cases i
  · rw [below_lo, v113_at]
  · rw [below_hi, v88_at]

/-- The gradient of the gate, for real arguments. -/
theorem v121_at1 (hx : IsReal (x0 (ix2 i (col g j)))) (hm : IsReal (mV x1 x3 g i j)) (hc : IsReal (x2 (ix1 (col g j))))
    (hg : IsReal (x1 (ix2 i (gcol g j)))) : val_main_v121 (F := Ideal) x0 x1 x2 x3 (ix3 1 i (col g j)) = dgateV x0 x1 x2 x3 g i j := by
  have e : val_main_v121 (F := Ideal) x0 x1 x2 x3 (ix3 1 i (col g j))
      = below (val_main_v91 (F := Ideal) x0 x1 x2 x3) (val_main_v68 (F := Ideal) x0 x1 x2 x3) (ix2 i (col g j)) := by
    rw [show below (val_main_v91 (F := Ideal) x0 x1 x2 x3) (val_main_v68 (F := Ideal) x0 x1 x2 x3) = val_main_v115 (F := Ideal) x0 x1 x2 x3 from rfl]
    pointwise! [val_main_v121, val_main_v118, val_main_v117]
  rw [e]
  obtain ⟨r, rfl⟩ | ⟨r, rfl⟩ := row_cases i
  · rw [below_lo, v91_at _ _ _ _ g r j hx hm hc hg]
  · rw [below_hi, v68_at _ _ _ _ g r j hx hm hc hg]

/-- The gradient of the scale. -/
theorem v122_at : val_main_v122 (F := Ideal) x0 x1 x3 (ix2 0 (col g j)) = dscaleV x0 x1 x3 g j := by
  rw [dscaleV, sum_rows, add_comm]
  pointwise! [val_main_v122, val_main_v98, v74_at, v97_at]

/-- The gradient of the mixing weights. -/
theorem v123_at (k : Fin 256) : val_main_v123 (F := Ideal) x0 x1 x2 (ix3 g k j) = dwV x0 x1 x2 g j k := by
  rw [dwV, sum_rows, add_comm]
  pointwise! [val_main_v123, val_main_v105, v80_at, v104_at]

end

end Cert.PoolP0RIdeal.Hand

end
-- ==== Proof.PoolP0Run.lean ====
/-
  The calls of the pooling layer on two segments one after another: what the forward call leaves is what the backward calls read.
-/
module

public import proofs.«01_k».proof.Proof.PoolP0Fwd
public import proofs.«01_k».proof.Proof.PoolP0Bwd
public import proofs.«01_k».proof.Proof.PoolP0Ref
public import proofs.«01_k».proof.Proof.Gen.PoolP0KIdeal.Frame

@[expose] public section

set_option maxRecDepth 16384

noncomputable section

namespace Cert.PoolP0KIdeal.Hand

open Cert.PoolP0KIdeal Cert.PoolP0KIdeal.Gen Cert.PoolP0 Cert.Finite
open Cert.Pool (perCol perCol_at planes planes_at0 planes_at1 col gcol exists_col)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What one of the four arrays holds at the end. -/
abbrev endOf (c : Dev nD) (b : Ref sig .tc) := W5 m ρ c (Proc.devRef .tc b)

set_option backward.isDefEq.respectTransparency.types false in
/-- The program's run, with what its results hold at the end. -/
theorem run_all : θ_run defs (onTc (τ := τ) (main (F := Ideal))) ⟨m, fun _ => 0, ρ⟩ (fun r => ∀ c : Dev nD,
      (r.2.mem ((c.tc : Thread nD τ).loc main_v2_2) = endOf m ρ c main_v2_2
        ∧ r.2.mem ((c.tc : Thread nD τ).loc main_v4_1) = endOf m ρ c main_v4_1
        ∧ r.2.mem ((c.tc : Thread nD τ).loc main_v4_2) = endOf m ρ c main_v4_2
        ∧ r.2.mem ((c.tc : Thread nD τ).loc main_v5) = endOf m ρ c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨⟨h c _ (mem_uc main_v2_2 (by decide)), h c _ (mem_uc main_v4_1 (by decide)), h c _ (mem_uc main_v4_2 (by decide)), h c _ (mem_uc main_v5 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

section
variable (c : Dev nD)

/-- The arguments. -/
abbrev X0 : FVec Ideal S2304x1024 .bf16 := m ((c : Thread nD τ).loc main_arg0)
abbrev X1 : FVec Ideal S2304x2048 .bf16 := m ((c : Thread nD τ).loc main_arg1)
abbrev X2 : FVec Ideal S1024 .f32 := m ((c : Thread nD τ).loc main_arg2)
abbrev X3 : FVec Ideal S4x256x256 .f32 := m ((c : Thread nD τ).loc main_arg3)

/-- A vector spread over one row. -/
theorem row_at (x : FVec Ideal S1024 .f32) (l : Fin 1024) :
    (broadcastInDim S1x1024 ![1] bcast_S1024_S1x1024_1 x : (⟨S1x1024, .f32⟩ : BufTy).Contents (Elt Ideal)) (ix2 0 l) = x (ix1 l) := by
  pointwise []

/-! ### What the forward call reads -/

theorem v1_x1 : V1 m ρ c main_arg1 = X1 m c := W1_args m ρ c _ (by decide)

theorem v1_w (i : S4x256x256.Idx) : V1 m ρ c main_v0 i = X3 m c i := by
  show StableHlo.after hostOps0 (W0 m ρ c) (Proc.devRef .tc main_v0) i = _
  rfl

theorem v1_scale (l : Fin 1024) : V1 m ρ c main_v1 (ix2 0 l) = X2 m c (ix1 l) := by
  show (broadcastInDim S1x1024 ![1] bcast_S1024_S1x1024_1 (X2 m c) : (⟨S1x1024, .f32⟩ : BufTy).Contents (Elt Ideal)) (ix2 0 l) = _
  exact row_at _ l

/-! ### What the backward call reads -/

theorem v3_x0 : V3 m ρ c main_arg0 = X0 m c := W3_args m ρ c _ (by decide)
theorem v3_x1 : V3 m ρ c main_arg1 = X1 m c := W3_args m ρ c _ (by decide)

theorem v3_w (i : S4x256x256.Idx) : V3 m ρ c main_v0 i = X3 m c i := by
  show W3 m ρ c (Proc.devRef .tc main_v0) i = _
  rw [W3_of m ρ c main_v0 (by decide), W2_of m ρ c main_v0 (by decide +kernel)]
  exact v1_w m ρ c i

theorem v3_scale (l : Fin 1024) : V3 m ρ c main_v3 (ix2 0 l) = X2 m c (ix1 l) := by
  rw [X2, ← W2_args m ρ c main_arg2 (by decide)]
  show (broadcastInDim S1x1024 ![1] bcast_S1024_S1x1024_1 (W2 m ρ c (Proc.devRef .tc main_arg2)) : (⟨S1x1024, .f32⟩ : BufTy).Contents (Elt Ideal)) (ix2 0 l) = _
  exact row_at _ l

theorem v3_mixed : V3 m ρ c main_v2_1 = perCol (mV (X1 m c) (X3 m c)) :=
  (W3_of m ρ c main_v2_1 (by decide)).trans ((W2_arr m ρ c 5).trans (mixed_final (V1 m ρ) c (v1_x1 m ρ c) (v1_w m ρ c)))

theorem v3_z : W3 m ρ c (Proc.devRef .tc main_v2_0) = perCol (zV (X1 m c)) :=
  (W3_of m ρ c main_v2_0 (by decide)).trans ((W2_arr m ρ c 4).trans (z_final (V1 m ρ) c (v1_x1 m ρ c)))

/-! ### What the last call reads -/

theorem v4_z : V4 m ρ c main_v2_0 = perCol (zV (X1 m c)) :=
  (W4_of m ρ c main_v2_0 (by decide +kernel)).trans (v3_z m ρ c)

theorem v4_dm : V4 m ρ c main_v4_0 = perCol (dmV (X0 m c) (X1 m c) (X2 m c)) :=
  (W4_arr m ρ c 5).trans (dm_final (V3 m ρ) c (v3_x0 m ρ c) (v3_x1 m ρ c) (v3_scale m ρ c))

/-! ### The results -/

theorem end_a : endOf m ρ c main_v2_2 = perCol (aV (X1 m c) (X2 m c) (X3 m c)) :=
  (W5_of m ρ c main_v2_2 (by decide +kernel)).trans ((W4_of m ρ c main_v2_2 (by decide +kernel)).trans
    ((W3_of m ρ c main_v2_2 (by decide)).trans ((W2_arr m ρ c 6).trans (act_final (V1 m ρ) c (v1_x1 m ρ c) (v1_w m ρ c) (v1_scale m ρ c)))))

theorem end_duv : endOf m ρ c main_v4_1
    = planes (duV (X0 m c) (X1 m c) (X2 m c) (X3 m c)) (dgateV (X0 m c) (X1 m c) (X2 m c) (X3 m c)) :=
  (W5_of m ρ c main_v4_1 (by decide +kernel)).trans ((W4_arr m ρ c 6).trans
    (duv_final (V3 m ρ) c (v3_x0 m ρ c) (v3_x1 m ρ c) (v3_scale m ρ c) (v3_w m ρ c) (v3_mixed m ρ c)))

theorem end_dscale : endOf m ρ c main_v4_2 = perCol fun g (_ : Fin 1) j => dscaleV (X0 m c) (X1 m c) (X3 m c) g j :=
  (W5_of m ρ c main_v4_2 (by decide +kernel)).trans ((W4_arr m ρ c 7).trans
    (dscale_final (V3 m ρ) c (v3_x0 m ρ c) (v3_x1 m ρ c) (v3_mixed m ρ c)))

theorem end_dw : endOf m ρ c main_v5 = dwA (X0 m c) (X1 m c) (X2 m c) :=
  (W5_arr m ρ c 2).trans (dw_final (V4 m ρ) c (v4_z m ρ c) (v4_dm m ρ c))

/-- Arguments that are real numbers. -/
def Reals : Prop := (∀ i, IsReal (X0 m c i)) ∧ (∀ i, IsReal (X1 m c i)) ∧ (∀ i, IsReal (X2 m c i)) ∧ ∀ i, IsReal (X3 m c i)

end

open Cert.PoolP0RIdeal.Read in
/-- The run's results are the derivative's. -/
theorem run (hr : ∀ c, Reals m c) : θ_run defs (onTc (τ := τ) (main (F := Ideal))) ⟨m, fun _ => 0, ρ⟩ (fun r => ∀ c : Dev nD,
      r.2.mem ((c.tc : Thread nD τ).loc main_v2_2) = val_main_v120 (F := Ideal) (X1 m c) (X2 m c) (X3 m c)
      ∧ r.2.mem ((c.tc : Thread nD τ).loc main_v4_1) = val_main_v121 (F := Ideal) (X0 m c) (X1 m c) (X2 m c) (X3 m c)
      ∧ r.2.mem ((c.tc : Thread nD τ).loc main_v4_2) = val_main_v122 (F := Ideal) (X0 m c) (X1 m c) (X3 m c)
      ∧ r.2.mem ((c.tc : Thread nD τ).loc main_v5) = val_main_v123 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (run_all m ρ)
  obtain ⟨⟨ha, hd, hc, hw⟩, hargs⟩ := h c
  obtain ⟨r0, r1, r2, r3⟩ := hr c
  refine ⟨(ha.trans (end_a m ρ c)).trans ?_, (hd.trans (end_duv m ρ c)).trans ?_, (hc.trans (end_dscale m ρ c)).trans ?_,
    (hw.trans (end_dw m ρ c)).trans ?_, hargs⟩
  · funext y
    idx_vars y
    obtain ⟨g, j, rfl⟩ := exists_col y1
    exact (perCol_at _ g y0 j).trans (Cert.PoolP0RIdeal.Hand.v120_at _ _ _ g y0 j).symm
  · funext y
    idx_vars y
    obtain ⟨g, j, rfl⟩ := exists_col y2
    obtain rfl | rfl : y0 = 0 ∨ y0 = 1 := by
      rcases y0 with ⟨_ | _ | _, h⟩
      · exact .inl rfl
      · exact .inr rfl
      · exact absurd h (by show ¬ _ < 2; omega)
    · exact (planes_at0 _ _ g y1 j).trans (Cert.PoolP0RIdeal.Hand.v121_at0 _ _ _ _ g y1 j).symm
    · exact (planes_at1 _ _ g y1 j).trans (Cert.PoolP0RIdeal.Hand.v121_at1 _ _ _ _ g y1 j (r0 _) (mV_real g y1 j r1 r3) (r2 _) (r1 _)).symm
  · funext y
    idx_vars y
    obtain rfl : y0 = 0 := Subsingleton.elim _ _
    obtain ⟨g, j, rfl⟩ := exists_col y1
    exact (perCol_at _ g (0 : Fin 1) j).trans (Cert.PoolP0RIdeal.Hand.v122_at _ _ _ g j).symm
  · funext y
    idx_vars y
    exact (Cert.PoolP0RIdeal.Hand.v123_at _ _ _ y0 y2 y1).symm

end Cert.PoolP0KIdeal.Hand

end
-- ==== Proof.PoolP0Claim.lean ====
/-
  The pooling layer on two segments: the forward call's rows and the backward calls' gradients are the reference's.
-/
module

public import proofs.«01_k».proof.Defs
public import proofs.«01_k».proof.Proof.PoolP0Run
public import proofs.«01_k».proof.Proof.Gen.PoolP0RIdeal.Run
public import Idealize.ShloMosaic.Lib.Claim
public import Idealize.ShloMosaic.Lib.Quiescent

@[expose] public section

set_option maxRecDepth 16384

namespace Cert.Proof

open Idealize.ShloMosaic Idealize.ShloMosaic.TcCoe Idealize.SL.Sem
open Cert.PoolP0RIdeal.Read

/-- The shape relations the precondition's operations take. -/
theorem poolp0_pre_facts : Cert.Pre_poolp0_finite.Facts := by
  constructor <;> decide

/-- The precondition makes every argument's entries real numbers. -/
theorem poolp0_reals [Cert.Pre_poolp0_finite.Facts] (m : (ℓ : Loc Cert.PoolP0KIdeal.nD Cert.PoolP0KIdeal.τ Cert.PoolP0KIdeal.sig) → Buf (Elt Ideal) ℓ)
    (h : Cert.Pre_PoolP0KIdeal_poolp0_finite m) (c : Dev Cert.PoolP0KIdeal.nD) : Cert.PoolP0KIdeal.Hand.Reals m c := by
  have e := congrFun (h c) (fun a => a.elim0)
  obtain ⟨e, h3⟩ := Cert.Finite.and_split e
  obtain ⟨e, h2⟩ := Cert.Finite.and_split e
  obtain ⟨h0, h1⟩ := Cert.Finite.and_split e
  exact ⟨Cert.Finite.of_all _ _ _ _ _ _ h0, Cert.Finite.of_all _ _ _ _ _ _ h1, Cert.Finite.of_all _ _ _ _ _ _ h2, Cert.Finite.of_all _ _ _ _ _ _ h3⟩

/-- The reference runs and leaves its arguments. -/
theorem poolp0_reference_frame : Cert.quiescent_PoolP0RIdeal := by
  intro m g _
  exact (θ_run _ _ _).mono (fun r h => ⟨fun c => (h c).2.2.2.2, sem_eq_zero_of_no_sems rfl _⟩)
    (Cert.PoolP0RIdeal.Value.run m g)

/-- The layer's output and its four gradients are the reference's. -/
theorem poolp0_value [Cert.Pre_poolp0_finite.Facts] : Cert.algebraic_PoolP0KIdeal_PoolP0RIdeal_pre_poolp0_finite := by
  pair_intro
  · run_from Cert.PoolP0KIdeal.Hand.run m g (fun c => poolp0_reals m ‹_› c)
  · refine (θ_run _ _ _).mono (fun r h c => ?_) (Cert.PoolP0RIdeal.Value.run m' g')
    obtain ⟨e0, e1, e2, e3⟩ := hagree c
    obtain ⟨h0, h1, h2, h3, ha⟩ := h c
    refine ⟨h0.trans ?_, h1.trans ?_, h2.trans ?_, h3.trans ?_, ha⟩
    · unfold Cert.PoolP0RIdeal.Value.res_main_v120
      rw [e1, e2, e3]; rfl
    · unfold Cert.PoolP0RIdeal.Value.res_main_v121
      rw [e0, e1, e2, e3]; rfl
    · unfold Cert.PoolP0RIdeal.Value.res_main_v122
      rw [e0, e1, e3]; rfl
    · unfold Cert.PoolP0RIdeal.Value.res_main_v123
      rw [e0, e1, e2]; rfl

end Cert.Proof

end
-- ==== Proof.ConvF.lean ====
/-
  The short convolution's forward call: each block's columns are the reference's columns.
-/
module

public import proofs.«01_k».proof.Proof.Gen.ConvFKIdeal.Value
public import proofs.«01_k».proof.Proof.Gen.ConvFRIdeal.Run
public import proofs.«01_k».proof.Proof.Gen.ConvFRIdeal.Read
public import proofs.«01_k».proof.Proof.Conv

@[expose] public section

set_option maxRecDepth 16384

noncomputable section

namespace Cert.ConvFKIdeal.Hand

open Cert.ConvFKIdeal Cert.ConvFKIdeal.Gen
open Idealize.ShloMosaic Idealize.ShloMosaic.TcCoe Idealize.SL.Sem
open Idealize.ShloMosaic.Pipeline (Dat)
open Cert.ConvFRIdeal.Read
open Cert.ConvKIdeal.Hand (before after conv logi rotate_before rotate_after)

/-- Where each window's block sits: a column block of each array moves with the point. -/
theorem idx : ∀ t : Fin cfg0.N, win0_0.index t = ![0, t.val] ∧ win0_1.index t = ![0, 8 + t.val]
    ∧ win0_2.index t = ![0, 16 + t.val] ∧ win0_3.index t = ![0, 24 + t.val]
    ∧ win0_4.index t = ![0, t.val] ∧ win0_5.index t = ![0, t.val] ∧ win0_6.index t = ![0, t.val] :=
  (by decide +kernel : ∀ t : Fin grid0.N, _)

section
variable (b c v g : FVec Ideal S2048x128 .bf16) (w0 w1 w2 wb : FVec Ideal S1x128 .f32) (y : FVec Ideal S2048x128 .f32)
  (i : Fin 2048) (l : Fin 128)

/-- The convolved product of a block, times the inner gate. -/
theorem pay2_at : k0_pay2 (F := Ideal) c v w0 w1 w2 wb b (ix2 i l)
    = b (ix2 i l) * conv (fun k => c (ix2 k l) * v (ix2 k l)) (w0 (ix2 0 l)) (w1 (ix2 0 l)) (w2 (ix2 0 l)) (wb (ix2 0 l)) i := by
  rw [conv, ← rotate_before _ i (Nat.mod_lt _ (by decide)), ← rotate_after _ i (Nat.mod_lt _ (by decide))]
  pointwise [k0_pay2]

/-- The outer gate of a block. -/
theorem pay1_at : k0_pay1 (F := Ideal) y (k0_pay3 g) (Scalar.ofBits .f32 0x00000000#32) (ix2 i l)
    = y (ix2 i l) * (g (ix2 i l) * logi (g (ix2 i l))) := by
  rw [logi, ← zero_sub]
  pointwise [k0_pay1, k0_pay3]

end

section
variable (x0 : FVec Ideal S2048x4096 .bf16) (x1 : FVec Ideal S3x1024 .f32) (x2 : FVec Ideal S1x1024 .f32) (i : Fin 2048) (j : Fin 1024)

theorem v8_at : val_main_v8 (F := Ideal) x0 (ix2 i j) = before (fun k => val_main_v5 (F := Ideal) x0 (ix2 k j)) i := by
  pointwise [val_main_v8, val_main_v7, val_main_v6, val_main_cst]
  unfold before
  by_cases h : 1 ≤ i.val
  · rw [dif_neg (by omega), dif_pos h]
  · rw [dif_pos (by omega), dif_neg h]

theorem v10_at : val_main_v10 (F := Ideal) x0 (ix2 i j) = after (fun k => val_main_v5 (F := Ideal) x0 (ix2 k j)) i := by
  pointwise [val_main_v10, val_main_v9, val_main_v6, val_main_cst]
  rfl

/-- The reference's convolution. -/
theorem v29_at : val_main_v29 (F := Ideal) x0 x1 x2 (ix2 i j)
    = conv (fun k => val_main_v5 (F := Ideal) x0 (ix2 k j)) (x1 (ix2 0 j)) (x1 (ix2 1 j)) (x1 (ix2 2 j)) (x2 (ix2 0 j)) i := by
  rw [conv, ← v8_at, ← v10_at, mul_comm (x1 (ix2 0 j)), mul_comm (x1 (ix2 1 j)), mul_comm (x1 (ix2 2 j))]
  pointwise! [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11]

/-- The reference's result. -/
theorem v33_at : val_main_v33 (F := Ideal) x0 x1 x2 (ix2 i j)
    = val_main_v1 (F := Ideal) x0 (ix2 i j) * val_main_v29 (F := Ideal) x0 x1 x2 (ix2 i j)
      * (val_main_v4 (F := Ideal) x0 (ix2 i j) * logi (val_main_v4 (F := Ideal) x0 (ix2 i j))) := by
  rw [logi]
  pointwise [val_main_v33, val_main_v32, val_main_v31, val_main_v30, val_main_call0_v0, val_main_call0_v1, val_main_call0_v2, val_main_call0_v3,
    val_main_call0_v4, val_main_call0_v5, val_main_call0_cst, val_main_call0_cst_0]

end

/-- Column `l` of the blocks being column `j` of the arrays, the block's result is the reference's. -/
theorem column_eq {b c v g : FVec Ideal S2048x128 .bf16} {w0 w1 w2 wb : FVec Ideal S1x128 .f32} {x0 : FVec Ideal S2048x4096 .bf16}
    {x1 : FVec Ideal S3x1024 .f32} {x2 : FVec Ideal S1x1024 .f32} {l : Fin 128} {j : Fin 1024} (i : Fin 2048)
    (hb : ∀ k, b (ix2 k l) = val_main_v1 (F := Ideal) x0 (ix2 k j)) (hc : ∀ k, c (ix2 k l) = val_main_v2 (F := Ideal) x0 (ix2 k j))
    (hv : ∀ k, v (ix2 k l) = val_main_v3 (F := Ideal) x0 (ix2 k j)) (hg : ∀ k, g (ix2 k l) = val_main_v4 (F := Ideal) x0 (ix2 k j))
    (h0 : w0 (ix2 0 l) = x1 (ix2 0 j)) (h1 : w1 (ix2 0 l) = x1 (ix2 1 j)) (h2 : w2 (ix2 0 l) = x1 (ix2 2 j)) (h3 : wb (ix2 0 l) = x2 (ix2 0 j)) :
    k0_pay1 (F := Ideal) (k0_pay2 c v w0 w1 w2 wb b) (k0_pay3 g) (Scalar.ofBits .f32 0x00000000#32) (ix2 i l)
      = val_main_v33 (F := Ideal) x0 x1 x2 (ix2 i j) := by
  have e : (fun k => c (ix2 k l) * v (ix2 k l)) = fun k => val_main_v5 (F := Ideal) x0 (ix2 k j) := funext fun k => by
    rw [hc, hv]
    pointwise [val_main_v5]
  rw [pay1_at, pay2_at, v33_at, v29_at, hb, hg, h0, h1, h2, h3, e]

section
variable (m : (ℓ : Loc nD τ sig) → Buf (Elt Ideal) ℓ) (ch : Dev nD)

/-- The four packed inputs, the taps and the bias. -/
abbrev A0 : FVec Ideal S2048x4096 .bf16 := m ((ch : Thread nD τ).loc main_arg0)
abbrev A1 : FVec Ideal S3x1024 .f32 := m ((ch : Thread nD τ).loc main_arg1)
abbrev A2 : FVec Ideal S1x1024 .f32 := m ((ch : Thread nD τ).loc main_arg2)

/-- The call's result after the run. -/
theorem a_final : (dats m 0 ch).arrAt 6 cfg0.N = val_main_v33 (F := Ideal) (A0 m ch) (A1 m ch) (A2 m ch) := by
  refine (dats m 0 ch).arrAt_eq_of_covers 6 _ (by decide +kernel) fun t _ y => ?_
  have hN : t.val < 8 := lt_of_lt_of_eq t.isLt N_0
  blk_simp
  rw [after0_6]
  frame_out
  idx_vars y
  refine (column_eq (x0 := A0 m ch) (x1 := A1 m ch) (x2 := A2 m ch) (j := ⟨t.val * 128 + y1.val, by omega⟩) y0 ?_ ?_ ?_ ?_ ?_ ?_ ?_ ?_).trans ?_
  · intro k
    pointwise [val_main_v1, val_main_v0, A0]
    blk_ext [iblk, V, idx t]
  · intro k
    pointwise [val_main_v2, val_main_v0, A0]
    blk_ext [iblk, V, idx t]
  · intro k
    pointwise [val_main_v3, val_main_v0, A0]
    blk_ext [iblk, V, idx t]
  · intro k
    pointwise [val_main_v4, val_main_v0, A0]
    blk_ext [iblk, V, idx t]
  · pointwise [A1]
    blk_ext [iblk, V, idx t]
  · pointwise [A1]
    blk_ext [iblk, V, idx t]
  · pointwise [A1]
    blk_ext [iblk, V, idx t]
  · unfold A2
    blk_ext [iblk, V, idx t]
  · blk_ext [iblk, V, idx t]

end

end Cert.ConvFKIdeal.Hand

end
end
-- ==== Proof.ConvFClaim.lean ====
/-
  The short convolution's forward call: its result is the plain forward lines'.
-/
module

public import proofs.«01_k».proof.Defs
public import proofs.«01_k».proof.Proof.ConvF
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem convf_reference_frame : Cert.quiescent_ConvFRIdeal := by
  intro m g _
  exact (θ_run _ _ _).mono (fun r h => ⟨fun c => (h c).2, sem_eq_zero_of_no_sems rfl _⟩)
    (Cert.ConvFRIdeal.Value.run m g)

/-- The call's result is the reference's. -/
theorem convf_value : Cert.algebraic_ConvFKIdeal_ConvFRIdeal := by
  pair_intro
  · run_from Cert.ConvFKIdeal.Gen.run_main m g
  · run_from Cert.ConvFRIdeal.Value.run m' g'
    · exact (Cert.ConvFKIdeal.Hand.a_final m c).symm

end Cert.Proof

end
-- ==== Proof.Resid.lean ====
/-
  The output product with the gated residual, one segment: each tile's rows are the reference's rows.
-/
module

public import proofs.«01_k».proof.Proof.Gen.ResidKIdeal.Value
public import proofs.«01_k».proof.Proof.Gen.ResidRIdeal.Run
public import proofs.«01_k».proof.Proof.Gen.ResidRIdeal.Read
public import Idealize.ShloMosaic.Lib.Pipeline.ValueKit
public import Idealize.ShloMosaic.Lib.Pointwise

@[expose] public section

set_option maxRecDepth 16384

noncomputable section

namespace Cert.ResidKIdeal.Hand

open Cert.ResidKIdeal Cert.ResidKIdeal.Gen
open Idealize.ShloMosaic Idealize.ShloMosaic.TcCoe Idealize.SL.Sem
open Idealize.ShloMosaic.Pipeline (Dat)
open Cert.ResidRIdeal.Read

/-- Where each window's block sits: the row windows move with the point, the others stay. -/
theorem idx : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] :=
  (by decide +kernel : ∀ t : Fin grid0.N, _)

section
variable (a : FVec Ideal S512x1024 .bf16) (w : FVec Ideal S1024x1024 .bf16) (x : FVec Ideal S512x1024 .f32) (g : FVec Ideal S1x1x1024 .f32)
  (i : Fin 512) (j : Fin 1024)

/-- A tile's product. -/
theorem pay1_at : k0_pay1 (F := Ideal) a w (ix2 i j) = ∑ k : Fin 1024, a (ix2 i k) * w (ix2 k j) := by
  pointwise [k0_pay1]

/-- A tile's residual. -/
theorem pay3_at : k0_pay3 (F := Ideal) a w x g (ix2 i j) = x (ix2 i j) + g (ix3 0 0 j) * ∑ k : Fin 1024, a (ix2 i k) * w (ix2 k j) := by
  rw [← pay1_at]
  pointwise [k0_pay3]

end

section
variable (m : (ℓ : Loc nD τ sig) → Buf (Elt Ideal) ℓ) (c : Dev nD)

/-- The layer's result, the residual, the gate and the weights. -/
abbrev A0 : FVec Ideal S2048x1024 .bf16 := m ((c : Thread nD τ).loc main_arg0)
abbrev A1 : FVec Ideal S2048x1024 .f32 := m ((c : Thread nD τ).loc main_arg1)
abbrev A2 : FVec Ideal S1024 .f32 := m ((c : Thread nD τ).loc main_arg2)
abbrev A3 : FVec Ideal S1024x1024 .f32 := m ((c : Thread nD τ).loc main_arg3)

/-- The weights and the gate, as the call finds them. -/
theorem w_entry (k j : Fin 1024) : (show EReal from V m c main_v0 (ix2 k j)) = A3 m c (ix2 k j) := by
  entry_read
  pointwise [A3]

theorem g_entry (j : Fin 1024) : (show EReal from V m c main_v1 (ix3 0 0 j)) = A2 m c (ix1 j) := by
  entry_read
  pointwise [A2]

/-- Row `i` of point `t`'s blocks is row `n` of the arrays. -/
theorem a_blk (t : Fin cfg0.N) (i : Fin 512) (n : Fin 2048) (h : n.val = t.val * 512 + i.val) (k : Fin 1024) :
    (iblk m c 0 t : FVec Ideal S512x1024 .bf16) (ix2 i k) = A0 m c (ix2 n k) := by
  blk_ext [iblk, V, idx t]

theorem x_blk (t : Fin cfg0.N) (i : Fin 512) (n : Fin 2048) (h : n.val = t.val * 512 + i.val) (k : Fin 1024) :
    (iblk m c 2 t : FVec Ideal S512x1024 .f32) (ix2 i k) = A1 m c (ix2 n k) := by
  blk_ext [iblk, V, idx t]

theorem w_blk (t : Fin cfg0.N) (k j : Fin 1024) : (iblk m c 1 t : FVec Ideal S1024x1024 .bf16) (ix2 k j) = A3 m c (ix2 k j) := by
  rw [← w_entry]
  blk_ext [iblk, V, idx t]

theorem g_blk (t : Fin cfg0.N) (j : Fin 1024) : (iblk m c 3 t : FVec Ideal S1x1x1024 .f32) (ix3 0 0 j) = A2 m c (ix1 j) := by
  rw [← g_entry]
  blk_ext [iblk, V, idx t]

/-- The product after the run. -/
theorem yx_final : (dats m 0 c).arrAt 4 cfg0.N = val_main_v2 (F := Ideal) (A0 m c) (A3 m c) := by
  refine (dats m 0 c).arrAt_eq_of_covers 4 _ (by decide +kernel) fun t _ y => ?_
  have hN : t.val < 4 := lt_of_lt_of_eq t.isLt N_0
  blk_simp
  rw [after0_4]
  frame_out
  idx_vars y
  refine Eq.trans (b := val_main_v2 (F := Ideal) (A0 m c) (A3 m c) (ix2 ⟨t.val * 512 + y0.val, by omega⟩ y1)) ?_ ?_
  · pointwise [k0_pay2, pay1_at, val_main_v2, val_main_v1, val_main_v0]
    exact Finset.sum_congr rfl fun k _ => Ideal.mul_congr (a_blk m c t y0 _ rfl k) (w_blk m c t k y1)
  · blk_ext [iblk, V, idx t]

/-- The gated residual after the run. -/
theorem xo_final : (dats m 0 c).arrAt 5 cfg0.N = val_main_v6 (F := Ideal) (A0 m c) (A1 m c) (A2 m c) (A3 m c) := by
  refine (dats m 0 c).arrAt_eq_of_covers 5 _ (by decide +kernel) fun t _ y => ?_
  have hN : t.val < 4 := lt_of_lt_of_eq t.isLt N_0
  blk_simp
  rw [after0_5]
  frame_out
  idx_vars y
  rw [pay3_at]
  refine Eq.trans (b := val_main_v6 (F := Ideal) (A0 m c) (A1 m c) (A2 m c) (A3 m c) (ix2 ⟨t.val * 512 + y0.val, by omega⟩ y1)) ?_ ?_
  · pointwise [val_main_v6, val_main_v5, val_main_v4, val_main_v3, val_main_v1, val_main_v0]
    exact Ideal.add_congr (x_blk m c t y0 _ rfl y1) (Ideal.mul_congr (g_blk m c t y1)
      (Finset.sum_congr rfl fun k _ => Ideal.mul_congr (a_blk m c t y0 _ rfl k) (w_blk m c t k y1)))
  · blk_ext [iblk, V, idx t]

end

end Cert.ResidKIdeal.Hand

end
end
-- ==== Proof.ResidClaim.lean ====
/-
  The output product with the gated residual (one segment): the call's results are the plain forward lines'.
-/
module

public import proofs.«01_k».proof.Defs
public import proofs.«01_k».proof.Proof.Resid
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem resid_reference_frame : Cert.quiescent_ResidRIdeal := by
  intro m g _
  exact (θ_run _ _ _).mono (fun r h => ⟨fun c => (h c).2.2, sem_eq_zero_of_no_sems rfl _⟩)
    (Cert.ResidRIdeal.Value.run m g)

/-- The call's two arrays are the reference's. -/
theorem resid_value : Cert.algebraic_ResidKIdeal_ResidRIdeal := by
  pair_intro
  · run_from Cert.ResidKIdeal.Gen.run_main m g
  · run_from Cert.ResidRIdeal.Value.run m' g'
    · exact (Cert.ResidKIdeal.Hand.yx_final m c).symm
    · exact (Cert.ResidKIdeal.Hand.xo_final m c).symm

end Cert.Proof

end
-- ==== Proof.Resid2.lean ====
/-
  The output product with the gated residual, two segments, each with its own gate: each tile's rows are the reference's rows.
-/
module

public import proofs.«01_k».proof.Proof.Gen.Resid2KIdeal.Value
public import proofs.«01_k».proof.Proof.Gen.Resid2RIdeal.Run
public import proofs.«01_k».proof.Proof.Gen.Resid2RIdeal.Read
public import proofs.«01_k».proof.Proof.Seg
public import Idealize.ShloMosaic.Lib.Pipeline.ValueKit
public import Idealize.ShloMosaic.Lib.Pointwise

@[expose] public section

set_option maxRecDepth 16384

noncomputable section

namespace Cert.Resid2KIdeal.Hand

open Cert.Resid2KIdeal Cert.Resid2KIdeal.Gen
open Idealize.ShloMosaic Idealize.ShloMosaic.TcCoe Idealize.SL.Sem
open Idealize.ShloMosaic.Pipeline (Dat)
open Cert.Resid2RIdeal.Read

/-- Where each window's block sits: the row windows move with the point, the others stay. -/
theorem idx : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] ∧ (grid0.coords t 0).val = t.val :=
  (by decide +kernel : ∀ t : Fin grid0.N, _)

section
variable (p : grid0.Coords) (a : FVec Ideal S768x1024 .bf16) (w : FVec Ideal S1024x1024 .bf16) (x : FVec Ideal S768x1024 .f32)
  (cg g : FVec Ideal S1x1x1024 .f32) (i : Fin 768) (j : Fin 1024)

/-- A tile's product. -/
theorem pay1_at : k0_pay1 (F := Ideal) a w (ix2 i j) = ∑ k : Fin 1024, a (ix2 i k) * w (ix2 k j) := by
  pointwise [k0_pay1]

/-- A tile's residual, each row by its segment's gate. -/
theorem pay3_at : k0_pay3 (F := Ideal) p a w x cg g (ix2 i j)
    = x (ix2 i j) + (if 2048 ≤ (p 0).val * 768 + i.val then cg (ix3 0 0 j) else g (ix3 0 0 j)) * ∑ k : Fin 1024, a (ix2 i k) * w (ix2 k j) := by
  rw [← pay1_at, ← Cert.Seg.select_test, ← Cert.Seg.ctx_word (p 0).isLt i.isLt]
  pointwise [k0_pay3]

end

section
variable (x0 : FVec Ideal S2304x1024 .bf16) (x1 : FVec Ideal S2304x1024 .f32) (x2 x3 : FVec Ideal S1024 .f32) (x4 : FVec Ideal S1024x1024 .f32)
  (n : Fin 2304) (j : Fin 1024)

theorem v2_at (i : Fin 2048) : val_main_v2 (F := Ideal) x0 x4 (ix2 i j) = ∑ k : Fin 1024, x0 (ix2 ⟨i.val, by omega⟩ k) * x4 (ix2 k j) := by
  pointwise! [val_main_v2, val_main_v1, val_main_v0]

theorem v5_at (i : Fin 256) : val_main_v5 (F := Ideal) x0 x4 (ix2 i j) = ∑ k : Fin 1024, x0 (ix2 ⟨2048 + i.val, by omega⟩ k) * x4 (ix2 k j) := by
  pointwise! [val_main_v5, val_main_v4, val_main_v3]

theorem v12_at (i : Fin 2048) : val_main_v12 (F := Ideal) x0 x1 x2 x4 (ix2 i j)
    = x1 (ix2 ⟨i.val, by omega⟩ j) + x2 (ix1 j) * ∑ k : Fin 1024, x0 (ix2 ⟨i.val, by omega⟩ k) * x4 (ix2 k j) := by
  rw [← v2_at]
  pointwise! [val_main_v12, val_main_v11, val_main_v10, val_main_v9, val_main_v8]

theorem v17_at (i : Fin 256) : val_main_v17 (F := Ideal) x0 x1 x3 x4 (ix2 i j)
    = x1 (ix2 ⟨2048 + i.val, by omega⟩ j) + x3 (ix1 j) * ∑ k : Fin 1024, x0 (ix2 ⟨2048 + i.val, by omega⟩ k) * x4 (ix2 k j) := by
  rw [← v5_at]
  pointwise! [val_main_v17, val_main_v16, val_main_v15, val_main_v14, val_main_v13]

/-- A row of the second segment, counted from the start of the array. -/
theorem second (h : ¬ n.val < 2048) (q : 2048 + (n.val - 2048) < 2304) : (⟨2048 + (n.val - 2048), q⟩ : Fin 2304) = n :=
  Fin.ext (by simp only; omega)

/-- The reference's product: each segment's rows by the same weights. -/
theorem v7_at : val_main_v7 (F := Ideal) x0 x4 (ix2 n j) = ∑ k : Fin 1024, x0 (ix2 n k) * x4 (ix2 k j) := by
  pointwise [val_main_v7, val_main_v6]
  by_cases h : n.val < 2048
  · rw [dif_pos h]
    exact v2_at x0 x4 j ⟨n.val, h⟩
  · rw [dif_neg h]
    refine (v5_at x0 x4 j ⟨n.val - 2048, by omega⟩).trans ?_
    simp only [second n h]

/-- The reference's residual: each segment's rows by its own gate. -/
theorem v18_at : val_main_v18 (F := Ideal) x0 x1 x2 x3 x4 (ix2 n j)
    = x1 (ix2 n j) + (if 2048 ≤ n.val then x3 (ix1 j) else x2 (ix1 j)) * ∑ k : Fin 1024, x0 (ix2 n k) * x4 (ix2 k j) := by
  pointwise [val_main_v18]
  by_cases h : n.val < 2048
  · rw [dif_pos h, if_neg (show ¬ 2048 ≤ n.val by omega)]
    exact v12_at x0 x1 x2 x4 j ⟨n.val, h⟩
  · rw [dif_neg h, if_pos (show 2048 ≤ n.val by omega)]
    refine (v17_at x0 x1 x3 x4 j ⟨n.val - 2048, by omega⟩).trans ?_
    simp only [second n h]

end

section
variable (m : (ℓ : Loc nD τ sig) → Buf (Elt Ideal) ℓ) (c : Dev nD)

/-- The layer's result, the residual, the two gates and the weights. -/
abbrev A0 : FVec Ideal S2304x1024 .bf16 := m ((c : Thread nD τ).loc main_arg0)
abbrev A1 : FVec Ideal S2304x1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024x1024 .f32 := m ((c : Thread nD τ).loc main_arg4)

/-- The weights and the two gate rows, as the call finds them. -/
theorem w_entry (k j : Fin 1024) : (show EReal from V m c main_v0 (ix2 k j)) = A4 m c (ix2 k j) := by
  entry_read
  pointwise [A4]

theorem g_entry (s : Fin 2) (j : Fin 1024) :
    (show EReal from V m c main_v4 (ix3 s 0 j)) = if s.val = 0 then A2 m c (ix1 j) else A3 m c (ix1 j) := by
  entry_read
  fin_cases s <;> pointwise [A2, A3] <;> rfl

/-- Row `i` of point `t`'s blocks is row `n` of the arrays. -/
theorem a_blk (t : Fin cfg0.N) (i : Fin 768) (n : Fin 2304) (h : n.val = t.val * 768 + i.val) (k : Fin 1024) :
    (iblk m c 0 t : FVec Ideal S768x1024 .bf16) (ix2 i k) = A0 m c (ix2 n k) := by
  blk_ext [iblk, V, idx t]

theorem x_blk (t : Fin cfg0.N) (i : Fin 768) (n : Fin 2304) (h : n.val = t.val * 768 + i.val) (k : Fin 1024) :
    (iblk m c 2 t : FVec Ideal S768x1024 .f32) (ix2 i k) = A1 m c (ix2 n k) := by
  blk_ext [iblk, V, idx t]

theorem w_blk (t : Fin cfg0.N) (k j : Fin 1024) : (iblk m c 1 t : FVec Ideal S1024x1024 .bf16) (ix2 k j) = A4 m c (ix2 k j) := by
  rw [← w_entry]
  blk_ext [iblk, V, idx t]

theorem cg_blk (t : Fin cfg0.N) (j : Fin 1024) :
    (View.ld (iblk m c 3 t : FVec Ideal S2x1x1024 .f32) r0_2 : FVec Ideal S1x1x1024 .f32) (ix3 0 0 j) = A3 m c (ix1 j) := by
  refine Eq.trans ?_ (g_entry m c 1 j)
  pointwise [A3]
  blk_ext [iblk, V, idx t]

theorem g_blk (t : Fin cfg0.N) (j : Fin 1024) :
    (View.ld (iblk m c 3 t : FVec Ideal S2x1x1024 .f32) r0_3 : FVec Ideal S1x1x1024 .f32) (ix3 0 0 j) = A2 m c (ix1 j) := by
  refine Eq.trans ?_ (g_entry m c 0 j)
  pointwise [A3]
  blk_ext [iblk, V, idx t]

/-- The product after the run. -/
theorem yx_final : (dats m 0 c).arrAt 4 cfg0.N = val_main_v7 (F := Ideal) (A0 m c) (A4 m c) := by
  refine (dats m 0 c).arrAt_eq_of_covers 4 _ (by decide +kernel) fun t _ y => ?_
  have hN : t.val < 3 := lt_of_lt_of_eq t.isLt N_0
  blk_simp
  rw [after0_4]
  frame_out
  idx_vars y
  refine Eq.trans (b := val_main_v7 (F := Ideal) (A0 m c) (A4 m c) (ix2 ⟨t.val * 768 + y0.val, by omega⟩ y1)) ?_ ?_
  · rw [v7_at]
    pointwise [k0_pay2, pay1_at]
    exact Finset.sum_congr rfl fun k _ => Ideal.mul_congr (a_blk m c t y0 _ rfl k) (w_blk m c t k y1)
  · blk_ext [iblk, V, idx t]

/-- The gated residual after the run. -/
theorem xo_final : (dats m 0 c).arrAt 5 cfg0.N = val_main_v18 (F := Ideal) (A0 m c) (A1 m c) (A2 m c) (A3 m c) (A4 m c) := by
  refine (dats m 0 c).arrAt_eq_of_covers 5 _ (by decide +kernel) fun t _ y => ?_
  have hN : t.val < 3 := lt_of_lt_of_eq t.isLt N_0
  blk_simp
  rw [after0_5]
  frame_out
  idx_vars y
  rw [pay3_at, (idx t).2.2.2.2.2.2]
  refine Eq.trans (b := val_main_v18 (F := Ideal) (A0 m c) (A1 m c) (A2 m c) (A3 m c) (A4 m c) (ix2 ⟨t.val * 768 + y0.val, by omega⟩ y1)) ?_ ?_
  · rw [v18_at]
    exact Ideal.add_congr (x_blk m c t y0 _ rfl y1) (Ideal.mul_congr (if_congr Iff.rfl (cg_blk m c t y1) (g_blk m c t y1))
      (Finset.sum_congr rfl fun k _ => Ideal.mul_congr (a_blk m c t y0 _ rfl k) (w_blk m c t k y1)))
  · blk_ext [iblk, V, idx t]

end

end Cert.Resid2KIdeal.Hand

end
end
-- ==== Proof.Resid2Claim.lean ====
/-
  The output product with the gated residual (two segments): the call's results are the plain forward lines'.
-/
module

public import proofs.«01_k».proof.Defs
public import proofs.«01_k».proof.Proof.Resid2
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem resid2_reference_frame : Cert.quiescent_Resid2RIdeal := by
  intro m g _
  exact (θ_run _ _ _).mono (fun r h => ⟨fun c => (h c).2.2, sem_eq_zero_of_no_sems rfl _⟩)
    (Cert.Resid2RIdeal.Value.run m g)

/-- The call's two arrays are the reference's. -/
theorem resid2_value : Cert.algebraic_Resid2KIdeal_Resid2RIdeal := by
  pair_intro
  · run_from Cert.Resid2KIdeal.Gen.run_main m g
  · refine (θ_run _ _ _).mono (fun r h c => ?_) (Cert.Resid2RIdeal.Value.run m' g')
    obtain ⟨e0, e1, e2, e3, e4⟩ := hagree c
    obtain ⟨h0, h1, ha⟩ := h c
    refine ⟨h0.trans (Eq.trans ?_ (Cert.Resid2KIdeal.Hand.yx_final m c).symm),
      h1.trans (Eq.trans ?_ (Cert.Resid2KIdeal.Hand.xo_final m c).symm), ha⟩
    · rw [e0, e4]
      rfl
    · rw [e0, e1, e2, e3, e4]
      rfl

end Cert.Proof

end
-- ==== Proof.NormF.lean ====
/-
  The norm with the input product, one segment: each tile's rows are the reference's rows.
-/
module

public import proofs.«01_k».proof.Proof.Gen.NormFKIdeal.Value
public import proofs.«01_k».proof.Proof.Gen.NormFRIdeal.Run
public import proofs.«01_k».proof.Proof.Gen.NormFRIdeal.Read
public import proofs.«01_k».proof.Proof.NormRow
public import Idealize.ShloMosaic.Lib.Pipeline.ValueKit
public import Idealize.ShloMosaic.Lib.Pointwise

@[expose] public section

set_option maxRecDepth 16384

noncomputable section

namespace Cert.NormFKIdeal.Hand

open Cert.NormFKIdeal Cert.NormFKIdeal.Gen
open Idealize.ShloMosaic Idealize.ShloMosaic.TcCoe Idealize.SL.Sem
open Idealize.ShloMosaic.Pipeline (Dat)
open Cert.NormFRIdeal.Read
open Cert.NormRow (ms)

/-- Where each window's block sits: the row windows move with the point, the others stay. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![t.val, 0] :=
  (by decide +kernel : ∀ t : Fin grid0.N, _)

/-- One entry of a modulated normed row. -/
abbrev hV (x g s b : Fin 1024 → EReal) (j : Fin 1024) : EReal := x j * Ideal.rsqrt (ms x) * g j * (1 + s j) + b j

section
variable (x : FVec Ideal S512x1024 .f32) (g : FVec Ideal S1x1024 .f32) (s b : FVec Ideal S1x1x1024 .f32) (h : FVec Ideal S512x1024 .bf16)
  (w : FVec Ideal S1024x4096 .bf16) (i : Fin 512) (j : Fin 1024)

/-- A row's reciprocal root. -/
theorem pay1_at : k0_pay1 (F := Ideal) x (ix2 i 0) = Ideal.rsqrt (ms fun k => x (ix2 i k)) := by
  pointwise [k0_pay1]

/-- A tile's modulated rows. -/
theorem pay2_at : k0_pay2 (F := Ideal) x g s b (ix2 i j)
    = hV (fun k => x (ix2 i k)) (fun k => g (ix2 0 k)) (fun k => s (ix3 0 0 k)) (fun k => b (ix3 0 0 k)) j := by
  rw [hV, ← pay1_at]
  pointwise [k0_pay2]

/-- A tile's product. -/
theorem pay3_at (q : Fin 4096) : k0_pay3 (F := Ideal) h w (ix2 i q) = ∑ k : Fin 1024, h (ix2 i k) * w (ix2 k q) := by
  pointwise [k0_pay3]

end

section
variable (x0 : FVec Ideal S2048x1024 .f32) (x1 x2 x3 : FVec Ideal S1024 .f32) (x4 : FVec Ideal S1024x4096 .f32) (n : Fin 2048) (j : Fin 1024)

theorem v7_at : val_main_v7 (F := Ideal) x0 (ix2 n 0) = Ideal.rsqrt (ms fun k => x0 (ix2 n k)) := by
  pointwise [val_main_v7, val_main_v6, val_main_v5, val_main_v4, val_main_v3, val_main_v2, val_main_v1, val_main_v0, val_main_cst, val_main_cst_0,
    val_main_cst_1]

theorem v20_at : val_main_v20 (F := Ideal) x0 x1 x2 x3 (ix2 n j)
    = hV (fun k => x0 (ix2 n k)) (fun k => x1 (ix1 k)) (fun k => x2 (ix1 k)) (fun k => x3 (ix1 k)) j := by
  rw [hV, ← v7_at]
  pointwise [val_main_v20, val_main_v19, val_main_v18, val_main_v17, val_main_v16, val_main_v15, val_main_v14, val_main_v13, val_main_v12,
    val_main_v11, val_main_v10, val_main_v9, val_main_v8, val_main_cst_2]

theorem v23_at (q : Fin 4096) : val_main_v23 (F := Ideal) x0 x1 x2 x3 x4 (ix2 n q)
    = ∑ k : Fin 1024, val_main_v20 (F := Ideal) x0 x1 x2 x3 (ix2 n k) * x4 (ix2 k q) := by
  pointwise [val_main_v23, val_main_v22]

end

section
variable (m : (ℓ : Loc nD τ sig) → Buf (Elt Ideal) ℓ) (c : Dev nD)

/-- The rows, the gain, the scale, the shift and the weights. -/
abbrev A0 : FVec Ideal S2048x1024 .f32 := m ((c : Thread nD τ).loc main_arg0)
abbrev A1 : FVec Ideal S1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024x4096 .f32 := m ((c : Thread nD τ).loc main_arg4)

/-- The gain, the scale, the shift and the weights, as the call finds them. -/
theorem g_entry (j : Fin 1024) : (show EReal from V m c main_v0 (ix2 0 j)) = A1 m c (ix1 j) := by
  entry_read
  pointwise [A1]

theorem s_entry (j : Fin 1024) : (show EReal from V m c main_v1 (ix3 0 0 j)) = A2 m c (ix1 j) := by
  entry_read
  pointwise [A2]

theorem b_entry (j : Fin 1024) : (show EReal from V m c main_v2 (ix3 0 0 j)) = A3 m c (ix1 j) := by
  entry_read
  pointwise [A3]

theorem w_entry (k : Fin 1024) (j : Fin 4096) : (show EReal from V m c main_v3 (ix2 k j)) = A4 m c (ix2 k j) := by
  entry_read
  pointwise [A4]

/-- Row `i` of point `t`'s block is row `n` of the array; the other blocks are the whole arrays. -/
theorem x_blk (t : Fin cfg0.N) (i : Fin 512) (n : Fin 2048) (h : n.val = t.val * 512 + i.val) (k : Fin 1024) :
    (iblk m c 0 t : FVec Ideal S512x1024 .f32) (ix2 i k) = A0 m c (ix2 n k) := by
  blk_ext [iblk, V, idx t]

theorem g_blk (t : Fin cfg0.N) (j : Fin 1024) : (iblk m c 1 t : FVec Ideal S1x1024 .f32) (ix2 0 j) = A1 m c (ix1 j) := by
  rw [← g_entry]
  blk_ext [iblk, V, idx t]

theorem s_blk (t : Fin cfg0.N) (j : Fin 1024) : (iblk m c 2 t : FVec Ideal S1x1x1024 .f32) (ix3 0 0 j) = A2 m c (ix1 j) := by
  rw [← s_entry]
  blk_ext [iblk, V, idx t]

theorem b_blk (t : Fin cfg0.N) (j : Fin 1024) : (iblk m c 3 t : FVec Ideal S1x1x1024 .f32) (ix3 0 0 j) = A3 m c (ix1 j) := by
  rw [← b_entry]
  blk_ext [iblk, V, idx t]

theorem w_blk (t : Fin cfg0.N) (k : Fin 1024) (j : Fin 4096) : (iblk m c 4 t : FVec Ideal S1024x4096 .bf16) (ix2 k j) = A4 m c (ix2 k j) := by
  rw [← w_entry]
  blk_ext [iblk, V, idx t]

/-- A tile's modulated row is the reference's row. -/
theorem h_tile (t : Fin cfg0.N) (i : Fin 512) (n : Fin 2048) (h : n.val = t.val * 512 + i.val) (j : Fin 1024) :
    k0_pay2 (F := Ideal) (iblk m c 0 t) (iblk m c 1 t) (iblk m c 2 t) (iblk m c 3 t) (ix2 i j)
      = val_main_v20 (F := Ideal) (A0 m c) (A1 m c) (A2 m c) (A3 m c) (ix2 n j) := by
  rw [pay2_at, v20_at, funext (x_blk m c t i n h), funext (g_blk m c t), funext (s_blk m c t), funext (b_blk m c t)]

/-- The modulated rows after the run. -/
theorem h_final : (dats m 0 c).arrAt 5 cfg0.N = val_main_v21 (F := Ideal) (A0 m c) (A1 m c) (A2 m c) (A3 m c) := by
  refine (dats m 0 c).arrAt_eq_of_covers 5 _ (by decide +kernel) fun t _ y => ?_
  have hN : t.val < 4 := lt_of_lt_of_eq t.isLt N_0
  blk_simp
  rw [after0_5]
  dsimp only [outsAt0]
  frame_out
  idx_vars y
  refine (h_tile m c t y0 ⟨t.val * 512 + y0.val, by omega⟩ rfl y1).trans ?_
  pointwise [val_main_v21]
  blk_ext [iblk, V, idx t]

/-- The reciprocal roots after the run. -/
theorem r_final : (dats m 0 c).arrAt 6 cfg0.N = val_main_v7 (F := Ideal) (A0 m c) := by
  refine (dats m 0 c).arrAt_eq_of_covers 6 _ (by decide +kernel) fun t _ y => ?_
  have hN : t.val < 4 := lt_of_lt_of_eq t.isLt N_0
  blk_simp
  rw [after0_6]
  dsimp only [outsAt0]
  frame_out
  idx_vars y
  obtain rfl : y1 = 0 := Subsingleton.elim _ _
  rw [pay1_at, funext (x_blk m c t y0 ⟨t.val * 512 + y0.val, by omega⟩ rfl), ← v7_at]
  blk_ext [iblk, V, idx t]

/-- The product after the run. -/
theorem p_final : (dats m 0 c).arrAt 7 cfg0.N = val_main_v23 (F := Ideal) (A0 m c) (A1 m c) (A2 m c) (A3 m c) (A4 m c) := by
  refine (dats m 0 c).arrAt_eq_of_covers 7 _ (by decide +kernel) fun t _ y => ?_
  have hN : t.val < 4 := lt_of_lt_of_eq t.isLt N_0
  blk_simp
  rw [after0_7]
  dsimp only [outsAt0]
  frame_out
  idx_vars y
  rw [pay3_at]
  refine Eq.trans (b := val_main_v23 (F := Ideal) (A0 m c) (A1 m c) (A2 m c) (A3 m c) (A4 m c) (ix2 ⟨t.val * 512 + y0.val, by omega⟩ y1)) ?_ ?_
  · rw [v23_at]
    exact Finset.sum_congr rfl fun k _ => Ideal.mul_congr (h_tile m c t y0 _ rfl k) (w_blk m c t k y1)
  · blk_ext [iblk, V, idx t]

end

end Cert.NormFKIdeal.Hand

end
end
-- ==== Proof.NormFClaim.lean ====
/-
  The norm with the input product (one segment): the call's results are the plain forward lines'.
-/
module

public import proofs.«01_k».proof.Defs
public import proofs.«01_k».proof.Proof.NormF
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem normf_reference_frame : Cert.quiescent_NormFRIdeal := by
  intro m g _
  exact (θ_run _ _ _).mono (fun r h => ⟨fun c => (h c).2.2.2, sem_eq_zero_of_no_sems rfl _⟩)
    (Cert.NormFRIdeal.Value.run m g)

/-- The call's three arrays are the reference's. -/
theorem normf_value : Cert.algebraic_NormFKIdeal_NormFRIdeal := by
  pair_intro
  · run_from Cert.NormFKIdeal.Gen.run_main m g
  · run_from Cert.NormFRIdeal.Value.run m' g'
    · exact (Cert.NormFKIdeal.Hand.h_final m c).symm
    · exact (Cert.NormFKIdeal.Hand.r_final m c).symm
    · exact (Cert.NormFKIdeal.Hand.p_final m c).symm

end Cert.Proof

end
-- ==== Proof.NormFNa.lean ====
/-
  The norm with the input product, two segments: each tile's rows are the reference's rows.
-/
module

public import proofs.«01_k».proof.Proof.Gen.NormFNaKIdeal.Value
public import proofs.«01_k».proof.Proof.Gen.NormFNaRIdeal.Run
public import proofs.«01_k».proof.Proof.Gen.NormFNaRIdeal.Read
public import proofs.«01_k».proof.Proof.NormRow
public import proofs.«01_k».proof.Proof.Seg
public import Idealize.ShloMosaic.Lib.Pipeline.ValueKit
public import Idealize.ShloMosaic.Lib.Pointwise

@[expose] public section

set_option maxRecDepth 16384

noncomputable section

namespace Cert.NormFNaKIdeal.Hand

open Cert.NormFNaKIdeal Cert.NormFNaKIdeal.Gen
open Idealize.ShloMosaic Idealize.ShloMosaic.TcCoe Idealize.SL.Sem
open Idealize.ShloMosaic.Pipeline (Dat)
open Cert.NormFNaRIdeal.Read
open Cert.NormRow (ms)
open Cert.Seg (join)

/-- Where each window's block sits: the row windows move with the point, the others stay. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![t.val, 0] ∧ (grid0.coords t 0).val = t.val :=
  (by decide +kernel : ∀ t : Fin grid0.N, _)

/-- One entry of a modulated normed row. -/
abbrev hV (x g s b : Fin 1024 → EReal) (j : Fin 1024) : EReal := x j * Ideal.rsqrt (ms x) * g j * (1 + s j) + b j

section
variable (x0 : FVec Ideal S2048x1024 .f32) (x1 : FVec Ideal S256x1024 .f32) (x2 x3 x4 x5 x6 : FVec Ideal S1024 .f32)
  (x7 : FVec Ideal S1024x4096 .f32) (n : Fin 2304) (j : Fin 1024)

/-- Row `n` of the two segments, and the scale or shift of its segment. -/
abbrev xR (k : Fin 1024) : EReal := join (fun i => x0 (ix2 i k)) (fun i => x1 (ix2 i k)) n
abbrev pick (a b : FVec Ideal S1024 .f32) (k : Fin 1024) : EReal := if 2048 ≤ n.val then b (ix1 k) else a (ix1 k)

theorem v7_at (i : Fin 2048) : val_main_v7 (F := Ideal) x0 (ix2 i 0) = Ideal.rsqrt (ms fun k => x0 (ix2 i k)) := by
  pointwise [val_main_v7, val_main_v6, val_main_v5, val_main_v4, val_main_v3, val_main_v2, val_main_v1, val_main_v0, val_main_cst, val_main_cst_0, val_main_cst_1]

theorem v28_at (i : Fin 256) : val_main_v28 (F := Ideal) x1 (ix2 i 0) = Ideal.rsqrt (ms fun k => x1 (ix2 i k)) := by
  pointwise [val_main_v28, val_main_v27, val_main_v26, val_main_v25, val_main_v24, val_main_v23, val_main_v22, val_main_v21, val_main_cst_3, val_main_cst_4, val_main_cst_5]

theorem v20_at (i : Fin 2048) : val_main_v20 (F := Ideal) x0 x2 x3 x5 (ix2 i j)
    = hV (fun k => x0 (ix2 i k)) (fun k => x2 (ix1 k)) (fun k => x3 (ix1 k)) (fun k => x5 (ix1 k)) j := by
  rw [hV, ← v7_at]
  pointwise [val_main_v20, val_main_v19, val_main_v18, val_main_v17, val_main_v16, val_main_v15, val_main_v14, val_main_v13, val_main_v12, val_main_v11, val_main_v10, val_main_v9, val_main_v8, val_main_cst_2]

theorem v41_at (i : Fin 256) : val_main_v41 (F := Ideal) x1 x2 x4 x6 (ix2 i j)
    = hV (fun k => x1 (ix2 i k)) (fun k => x2 (ix1 k)) (fun k => x4 (ix1 k)) (fun k => x6 (ix1 k)) j := by
  rw [hV, ← v28_at]
  pointwise [val_main_v41, val_main_v40, val_main_v39, val_main_v38, val_main_v37, val_main_v36, val_main_v35, val_main_v34, val_main_v33, val_main_v32, val_main_v31, val_main_v30, val_main_v29, val_main_cst_6]

/-- The reference's reciprocal roots. -/
theorem v44_at : val_main_v44 (F := Ideal) x0 x1 (ix2 n 0) = Ideal.rsqrt (ms (xR x0 x1 n)) := by
  pointwise [val_main_v44]
  by_cases h : n.val < 2048
  · rw [dif_pos h]
    refine (v7_at x0 ⟨n.val, h⟩).trans (congrArg (fun f => Ideal.rsqrt (ms f)) (funext fun k => ?_))
    rw [xR, join, dif_pos h]
  · rw [dif_neg h]
    refine (v28_at x1 ⟨n.val - 2048, by omega⟩).trans (congrArg (fun f => Ideal.rsqrt (ms f)) (funext fun k => ?_))
    rw [xR, join, dif_neg h]

/-- The reference's modulated rows, before the rounding. -/
theorem v42_at : val_main_v42 (F := Ideal) x0 x1 x2 x3 x4 x5 x6 (ix2 n j)
    = hV (xR x0 x1 n) (fun k => x2 (ix1 k)) (pick n x3 x4) (pick n x5 x6) j := by
  pointwise [val_main_v42]
  by_cases h : n.val < 2048
  · rw [dif_pos h]
    refine (v20_at x0 x2 x3 x5 j ⟨n.val, h⟩).trans ?_
    rw [show xR x0 x1 n = fun k => x0 (ix2 ⟨n.val, h⟩ k) from funext fun k => by rw [xR, join, dif_pos h]]
    rw [show pick n x3 x4 = fun k => x3 (ix1 k) from funext fun k => if_neg (show ¬ 2048 ≤ n.val by omega), show pick n x5 x6 = fun k => x5 (ix1 k) from funext fun k => if_neg (show ¬ 2048 ≤ n.val by omega)]
  · rw [dif_neg h]
    refine (v41_at x1 x2 x4 x6 j ⟨n.val - 2048, by omega⟩).trans ?_
    rw [show xR x0 x1 n = fun k => x1 (ix2 ⟨n.val - 2048, by omega⟩ k) from funext fun k => by rw [xR, join, dif_neg h]]
    rw [show pick n x3 x4 = fun k => x4 (ix1 k) from funext fun k => if_pos (show 2048 ≤ n.val by omega), show pick n x5 x6 = fun k => x6 (ix1 k) from funext fun k => if_pos (show 2048 ≤ n.val by omega)]

/-- The reference's product: each segment's rows by the same weights. -/
theorem v48_at (q : Fin 4096) : val_main_v48 (F := Ideal) x0 x1 x2 x3 x4 x5 x6 x7 (ix2 n q)
    = ∑ k : Fin 1024, val_main_v42 (F := Ideal) x0 x1 x2 x3 x4 x5 x6 (ix2 n k) * x7 (ix2 k q) := by
  pointwise [val_main_v48, val_main_v47, val_main_v42]
  by_cases h : n.val < 2048
  · simp only [dif_pos h]
    pointwise [val_main_v45]
  · simp only [dif_neg h]
    pointwise [val_main_v46]

end

section
variable (t : Nat) (ht : t < 3) (x : FVec Ideal S768x1024 .f32) (g : FVec Ideal S1x1024 .f32) (sc sl bc bl : FVec Ideal S1x1x1024 .f32)
  (h : FVec Ideal S768x1024 .bf16) (w : FVec Ideal S1024x4096 .bf16) (i : Fin 768) (j : Fin 1024)
include ht

/-- The test for a context row. -/
theorem pay5_at : k0_pay5 (BitVec.ofNat 32 t) (ix2 i 0) = if 2048 ≤ t * 768 + i.val then 1#1 else 0#1 := by
  rw [← Cert.Seg.ctx_word ht i.isLt]
  pointwise [k0_pay5]

omit ht in
/-- A row's reciprocal root. -/
theorem pay4_at : k0_pay4 (F := Ideal) x (ix2 i 0) = Ideal.rsqrt (ms fun k => x (ix2 i k)) := by
  pointwise [k0_pay4, k0_pay3]

/-- A tile's modulated rows. -/
theorem pay1_at : k0_pay1 (F := Ideal) (k0_pay5 (BitVec.ofNat 32 t)) (k0_pay6 (F := Ideal) (BitVec.ofNat 32 t) x g sc sl) (k0_pay7 (F := Ideal) bc) bl (ix2 i j)
    = hV (fun k => x (ix2 i k)) (fun k => g (ix2 0 k)) (fun k => if 2048 ≤ t * 768 + i.val then sc (ix3 0 0 k) else sl (ix3 0 0 k))
      (fun k => if 2048 ≤ t * 768 + i.val then bc (ix3 0 0 k) else bl (ix3 0 0 k)) j := by
  rw [hV, ← pay4_at]
  rw [← Cert.Seg.select_test (α := EReal), ← Cert.Seg.select_test (α := EReal), ← pay5_at t ht]
  pointwise [k0_pay1, k0_pay6, k0_pay7, k0_pay3]

omit ht in
/-- A tile's product. -/
theorem pay2_at (q : Fin 4096) : k0_pay2 (F := Ideal) h w (ix2 i q) = ∑ k : Fin 1024, h (ix2 i k) * w (ix2 k q) := by
  pointwise [k0_pay2]

end

section
variable (m : (ℓ : Loc nD τ sig) → Buf (Elt Ideal) ℓ) (c : Dev nD)

/-- The two segments' rows, the gain, the scales, the shifts and the weights. -/
abbrev A0 : FVec Ideal S2048x1024 .f32 := m ((c : Thread nD τ).loc main_arg0)
abbrev A1 : FVec Ideal S256x1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S1024 .f32 := m ((c : Thread nD τ).loc main_arg5)
abbrev A6 : FVec Ideal S1024 .f32 := m ((c : Thread nD τ).loc main_arg6)
abbrev A7 : FVec Ideal S1024x4096 .f32 := m ((c : Thread nD τ).loc main_arg7)

/-- The rows, the gain, the scales, the shifts and the weights, as the call finds them. -/
theorem x_entry (n : Fin 2304) (k : Fin 1024) : (show EReal from V m c main_v8 (ix2 n k)) = xR (A0 m c) (A1 m c) n k := by
  entry_read
  pointwise [xR, join]

theorem g_entry (j : Fin 1024) : (show EReal from V m c main_v9 (ix2 0 j)) = A2 m c (ix1 j) := by
  entry_read
  pointwise [A2]

theorem s_entry (s : Fin 2) (j : Fin 1024) :
    (show EReal from V m c main_v3 (ix3 s 0 j)) = if s.val = 0 then A3 m c (ix1 j) else A4 m c (ix1 j) := by
  entry_read
  fin_cases s <;> pointwise [A3, A4] <;> rfl

theorem b_entry (s : Fin 2) (j : Fin 1024) :
    (show EReal from V m c main_v7 (ix3 s 0 j)) = if s.val = 0 then A5 m c (ix1 j) else A6 m c (ix1 j) := by
  entry_read
  fin_cases s <;> pointwise [A5, A6] <;> rfl

theorem w_entry (k : Fin 1024) (j : Fin 4096) : (show EReal from V m c main_v10 (ix2 k j)) = A7 m c (ix2 k j) := by
  entry_read
  pointwise [A7]

/-- Row `i` of point `t`'s block is row `n` of the joined rows; the other blocks are the whole arrays. -/
theorem x_blk (t : Fin cfg0.N) (i : Fin 768) (n : Fin 2304) (h : n.val = t.val * 768 + i.val) (k : Fin 1024) :
    (iblk m c 0 t : FVec Ideal S768x1024 .f32) (ix2 i k) = xR (A0 m c) (A1 m c) n k := by
  rw [← x_entry]
  blk_ext [iblk, V, idx t]

theorem g_blk (t : Fin cfg0.N) (j : Fin 1024) : (iblk m c 1 t : FVec Ideal S1x1024 .f32) (ix2 0 j) = A2 m c (ix1 j) := by
  rw [← g_entry]
  blk_ext [iblk, V, idx t]

theorem s_blk (t : Fin cfg0.N) (n : Fin 2304) (j : Fin 1024) :
    (if 2048 ≤ n.val then (View.ld (iblk m c 2 t : FVec Ideal S2x1x1024 .f32) (Rect.unit ![1, 0, 0] ![1, 1, 1024] inb_S2x1x1024_S1x1x1024_1_0_0) : FVec Ideal S1x1x1024 .f32) (ix3 0 0 j)
      else (View.ld (iblk m c 2 t : FVec Ideal S2x1x1024 .f32) (Rect.unit ![0, 0, 0] ![1, 1, 1024] inb_S2x1x1024_S1x1x1024_0_0_0) : FVec Ideal S1x1x1024 .f32) (ix3 0 0 j))
      = pick n (A3 m c) (A4 m c) j := by
  refine if_congr Iff.rfl ?_ ?_
  · refine Eq.trans ?_ (s_entry m c 1 j)
    pointwise [A4]
    blk_ext [iblk, V, idx t]
  · refine Eq.trans ?_ (s_entry m c 0 j)
    pointwise [A3]
    blk_ext [iblk, V, idx t]

theorem b_blk (t : Fin cfg0.N) (n : Fin 2304) (j : Fin 1024) :
    (if 2048 ≤ n.val then (View.ld (iblk m c 3 t : FVec Ideal S2x1x1024 .f32) (Rect.unit ![1, 0, 0] ![1, 1, 1024] inb_S2x1x1024_S1x1x1024_1_0_0) : FVec Ideal S1x1x1024 .f32) (ix3 0 0 j)
      else (View.ld (iblk m c 3 t : FVec Ideal S2x1x1024 .f32) (Rect.unit ![0, 0, 0] ![1, 1, 1024] inb_S2x1x1024_S1x1x1024_0_0_0) : FVec Ideal S1x1x1024 .f32) (ix3 0 0 j))
      = pick n (A5 m c) (A6 m c) j := by
  refine if_congr Iff.rfl ?_ ?_
  · refine Eq.trans ?_ (b_entry m c 1 j)
    pointwise [A6]
    blk_ext [iblk, V, idx t]
  · refine Eq.trans ?_ (b_entry m c 0 j)
    pointwise [A5]
    blk_ext [iblk, V, idx t]

theorem w_blk (t : Fin cfg0.N) (k : Fin 1024) (j : Fin 4096) : (iblk m c 4 t : FVec Ideal S1024x4096 .bf16) (ix2 k j) = A7 m c (ix2 k j) := by
  rw [← w_entry]
  blk_ext [iblk, V, idx t]

/-- A tile's modulated rows, from the blocks of point `t`. -/
abbrev tile (t : Fin cfg0.N) : FVec Ideal S768x1024 .bf16 :=
  k0_pay1 (F := Ideal) (k0_pay5 (BitVec.ofNat 32 (grid0.coords t 0).val))
    (k0_pay6 (F := Ideal) (BitVec.ofNat 32 (grid0.coords t 0).val) (iblk m c 0 t) (iblk m c 1 t)
      (View.ld (iblk m c 2 t : FVec Ideal S2x1x1024 .f32) (Rect.unit ![1, 0, 0] ![1, 1, 1024] inb_S2x1x1024_S1x1x1024_1_0_0))
      (View.ld (iblk m c 2 t : FVec Ideal S2x1x1024 .f32) (Rect.unit ![0, 0, 0] ![1, 1, 1024] inb_S2x1x1024_S1x1x1024_0_0_0)))
    (k0_pay7 (F := Ideal) (View.ld (iblk m c 3 t : FVec Ideal S2x1x1024 .f32) (Rect.unit ![1, 0, 0] ![1, 1, 1024] inb_S2x1x1024_S1x1x1024_1_0_0)))
    (View.ld (iblk m c 3 t : FVec Ideal S2x1x1024 .f32) (Rect.unit ![0, 0, 0] ![1, 1, 1024] inb_S2x1x1024_S1x1x1024_0_0_0))

/-- A tile's modulated row is the reference's row. -/
theorem h_tile (t : Fin cfg0.N) (i : Fin 768) (n : Fin 2304) (h : n.val = t.val * 768 + i.val) (j : Fin 1024) :
    tile m c t (ix2 i j) = val_main_v42 (F := Ideal) (A0 m c) (A1 m c) (A2 m c) (A3 m c) (A4 m c) (A5 m c) (A6 m c) (ix2 n j) := by
  have hN : t.val < 3 := lt_of_lt_of_eq t.isLt N_0
  rw [tile, (idx t).2.2.2.2.2.2.2.2, pay1_at t.val hN, v42_at, ← h, funext (x_blk m c t i n h), funext (g_blk m c t), funext (s_blk m c t n),
    funext (b_blk m c t n)]

/-- The modulated rows after the run. -/
theorem h_final : (dats m 0 c).arrAt 5 cfg0.N
    = val_main_v43 (F := Ideal) (A0 m c) (A1 m c) (A2 m c) (A3 m c) (A4 m c) (A5 m c) (A6 m c) := by
  refine (dats m 0 c).arrAt_eq_of_covers 5 _ (by decide +kernel) fun t _ y => ?_
  have hN : t.val < 3 := lt_of_lt_of_eq t.isLt N_0
  blk_simp
  rw [after0_5]
  dsimp only [outsAt0]
  frame_out
  idx_vars y
  refine (h_tile m c t y0 ⟨t.val * 768 + y0.val, by omega⟩ rfl y1).trans ?_
  pointwise [val_main_v43]
  blk_ext [iblk, V, idx t]

/-- The reciprocal roots after the run. -/
theorem r_final : (dats m 0 c).arrAt 6 cfg0.N = val_main_v44 (F := Ideal) (A0 m c) (A1 m c) := by
  refine (dats m 0 c).arrAt_eq_of_covers 6 _ (by decide +kernel) fun t _ y => ?_
  have hN : t.val < 3 := lt_of_lt_of_eq t.isLt N_0
  blk_simp
  rw [after0_6]
  dsimp only [outsAt0]
  frame_out
  idx_vars y
  obtain rfl : y1 = 0 := Subsingleton.elim _ _
  rw [pay4_at, funext (x_blk m c t y0 ⟨t.val * 768 + y0.val, by omega⟩ rfl), ← v44_at]
  blk_ext [iblk, V, idx t]

/-- The product after the run. -/
theorem p_final : (dats m 0 c).arrAt 7 cfg0.N
    = val_main_v48 (F := Ideal) (A0 m c) (A1 m c) (A2 m c) (A3 m c) (A4 m c) (A5 m c) (A6 m c) (A7 m c) := by
  refine (dats m 0 c).arrAt_eq_of_covers 7 _ (by decide +kernel) fun t _ y => ?_
  have hN : t.val < 3 := lt_of_lt_of_eq t.isLt N_0
  blk_simp
  rw [after0_7]
  dsimp only [outsAt0]
  frame_out
  idx_vars y
  rw [pay2_at]
  refine Eq.trans (b := val_main_v48 (F := Ideal) (A0 m c) (A1 m c) (A2 m c) (A3 m c) (A4 m c) (A5 m c) (A6 m c) (A7 m c)
    (ix2 ⟨t.val * 768 + y0.val, by omega⟩ y1)) ?_ ?_
  · rw [v48_at]
    exact Finset.sum_congr rfl fun k _ => Ideal.mul_congr (h_tile m c t y0 _ rfl k) (w_blk m c t k y1)
  · blk_ext [iblk, V, idx t]

end

end Cert.NormFNaKIdeal.Hand

end
end
-- ==== Proof.NormFNaClaim.lean ====
/-
  The norm with the input product (two segments, the rows joined before the call): the call's results are the plain forward lines'.
-/
module

public import proofs.«01_k».proof.Defs
public import proofs.«01_k».proof.Proof.NormFNa
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem normfna_reference_frame : Cert.quiescent_NormFNaRIdeal := by
  intro m g _
  exact (θ_run _ _ _).mono (fun r h => ⟨fun c => (h c).2.2.2, sem_eq_zero_of_no_sems rfl _⟩)
    (Cert.NormFNaRIdeal.Value.run m g)

/-- The call's three arrays are the reference's. -/
theorem normfna_value : Cert.algebraic_NormFNaKIdeal_NormFNaRIdeal := by
  pair_intro
  · run_from Cert.NormFNaKIdeal.Gen.run_main m g
  · refine (θ_run _ _ _).mono (fun r h c => ?_) (Cert.NormFNaRIdeal.Value.run m' g')
    obtain ⟨e0, e1, e2, e3, e4, e5, e6, e7⟩ := hagree c
    obtain ⟨h0, h1, h2, ha⟩ := h c
    refine ⟨h0.trans (Eq.trans ?_ (Cert.NormFNaKIdeal.Hand.h_final m c).symm),
      h1.trans (Eq.trans ?_ (Cert.NormFNaKIdeal.Hand.r_final m c).symm),
      h2.trans (Eq.trans ?_ (Cert.NormFNaKIdeal.Hand.p_final m c).symm), ha⟩
    · rw [e0, e1, e2, e3, e4, e5, e6]
      rfl
    · rw [e0, e1]
      rfl
    · rw [e0, e1, e2, e3, e4, e5, e6, e7]
      rfl

end Cert.Proof

end
-- ==== Proof.NormFP0.lean ====
/-
  The norm with the joined rows and the input product, two segments: each tile's rows are the reference's rows.
-/
module

public import proofs.«01_k».proof.Proof.Gen.NormFP0KIdeal.Value
public import proofs.«01_k».proof.Proof.Gen.NormFP0RIdeal.Run
public import proofs.«01_k».proof.Proof.Gen.NormFP0RIdeal.Read
public import proofs.«01_k».proof.Proof.NormRow
public import proofs.«01_k».proof.Proof.Seg
public import Idealize.ShloMosaic.Lib.Pipeline.ValueKit
public import Idealize.ShloMosaic.Lib.Pointwise

@[expose] public section

set_option maxRecDepth 16384

noncomputable section

namespace Cert.NormFP0KIdeal.Hand

open Cert.NormFP0KIdeal Cert.NormFP0KIdeal.Gen
open Idealize.ShloMosaic Idealize.ShloMosaic.TcCoe Idealize.SL.Sem
open Idealize.ShloMosaic.Pipeline (Dat)
open Cert.NormFP0RIdeal.Read
open Cert.NormRow (ms)
open Cert.Seg (join)

/-- Where each window's block sits: three blocks of latent rows per point, the last of them held where the rows end. -/
theorem idx : ∀ t : Fin cfg0.N, win0_0.index t = ![t.val * 3, 0] ∧ win0_1.index t = ![min (t.val * 3 + 1) 7, 0]
    ∧ win0_2.index t = ![min (t.val * 3 + 2) 7, 0] ∧ win0_3.index t = ![0, 0] ∧ win0_4.index t = ![0, 0] ∧ win0_5.index t = ![0, 0, 0]
    ∧ win0_6.index t = ![0, 0, 0] ∧ win0_7.index t = ![0, 0] ∧ win0_8.index t = ![t.val, 0] ∧ win0_9.index t = ![t.val, 0]
    ∧ win0_10.index t = ![t.val, 0] ∧ win0_11.index t = ![t.val, 0] ∧ (grid0.coords t 0).val = t.val :=
  (by decide +kernel : ∀ t : Fin grid0.N, _)

/-- The word test `t · 3 + s ≥ 8`, whether a block's rows are context rows, is the test on numbers. -/
theorem ge_word {t s : Nat} (ht : t < 3) (hs : s < 3) :
    Scalar.cmpi CmpIPredicate.sge (Scalar.addi (Scalar.muli (BitVec.ofNat 32 t) 3#32) (BitVec.ofNat 32 s)) 8#32
      = if 8 ≤ t * 3 + s then 1#1 else 0#1 := by
  interval_cases t <;> interval_cases s <;> decide

/-- One entry of a modulated normed row. -/
abbrev hV (x g s b : Fin 1024 → EReal) (j : Fin 1024) : EReal := x j * Ideal.rsqrt (ms x) * g j * (1 + s j) + b j

section
variable (x0 : FVec Ideal S2048x1024 .f32) (x1 : FVec Ideal S256x1024 .f32) (x2 x3 x4 x5 x6 : FVec Ideal S1024 .f32)
  (x7 : FVec Ideal S1024x2048 .f32) (n : Fin 2304) (j : Fin 1024)

/-- Row `n` of the two segments, and the scale or shift of its segment. -/
abbrev xR (k : Fin 1024) : EReal := join (fun i => x0 (ix2 i k)) (fun i => x1 (ix2 i k)) n
abbrev pick (a b : FVec Ideal S1024 .f32) (k : Fin 1024) : EReal := if 2048 ≤ n.val then b (ix1 k) else a (ix1 k)

theorem v7_at (i : Fin 2048) : val_main_v7 (F := Ideal) x0 (ix2 i 0) = Ideal.rsqrt (ms fun k => x0 (ix2 i k)) := by
  pointwise [val_main_v7, val_main_v6, val_main_v5, val_main_v4, val_main_v3, val_main_v2, val_main_v1, val_main_v0, val_main_cst, val_main_cst_0, val_main_cst_1]

theorem v28_at (i : Fin 256) : val_main_v28 (F := Ideal) x1 (ix2 i 0) = Ideal.rsqrt (ms fun k => x1 (ix2 i k)) := by
  pointwise [val_main_v28, val_main_v27, val_main_v26, val_main_v25, val_main_v24, val_main_v23, val_main_v22, val_main_v21, val_main_cst_3, val_main_cst_4, val_main_cst_5]

theorem v20_at (i : Fin 2048) : val_main_v20 (F := Ideal) x0 x2 x3 x5 (ix2 i j)
    = hV (fun k => x0 (ix2 i k)) (fun k => x2 (ix1 k)) (fun k => x3 (ix1 k)) (fun k => x5 (ix1 k)) j := by
  rw [hV, ← v7_at]
  pointwise [val_main_v20, val_main_v19, val_main_v18, val_main_v17, val_main_v16, val_main_v15, val_main_v14, val_main_v13, val_main_v12, val_main_v11, val_main_v10, val_main_v9, val_main_v8, val_main_cst_2]

theorem v41_at (i : Fin 256) : val_main_v41 (F := Ideal) x1 x2 x4 x6 (ix2 i j)
    = hV (fun k => x1 (ix2 i k)) (fun k => x2 (ix1 k)) (fun k => x4 (ix1 k)) (fun k => x6 (ix1 k)) j := by
  rw [hV, ← v28_at]
  pointwise [val_main_v41, val_main_v40, val_main_v39, val_main_v38, val_main_v37, val_main_v36, val_main_v35, val_main_v34, val_main_v33, val_main_v32, val_main_v31, val_main_v30, val_main_v29, val_main_cst_6]

/-- The reference's reciprocal roots. -/
theorem v45_at : val_main_v45 (F := Ideal) x0 x1 (ix2 n 0) = Ideal.rsqrt (ms (xR x0 x1 n)) := by
  pointwise [val_main_v45]
  by_cases h : n.val < 2048
  · rw [dif_pos h]
    refine (v7_at x0 ⟨n.val, h⟩).trans (congrArg (fun f => Ideal.rsqrt (ms f)) (funext fun k => ?_))
    rw [xR, join, dif_pos h]
  · rw [dif_neg h]
    refine (v28_at x1 ⟨n.val - 2048, by omega⟩).trans (congrArg (fun f => Ideal.rsqrt (ms f)) (funext fun k => ?_))
    rw [xR, join, dif_neg h]

/-- The reference's modulated rows, before the rounding. -/
theorem v43_at : val_main_v43 (F := Ideal) x0 x1 x2 x3 x4 x5 x6 (ix2 n j)
    = hV (xR x0 x1 n) (fun k => x2 (ix1 k)) (pick n x3 x4) (pick n x5 x6) j := by
  pointwise [val_main_v43]
  by_cases h : n.val < 2048
  · rw [dif_pos h]
    refine (v20_at x0 x2 x3 x5 j ⟨n.val, h⟩).trans ?_
    rw [show xR x0 x1 n = fun k => x0 (ix2 ⟨n.val, h⟩ k) from funext fun k => by rw [xR, join, dif_pos h]]
    rw [show pick n x3 x4 = fun k => x3 (ix1 k) from funext fun k => if_neg (show ¬ 2048 ≤ n.val by omega), show pick n x5 x6 = fun k => x5 (ix1 k) from funext fun k => if_neg (show ¬ 2048 ≤ n.val by omega)]
  · rw [dif_neg h]
    refine (v41_at x1 x2 x4 x6 j ⟨n.val - 2048, by omega⟩).trans ?_
    rw [show xR x0 x1 n = fun k => x1 (ix2 ⟨n.val - 2048, by omega⟩ k) from funext fun k => by rw [xR, join, dif_neg h]]
    rw [show pick n x3 x4 = fun k => x4 (ix1 k) from funext fun k => if_pos (show 2048 ≤ n.val by omega), show pick n x5 x6 = fun k => x6 (ix1 k) from funext fun k => if_pos (show 2048 ≤ n.val by omega)]

/-- The reference's joined rows. -/
theorem v42_at : val_main_v42 (F := Ideal) x0 x1 (ix2 n j) = xR x0 x1 n j := by
  pointwise [val_main_v42, xR, join]

/-- The reference's product: each segment's rows by the same weights. -/
theorem v49_at (q : Fin 2048) : val_main_v49 (F := Ideal) x0 x1 x2 x3 x4 x5 x6 x7 (ix2 n q)
    = ∑ k : Fin 1024, val_main_v43 (F := Ideal) x0 x1 x2 x3 x4 x5 x6 (ix2 n k) * x7 (ix2 k q) := by
  pointwise [val_main_v49, val_main_v48, val_main_v43]
  by_cases h : n.val < 2048
  · simp only [dif_pos h]
    pointwise [val_main_v46]
  · simp only [dif_neg h]
    pointwise [val_main_v47]

/-- A row of one of a point's three blocks is that row of the joined rows. -/
theorem piece (t s : Nat) (ht : t < 3) (hs : s < 3) (c x : FVec Ideal S256x1024 .f32) (l : Fin 256) (hn : n.val = t * 768 + s * 256 + l.val)
    (hc : c (ix2 l j) = x1 (ix2 l j)) (hx : ∀ h : n.val < 2048, x (ix2 l j) = x0 (ix2 ⟨n.val, h⟩ j)) :
    Scalar.select (Scalar.cmpi CmpIPredicate.sge (Scalar.addi (Scalar.muli (BitVec.ofNat 32 t) 3#32) (BitVec.ofNat 32 s)) 8#32)
      (c (ix2 l j)) (x (ix2 l j)) = xR x0 x1 n j := by
  rw [ge_word ht hs, Cert.Seg.select_test, xR, join]
  by_cases h : n.val < 2048
  · rw [dif_pos h, if_neg (by omega), hx h]
  · rw [dif_neg h, if_pos (by omega), hc]
    exact congrArg (fun q => x1 (ix2 q j)) (Fin.ext (by simp only; omega))

end

section
variable (t : Nat) (ht : t < 3) (b : BitVec 32) (c0 c1 c2 y0 y1 y2 : FVec Ideal S256x1024 .f32) (x : FVec Ideal S768x1024 .f32)
  (r : FVec Ideal S768x1 .f32) (g : FVec Ideal S1x1024 .f32) (sc sl bc bl : FVec Ideal S1x1x1024 .f32)
  (h : FVec Ideal S768x1024 .bf16) (w : FVec Ideal S1024x2048 .bf16) (i : Fin 768) (j : Fin 1024)

/-- A row's reciprocal root. -/
theorem pay3_at : k0_pay3 (F := Ideal) b c0 y0 c1 y1 c2 y2 (ix2 i 0)
    = Ideal.rsqrt (ms fun k => k0_pay2 (F := Ideal) b c0 y0 c1 y1 c2 y2 (ix2 i k)) := by
  pointwise [k0_pay3]

include ht in
/-- A tile's modulated rows. -/
theorem pay5_at (hr : r (ix2 i 0) = Ideal.rsqrt (ms fun k => x (ix2 i k))) :
    k0_pay5 (F := Ideal) x r (k0_pay4 (BitVec.ofNat 32 t)) g sc sl bc bl (ix2 i j)
    = hV (fun k => x (ix2 i k)) (fun k => g (ix2 0 k)) (fun k => if 2048 ≤ t * 768 + i.val then sc (ix3 0 0 k) else sl (ix3 0 0 k))
      (fun k => if 2048 ≤ t * 768 + i.val then bc (ix3 0 0 k) else bl (ix3 0 0 k)) j := by
  rw [hV, ← hr, ← Cert.Seg.select_test (α := EReal), ← Cert.Seg.select_test (α := EReal), ← Cert.Seg.ctx_word ht i.isLt]
  pointwise [k0_pay5, k0_pay4]

/-- A tile's product. -/
theorem pay1_at (q : Fin 2048) : k0_pay1 (F := Ideal) h w (ix2 i q) = ∑ k : Fin 1024, h (ix2 i k) * w (ix2 k q) := by
  pointwise [k0_pay1]

end

section
variable (m : (ℓ : Loc nD τ sig) → Buf (Elt Ideal) ℓ) (c : Dev nD)

/-- The two segments' rows, the gain, the scales, the shifts and the weights. -/
abbrev A0 : FVec Ideal S2048x1024 .f32 := m ((c : Thread nD τ).loc main_arg0)
abbrev A1 : FVec Ideal S256x1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S1024 .f32 := m ((c : Thread nD τ).loc main_arg5)
abbrev A6 : FVec Ideal S1024 .f32 := m ((c : Thread nD τ).loc main_arg6)
abbrev A7 : FVec Ideal S1024x2048 .f32 := m ((c : Thread nD τ).loc main_arg7)

/-- The gain, the scales, the shifts and the weights, as the call finds them. -/
theorem g_entry (j : Fin 1024) : (show EReal from V m c main_v8 (ix2 0 j)) = A2 m c (ix1 j) := by
  entry_read
  pointwise [A2]

theorem s_entry (s : Fin 2) (j : Fin 1024) :
    (show EReal from V m c main_v3 (ix3 s 0 j)) = if s.val = 0 then A3 m c (ix1 j) else A4 m c (ix1 j) := by
  entry_read
  fin_cases s <;> pointwise [A3, A4] <;> rfl

theorem b_entry (s : Fin 2) (j : Fin 1024) :
    (show EReal from V m c main_v7 (ix3 s 0 j)) = if s.val = 0 then A5 m c (ix1 j) else A6 m c (ix1 j) := by
  entry_read
  fin_cases s <;> pointwise [A5, A6] <;> rfl

theorem w_entry (k : Fin 1024) (j : Fin 2048) : (show EReal from V m c main_v9 (ix2 k j)) = A7 m c (ix2 k j) := by
  entry_read
  pointwise [A7]

/-- The blocks of point `t`: three of latent rows, the context rows, and the other arrays whole. -/
theorem x0_blk (t : Fin cfg0.N) (l : Fin 256) (n : Fin 2048) (h : n.val = t.val * 768 + l.val) (k : Fin 1024) :
    (iblk m c 0 t : FVec Ideal S256x1024 .f32) (ix2 l k) = A0 m c (ix2 n k) := by
  blk_ext [iblk, V, idx t]

theorem x1_blk (t : Fin cfg0.N) (hN : t.val < 3) (l : Fin 256) (n : Fin 2048) (h : n.val = t.val * 768 + 256 + l.val) (k : Fin 1024) :
    (iblk m c 1 t : FVec Ideal S256x1024 .f32) (ix2 l k) = A0 m c (ix2 n k) := by
  blk_ext [iblk, V, idx t]

theorem x2_blk (t : Fin cfg0.N) (hN : t.val < 2) (l : Fin 256) (n : Fin 2048) (h : n.val = t.val * 768 + 512 + l.val) (k : Fin 1024) :
    (iblk m c 2 t : FVec Ideal S256x1024 .f32) (ix2 l k) = A0 m c (ix2 n k) := by
  blk_ext [iblk, V, idx t]

theorem c_blk (t : Fin cfg0.N) (l : Fin 256) (k : Fin 1024) : (iblk m c 3 t : FVec Ideal S256x1024 .f32) (ix2 l k) = A1 m c (ix2 l k) := by
  blk_ext [iblk, V, idx t]

theorem g_blk (t : Fin cfg0.N) (j : Fin 1024) : (iblk m c 4 t : FVec Ideal S1x1024 .f32) (ix2 0 j) = A2 m c (ix1 j) := by
  rw [← g_entry]
  blk_ext [iblk, V, idx t]

theorem s_blk (t : Fin cfg0.N) (n : Fin 2304) (j : Fin 1024) :
    (if 2048 ≤ n.val then (View.ld (iblk m c 5 t : FVec Ideal S2x1x1024 .f32) (Rect.unit ![1, 0, 0] ![1, 1, 1024] inb_S2x1x1024_S1x1x1024_1_0_0) : FVec Ideal S1x1x1024 .f32) (ix3 0 0 j)
      else (View.ld (iblk m c 5 t : FVec Ideal S2x1x1024 .f32) (Rect.unit ![0, 0, 0] ![1, 1, 1024] inb_S2x1x1024_S1x1x1024_0_0_0) : FVec Ideal S1x1x1024 .f32) (ix3 0 0 j))
      = pick n (A3 m c) (A4 m c) j := by
  refine if_congr Iff.rfl ?_ ?_
  · refine Eq.trans ?_ (s_entry m c 1 j)
    pointwise [A4]
    blk_ext [iblk, V, idx t]
  · refine Eq.trans ?_ (s_entry m c 0 j)
    pointwise [A3]
    blk_ext [iblk, V, idx t]

theorem b_blk (t : Fin cfg0.N) (n : Fin 2304) (j : Fin 1024) :
    (if 2048 ≤ n.val then (View.ld (iblk m c 6 t : FVec Ideal S2x1x1024 .f32) (Rect.unit ![1, 0, 0] ![1, 1, 1024] inb_S2x1x1024_S1x1x1024_1_0_0) : FVec Ideal S1x1x1024 .f32) (ix3 0 0 j)
      else (View.ld (iblk m c 6 t : FVec Ideal S2x1x1024 .f32) (Rect.unit ![0, 0, 0] ![1, 1, 1024] inb_S2x1x1024_S1x1x1024_0_0_0) : FVec Ideal S1x1x1024 .f32) (ix3 0 0 j))
      = pick n (A5 m c) (A6 m c) j := by
  refine if_congr Iff.rfl ?_ ?_
  · refine Eq.trans ?_ (b_entry m c 1 j)
    pointwise [A6]
    blk_ext [iblk, V, idx t]
  · refine Eq.trans ?_ (b_entry m c 0 j)
    pointwise [A5]
    blk_ext [iblk, V, idx t]

theorem w_blk (t : Fin cfg0.N) (k : Fin 1024) (j : Fin 2048) : (iblk m c 7 t : FVec Ideal S1024x2048 .bf16) (ix2 k j) = A7 m c (ix2 k j) := by
  rw [← w_entry]
  blk_ext [iblk, V, idx t]

/-- A tile's joined rows, from the blocks of point `t`. -/
abbrev rows (t : Fin cfg0.N) : FVec Ideal S768x1024 .f32 :=
  k0_pay2 (F := Ideal) (BitVec.ofNat 32 (grid0.coords t 0).val) (iblk m c 3 t) (iblk m c 0 t) (iblk m c 3 t) (iblk m c 1 t) (iblk m c 3 t)
    (iblk m c 2 t)

/-- A tile's reciprocal roots, from the blocks of point `t`. -/
abbrev roots (t : Fin cfg0.N) : FVec Ideal S768x1 .f32 :=
  k0_pay3 (F := Ideal) (BitVec.ofNat 32 (grid0.coords t 0).val) (iblk m c 3 t) (iblk m c 0 t) (iblk m c 3 t) (iblk m c 1 t) (iblk m c 3 t)
    (iblk m c 2 t)

/-- A tile's modulated rows, from the blocks of point `t`. -/
abbrev tile (t : Fin cfg0.N) : FVec Ideal S768x1024 .bf16 :=
  k0_pay5 (F := Ideal) (rows m c t) (roots m c t) (k0_pay4 (BitVec.ofNat 32 (grid0.coords t 0).val)) (iblk m c 4 t)
    (View.ld (iblk m c 5 t : FVec Ideal S2x1x1024 .f32) (Rect.unit ![1, 0, 0] ![1, 1, 1024] inb_S2x1x1024_S1x1x1024_1_0_0))
    (View.ld (iblk m c 5 t : FVec Ideal S2x1x1024 .f32) (Rect.unit ![0, 0, 0] ![1, 1, 1024] inb_S2x1x1024_S1x1x1024_0_0_0))
    (View.ld (iblk m c 6 t : FVec Ideal S2x1x1024 .f32) (Rect.unit ![1, 0, 0] ![1, 1, 1024] inb_S2x1x1024_S1x1x1024_1_0_0))
    (View.ld (iblk m c 6 t : FVec Ideal S2x1x1024 .f32) (Rect.unit ![0, 0, 0] ![1, 1, 1024] inb_S2x1x1024_S1x1x1024_0_0_0))

/-- A tile's joined row is that row of the two segments. -/
theorem row_tile (t : Fin cfg0.N) (i : Fin 768) (n : Fin 2304) (h : n.val = t.val * 768 + i.val) (k : Fin 1024) :
    rows m c t (ix2 i k) = xR (A0 m c) (A1 m c) n k := by
  have hN : t.val < 3 := lt_of_lt_of_eq t.isLt N_0
  rw [rows, (idx t).2.2.2.2.2.2.2.2.2.2.2.2]
  pointwise [k0_pay2]
  by_cases h0 : i.val < 256
  · rw [dif_pos h0]
    exact piece _ _ n k t.val 0 hN (by decide) _ _ ⟨i.val, h0⟩ (by simp only; omega) (c_blk m c t _ k)
      fun hn => x0_blk m c t _ ⟨n.val, hn⟩ (by simp only; omega) k
  · rw [dif_neg h0]
    by_cases h1 : i.val - 256 < 256
    · rw [dif_pos h1]
      exact piece _ _ n k t.val 1 hN (by decide) _ _ ⟨i.val - 256, h1⟩ (by simp only; omega) (c_blk m c t _ k)
        fun hn => x1_blk m c t hN _ ⟨n.val, hn⟩ (by simp only; omega) k
    · rw [dif_neg h1]
      exact piece _ _ n k t.val 2 hN (by decide) _ _ ⟨i.val - 256 - 256, by omega⟩ (by simp only; omega) (c_blk m c t _ k)
        fun hn => x2_blk m c t (by omega) _ ⟨n.val, hn⟩ (by simp only; omega) k

/-- A tile's modulated row is the reference's row. -/
theorem h_tile (t : Fin cfg0.N) (i : Fin 768) (n : Fin 2304) (h : n.val = t.val * 768 + i.val) (j : Fin 1024) :
    tile m c t (ix2 i j) = val_main_v43 (F := Ideal) (A0 m c) (A1 m c) (A2 m c) (A3 m c) (A4 m c) (A5 m c) (A6 m c) (ix2 n j) := by
  have hN : t.val < 3 := lt_of_lt_of_eq t.isLt N_0
  rw [tile, congrArg (fun q => k0_pay4 (BitVec.ofNat 32 q)) (idx t).2.2.2.2.2.2.2.2.2.2.2.2,
    pay5_at t.val hN _ _ _ _ _ _ _ i j (pay3_at _ _ _ _ _ _ _ i), v43_at, ← h, funext (row_tile m c t i n h), funext (g_blk m c t),
    funext (s_blk m c t n), funext (b_blk m c t n)]

/-- The joined rows after the run. -/
theorem xc_final : (dats m 0 c).arrAt 8 cfg0.N = val_main_v42 (F := Ideal) (A0 m c) (A1 m c) := by
  refine (dats m 0 c).arrAt_eq_of_covers 8 _ (by decide +kernel) fun t _ y => ?_
  have hN : t.val < 3 := lt_of_lt_of_eq t.isLt N_0
  blk_simp
  rw [after0_8]
  dsimp only [outsAt0]
  frame_out
  idx_vars y
  refine (row_tile m c t y0 ⟨t.val * 768 + y0.val, by omega⟩ rfl y1).trans ?_
  rw [← v42_at]
  blk_ext [iblk, V, idx t]

/-- The modulated rows after the run. -/
theorem h_final : (dats m 0 c).arrAt 9 cfg0.N
    = val_main_v44 (F := Ideal) (A0 m c) (A1 m c) (A2 m c) (A3 m c) (A4 m c) (A5 m c) (A6 m c) := by
  refine (dats m 0 c).arrAt_eq_of_covers 9 _ (by decide +kernel) fun t _ y => ?_
  have hN : t.val < 3 := lt_of_lt_of_eq t.isLt N_0
  blk_simp
  rw [after0_9]
  dsimp only [outsAt0]
  frame_out
  idx_vars y
  refine (h_tile m c t y0 ⟨t.val * 768 + y0.val, by omega⟩ rfl y1).trans ?_
  pointwise [val_main_v44]
  blk_ext [iblk, V, idx t]

/-- The reciprocal roots after the run. -/
theorem r_final : (dats m 0 c).arrAt 10 cfg0.N = val_main_v45 (F := Ideal) (A0 m c) (A1 m c) := by
  refine (dats m 0 c).arrAt_eq_of_covers 10 _ (by decide +kernel) fun t _ y => ?_
  have hN : t.val < 3 := lt_of_lt_of_eq t.isLt N_0
  blk_simp
  rw [after0_10]
  dsimp only [outsAt0]
  frame_out
  idx_vars y
  obtain rfl : y1 = 0 := Subsingleton.elim _ _
  rw [pay3_at, funext (row_tile m c t y0 ⟨t.val * 768 + y0.val, by omega⟩ rfl), ← v45_at]
  blk_ext [iblk, V, idx t]

/-- The product after the run. -/
theorem p_final : (dats m 0 c).arrAt 11 cfg0.N
    = val_main_v49 (F := Ideal) (A0 m c) (A1 m c) (A2 m c) (A3 m c) (A4 m c) (A5 m c) (A6 m c) (A7 m c) := by
  refine (dats m 0 c).arrAt_eq_of_covers 11 _ (by decide +kernel) fun t _ y => ?_
  have hN : t.val < 3 := lt_of_lt_of_eq t.isLt N_0
  blk_simp
  rw [after0_11]
  dsimp only [outsAt0]
  frame_out
  idx_vars y
  rw [pay1_at]
  refine Eq.trans (b := val_main_v49 (F := Ideal) (A0 m c) (A1 m c) (A2 m c) (A3 m c) (A4 m c) (A5 m c) (A6 m c) (A7 m c)
    (ix2 ⟨t.val * 768 + y0.val, by omega⟩ y1)) ?_ ?_
  · rw [v49_at]
    exact Finset.sum_congr rfl fun k _ => Ideal.mul_congr (h_tile m c t y0 _ rfl k) (w_blk m c t k y1)
  · blk_ext [iblk, V, idx t]

end

end Cert.NormFP0KIdeal.Hand

end
end
-- ==== Proof.NormFP0Claim.lean ====
/-
  The norm with the input product (two segments, the rows joined by the call): the call's results are the plain forward lines'.
-/
module

public import proofs.«01_k».proof.Defs
public import proofs.«01_k».proof.Proof.NormFP0
public import Idealize.ShloMosaic.Lib.Claim
public import Idealize.ShloMosaic.Lib.Quiescent

@[expose] public section

set_option maxRecDepth 16384

namespace Cert.Proof

open Idealize.ShloMosaic Idealize.ShloMosaic.TcCoe Idealize.SL.Sem

/-- The reference runs and leaves its arguments. -/
theorem normfp0_reference_frame : Cert.quiescent_NormFP0RIdeal := by
  intro m g _
  exact (θ_run _ _ _).mono (fun r h => ⟨fun c => (h c).2.2.2.2, sem_eq_zero_of_no_sems rfl _⟩)
    (Cert.NormFP0RIdeal.Value.run m g)

set_option maxHeartbeats 1000000 in
/-- The call's four arrays are the reference's. -/
theorem normfp0_value : Cert.algebraic_NormFP0KIdeal_NormFP0RIdeal := by
  pair_intro
  · run_from Cert.NormFP0KIdeal.Gen.run_main m g
  · refine (θ_run _ _ _).mono (fun r h c => ?_) (Cert.NormFP0RIdeal.Value.run m' g')
    obtain ⟨e0, e1, e2, e3, e4, e5, e6, e7⟩ := hagree c
    obtain ⟨h0, h1, h2, h3, ha⟩ := h c
    refine ⟨h0.trans (Eq.trans ?_ (Cert.NormFP0KIdeal.Hand.xc_final m c).symm),
      h1.trans (Eq.trans ?_ (Cert.NormFP0KIdeal.Hand.h_final m c).symm),
      h2.trans (Eq.trans ?_ (Cert.NormFP0KIdeal.Hand.r_final m c).symm),
      h3.trans (Eq.trans ?_ (Cert.NormFP0KIdeal.Hand.p_final m c).symm), ha⟩
    · rw [e0, e1]
      rfl
    · rw [e0, e1, e2, e3, e4, e5, e6]
      rfl
    · rw [e0, e1]
      rfl
    · rw [e0, e1, e2, e3, e4, e5, e6, e7]
      rfl

end Cert.Proof

end
-- ==== Proof.lean ====
/-
  The proof of `Cert.Claim`: for each call the frames of its programs, its idealization, and the equation
  between the kernel's results and the plain forward lines, or their derivative for a backward call.
-/
module

public import proofs.«01_k».proof.Defs
public import proofs.«01_k».proof.Proof.GateClaim
public import proofs.«01_k».proof.Proof.Gen.GateK.Frame
public import proofs.«01_k».proof.Proof.Gen.GateKIdeal.Value
public import proofs.«01_k».proof.Proof.Gen.GateRIdeal.Read
public import proofs.«01_k».proof.Proof.Gate2Claim
public import proofs.«01_k».proof.Proof.Gen.Gate2K.Frame
public import proofs.«01_k».proof.Proof.Gen.Gate2KIdeal.Value
public import proofs.«01_k».proof.Proof.Gen.Gate2RIdeal.Read
public import proofs.«01_k».proof.Proof.Norm4Claim
public import proofs.«01_k».proof.Proof.Gen.Norm4K.Frame
public import proofs.«01_k».proof.Proof.Gen.Norm4RIdeal.Read
public import proofs.«01_k».proof.Proof.Norm2Claim
public import proofs.«01_k».proof.Proof.Gen.Norm2K.Frame
public import proofs.«01_k».proof.Proof.Gen.Norm2RIdeal.Read
public import proofs.«01_k».proof.Proof.NormNaClaim
public import proofs.«01_k».proof.Proof.Gen.NormNaK.Frame
public import proofs.«01_k».proof.Proof.Gen.NormNaRIdeal.Read
public import proofs.«01_k».proof.Proof.NormP0Claim
public import proofs.«01_k».proof.Proof.Gen.NormP0K.Frame
public import proofs.«01_k».proof.Proof.Gen.NormP0RIdeal.Read
public import proofs.«01_k».proof.Proof.ConvClaim
public import proofs.«01_k».proof.Proof.Gen.ConvK.Frame
public import proofs.«01_k».proof.Proof.Gen.ConvKIdeal.Value
public import proofs.«01_k».proof.Proof.Gen.ConvRIdeal.Read
public import proofs.«01_k».proof.Proof.LossClaim
public import proofs.«01_k».proof.Proof.Gen.LossK.Frame
public import proofs.«01_k».proof.Proof.Gen.LossKIdeal.Value
public import proofs.«01_k».proof.Proof.Gen.LossRIdeal.Read
public import proofs.«01_k».proof.Proof.PoolClaim
public import proofs.«01_k».proof.Proof.Gen.PoolK.Frame
public import proofs.«01_k».proof.Proof.Gen.PoolKIdeal.Frame
public import proofs.«01_k».proof.Proof.Gen.PoolRIdeal.Read
public import proofs.«01_k».proof.Proof.PoolP0Claim
public import proofs.«01_k».proof.Proof.Gen.PoolP0K.Frame
public import proofs.«01_k».proof.Proof.Gen.PoolP0KIdeal.Frame
public import proofs.«01_k».proof.Proof.Gen.PoolP0RIdeal.Read
public import proofs.«01_k».proof.Proof.ConvFClaim
public import proofs.«01_k».proof.Proof.Gen.ConvFK.Frame
public import proofs.«01_k».proof.Proof.Gen.ConvFKIdeal.Value
public import proofs.«01_k».proof.Proof.Gen.ConvFRIdeal.Read
public import proofs.«01_k».proof.Proof.ResidClaim
public import proofs.«01_k».proof.Proof.Gen.ResidK.Frame
public import proofs.«01_k».proof.Proof.Gen.ResidKIdeal.Value
public import proofs.«01_k».proof.Proof.Gen.ResidRIdeal.Read
public import proofs.«01_k».proof.Proof.Resid2Claim
public import proofs.«01_k».proof.Proof.Gen.Resid2K.Frame
public import proofs.«01_k».proof.Proof.Gen.Resid2KIdeal.Value
public import proofs.«01_k».proof.Proof.Gen.Resid2RIdeal.Read
public import proofs.«01_k».proof.Proof.NormFClaim
public import proofs.«01_k».proof.Proof.Gen.NormFK.Frame
public import proofs.«01_k».proof.Proof.Gen.NormFKIdeal.Value
public import proofs.«01_k».proof.Proof.Gen.NormFRIdeal.Read
public import proofs.«01_k».proof.Proof.NormFNaClaim
public import proofs.«01_k».proof.Proof.Gen.NormFNaK.Frame
public import proofs.«01_k».proof.Proof.Gen.NormFNaKIdeal.Value
public import proofs.«01_k».proof.Proof.Gen.NormFNaRIdeal.Read
public import proofs.«01_k».proof.Proof.NormFP0Claim
public import proofs.«01_k».proof.Proof.Gen.NormFP0K.Frame
public import proofs.«01_k».proof.Proof.Gen.NormFP0KIdeal.Value
public import proofs.«01_k».proof.Proof.Gen.NormFP0RIdeal.Read

@[expose] public section

set_option maxRecDepth 16384

namespace Cert.Proof

open Idealize.ShloMosaic Idealize.ShloMosaic.TcCoe Idealize.SL.Sem

/-- Every claim: the shape facts, the frames, then each idealization with its value. -/
theorem claim : Cert.Claim :=
  ⟨Cert.GateK.Gen.facts,
    Cert.GateKIdeal.Gen.facts,
    Cert.GateRIdeal.Gen.facts,
    Cert.Gate2K.Gen.facts,
    Cert.Gate2KIdeal.Gen.facts,
    Cert.Gate2RIdeal.Gen.facts,
    Cert.Norm4K.Gen.facts,
    Cert.Norm4KIdeal.Gen.facts,
    Cert.Norm4RIdeal.Gen.facts,
    Cert.Norm2K.Gen.facts,
    Cert.Norm2KIdeal.Gen.facts,
    Cert.Norm2RIdeal.Gen.facts,
    Cert.NormNaK.Gen.facts,
    Cert.NormNaKIdeal.Gen.facts,
    Cert.NormNaRIdeal.Gen.facts,
    Cert.NormP0K.Gen.facts,
    Cert.NormP0KIdeal.Gen.facts,
    Cert.NormP0RIdeal.Gen.facts,
    Cert.ConvK.Gen.facts,
    Cert.ConvKIdeal.Gen.facts,
    Cert.ConvRIdeal.Gen.facts,
    Cert.LossK.Gen.facts,
    Cert.LossKIdeal.Gen.facts,
    Cert.LossRIdeal.Gen.facts,
    Cert.PoolK.Gen.facts,
    Cert.PoolKIdeal.Gen.facts,
    Cert.PoolRIdeal.Gen.facts,
    Cert.PoolP0K.Gen.facts,
    Cert.PoolP0KIdeal.Gen.facts,
    Cert.PoolP0RIdeal.Gen.facts,
    Cert.ConvFK.Gen.facts,
    Cert.ConvFKIdeal.Gen.facts,
    Cert.ConvFRIdeal.Gen.facts,
    Cert.ResidK.Gen.facts,
    Cert.ResidKIdeal.Gen.facts,
    Cert.ResidRIdeal.Gen.facts,
    Cert.Resid2K.Gen.facts,
    Cert.Resid2KIdeal.Gen.facts,
    Cert.Resid2RIdeal.Gen.facts,
    Cert.NormFK.Gen.facts,
    Cert.NormFKIdeal.Gen.facts,
    Cert.NormFRIdeal.Gen.facts,
    Cert.NormFNaK.Gen.facts,
    Cert.NormFNaKIdeal.Gen.facts,
    Cert.NormFNaRIdeal.Gen.facts,
    Cert.NormFP0K.Gen.facts,
    Cert.NormFP0KIdeal.Gen.facts,
    Cert.NormFP0RIdeal.Gen.facts,
    norm4_pre_facts,
    norm2_pre_facts,
    normna_pre_facts,
    normp0_pre_facts,
    conv_pre_facts,
    loss_pre_facts,
    pool_pre_facts,
    poolp0_pre_facts,
    fun m ρ _ => Cert.GateK.Gen.frame m ρ,
    fun m ρ _ => Cert.GateKIdeal.Gen.frame m ρ,
    gate_reference_frame,
    fun m ρ _ => Cert.Gate2K.Gen.frame m ρ,
    fun m ρ _ => Cert.Gate2KIdeal.Gen.frame m ρ,
    gate2_reference_frame,
    fun m ρ _ => Cert.Norm4K.Gen.frame m ρ,
    fun m ρ _ => Cert.Norm4KIdeal.Gen.frame m ρ,
    fun m ρ _ => Cert.Norm4KIdeal.Gen.frame m ρ,
    norm4_reference_frame,
    fun m ρ _ => norm4_reference_frame m ρ trivial,
    fun m ρ _ => Cert.Norm2K.Gen.frame m ρ,
    fun m ρ _ => Cert.Norm2KIdeal.Gen.frame m ρ,
    fun m ρ _ => Cert.Norm2KIdeal.Gen.frame m ρ,
    norm2_reference_frame,
    fun m ρ _ => norm2_reference_frame m ρ trivial,
    fun m ρ _ => Cert.NormNaK.Gen.frame m ρ,
    fun m ρ _ => Cert.NormNaKIdeal.Gen.frame m ρ,
    fun m ρ _ => Cert.NormNaKIdeal.Gen.frame m ρ,
    normna_reference_frame,
    fun m ρ _ => normna_reference_frame m ρ trivial,
    fun m ρ _ => Cert.NormP0K.Gen.frame m ρ,
    fun m ρ _ => Cert.NormP0KIdeal.Gen.frame m ρ,
    fun m ρ _ => Cert.NormP0KIdeal.Gen.frame m ρ,
    normp0_reference_frame,
    fun m ρ _ => normp0_reference_frame m ρ trivial,
    fun m ρ _ => Cert.ConvK.Gen.frame m ρ,
    fun m ρ _ => Cert.ConvKIdeal.Gen.frame m ρ,
    fun m ρ _ => Cert.ConvKIdeal.Gen.frame m ρ,
    conv_reference_frame,
    fun m ρ _ => conv_reference_frame m ρ trivial,
    fun m ρ _ => Cert.LossK.Gen.frame m ρ,
    fun m ρ _ => Cert.LossKIdeal.Gen.frame m ρ,
    fun m ρ _ => Cert.LossKIdeal.Gen.frame m ρ,
    loss_reference_frame,
    fun m ρ _ => loss_reference_frame m ρ trivial,
    fun m ρ _ => Cert.PoolK.Gen.frame m ρ,
    fun m ρ _ => Cert.PoolKIdeal.Gen.frame m ρ,
    fun m ρ _ => Cert.PoolKIdeal.Gen.frame m ρ,
    pool_reference_frame,
    fun m ρ _ => pool_reference_frame m ρ trivial,
    fun m ρ _ => Cert.PoolP0K.Gen.frame m ρ,
    fun m ρ _ => Cert.PoolP0KIdeal.Gen.frame m ρ,
    fun m ρ _ => Cert.PoolP0KIdeal.Gen.frame m ρ,
    poolp0_reference_frame,
    fun m ρ _ => poolp0_reference_frame m ρ trivial,
    fun m ρ _ => Cert.ConvFK.Gen.frame m ρ,
    fun m ρ _ => Cert.ConvFKIdeal.Gen.frame m ρ,
    convf_reference_frame,
    fun m ρ _ => Cert.ResidK.Gen.frame m ρ,
    fun m ρ _ => Cert.ResidKIdeal.Gen.frame m ρ,
    resid_reference_frame,
    fun m ρ _ => Cert.Resid2K.Gen.frame m ρ,
    fun m ρ _ => Cert.Resid2KIdeal.Gen.frame m ρ,
    resid2_reference_frame,
    fun m ρ _ => Cert.NormFK.Gen.frame m ρ,
    fun m ρ _ => Cert.NormFKIdeal.Gen.frame m ρ,
    normf_reference_frame,
    fun m ρ _ => Cert.NormFNaK.Gen.frame m ρ,
    fun m ρ _ => Cert.NormFNaKIdeal.Gen.frame m ρ,
    normfna_reference_frame,
    fun m ρ _ => Cert.NormFP0K.Gen.frame m ρ,
    fun m ρ _ => Cert.NormFP0KIdeal.Gen.frame m ρ,
    normfp0_reference_frame,
    trivial,
    gate_value,
    trivial,
    gate2_value,
    trivial,
    @norm4_value norm4_pre_facts,
    trivial,
    @norm2_value norm2_pre_facts,
    trivial,
    @normna_value normna_pre_facts,
    trivial,
    @normp0_value normp0_pre_facts,
    trivial,
    @conv_value conv_pre_facts,
    trivial,
    @loss_value loss_pre_facts,
    trivial,
    @pool_value pool_pre_facts,
    trivial,
    @poolp0_value poolp0_pre_facts,
    trivial,
    convf_value,
    trivial,
    resid_value,
    trivial,
    resid2_value,
    trivial,
    normf_value,
    trivial,
    normfna_value,
    trivial,
    normfp0_value⟩

end Cert.Proof

end
